-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_are_real [hPre_inputs_are_real : Cert.Pre_inputs_are_real.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_inputs_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_inputs_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_inputs_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_inputs_are_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_are_real [hPre_inputs_are_real : Cert.Pre_inputs_are_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_inputs_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_inputs_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_inputs_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_inputs_are_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2 = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Gw (m : (ℓ : Loc Cert.Gw.nD Cert.Gw.τ Cert.Gw.sig) → Buf (Elt Bits) ℓ) : Prop :=
  True

def Pre_GwIdeal (m : (ℓ : Loc Cert.GwIdeal.nD Cert.GwIdeal.τ Cert.GwIdeal.sig) → Buf (Elt Ideal) ℓ) : Prop :=
  True

def Pre_GwRefIdeal (m : (ℓ : Loc Cert.GwRefIdeal.nD Cert.GwRefIdeal.τ Cert.GwRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Mb (m : (ℓ : Loc Cert.Mb.nD Cert.Mb.τ Cert.Mb.sig) → Buf (Elt Bits) ℓ) : Prop :=
  True

def Pre_MbIdeal (m : (ℓ : Loc Cert.MbIdeal.nD Cert.MbIdeal.τ Cert.MbIdeal.sig) → Buf (Elt Ideal) ℓ) : Prop :=
  True

def Pre_MbRefIdeal (m : (ℓ : Loc Cert.MbRefIdeal.nD Cert.MbRefIdeal.τ Cert.MbRefIdeal.sig) → Buf (Elt Ideal) ℓ) : Prop :=
  True

def Pre_Pj (m : (ℓ : Loc Cert.Pj.nD Cert.Pj.τ Cert.Pj.sig) → Buf (Elt Bits) ℓ) : Prop :=
  True

def Pre_PjIdeal (m : (ℓ : Loc Cert.PjIdeal.nD Cert.PjIdeal.τ Cert.PjIdeal.sig) → Buf (Elt Ideal) ℓ) : Prop :=
  True

def Pre_PjRefIdeal (m : (ℓ : Loc Cert.PjRefIdeal.nD Cert.PjRefIdeal.τ Cert.PjRefIdeal.sig) → Buf (Elt Ideal) ℓ) : Prop :=
  True

def Pre_Mg (m : (ℓ : Loc Cert.Mg.nD Cert.Mg.τ Cert.Mg.sig) → Buf (Elt Bits) ℓ) : Prop :=
  True

def Pre_MgIdeal (m : (ℓ : Loc Cert.MgIdeal.nD Cert.MgIdeal.τ Cert.MgIdeal.sig) → Buf (Elt Ideal) ℓ) : Prop :=
  True

def Pre_MgRefIdeal (m : (ℓ : Loc Cert.MgRefIdeal.nD Cert.MgRefIdeal.τ Cert.MgRefIdeal.sig) → Buf (Elt Ideal) ℓ) : Prop :=
  True

def Pre_Op (m : (ℓ : Loc Cert.Op.nD Cert.Op.τ Cert.Op.sig) → Buf (Elt Bits) ℓ) : Prop :=
  True

def Pre_OpIdeal (m : (ℓ : Loc Cert.OpIdeal.nD Cert.OpIdeal.τ Cert.OpIdeal.sig) → Buf (Elt Ideal) ℓ) : Prop :=
  True

def Pre_OpRefIdeal (m : (ℓ : Loc Cert.OpRefIdeal.nD Cert.OpRefIdeal.τ Cert.OpRefIdeal.sig) → Buf (Elt Ideal) ℓ) : Prop :=
  True

def Pre_Go (m : (ℓ : Loc Cert.Go.nD Cert.Go.τ Cert.Go.sig) → Buf (Elt Bits) ℓ) : Prop :=
  True

def Pre_GoIdeal (m : (ℓ : Loc Cert.GoIdeal.nD Cert.GoIdeal.τ Cert.GoIdeal.sig) → Buf (Elt Ideal) ℓ) : Prop :=
  True

def Pre_GoRefIdeal (m : (ℓ : Loc Cert.GoRefIdeal.nD Cert.GoRefIdeal.τ Cert.GoRefIdeal.sig) → Buf (Elt Ideal) ℓ) : Prop :=
  True

def Pre_Pb (m : (ℓ : Loc Cert.Pb.nD Cert.Pb.τ Cert.Pb.sig) → Buf (Elt Bits) ℓ) : Prop :=
  True

def Pre_PbIdeal (m : (ℓ : Loc Cert.PbIdeal.nD Cert.PbIdeal.τ Cert.PbIdeal.sig) → Buf (Elt Ideal) ℓ) : Prop :=
  True

def Pre_PbRefIdeal (m : (ℓ : Loc Cert.PbRefIdeal.nD Cert.PbRefIdeal.τ Cert.PbRefIdeal.sig) → Buf (Elt Ideal) ℓ) : Prop :=
  True

def Pre_Nb (m : (ℓ : Loc Cert.Nb.nD Cert.Nb.τ Cert.Nb.sig) → Buf (Elt Bits) ℓ) : Prop :=
  True

def Pre_NbIdeal (m : (ℓ : Loc Cert.NbIdeal.nD Cert.NbIdeal.τ Cert.NbIdeal.sig) → Buf (Elt Ideal) ℓ) : Prop :=
  True

def Pre_NbRefIdeal (m : (ℓ : Loc Cert.NbRefIdeal.nD Cert.NbRefIdeal.τ Cert.NbRefIdeal.sig) → Buf (Elt Ideal) ℓ) : Prop :=
  True

def Pre_Wa (m : (ℓ : Loc Cert.Wa.nD Cert.Wa.τ Cert.Wa.sig) → Buf (Elt Bits) ℓ) : Prop :=
  True

def Pre_WaIdeal (m : (ℓ : Loc Cert.WaIdeal.nD Cert.WaIdeal.τ Cert.WaIdeal.sig) → Buf (Elt Ideal) ℓ) : Prop :=
  True

def Pre_WaRefIdeal (m : (ℓ : Loc Cert.WaRefIdeal.nD Cert.WaRefIdeal.τ Cert.WaRefIdeal.sig) → Buf (Elt Ideal) ℓ) : Prop :=
  True

def Pre_Mp (m : (ℓ : Loc Cert.Mp.nD Cert.Mp.τ Cert.Mp.sig) → Buf (Elt Bits) ℓ) : Prop :=
  True

def Pre_MpIdeal (m : (ℓ : Loc Cert.MpIdeal.nD Cert.MpIdeal.τ Cert.MpIdeal.sig) → Buf (Elt Ideal) ℓ) : Prop :=
  True

def Pre_MpRefIdeal (m : (ℓ : Loc Cert.MpRefIdeal.nD Cert.MpRefIdeal.τ Cert.MpRefIdeal.sig) → Buf (Elt Ideal) ℓ) : Prop :=
  True

def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbIdeal_bounds_are_real [hPre_bounds_are_real : Cert.Pre_bounds_are_real.Facts] (m : (ℓ : Loc Cert.LbIdeal.nD Cert.LbIdeal.τ Cert.LbIdeal.sig) → Buf (Elt Ideal) ℓ) : Prop :=
  ∀ c : Dev Cert.LbIdeal.nD,
    (Cert.Pre_bounds_are_real.fn (F := Ideal) (m ((c.tc : Thread Cert.LbIdeal.nD Cert.LbIdeal.τ).loc Cert.LbIdeal.main_arg0))) = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_bounds_are_real [hPre_bounds_are_real : Cert.Pre_bounds_are_real.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_bounds_are_real.fn (F := Ideal) (m ((c.tc : Thread Cert.LbRefIdeal.nD Cert.LbRefIdeal.τ).loc Cert.LbRefIdeal.main_arg0))) = (fun _ => 1#1)

def Pre_Nf (m : (ℓ : Loc Cert.Nf.nD Cert.Nf.τ Cert.Nf.sig) → Buf (Elt Bits) ℓ) : Prop :=
  True

def Pre_NfIdeal (m : (ℓ : Loc Cert.NfIdeal.nD Cert.NfIdeal.τ Cert.NfIdeal.sig) → Buf (Elt Ideal) ℓ) : Prop :=
  True

def Pre_NfRefIdeal (m : (ℓ : Loc Cert.NfRefIdeal.nD Cert.NfRefIdeal.τ Cert.NfRefIdeal.sig) → Buf (Elt Ideal) ℓ) : Prop :=
  True

def Pre_Pf (m : (ℓ : Loc Cert.Pf.nD Cert.Pf.τ Cert.Pf.sig) → Buf (Elt Bits) ℓ) : Prop :=
  True

def Pre_PfIdeal (m : (ℓ : Loc Cert.PfIdeal.nD Cert.PfIdeal.τ Cert.PfIdeal.sig) → Buf (Elt Ideal) ℓ) : Prop :=
  True

def Pre_PfRefIdeal (m : (ℓ : Loc Cert.PfRefIdeal.nD Cert.PfRefIdeal.τ Cert.PfRefIdeal.sig) → Buf (Elt Ideal) ℓ) : Prop :=
  True

def Pre_Lo (m : (ℓ : Loc Cert.Lo.nD Cert.Lo.τ Cert.Lo.sig) → Buf (Elt Bits) ℓ) : Prop :=
  True

def Pre_LoIdeal (m : (ℓ : Loc Cert.LoIdeal.nD Cert.LoIdeal.τ Cert.LoIdeal.sig) → Buf (Elt Ideal) ℓ) : Prop :=
  True

def Pre_LoRefIdeal (m : (ℓ : Loc Cert.LoRefIdeal.nD Cert.LoRefIdeal.τ Cert.LoRefIdeal.sig) → Buf (Elt Ideal) ℓ) : Prop :=
  True

def Pre_Ai (m : (ℓ : Loc Cert.Ai.nD Cert.Ai.τ Cert.Ai.sig) → Buf (Elt Bits) ℓ) : Prop :=
  True

def Pre_AiIdeal (m : (ℓ : Loc Cert.AiIdeal.nD Cert.AiIdeal.τ Cert.AiIdeal.sig) → Buf (Elt Ideal) ℓ) : Prop :=
  True

def Pre_AiRefIdeal (m : (ℓ : Loc Cert.AiRefIdeal.nD Cert.AiRefIdeal.τ Cert.AiRefIdeal.sig) → Buf (Elt Ideal) ℓ) : Prop :=
  True

def Pre_Ap (m : (ℓ : Loc Cert.Ap.nD Cert.Ap.τ Cert.Ap.sig) → Buf (Elt Bits) ℓ) : Prop :=
  True

def Pre_ApIdeal (m : (ℓ : Loc Cert.ApIdeal.nD Cert.ApIdeal.τ Cert.ApIdeal.sig) → Buf (Elt Ideal) ℓ) : Prop :=
  True

def Pre_ApRefIdeal (m : (ℓ : Loc Cert.ApRefIdeal.nD Cert.ApRefIdeal.τ Cert.ApRefIdeal.sig) → Buf (Elt Ideal) ℓ) : Prop :=
  True

def Pre_Aq (m : (ℓ : Loc Cert.Aq.nD Cert.Aq.τ Cert.Aq.sig) → Buf (Elt Bits) ℓ) : Prop :=
  True

def Pre_AqIdeal (m : (ℓ : Loc Cert.AqIdeal.nD Cert.AqIdeal.τ Cert.AqIdeal.sig) → Buf (Elt Ideal) ℓ) : Prop :=
  True

def Pre_AqRefIdeal (m : (ℓ : Loc Cert.AqRefIdeal.nD Cert.AqRefIdeal.τ Cert.AqRefIdeal.sig) → Buf (Elt Ideal) ℓ) : Prop :=
  True

def Pre_Ao (m : (ℓ : Loc Cert.Ao.nD Cert.Ao.τ Cert.Ao.sig) → Buf (Elt Bits) ℓ) : Prop :=
  True

def Pre_AoIdeal (m : (ℓ : Loc Cert.AoIdeal.nD Cert.AoIdeal.τ Cert.AoIdeal.sig) → Buf (Elt Ideal) ℓ) : Prop :=
  True

def Pre_AoRefIdeal (m : (ℓ : Loc Cert.AoRefIdeal.nD Cert.AoRefIdeal.τ Cert.AoRefIdeal.sig) → Buf (Elt Ideal) ℓ) : Prop :=
  True

def Pre_Gi0 (m : (ℓ : Loc Cert.Gi0.nD Cert.Gi0.τ Cert.Gi0.sig) → Buf (Elt Bits) ℓ) : Prop :=
  True

def Pre_Gi0Ideal (m : (ℓ : Loc Cert.Gi0Ideal.nD Cert.Gi0Ideal.τ Cert.Gi0Ideal.sig) → Buf (Elt Ideal) ℓ) : Prop :=
  True

def Pre_Gi0RefIdeal (m : (ℓ : Loc Cert.Gi0RefIdeal.nD Cert.Gi0RefIdeal.τ Cert.Gi0RefIdeal.sig) → Buf (Elt Ideal) ℓ) : Prop :=
  True

def Pre_Gi1 (m : (ℓ : Loc Cert.Gi1.nD Cert.Gi1.τ Cert.Gi1.sig) → Buf (Elt Bits) ℓ) : Prop :=
  True

def Pre_Gi1Ideal (m : (ℓ : Loc Cert.Gi1Ideal.nD Cert.Gi1Ideal.τ Cert.Gi1Ideal.sig) → Buf (Elt Ideal) ℓ) : Prop :=
  True

def Pre_Gi1RefIdeal (m : (ℓ : Loc Cert.Gi1RefIdeal.nD Cert.Gi1RefIdeal.τ Cert.Gi1RefIdeal.sig) → Buf (Elt Ideal) ℓ) : Prop :=
  True

def Pre_Gi2 (m : (ℓ : Loc Cert.Gi2.nD Cert.Gi2.τ Cert.Gi2.sig) → Buf (Elt Bits) ℓ) : Prop :=
  True

def Pre_Gi2Ideal (m : (ℓ : Loc Cert.Gi2Ideal.nD Cert.Gi2Ideal.τ Cert.Gi2Ideal.sig) → Buf (Elt Ideal) ℓ) : Prop :=
  True

def Pre_Gi2RefIdeal (m : (ℓ : Loc Cert.Gi2RefIdeal.nD Cert.Gi2RefIdeal.τ Cert.Gi2RefIdeal.sig) → Buf (Elt Ideal) ℓ) : Prop :=
  True

def Pre_Gi3 (m : (ℓ : Loc Cert.Gi3.nD Cert.Gi3.τ Cert.Gi3.sig) → Buf (Elt Bits) ℓ) : Prop :=
  True

def Pre_Gi3Ideal (m : (ℓ : Loc Cert.Gi3Ideal.nD Cert.Gi3Ideal.τ Cert.Gi3Ideal.sig) → Buf (Elt Ideal) ℓ) : Prop :=
  True

def Pre_Gi3RefIdeal (m : (ℓ : Loc Cert.Gi3RefIdeal.nD Cert.Gi3RefIdeal.τ Cert.Gi3RefIdeal.sig) → Buf (Elt Ideal) ℓ) : Prop :=
  True

def Pre_Gi4 (m : (ℓ : Loc Cert.Gi4.nD Cert.Gi4.τ Cert.Gi4.sig) → Buf (Elt Bits) ℓ) : Prop :=
  True

def Pre_Gi4Ideal (m : (ℓ : Loc Cert.Gi4Ideal.nD Cert.Gi4Ideal.τ Cert.Gi4Ideal.sig) → Buf (Elt Ideal) ℓ) : Prop :=
  True

def Pre_Gi4RefIdeal (m : (ℓ : Loc Cert.Gi4RefIdeal.nD Cert.Gi4RefIdeal.τ Cert.Gi4RefIdeal.sig) → Buf (Elt Ideal) ℓ) : Prop :=
  True

def Pre_Gi5 (m : (ℓ : Loc Cert.Gi5.nD Cert.Gi5.τ Cert.Gi5.sig) → Buf (Elt Bits) ℓ) : Prop :=
  True

def Pre_Gi5Ideal (m : (ℓ : Loc Cert.Gi5Ideal.nD Cert.Gi5Ideal.τ Cert.Gi5Ideal.sig) → Buf (Elt Ideal) ℓ) : Prop :=
  True

def Pre_Gi5RefIdeal (m : (ℓ : Loc Cert.Gi5RefIdeal.nD Cert.Gi5RefIdeal.τ Cert.Gi5RefIdeal.sig) → Buf (Elt Ideal) ℓ) : Prop :=
  True

def Pre_Gi6 (m : (ℓ : Loc Cert.Gi6.nD Cert.Gi6.τ Cert.Gi6.sig) → Buf (Elt Bits) ℓ) : Prop :=
  True

def Pre_Gi6Ideal (m : (ℓ : Loc Cert.Gi6Ideal.nD Cert.Gi6Ideal.τ Cert.Gi6Ideal.sig) → Buf (Elt Ideal) ℓ) : Prop :=
  True

def Pre_Gi6RefIdeal (m : (ℓ : Loc Cert.Gi6RefIdeal.nD Cert.Gi6RefIdeal.τ Cert.Gi6RefIdeal.sig) → Buf (Elt Ideal) ℓ) : Prop :=
  True

def Pre_Gi7 (m : (ℓ : Loc Cert.Gi7.nD Cert.Gi7.τ Cert.Gi7.sig) → Buf (Elt Bits) ℓ) : Prop :=
  True

def Pre_Gi7Ideal (m : (ℓ : Loc Cert.Gi7Ideal.nD Cert.Gi7Ideal.τ Cert.Gi7Ideal.sig) → Buf (Elt Ideal) ℓ) : Prop :=
  True

def Pre_Gi7RefIdeal (m : (ℓ : Loc Cert.Gi7RefIdeal.nD Cert.Gi7RefIdeal.τ Cert.Gi7RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_are_real [hKernelIdeal : Cert.KernelIdeal.Facts] [hPre_inputs_are_real : Cert.Pre_inputs_are_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_are_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_are_real [hReferenceIdeal : Cert.ReferenceIdeal.Facts] [hPre_inputs_are_real : Cert.Pre_inputs_are_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_are_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7)
      ∧ r.2.mem ((c.tc : Thread Cert.Dh.nD Cert.Dh.τ).loc Cert.Dh.main_arg8) = m ((c.tc : Thread Cert.Dh.nD Cert.Dh.τ).loc Cert.Dh.main_arg8))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8))
      ∧ r.2.sem = fun _ => 0)

def quiescent_Gw [hGw : Cert.Gw.Facts] : Prop :=
  ∀ (m : (ℓ : Loc Cert.Gw.nD Cert.Gw.τ Cert.Gw.sig) → Buf (Elt Bits) ℓ) (g : Dev Cert.Gw.nD → PrngReg), Pre_Gw m →
    θ_run (Cert.Gw.defs (F := Bits)) (onTc (τ := Cert.Gw.τ) (Cert.Gw.main (F := Bits))) ⟨m, fun _ => 0, g⟩ (fun r => (∀ c : Dev Cert.Gw.nD,
      r.2.mem ((c.tc : Thread Cert.Gw.nD Cert.Gw.τ).loc Cert.Gw.main_arg0) = m ((c.tc : Thread Cert.Gw.nD Cert.Gw.τ).loc Cert.Gw.main_arg0)
      ∧ r.2.mem ((c.tc : Thread Cert.Gw.nD Cert.Gw.τ).loc Cert.Gw.main_arg1) = m ((c.tc : Thread Cert.Gw.nD Cert.Gw.τ).loc Cert.Gw.main_arg1))
      ∧ r.2.sem = fun _ => 0)

def quiescent_GwIdeal [hGwIdeal : Cert.GwIdeal.Facts] : Prop :=
  ∀ (m : (ℓ : Loc Cert.GwIdeal.nD Cert.GwIdeal.τ Cert.GwIdeal.sig) → Buf (Elt Ideal) ℓ) (g : Dev Cert.GwIdeal.nD → PrngReg), Pre_GwIdeal m →
    θ_run (Cert.GwIdeal.defs (F := Ideal)) (onTc (τ := Cert.GwIdeal.τ) (Cert.GwIdeal.main (F := Ideal))) ⟨m, fun _ => 0, g⟩ (fun r => (∀ c : Dev Cert.GwIdeal.nD,
      r.2.mem ((c.tc : Thread Cert.GwIdeal.nD Cert.GwIdeal.τ).loc Cert.GwIdeal.main_arg0) = m ((c.tc : Thread Cert.GwIdeal.nD Cert.GwIdeal.τ).loc Cert.GwIdeal.main_arg0)
      ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ r.2.sem = fun _ => 0)

def quiescent_GwRefIdeal [hGwRefIdeal : Cert.GwRefIdeal.Facts] : Prop :=
  ∀ (m : (ℓ : Loc Cert.GwRefIdeal.nD Cert.GwRefIdeal.τ Cert.GwRefIdeal.sig) → Buf (Elt Ideal) ℓ) (g : Dev Cert.GwRefIdeal.nD → PrngReg), Pre_GwRefIdeal m →
    θ_run (Cert.GwRefIdeal.defs (F := Ideal)) (onTc (τ := Cert.GwRefIdeal.τ) (Cert.GwRefIdeal.main (F := Ideal))) ⟨m, fun _ => 0, g⟩ (fun r => (∀ c : Dev Cert.GwRefIdeal.nD,
      r.2.mem ((c.tc : Thread Cert.GwRefIdeal.nD Cert.GwRefIdeal.τ).loc Cert.GwRefIdeal.main_arg0) = m ((c.tc : Thread Cert.GwRefIdeal.nD Cert.GwRefIdeal.τ).loc Cert.GwRefIdeal.main_arg0)
      ∧ r.2.mem ((c.tc : Thread Cert.GwRefIdeal.nD Cert.GwRefIdeal.τ).loc Cert.GwRefIdeal.main_arg1) = m ((c.tc : Thread Cert.GwRefIdeal.nD Cert.GwRefIdeal.τ).loc Cert.GwRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_Mb [hMb : Cert.Mb.Facts] : Prop :=
  ∀ (m : (ℓ : Loc Cert.Mb.nD Cert.Mb.τ Cert.Mb.sig) → Buf (Elt Bits) ℓ) (g : Dev Cert.Mb.nD → PrngReg), Pre_Mb m →
    θ_run (Cert.Mb.defs (F := Bits)) (onTc (τ := Cert.Mb.τ) (Cert.Mb.main (F := Bits))) ⟨m, fun _ => 0, g⟩ (fun r => (∀ c : Dev Cert.Mb.nD,
      r.2.mem ((c.tc : Thread Cert.Mb.nD Cert.Mb.τ).loc Cert.Mb.main_arg0) = m ((c.tc : Thread Cert.Mb.nD Cert.Mb.τ).loc Cert.Mb.main_arg0)
      ∧ r.2.mem ((c.tc : Thread Cert.Mb.nD Cert.Mb.τ).loc Cert.Mb.main_arg1) = m ((c.tc : Thread Cert.Mb.nD Cert.Mb.τ).loc Cert.Mb.main_arg1)
      ∧ r.2.mem ((c.tc : Thread Cert.Mb.nD Cert.Mb.τ).loc Cert.Mb.main_arg2) = m ((c.tc : Thread Cert.Mb.nD Cert.Mb.τ).loc Cert.Mb.main_arg2)
      ∧ r.2.mem ((c.tc : Thread Cert.Mb.nD Cert.Mb.τ).loc Cert.Mb.main_arg3) = m ((c.tc : Thread Cert.Mb.nD Cert.Mb.τ).loc Cert.Mb.main_arg3)
      ∧ r.2.mem ((c.tc : Thread Cert.Mb.nD Cert.Mb.τ).loc Cert.Mb.main_arg4) = m ((c.tc : Thread Cert.Mb.nD Cert.Mb.τ).loc Cert.Mb.main_arg4))
      ∧ r.2.sem = fun _ => 0)

def quiescent_MbIdeal [hMbIdeal : Cert.MbIdeal.Facts] : Prop :=
  ∀ (m : (ℓ : Loc Cert.MbIdeal.nD Cert.MbIdeal.τ Cert.MbIdeal.sig) → Buf (Elt Ideal) ℓ) (g : Dev Cert.MbIdeal.nD → PrngReg), Pre_MbIdeal m →
    θ_run (Cert.MbIdeal.defs (F := Ideal)) (onTc (τ := Cert.MbIdeal.τ) (Cert.MbIdeal.main (F := Ideal))) ⟨m, fun _ => 0, g⟩ (fun r => (∀ c : Dev Cert.MbIdeal.nD,
      r.2.mem ((c.tc : Thread Cert.MbIdeal.nD Cert.MbIdeal.τ).loc Cert.MbIdeal.main_arg0) = m ((c.tc : Thread Cert.MbIdeal.nD Cert.MbIdeal.τ).loc Cert.MbIdeal.main_arg0)
      ∧ r.2.mem ((c.tc : Thread Cert.MbIdeal.nD Cert.MbIdeal.τ).loc Cert.MbIdeal.main_arg1) = m ((c.tc : Thread Cert.MbIdeal.nD Cert.MbIdeal.τ).loc Cert.MbIdeal.main_arg1)
      ∧ r.2.mem ((c.tc : Thread Cert.MbIdeal.nD Cert.MbIdeal.τ).loc Cert.MbIdeal.main_arg2) = m ((c.tc : Thread Cert.MbIdeal.nD Cert.MbIdeal.τ).loc Cert.MbIdeal.main_arg2)
      ∧ r.2.mem ((c.tc : Thread Cert.MbIdeal.nD Cert.MbIdeal.τ).loc Cert.MbIdeal.main_arg3) = m ((c.tc : Thread Cert.MbIdeal.nD Cert.MbIdeal.τ).loc Cert.MbIdeal.main_arg3)
      ∧ r.2.mem ((c.tc : Thread Cert.MbIdeal.nD Cert.MbIdeal.τ).loc Cert.MbIdeal.main_arg4) = m ((c.tc : Thread Cert.MbIdeal.nD Cert.MbIdeal.τ).loc Cert.MbIdeal.main_arg4))
      ∧ r.2.sem = fun _ => 0)

def quiescent_MbRefIdeal [hMbRefIdeal : Cert.MbRefIdeal.Facts] : Prop :=
  ∀ (m : (ℓ : Loc Cert.MbRefIdeal.nD Cert.MbRefIdeal.τ Cert.MbRefIdeal.sig) → Buf (Elt Ideal) ℓ) (g : Dev Cert.MbRefIdeal.nD → PrngReg), Pre_MbRefIdeal m →
    θ_run (Cert.MbRefIdeal.defs (F := Ideal)) (onTc (τ := Cert.MbRefIdeal.τ) (Cert.MbRefIdeal.main (F := Ideal))) ⟨m, fun _ => 0, g⟩ (fun r => (∀ c : Dev Cert.MbRefIdeal.nD,
      r.2.mem ((c.tc : Thread Cert.MbRefIdeal.nD Cert.MbRefIdeal.τ).loc Cert.MbRefIdeal.main_arg0) = m ((c.tc : Thread Cert.MbRefIdeal.nD Cert.MbRefIdeal.τ).loc Cert.MbRefIdeal.main_arg0)
      ∧ r.2.mem ((c.tc : Thread Cert.MbRefIdeal.nD Cert.MbRefIdeal.τ).loc Cert.MbRefIdeal.main_arg1) = m ((c.tc : Thread Cert.MbRefIdeal.nD Cert.MbRefIdeal.τ).loc Cert.MbRefIdeal.main_arg1)
      ∧ r.2.mem ((c.tc : Thread Cert.MbRefIdeal.nD Cert.MbRefIdeal.τ).loc Cert.MbRefIdeal.main_arg2) = m ((c.tc : Thread Cert.MbRefIdeal.nD Cert.MbRefIdeal.τ).loc Cert.MbRefIdeal.main_arg2)
      ∧ r.2.mem ((c.tc : Thread Cert.MbRefIdeal.nD Cert.MbRefIdeal.τ).loc Cert.MbRefIdeal.main_arg3) = m ((c.tc : Thread Cert.MbRefIdeal.nD Cert.MbRefIdeal.τ).loc Cert.MbRefIdeal.main_arg3)
      ∧ r.2.mem ((c.tc : Thread Cert.MbRefIdeal.nD Cert.MbRefIdeal.τ).loc Cert.MbRefIdeal.main_arg4) = m ((c.tc : Thread Cert.MbRefIdeal.nD Cert.MbRefIdeal.τ).loc Cert.MbRefIdeal.main_arg4))
      ∧ r.2.sem = fun _ => 0)

def quiescent_Pj [hPj : Cert.Pj.Facts] : Prop :=
  ∀ (m : (ℓ : Loc Cert.Pj.nD Cert.Pj.τ Cert.Pj.sig) → Buf (Elt Bits) ℓ) (g : Dev Cert.Pj.nD → PrngReg), Pre_Pj m →
    θ_run (Cert.Pj.defs (F := Bits)) (onTc (τ := Cert.Pj.τ) (Cert.Pj.main (F := Bits))) ⟨m, fun _ => 0, g⟩ (fun r => (∀ c : Dev Cert.Pj.nD,
      r.2.mem ((c.tc : Thread Cert.Pj.nD Cert.Pj.τ).loc Cert.Pj.main_arg0) = m ((c.tc : Thread Cert.Pj.nD Cert.Pj.τ).loc Cert.Pj.main_arg0)
      ∧ r.2.mem ((c.tc : Thread Cert.Pj.nD Cert.Pj.τ).loc Cert.Pj.main_arg1) = m ((c.tc : Thread Cert.Pj.nD Cert.Pj.τ).loc Cert.Pj.main_arg1))
      ∧ r.2.sem = fun _ => 0)

def quiescent_PjIdeal [hPjIdeal : Cert.PjIdeal.Facts] : Prop :=
  ∀ (m : (ℓ : Loc Cert.PjIdeal.nD Cert.PjIdeal.τ Cert.PjIdeal.sig) → Buf (Elt Ideal) ℓ) (g : Dev Cert.PjIdeal.nD → PrngReg), Pre_PjIdeal m →
    θ_run (Cert.PjIdeal.defs (F := Ideal)) (onTc (τ := Cert.PjIdeal.τ) (Cert.PjIdeal.main (F := Ideal))) ⟨m, fun _ => 0, g⟩ (fun r => (∀ c : Dev Cert.PjIdeal.nD,
      r.2.mem ((c.tc : Thread Cert.PjIdeal.nD Cert.PjIdeal.τ).loc Cert.PjIdeal.main_arg0) = m ((c.tc : Thread Cert.PjIdeal.nD Cert.PjIdeal.τ).loc Cert.PjIdeal.main_arg0)
      ∧ r.2.mem ((c.tc : Thread Cert.PjIdeal.nD Cert.PjIdeal.τ).loc Cert.PjIdeal.main_arg1) = m ((c.tc : Thread Cert.PjIdeal.nD Cert.PjIdeal.τ).loc Cert.PjIdeal.main_arg1))
      ∧ r.2.sem = fun _ => 0)

def quiescent_PjRefIdeal [hPjRefIdeal : Cert.PjRefIdeal.Facts] : Prop :=
  ∀ (m : (ℓ : Loc Cert.PjRefIdeal.nD Cert.PjRefIdeal.τ Cert.PjRefIdeal.sig) → Buf (Elt Ideal) ℓ) (g : Dev Cert.PjRefIdeal.nD → PrngReg), Pre_PjRefIdeal m →
    θ_run (Cert.PjRefIdeal.defs (F := Ideal)) (onTc (τ := Cert.PjRefIdeal.τ) (Cert.PjRefIdeal.main (F := Ideal))) ⟨m, fun _ => 0, g⟩ (fun r => (∀ c : Dev Cert.PjRefIdeal.nD,
      r.2.mem ((c.tc : Thread Cert.PjRefIdeal.nD Cert.PjRefIdeal.τ).loc Cert.PjRefIdeal.main_arg0) = m ((c.tc : Thread Cert.PjRefIdeal.nD Cert.PjRefIdeal.τ).loc Cert.PjRefIdeal.main_arg0)
      ∧ r.2.mem ((c.tc : Thread Cert.PjRefIdeal.nD Cert.PjRefIdeal.τ).loc Cert.PjRefIdeal.main_arg1) = m ((c.tc : Thread Cert.PjRefIdeal.nD Cert.PjRefIdeal.τ).loc Cert.PjRefIdeal.main_arg1))
      ∧ r.2.sem = fun _ => 0)

def quiescent_Mg [hMg : Cert.Mg.Facts] : Prop :=
  ∀ (m : (ℓ : Loc Cert.Mg.nD Cert.Mg.τ Cert.Mg.sig) → Buf (Elt Bits) ℓ) (g : Dev Cert.Mg.nD → PrngReg), Pre_Mg m →
    θ_run (Cert.Mg.defs (F := Bits)) (onTc (τ := Cert.Mg.τ) (Cert.Mg.main (F := Bits))) ⟨m, fun _ => 0, g⟩ (fun r => (∀ c : Dev Cert.Mg.nD,
      r.2.mem ((c.tc : Thread Cert.Mg.nD Cert.Mg.τ).loc Cert.Mg.main_arg0) = m ((c.tc : Thread Cert.Mg.nD Cert.Mg.τ).loc Cert.Mg.main_arg0)
      ∧ r.2.mem ((c.tc : Thread Cert.Mg.nD Cert.Mg.τ).loc Cert.Mg.main_arg1) = m ((c.tc : Thread Cert.Mg.nD Cert.Mg.τ).loc Cert.Mg.main_arg1)
      ∧ r.2.mem ((c.tc : Thread Cert.Mg.nD Cert.Mg.τ).loc Cert.Mg.main_arg2) = m ((c.tc : Thread Cert.Mg.nD Cert.Mg.τ).loc Cert.Mg.main_arg2)
      ∧ r.2.mem ((c.tc : Thread Cert.Mg.nD Cert.Mg.τ).loc Cert.Mg.main_arg3) = m ((c.tc : Thread Cert.Mg.nD Cert.Mg.τ).loc Cert.Mg.main_arg3)
      ∧ r.2.mem ((c.tc : Thread Cert.Mg.nD Cert.Mg.τ).loc Cert.Mg.main_arg4) = m ((c.tc : Thread Cert.Mg.nD Cert.Mg.τ).loc Cert.Mg.main_arg4))
      ∧ r.2.sem = fun _ => 0)

def quiescent_MgIdeal [hMgIdeal : Cert.MgIdeal.Facts] : Prop :=
  ∀ (m : (ℓ : Loc Cert.MgIdeal.nD Cert.MgIdeal.τ Cert.MgIdeal.sig) → Buf (Elt Ideal) ℓ) (g : Dev Cert.MgIdeal.nD → PrngReg), Pre_MgIdeal m →
    θ_run (Cert.MgIdeal.defs (F := Ideal)) (onTc (τ := Cert.MgIdeal.τ) (Cert.MgIdeal.main (F := Ideal))) ⟨m, fun _ => 0, g⟩ (fun r => (∀ c : Dev Cert.MgIdeal.nD,
      r.2.mem ((c.tc : Thread Cert.MgIdeal.nD Cert.MgIdeal.τ).loc Cert.MgIdeal.main_arg0) = m ((c.tc : Thread Cert.MgIdeal.nD Cert.MgIdeal.τ).loc Cert.MgIdeal.main_arg0)
      ∧ r.2.mem ((c.tc : Thread Cert.MgIdeal.nD Cert.MgIdeal.τ).loc Cert.MgIdeal.main_arg1) = m ((c.tc : Thread Cert.MgIdeal.nD Cert.MgIdeal.τ).loc Cert.MgIdeal.main_arg1)
      ∧ r.2.mem ((c.tc : Thread Cert.MgIdeal.nD Cert.MgIdeal.τ).loc Cert.MgIdeal.main_arg2) = m ((c.tc : Thread Cert.MgIdeal.nD Cert.MgIdeal.τ).loc Cert.MgIdeal.main_arg2)
      ∧ r.2.mem ((c.tc : Thread Cert.MgIdeal.nD Cert.MgIdeal.τ).loc Cert.MgIdeal.main_arg3) = m ((c.tc : Thread Cert.MgIdeal.nD Cert.MgIdeal.τ).loc Cert.MgIdeal.main_arg3)
      ∧ r.2.mem ((c.tc : Thread Cert.MgIdeal.nD Cert.MgIdeal.τ).loc Cert.MgIdeal.main_arg4) = m ((c.tc : Thread Cert.MgIdeal.nD Cert.MgIdeal.τ).loc Cert.MgIdeal.main_arg4))
      ∧ r.2.sem = fun _ => 0)

def quiescent_MgRefIdeal [hMgRefIdeal : Cert.MgRefIdeal.Facts] : Prop :=
  ∀ (m : (ℓ : Loc Cert.MgRefIdeal.nD Cert.MgRefIdeal.τ Cert.MgRefIdeal.sig) → Buf (Elt Ideal) ℓ) (g : Dev Cert.MgRefIdeal.nD → PrngReg), Pre_MgRefIdeal m →
    θ_run (Cert.MgRefIdeal.defs (F := Ideal)) (onTc (τ := Cert.MgRefIdeal.τ) (Cert.MgRefIdeal.main (F := Ideal))) ⟨m, fun _ => 0, g⟩ (fun r => (∀ c : Dev Cert.MgRefIdeal.nD,
      r.2.mem ((c.tc : Thread Cert.MgRefIdeal.nD Cert.MgRefIdeal.τ).loc Cert.MgRefIdeal.main_arg0) = m ((c.tc : Thread Cert.MgRefIdeal.nD Cert.MgRefIdeal.τ).loc Cert.MgRefIdeal.main_arg0)
      ∧ r.2.mem ((c.tc : Thread Cert.MgRefIdeal.nD Cert.MgRefIdeal.τ).loc Cert.MgRefIdeal.main_arg1) = m ((c.tc : Thread Cert.MgRefIdeal.nD Cert.MgRefIdeal.τ).loc Cert.MgRefIdeal.main_arg1)
      ∧ r.2.mem ((c.tc : Thread Cert.MgRefIdeal.nD Cert.MgRefIdeal.τ).loc Cert.MgRefIdeal.main_arg2) = m ((c.tc : Thread Cert.MgRefIdeal.nD Cert.MgRefIdeal.τ).loc Cert.MgRefIdeal.main_arg2)
      ∧ r.2.mem ((c.tc : Thread Cert.MgRefIdeal.nD Cert.MgRefIdeal.τ).loc Cert.MgRefIdeal.main_arg3) = m ((c.tc : Thread Cert.MgRefIdeal.nD Cert.MgRefIdeal.τ).loc Cert.MgRefIdeal.main_arg3)
      ∧ r.2.mem ((c.tc : Thread Cert.MgRefIdeal.nD Cert.MgRefIdeal.τ).loc Cert.MgRefIdeal.main_arg4) = m ((c.tc : Thread Cert.MgRefIdeal.nD Cert.MgRefIdeal.τ).loc Cert.MgRefIdeal.main_arg4))
      ∧ r.2.sem = fun _ => 0)

def quiescent_Op [hOp : Cert.Op.Facts] : Prop :=
  ∀ (m : (ℓ : Loc Cert.Op.nD Cert.Op.τ Cert.Op.sig) → Buf (Elt Bits) ℓ) (g : Dev Cert.Op.nD → PrngReg), Pre_Op m →
    θ_run (Cert.Op.defs (F := Bits)) (onTc (τ := Cert.Op.τ) (Cert.Op.main (F := Bits))) ⟨m, fun _ => 0, g⟩ (fun r => (∀ c : Dev Cert.Op.nD,
      r.2.mem ((c.tc : Thread Cert.Op.nD Cert.Op.τ).loc Cert.Op.main_arg0) = m ((c.tc : Thread Cert.Op.nD Cert.Op.τ).loc Cert.Op.main_arg0)
      ∧ r.2.mem ((c.tc : Thread Cert.Op.nD Cert.Op.τ).loc Cert.Op.main_arg1) = m ((c.tc : Thread Cert.Op.nD Cert.Op.τ).loc Cert.Op.main_arg1))
      ∧ r.2.sem = fun _ => 0)

def quiescent_OpIdeal [hOpIdeal : Cert.OpIdeal.Facts] : Prop :=
  ∀ (m : (ℓ : Loc Cert.OpIdeal.nD Cert.OpIdeal.τ Cert.OpIdeal.sig) → Buf (Elt Ideal) ℓ) (g : Dev Cert.OpIdeal.nD → PrngReg), Pre_OpIdeal m →
    θ_run (Cert.OpIdeal.defs (F := Ideal)) (onTc (τ := Cert.OpIdeal.τ) (Cert.OpIdeal.main (F := Ideal))) ⟨m, fun _ => 0, g⟩ (fun r => (∀ c : Dev Cert.OpIdeal.nD,
      r.2.mem ((c.tc : Thread Cert.OpIdeal.nD Cert.OpIdeal.τ).loc Cert.OpIdeal.main_arg0) = m ((c.tc : Thread Cert.OpIdeal.nD Cert.OpIdeal.τ).loc Cert.OpIdeal.main_arg0)
      ∧ r.2.mem ((c.tc : Thread Cert.OpIdeal.nD Cert.OpIdeal.τ).loc Cert.OpIdeal.main_arg1) = m ((c.tc : Thread Cert.OpIdeal.nD Cert.OpIdeal.τ).loc Cert.OpIdeal.main_arg1))
      ∧ r.2.sem = fun _ => 0)

def quiescent_OpRefIdeal [hOpRefIdeal : Cert.OpRefIdeal.Facts] : Prop :=
  ∀ (m : (ℓ : Loc Cert.OpRefIdeal.nD Cert.OpRefIdeal.τ Cert.OpRefIdeal.sig) → Buf (Elt Ideal) ℓ) (g : Dev Cert.OpRefIdeal.nD → PrngReg), Pre_OpRefIdeal m →
    θ_run (Cert.OpRefIdeal.defs (F := Ideal)) (onTc (τ := Cert.OpRefIdeal.τ) (Cert.OpRefIdeal.main (F := Ideal))) ⟨m, fun _ => 0, g⟩ (fun r => (∀ c : Dev Cert.OpRefIdeal.nD,
      r.2.mem ((c.tc : Thread Cert.OpRefIdeal.nD Cert.OpRefIdeal.τ).loc Cert.OpRefIdeal.main_arg0) = m ((c.tc : Thread Cert.OpRefIdeal.nD Cert.OpRefIdeal.τ).loc Cert.OpRefIdeal.main_arg0)
      ∧ r.2.mem ((c.tc : Thread Cert.OpRefIdeal.nD Cert.OpRefIdeal.τ).loc Cert.OpRefIdeal.main_arg1) = m ((c.tc : Thread Cert.OpRefIdeal.nD Cert.OpRefIdeal.τ).loc Cert.OpRefIdeal.main_arg1))
      ∧ r.2.sem = fun _ => 0)

def quiescent_Go [hGo : Cert.Go.Facts] : Prop :=
  ∀ (m : (ℓ : Loc Cert.Go.nD Cert.Go.τ Cert.Go.sig) → Buf (Elt Bits) ℓ) (g : Dev Cert.Go.nD → PrngReg), Pre_Go m →
    θ_run (Cert.Go.defs (F := Bits)) (onTc (τ := Cert.Go.τ) (Cert.Go.main (F := Bits))) ⟨m, fun _ => 0, g⟩ (fun r => (∀ c : Dev Cert.Go.nD,
      r.2.mem ((c.tc : Thread Cert.Go.nD Cert.Go.τ).loc Cert.Go.main_arg0) = m ((c.tc : Thread Cert.Go.nD Cert.Go.τ).loc Cert.Go.main_arg0)
      ∧ r.2.mem ((c.tc : Thread Cert.Go.nD Cert.Go.τ).loc Cert.Go.main_arg1) = m ((c.tc : Thread Cert.Go.nD Cert.Go.τ).loc Cert.Go.main_arg1))
      ∧ r.2.sem = fun _ => 0)

def quiescent_GoIdeal [hGoIdeal : Cert.GoIdeal.Facts] : Prop :=
  ∀ (m : (ℓ : Loc Cert.GoIdeal.nD Cert.GoIdeal.τ Cert.GoIdeal.sig) → Buf (Elt Ideal) ℓ) (g : Dev Cert.GoIdeal.nD → PrngReg), Pre_GoIdeal m →
    θ_run (Cert.GoIdeal.defs (F := Ideal)) (onTc (τ := Cert.GoIdeal.τ) (Cert.GoIdeal.main (F := Ideal))) ⟨m, fun _ => 0, g⟩ (fun r => (∀ c : Dev Cert.GoIdeal.nD,
      r.2.mem ((c.tc : Thread Cert.GoIdeal.nD Cert.GoIdeal.τ).loc Cert.GoIdeal.main_arg0) = m ((c.tc : Thread Cert.GoIdeal.nD Cert.GoIdeal.τ).loc Cert.GoIdeal.main_arg0)
      ∧ r.2.mem ((c.tc : Thread Cert.GoIdeal.nD Cert.GoIdeal.τ).loc Cert.GoIdeal.main_arg1) = m ((c.tc : Thread Cert.GoIdeal.nD Cert.GoIdeal.τ).loc Cert.GoIdeal.main_arg1))
      ∧ r.2.sem = fun _ => 0)

def quiescent_GoRefIdeal [hGoRefIdeal : Cert.GoRefIdeal.Facts] : Prop :=
  ∀ (m : (ℓ : Loc Cert.GoRefIdeal.nD Cert.GoRefIdeal.τ Cert.GoRefIdeal.sig) → Buf (Elt Ideal) ℓ) (g : Dev Cert.GoRefIdeal.nD → PrngReg), Pre_GoRefIdeal m →
    θ_run (Cert.GoRefIdeal.defs (F := Ideal)) (onTc (τ := Cert.GoRefIdeal.τ) (Cert.GoRefIdeal.main (F := Ideal))) ⟨m, fun _ => 0, g⟩ (fun r => (∀ c : Dev Cert.GoRefIdeal.nD,
      r.2.mem ((c.tc : Thread Cert.GoRefIdeal.nD Cert.GoRefIdeal.τ).loc Cert.GoRefIdeal.main_arg0) = m ((c.tc : Thread Cert.GoRefIdeal.nD Cert.GoRefIdeal.τ).loc Cert.GoRefIdeal.main_arg0)
      ∧ r.2.mem ((c.tc : Thread Cert.GoRefIdeal.nD Cert.GoRefIdeal.τ).loc Cert.GoRefIdeal.main_arg1) = m ((c.tc : Thread Cert.GoRefIdeal.nD Cert.GoRefIdeal.τ).loc Cert.GoRefIdeal.main_arg1))
      ∧ r.2.sem = fun _ => 0)

def quiescent_Pb [hPb : Cert.Pb.Facts] : Prop :=
  ∀ (m : (ℓ : Loc Cert.Pb.nD Cert.Pb.τ Cert.Pb.sig) → Buf (Elt Bits) ℓ) (g : Dev Cert.Pb.nD → PrngReg), Pre_Pb m →
    θ_run (Cert.Pb.defs (F := Bits)) (onTc (τ := Cert.Pb.τ) (Cert.Pb.main (F := Bits))) ⟨m, fun _ => 0, g⟩ (fun r => (∀ c : Dev Cert.Pb.nD,
      r.2.mem ((c.tc : Thread Cert.Pb.nD Cert.Pb.τ).loc Cert.Pb.main_arg0) = m ((c.tc : Thread Cert.Pb.nD Cert.Pb.τ).loc Cert.Pb.main_arg0)
      ∧ r.2.mem ((c.tc : Thread Cert.Pb.nD Cert.Pb.τ).loc Cert.Pb.main_arg1) = m ((c.tc : Thread Cert.Pb.nD Cert.Pb.τ).loc Cert.Pb.main_arg1)
      ∧ r.2.mem ((c.tc : Thread Cert.Pb.nD Cert.Pb.τ).loc Cert.Pb.main_arg2) = m ((c.tc : Thread Cert.Pb.nD Cert.Pb.τ).loc Cert.Pb.main_arg2)
      ∧ r.2.mem ((c.tc : Thread Cert.Pb.nD Cert.Pb.τ).loc Cert.Pb.main_arg3) = m ((c.tc : Thread Cert.Pb.nD Cert.Pb.τ).loc Cert.Pb.main_arg3))
      ∧ r.2.sem = fun _ => 0)

def quiescent_PbIdeal [hPbIdeal : Cert.PbIdeal.Facts] : Prop :=
  ∀ (m : (ℓ : Loc Cert.PbIdeal.nD Cert.PbIdeal.τ Cert.PbIdeal.sig) → Buf (Elt Ideal) ℓ) (g : Dev Cert.PbIdeal.nD → PrngReg), Pre_PbIdeal m →
    θ_run (Cert.PbIdeal.defs (F := Ideal)) (onTc (τ := Cert.PbIdeal.τ) (Cert.PbIdeal.main (F := Ideal))) ⟨m, fun _ => 0, g⟩ (fun r => (∀ c : Dev Cert.PbIdeal.nD,
      r.2.mem ((c.tc : Thread Cert.PbIdeal.nD Cert.PbIdeal.τ).loc Cert.PbIdeal.main_arg0) = m ((c.tc : Thread Cert.PbIdeal.nD Cert.PbIdeal.τ).loc Cert.PbIdeal.main_arg0)
      ∧ r.2.mem ((c.tc : Thread Cert.PbIdeal.nD Cert.PbIdeal.τ).loc Cert.PbIdeal.main_arg1) = m ((c.tc : Thread Cert.PbIdeal.nD Cert.PbIdeal.τ).loc Cert.PbIdeal.main_arg1)
      ∧ r.2.mem ((c.tc : Thread Cert.PbIdeal.nD Cert.PbIdeal.τ).loc Cert.PbIdeal.main_arg2) = m ((c.tc : Thread Cert.PbIdeal.nD Cert.PbIdeal.τ).loc Cert.PbIdeal.main_arg2)
      ∧ r.2.mem ((c.tc : Thread Cert.PbIdeal.nD Cert.PbIdeal.τ).loc Cert.PbIdeal.main_arg3) = m ((c.tc : Thread Cert.PbIdeal.nD Cert.PbIdeal.τ).loc Cert.PbIdeal.main_arg3))
      ∧ r.2.sem = fun _ => 0)

def quiescent_PbRefIdeal [hPbRefIdeal : Cert.PbRefIdeal.Facts] : Prop :=
  ∀ (m : (ℓ : Loc Cert.PbRefIdeal.nD Cert.PbRefIdeal.τ Cert.PbRefIdeal.sig) → Buf (Elt Ideal) ℓ) (g : Dev Cert.PbRefIdeal.nD → PrngReg), Pre_PbRefIdeal m →
    θ_run (Cert.PbRefIdeal.defs (F := Ideal)) (onTc (τ := Cert.PbRefIdeal.τ) (Cert.PbRefIdeal.main (F := Ideal))) ⟨m, fun _ => 0, g⟩ (fun r => (∀ c : Dev Cert.PbRefIdeal.nD,
      r.2.mem ((c.tc : Thread Cert.PbRefIdeal.nD Cert.PbRefIdeal.τ).loc Cert.PbRefIdeal.main_arg0) = m ((c.tc : Thread Cert.PbRefIdeal.nD Cert.PbRefIdeal.τ).loc Cert.PbRefIdeal.main_arg0)
      ∧ r.2.mem ((c.tc : Thread Cert.PbRefIdeal.nD Cert.PbRefIdeal.τ).loc Cert.PbRefIdeal.main_arg1) = m ((c.tc : Thread Cert.PbRefIdeal.nD Cert.PbRefIdeal.τ).loc Cert.PbRefIdeal.main_arg1)
      ∧ r.2.mem ((c.tc : Thread Cert.PbRefIdeal.nD Cert.PbRefIdeal.τ).loc Cert.PbRefIdeal.main_arg2) = m ((c.tc : Thread Cert.PbRefIdeal.nD Cert.PbRefIdeal.τ).loc Cert.PbRefIdeal.main_arg2)
      ∧ r.2.mem ((c.tc : Thread Cert.PbRefIdeal.nD Cert.PbRefIdeal.τ).loc Cert.PbRefIdeal.main_arg3) = m ((c.tc : Thread Cert.PbRefIdeal.nD Cert.PbRefIdeal.τ).loc Cert.PbRefIdeal.main_arg3))
      ∧ r.2.sem = fun _ => 0)

def quiescent_Nb [hNb : Cert.Nb.Facts] : Prop :=
  ∀ (m : (ℓ : Loc Cert.Nb.nD Cert.Nb.τ Cert.Nb.sig) → Buf (Elt Bits) ℓ) (g : Dev Cert.Nb.nD → PrngReg), Pre_Nb m →
    θ_run (Cert.Nb.defs (F := Bits)) (onTc (τ := Cert.Nb.τ) (Cert.Nb.main (F := Bits))) ⟨m, fun _ => 0, g⟩ (fun r => (∀ c : Dev Cert.Nb.nD,
      r.2.mem ((c.tc : Thread Cert.Nb.nD Cert.Nb.τ).loc Cert.Nb.main_arg0) = m ((c.tc : Thread Cert.Nb.nD Cert.Nb.τ).loc Cert.Nb.main_arg0)
      ∧ r.2.mem ((c.tc : Thread Cert.Nb.nD Cert.Nb.τ).loc Cert.Nb.main_arg1) = m ((c.tc : Thread Cert.Nb.nD Cert.Nb.τ).loc Cert.Nb.main_arg1)
      ∧ r.2.mem ((c.tc : Thread Cert.Nb.nD Cert.Nb.τ).loc Cert.Nb.main_arg2) = m ((c.tc : Thread Cert.Nb.nD Cert.Nb.τ).loc Cert.Nb.main_arg2)
      ∧ r.2.mem ((c.tc : Thread Cert.Nb.nD Cert.Nb.τ).loc Cert.Nb.main_arg3) = m ((c.tc : Thread Cert.Nb.nD Cert.Nb.τ).loc Cert.Nb.main_arg3)
      ∧ r.2.mem ((c.tc : Thread Cert.Nb.nD Cert.Nb.τ).loc Cert.Nb.main_arg4) = m ((c.tc : Thread Cert.Nb.nD Cert.Nb.τ).loc Cert.Nb.main_arg4))
      ∧ r.2.sem = fun _ => 0)

def quiescent_NbIdeal [hNbIdeal : Cert.NbIdeal.Facts] : Prop :=
  ∀ (m : (ℓ : Loc Cert.NbIdeal.nD Cert.NbIdeal.τ Cert.NbIdeal.sig) → Buf (Elt Ideal) ℓ) (g : Dev Cert.NbIdeal.nD → PrngReg), Pre_NbIdeal m →
    θ_run (Cert.NbIdeal.defs (F := Ideal)) (onTc (τ := Cert.NbIdeal.τ) (Cert.NbIdeal.main (F := Ideal))) ⟨m, fun _ => 0, g⟩ (fun r => (∀ c : Dev Cert.NbIdeal.nD,
      r.2.mem ((c.tc : Thread Cert.NbIdeal.nD Cert.NbIdeal.τ).loc Cert.NbIdeal.main_arg0) = m ((c.tc : Thread Cert.NbIdeal.nD Cert.NbIdeal.τ).loc Cert.NbIdeal.main_arg0)
      ∧ r.2.mem ((c.tc : Thread Cert.NbIdeal.nD Cert.NbIdeal.τ).loc Cert.NbIdeal.main_arg1) = m ((c.tc : Thread Cert.NbIdeal.nD Cert.NbIdeal.τ).loc Cert.NbIdeal.main_arg1)
      ∧ r.2.mem ((c.tc : Thread Cert.NbIdeal.nD Cert.NbIdeal.τ).loc Cert.NbIdeal.main_arg2) = m ((c.tc : Thread Cert.NbIdeal.nD Cert.NbIdeal.τ).loc Cert.NbIdeal.main_arg2)
      ∧ r.2.mem ((c.tc : Thread Cert.NbIdeal.nD Cert.NbIdeal.τ).loc Cert.NbIdeal.main_arg3) = m ((c.tc : Thread Cert.NbIdeal.nD Cert.NbIdeal.τ).loc Cert.NbIdeal.main_arg3)
      ∧ r.2.mem ((c.tc : Thread Cert.NbIdeal.nD Cert.NbIdeal.τ).loc Cert.NbIdeal.main_arg4) = m ((c.tc : Thread Cert.NbIdeal.nD Cert.NbIdeal.τ).loc Cert.NbIdeal.main_arg4))
      ∧ r.2.sem = fun _ => 0)

def quiescent_NbRefIdeal [hNbRefIdeal : Cert.NbRefIdeal.Facts] : Prop :=
  ∀ (m : (ℓ : Loc Cert.NbRefIdeal.nD Cert.NbRefIdeal.τ Cert.NbRefIdeal.sig) → Buf (Elt Ideal) ℓ) (g : Dev Cert.NbRefIdeal.nD → PrngReg), Pre_NbRefIdeal m →
    θ_run (Cert.NbRefIdeal.defs (F := Ideal)) (onTc (τ := Cert.NbRefIdeal.τ) (Cert.NbRefIdeal.main (F := Ideal))) ⟨m, fun _ => 0, g⟩ (fun r => (∀ c : Dev Cert.NbRefIdeal.nD,
      r.2.mem ((c.tc : Thread Cert.NbRefIdeal.nD Cert.NbRefIdeal.τ).loc Cert.NbRefIdeal.main_arg0) = m ((c.tc : Thread Cert.NbRefIdeal.nD Cert.NbRefIdeal.τ).loc Cert.NbRefIdeal.main_arg0)
      ∧ r.2.mem ((c.tc : Thread Cert.NbRefIdeal.nD Cert.NbRefIdeal.τ).loc Cert.NbRefIdeal.main_arg1) = m ((c.tc : Thread Cert.NbRefIdeal.nD Cert.NbRefIdeal.τ).loc Cert.NbRefIdeal.main_arg1)
      ∧ r.2.mem ((c.tc : Thread Cert.NbRefIdeal.nD Cert.NbRefIdeal.τ).loc Cert.NbRefIdeal.main_arg2) = m ((c.tc : Thread Cert.NbRefIdeal.nD Cert.NbRefIdeal.τ).loc Cert.NbRefIdeal.main_arg2)
      ∧ r.2.mem ((c.tc : Thread Cert.NbRefIdeal.nD Cert.NbRefIdeal.τ).loc Cert.NbRefIdeal.main_arg3) = m ((c.tc : Thread Cert.NbRefIdeal.nD Cert.NbRefIdeal.τ).loc Cert.NbRefIdeal.main_arg3)
      ∧ r.2.mem ((c.tc : Thread Cert.NbRefIdeal.nD Cert.NbRefIdeal.τ).loc Cert.NbRefIdeal.main_arg4) = m ((c.tc : Thread Cert.NbRefIdeal.nD Cert.NbRefIdeal.τ).loc Cert.NbRefIdeal.main_arg4))
      ∧ r.2.sem = fun _ => 0)

def quiescent_Wa [hWa : Cert.Wa.Facts] : Prop :=
  ∀ (m : (ℓ : Loc Cert.Wa.nD Cert.Wa.τ Cert.Wa.sig) → Buf (Elt Bits) ℓ) (g : Dev Cert.Wa.nD → PrngReg), Pre_Wa m →
    θ_run (Cert.Wa.defs (F := Bits)) (onTc (τ := Cert.Wa.τ) (Cert.Wa.main (F := Bits))) ⟨m, fun _ => 0, g⟩ (fun r => (∀ c : Dev Cert.Wa.nD,
      r.2.mem ((c.tc : Thread Cert.Wa.nD Cert.Wa.τ).loc Cert.Wa.main_arg0) = m ((c.tc : Thread Cert.Wa.nD Cert.Wa.τ).loc Cert.Wa.main_arg0)
      ∧ r.2.mem ((c.tc : Thread Cert.Wa.nD Cert.Wa.τ).loc Cert.Wa.main_arg1) = m ((c.tc : Thread Cert.Wa.nD Cert.Wa.τ).loc Cert.Wa.main_arg1)
      ∧ r.2.mem ((c.tc : Thread Cert.Wa.nD Cert.Wa.τ).loc Cert.Wa.main_arg2) = m ((c.tc : Thread Cert.Wa.nD Cert.Wa.τ).loc Cert.Wa.main_arg2)
      ∧ r.2.mem ((c.tc : Thread Cert.Wa.nD Cert.Wa.τ).loc Cert.Wa.main_arg3) = m ((c.tc : Thread Cert.Wa.nD Cert.Wa.τ).loc Cert.Wa.main_arg3)
      ∧ r.2.mem ((c.tc : Thread Cert.Wa.nD Cert.Wa.τ).loc Cert.Wa.main_arg4) = m ((c.tc : Thread Cert.Wa.nD Cert.Wa.τ).loc Cert.Wa.main_arg4))
      ∧ r.2.sem = fun _ => 0)

def quiescent_WaIdeal [hWaIdeal : Cert.WaIdeal.Facts] : Prop :=
  ∀ (m : (ℓ : Loc Cert.WaIdeal.nD Cert.WaIdeal.τ Cert.WaIdeal.sig) → Buf (Elt Ideal) ℓ) (g : Dev Cert.WaIdeal.nD → PrngReg), Pre_WaIdeal m →
    θ_run (Cert.WaIdeal.defs (F := Ideal)) (onTc (τ := Cert.WaIdeal.τ) (Cert.WaIdeal.main (F := Ideal))) ⟨m, fun _ => 0, g⟩ (fun r => (∀ c : Dev Cert.WaIdeal.nD,
      r.2.mem ((c.tc : Thread Cert.WaIdeal.nD Cert.WaIdeal.τ).loc Cert.WaIdeal.main_arg0) = m ((c.tc : Thread Cert.WaIdeal.nD Cert.WaIdeal.τ).loc Cert.WaIdeal.main_arg0)
      ∧ r.2.mem ((c.tc : Thread Cert.WaIdeal.nD Cert.WaIdeal.τ).loc Cert.WaIdeal.main_arg1) = m ((c.tc : Thread Cert.WaIdeal.nD Cert.WaIdeal.τ).loc Cert.WaIdeal.main_arg1)
      ∧ r.2.mem ((c.tc : Thread Cert.WaIdeal.nD Cert.WaIdeal.τ).loc Cert.WaIdeal.main_arg2) = m ((c.tc : Thread Cert.WaIdeal.nD Cert.WaIdeal.τ).loc Cert.WaIdeal.main_arg2)
      ∧ r.2.mem ((c.tc : Thread Cert.WaIdeal.nD Cert.WaIdeal.τ).loc Cert.WaIdeal.main_arg3) = m ((c.tc : Thread Cert.WaIdeal.nD Cert.WaIdeal.τ).loc Cert.WaIdeal.main_arg3)
      ∧ r.2.mem ((c.tc : Thread Cert.WaIdeal.nD Cert.WaIdeal.τ).loc Cert.WaIdeal.main_arg4) = m ((c.tc : Thread Cert.WaIdeal.nD Cert.WaIdeal.τ).loc Cert.WaIdeal.main_arg4))
      ∧ r.2.sem = fun _ => 0)

def quiescent_WaRefIdeal [hWaRefIdeal : Cert.WaRefIdeal.Facts] : Prop :=
  ∀ (m : (ℓ : Loc Cert.WaRefIdeal.nD Cert.WaRefIdeal.τ Cert.WaRefIdeal.sig) → Buf (Elt Ideal) ℓ) (g : Dev Cert.WaRefIdeal.nD → PrngReg), Pre_WaRefIdeal m →
    θ_run (Cert.WaRefIdeal.defs (F := Ideal)) (onTc (τ := Cert.WaRefIdeal.τ) (Cert.WaRefIdeal.main (F := Ideal))) ⟨m, fun _ => 0, g⟩ (fun r => (∀ c : Dev Cert.WaRefIdeal.nD,
      r.2.mem ((c.tc : Thread Cert.WaRefIdeal.nD Cert.WaRefIdeal.τ).loc Cert.WaRefIdeal.main_arg0) = m ((c.tc : Thread Cert.WaRefIdeal.nD Cert.WaRefIdeal.τ).loc Cert.WaRefIdeal.main_arg0)
      ∧ r.2.mem ((c.tc : Thread Cert.WaRefIdeal.nD Cert.WaRefIdeal.τ).loc Cert.WaRefIdeal.main_arg1) = m ((c.tc : Thread Cert.WaRefIdeal.nD Cert.WaRefIdeal.τ).loc Cert.WaRefIdeal.main_arg1)
      ∧ r.2.mem ((c.tc : Thread Cert.WaRefIdeal.nD Cert.WaRefIdeal.τ).loc Cert.WaRefIdeal.main_arg2) = m ((c.tc : Thread Cert.WaRefIdeal.nD Cert.WaRefIdeal.τ).loc Cert.WaRefIdeal.main_arg2)
      ∧ r.2.mem ((c.tc : Thread Cert.WaRefIdeal.nD Cert.WaRefIdeal.τ).loc Cert.WaRefIdeal.main_arg3) = m ((c.tc : Thread Cert.WaRefIdeal.nD Cert.WaRefIdeal.τ).loc Cert.WaRefIdeal.main_arg3)
      ∧ r.2.mem ((c.tc : Thread Cert.WaRefIdeal.nD Cert.WaRefIdeal.τ).loc Cert.WaRefIdeal.main_arg4) = m ((c.tc : Thread Cert.WaRefIdeal.nD Cert.WaRefIdeal.τ).loc Cert.WaRefIdeal.main_arg4))
      ∧ r.2.sem = fun _ => 0)

def quiescent_Mp [hMp : Cert.Mp.Facts] : Prop :=
  ∀ (m : (ℓ : Loc Cert.Mp.nD Cert.Mp.τ Cert.Mp.sig) → Buf (Elt Bits) ℓ) (g : Dev Cert.Mp.nD → PrngReg), Pre_Mp m →
    θ_run (Cert.Mp.defs (F := Bits)) (onTc (τ := Cert.Mp.τ) (Cert.Mp.main (F := Bits))) ⟨m, fun _ => 0, g⟩ (fun r => (∀ c : Dev Cert.Mp.nD,
      r.2.mem ((c.tc : Thread Cert.Mp.nD Cert.Mp.τ).loc Cert.Mp.main_arg0) = m ((c.tc : Thread Cert.Mp.nD Cert.Mp.τ).loc Cert.Mp.main_arg0)
      ∧ r.2.mem ((c.tc : Thread Cert.Mp.nD Cert.Mp.τ).loc Cert.Mp.main_arg1) = m ((c.tc : Thread Cert.Mp.nD Cert.Mp.τ).loc Cert.Mp.main_arg1))
      ∧ r.2.sem = fun _ => 0)

def quiescent_MpIdeal [hMpIdeal : Cert.MpIdeal.Facts] : Prop :=
  ∀ (m : (ℓ : Loc Cert.MpIdeal.nD Cert.MpIdeal.τ Cert.MpIdeal.sig) → Buf (Elt Ideal) ℓ) (g : Dev Cert.MpIdeal.nD → PrngReg), Pre_MpIdeal m →
    θ_run (Cert.MpIdeal.defs (F := Ideal)) (onTc (τ := Cert.MpIdeal.τ) (Cert.MpIdeal.main (F := Ideal))) ⟨m, fun _ => 0, g⟩ (fun r => (∀ c : Dev Cert.MpIdeal.nD,
      r.2.mem ((c.tc : Thread Cert.MpIdeal.nD Cert.MpIdeal.τ).loc Cert.MpIdeal.main_arg0) = m ((c.tc : Thread Cert.MpIdeal.nD Cert.MpIdeal.τ).loc Cert.MpIdeal.main_arg0)
      ∧ r.2.mem ((c.tc : Thread Cert.MpIdeal.nD Cert.MpIdeal.τ).loc Cert.MpIdeal.main_arg1) = m ((c.tc : Thread Cert.MpIdeal.nD Cert.MpIdeal.τ).loc Cert.MpIdeal.main_arg1))
      ∧ r.2.sem = fun _ => 0)

def quiescent_MpRefIdeal [hMpRefIdeal : Cert.MpRefIdeal.Facts] : Prop :=
  ∀ (m : (ℓ : Loc Cert.MpRefIdeal.nD Cert.MpRefIdeal.τ Cert.MpRefIdeal.sig) → Buf (Elt Ideal) ℓ) (g : Dev Cert.MpRefIdeal.nD → PrngReg), Pre_MpRefIdeal m →
    θ_run (Cert.MpRefIdeal.defs (F := Ideal)) (onTc (τ := Cert.MpRefIdeal.τ) (Cert.MpRefIdeal.main (F := Ideal))) ⟨m, fun _ => 0, g⟩ (fun r => (∀ c : Dev Cert.MpRefIdeal.nD,
      r.2.mem ((c.tc : Thread Cert.MpRefIdeal.nD Cert.MpRefIdeal.τ).loc Cert.MpRefIdeal.main_arg0) = m ((c.tc : Thread Cert.MpRefIdeal.nD Cert.MpRefIdeal.τ).loc Cert.MpRefIdeal.main_arg0)
      ∧ r.2.mem ((c.tc : Thread Cert.MpRefIdeal.nD Cert.MpRefIdeal.τ).loc Cert.MpRefIdeal.main_arg1) = m ((c.tc : Thread Cert.MpRefIdeal.nD Cert.MpRefIdeal.τ).loc Cert.MpRefIdeal.main_arg1))
      ∧ r.2.sem = fun _ => 0)

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ r.2.sem = fun _ => 0)

def quiescent_LbIdeal_pre_bounds_are_real [hLbIdeal : Cert.LbIdeal.Facts] [hPre_bounds_are_real : Cert.Pre_bounds_are_real.Facts] : Prop :=
  ∀ (m : (ℓ : Loc Cert.LbIdeal.nD Cert.LbIdeal.τ Cert.LbIdeal.sig) → Buf (Elt Ideal) ℓ) (g : Dev Cert.LbIdeal.nD → PrngReg), Pre_LbIdeal_bounds_are_real m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0))
      ∧ r.2.sem = fun _ => 0)

def quiescent_LbRefIdeal_pre_bounds_are_real [hLbRefIdeal : Cert.LbRefIdeal.Facts] [hPre_bounds_are_real : Cert.Pre_bounds_are_real.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_bounds_are_real m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0))
      ∧ r.2.sem = fun _ => 0)

def quiescent_Nf [hNf : Cert.Nf.Facts] : Prop :=
  ∀ (m : (ℓ : Loc Cert.Nf.nD Cert.Nf.τ Cert.Nf.sig) → Buf (Elt Bits) ℓ) (g : Dev Cert.Nf.nD → PrngReg), Pre_Nf m →
    θ_run (Cert.Nf.defs (F := Bits)) (onTc (τ := Cert.Nf.τ) (Cert.Nf.main (F := Bits))) ⟨m, fun _ => 0, g⟩ (fun r => (∀ c : Dev Cert.Nf.nD,
      r.2.mem ((c.tc : Thread Cert.Nf.nD Cert.Nf.τ).loc Cert.Nf.main_arg0) = m ((c.tc : Thread Cert.Nf.nD Cert.Nf.τ).loc Cert.Nf.main_arg0)
      ∧ r.2.mem ((c.tc : Thread Cert.Nf.nD Cert.Nf.τ).loc Cert.Nf.main_arg1) = m ((c.tc : Thread Cert.Nf.nD Cert.Nf.τ).loc Cert.Nf.main_arg1)
      ∧ r.2.mem ((c.tc : Thread Cert.Nf.nD Cert.Nf.τ).loc Cert.Nf.main_arg2) = m ((c.tc : Thread Cert.Nf.nD Cert.Nf.τ).loc Cert.Nf.main_arg2)
      ∧ r.2.mem ((c.tc : Thread Cert.Nf.nD Cert.Nf.τ).loc Cert.Nf.main_arg3) = m ((c.tc : Thread Cert.Nf.nD Cert.Nf.τ).loc Cert.Nf.main_arg3))
      ∧ r.2.sem = fun _ => 0)

def quiescent_NfIdeal [hNfIdeal : Cert.NfIdeal.Facts] : Prop :=
  ∀ (m : (ℓ : Loc Cert.NfIdeal.nD Cert.NfIdeal.τ Cert.NfIdeal.sig) → Buf (Elt Ideal) ℓ) (g : Dev Cert.NfIdeal.nD → PrngReg), Pre_NfIdeal m →
    θ_run (Cert.NfIdeal.defs (F := Ideal)) (onTc (τ := Cert.NfIdeal.τ) (Cert.NfIdeal.main (F := Ideal))) ⟨m, fun _ => 0, g⟩ (fun r => (∀ c : Dev Cert.NfIdeal.nD,
      r.2.mem ((c.tc : Thread Cert.NfIdeal.nD Cert.NfIdeal.τ).loc Cert.NfIdeal.main_arg0) = m ((c.tc : Thread Cert.NfIdeal.nD Cert.NfIdeal.τ).loc Cert.NfIdeal.main_arg0)
      ∧ r.2.mem ((c.tc : Thread Cert.NfIdeal.nD Cert.NfIdeal.τ).loc Cert.NfIdeal.main_arg1) = m ((c.tc : Thread Cert.NfIdeal.nD Cert.NfIdeal.τ).loc Cert.NfIdeal.main_arg1)
      ∧ r.2.mem ((c.tc : Thread Cert.NfIdeal.nD Cert.NfIdeal.τ).loc Cert.NfIdeal.main_arg2) = m ((c.tc : Thread Cert.NfIdeal.nD Cert.NfIdeal.τ).loc Cert.NfIdeal.main_arg2)
      ∧ r.2.mem ((c.tc : Thread Cert.NfIdeal.nD Cert.NfIdeal.τ).loc Cert.NfIdeal.main_arg3) = m ((c.tc : Thread Cert.NfIdeal.nD Cert.NfIdeal.τ).loc Cert.NfIdeal.main_arg3))
      ∧ r.2.sem = fun _ => 0)

def quiescent_NfRefIdeal [hNfRefIdeal : Cert.NfRefIdeal.Facts] : Prop :=
  ∀ (m : (ℓ : Loc Cert.NfRefIdeal.nD Cert.NfRefIdeal.τ Cert.NfRefIdeal.sig) → Buf (Elt Ideal) ℓ) (g : Dev Cert.NfRefIdeal.nD → PrngReg), Pre_NfRefIdeal m →
    θ_run (Cert.NfRefIdeal.defs (F := Ideal)) (onTc (τ := Cert.NfRefIdeal.τ) (Cert.NfRefIdeal.main (F := Ideal))) ⟨m, fun _ => 0, g⟩ (fun r => (∀ c : Dev Cert.NfRefIdeal.nD,
      r.2.mem ((c.tc : Thread Cert.NfRefIdeal.nD Cert.NfRefIdeal.τ).loc Cert.NfRefIdeal.main_arg0) = m ((c.tc : Thread Cert.NfRefIdeal.nD Cert.NfRefIdeal.τ).loc Cert.NfRefIdeal.main_arg0)
      ∧ r.2.mem ((c.tc : Thread Cert.NfRefIdeal.nD Cert.NfRefIdeal.τ).loc Cert.NfRefIdeal.main_arg1) = m ((c.tc : Thread Cert.NfRefIdeal.nD Cert.NfRefIdeal.τ).loc Cert.NfRefIdeal.main_arg1)
      ∧ r.2.mem ((c.tc : Thread Cert.NfRefIdeal.nD Cert.NfRefIdeal.τ).loc Cert.NfRefIdeal.main_arg2) = m ((c.tc : Thread Cert.NfRefIdeal.nD Cert.NfRefIdeal.τ).loc Cert.NfRefIdeal.main_arg2)
      ∧ r.2.mem ((c.tc : Thread Cert.NfRefIdeal.nD Cert.NfRefIdeal.τ).loc Cert.NfRefIdeal.main_arg3) = m ((c.tc : Thread Cert.NfRefIdeal.nD Cert.NfRefIdeal.τ).loc Cert.NfRefIdeal.main_arg3))
      ∧ r.2.sem = fun _ => 0)

def quiescent_Pf [hPf : Cert.Pf.Facts] : Prop :=
  ∀ (m : (ℓ : Loc Cert.Pf.nD Cert.Pf.τ Cert.Pf.sig) → Buf (Elt Bits) ℓ) (g : Dev Cert.Pf.nD → PrngReg), Pre_Pf m →
    θ_run (Cert.Pf.defs (F := Bits)) (onTc (τ := Cert.Pf.τ) (Cert.Pf.main (F := Bits))) ⟨m, fun _ => 0, g⟩ (fun r => (∀ c : Dev Cert.Pf.nD,
      r.2.mem ((c.tc : Thread Cert.Pf.nD Cert.Pf.τ).loc Cert.Pf.main_arg0) = m ((c.tc : Thread Cert.Pf.nD Cert.Pf.τ).loc Cert.Pf.main_arg0)
      ∧ r.2.mem ((c.tc : Thread Cert.Pf.nD Cert.Pf.τ).loc Cert.Pf.main_arg1) = m ((c.tc : Thread Cert.Pf.nD Cert.Pf.τ).loc Cert.Pf.main_arg1)
      ∧ r.2.mem ((c.tc : Thread Cert.Pf.nD Cert.Pf.τ).loc Cert.Pf.main_arg2) = m ((c.tc : Thread Cert.Pf.nD Cert.Pf.τ).loc Cert.Pf.main_arg2)
      ∧ r.2.mem ((c.tc : Thread Cert.Pf.nD Cert.Pf.τ).loc Cert.Pf.main_arg3) = m ((c.tc : Thread Cert.Pf.nD Cert.Pf.τ).loc Cert.Pf.main_arg3))
      ∧ r.2.sem = fun _ => 0)

def quiescent_PfIdeal [hPfIdeal : Cert.PfIdeal.Facts] : Prop :=
  ∀ (m : (ℓ : Loc Cert.PfIdeal.nD Cert.PfIdeal.τ Cert.PfIdeal.sig) → Buf (Elt Ideal) ℓ) (g : Dev Cert.PfIdeal.nD → PrngReg), Pre_PfIdeal m →
    θ_run (Cert.PfIdeal.defs (F := Ideal)) (onTc (τ := Cert.PfIdeal.τ) (Cert.PfIdeal.main (F := Ideal))) ⟨m, fun _ => 0, g⟩ (fun r => (∀ c : Dev Cert.PfIdeal.nD,
      r.2.mem ((c.tc : Thread Cert.PfIdeal.nD Cert.PfIdeal.τ).loc Cert.PfIdeal.main_arg0) = m ((c.tc : Thread Cert.PfIdeal.nD Cert.PfIdeal.τ).loc Cert.PfIdeal.main_arg0)
      ∧ r.2.mem ((c.tc : Thread Cert.PfIdeal.nD Cert.PfIdeal.τ).loc Cert.PfIdeal.main_arg1) = m ((c.tc : Thread Cert.PfIdeal.nD Cert.PfIdeal.τ).loc Cert.PfIdeal.main_arg1)
      ∧ r.2.mem ((c.tc : Thread Cert.PfIdeal.nD Cert.PfIdeal.τ).loc Cert.PfIdeal.main_arg2) = m ((c.tc : Thread Cert.PfIdeal.nD Cert.PfIdeal.τ).loc Cert.PfIdeal.main_arg2)
      ∧ r.2.mem ((c.tc : Thread Cert.PfIdeal.nD Cert.PfIdeal.τ).loc Cert.PfIdeal.main_arg3) = m ((c.tc : Thread Cert.PfIdeal.nD Cert.PfIdeal.τ).loc Cert.PfIdeal.main_arg3))
      ∧ r.2.sem = fun _ => 0)

def quiescent_PfRefIdeal [hPfRefIdeal : Cert.PfRefIdeal.Facts] : Prop :=
  ∀ (m : (ℓ : Loc Cert.PfRefIdeal.nD Cert.PfRefIdeal.τ Cert.PfRefIdeal.sig) → Buf (Elt Ideal) ℓ) (g : Dev Cert.PfRefIdeal.nD → PrngReg), Pre_PfRefIdeal m →
    θ_run (Cert.PfRefIdeal.defs (F := Ideal)) (onTc (τ := Cert.PfRefIdeal.τ) (Cert.PfRefIdeal.main (F := Ideal))) ⟨m, fun _ => 0, g⟩ (fun r => (∀ c : Dev Cert.PfRefIdeal.nD,
      r.2.mem ((c.tc : Thread Cert.PfRefIdeal.nD Cert.PfRefIdeal.τ).loc Cert.PfRefIdeal.main_arg0) = m ((c.tc : Thread Cert.PfRefIdeal.nD Cert.PfRefIdeal.τ).loc Cert.PfRefIdeal.main_arg0)
      ∧ r.2.mem ((c.tc : Thread Cert.PfRefIdeal.nD Cert.PfRefIdeal.τ).loc Cert.PfRefIdeal.main_arg1) = m ((c.tc : Thread Cert.PfRefIdeal.nD Cert.PfRefIdeal.τ).loc Cert.PfRefIdeal.main_arg1)
      ∧ r.2.mem ((c.tc : Thread Cert.PfRefIdeal.nD Cert.PfRefIdeal.τ).loc Cert.PfRefIdeal.main_arg2) = m ((c.tc : Thread Cert.PfRefIdeal.nD Cert.PfRefIdeal.τ).loc Cert.PfRefIdeal.main_arg2)
      ∧ r.2.mem ((c.tc : Thread Cert.PfRefIdeal.nD Cert.PfRefIdeal.τ).loc Cert.PfRefIdeal.main_arg3) = m ((c.tc : Thread Cert.PfRefIdeal.nD Cert.PfRefIdeal.τ).loc Cert.PfRefIdeal.main_arg3))
      ∧ r.2.sem = fun _ => 0)

def quiescent_Lo [hLo : Cert.Lo.Facts] : Prop :=
  ∀ (m : (ℓ : Loc Cert.Lo.nD Cert.Lo.τ Cert.Lo.sig) → Buf (Elt Bits) ℓ) (g : Dev Cert.Lo.nD → PrngReg), Pre_Lo m →
    θ_run (Cert.Lo.defs (F := Bits)) (onTc (τ := Cert.Lo.τ) (Cert.Lo.main (F := Bits))) ⟨m, fun _ => 0, g⟩ (fun r => (∀ c : Dev Cert.Lo.nD,
      r.2.mem ((c.tc : Thread Cert.Lo.nD Cert.Lo.τ).loc Cert.Lo.main_arg0) = m ((c.tc : Thread Cert.Lo.nD Cert.Lo.τ).loc Cert.Lo.main_arg0)
      ∧ r.2.mem ((c.tc : Thread Cert.Lo.nD Cert.Lo.τ).loc Cert.Lo.main_arg1) = m ((c.tc : Thread Cert.Lo.nD Cert.Lo.τ).loc Cert.Lo.main_arg1))
      ∧ r.2.sem = fun _ => 0)

def quiescent_LoIdeal [hLoIdeal : Cert.LoIdeal.Facts] : Prop :=
  ∀ (m : (ℓ : Loc Cert.LoIdeal.nD Cert.LoIdeal.τ Cert.LoIdeal.sig) → Buf (Elt Ideal) ℓ) (g : Dev Cert.LoIdeal.nD → PrngReg), Pre_LoIdeal m →
    θ_run (Cert.LoIdeal.defs (F := Ideal)) (onTc (τ := Cert.LoIdeal.τ) (Cert.LoIdeal.main (F := Ideal))) ⟨m, fun _ => 0, g⟩ (fun r => (∀ c : Dev Cert.LoIdeal.nD,
      r.2.mem ((c.tc : Thread Cert.LoIdeal.nD Cert.LoIdeal.τ).loc Cert.LoIdeal.main_arg0) = m ((c.tc : Thread Cert.LoIdeal.nD Cert.LoIdeal.τ).loc Cert.LoIdeal.main_arg0)
      ∧ r.2.mem ((c.tc : Thread Cert.LoIdeal.nD Cert.LoIdeal.τ).loc Cert.LoIdeal.main_arg1) = m ((c.tc : Thread Cert.LoIdeal.nD Cert.LoIdeal.τ).loc Cert.LoIdeal.main_arg1))
      ∧ r.2.sem = fun _ => 0)

def quiescent_LoRefIdeal [hLoRefIdeal : Cert.LoRefIdeal.Facts] : Prop :=
  ∀ (m : (ℓ : Loc Cert.LoRefIdeal.nD Cert.LoRefIdeal.τ Cert.LoRefIdeal.sig) → Buf (Elt Ideal) ℓ) (g : Dev Cert.LoRefIdeal.nD → PrngReg), Pre_LoRefIdeal m →
    θ_run (Cert.LoRefIdeal.defs (F := Ideal)) (onTc (τ := Cert.LoRefIdeal.τ) (Cert.LoRefIdeal.main (F := Ideal))) ⟨m, fun _ => 0, g⟩ (fun r => (∀ c : Dev Cert.LoRefIdeal.nD,
      r.2.mem ((c.tc : Thread Cert.LoRefIdeal.nD Cert.LoRefIdeal.τ).loc Cert.LoRefIdeal.main_arg0) = m ((c.tc : Thread Cert.LoRefIdeal.nD Cert.LoRefIdeal.τ).loc Cert.LoRefIdeal.main_arg0)
      ∧ r.2.mem ((c.tc : Thread Cert.LoRefIdeal.nD Cert.LoRefIdeal.τ).loc Cert.LoRefIdeal.main_arg1) = m ((c.tc : Thread Cert.LoRefIdeal.nD Cert.LoRefIdeal.τ).loc Cert.LoRefIdeal.main_arg1))
      ∧ r.2.sem = fun _ => 0)

def quiescent_Ai [hAi : Cert.Ai.Facts] : Prop :=
  ∀ (m : (ℓ : Loc Cert.Ai.nD Cert.Ai.τ Cert.Ai.sig) → Buf (Elt Bits) ℓ) (g : Dev Cert.Ai.nD → PrngReg), Pre_Ai m →
    θ_run (Cert.Ai.defs (F := Bits)) (onTc (τ := Cert.Ai.τ) (Cert.Ai.main (F := Bits))) ⟨m, fun _ => 0, g⟩ (fun r => (∀ c : Dev Cert.Ai.nD,
      r.2.mem ((c.tc : Thread Cert.Ai.nD Cert.Ai.τ).loc Cert.Ai.main_arg0) = m ((c.tc : Thread Cert.Ai.nD Cert.Ai.τ).loc Cert.Ai.main_arg0)
      ∧ r.2.mem ((c.tc : Thread Cert.Ai.nD Cert.Ai.τ).loc Cert.Ai.main_arg1) = m ((c.tc : Thread Cert.Ai.nD Cert.Ai.τ).loc Cert.Ai.main_arg1)
      ∧ r.2.mem ((c.tc : Thread Cert.Ai.nD Cert.Ai.τ).loc Cert.Ai.main_arg2) = m ((c.tc : Thread Cert.Ai.nD Cert.Ai.τ).loc Cert.Ai.main_arg2)
      ∧ r.2.mem ((c.tc : Thread Cert.Ai.nD Cert.Ai.τ).loc Cert.Ai.main_arg3) = m ((c.tc : Thread Cert.Ai.nD Cert.Ai.τ).loc Cert.Ai.main_arg3))
      ∧ r.2.sem = fun _ => 0)

def quiescent_AiIdeal [hAiIdeal : Cert.AiIdeal.Facts] : Prop :=
  ∀ (m : (ℓ : Loc Cert.AiIdeal.nD Cert.AiIdeal.τ Cert.AiIdeal.sig) → Buf (Elt Ideal) ℓ) (g : Dev Cert.AiIdeal.nD → PrngReg), Pre_AiIdeal m →
    θ_run (Cert.AiIdeal.defs (F := Ideal)) (onTc (τ := Cert.AiIdeal.τ) (Cert.AiIdeal.main (F := Ideal))) ⟨m, fun _ => 0, g⟩ (fun r => (∀ c : Dev Cert.AiIdeal.nD,
      r.2.mem ((c.tc : Thread Cert.AiIdeal.nD Cert.AiIdeal.τ).loc Cert.AiIdeal.main_arg0) = m ((c.tc : Thread Cert.AiIdeal.nD Cert.AiIdeal.τ).loc Cert.AiIdeal.main_arg0)
      ∧ r.2.mem ((c.tc : Thread Cert.AiIdeal.nD Cert.AiIdeal.τ).loc Cert.AiIdeal.main_arg1) = m ((c.tc : Thread Cert.AiIdeal.nD Cert.AiIdeal.τ).loc Cert.AiIdeal.main_arg1)
      ∧ r.2.mem ((c.tc : Thread Cert.AiIdeal.nD Cert.AiIdeal.τ).loc Cert.AiIdeal.main_arg2) = m ((c.tc : Thread Cert.AiIdeal.nD Cert.AiIdeal.τ).loc Cert.AiIdeal.main_arg2)
      ∧ r.2.mem ((c.tc : Thread Cert.AiIdeal.nD Cert.AiIdeal.τ).loc Cert.AiIdeal.main_arg3) = m ((c.tc : Thread Cert.AiIdeal.nD Cert.AiIdeal.τ).loc Cert.AiIdeal.main_arg3))
      ∧ r.2.sem = fun _ => 0)

def quiescent_AiRefIdeal [hAiRefIdeal : Cert.AiRefIdeal.Facts] : Prop :=
  ∀ (m : (ℓ : Loc Cert.AiRefIdeal.nD Cert.AiRefIdeal.τ Cert.AiRefIdeal.sig) → Buf (Elt Ideal) ℓ) (g : Dev Cert.AiRefIdeal.nD → PrngReg), Pre_AiRefIdeal m →
    θ_run (Cert.AiRefIdeal.defs (F := Ideal)) (onTc (τ := Cert.AiRefIdeal.τ) (Cert.AiRefIdeal.main (F := Ideal))) ⟨m, fun _ => 0, g⟩ (fun r => (∀ c : Dev Cert.AiRefIdeal.nD,
      r.2.mem ((c.tc : Thread Cert.AiRefIdeal.nD Cert.AiRefIdeal.τ).loc Cert.AiRefIdeal.main_arg0) = m ((c.tc : Thread Cert.AiRefIdeal.nD Cert.AiRefIdeal.τ).loc Cert.AiRefIdeal.main_arg0)
      ∧ r.2.mem ((c.tc : Thread Cert.AiRefIdeal.nD Cert.AiRefIdeal.τ).loc Cert.AiRefIdeal.main_arg1) = m ((c.tc : Thread Cert.AiRefIdeal.nD Cert.AiRefIdeal.τ).loc Cert.AiRefIdeal.main_arg1)
      ∧ r.2.mem ((c.tc : Thread Cert.AiRefIdeal.nD Cert.AiRefIdeal.τ).loc Cert.AiRefIdeal.main_arg2) = m ((c.tc : Thread Cert.AiRefIdeal.nD Cert.AiRefIdeal.τ).loc Cert.AiRefIdeal.main_arg2)
      ∧ r.2.mem ((c.tc : Thread Cert.AiRefIdeal.nD Cert.AiRefIdeal.τ).loc Cert.AiRefIdeal.main_arg3) = m ((c.tc : Thread Cert.AiRefIdeal.nD Cert.AiRefIdeal.τ).loc Cert.AiRefIdeal.main_arg3))
      ∧ r.2.sem = fun _ => 0)

def quiescent_Ap [hAp : Cert.Ap.Facts] : Prop :=
  ∀ (m : (ℓ : Loc Cert.Ap.nD Cert.Ap.τ Cert.Ap.sig) → Buf (Elt Bits) ℓ) (g : Dev Cert.Ap.nD → PrngReg), Pre_Ap m →
    θ_run (Cert.Ap.defs (F := Bits)) (onTc (τ := Cert.Ap.τ) (Cert.Ap.main (F := Bits))) ⟨m, fun _ => 0, g⟩ (fun r => (∀ c : Dev Cert.Ap.nD,
      r.2.mem ((c.tc : Thread Cert.Ap.nD Cert.Ap.τ).loc Cert.Ap.main_arg0) = m ((c.tc : Thread Cert.Ap.nD Cert.Ap.τ).loc Cert.Ap.main_arg0)
      ∧ r.2.mem ((c.tc : Thread Cert.Ap.nD Cert.Ap.τ).loc Cert.Ap.main_arg1) = m ((c.tc : Thread Cert.Ap.nD Cert.Ap.τ).loc Cert.Ap.main_arg1)
      ∧ r.2.mem ((c.tc : Thread Cert.Ap.nD Cert.Ap.τ).loc Cert.Ap.main_arg2) = m ((c.tc : Thread Cert.Ap.nD Cert.Ap.τ).loc Cert.Ap.main_arg2)
      ∧ r.2.mem ((c.tc : Thread Cert.Ap.nD Cert.Ap.τ).loc Cert.Ap.main_arg3) = m ((c.tc : Thread Cert.Ap.nD Cert.Ap.τ).loc Cert.Ap.main_arg3))
      ∧ r.2.sem = fun _ => 0)

def quiescent_ApIdeal [hApIdeal : Cert.ApIdeal.Facts] : Prop :=
  ∀ (m : (ℓ : Loc Cert.ApIdeal.nD Cert.ApIdeal.τ Cert.ApIdeal.sig) → Buf (Elt Ideal) ℓ) (g : Dev Cert.ApIdeal.nD → PrngReg), Pre_ApIdeal m →
    θ_run (Cert.ApIdeal.defs (F := Ideal)) (onTc (τ := Cert.ApIdeal.τ) (Cert.ApIdeal.main (F := Ideal))) ⟨m, fun _ => 0, g⟩ (fun r => (∀ c : Dev Cert.ApIdeal.nD,
      r.2.mem ((c.tc : Thread Cert.ApIdeal.nD Cert.ApIdeal.τ).loc Cert.ApIdeal.main_arg0) = m ((c.tc : Thread Cert.ApIdeal.nD Cert.ApIdeal.τ).loc Cert.ApIdeal.main_arg0)
      ∧ r.2.mem ((c.tc : Thread Cert.ApIdeal.nD Cert.ApIdeal.τ).loc Cert.ApIdeal.main_arg1) = m ((c.tc : Thread Cert.ApIdeal.nD Cert.ApIdeal.τ).loc Cert.ApIdeal.main_arg1)
      ∧ r.2.mem ((c.tc : Thread Cert.ApIdeal.nD Cert.ApIdeal.τ).loc Cert.ApIdeal.main_arg2) = m ((c.tc : Thread Cert.ApIdeal.nD Cert.ApIdeal.τ).loc Cert.ApIdeal.main_arg2)
      ∧ r.2.mem ((c.tc : Thread Cert.ApIdeal.nD Cert.ApIdeal.τ).loc Cert.ApIdeal.main_arg3) = m ((c.tc : Thread Cert.ApIdeal.nD Cert.ApIdeal.τ).loc Cert.ApIdeal.main_arg3))
      ∧ r.2.sem = fun _ => 0)

def quiescent_ApRefIdeal [hApRefIdeal : Cert.ApRefIdeal.Facts] : Prop :=
  ∀ (m : (ℓ : Loc Cert.ApRefIdeal.nD Cert.ApRefIdeal.τ Cert.ApRefIdeal.sig) → Buf (Elt Ideal) ℓ) (g : Dev Cert.ApRefIdeal.nD → PrngReg), Pre_ApRefIdeal m →
    θ_run (Cert.ApRefIdeal.defs (F := Ideal)) (onTc (τ := Cert.ApRefIdeal.τ) (Cert.ApRefIdeal.main (F := Ideal))) ⟨m, fun _ => 0, g⟩ (fun r => (∀ c : Dev Cert.ApRefIdeal.nD,
      r.2.mem ((c.tc : Thread Cert.ApRefIdeal.nD Cert.ApRefIdeal.τ).loc Cert.ApRefIdeal.main_arg0) = m ((c.tc : Thread Cert.ApRefIdeal.nD Cert.ApRefIdeal.τ).loc Cert.ApRefIdeal.main_arg0)
      ∧ r.2.mem ((c.tc : Thread Cert.ApRefIdeal.nD Cert.ApRefIdeal.τ).loc Cert.ApRefIdeal.main_arg1) = m ((c.tc : Thread Cert.ApRefIdeal.nD Cert.ApRefIdeal.τ).loc Cert.ApRefIdeal.main_arg1)
      ∧ r.2.mem ((c.tc : Thread Cert.ApRefIdeal.nD Cert.ApRefIdeal.τ).loc Cert.ApRefIdeal.main_arg2) = m ((c.tc : Thread Cert.ApRefIdeal.nD Cert.ApRefIdeal.τ).loc Cert.ApRefIdeal.main_arg2)
      ∧ r.2.mem ((c.tc : Thread Cert.ApRefIdeal.nD Cert.ApRefIdeal.τ).loc Cert.ApRefIdeal.main_arg3) = m ((c.tc : Thread Cert.ApRefIdeal.nD Cert.ApRefIdeal.τ).loc Cert.ApRefIdeal.main_arg3))
      ∧ r.2.sem = fun _ => 0)

def quiescent_Aq [hAq : Cert.Aq.Facts] : Prop :=
  ∀ (m : (ℓ : Loc Cert.Aq.nD Cert.Aq.τ Cert.Aq.sig) → Buf (Elt Bits) ℓ) (g : Dev Cert.Aq.nD → PrngReg), Pre_Aq m →
    θ_run (Cert.Aq.defs (F := Bits)) (onTc (τ := Cert.Aq.τ) (Cert.Aq.main (F := Bits))) ⟨m, fun _ => 0, g⟩ (fun r => (∀ c : Dev Cert.Aq.nD,
      r.2.mem ((c.tc : Thread Cert.Aq.nD Cert.Aq.τ).loc Cert.Aq.main_arg0) = m ((c.tc : Thread Cert.Aq.nD Cert.Aq.τ).loc Cert.Aq.main_arg0)
      ∧ r.2.mem ((c.tc : Thread Cert.Aq.nD Cert.Aq.τ).loc Cert.Aq.main_arg1) = m ((c.tc : Thread Cert.Aq.nD Cert.Aq.τ).loc Cert.Aq.main_arg1)
      ∧ r.2.mem ((c.tc : Thread Cert.Aq.nD Cert.Aq.τ).loc Cert.Aq.main_arg2) = m ((c.tc : Thread Cert.Aq.nD Cert.Aq.τ).loc Cert.Aq.main_arg2)
      ∧ r.2.mem ((c.tc : Thread Cert.Aq.nD Cert.Aq.τ).loc Cert.Aq.main_arg3) = m ((c.tc : Thread Cert.Aq.nD Cert.Aq.τ).loc Cert.Aq.main_arg3))
      ∧ r.2.sem = fun _ => 0)

def quiescent_AqIdeal [hAqIdeal : Cert.AqIdeal.Facts] : Prop :=
  ∀ (m : (ℓ : Loc Cert.AqIdeal.nD Cert.AqIdeal.τ Cert.AqIdeal.sig) → Buf (Elt Ideal) ℓ) (g : Dev Cert.AqIdeal.nD → PrngReg), Pre_AqIdeal m →
    θ_run (Cert.AqIdeal.defs (F := Ideal)) (onTc (τ := Cert.AqIdeal.τ) (Cert.AqIdeal.main (F := Ideal))) ⟨m, fun _ => 0, g⟩ (fun r => (∀ c : Dev Cert.AqIdeal.nD,
      r.2.mem ((c.tc : Thread Cert.AqIdeal.nD Cert.AqIdeal.τ).loc Cert.AqIdeal.main_arg0) = m ((c.tc : Thread Cert.AqIdeal.nD Cert.AqIdeal.τ).loc Cert.AqIdeal.main_arg0)
      ∧ r.2.mem ((c.tc : Thread Cert.AqIdeal.nD Cert.AqIdeal.τ).loc Cert.AqIdeal.main_arg1) = m ((c.tc : Thread Cert.AqIdeal.nD Cert.AqIdeal.τ).loc Cert.AqIdeal.main_arg1)
      ∧ r.2.mem ((c.tc : Thread Cert.AqIdeal.nD Cert.AqIdeal.τ).loc Cert.AqIdeal.main_arg2) = m ((c.tc : Thread Cert.AqIdeal.nD Cert.AqIdeal.τ).loc Cert.AqIdeal.main_arg2)
      ∧ r.2.mem ((c.tc : Thread Cert.AqIdeal.nD Cert.AqIdeal.τ).loc Cert.AqIdeal.main_arg3) = m ((c.tc : Thread Cert.AqIdeal.nD Cert.AqIdeal.τ).loc Cert.AqIdeal.main_arg3))
      ∧ r.2.sem = fun _ => 0)

def quiescent_AqRefIdeal [hAqRefIdeal : Cert.AqRefIdeal.Facts] : Prop :=
  ∀ (m : (ℓ : Loc Cert.AqRefIdeal.nD Cert.AqRefIdeal.τ Cert.AqRefIdeal.sig) → Buf (Elt Ideal) ℓ) (g : Dev Cert.AqRefIdeal.nD → PrngReg), Pre_AqRefIdeal m →
    θ_run (Cert.AqRefIdeal.defs (F := Ideal)) (onTc (τ := Cert.AqRefIdeal.τ) (Cert.AqRefIdeal.main (F := Ideal))) ⟨m, fun _ => 0, g⟩ (fun r => (∀ c : Dev Cert.AqRefIdeal.nD,
      r.2.mem ((c.tc : Thread Cert.AqRefIdeal.nD Cert.AqRefIdeal.τ).loc Cert.AqRefIdeal.main_arg0) = m ((c.tc : Thread Cert.AqRefIdeal.nD Cert.AqRefIdeal.τ).loc Cert.AqRefIdeal.main_arg0)
      ∧ r.2.mem ((c.tc : Thread Cert.AqRefIdeal.nD Cert.AqRefIdeal.τ).loc Cert.AqRefIdeal.main_arg1) = m ((c.tc : Thread Cert.AqRefIdeal.nD Cert.AqRefIdeal.τ).loc Cert.AqRefIdeal.main_arg1)
      ∧ r.2.mem ((c.tc : Thread Cert.AqRefIdeal.nD Cert.AqRefIdeal.τ).loc Cert.AqRefIdeal.main_arg2) = m ((c.tc : Thread Cert.AqRefIdeal.nD Cert.AqRefIdeal.τ).loc Cert.AqRefIdeal.main_arg2)
      ∧ r.2.mem ((c.tc : Thread Cert.AqRefIdeal.nD Cert.AqRefIdeal.τ).loc Cert.AqRefIdeal.main_arg3) = m ((c.tc : Thread Cert.AqRefIdeal.nD Cert.AqRefIdeal.τ).loc Cert.AqRefIdeal.main_arg3))
      ∧ r.2.sem = fun _ => 0)

def quiescent_Ao [hAo : Cert.Ao.Facts] : Prop :=
  ∀ (m : (ℓ : Loc Cert.Ao.nD Cert.Ao.τ Cert.Ao.sig) → Buf (Elt Bits) ℓ) (g : Dev Cert.Ao.nD → PrngReg), Pre_Ao m →
    θ_run (Cert.Ao.defs (F := Bits)) (onTc (τ := Cert.Ao.τ) (Cert.Ao.main (F := Bits))) ⟨m, fun _ => 0, g⟩ (fun r => (∀ c : Dev Cert.Ao.nD,
      r.2.mem ((c.tc : Thread Cert.Ao.nD Cert.Ao.τ).loc Cert.Ao.main_arg0) = m ((c.tc : Thread Cert.Ao.nD Cert.Ao.τ).loc Cert.Ao.main_arg0)
      ∧ r.2.mem ((c.tc : Thread Cert.Ao.nD Cert.Ao.τ).loc Cert.Ao.main_arg1) = m ((c.tc : Thread Cert.Ao.nD Cert.Ao.τ).loc Cert.Ao.main_arg1)
      ∧ r.2.mem ((c.tc : Thread Cert.Ao.nD Cert.Ao.τ).loc Cert.Ao.main_arg2) = m ((c.tc : Thread Cert.Ao.nD Cert.Ao.τ).loc Cert.Ao.main_arg2)
      ∧ r.2.mem ((c.tc : Thread Cert.Ao.nD Cert.Ao.τ).loc Cert.Ao.main_arg3) = m ((c.tc : Thread Cert.Ao.nD Cert.Ao.τ).loc Cert.Ao.main_arg3))
      ∧ r.2.sem = fun _ => 0)

def quiescent_AoIdeal [hAoIdeal : Cert.AoIdeal.Facts] : Prop :=
  ∀ (m : (ℓ : Loc Cert.AoIdeal.nD Cert.AoIdeal.τ Cert.AoIdeal.sig) → Buf (Elt Ideal) ℓ) (g : Dev Cert.AoIdeal.nD → PrngReg), Pre_AoIdeal m →
    θ_run (Cert.AoIdeal.defs (F := Ideal)) (onTc (τ := Cert.AoIdeal.τ) (Cert.AoIdeal.main (F := Ideal))) ⟨m, fun _ => 0, g⟩ (fun r => (∀ c : Dev Cert.AoIdeal.nD,
      r.2.mem ((c.tc : Thread Cert.AoIdeal.nD Cert.AoIdeal.τ).loc Cert.AoIdeal.main_arg0) = m ((c.tc : Thread Cert.AoIdeal.nD Cert.AoIdeal.τ).loc Cert.AoIdeal.main_arg0)
      ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
      ∧ r.2.mem ((c.tc : Thread Cert.AoIdeal.nD Cert.AoIdeal.τ).loc Cert.AoIdeal.main_arg2) = m ((c.tc : Thread Cert.AoIdeal.nD Cert.AoIdeal.τ).loc Cert.AoIdeal.main_arg2)
      ∧ r.2.mem ((c.tc : Thread Cert.AoIdeal.nD Cert.AoIdeal.τ).loc Cert.AoIdeal.main_arg3) = m ((c.tc : Thread Cert.AoIdeal.nD Cert.AoIdeal.τ).loc Cert.AoIdeal.main_arg3))
      ∧ r.2.sem = fun _ => 0)

def quiescent_AoRefIdeal [hAoRefIdeal : Cert.AoRefIdeal.Facts] : Prop :=
  ∀ (m : (ℓ : Loc Cert.AoRefIdeal.nD Cert.AoRefIdeal.τ Cert.AoRefIdeal.sig) → Buf (Elt Ideal) ℓ) (g : Dev Cert.AoRefIdeal.nD → PrngReg), Pre_AoRefIdeal m →
    θ_run (Cert.AoRefIdeal.defs (F := Ideal)) (onTc (τ := Cert.AoRefIdeal.τ) (Cert.AoRefIdeal.main (F := Ideal))) ⟨m, fun _ => 0, g⟩ (fun r => (∀ c : Dev Cert.AoRefIdeal.nD,
      r.2.mem ((c.tc : Thread Cert.AoRefIdeal.nD Cert.AoRefIdeal.τ).loc Cert.AoRefIdeal.main_arg0) = m ((c.tc : Thread Cert.AoRefIdeal.nD Cert.AoRefIdeal.τ).loc Cert.AoRefIdeal.main_arg0)
      ∧ r.2.mem ((c.tc : Thread Cert.AoRefIdeal.nD Cert.AoRefIdeal.τ).loc Cert.AoRefIdeal.main_arg1) = m ((c.tc : Thread Cert.AoRefIdeal.nD Cert.AoRefIdeal.τ).loc Cert.AoRefIdeal.main_arg1)
      ∧ r.2.mem ((c.tc : Thread Cert.AoRefIdeal.nD Cert.AoRefIdeal.τ).loc Cert.AoRefIdeal.main_arg2) = m ((c.tc : Thread Cert.AoRefIdeal.nD Cert.AoRefIdeal.τ).loc Cert.AoRefIdeal.main_arg2)
      ∧ r.2.mem ((c.tc : Thread Cert.AoRefIdeal.nD Cert.AoRefIdeal.τ).loc Cert.AoRefIdeal.main_arg3) = m ((c.tc : Thread Cert.AoRefIdeal.nD Cert.AoRefIdeal.τ).loc Cert.AoRefIdeal.main_arg3))
      ∧ r.2.sem = fun _ => 0)

def quiescent_Gi0 [hGi0 : Cert.Gi0.Facts] : Prop :=
  ∀ (m : (ℓ : Loc Cert.Gi0.nD Cert.Gi0.τ Cert.Gi0.sig) → Buf (Elt Bits) ℓ) (g : Dev Cert.Gi0.nD → PrngReg), Pre_Gi0 m →
    θ_run (Cert.Gi0.defs (F := Bits)) (onTc (τ := Cert.Gi0.τ) (Cert.Gi0.main (F := Bits))) ⟨m, fun _ => 0, g⟩ (fun r => (∀ c : Dev Cert.Gi0.nD,
      r.2.mem ((c.tc : Thread Cert.Gi0.nD Cert.Gi0.τ).loc Cert.Gi0.main_arg0) = m ((c.tc : Thread Cert.Gi0.nD Cert.Gi0.τ).loc Cert.Gi0.main_arg0)
      ∧ r.2.mem ((c.tc : Thread Cert.Gi0.nD Cert.Gi0.τ).loc Cert.Gi0.main_arg1) = m ((c.tc : Thread Cert.Gi0.nD Cert.Gi0.τ).loc Cert.Gi0.main_arg1)
      ∧ r.2.mem ((c.tc : Thread Cert.Gi0.nD Cert.Gi0.τ).loc Cert.Gi0.main_arg2) = m ((c.tc : Thread Cert.Gi0.nD Cert.Gi0.τ).loc Cert.Gi0.main_arg2))
      ∧ r.2.sem = fun _ => 0)

def quiescent_Gi0Ideal [hGi0Ideal : Cert.Gi0Ideal.Facts] : Prop :=
  ∀ (m : (ℓ : Loc Cert.Gi0Ideal.nD Cert.Gi0Ideal.τ Cert.Gi0Ideal.sig) → Buf (Elt Ideal) ℓ) (g : Dev Cert.Gi0Ideal.nD → PrngReg), Pre_Gi0Ideal m →
    θ_run (Cert.Gi0Ideal.defs (F := Ideal)) (onTc (τ := Cert.Gi0Ideal.τ) (Cert.Gi0Ideal.main (F := Ideal))) ⟨m, fun _ => 0, g⟩ (fun r => (∀ c : Dev Cert.Gi0Ideal.nD,
      r.2.mem ((c.tc : Thread Cert.Gi0Ideal.nD Cert.Gi0Ideal.τ).loc Cert.Gi0Ideal.main_arg0) = m ((c.tc : Thread Cert.Gi0Ideal.nD Cert.Gi0Ideal.τ).loc Cert.Gi0Ideal.main_arg0)
      ∧ r.2.mem ((c.tc : Thread Cert.Gi0Ideal.nD Cert.Gi0Ideal.τ).loc Cert.Gi0Ideal.main_arg1) = m ((c.tc : Thread Cert.Gi0Ideal.nD Cert.Gi0Ideal.τ).loc Cert.Gi0Ideal.main_arg1)
      ∧ r.2.mem ((c.tc : Thread Cert.Gi0Ideal.nD Cert.Gi0Ideal.τ).loc Cert.Gi0Ideal.main_arg2) = m ((c.tc : Thread Cert.Gi0Ideal.nD Cert.Gi0Ideal.τ).loc Cert.Gi0Ideal.main_arg2))
      ∧ r.2.sem = fun _ => 0)

def quiescent_Gi0RefIdeal [hGi0RefIdeal : Cert.Gi0RefIdeal.Facts] : Prop :=
  ∀ (m : (ℓ : Loc Cert.Gi0RefIdeal.nD Cert.Gi0RefIdeal.τ Cert.Gi0RefIdeal.sig) → Buf (Elt Ideal) ℓ) (g : Dev Cert.Gi0RefIdeal.nD → PrngReg), Pre_Gi0RefIdeal m →
    θ_run (Cert.Gi0RefIdeal.defs (F := Ideal)) (onTc (τ := Cert.Gi0RefIdeal.τ) (Cert.Gi0RefIdeal.main (F := Ideal))) ⟨m, fun _ => 0, g⟩ (fun r => (∀ c : Dev Cert.Gi0RefIdeal.nD,
      r.2.mem ((c.tc : Thread Cert.Gi0RefIdeal.nD Cert.Gi0RefIdeal.τ).loc Cert.Gi0RefIdeal.main_arg0) = m ((c.tc : Thread Cert.Gi0RefIdeal.nD Cert.Gi0RefIdeal.τ).loc Cert.Gi0RefIdeal.main_arg0)
      ∧ r.2.mem ((c.tc : Thread Cert.Gi0RefIdeal.nD Cert.Gi0RefIdeal.τ).loc Cert.Gi0RefIdeal.main_arg1) = m ((c.tc : Thread Cert.Gi0RefIdeal.nD Cert.Gi0RefIdeal.τ).loc Cert.Gi0RefIdeal.main_arg1)
      ∧ r.2.mem ((c.tc : Thread Cert.Gi0RefIdeal.nD Cert.Gi0RefIdeal.τ).loc Cert.Gi0RefIdeal.main_arg2) = m ((c.tc : Thread Cert.Gi0RefIdeal.nD Cert.Gi0RefIdeal.τ).loc Cert.Gi0RefIdeal.main_arg2))
      ∧ r.2.sem = fun _ => 0)

def quiescent_Gi1 [hGi1 : Cert.Gi1.Facts] : Prop :=
  ∀ (m : (ℓ : Loc Cert.Gi1.nD Cert.Gi1.τ Cert.Gi1.sig) → Buf (Elt Bits) ℓ) (g : Dev Cert.Gi1.nD → PrngReg), Pre_Gi1 m →
    θ_run (Cert.Gi1.defs (F := Bits)) (onTc (τ := Cert.Gi1.τ) (Cert.Gi1.main (F := Bits))) ⟨m, fun _ => 0, g⟩ (fun r => (∀ c : Dev Cert.Gi1.nD,
      r.2.mem ((c.tc : Thread Cert.Gi1.nD Cert.Gi1.τ).loc Cert.Gi1.main_arg0) = m ((c.tc : Thread Cert.Gi1.nD Cert.Gi1.τ).loc Cert.Gi1.main_arg0)
      ∧ r.2.mem ((c.tc : Thread Cert.Gi1.nD Cert.Gi1.τ).loc Cert.Gi1.main_arg1) = m ((c.tc : Thread Cert.Gi1.nD Cert.Gi1.τ).loc Cert.Gi1.main_arg1)
      ∧ r.2.mem ((c.tc : Thread Cert.Gi1.nD Cert.Gi1.τ).loc Cert.Gi1.main_arg2) = m ((c.tc : Thread Cert.Gi1.nD Cert.Gi1.τ).loc Cert.Gi1.main_arg2))
      ∧ r.2.sem = fun _ => 0)

def quiescent_Gi1Ideal [hGi1Ideal : Cert.Gi1Ideal.Facts] : Prop :=
  ∀ (m : (ℓ : Loc Cert.Gi1Ideal.nD Cert.Gi1Ideal.τ Cert.Gi1Ideal.sig) → Buf (Elt Ideal) ℓ) (g : Dev Cert.Gi1Ideal.nD → PrngReg), Pre_Gi1Ideal m →
    θ_run (Cert.Gi1Ideal.defs (F := Ideal)) (onTc (τ := Cert.Gi1Ideal.τ) (Cert.Gi1Ideal.main (F := Ideal))) ⟨m, fun _ => 0, g⟩ (fun r => (∀ c : Dev Cert.Gi1Ideal.nD,
      r.2.mem ((c.tc : Thread Cert.Gi1Ideal.nD Cert.Gi1Ideal.τ).loc Cert.Gi1Ideal.main_arg0) = m ((c.tc : Thread Cert.Gi1Ideal.nD Cert.Gi1Ideal.τ).loc Cert.Gi1Ideal.main_arg0)
      ∧ r.2.mem ((c.tc : Thread Cert.Gi1Ideal.nD Cert.Gi1Ideal.τ).loc Cert.Gi1Ideal.main_arg1) = m ((c.tc : Thread Cert.Gi1Ideal.nD Cert.Gi1Ideal.τ).loc Cert.Gi1Ideal.main_arg1)
      ∧ r.2.mem ((c.tc : Thread Cert.Gi1Ideal.nD Cert.Gi1Ideal.τ).loc Cert.Gi1Ideal.main_arg2) = m ((c.tc : Thread Cert.Gi1Ideal.nD Cert.Gi1Ideal.τ).loc Cert.Gi1Ideal.main_arg2))
      ∧ r.2.sem = fun _ => 0)

def quiescent_Gi1RefIdeal [hGi1RefIdeal : Cert.Gi1RefIdeal.Facts] : Prop :=
  ∀ (m : (ℓ : Loc Cert.Gi1RefIdeal.nD Cert.Gi1RefIdeal.τ Cert.Gi1RefIdeal.sig) → Buf (Elt Ideal) ℓ) (g : Dev Cert.Gi1RefIdeal.nD → PrngReg), Pre_Gi1RefIdeal m →
    θ_run (Cert.Gi1RefIdeal.defs (F := Ideal)) (onTc (τ := Cert.Gi1RefIdeal.τ) (Cert.Gi1RefIdeal.main (F := Ideal))) ⟨m, fun _ => 0, g⟩ (fun r => (∀ c : Dev Cert.Gi1RefIdeal.nD,
      r.2.mem ((c.tc : Thread Cert.Gi1RefIdeal.nD Cert.Gi1RefIdeal.τ).loc Cert.Gi1RefIdeal.main_arg0) = m ((c.tc : Thread Cert.Gi1RefIdeal.nD Cert.Gi1RefIdeal.τ).loc Cert.Gi1RefIdeal.main_arg0)
      ∧ r.2.mem ((c.tc : Thread Cert.Gi1RefIdeal.nD Cert.Gi1RefIdeal.τ).loc Cert.Gi1RefIdeal.main_arg1) = m ((c.tc : Thread Cert.Gi1RefIdeal.nD Cert.Gi1RefIdeal.τ).loc Cert.Gi1RefIdeal.main_arg1)
      ∧ r.2.mem ((c.tc : Thread Cert.Gi1RefIdeal.nD Cert.Gi1RefIdeal.τ).loc Cert.Gi1RefIdeal.main_arg2) = m ((c.tc : Thread Cert.Gi1RefIdeal.nD Cert.Gi1RefIdeal.τ).loc Cert.Gi1RefIdeal.main_arg2))
      ∧ r.2.sem = fun _ => 0)

def quiescent_Gi2 [hGi2 : Cert.Gi2.Facts] : Prop :=
  ∀ (m : (ℓ : Loc Cert.Gi2.nD Cert.Gi2.τ Cert.Gi2.sig) → Buf (Elt Bits) ℓ) (g : Dev Cert.Gi2.nD → PrngReg), Pre_Gi2 m →
    θ_run (Cert.Gi2.defs (F := Bits)) (onTc (τ := Cert.Gi2.τ) (Cert.Gi2.main (F := Bits))) ⟨m, fun _ => 0, g⟩ (fun r => (∀ c : Dev Cert.Gi2.nD,
      r.2.mem ((c.tc : Thread Cert.Gi2.nD Cert.Gi2.τ).loc Cert.Gi2.main_arg0) = m ((c.tc : Thread Cert.Gi2.nD Cert.Gi2.τ).loc Cert.Gi2.main_arg0)
      ∧ r.2.mem ((c.tc : Thread Cert.Gi2.nD Cert.Gi2.τ).loc Cert.Gi2.main_arg1) = m ((c.tc : Thread Cert.Gi2.nD Cert.Gi2.τ).loc Cert.Gi2.main_arg1)
      ∧ r.2.mem ((c.tc : Thread Cert.Gi2.nD Cert.Gi2.τ).loc Cert.Gi2.main_arg2) = m ((c.tc : Thread Cert.Gi2.nD Cert.Gi2.τ).loc Cert.Gi2.main_arg2))
      ∧ r.2.sem = fun _ => 0)

def quiescent_Gi2Ideal [hGi2Ideal : Cert.Gi2Ideal.Facts] : Prop :=
  ∀ (m : (ℓ : Loc Cert.Gi2Ideal.nD Cert.Gi2Ideal.τ Cert.Gi2Ideal.sig) → Buf (Elt Ideal) ℓ) (g : Dev Cert.Gi2Ideal.nD → PrngReg), Pre_Gi2Ideal m →
    θ_run (Cert.Gi2Ideal.defs (F := Ideal)) (onTc (τ := Cert.Gi2Ideal.τ) (Cert.Gi2Ideal.main (F := Ideal))) ⟨m, fun _ => 0, g⟩ (fun r => (∀ c : Dev Cert.Gi2Ideal.nD,
      r.2.mem ((c.tc : Thread Cert.Gi2Ideal.nD Cert.Gi2Ideal.τ).loc Cert.Gi2Ideal.main_arg0) = m ((c.tc : Thread Cert.Gi2Ideal.nD Cert.Gi2Ideal.τ).loc Cert.Gi2Ideal.main_arg0)
      ∧ r.2.mem ((c.tc : Thread Cert.Gi2Ideal.nD Cert.Gi2Ideal.τ).loc Cert.Gi2Ideal.main_arg1) = m ((c.tc : Thread Cert.Gi2Ideal.nD Cert.Gi2Ideal.τ).loc Cert.Gi2Ideal.main_arg1)
      ∧ r.2.mem ((c.tc : Thread Cert.Gi2Ideal.nD Cert.Gi2Ideal.τ).loc Cert.Gi2Ideal.main_arg2) = m ((c.tc : Thread Cert.Gi2Ideal.nD Cert.Gi2Ideal.τ).loc Cert.Gi2Ideal.main_arg2))
      ∧ r.2.sem = fun _ => 0)

def quiescent_Gi2RefIdeal [hGi2RefIdeal : Cert.Gi2RefIdeal.Facts] : Prop :=
  ∀ (m : (ℓ : Loc Cert.Gi2RefIdeal.nD Cert.Gi2RefIdeal.τ Cert.Gi2RefIdeal.sig) → Buf (Elt Ideal) ℓ) (g : Dev Cert.Gi2RefIdeal.nD → PrngReg), Pre_Gi2RefIdeal m →
    θ_run (Cert.Gi2RefIdeal.defs (F := Ideal)) (onTc (τ := Cert.Gi2RefIdeal.τ) (Cert.Gi2RefIdeal.main (F := Ideal))) ⟨m, fun _ => 0, g⟩ (fun r => (∀ c : Dev Cert.Gi2RefIdeal.nD,
      r.2.mem ((c.tc : Thread Cert.Gi2RefIdeal.nD Cert.Gi2RefIdeal.τ).loc Cert.Gi2RefIdeal.main_arg0) = m ((c.tc : Thread Cert.Gi2RefIdeal.nD Cert.Gi2RefIdeal.τ).loc Cert.Gi2RefIdeal.main_arg0)
      ∧ r.2.mem ((c.tc : Thread Cert.Gi2RefIdeal.nD Cert.Gi2RefIdeal.τ).loc Cert.Gi2RefIdeal.main_arg1) = m ((c.tc : Thread Cert.Gi2RefIdeal.nD Cert.Gi2RefIdeal.τ).loc Cert.Gi2RefIdeal.main_arg1)
      ∧ r.2.mem ((c.tc : Thread Cert.Gi2RefIdeal.nD Cert.Gi2RefIdeal.τ).loc Cert.Gi2RefIdeal.main_arg2) = m ((c.tc : Thread Cert.Gi2RefIdeal.nD Cert.Gi2RefIdeal.τ).loc Cert.Gi2RefIdeal.main_arg2))
      ∧ r.2.sem = fun _ => 0)

def quiescent_Gi3 [hGi3 : Cert.Gi3.Facts] : Prop :=
  ∀ (m : (ℓ : Loc Cert.Gi3.nD Cert.Gi3.τ Cert.Gi3.sig) → Buf (Elt Bits) ℓ) (g : Dev Cert.Gi3.nD → PrngReg), Pre_Gi3 m →
    θ_run (Cert.Gi3.defs (F := Bits)) (onTc (τ := Cert.Gi3.τ) (Cert.Gi3.main (F := Bits))) ⟨m, fun _ => 0, g⟩ (fun r => (∀ c : Dev Cert.Gi3.nD,
      r.2.mem ((c.tc : Thread Cert.Gi3.nD Cert.Gi3.τ).loc Cert.Gi3.main_arg0) = m ((c.tc : Thread Cert.Gi3.nD Cert.Gi3.τ).loc Cert.Gi3.main_arg0)
      ∧ r.2.mem ((c.tc : Thread Cert.Gi3.nD Cert.Gi3.τ).loc Cert.Gi3.main_arg1) = m ((c.tc : Thread Cert.Gi3.nD Cert.Gi3.τ).loc Cert.Gi3.main_arg1)
      ∧ r.2.mem ((c.tc : Thread Cert.Gi3.nD Cert.Gi3.τ).loc Cert.Gi3.main_arg2) = m ((c.tc : Thread Cert.Gi3.nD Cert.Gi3.τ).loc Cert.Gi3.main_arg2))
      ∧ r.2.sem = fun _ => 0)

def quiescent_Gi3Ideal [hGi3Ideal : Cert.Gi3Ideal.Facts] : Prop :=
  ∀ (m : (ℓ : Loc Cert.Gi3Ideal.nD Cert.Gi3Ideal.τ Cert.Gi3Ideal.sig) → Buf (Elt Ideal) ℓ) (g : Dev Cert.Gi3Ideal.nD → PrngReg), Pre_Gi3Ideal m →
    θ_run (Cert.Gi3Ideal.defs (F := Ideal)) (onTc (τ := Cert.Gi3Ideal.τ) (Cert.Gi3Ideal.main (F := Ideal))) ⟨m, fun _ => 0, g⟩ (fun r => (∀ c : Dev Cert.Gi3Ideal.nD,
      r.2.mem ((c.tc : Thread Cert.Gi3Ideal.nD Cert.Gi3Ideal.τ).loc Cert.Gi3Ideal.main_arg0) = m ((c.tc : Thread Cert.Gi3Ideal.nD Cert.Gi3Ideal.τ).loc Cert.Gi3Ideal.main_arg0)
      ∧ r.2.mem ((c.tc : Thread Cert.Gi3Ideal.nD Cert.Gi3Ideal.τ).loc Cert.Gi3Ideal.main_arg1) = m ((c.tc : Thread Cert.Gi3Ideal.nD Cert.Gi3Ideal.τ).loc Cert.Gi3Ideal.main_arg1)
      ∧ r.2.mem ((c.tc : Thread Cert.Gi3Ideal.nD Cert.Gi3Ideal.τ).loc Cert.Gi3Ideal.main_arg2) = m ((c.tc : Thread Cert.Gi3Ideal.nD Cert.Gi3Ideal.τ).loc Cert.Gi3Ideal.main_arg2))
      ∧ r.2.sem = fun _ => 0)

def quiescent_Gi3RefIdeal [hGi3RefIdeal : Cert.Gi3RefIdeal.Facts] : Prop :=
  ∀ (m : (ℓ : Loc Cert.Gi3RefIdeal.nD Cert.Gi3RefIdeal.τ Cert.Gi3RefIdeal.sig) → Buf (Elt Ideal) ℓ) (g : Dev Cert.Gi3RefIdeal.nD → PrngReg), Pre_Gi3RefIdeal m →
    θ_run (Cert.Gi3RefIdeal.defs (F := Ideal)) (onTc (τ := Cert.Gi3RefIdeal.τ) (Cert.Gi3RefIdeal.main (F := Ideal))) ⟨m, fun _ => 0, g⟩ (fun r => (∀ c : Dev Cert.Gi3RefIdeal.nD,
      r.2.mem ((c.tc : Thread Cert.Gi3RefIdeal.nD Cert.Gi3RefIdeal.τ).loc Cert.Gi3RefIdeal.main_arg0) = m ((c.tc : Thread Cert.Gi3RefIdeal.nD Cert.Gi3RefIdeal.τ).loc Cert.Gi3RefIdeal.main_arg0)
      ∧ r.2.mem ((c.tc : Thread Cert.Gi3RefIdeal.nD Cert.Gi3RefIdeal.τ).loc Cert.Gi3RefIdeal.main_arg1) = m ((c.tc : Thread Cert.Gi3RefIdeal.nD Cert.Gi3RefIdeal.τ).loc Cert.Gi3RefIdeal.main_arg1)
      ∧ r.2.mem ((c.tc : Thread Cert.Gi3RefIdeal.nD Cert.Gi3RefIdeal.τ).loc Cert.Gi3RefIdeal.main_arg2) = m ((c.tc : Thread Cert.Gi3RefIdeal.nD Cert.Gi3RefIdeal.τ).loc Cert.Gi3RefIdeal.main_arg2))
      ∧ r.2.sem = fun _ => 0)

def quiescent_Gi4 [hGi4 : Cert.Gi4.Facts] : Prop :=
  ∀ (m : (ℓ : Loc Cert.Gi4.nD Cert.Gi4.τ Cert.Gi4.sig) → Buf (Elt Bits) ℓ) (g : Dev Cert.Gi4.nD → PrngReg), Pre_Gi4 m →
    θ_run (Cert.Gi4.defs (F := Bits)) (onTc (τ := Cert.Gi4.τ) (Cert.Gi4.main (F := Bits))) ⟨m, fun _ => 0, g⟩ (fun r => (∀ c : Dev Cert.Gi4.nD,
      r.2.mem ((c.tc : Thread Cert.Gi4.nD Cert.Gi4.τ).loc Cert.Gi4.main_arg0) = m ((c.tc : Thread Cert.Gi4.nD Cert.Gi4.τ).loc Cert.Gi4.main_arg0)
      ∧ r.2.mem ((c.tc : Thread Cert.Gi4.nD Cert.Gi4.τ).loc Cert.Gi4.main_arg1) = m ((c.tc : Thread Cert.Gi4.nD Cert.Gi4.τ).loc Cert.Gi4.main_arg1)
      ∧ r.2.mem ((c.tc : Thread Cert.Gi4.nD Cert.Gi4.τ).loc Cert.Gi4.main_arg2) = m ((c.tc : Thread Cert.Gi4.nD Cert.Gi4.τ).loc Cert.Gi4.main_arg2))
      ∧ r.2.sem = fun _ => 0)

def quiescent_Gi4Ideal [hGi4Ideal : Cert.Gi4Ideal.Facts] : Prop :=
  ∀ (m : (ℓ : Loc Cert.Gi4Ideal.nD Cert.Gi4Ideal.τ Cert.Gi4Ideal.sig) → Buf (Elt Ideal) ℓ) (g : Dev Cert.Gi4Ideal.nD → PrngReg), Pre_Gi4Ideal m →
    θ_run (Cert.Gi4Ideal.defs (F := Ideal)) (onTc (τ := Cert.Gi4Ideal.τ) (Cert.Gi4Ideal.main (F := Ideal))) ⟨m, fun _ => 0, g⟩ (fun r => (∀ c : Dev Cert.Gi4Ideal.nD,
      r.2.mem ((c.tc : Thread Cert.Gi4Ideal.nD Cert.Gi4Ideal.τ).loc Cert.Gi4Ideal.main_arg0) = m ((c.tc : Thread Cert.Gi4Ideal.nD Cert.Gi4Ideal.τ).loc Cert.Gi4Ideal.main_arg0)
      ∧ r.2.mem ((c.tc : Thread Cert.Gi4Ideal.nD Cert.Gi4Ideal.τ).loc Cert.Gi4Ideal.main_arg1) = m ((c.tc : Thread Cert.Gi4Ideal.nD Cert.Gi4Ideal.τ).loc Cert.Gi4Ideal.main_arg1)
      ∧ r.2.mem ((c.tc : Thread Cert.Gi4Ideal.nD Cert.Gi4Ideal.τ).loc Cert.Gi4Ideal.main_arg2) = m ((c.tc : Thread Cert.Gi4Ideal.nD Cert.Gi4Ideal.τ).loc Cert.Gi4Ideal.main_arg2))
      ∧ r.2.sem = fun _ => 0)

def quiescent_Gi4RefIdeal [hGi4RefIdeal : Cert.Gi4RefIdeal.Facts] : Prop :=
  ∀ (m : (ℓ : Loc Cert.Gi4RefIdeal.nD Cert.Gi4RefIdeal.τ Cert.Gi4RefIdeal.sig) → Buf (Elt Ideal) ℓ) (g : Dev Cert.Gi4RefIdeal.nD → PrngReg), Pre_Gi4RefIdeal m →
    θ_run (Cert.Gi4RefIdeal.defs (F := Ideal)) (onTc (τ := Cert.Gi4RefIdeal.τ) (Cert.Gi4RefIdeal.main (F := Ideal))) ⟨m, fun _ => 0, g⟩ (fun r => (∀ c : Dev Cert.Gi4RefIdeal.nD,
      r.2.mem ((c.tc : Thread Cert.Gi4RefIdeal.nD Cert.Gi4RefIdeal.τ).loc Cert.Gi4RefIdeal.main_arg0) = m ((c.tc : Thread Cert.Gi4RefIdeal.nD Cert.Gi4RefIdeal.τ).loc Cert.Gi4RefIdeal.main_arg0)
      ∧ r.2.mem ((c.tc : Thread Cert.Gi4RefIdeal.nD Cert.Gi4RefIdeal.τ).loc Cert.Gi4RefIdeal.main_arg1) = m ((c.tc : Thread Cert.Gi4RefIdeal.nD Cert.Gi4RefIdeal.τ).loc Cert.Gi4RefIdeal.main_arg1)
      ∧ r.2.mem ((c.tc : Thread Cert.Gi4RefIdeal.nD Cert.Gi4RefIdeal.τ).loc Cert.Gi4RefIdeal.main_arg2) = m ((c.tc : Thread Cert.Gi4RefIdeal.nD Cert.Gi4RefIdeal.τ).loc Cert.Gi4RefIdeal.main_arg2))
      ∧ r.2.sem = fun _ => 0)

def quiescent_Gi5 [hGi5 : Cert.Gi5.Facts] : Prop :=
  ∀ (m : (ℓ : Loc Cert.Gi5.nD Cert.Gi5.τ Cert.Gi5.sig) → Buf (Elt Bits) ℓ) (g : Dev Cert.Gi5.nD → PrngReg), Pre_Gi5 m →
    θ_run (Cert.Gi5.defs (F := Bits)) (onTc (τ := Cert.Gi5.τ) (Cert.Gi5.main (F := Bits))) ⟨m, fun _ => 0, g⟩ (fun r => (∀ c : Dev Cert.Gi5.nD,
      r.2.mem ((c.tc : Thread Cert.Gi5.nD Cert.Gi5.τ).loc Cert.Gi5.main_arg0) = m ((c.tc : Thread Cert.Gi5.nD Cert.Gi5.τ).loc Cert.Gi5.main_arg0)
      ∧ r.2.mem ((c.tc : Thread Cert.Gi5.nD Cert.Gi5.τ).loc Cert.Gi5.main_arg1) = m ((c.tc : Thread Cert.Gi5.nD Cert.Gi5.τ).loc Cert.Gi5.main_arg1)
      ∧ r.2.mem ((c.tc : Thread Cert.Gi5.nD Cert.Gi5.τ).loc Cert.Gi5.main_arg2) = m ((c.tc : Thread Cert.Gi5.nD Cert.Gi5.τ).loc Cert.Gi5.main_arg2))
      ∧ r.2.sem = fun _ => 0)

def quiescent_Gi5Ideal [hGi5Ideal : Cert.Gi5Ideal.Facts] : Prop :=
  ∀ (m : (ℓ : Loc Cert.Gi5Ideal.nD Cert.Gi5Ideal.τ Cert.Gi5Ideal.sig) → Buf (Elt Ideal) ℓ) (g : Dev Cert.Gi5Ideal.nD → PrngReg), Pre_Gi5Ideal m →
    θ_run (Cert.Gi5Ideal.defs (F := Ideal)) (onTc (τ := Cert.Gi5Ideal.τ) (Cert.Gi5Ideal.main (F := Ideal))) ⟨m, fun _ => 0, g⟩ (fun r => (∀ c : Dev Cert.Gi5Ideal.nD,
      r.2.mem ((c.tc : Thread Cert.Gi5Ideal.nD Cert.Gi5Ideal.τ).loc Cert.Gi5Ideal.main_arg0) = m ((c.tc : Thread Cert.Gi5Ideal.nD Cert.Gi5Ideal.τ).loc Cert.Gi5Ideal.main_arg0)
      ∧ r.2.mem ((c.tc : Thread Cert.Gi5Ideal.nD Cert.Gi5Ideal.τ).loc Cert.Gi5Ideal.main_arg1) = m ((c.tc : Thread Cert.Gi5Ideal.nD Cert.Gi5Ideal.τ).loc Cert.Gi5Ideal.main_arg1)
      ∧ r.2.mem ((c.tc : Thread Cert.Gi5Ideal.nD Cert.Gi5Ideal.τ).loc Cert.Gi5Ideal.main_arg2) = m ((c.tc : Thread Cert.Gi5Ideal.nD Cert.Gi5Ideal.τ).loc Cert.Gi5Ideal.main_arg2))
      ∧ r.2.sem = fun _ => 0)

def quiescent_Gi5RefIdeal [hGi5RefIdeal : Cert.Gi5RefIdeal.Facts] : Prop :=
  ∀ (m : (ℓ : Loc Cert.Gi5RefIdeal.nD Cert.Gi5RefIdeal.τ Cert.Gi5RefIdeal.sig) → Buf (Elt Ideal) ℓ) (g : Dev Cert.Gi5RefIdeal.nD → PrngReg), Pre_Gi5RefIdeal m →
    θ_run (Cert.Gi5RefIdeal.defs (F := Ideal)) (onTc (τ := Cert.Gi5RefIdeal.τ) (Cert.Gi5RefIdeal.main (F := Ideal))) ⟨m, fun _ => 0, g⟩ (fun r => (∀ c : Dev Cert.Gi5RefIdeal.nD,
      r.2.mem ((c.tc : Thread Cert.Gi5RefIdeal.nD Cert.Gi5RefIdeal.τ).loc Cert.Gi5RefIdeal.main_arg0) = m ((c.tc : Thread Cert.Gi5RefIdeal.nD Cert.Gi5RefIdeal.τ).loc Cert.Gi5RefIdeal.main_arg0)
      ∧ r.2.mem ((c.tc : Thread Cert.Gi5RefIdeal.nD Cert.Gi5RefIdeal.τ).loc Cert.Gi5RefIdeal.main_arg1) = m ((c.tc : Thread Cert.Gi5RefIdeal.nD Cert.Gi5RefIdeal.τ).loc Cert.Gi5RefIdeal.main_arg1)
      ∧ r.2.mem ((c.tc : Thread Cert.Gi5RefIdeal.nD Cert.Gi5RefIdeal.τ).loc Cert.Gi5RefIdeal.main_arg2) = m ((c.tc : Thread Cert.Gi5RefIdeal.nD Cert.Gi5RefIdeal.τ).loc Cert.Gi5RefIdeal.main_arg2))
      ∧ r.2.sem = fun _ => 0)

def quiescent_Gi6 [hGi6 : Cert.Gi6.Facts] : Prop :=
  ∀ (m : (ℓ : Loc Cert.Gi6.nD Cert.Gi6.τ Cert.Gi6.sig) → Buf (Elt Bits) ℓ) (g : Dev Cert.Gi6.nD → PrngReg), Pre_Gi6 m →
    θ_run (Cert.Gi6.defs (F := Bits)) (onTc (τ := Cert.Gi6.τ) (Cert.Gi6.main (F := Bits))) ⟨m, fun _ => 0, g⟩ (fun r => (∀ c : Dev Cert.Gi6.nD,
      r.2.mem ((c.tc : Thread Cert.Gi6.nD Cert.Gi6.τ).loc Cert.Gi6.main_arg0) = m ((c.tc : Thread Cert.Gi6.nD Cert.Gi6.τ).loc Cert.Gi6.main_arg0)
      ∧ r.2.mem ((c.tc : Thread Cert.Gi6.nD Cert.Gi6.τ).loc Cert.Gi6.main_arg1) = m ((c.tc : Thread Cert.Gi6.nD Cert.Gi6.τ).loc Cert.Gi6.main_arg1)
      ∧ r.2.mem ((c.tc : Thread Cert.Gi6.nD Cert.Gi6.τ).loc Cert.Gi6.main_arg2) = m ((c.tc : Thread Cert.Gi6.nD Cert.Gi6.τ).loc Cert.Gi6.main_arg2))
      ∧ r.2.sem = fun _ => 0)

def quiescent_Gi6Ideal [hGi6Ideal : Cert.Gi6Ideal.Facts] : Prop :=
  ∀ (m : (ℓ : Loc Cert.Gi6Ideal.nD Cert.Gi6Ideal.τ Cert.Gi6Ideal.sig) → Buf (Elt Ideal) ℓ) (g : Dev Cert.Gi6Ideal.nD → PrngReg), Pre_Gi6Ideal m →
    θ_run (Cert.Gi6Ideal.defs (F := Ideal)) (onTc (τ := Cert.Gi6Ideal.τ) (Cert.Gi6Ideal.main (F := Ideal))) ⟨m, fun _ => 0, g⟩ (fun r => (∀ c : Dev Cert.Gi6Ideal.nD,
      r.2.mem ((c.tc : Thread Cert.Gi6Ideal.nD Cert.Gi6Ideal.τ).loc Cert.Gi6Ideal.main_arg0) = m ((c.tc : Thread Cert.Gi6Ideal.nD Cert.Gi6Ideal.τ).loc Cert.Gi6Ideal.main_arg0)
      ∧ r.2.mem ((c.tc : Thread Cert.Gi6Ideal.nD Cert.Gi6Ideal.τ).loc Cert.Gi6Ideal.main_arg1) = m ((c.tc : Thread Cert.Gi6Ideal.nD Cert.Gi6Ideal.τ).loc Cert.Gi6Ideal.main_arg1)
      ∧ r.2.mem ((c.tc : Thread Cert.Gi6Ideal.nD Cert.Gi6Ideal.τ).loc Cert.Gi6Ideal.main_arg2) = m ((c.tc : Thread Cert.Gi6Ideal.nD Cert.Gi6Ideal.τ).loc Cert.Gi6Ideal.main_arg2))
      ∧ r.2.sem = fun _ => 0)

def quiescent_Gi6RefIdeal [hGi6RefIdeal : Cert.Gi6RefIdeal.Facts] : Prop :=
  ∀ (m : (ℓ : Loc Cert.Gi6RefIdeal.nD Cert.Gi6RefIdeal.τ Cert.Gi6RefIdeal.sig) → Buf (Elt Ideal) ℓ) (g : Dev Cert.Gi6RefIdeal.nD → PrngReg), Pre_Gi6RefIdeal m →
    θ_run (Cert.Gi6RefIdeal.defs (F := Ideal)) (onTc (τ := Cert.Gi6RefIdeal.τ) (Cert.Gi6RefIdeal.main (F := Ideal))) ⟨m, fun _ => 0, g⟩ (fun r => (∀ c : Dev Cert.Gi6RefIdeal.nD,
      r.2.mem ((c.tc : Thread Cert.Gi6RefIdeal.nD Cert.Gi6RefIdeal.τ).loc Cert.Gi6RefIdeal.main_arg0) = m ((c.tc : Thread Cert.Gi6RefIdeal.nD Cert.Gi6RefIdeal.τ).loc Cert.Gi6RefIdeal.main_arg0)
      ∧ r.2.mem ((c.tc : Thread Cert.Gi6RefIdeal.nD Cert.Gi6RefIdeal.τ).loc Cert.Gi6RefIdeal.main_arg1) = m ((c.tc : Thread Cert.Gi6RefIdeal.nD Cert.Gi6RefIdeal.τ).loc Cert.Gi6RefIdeal.main_arg1)
      ∧ r.2.mem ((c.tc : Thread Cert.Gi6RefIdeal.nD Cert.Gi6RefIdeal.τ).loc Cert.Gi6RefIdeal.main_arg2) = m ((c.tc : Thread Cert.Gi6RefIdeal.nD Cert.Gi6RefIdeal.τ).loc Cert.Gi6RefIdeal.main_arg2))
      ∧ r.2.sem = fun _ => 0)

def quiescent_Gi7 [hGi7 : Cert.Gi7.Facts] : Prop :=
  ∀ (m : (ℓ : Loc Cert.Gi7.nD Cert.Gi7.τ Cert.Gi7.sig) → Buf (Elt Bits) ℓ) (g : Dev Cert.Gi7.nD → PrngReg), Pre_Gi7 m →
    θ_run (Cert.Gi7.defs (F := Bits)) (onTc (τ := Cert.Gi7.τ) (Cert.Gi7.main (F := Bits))) ⟨m, fun _ => 0, g⟩ (fun r => (∀ c : Dev Cert.Gi7.nD,
      r.2.mem ((c.tc : Thread Cert.Gi7.nD Cert.Gi7.τ).loc Cert.Gi7.main_arg0) = m ((c.tc : Thread Cert.Gi7.nD Cert.Gi7.τ).loc Cert.Gi7.main_arg0)
      ∧ r.2.mem ((c.tc : Thread Cert.Gi7.nD Cert.Gi7.τ).loc Cert.Gi7.main_arg1) = m ((c.tc : Thread Cert.Gi7.nD Cert.Gi7.τ).loc Cert.Gi7.main_arg1)
      ∧ r.2.mem ((c.tc : Thread Cert.Gi7.nD Cert.Gi7.τ).loc Cert.Gi7.main_arg2) = m ((c.tc : Thread Cert.Gi7.nD Cert.Gi7.τ).loc Cert.Gi7.main_arg2))
      ∧ r.2.sem = fun _ => 0)

def quiescent_Gi7Ideal [hGi7Ideal : Cert.Gi7Ideal.Facts] : Prop :=
  ∀ (m : (ℓ : Loc Cert.Gi7Ideal.nD Cert.Gi7Ideal.τ Cert.Gi7Ideal.sig) → Buf (Elt Ideal) ℓ) (g : Dev Cert.Gi7Ideal.nD → PrngReg), Pre_Gi7Ideal m →
    θ_run (Cert.Gi7Ideal.defs (F := Ideal)) (onTc (τ := Cert.Gi7Ideal.τ) (Cert.Gi7Ideal.main (F := Ideal))) ⟨m, fun _ => 0, g⟩ (fun r => (∀ c : Dev Cert.Gi7Ideal.nD,
      r.2.mem ((c.tc : Thread Cert.Gi7Ideal.nD Cert.Gi7Ideal.τ).loc Cert.Gi7Ideal.main_arg0) = m ((c.tc : Thread Cert.Gi7Ideal.nD Cert.Gi7Ideal.τ).loc Cert.Gi7Ideal.main_arg0)
      ∧ r.2.mem ((c.tc : Thread Cert.Gi7Ideal.nD Cert.Gi7Ideal.τ).loc Cert.Gi7Ideal.main_arg1) = m ((c.tc : Thread Cert.Gi7Ideal.nD Cert.Gi7Ideal.τ).loc Cert.Gi7Ideal.main_arg1)
      ∧ r.2.mem ((c.tc : Thread Cert.Gi7Ideal.nD Cert.Gi7Ideal.τ).loc Cert.Gi7Ideal.main_arg2) = m ((c.tc : Thread Cert.Gi7Ideal.nD Cert.Gi7Ideal.τ).loc Cert.Gi7Ideal.main_arg2))
      ∧ r.2.sem = fun _ => 0)

def quiescent_Gi7RefIdeal [hGi7RefIdeal : Cert.Gi7RefIdeal.Facts] : Prop :=
  ∀ (m : (ℓ : Loc Cert.Gi7RefIdeal.nD Cert.Gi7RefIdeal.τ Cert.Gi7RefIdeal.sig) → Buf (Elt Ideal) ℓ) (g : Dev Cert.Gi7RefIdeal.nD → PrngReg), Pre_Gi7RefIdeal m →
    θ_run (Cert.Gi7RefIdeal.defs (F := Ideal)) (onTc (τ := Cert.Gi7RefIdeal.τ) (Cert.Gi7RefIdeal.main (F := Ideal))) ⟨m, fun _ => 0, g⟩ (fun r => (∀ c : Dev Cert.Gi7RefIdeal.nD,
      r.2.mem ((c.tc : Thread Cert.Gi7RefIdeal.nD Cert.Gi7RefIdeal.τ).loc Cert.Gi7RefIdeal.main_arg0) = m ((c.tc : Thread Cert.Gi7RefIdeal.nD Cert.Gi7RefIdeal.τ).loc Cert.Gi7RefIdeal.main_arg0)
      ∧ r.2.mem ((c.tc : Thread Cert.Gi7RefIdeal.nD Cert.Gi7RefIdeal.τ).loc Cert.Gi7RefIdeal.main_arg1) = m ((c.tc : Thread Cert.Gi7RefIdeal.nD Cert.Gi7RefIdeal.τ).loc Cert.Gi7RefIdeal.main_arg1)
      ∧ r.2.mem ((c.tc : Thread Cert.Gi7RefIdeal.nD Cert.Gi7RefIdeal.τ).loc Cert.Gi7RefIdeal.main_arg2) = m ((c.tc : Thread Cert.Gi7RefIdeal.nD Cert.Gi7RefIdeal.τ).loc Cert.Gi7RefIdeal.main_arg2))
      ∧ r.2.sem = fun _ => 0)

def preserves_Kernel_KernelIdeal : Prop :=
  True

def algebraic_KernelIdeal_ReferenceIdeal_pre_inputs_are_real [hKernelIdeal : Cert.KernelIdeal.Facts] [hReferenceIdeal : Cert.ReferenceIdeal.Facts] [hPre_inputs_are_real : Cert.Pre_inputs_are_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_are_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)
      ∧ m' ((c.tc : Thread Cert.DhRefIdeal.nD Cert.DhRefIdeal.τ).loc Cert.DhRefIdeal.main_arg8) = m ((c.tc : Thread Cert.DhIdeal.nD Cert.DhIdeal.τ).loc Cert.DhIdeal.main_arg8)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
          ∧ r.2.mem ((c.tc : Thread Cert.DhIdeal.nD Cert.DhIdeal.τ).loc Cert.DhIdeal.main_arg8) = m ((c.tc : Thread Cert.DhIdeal.nD Cert.DhIdeal.τ).loc Cert.DhIdeal.main_arg8))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7)
          ∧ r.2.mem ((c.tc : Thread Cert.DhRefIdeal.nD Cert.DhRefIdeal.τ).loc Cert.DhRefIdeal.main_arg8) = m' ((c.tc : Thread Cert.DhRefIdeal.nD Cert.DhRefIdeal.τ).loc Cert.DhRefIdeal.main_arg8))

def preserves_Gw_GwIdeal : Prop :=
  True

def algebraic_GwIdeal_GwRefIdeal [hGwIdeal : Cert.GwIdeal.Facts] [hGwRefIdeal : Cert.GwRefIdeal.Facts] : Prop :=
  ∀ (m : (ℓ : Loc Cert.GwIdeal.nD Cert.GwIdeal.τ Cert.GwIdeal.sig) → Buf (Elt Ideal) ℓ) (g : Dev Cert.GwIdeal.nD → PrngReg)
    (m' : (ℓ : Loc Cert.GwRefIdeal.nD Cert.GwRefIdeal.τ Cert.GwRefIdeal.sig) → Buf (Elt Ideal) ℓ) (g' : Dev Cert.GwRefIdeal.nD → PrngReg), Pre_GwIdeal m →
    (∀ c : Dev Cert.GwIdeal.nD,
      m' ((c.tc : Thread Cert.GwRefIdeal.nD Cert.GwRefIdeal.τ).loc Cert.GwRefIdeal.main_arg0) = m ((c.tc : Thread Cert.GwIdeal.nD Cert.GwIdeal.τ).loc Cert.GwIdeal.main_arg0)
      ∧ m' ((c.tc : Thread Cert.GwRefIdeal.nD Cert.GwRefIdeal.τ).loc Cert.GwRefIdeal.main_arg1) = m ((c.tc : Thread Cert.GwIdeal.nD Cert.GwIdeal.τ).loc Cert.GwIdeal.main_arg1)) →
    ∃ (v0 : (c : Dev Cert.GwIdeal.nD) → Buf (Elt Ideal) ((c.tc : Thread Cert.GwIdeal.nD Cert.GwIdeal.τ).loc Cert.GwIdeal.main_v0)),
      θ_run (Cert.GwIdeal.defs (F := Ideal)) (onTc (τ := Cert.GwIdeal.τ) (Cert.GwIdeal.main (F := Ideal))) ⟨m, fun _ => 0, g⟩ (fun r => ∀ c : Dev Cert.GwIdeal.nD,
          r.2.mem ((c.tc : Thread Cert.GwIdeal.nD Cert.GwIdeal.τ).loc Cert.GwIdeal.main_v0) = v0 c
          ∧ r.2.mem ((c.tc : Thread Cert.GwIdeal.nD Cert.GwIdeal.τ).loc Cert.GwIdeal.main_arg0) = m ((c.tc : Thread Cert.GwIdeal.nD Cert.GwIdeal.τ).loc Cert.GwIdeal.main_arg0)
          ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ θ_run (Cert.GwRefIdeal.defs (F := Ideal)) (onTc (τ := Cert.GwRefIdeal.τ) (Cert.GwRefIdeal.main (F := Ideal))) ⟨m', fun _ => 0, g'⟩ (fun r => ∀ c : Dev Cert.GwRefIdeal.nD,
          r.2.mem ((c.tc : Thread Cert.GwRefIdeal.nD Cert.GwRefIdeal.τ).loc Cert.GwRefIdeal.main_v5) = v0 c
          ∧ r.2.mem ((c.tc : Thread Cert.GwRefIdeal.nD Cert.GwRefIdeal.τ).loc Cert.GwRefIdeal.main_arg0) = m' ((c.tc : Thread Cert.GwRefIdeal.nD Cert.GwRefIdeal.τ).loc Cert.GwRefIdeal.main_arg0)
          ∧ r.2.mem ((c.tc : Thread Cert.GwRefIdeal.nD Cert.GwRefIdeal.τ).loc Cert.GwRefIdeal.main_arg1) = m' ((c.tc : Thread Cert.GwRefIdeal.nD Cert.GwRefIdeal.τ).loc Cert.GwRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v4) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_Mb_MbIdeal : Prop :=
  True

def algebraic_MbIdeal_MbRefIdeal [hMbIdeal : Cert.MbIdeal.Facts] [hMbRefIdeal : Cert.MbRefIdeal.Facts] : Prop :=
  ∀ (m : (ℓ : Loc Cert.MbIdeal.nD Cert.MbIdeal.τ Cert.MbIdeal.sig) → Buf (Elt Ideal) ℓ) (g : Dev Cert.MbIdeal.nD → PrngReg)
    (m' : (ℓ : Loc Cert.MbRefIdeal.nD Cert.MbRefIdeal.τ Cert.MbRefIdeal.sig) → Buf (Elt Ideal) ℓ) (g' : Dev Cert.MbRefIdeal.nD → PrngReg), Pre_MbIdeal m →
    (∀ c : Dev Cert.MbIdeal.nD,
      m' ((c.tc : Thread Cert.MbRefIdeal.nD Cert.MbRefIdeal.τ).loc Cert.MbRefIdeal.main_arg0) = m ((c.tc : Thread Cert.MbIdeal.nD Cert.MbIdeal.τ).loc Cert.MbIdeal.main_arg0)
      ∧ m' ((c.tc : Thread Cert.MbRefIdeal.nD Cert.MbRefIdeal.τ).loc Cert.MbRefIdeal.main_arg1) = m ((c.tc : Thread Cert.MbIdeal.nD Cert.MbIdeal.τ).loc Cert.MbIdeal.main_arg1)
      ∧ m' ((c.tc : Thread Cert.MbRefIdeal.nD Cert.MbRefIdeal.τ).loc Cert.MbRefIdeal.main_arg2) = m ((c.tc : Thread Cert.MbIdeal.nD Cert.MbIdeal.τ).loc Cert.MbIdeal.main_arg2)
      ∧ m' ((c.tc : Thread Cert.MbRefIdeal.nD Cert.MbRefIdeal.τ).loc Cert.MbRefIdeal.main_arg3) = m ((c.tc : Thread Cert.MbIdeal.nD Cert.MbIdeal.τ).loc Cert.MbIdeal.main_arg3)
      ∧ m' ((c.tc : Thread Cert.MbRefIdeal.nD Cert.MbRefIdeal.τ).loc Cert.MbRefIdeal.main_arg4) = m ((c.tc : Thread Cert.MbIdeal.nD Cert.MbIdeal.τ).loc Cert.MbIdeal.main_arg4)) →
    ∃ (v0 : (c : Dev Cert.MbIdeal.nD) → Buf (Elt Ideal) ((c.tc : Thread Cert.MbIdeal.nD Cert.MbIdeal.τ).loc Cert.MbIdeal.main_v0_0)) (v1 : (c : Dev Cert.MbIdeal.nD) → Buf (Elt Ideal) ((c.tc : Thread Cert.MbIdeal.nD Cert.MbIdeal.τ).loc Cert.MbIdeal.main_v0_1)) (v2 : (c : Dev Cert.MbIdeal.nD) → Buf (Elt Ideal) ((c.tc : Thread Cert.MbIdeal.nD Cert.MbIdeal.τ).loc Cert.MbIdeal.main_v0_2)) (v3 : (c : Dev Cert.MbIdeal.nD) → Buf (Elt Ideal) ((c.tc : Thread Cert.MbIdeal.nD Cert.MbIdeal.τ).loc Cert.MbIdeal.main_v0_3)),
      θ_run (Cert.MbIdeal.defs (F := Ideal)) (onTc (τ := Cert.MbIdeal.τ) (Cert.MbIdeal.main (F := Ideal))) ⟨m, fun _ => 0, g⟩ (fun r => ∀ c : Dev Cert.MbIdeal.nD,
          r.2.mem ((c.tc : Thread Cert.MbIdeal.nD Cert.MbIdeal.τ).loc Cert.MbIdeal.main_v0_0) = v0 c
          ∧ r.2.mem ((c.tc : Thread Cert.MbIdeal.nD Cert.MbIdeal.τ).loc Cert.MbIdeal.main_v0_1) = v1 c
          ∧ r.2.mem ((c.tc : Thread Cert.MbIdeal.nD Cert.MbIdeal.τ).loc Cert.MbIdeal.main_v0_2) = v2 c
          ∧ r.2.mem ((c.tc : Thread Cert.MbIdeal.nD Cert.MbIdeal.τ).loc Cert.MbIdeal.main_v0_3) = v3 c
          ∧ r.2.mem ((c.tc : Thread Cert.MbIdeal.nD Cert.MbIdeal.τ).loc Cert.MbIdeal.main_arg0) = m ((c.tc : Thread Cert.MbIdeal.nD Cert.MbIdeal.τ).loc Cert.MbIdeal.main_arg0)
          ∧ r.2.mem ((c.tc : Thread Cert.MbIdeal.nD Cert.MbIdeal.τ).loc Cert.MbIdeal.main_arg1) = m ((c.tc : Thread Cert.MbIdeal.nD Cert.MbIdeal.τ).loc Cert.MbIdeal.main_arg1)
          ∧ r.2.mem ((c.tc : Thread Cert.MbIdeal.nD Cert.MbIdeal.τ).loc Cert.MbIdeal.main_arg2) = m ((c.tc : Thread Cert.MbIdeal.nD Cert.MbIdeal.τ).loc Cert.MbIdeal.main_arg2)
          ∧ r.2.mem ((c.tc : Thread Cert.MbIdeal.nD Cert.MbIdeal.τ).loc Cert.MbIdeal.main_arg3) = m ((c.tc : Thread Cert.MbIdeal.nD Cert.MbIdeal.τ).loc Cert.MbIdeal.main_arg3)
          ∧ r.2.mem ((c.tc : Thread Cert.MbIdeal.nD Cert.MbIdeal.τ).loc Cert.MbIdeal.main_arg4) = m ((c.tc : Thread Cert.MbIdeal.nD Cert.MbIdeal.τ).loc Cert.MbIdeal.main_arg4))
      ∧ θ_run (Cert.MbRefIdeal.defs (F := Ideal)) (onTc (τ := Cert.MbRefIdeal.τ) (Cert.MbRefIdeal.main (F := Ideal))) ⟨m', fun _ => 0, g'⟩ (fun r => ∀ c : Dev Cert.MbRefIdeal.nD,
          r.2.mem ((c.tc : Thread Cert.MbRefIdeal.nD Cert.MbRefIdeal.τ).loc Cert.MbRefIdeal.main_v35) = v0 c
          ∧ r.2.mem ((c.tc : Thread Cert.MbRefIdeal.nD Cert.MbRefIdeal.τ).loc Cert.MbRefIdeal.main_v36) = v1 c
          ∧ r.2.mem ((c.tc : Thread Cert.MbRefIdeal.nD Cert.MbRefIdeal.τ).loc Cert.MbRefIdeal.main_v37) = v2 c
          ∧ r.2.mem ((c.tc : Thread Cert.MbRefIdeal.nD Cert.MbRefIdeal.τ).loc Cert.MbRefIdeal.main_v38) = v3 c
          ∧ r.2.mem ((c.tc : Thread Cert.MbRefIdeal.nD Cert.MbRefIdeal.τ).loc Cert.MbRefIdeal.main_arg0) = m' ((c.tc : Thread Cert.MbRefIdeal.nD Cert.MbRefIdeal.τ).loc Cert.MbRefIdeal.main_arg0)
          ∧ r.2.mem ((c.tc : Thread Cert.MbRefIdeal.nD Cert.MbRefIdeal.τ).loc Cert.MbRefIdeal.main_arg1) = m' ((c.tc : Thread Cert.MbRefIdeal.nD Cert.MbRefIdeal.τ).loc Cert.MbRefIdeal.main_arg1)
          ∧ r.2.mem ((c.tc : Thread Cert.MbRefIdeal.nD Cert.MbRefIdeal.τ).loc Cert.MbRefIdeal.main_arg2) = m' ((c.tc : Thread Cert.MbRefIdeal.nD Cert.MbRefIdeal.τ).loc Cert.MbRefIdeal.main_arg2)
          ∧ r.2.mem ((c.tc : Thread Cert.MbRefIdeal.nD Cert.MbRefIdeal.τ).loc Cert.MbRefIdeal.main_arg3) = m' ((c.tc : Thread Cert.MbRefIdeal.nD Cert.MbRefIdeal.τ).loc Cert.MbRefIdeal.main_arg3)
          ∧ r.2.mem ((c.tc : Thread Cert.MbRefIdeal.nD Cert.MbRefIdeal.τ).loc Cert.MbRefIdeal.main_arg4) = m' ((c.tc : Thread Cert.MbRefIdeal.nD Cert.MbRefIdeal.τ).loc Cert.MbRefIdeal.main_arg4))

def preserves_Pj_PjIdeal : Prop :=
  True

def algebraic_PjIdeal_PjRefIdeal [hPjIdeal : Cert.PjIdeal.Facts] [hPjRefIdeal : Cert.PjRefIdeal.Facts] : Prop :=
  ∀ (m : (ℓ : Loc Cert.PjIdeal.nD Cert.PjIdeal.τ Cert.PjIdeal.sig) → Buf (Elt Ideal) ℓ) (g : Dev Cert.PjIdeal.nD → PrngReg)
    (m' : (ℓ : Loc Cert.PjRefIdeal.nD Cert.PjRefIdeal.τ Cert.PjRefIdeal.sig) → Buf (Elt Ideal) ℓ) (g' : Dev Cert.PjRefIdeal.nD → PrngReg), Pre_PjIdeal m →
    (∀ c : Dev Cert.PjIdeal.nD,
      m' ((c.tc : Thread Cert.PjRefIdeal.nD Cert.PjRefIdeal.τ).loc Cert.PjRefIdeal.main_arg0) = m ((c.tc : Thread Cert.PjIdeal.nD Cert.PjIdeal.τ).loc Cert.PjIdeal.main_arg0)
      ∧ m' ((c.tc : Thread Cert.PjRefIdeal.nD Cert.PjRefIdeal.τ).loc Cert.PjRefIdeal.main_arg1) = m ((c.tc : Thread Cert.PjIdeal.nD Cert.PjIdeal.τ).loc Cert.PjIdeal.main_arg1)) →
    ∃ (v0 : (c : Dev Cert.PjIdeal.nD) → Buf (Elt Ideal) ((c.tc : Thread Cert.PjIdeal.nD Cert.PjIdeal.τ).loc Cert.PjIdeal.main_v0)),
      θ_run (Cert.PjIdeal.defs (F := Ideal)) (onTc (τ := Cert.PjIdeal.τ) (Cert.PjIdeal.main (F := Ideal))) ⟨m, fun _ => 0, g⟩ (fun r => ∀ c : Dev Cert.PjIdeal.nD,
          r.2.mem ((c.tc : Thread Cert.PjIdeal.nD Cert.PjIdeal.τ).loc Cert.PjIdeal.main_v0) = v0 c
          ∧ r.2.mem ((c.tc : Thread Cert.PjIdeal.nD Cert.PjIdeal.τ).loc Cert.PjIdeal.main_arg0) = m ((c.tc : Thread Cert.PjIdeal.nD Cert.PjIdeal.τ).loc Cert.PjIdeal.main_arg0)
          ∧ r.2.mem ((c.tc : Thread Cert.PjIdeal.nD Cert.PjIdeal.τ).loc Cert.PjIdeal.main_arg1) = m ((c.tc : Thread Cert.PjIdeal.nD Cert.PjIdeal.τ).loc Cert.PjIdeal.main_arg1))
      ∧ θ_run (Cert.PjRefIdeal.defs (F := Ideal)) (onTc (τ := Cert.PjRefIdeal.τ) (Cert.PjRefIdeal.main (F := Ideal))) ⟨m', fun _ => 0, g'⟩ (fun r => ∀ c : Dev Cert.PjRefIdeal.nD,
          r.2.mem ((c.tc : Thread Cert.PjRefIdeal.nD Cert.PjRefIdeal.τ).loc Cert.PjRefIdeal.main_v2) = v0 c
          ∧ r.2.mem ((c.tc : Thread Cert.PjRefIdeal.nD Cert.PjRefIdeal.τ).loc Cert.PjRefIdeal.main_arg0) = m' ((c.tc : Thread Cert.PjRefIdeal.nD Cert.PjRefIdeal.τ).loc Cert.PjRefIdeal.main_arg0)
          ∧ r.2.mem ((c.tc : Thread Cert.PjRefIdeal.nD Cert.PjRefIdeal.τ).loc Cert.PjRefIdeal.main_arg1) = m' ((c.tc : Thread Cert.PjRefIdeal.nD Cert.PjRefIdeal.τ).loc Cert.PjRefIdeal.main_arg1))

def preserves_Mg_MgIdeal : Prop :=
  True

def algebraic_MgIdeal_MgRefIdeal [hMgIdeal : Cert.MgIdeal.Facts] [hMgRefIdeal : Cert.MgRefIdeal.Facts] : Prop :=
  ∀ (m : (ℓ : Loc Cert.MgIdeal.nD Cert.MgIdeal.τ Cert.MgIdeal.sig) → Buf (Elt Ideal) ℓ) (g : Dev Cert.MgIdeal.nD → PrngReg)
    (m' : (ℓ : Loc Cert.MgRefIdeal.nD Cert.MgRefIdeal.τ Cert.MgRefIdeal.sig) → Buf (Elt Ideal) ℓ) (g' : Dev Cert.MgRefIdeal.nD → PrngReg), Pre_MgIdeal m →
    (∀ c : Dev Cert.MgIdeal.nD,
      m' ((c.tc : Thread Cert.MgRefIdeal.nD Cert.MgRefIdeal.τ).loc Cert.MgRefIdeal.main_arg0) = m ((c.tc : Thread Cert.MgIdeal.nD Cert.MgIdeal.τ).loc Cert.MgIdeal.main_arg0)
      ∧ m' ((c.tc : Thread Cert.MgRefIdeal.nD Cert.MgRefIdeal.τ).loc Cert.MgRefIdeal.main_arg1) = m ((c.tc : Thread Cert.MgIdeal.nD Cert.MgIdeal.τ).loc Cert.MgIdeal.main_arg1)
      ∧ m' ((c.tc : Thread Cert.MgRefIdeal.nD Cert.MgRefIdeal.τ).loc Cert.MgRefIdeal.main_arg2) = m ((c.tc : Thread Cert.MgIdeal.nD Cert.MgIdeal.τ).loc Cert.MgIdeal.main_arg2)
      ∧ m' ((c.tc : Thread Cert.MgRefIdeal.nD Cert.MgRefIdeal.τ).loc Cert.MgRefIdeal.main_arg3) = m ((c.tc : Thread Cert.MgIdeal.nD Cert.MgIdeal.τ).loc Cert.MgIdeal.main_arg3)
      ∧ m' ((c.tc : Thread Cert.MgRefIdeal.nD Cert.MgRefIdeal.τ).loc Cert.MgRefIdeal.main_arg4) = m ((c.tc : Thread Cert.MgIdeal.nD Cert.MgIdeal.τ).loc Cert.MgIdeal.main_arg4)) →
    ∃ (v0 : (c : Dev Cert.MgIdeal.nD) → Buf (Elt Ideal) ((c.tc : Thread Cert.MgIdeal.nD Cert.MgIdeal.τ).loc Cert.MgIdeal.main_v0_0)) (v1 : (c : Dev Cert.MgIdeal.nD) → Buf (Elt Ideal) ((c.tc : Thread Cert.MgIdeal.nD Cert.MgIdeal.τ).loc Cert.MgIdeal.main_v0_1)) (v2 : (c : Dev Cert.MgIdeal.nD) → Buf (Elt Ideal) ((c.tc : Thread Cert.MgIdeal.nD Cert.MgIdeal.τ).loc Cert.MgIdeal.main_v0_2)),
      θ_run (Cert.MgIdeal.defs (F := Ideal)) (onTc (τ := Cert.MgIdeal.τ) (Cert.MgIdeal.main (F := Ideal))) ⟨m, fun _ => 0, g⟩ (fun r => ∀ c : Dev Cert.MgIdeal.nD,
          r.2.mem ((c.tc : Thread Cert.MgIdeal.nD Cert.MgIdeal.τ).loc Cert.MgIdeal.main_v0_0) = v0 c
          ∧ r.2.mem ((c.tc : Thread Cert.MgIdeal.nD Cert.MgIdeal.τ).loc Cert.MgIdeal.main_v0_1) = v1 c
          ∧ r.2.mem ((c.tc : Thread Cert.MgIdeal.nD Cert.MgIdeal.τ).loc Cert.MgIdeal.main_v0_2) = v2 c
          ∧ r.2.mem ((c.tc : Thread Cert.MgIdeal.nD Cert.MgIdeal.τ).loc Cert.MgIdeal.main_arg0) = m ((c.tc : Thread Cert.MgIdeal.nD Cert.MgIdeal.τ).loc Cert.MgIdeal.main_arg0)
          ∧ r.2.mem ((c.tc : Thread Cert.MgIdeal.nD Cert.MgIdeal.τ).loc Cert.MgIdeal.main_arg1) = m ((c.tc : Thread Cert.MgIdeal.nD Cert.MgIdeal.τ).loc Cert.MgIdeal.main_arg1)
          ∧ r.2.mem ((c.tc : Thread Cert.MgIdeal.nD Cert.MgIdeal.τ).loc Cert.MgIdeal.main_arg2) = m ((c.tc : Thread Cert.MgIdeal.nD Cert.MgIdeal.τ).loc Cert.MgIdeal.main_arg2)
          ∧ r.2.mem ((c.tc : Thread Cert.MgIdeal.nD Cert.MgIdeal.τ).loc Cert.MgIdeal.main_arg3) = m ((c.tc : Thread Cert.MgIdeal.nD Cert.MgIdeal.τ).loc Cert.MgIdeal.main_arg3)
          ∧ r.2.mem ((c.tc : Thread Cert.MgIdeal.nD Cert.MgIdeal.τ).loc Cert.MgIdeal.main_arg4) = m ((c.tc : Thread Cert.MgIdeal.nD Cert.MgIdeal.τ).loc Cert.MgIdeal.main_arg4))
      ∧ θ_run (Cert.MgRefIdeal.defs (F := Ideal)) (onTc (τ := Cert.MgRefIdeal.τ) (Cert.MgRefIdeal.main (F := Ideal))) ⟨m', fun _ => 0, g'⟩ (fun r => ∀ c : Dev Cert.MgRefIdeal.nD,
          r.2.mem ((c.tc : Thread Cert.MgRefIdeal.nD Cert.MgRefIdeal.τ).loc Cert.MgRefIdeal.main_v23) = v0 c
          ∧ r.2.mem ((c.tc : Thread Cert.MgRefIdeal.nD Cert.MgRefIdeal.τ).loc Cert.MgRefIdeal.main_v24) = v1 c
          ∧ r.2.mem ((c.tc : Thread Cert.MgRefIdeal.nD Cert.MgRefIdeal.τ).loc Cert.MgRefIdeal.main_v25) = v2 c
          ∧ r.2.mem ((c.tc : Thread Cert.MgRefIdeal.nD Cert.MgRefIdeal.τ).loc Cert.MgRefIdeal.main_arg0) = m' ((c.tc : Thread Cert.MgRefIdeal.nD Cert.MgRefIdeal.τ).loc Cert.MgRefIdeal.main_arg0)
          ∧ r.2.mem ((c.tc : Thread Cert.MgRefIdeal.nD Cert.MgRefIdeal.τ).loc Cert.MgRefIdeal.main_arg1) = m' ((c.tc : Thread Cert.MgRefIdeal.nD Cert.MgRefIdeal.τ).loc Cert.MgRefIdeal.main_arg1)
          ∧ r.2.mem ((c.tc : Thread Cert.MgRefIdeal.nD Cert.MgRefIdeal.τ).loc Cert.MgRefIdeal.main_arg2) = m' ((c.tc : Thread Cert.MgRefIdeal.nD Cert.MgRefIdeal.τ).loc Cert.MgRefIdeal.main_arg2)
          ∧ r.2.mem ((c.tc : Thread Cert.MgRefIdeal.nD Cert.MgRefIdeal.τ).loc Cert.MgRefIdeal.main_arg3) = m' ((c.tc : Thread Cert.MgRefIdeal.nD Cert.MgRefIdeal.τ).loc Cert.MgRefIdeal.main_arg3)
          ∧ r.2.mem ((c.tc : Thread Cert.MgRefIdeal.nD Cert.MgRefIdeal.τ).loc Cert.MgRefIdeal.main_arg4) = m' ((c.tc : Thread Cert.MgRefIdeal.nD Cert.MgRefIdeal.τ).loc Cert.MgRefIdeal.main_arg4))

def preserves_Op_OpIdeal : Prop :=
  True

def algebraic_OpIdeal_OpRefIdeal [hOpIdeal : Cert.OpIdeal.Facts] [hOpRefIdeal : Cert.OpRefIdeal.Facts] : Prop :=
  ∀ (m : (ℓ : Loc Cert.OpIdeal.nD Cert.OpIdeal.τ Cert.OpIdeal.sig) → Buf (Elt Ideal) ℓ) (g : Dev Cert.OpIdeal.nD → PrngReg)
    (m' : (ℓ : Loc Cert.OpRefIdeal.nD Cert.OpRefIdeal.τ Cert.OpRefIdeal.sig) → Buf (Elt Ideal) ℓ) (g' : Dev Cert.OpRefIdeal.nD → PrngReg), Pre_OpIdeal m →
    (∀ c : Dev Cert.OpIdeal.nD,
      m' ((c.tc : Thread Cert.OpRefIdeal.nD Cert.OpRefIdeal.τ).loc Cert.OpRefIdeal.main_arg0) = m ((c.tc : Thread Cert.OpIdeal.nD Cert.OpIdeal.τ).loc Cert.OpIdeal.main_arg0)
      ∧ m' ((c.tc : Thread Cert.OpRefIdeal.nD Cert.OpRefIdeal.τ).loc Cert.OpRefIdeal.main_arg1) = m ((c.tc : Thread Cert.OpIdeal.nD Cert.OpIdeal.τ).loc Cert.OpIdeal.main_arg1)) →
    ∃ (v0 : (c : Dev Cert.OpIdeal.nD) → Buf (Elt Ideal) ((c.tc : Thread Cert.OpIdeal.nD Cert.OpIdeal.τ).loc Cert.OpIdeal.main_v0)),
      θ_run (Cert.OpIdeal.defs (F := Ideal)) (onTc (τ := Cert.OpIdeal.τ) (Cert.OpIdeal.main (F := Ideal))) ⟨m, fun _ => 0, g⟩ (fun r => ∀ c : Dev Cert.OpIdeal.nD,
          r.2.mem ((c.tc : Thread Cert.OpIdeal.nD Cert.OpIdeal.τ).loc Cert.OpIdeal.main_v0) = v0 c
          ∧ r.2.mem ((c.tc : Thread Cert.OpIdeal.nD Cert.OpIdeal.τ).loc Cert.OpIdeal.main_arg0) = m ((c.tc : Thread Cert.OpIdeal.nD Cert.OpIdeal.τ).loc Cert.OpIdeal.main_arg0)
          ∧ r.2.mem ((c.tc : Thread Cert.OpIdeal.nD Cert.OpIdeal.τ).loc Cert.OpIdeal.main_arg1) = m ((c.tc : Thread Cert.OpIdeal.nD Cert.OpIdeal.τ).loc Cert.OpIdeal.main_arg1))
      ∧ θ_run (Cert.OpRefIdeal.defs (F := Ideal)) (onTc (τ := Cert.OpRefIdeal.τ) (Cert.OpRefIdeal.main (F := Ideal))) ⟨m', fun _ => 0, g'⟩ (fun r => ∀ c : Dev Cert.OpRefIdeal.nD,
          r.2.mem ((c.tc : Thread Cert.OpRefIdeal.nD Cert.OpRefIdeal.τ).loc Cert.OpRefIdeal.main_v2) = v0 c
          ∧ r.2.mem ((c.tc : Thread Cert.OpRefIdeal.nD Cert.OpRefIdeal.τ).loc Cert.OpRefIdeal.main_arg0) = m' ((c.tc : Thread Cert.OpRefIdeal.nD Cert.OpRefIdeal.τ).loc Cert.OpRefIdeal.main_arg0)
          ∧ r.2.mem ((c.tc : Thread Cert.OpRefIdeal.nD Cert.OpRefIdeal.τ).loc Cert.OpRefIdeal.main_arg1) = m' ((c.tc : Thread Cert.OpRefIdeal.nD Cert.OpRefIdeal.τ).loc Cert.OpRefIdeal.main_arg1))

def preserves_Go_GoIdeal : Prop :=
  True

def algebraic_GoIdeal_GoRefIdeal [hGoIdeal : Cert.GoIdeal.Facts] [hGoRefIdeal : Cert.GoRefIdeal.Facts] : Prop :=
  ∀ (m : (ℓ : Loc Cert.GoIdeal.nD Cert.GoIdeal.τ Cert.GoIdeal.sig) → Buf (Elt Ideal) ℓ) (g : Dev Cert.GoIdeal.nD → PrngReg)
    (m' : (ℓ : Loc Cert.GoRefIdeal.nD Cert.GoRefIdeal.τ Cert.GoRefIdeal.sig) → Buf (Elt Ideal) ℓ) (g' : Dev Cert.GoRefIdeal.nD → PrngReg), Pre_GoIdeal m →
    (∀ c : Dev Cert.GoIdeal.nD,
      m' ((c.tc : Thread Cert.GoRefIdeal.nD Cert.GoRefIdeal.τ).loc Cert.GoRefIdeal.main_arg0) = m ((c.tc : Thread Cert.GoIdeal.nD Cert.GoIdeal.τ).loc Cert.GoIdeal.main_arg0)
      ∧ m' ((c.tc : Thread Cert.GoRefIdeal.nD Cert.GoRefIdeal.τ).loc Cert.GoRefIdeal.main_arg1) = m ((c.tc : Thread Cert.GoIdeal.nD Cert.GoIdeal.τ).loc Cert.GoIdeal.main_arg1)) →
    ∃ (v0 : (c : Dev Cert.GoIdeal.nD) → Buf (Elt Ideal) ((c.tc : Thread Cert.GoIdeal.nD Cert.GoIdeal.τ).loc Cert.GoIdeal.main_v0)),
      θ_run (Cert.GoIdeal.defs (F := Ideal)) (onTc (τ := Cert.GoIdeal.τ) (Cert.GoIdeal.main (F := Ideal))) ⟨m, fun _ => 0, g⟩ (fun r => ∀ c : Dev Cert.GoIdeal.nD,
          r.2.mem ((c.tc : Thread Cert.GoIdeal.nD Cert.GoIdeal.τ).loc Cert.GoIdeal.main_v0) = v0 c
          ∧ r.2.mem ((c.tc : Thread Cert.GoIdeal.nD Cert.GoIdeal.τ).loc Cert.GoIdeal.main_arg0) = m ((c.tc : Thread Cert.GoIdeal.nD Cert.GoIdeal.τ).loc Cert.GoIdeal.main_arg0)
          ∧ r.2.mem ((c.tc : Thread Cert.GoIdeal.nD Cert.GoIdeal.τ).loc Cert.GoIdeal.main_arg1) = m ((c.tc : Thread Cert.GoIdeal.nD Cert.GoIdeal.τ).loc Cert.GoIdeal.main_arg1))
      ∧ θ_run (Cert.GoRefIdeal.defs (F := Ideal)) (onTc (τ := Cert.GoRefIdeal.τ) (Cert.GoRefIdeal.main (F := Ideal))) ⟨m', fun _ => 0, g'⟩ (fun r => ∀ c : Dev Cert.GoRefIdeal.nD,
          r.2.mem ((c.tc : Thread Cert.GoRefIdeal.nD Cert.GoRefIdeal.τ).loc Cert.GoRefIdeal.main_v5) = v0 c
          ∧ r.2.mem ((c.tc : Thread Cert.GoRefIdeal.nD Cert.GoRefIdeal.τ).loc Cert.GoRefIdeal.main_arg0) = m' ((c.tc : Thread Cert.GoRefIdeal.nD Cert.GoRefIdeal.τ).loc Cert.GoRefIdeal.main_arg0)
          ∧ r.2.mem ((c.tc : Thread Cert.GoRefIdeal.nD Cert.GoRefIdeal.τ).loc Cert.GoRefIdeal.main_arg1) = m' ((c.tc : Thread Cert.GoRefIdeal.nD Cert.GoRefIdeal.τ).loc Cert.GoRefIdeal.main_arg1))

def preserves_Pb_PbIdeal : Prop :=
  True

def algebraic_PbIdeal_PbRefIdeal [hPbIdeal : Cert.PbIdeal.Facts] [hPbRefIdeal : Cert.PbRefIdeal.Facts] : Prop :=
  ∀ (m : (ℓ : Loc Cert.PbIdeal.nD Cert.PbIdeal.τ Cert.PbIdeal.sig) → Buf (Elt Ideal) ℓ) (g : Dev Cert.PbIdeal.nD → PrngReg)
    (m' : (ℓ : Loc Cert.PbRefIdeal.nD Cert.PbRefIdeal.τ Cert.PbRefIdeal.sig) → Buf (Elt Ideal) ℓ) (g' : Dev Cert.PbRefIdeal.nD → PrngReg), Pre_PbIdeal m →
    (∀ c : Dev Cert.PbIdeal.nD,
      m' ((c.tc : Thread Cert.PbRefIdeal.nD Cert.PbRefIdeal.τ).loc Cert.PbRefIdeal.main_arg0) = m ((c.tc : Thread Cert.PbIdeal.nD Cert.PbIdeal.τ).loc Cert.PbIdeal.main_arg0)
      ∧ m' ((c.tc : Thread Cert.PbRefIdeal.nD Cert.PbRefIdeal.τ).loc Cert.PbRefIdeal.main_arg1) = m ((c.tc : Thread Cert.PbIdeal.nD Cert.PbIdeal.τ).loc Cert.PbIdeal.main_arg1)
      ∧ m' ((c.tc : Thread Cert.PbRefIdeal.nD Cert.PbRefIdeal.τ).loc Cert.PbRefIdeal.main_arg2) = m ((c.tc : Thread Cert.PbIdeal.nD Cert.PbIdeal.τ).loc Cert.PbIdeal.main_arg2)
      ∧ m' ((c.tc : Thread Cert.PbRefIdeal.nD Cert.PbRefIdeal.τ).loc Cert.PbRefIdeal.main_arg3) = m ((c.tc : Thread Cert.PbIdeal.nD Cert.PbIdeal.τ).loc Cert.PbIdeal.main_arg3)) →
    ∃ (v0 : (c : Dev Cert.PbIdeal.nD) → Buf (Elt Ideal) ((c.tc : Thread Cert.PbIdeal.nD Cert.PbIdeal.τ).loc Cert.PbIdeal.main_v0_0)) (v1 : (c : Dev Cert.PbIdeal.nD) → Buf (Elt Ideal) ((c.tc : Thread Cert.PbIdeal.nD Cert.PbIdeal.τ).loc Cert.PbIdeal.main_v0_1)) (v2 : (c : Dev Cert.PbIdeal.nD) → Buf (Elt Ideal) ((c.tc : Thread Cert.PbIdeal.nD Cert.PbIdeal.τ).loc Cert.PbIdeal.main_v0_2)),
      θ_run (Cert.PbIdeal.defs (F := Ideal)) (onTc (τ := Cert.PbIdeal.τ) (Cert.PbIdeal.main (F := Ideal))) ⟨m, fun _ => 0, g⟩ (fun r => ∀ c : Dev Cert.PbIdeal.nD,
          r.2.mem ((c.tc : Thread Cert.PbIdeal.nD Cert.PbIdeal.τ).loc Cert.PbIdeal.main_v0_0) = v0 c
          ∧ r.2.mem ((c.tc : Thread Cert.PbIdeal.nD Cert.PbIdeal.τ).loc Cert.PbIdeal.main_v0_1) = v1 c
          ∧ r.2.mem ((c.tc : Thread Cert.PbIdeal.nD Cert.PbIdeal.τ).loc Cert.PbIdeal.main_v0_2) = v2 c
          ∧ r.2.mem ((c.tc : Thread Cert.PbIdeal.nD Cert.PbIdeal.τ).loc Cert.PbIdeal.main_arg0) = m ((c.tc : Thread Cert.PbIdeal.nD Cert.PbIdeal.τ).loc Cert.PbIdeal.main_arg0)
          ∧ r.2.mem ((c.tc : Thread Cert.PbIdeal.nD Cert.PbIdeal.τ).loc Cert.PbIdeal.main_arg1) = m ((c.tc : Thread Cert.PbIdeal.nD Cert.PbIdeal.τ).loc Cert.PbIdeal.main_arg1)
          ∧ r.2.mem ((c.tc : Thread Cert.PbIdeal.nD Cert.PbIdeal.τ).loc Cert.PbIdeal.main_arg2) = m ((c.tc : Thread Cert.PbIdeal.nD Cert.PbIdeal.τ).loc Cert.PbIdeal.main_arg2)
          ∧ r.2.mem ((c.tc : Thread Cert.PbIdeal.nD Cert.PbIdeal.τ).loc Cert.PbIdeal.main_arg3) = m ((c.tc : Thread Cert.PbIdeal.nD Cert.PbIdeal.τ).loc Cert.PbIdeal.main_arg3))
      ∧ θ_run (Cert.PbRefIdeal.defs (F := Ideal)) (onTc (τ := Cert.PbRefIdeal.τ) (Cert.PbRefIdeal.main (F := Ideal))) ⟨m', fun _ => 0, g'⟩ (fun r => ∀ c : Dev Cert.PbRefIdeal.nD,
          r.2.mem ((c.tc : Thread Cert.PbRefIdeal.nD Cert.PbRefIdeal.τ).loc Cert.PbRefIdeal.main_v41) = v0 c
          ∧ r.2.mem ((c.tc : Thread Cert.PbRefIdeal.nD Cert.PbRefIdeal.τ).loc Cert.PbRefIdeal.main_v21) = v1 c
          ∧ r.2.mem ((c.tc : Thread Cert.PbRefIdeal.nD Cert.PbRefIdeal.τ).loc Cert.PbRefIdeal.main_v24) = v2 c
          ∧ r.2.mem ((c.tc : Thread Cert.PbRefIdeal.nD Cert.PbRefIdeal.τ).loc Cert.PbRefIdeal.main_arg0) = m' ((c.tc : Thread Cert.PbRefIdeal.nD Cert.PbRefIdeal.τ).loc Cert.PbRefIdeal.main_arg0)
          ∧ r.2.mem ((c.tc : Thread Cert.PbRefIdeal.nD Cert.PbRefIdeal.τ).loc Cert.PbRefIdeal.main_arg1) = m' ((c.tc : Thread Cert.PbRefIdeal.nD Cert.PbRefIdeal.τ).loc Cert.PbRefIdeal.main_arg1)
          ∧ r.2.mem ((c.tc : Thread Cert.PbRefIdeal.nD Cert.PbRefIdeal.τ).loc Cert.PbRefIdeal.main_arg2) = m' ((c.tc : Thread Cert.PbRefIdeal.nD Cert.PbRefIdeal.τ).loc Cert.PbRefIdeal.main_arg2)
          ∧ r.2.mem ((c.tc : Thread Cert.PbRefIdeal.nD Cert.PbRefIdeal.τ).loc Cert.PbRefIdeal.main_arg3) = m' ((c.tc : Thread Cert.PbRefIdeal.nD Cert.PbRefIdeal.τ).loc Cert.PbRefIdeal.main_arg3))

def preserves_Nb_NbIdeal : Prop :=
  True

def algebraic_NbIdeal_NbRefIdeal [hNbIdeal : Cert.NbIdeal.Facts] [hNbRefIdeal : Cert.NbRefIdeal.Facts] : Prop :=
  ∀ (m : (ℓ : Loc Cert.NbIdeal.nD Cert.NbIdeal.τ Cert.NbIdeal.sig) → Buf (Elt Ideal) ℓ) (g : Dev Cert.NbIdeal.nD → PrngReg)
    (m' : (ℓ : Loc Cert.NbRefIdeal.nD Cert.NbRefIdeal.τ Cert.NbRefIdeal.sig) → Buf (Elt Ideal) ℓ) (g' : Dev Cert.NbRefIdeal.nD → PrngReg), Pre_NbIdeal m →
    (∀ c : Dev Cert.NbIdeal.nD,
      m' ((c.tc : Thread Cert.NbRefIdeal.nD Cert.NbRefIdeal.τ).loc Cert.NbRefIdeal.main_arg0) = m ((c.tc : Thread Cert.NbIdeal.nD Cert.NbIdeal.τ).loc Cert.NbIdeal.main_arg0)
      ∧ m' ((c.tc : Thread Cert.NbRefIdeal.nD Cert.NbRefIdeal.τ).loc Cert.NbRefIdeal.main_arg1) = m ((c.tc : Thread Cert.NbIdeal.nD Cert.NbIdeal.τ).loc Cert.NbIdeal.main_arg1)
      ∧ m' ((c.tc : Thread Cert.NbRefIdeal.nD Cert.NbRefIdeal.τ).loc Cert.NbRefIdeal.main_arg2) = m ((c.tc : Thread Cert.NbIdeal.nD Cert.NbIdeal.τ).loc Cert.NbIdeal.main_arg2)
      ∧ m' ((c.tc : Thread Cert.NbRefIdeal.nD Cert.NbRefIdeal.τ).loc Cert.NbRefIdeal.main_arg3) = m ((c.tc : Thread Cert.NbIdeal.nD Cert.NbIdeal.τ).loc Cert.NbIdeal.main_arg3)
      ∧ m' ((c.tc : Thread Cert.NbRefIdeal.nD Cert.NbRefIdeal.τ).loc Cert.NbRefIdeal.main_arg4) = m ((c.tc : Thread Cert.NbIdeal.nD Cert.NbIdeal.τ).loc Cert.NbIdeal.main_arg4)) →
    ∃ (v0 : (c : Dev Cert.NbIdeal.nD) → Buf (Elt Ideal) ((c.tc : Thread Cert.NbIdeal.nD Cert.NbIdeal.τ).loc Cert.NbIdeal.main_v0_0)) (v1 : (c : Dev Cert.NbIdeal.nD) → Buf (Elt Ideal) ((c.tc : Thread Cert.NbIdeal.nD Cert.NbIdeal.τ).loc Cert.NbIdeal.main_v0_1)) (v2 : (c : Dev Cert.NbIdeal.nD) → Buf (Elt Ideal) ((c.tc : Thread Cert.NbIdeal.nD Cert.NbIdeal.τ).loc Cert.NbIdeal.main_v0_2)) (v3 : (c : Dev Cert.NbIdeal.nD) → Buf (Elt Ideal) ((c.tc : Thread Cert.NbIdeal.nD Cert.NbIdeal.τ).loc Cert.NbIdeal.main_v0_3)),
      θ_run (Cert.NbIdeal.defs (F := Ideal)) (onTc (τ := Cert.NbIdeal.τ) (Cert.NbIdeal.main (F := Ideal))) ⟨m, fun _ => 0, g⟩ (fun r => ∀ c : Dev Cert.NbIdeal.nD,
          r.2.mem ((c.tc : Thread Cert.NbIdeal.nD Cert.NbIdeal.τ).loc Cert.NbIdeal.main_v0_0) = v0 c
          ∧ r.2.mem ((c.tc : Thread Cert.NbIdeal.nD Cert.NbIdeal.τ).loc Cert.NbIdeal.main_v0_1) = v1 c
          ∧ r.2.mem ((c.tc : Thread Cert.NbIdeal.nD Cert.NbIdeal.τ).loc Cert.NbIdeal.main_v0_2) = v2 c
          ∧ r.2.mem ((c.tc : Thread Cert.NbIdeal.nD Cert.NbIdeal.τ).loc Cert.NbIdeal.main_v0_3) = v3 c
          ∧ r.2.mem ((c.tc : Thread Cert.NbIdeal.nD Cert.NbIdeal.τ).loc Cert.NbIdeal.main_arg0) = m ((c.tc : Thread Cert.NbIdeal.nD Cert.NbIdeal.τ).loc Cert.NbIdeal.main_arg0)
          ∧ r.2.mem ((c.tc : Thread Cert.NbIdeal.nD Cert.NbIdeal.τ).loc Cert.NbIdeal.main_arg1) = m ((c.tc : Thread Cert.NbIdeal.nD Cert.NbIdeal.τ).loc Cert.NbIdeal.main_arg1)
          ∧ r.2.mem ((c.tc : Thread Cert.NbIdeal.nD Cert.NbIdeal.τ).loc Cert.NbIdeal.main_arg2) = m ((c.tc : Thread Cert.NbIdeal.nD Cert.NbIdeal.τ).loc Cert.NbIdeal.main_arg2)
          ∧ r.2.mem ((c.tc : Thread Cert.NbIdeal.nD Cert.NbIdeal.τ).loc Cert.NbIdeal.main_arg3) = m ((c.tc : Thread Cert.NbIdeal.nD Cert.NbIdeal.τ).loc Cert.NbIdeal.main_arg3)
          ∧ r.2.mem ((c.tc : Thread Cert.NbIdeal.nD Cert.NbIdeal.τ).loc Cert.NbIdeal.main_arg4) = m ((c.tc : Thread Cert.NbIdeal.nD Cert.NbIdeal.τ).loc Cert.NbIdeal.main_arg4))
      ∧ θ_run (Cert.NbRefIdeal.defs (F := Ideal)) (onTc (τ := Cert.NbRefIdeal.τ) (Cert.NbRefIdeal.main (F := Ideal))) ⟨m', fun _ => 0, g'⟩ (fun r => ∀ c : Dev Cert.NbRefIdeal.nD,
          r.2.mem ((c.tc : Thread Cert.NbRefIdeal.nD Cert.NbRefIdeal.τ).loc Cert.NbRefIdeal.main_v49) = v0 c
          ∧ r.2.mem ((c.tc : Thread Cert.NbRefIdeal.nD Cert.NbRefIdeal.τ).loc Cert.NbRefIdeal.main_v24) = v1 c
          ∧ r.2.mem ((c.tc : Thread Cert.NbRefIdeal.nD Cert.NbRefIdeal.τ).loc Cert.NbRefIdeal.main_v27) = v2 c
          ∧ r.2.mem ((c.tc : Thread Cert.NbRefIdeal.nD Cert.NbRefIdeal.τ).loc Cert.NbRefIdeal.main_v32) = v3 c
          ∧ r.2.mem ((c.tc : Thread Cert.NbRefIdeal.nD Cert.NbRefIdeal.τ).loc Cert.NbRefIdeal.main_arg0) = m' ((c.tc : Thread Cert.NbRefIdeal.nD Cert.NbRefIdeal.τ).loc Cert.NbRefIdeal.main_arg0)
          ∧ r.2.mem ((c.tc : Thread Cert.NbRefIdeal.nD Cert.NbRefIdeal.τ).loc Cert.NbRefIdeal.main_arg1) = m' ((c.tc : Thread Cert.NbRefIdeal.nD Cert.NbRefIdeal.τ).loc Cert.NbRefIdeal.main_arg1)
          ∧ r.2.mem ((c.tc : Thread Cert.NbRefIdeal.nD Cert.NbRefIdeal.τ).loc Cert.NbRefIdeal.main_arg2) = m' ((c.tc : Thread Cert.NbRefIdeal.nD Cert.NbRefIdeal.τ).loc Cert.NbRefIdeal.main_arg2)
          ∧ r.2.mem ((c.tc : Thread Cert.NbRefIdeal.nD Cert.NbRefIdeal.τ).loc Cert.NbRefIdeal.main_arg3) = m' ((c.tc : Thread Cert.NbRefIdeal.nD Cert.NbRefIdeal.τ).loc Cert.NbRefIdeal.main_arg3)
          ∧ r.2.mem ((c.tc : Thread Cert.NbRefIdeal.nD Cert.NbRefIdeal.τ).loc Cert.NbRefIdeal.main_arg4) = m' ((c.tc : Thread Cert.NbRefIdeal.nD Cert.NbRefIdeal.τ).loc Cert.NbRefIdeal.main_arg4))

def preserves_Wa_WaIdeal : Prop :=
  True

def algebraic_WaIdeal_WaRefIdeal [hWaIdeal : Cert.WaIdeal.Facts] [hWaRefIdeal : Cert.WaRefIdeal.Facts] : Prop :=
  ∀ (m : (ℓ : Loc Cert.WaIdeal.nD Cert.WaIdeal.τ Cert.WaIdeal.sig) → Buf (Elt Ideal) ℓ) (g : Dev Cert.WaIdeal.nD → PrngReg)
    (m' : (ℓ : Loc Cert.WaRefIdeal.nD Cert.WaRefIdeal.τ Cert.WaRefIdeal.sig) → Buf (Elt Ideal) ℓ) (g' : Dev Cert.WaRefIdeal.nD → PrngReg), Pre_WaIdeal m →
    (∀ c : Dev Cert.WaIdeal.nD,
      m' ((c.tc : Thread Cert.WaRefIdeal.nD Cert.WaRefIdeal.τ).loc Cert.WaRefIdeal.main_arg0) = m ((c.tc : Thread Cert.WaIdeal.nD Cert.WaIdeal.τ).loc Cert.WaIdeal.main_arg0)
      ∧ m' ((c.tc : Thread Cert.WaRefIdeal.nD Cert.WaRefIdeal.τ).loc Cert.WaRefIdeal.main_arg1) = m ((c.tc : Thread Cert.WaIdeal.nD Cert.WaIdeal.τ).loc Cert.WaIdeal.main_arg1)
      ∧ m' ((c.tc : Thread Cert.WaRefIdeal.nD Cert.WaRefIdeal.τ).loc Cert.WaRefIdeal.main_arg2) = m ((c.tc : Thread Cert.WaIdeal.nD Cert.WaIdeal.τ).loc Cert.WaIdeal.main_arg2)
      ∧ m' ((c.tc : Thread Cert.WaRefIdeal.nD Cert.WaRefIdeal.τ).loc Cert.WaRefIdeal.main_arg3) = m ((c.tc : Thread Cert.WaIdeal.nD Cert.WaIdeal.τ).loc Cert.WaIdeal.main_arg3)
      ∧ m' ((c.tc : Thread Cert.WaRefIdeal.nD Cert.WaRefIdeal.τ).loc Cert.WaRefIdeal.main_arg4) = m ((c.tc : Thread Cert.WaIdeal.nD Cert.WaIdeal.τ).loc Cert.WaIdeal.main_arg4)) →
    ∃ (v0 : (c : Dev Cert.WaIdeal.nD) → Buf (Elt Ideal) ((c.tc : Thread Cert.WaIdeal.nD Cert.WaIdeal.τ).loc Cert.WaIdeal.main_v0_0)) (v1 : (c : Dev Cert.WaIdeal.nD) → Buf (Elt Ideal) ((c.tc : Thread Cert.WaIdeal.nD Cert.WaIdeal.τ).loc Cert.WaIdeal.main_v0_1)) (v2 : (c : Dev Cert.WaIdeal.nD) → Buf (Elt Ideal) ((c.tc : Thread Cert.WaIdeal.nD Cert.WaIdeal.τ).loc Cert.WaIdeal.main_v0_2)) (v3 : (c : Dev Cert.WaIdeal.nD) → Buf (Elt Ideal) ((c.tc : Thread Cert.WaIdeal.nD Cert.WaIdeal.τ).loc Cert.WaIdeal.main_v0_3)),
      θ_run (Cert.WaIdeal.defs (F := Ideal)) (onTc (τ := Cert.WaIdeal.τ) (Cert.WaIdeal.main (F := Ideal))) ⟨m, fun _ => 0, g⟩ (fun r => ∀ c : Dev Cert.WaIdeal.nD,
          r.2.mem ((c.tc : Thread Cert.WaIdeal.nD Cert.WaIdeal.τ).loc Cert.WaIdeal.main_v0_0) = v0 c
          ∧ r.2.mem ((c.tc : Thread Cert.WaIdeal.nD Cert.WaIdeal.τ).loc Cert.WaIdeal.main_v0_1) = v1 c
          ∧ r.2.mem ((c.tc : Thread Cert.WaIdeal.nD Cert.WaIdeal.τ).loc Cert.WaIdeal.main_v0_2) = v2 c
          ∧ r.2.mem ((c.tc : Thread Cert.WaIdeal.nD Cert.WaIdeal.τ).loc Cert.WaIdeal.main_v0_3) = v3 c
          ∧ r.2.mem ((c.tc : Thread Cert.WaIdeal.nD Cert.WaIdeal.τ).loc Cert.WaIdeal.main_arg0) = m ((c.tc : Thread Cert.WaIdeal.nD Cert.WaIdeal.τ).loc Cert.WaIdeal.main_arg0)
          ∧ r.2.mem ((c.tc : Thread Cert.WaIdeal.nD Cert.WaIdeal.τ).loc Cert.WaIdeal.main_arg1) = m ((c.tc : Thread Cert.WaIdeal.nD Cert.WaIdeal.τ).loc Cert.WaIdeal.main_arg1)
          ∧ r.2.mem ((c.tc : Thread Cert.WaIdeal.nD Cert.WaIdeal.τ).loc Cert.WaIdeal.main_arg2) = m ((c.tc : Thread Cert.WaIdeal.nD Cert.WaIdeal.τ).loc Cert.WaIdeal.main_arg2)
          ∧ r.2.mem ((c.tc : Thread Cert.WaIdeal.nD Cert.WaIdeal.τ).loc Cert.WaIdeal.main_arg3) = m ((c.tc : Thread Cert.WaIdeal.nD Cert.WaIdeal.τ).loc Cert.WaIdeal.main_arg3)
          ∧ r.2.mem ((c.tc : Thread Cert.WaIdeal.nD Cert.WaIdeal.τ).loc Cert.WaIdeal.main_arg4) = m ((c.tc : Thread Cert.WaIdeal.nD Cert.WaIdeal.τ).loc Cert.WaIdeal.main_arg4))
      ∧ θ_run (Cert.WaRefIdeal.defs (F := Ideal)) (onTc (τ := Cert.WaRefIdeal.τ) (Cert.WaRefIdeal.main (F := Ideal))) ⟨m', fun _ => 0, g'⟩ (fun r => ∀ c : Dev Cert.WaRefIdeal.nD,
          r.2.mem ((c.tc : Thread Cert.WaRefIdeal.nD Cert.WaRefIdeal.τ).loc Cert.WaRefIdeal.main_v5) = v0 c
          ∧ r.2.mem ((c.tc : Thread Cert.WaRefIdeal.nD Cert.WaRefIdeal.τ).loc Cert.WaRefIdeal.main_v29) = v1 c
          ∧ r.2.mem ((c.tc : Thread Cert.WaRefIdeal.nD Cert.WaRefIdeal.τ).loc Cert.WaRefIdeal.main_v10) = v2 c
          ∧ r.2.mem ((c.tc : Thread Cert.WaRefIdeal.nD Cert.WaRefIdeal.τ).loc Cert.WaRefIdeal.main_v16) = v3 c
          ∧ r.2.mem ((c.tc : Thread Cert.WaRefIdeal.nD Cert.WaRefIdeal.τ).loc Cert.WaRefIdeal.main_arg0) = m' ((c.tc : Thread Cert.WaRefIdeal.nD Cert.WaRefIdeal.τ).loc Cert.WaRefIdeal.main_arg0)
          ∧ r.2.mem ((c.tc : Thread Cert.WaRefIdeal.nD Cert.WaRefIdeal.τ).loc Cert.WaRefIdeal.main_arg1) = m' ((c.tc : Thread Cert.WaRefIdeal.nD Cert.WaRefIdeal.τ).loc Cert.WaRefIdeal.main_arg1)
          ∧ r.2.mem ((c.tc : Thread Cert.WaRefIdeal.nD Cert.WaRefIdeal.τ).loc Cert.WaRefIdeal.main_arg2) = m' ((c.tc : Thread Cert.WaRefIdeal.nD Cert.WaRefIdeal.τ).loc Cert.WaRefIdeal.main_arg2)
          ∧ r.2.mem ((c.tc : Thread Cert.WaRefIdeal.nD Cert.WaRefIdeal.τ).loc Cert.WaRefIdeal.main_arg3) = m' ((c.tc : Thread Cert.WaRefIdeal.nD Cert.WaRefIdeal.τ).loc Cert.WaRefIdeal.main_arg3)
          ∧ r.2.mem ((c.tc : Thread Cert.WaRefIdeal.nD Cert.WaRefIdeal.τ).loc Cert.WaRefIdeal.main_arg4) = m' ((c.tc : Thread Cert.WaRefIdeal.nD Cert.WaRefIdeal.τ).loc Cert.WaRefIdeal.main_arg4))

def preserves_Mp_MpIdeal : Prop :=
  True

def algebraic_MpIdeal_MpRefIdeal [hMpIdeal : Cert.MpIdeal.Facts] [hMpRefIdeal : Cert.MpRefIdeal.Facts] : Prop :=
  ∀ (m : (ℓ : Loc Cert.MpIdeal.nD Cert.MpIdeal.τ Cert.MpIdeal.sig) → Buf (Elt Ideal) ℓ) (g : Dev Cert.MpIdeal.nD → PrngReg)
    (m' : (ℓ : Loc Cert.MpRefIdeal.nD Cert.MpRefIdeal.τ Cert.MpRefIdeal.sig) → Buf (Elt Ideal) ℓ) (g' : Dev Cert.MpRefIdeal.nD → PrngReg), Pre_MpIdeal m →
    (∀ c : Dev Cert.MpIdeal.nD,
      m' ((c.tc : Thread Cert.MpRefIdeal.nD Cert.MpRefIdeal.τ).loc Cert.MpRefIdeal.main_arg0) = m ((c.tc : Thread Cert.MpIdeal.nD Cert.MpIdeal.τ).loc Cert.MpIdeal.main_arg0)
      ∧ m' ((c.tc : Thread Cert.MpRefIdeal.nD Cert.MpRefIdeal.τ).loc Cert.MpRefIdeal.main_arg1) = m ((c.tc : Thread Cert.MpIdeal.nD Cert.MpIdeal.τ).loc Cert.MpIdeal.main_arg1)) →
    ∃ (v0 : (c : Dev Cert.MpIdeal.nD) → Buf (Elt Ideal) ((c.tc : Thread Cert.MpIdeal.nD Cert.MpIdeal.τ).loc Cert.MpIdeal.main_v0)),
      θ_run (Cert.MpIdeal.defs (F := Ideal)) (onTc (τ := Cert.MpIdeal.τ) (Cert.MpIdeal.main (F := Ideal))) ⟨m, fun _ => 0, g⟩ (fun r => ∀ c : Dev Cert.MpIdeal.nD,
          r.2.mem ((c.tc : Thread Cert.MpIdeal.nD Cert.MpIdeal.τ).loc Cert.MpIdeal.main_v0) = v0 c
          ∧ r.2.mem ((c.tc : Thread Cert.MpIdeal.nD Cert.MpIdeal.τ).loc Cert.MpIdeal.main_arg0) = m ((c.tc : Thread Cert.MpIdeal.nD Cert.MpIdeal.τ).loc Cert.MpIdeal.main_arg0)
          ∧ r.2.mem ((c.tc : Thread Cert.MpIdeal.nD Cert.MpIdeal.τ).loc Cert.MpIdeal.main_arg1) = m ((c.tc : Thread Cert.MpIdeal.nD Cert.MpIdeal.τ).loc Cert.MpIdeal.main_arg1))
      ∧ θ_run (Cert.MpRefIdeal.defs (F := Ideal)) (onTc (τ := Cert.MpRefIdeal.τ) (Cert.MpRefIdeal.main (F := Ideal))) ⟨m', fun _ => 0, g'⟩ (fun r => ∀ c : Dev Cert.MpRefIdeal.nD,
          r.2.mem ((c.tc : Thread Cert.MpRefIdeal.nD Cert.MpRefIdeal.τ).loc Cert.MpRefIdeal.main_v2) = v0 c
          ∧ r.2.mem ((c.tc : Thread Cert.MpRefIdeal.nD Cert.MpRefIdeal.τ).loc Cert.MpRefIdeal.main_arg0) = m' ((c.tc : Thread Cert.MpRefIdeal.nD Cert.MpRefIdeal.τ).loc Cert.MpRefIdeal.main_arg0)
          ∧ r.2.mem ((c.tc : Thread Cert.MpRefIdeal.nD Cert.MpRefIdeal.τ).loc Cert.MpRefIdeal.main_arg1) = m' ((c.tc : Thread Cert.MpRefIdeal.nD Cert.MpRefIdeal.τ).loc Cert.MpRefIdeal.main_arg1))

def preserves_Lb_LbIdeal : Prop :=
  True

def algebraic_LbIdeal_LbRefIdeal_pre_bounds_are_real [hLbIdeal : Cert.LbIdeal.Facts] [hLbRefIdeal : Cert.LbRefIdeal.Facts] [hPre_bounds_are_real : Cert.Pre_bounds_are_real.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal_bounds_are_real m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v14) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0))

def preserves_Nf_NfIdeal : Prop :=
  True

def algebraic_NfIdeal_NfRefIdeal [hNfIdeal : Cert.NfIdeal.Facts] [hNfRefIdeal : Cert.NfRefIdeal.Facts] : Prop :=
  ∀ (m : (ℓ : Loc Cert.NfIdeal.nD Cert.NfIdeal.τ Cert.NfIdeal.sig) → Buf (Elt Ideal) ℓ) (g : Dev Cert.NfIdeal.nD → PrngReg)
    (m' : (ℓ : Loc Cert.NfRefIdeal.nD Cert.NfRefIdeal.τ Cert.NfRefIdeal.sig) → Buf (Elt Ideal) ℓ) (g' : Dev Cert.NfRefIdeal.nD → PrngReg), Pre_NfIdeal m →
    (∀ c : Dev Cert.NfIdeal.nD,
      m' ((c.tc : Thread Cert.NfRefIdeal.nD Cert.NfRefIdeal.τ).loc Cert.NfRefIdeal.main_arg0) = m ((c.tc : Thread Cert.NfIdeal.nD Cert.NfIdeal.τ).loc Cert.NfIdeal.main_arg0)
      ∧ m' ((c.tc : Thread Cert.NfRefIdeal.nD Cert.NfRefIdeal.τ).loc Cert.NfRefIdeal.main_arg1) = m ((c.tc : Thread Cert.NfIdeal.nD Cert.NfIdeal.τ).loc Cert.NfIdeal.main_arg1)
      ∧ m' ((c.tc : Thread Cert.NfRefIdeal.nD Cert.NfRefIdeal.τ).loc Cert.NfRefIdeal.main_arg2) = m ((c.tc : Thread Cert.NfIdeal.nD Cert.NfIdeal.τ).loc Cert.NfIdeal.main_arg2)
      ∧ m' ((c.tc : Thread Cert.NfRefIdeal.nD Cert.NfRefIdeal.τ).loc Cert.NfRefIdeal.main_arg3) = m ((c.tc : Thread Cert.NfIdeal.nD Cert.NfIdeal.τ).loc Cert.NfIdeal.main_arg3)) →
    ∃ (v0 : (c : Dev Cert.NfIdeal.nD) → Buf (Elt Ideal) ((c.tc : Thread Cert.NfIdeal.nD Cert.NfIdeal.τ).loc Cert.NfIdeal.main_v0)),
      θ_run (Cert.NfIdeal.defs (F := Ideal)) (onTc (τ := Cert.NfIdeal.τ) (Cert.NfIdeal.main (F := Ideal))) ⟨m, fun _ => 0, g⟩ (fun r => ∀ c : Dev Cert.NfIdeal.nD,
          r.2.mem ((c.tc : Thread Cert.NfIdeal.nD Cert.NfIdeal.τ).loc Cert.NfIdeal.main_v0) = v0 c
          ∧ r.2.mem ((c.tc : Thread Cert.NfIdeal.nD Cert.NfIdeal.τ).loc Cert.NfIdeal.main_arg0) = m ((c.tc : Thread Cert.NfIdeal.nD Cert.NfIdeal.τ).loc Cert.NfIdeal.main_arg0)
          ∧ r.2.mem ((c.tc : Thread Cert.NfIdeal.nD Cert.NfIdeal.τ).loc Cert.NfIdeal.main_arg1) = m ((c.tc : Thread Cert.NfIdeal.nD Cert.NfIdeal.τ).loc Cert.NfIdeal.main_arg1)
          ∧ r.2.mem ((c.tc : Thread Cert.NfIdeal.nD Cert.NfIdeal.τ).loc Cert.NfIdeal.main_arg2) = m ((c.tc : Thread Cert.NfIdeal.nD Cert.NfIdeal.τ).loc Cert.NfIdeal.main_arg2)
          ∧ r.2.mem ((c.tc : Thread Cert.NfIdeal.nD Cert.NfIdeal.τ).loc Cert.NfIdeal.main_arg3) = m ((c.tc : Thread Cert.NfIdeal.nD Cert.NfIdeal.τ).loc Cert.NfIdeal.main_arg3))
      ∧ θ_run (Cert.NfRefIdeal.defs (F := Ideal)) (onTc (τ := Cert.NfRefIdeal.τ) (Cert.NfRefIdeal.main (F := Ideal))) ⟨m', fun _ => 0, g'⟩ (fun r => ∀ c : Dev Cert.NfRefIdeal.nD,
          r.2.mem ((c.tc : Thread Cert.NfRefIdeal.nD Cert.NfRefIdeal.τ).loc Cert.NfRefIdeal.main_v18) = v0 c
          ∧ r.2.mem ((c.tc : Thread Cert.NfRefIdeal.nD Cert.NfRefIdeal.τ).loc Cert.NfRefIdeal.main_arg0) = m' ((c.tc : Thread Cert.NfRefIdeal.nD Cert.NfRefIdeal.τ).loc Cert.NfRefIdeal.main_arg0)
          ∧ r.2.mem ((c.tc : Thread Cert.NfRefIdeal.nD Cert.NfRefIdeal.τ).loc Cert.NfRefIdeal.main_arg1) = m' ((c.tc : Thread Cert.NfRefIdeal.nD Cert.NfRefIdeal.τ).loc Cert.NfRefIdeal.main_arg1)
          ∧ r.2.mem ((c.tc : Thread Cert.NfRefIdeal.nD Cert.NfRefIdeal.τ).loc Cert.NfRefIdeal.main_arg2) = m' ((c.tc : Thread Cert.NfRefIdeal.nD Cert.NfRefIdeal.τ).loc Cert.NfRefIdeal.main_arg2)
          ∧ r.2.mem ((c.tc : Thread Cert.NfRefIdeal.nD Cert.NfRefIdeal.τ).loc Cert.NfRefIdeal.main_arg3) = m' ((c.tc : Thread Cert.NfRefIdeal.nD Cert.NfRefIdeal.τ).loc Cert.NfRefIdeal.main_arg3))

def preserves_Pf_PfIdeal : Prop :=
  True

def algebraic_PfIdeal_PfRefIdeal [hPfIdeal : Cert.PfIdeal.Facts] [hPfRefIdeal : Cert.PfRefIdeal.Facts] : Prop :=
  ∀ (m : (ℓ : Loc Cert.PfIdeal.nD Cert.PfIdeal.τ Cert.PfIdeal.sig) → Buf (Elt Ideal) ℓ) (g : Dev Cert.PfIdeal.nD → PrngReg)
    (m' : (ℓ : Loc Cert.PfRefIdeal.nD Cert.PfRefIdeal.τ Cert.PfRefIdeal.sig) → Buf (Elt Ideal) ℓ) (g' : Dev Cert.PfRefIdeal.nD → PrngReg), Pre_PfIdeal m →
    (∀ c : Dev Cert.PfIdeal.nD,
      m' ((c.tc : Thread Cert.PfRefIdeal.nD Cert.PfRefIdeal.τ).loc Cert.PfRefIdeal.main_arg0) = m ((c.tc : Thread Cert.PfIdeal.nD Cert.PfIdeal.τ).loc Cert.PfIdeal.main_arg0)
      ∧ m' ((c.tc : Thread Cert.PfRefIdeal.nD Cert.PfRefIdeal.τ).loc Cert.PfRefIdeal.main_arg1) = m ((c.tc : Thread Cert.PfIdeal.nD Cert.PfIdeal.τ).loc Cert.PfIdeal.main_arg1)
      ∧ m' ((c.tc : Thread Cert.PfRefIdeal.nD Cert.PfRefIdeal.τ).loc Cert.PfRefIdeal.main_arg2) = m ((c.tc : Thread Cert.PfIdeal.nD Cert.PfIdeal.τ).loc Cert.PfIdeal.main_arg2)
      ∧ m' ((c.tc : Thread Cert.PfRefIdeal.nD Cert.PfRefIdeal.τ).loc Cert.PfRefIdeal.main_arg3) = m ((c.tc : Thread Cert.PfIdeal.nD Cert.PfIdeal.τ).loc Cert.PfIdeal.main_arg3)) →
    ∃ (v0 : (c : Dev Cert.PfIdeal.nD) → Buf (Elt Ideal) ((c.tc : Thread Cert.PfIdeal.nD Cert.PfIdeal.τ).loc Cert.PfIdeal.main_v0)),
      θ_run (Cert.PfIdeal.defs (F := Ideal)) (onTc (τ := Cert.PfIdeal.τ) (Cert.PfIdeal.main (F := Ideal))) ⟨m, fun _ => 0, g⟩ (fun r => ∀ c : Dev Cert.PfIdeal.nD,
          r.2.mem ((c.tc : Thread Cert.PfIdeal.nD Cert.PfIdeal.τ).loc Cert.PfIdeal.main_v0) = v0 c
          ∧ r.2.mem ((c.tc : Thread Cert.PfIdeal.nD Cert.PfIdeal.τ).loc Cert.PfIdeal.main_arg0) = m ((c.tc : Thread Cert.PfIdeal.nD Cert.PfIdeal.τ).loc Cert.PfIdeal.main_arg0)
          ∧ r.2.mem ((c.tc : Thread Cert.PfIdeal.nD Cert.PfIdeal.τ).loc Cert.PfIdeal.main_arg1) = m ((c.tc : Thread Cert.PfIdeal.nD Cert.PfIdeal.τ).loc Cert.PfIdeal.main_arg1)
          ∧ r.2.mem ((c.tc : Thread Cert.PfIdeal.nD Cert.PfIdeal.τ).loc Cert.PfIdeal.main_arg2) = m ((c.tc : Thread Cert.PfIdeal.nD Cert.PfIdeal.τ).loc Cert.PfIdeal.main_arg2)
          ∧ r.2.mem ((c.tc : Thread Cert.PfIdeal.nD Cert.PfIdeal.τ).loc Cert.PfIdeal.main_arg3) = m ((c.tc : Thread Cert.PfIdeal.nD Cert.PfIdeal.τ).loc Cert.PfIdeal.main_arg3))
      ∧ θ_run (Cert.PfRefIdeal.defs (F := Ideal)) (onTc (τ := Cert.PfRefIdeal.τ) (Cert.PfRefIdeal.main (F := Ideal))) ⟨m', fun _ => 0, g'⟩ (fun r => ∀ c : Dev Cert.PfRefIdeal.nD,
          r.2.mem ((c.tc : Thread Cert.PfRefIdeal.nD Cert.PfRefIdeal.τ).loc Cert.PfRefIdeal.main_v14) = v0 c
          ∧ r.2.mem ((c.tc : Thread Cert.PfRefIdeal.nD Cert.PfRefIdeal.τ).loc Cert.PfRefIdeal.main_arg0) = m' ((c.tc : Thread Cert.PfRefIdeal.nD Cert.PfRefIdeal.τ).loc Cert.PfRefIdeal.main_arg0)
          ∧ r.2.mem ((c.tc : Thread Cert.PfRefIdeal.nD Cert.PfRefIdeal.τ).loc Cert.PfRefIdeal.main_arg1) = m' ((c.tc : Thread Cert.PfRefIdeal.nD Cert.PfRefIdeal.τ).loc Cert.PfRefIdeal.main_arg1)
          ∧ r.2.mem ((c.tc : Thread Cert.PfRefIdeal.nD Cert.PfRefIdeal.τ).loc Cert.PfRefIdeal.main_arg2) = m' ((c.tc : Thread Cert.PfRefIdeal.nD Cert.PfRefIdeal.τ).loc Cert.PfRefIdeal.main_arg2)
          ∧ r.2.mem ((c.tc : Thread Cert.PfRefIdeal.nD Cert.PfRefIdeal.τ).loc Cert.PfRefIdeal.main_arg3) = m' ((c.tc : Thread Cert.PfRefIdeal.nD Cert.PfRefIdeal.τ).loc Cert.PfRefIdeal.main_arg3))

def preserves_Lo_LoIdeal : Prop :=
  True

def algebraic_LoIdeal_LoRefIdeal [hLoIdeal : Cert.LoIdeal.Facts] [hLoRefIdeal : Cert.LoRefIdeal.Facts] : Prop :=
  ∀ (m : (ℓ : Loc Cert.LoIdeal.nD Cert.LoIdeal.τ Cert.LoIdeal.sig) → Buf (Elt Ideal) ℓ) (g : Dev Cert.LoIdeal.nD → PrngReg)
    (m' : (ℓ : Loc Cert.LoRefIdeal.nD Cert.LoRefIdeal.τ Cert.LoRefIdeal.sig) → Buf (Elt Ideal) ℓ) (g' : Dev Cert.LoRefIdeal.nD → PrngReg), Pre_LoIdeal m →
    (∀ c : Dev Cert.LoIdeal.nD,
      m' ((c.tc : Thread Cert.LoRefIdeal.nD Cert.LoRefIdeal.τ).loc Cert.LoRefIdeal.main_arg0) = m ((c.tc : Thread Cert.LoIdeal.nD Cert.LoIdeal.τ).loc Cert.LoIdeal.main_arg0)
      ∧ m' ((c.tc : Thread Cert.LoRefIdeal.nD Cert.LoRefIdeal.τ).loc Cert.LoRefIdeal.main_arg1) = m ((c.tc : Thread Cert.LoIdeal.nD Cert.LoIdeal.τ).loc Cert.LoIdeal.main_arg1)) →
    ∃ (v0 : (c : Dev Cert.LoIdeal.nD) → Buf (Elt Ideal) ((c.tc : Thread Cert.LoIdeal.nD Cert.LoIdeal.τ).loc Cert.LoIdeal.main_v0_0)) (v1 : (c : Dev Cert.LoIdeal.nD) → Buf (Elt Ideal) ((c.tc : Thread Cert.LoIdeal.nD Cert.LoIdeal.τ).loc Cert.LoIdeal.main_v0_1)),
      θ_run (Cert.LoIdeal.defs (F := Ideal)) (onTc (τ := Cert.LoIdeal.τ) (Cert.LoIdeal.main (F := Ideal))) ⟨m, fun _ => 0, g⟩ (fun r => ∀ c : Dev Cert.LoIdeal.nD,
          r.2.mem ((c.tc : Thread Cert.LoIdeal.nD Cert.LoIdeal.τ).loc Cert.LoIdeal.main_v0_0) = v0 c
          ∧ r.2.mem ((c.tc : Thread Cert.LoIdeal.nD Cert.LoIdeal.τ).loc Cert.LoIdeal.main_v0_1) = v1 c
          ∧ r.2.mem ((c.tc : Thread Cert.LoIdeal.nD Cert.LoIdeal.τ).loc Cert.LoIdeal.main_arg0) = m ((c.tc : Thread Cert.LoIdeal.nD Cert.LoIdeal.τ).loc Cert.LoIdeal.main_arg0)
          ∧ r.2.mem ((c.tc : Thread Cert.LoIdeal.nD Cert.LoIdeal.τ).loc Cert.LoIdeal.main_arg1) = m ((c.tc : Thread Cert.LoIdeal.nD Cert.LoIdeal.τ).loc Cert.LoIdeal.main_arg1))
      ∧ θ_run (Cert.LoRefIdeal.defs (F := Ideal)) (onTc (τ := Cert.LoRefIdeal.τ) (Cert.LoRefIdeal.main (F := Ideal))) ⟨m', fun _ => 0, g'⟩ (fun r => ∀ c : Dev Cert.LoRefIdeal.nD,
          r.2.mem ((c.tc : Thread Cert.LoRefIdeal.nD Cert.LoRefIdeal.τ).loc Cert.LoRefIdeal.main_v14) = v0 c
          ∧ r.2.mem ((c.tc : Thread Cert.LoRefIdeal.nD Cert.LoRefIdeal.τ).loc Cert.LoRefIdeal.main_v18) = v1 c
          ∧ r.2.mem ((c.tc : Thread Cert.LoRefIdeal.nD Cert.LoRefIdeal.τ).loc Cert.LoRefIdeal.main_arg0) = m' ((c.tc : Thread Cert.LoRefIdeal.nD Cert.LoRefIdeal.τ).loc Cert.LoRefIdeal.main_arg0)
          ∧ r.2.mem ((c.tc : Thread Cert.LoRefIdeal.nD Cert.LoRefIdeal.τ).loc Cert.LoRefIdeal.main_arg1) = m' ((c.tc : Thread Cert.LoRefIdeal.nD Cert.LoRefIdeal.τ).loc Cert.LoRefIdeal.main_arg1))

def preserves_Ai_AiIdeal : Prop :=
  True

def algebraic_AiIdeal_AiRefIdeal [hAiIdeal : Cert.AiIdeal.Facts] [hAiRefIdeal : Cert.AiRefIdeal.Facts] : Prop :=
  ∀ (m : (ℓ : Loc Cert.AiIdeal.nD Cert.AiIdeal.τ Cert.AiIdeal.sig) → Buf (Elt Ideal) ℓ) (g : Dev Cert.AiIdeal.nD → PrngReg)
    (m' : (ℓ : Loc Cert.AiRefIdeal.nD Cert.AiRefIdeal.τ Cert.AiRefIdeal.sig) → Buf (Elt Ideal) ℓ) (g' : Dev Cert.AiRefIdeal.nD → PrngReg), Pre_AiIdeal m →
    (∀ c : Dev Cert.AiIdeal.nD,
      m' ((c.tc : Thread Cert.AiRefIdeal.nD Cert.AiRefIdeal.τ).loc Cert.AiRefIdeal.main_arg0) = m ((c.tc : Thread Cert.AiIdeal.nD Cert.AiIdeal.τ).loc Cert.AiIdeal.main_arg0)
      ∧ m' ((c.tc : Thread Cert.AiRefIdeal.nD Cert.AiRefIdeal.τ).loc Cert.AiRefIdeal.main_arg1) = m ((c.tc : Thread Cert.AiIdeal.nD Cert.AiIdeal.τ).loc Cert.AiIdeal.main_arg1)
      ∧ m' ((c.tc : Thread Cert.AiRefIdeal.nD Cert.AiRefIdeal.τ).loc Cert.AiRefIdeal.main_arg2) = m ((c.tc : Thread Cert.AiIdeal.nD Cert.AiIdeal.τ).loc Cert.AiIdeal.main_arg2)
      ∧ m' ((c.tc : Thread Cert.AiRefIdeal.nD Cert.AiRefIdeal.τ).loc Cert.AiRefIdeal.main_arg3) = m ((c.tc : Thread Cert.AiIdeal.nD Cert.AiIdeal.τ).loc Cert.AiIdeal.main_arg3)) →
    ∃ (v0 : (c : Dev Cert.AiIdeal.nD) → Buf (Elt Ideal) ((c.tc : Thread Cert.AiIdeal.nD Cert.AiIdeal.τ).loc Cert.AiIdeal.main_v0_0)) (v1 : (c : Dev Cert.AiIdeal.nD) → Buf (Elt Ideal) ((c.tc : Thread Cert.AiIdeal.nD Cert.AiIdeal.τ).loc Cert.AiIdeal.main_v0_1)) (v2 : (c : Dev Cert.AiIdeal.nD) → Buf (Elt Ideal) ((c.tc : Thread Cert.AiIdeal.nD Cert.AiIdeal.τ).loc Cert.AiIdeal.main_v0_2)),
      θ_run (Cert.AiIdeal.defs (F := Ideal)) (onTc (τ := Cert.AiIdeal.τ) (Cert.AiIdeal.main (F := Ideal))) ⟨m, fun _ => 0, g⟩ (fun r => ∀ c : Dev Cert.AiIdeal.nD,
          r.2.mem ((c.tc : Thread Cert.AiIdeal.nD Cert.AiIdeal.τ).loc Cert.AiIdeal.main_v0_0) = v0 c
          ∧ r.2.mem ((c.tc : Thread Cert.AiIdeal.nD Cert.AiIdeal.τ).loc Cert.AiIdeal.main_v0_1) = v1 c
          ∧ r.2.mem ((c.tc : Thread Cert.AiIdeal.nD Cert.AiIdeal.τ).loc Cert.AiIdeal.main_v0_2) = v2 c
          ∧ r.2.mem ((c.tc : Thread Cert.AiIdeal.nD Cert.AiIdeal.τ).loc Cert.AiIdeal.main_arg0) = m ((c.tc : Thread Cert.AiIdeal.nD Cert.AiIdeal.τ).loc Cert.AiIdeal.main_arg0)
          ∧ r.2.mem ((c.tc : Thread Cert.AiIdeal.nD Cert.AiIdeal.τ).loc Cert.AiIdeal.main_arg1) = m ((c.tc : Thread Cert.AiIdeal.nD Cert.AiIdeal.τ).loc Cert.AiIdeal.main_arg1)
          ∧ r.2.mem ((c.tc : Thread Cert.AiIdeal.nD Cert.AiIdeal.τ).loc Cert.AiIdeal.main_arg2) = m ((c.tc : Thread Cert.AiIdeal.nD Cert.AiIdeal.τ).loc Cert.AiIdeal.main_arg2)
          ∧ r.2.mem ((c.tc : Thread Cert.AiIdeal.nD Cert.AiIdeal.τ).loc Cert.AiIdeal.main_arg3) = m ((c.tc : Thread Cert.AiIdeal.nD Cert.AiIdeal.τ).loc Cert.AiIdeal.main_arg3))
      ∧ θ_run (Cert.AiRefIdeal.defs (F := Ideal)) (onTc (τ := Cert.AiRefIdeal.τ) (Cert.AiRefIdeal.main (F := Ideal))) ⟨m', fun _ => 0, g'⟩ (fun r => ∀ c : Dev Cert.AiRefIdeal.nD,
          r.2.mem ((c.tc : Thread Cert.AiRefIdeal.nD Cert.AiRefIdeal.τ).loc Cert.AiRefIdeal.main_v23) = v0 c
          ∧ r.2.mem ((c.tc : Thread Cert.AiRefIdeal.nD Cert.AiRefIdeal.τ).loc Cert.AiRefIdeal.main_v4) = v1 c
          ∧ r.2.mem ((c.tc : Thread Cert.AiRefIdeal.nD Cert.AiRefIdeal.τ).loc Cert.AiRefIdeal.main_v10) = v2 c
          ∧ r.2.mem ((c.tc : Thread Cert.AiRefIdeal.nD Cert.AiRefIdeal.τ).loc Cert.AiRefIdeal.main_arg0) = m' ((c.tc : Thread Cert.AiRefIdeal.nD Cert.AiRefIdeal.τ).loc Cert.AiRefIdeal.main_arg0)
          ∧ r.2.mem ((c.tc : Thread Cert.AiRefIdeal.nD Cert.AiRefIdeal.τ).loc Cert.AiRefIdeal.main_arg1) = m' ((c.tc : Thread Cert.AiRefIdeal.nD Cert.AiRefIdeal.τ).loc Cert.AiRefIdeal.main_arg1)
          ∧ r.2.mem ((c.tc : Thread Cert.AiRefIdeal.nD Cert.AiRefIdeal.τ).loc Cert.AiRefIdeal.main_arg2) = m' ((c.tc : Thread Cert.AiRefIdeal.nD Cert.AiRefIdeal.τ).loc Cert.AiRefIdeal.main_arg2)
          ∧ r.2.mem ((c.tc : Thread Cert.AiRefIdeal.nD Cert.AiRefIdeal.τ).loc Cert.AiRefIdeal.main_arg3) = m' ((c.tc : Thread Cert.AiRefIdeal.nD Cert.AiRefIdeal.τ).loc Cert.AiRefIdeal.main_arg3))

def preserves_Ap_ApIdeal : Prop :=
  True

def algebraic_ApIdeal_ApRefIdeal [hApIdeal : Cert.ApIdeal.Facts] [hApRefIdeal : Cert.ApRefIdeal.Facts] : Prop :=
  ∀ (m : (ℓ : Loc Cert.ApIdeal.nD Cert.ApIdeal.τ Cert.ApIdeal.sig) → Buf (Elt Ideal) ℓ) (g : Dev Cert.ApIdeal.nD → PrngReg)
    (m' : (ℓ : Loc Cert.ApRefIdeal.nD Cert.ApRefIdeal.τ Cert.ApRefIdeal.sig) → Buf (Elt Ideal) ℓ) (g' : Dev Cert.ApRefIdeal.nD → PrngReg), Pre_ApIdeal m →
    (∀ c : Dev Cert.ApIdeal.nD,
      m' ((c.tc : Thread Cert.ApRefIdeal.nD Cert.ApRefIdeal.τ).loc Cert.ApRefIdeal.main_arg0) = m ((c.tc : Thread Cert.ApIdeal.nD Cert.ApIdeal.τ).loc Cert.ApIdeal.main_arg0)
      ∧ m' ((c.tc : Thread Cert.ApRefIdeal.nD Cert.ApRefIdeal.τ).loc Cert.ApRefIdeal.main_arg1) = m ((c.tc : Thread Cert.ApIdeal.nD Cert.ApIdeal.τ).loc Cert.ApIdeal.main_arg1)
      ∧ m' ((c.tc : Thread Cert.ApRefIdeal.nD Cert.ApRefIdeal.τ).loc Cert.ApRefIdeal.main_arg2) = m ((c.tc : Thread Cert.ApIdeal.nD Cert.ApIdeal.τ).loc Cert.ApIdeal.main_arg2)
      ∧ m' ((c.tc : Thread Cert.ApRefIdeal.nD Cert.ApRefIdeal.τ).loc Cert.ApRefIdeal.main_arg3) = m ((c.tc : Thread Cert.ApIdeal.nD Cert.ApIdeal.τ).loc Cert.ApIdeal.main_arg3)) →
    ∃ (v0 : (c : Dev Cert.ApIdeal.nD) → Buf (Elt Ideal) ((c.tc : Thread Cert.ApIdeal.nD Cert.ApIdeal.τ).loc Cert.ApIdeal.main_v0_0)) (v1 : (c : Dev Cert.ApIdeal.nD) → Buf (Elt Ideal) ((c.tc : Thread Cert.ApIdeal.nD Cert.ApIdeal.τ).loc Cert.ApIdeal.main_v0_1)) (v2 : (c : Dev Cert.ApIdeal.nD) → Buf (Elt Ideal) ((c.tc : Thread Cert.ApIdeal.nD Cert.ApIdeal.τ).loc Cert.ApIdeal.main_v0_2)),
      θ_run (Cert.ApIdeal.defs (F := Ideal)) (onTc (τ := Cert.ApIdeal.τ) (Cert.ApIdeal.main (F := Ideal))) ⟨m, fun _ => 0, g⟩ (fun r => ∀ c : Dev Cert.ApIdeal.nD,
          r.2.mem ((c.tc : Thread Cert.ApIdeal.nD Cert.ApIdeal.τ).loc Cert.ApIdeal.main_v0_0) = v0 c
          ∧ r.2.mem ((c.tc : Thread Cert.ApIdeal.nD Cert.ApIdeal.τ).loc Cert.ApIdeal.main_v0_1) = v1 c
          ∧ r.2.mem ((c.tc : Thread Cert.ApIdeal.nD Cert.ApIdeal.τ).loc Cert.ApIdeal.main_v0_2) = v2 c
          ∧ r.2.mem ((c.tc : Thread Cert.ApIdeal.nD Cert.ApIdeal.τ).loc Cert.ApIdeal.main_arg0) = m ((c.tc : Thread Cert.ApIdeal.nD Cert.ApIdeal.τ).loc Cert.ApIdeal.main_arg0)
          ∧ r.2.mem ((c.tc : Thread Cert.ApIdeal.nD Cert.ApIdeal.τ).loc Cert.ApIdeal.main_arg1) = m ((c.tc : Thread Cert.ApIdeal.nD Cert.ApIdeal.τ).loc Cert.ApIdeal.main_arg1)
          ∧ r.2.mem ((c.tc : Thread Cert.ApIdeal.nD Cert.ApIdeal.τ).loc Cert.ApIdeal.main_arg2) = m ((c.tc : Thread Cert.ApIdeal.nD Cert.ApIdeal.τ).loc Cert.ApIdeal.main_arg2)
          ∧ r.2.mem ((c.tc : Thread Cert.ApIdeal.nD Cert.ApIdeal.τ).loc Cert.ApIdeal.main_arg3) = m ((c.tc : Thread Cert.ApIdeal.nD Cert.ApIdeal.τ).loc Cert.ApIdeal.main_arg3))
      ∧ θ_run (Cert.ApRefIdeal.defs (F := Ideal)) (onTc (τ := Cert.ApRefIdeal.τ) (Cert.ApRefIdeal.main (F := Ideal))) ⟨m', fun _ => 0, g'⟩ (fun r => ∀ c : Dev Cert.ApRefIdeal.nD,
          r.2.mem ((c.tc : Thread Cert.ApRefIdeal.nD Cert.ApRefIdeal.τ).loc Cert.ApRefIdeal.main_v23) = v0 c
          ∧ r.2.mem ((c.tc : Thread Cert.ApRefIdeal.nD Cert.ApRefIdeal.τ).loc Cert.ApRefIdeal.main_v4) = v1 c
          ∧ r.2.mem ((c.tc : Thread Cert.ApRefIdeal.nD Cert.ApRefIdeal.τ).loc Cert.ApRefIdeal.main_v10) = v2 c
          ∧ r.2.mem ((c.tc : Thread Cert.ApRefIdeal.nD Cert.ApRefIdeal.τ).loc Cert.ApRefIdeal.main_arg0) = m' ((c.tc : Thread Cert.ApRefIdeal.nD Cert.ApRefIdeal.τ).loc Cert.ApRefIdeal.main_arg0)
          ∧ r.2.mem ((c.tc : Thread Cert.ApRefIdeal.nD Cert.ApRefIdeal.τ).loc Cert.ApRefIdeal.main_arg1) = m' ((c.tc : Thread Cert.ApRefIdeal.nD Cert.ApRefIdeal.τ).loc Cert.ApRefIdeal.main_arg1)
          ∧ r.2.mem ((c.tc : Thread Cert.ApRefIdeal.nD Cert.ApRefIdeal.τ).loc Cert.ApRefIdeal.main_arg2) = m' ((c.tc : Thread Cert.ApRefIdeal.nD Cert.ApRefIdeal.τ).loc Cert.ApRefIdeal.main_arg2)
          ∧ r.2.mem ((c.tc : Thread Cert.ApRefIdeal.nD Cert.ApRefIdeal.τ).loc Cert.ApRefIdeal.main_arg3) = m' ((c.tc : Thread Cert.ApRefIdeal.nD Cert.ApRefIdeal.τ).loc Cert.ApRefIdeal.main_arg3))

def preserves_Aq_AqIdeal : Prop :=
  True

def algebraic_AqIdeal_AqRefIdeal [hAqIdeal : Cert.AqIdeal.Facts] [hAqRefIdeal : Cert.AqRefIdeal.Facts] : Prop :=
  ∀ (m : (ℓ : Loc Cert.AqIdeal.nD Cert.AqIdeal.τ Cert.AqIdeal.sig) → Buf (Elt Ideal) ℓ) (g : Dev Cert.AqIdeal.nD → PrngReg)
    (m' : (ℓ : Loc Cert.AqRefIdeal.nD Cert.AqRefIdeal.τ Cert.AqRefIdeal.sig) → Buf (Elt Ideal) ℓ) (g' : Dev Cert.AqRefIdeal.nD → PrngReg), Pre_AqIdeal m →
    (∀ c : Dev Cert.AqIdeal.nD,
      m' ((c.tc : Thread Cert.AqRefIdeal.nD Cert.AqRefIdeal.τ).loc Cert.AqRefIdeal.main_arg0) = m ((c.tc : Thread Cert.AqIdeal.nD Cert.AqIdeal.τ).loc Cert.AqIdeal.main_arg0)
      ∧ m' ((c.tc : Thread Cert.AqRefIdeal.nD Cert.AqRefIdeal.τ).loc Cert.AqRefIdeal.main_arg1) = m ((c.tc : Thread Cert.AqIdeal.nD Cert.AqIdeal.τ).loc Cert.AqIdeal.main_arg1)
      ∧ m' ((c.tc : Thread Cert.AqRefIdeal.nD Cert.AqRefIdeal.τ).loc Cert.AqRefIdeal.main_arg2) = m ((c.tc : Thread Cert.AqIdeal.nD Cert.AqIdeal.τ).loc Cert.AqIdeal.main_arg2)
      ∧ m' ((c.tc : Thread Cert.AqRefIdeal.nD Cert.AqRefIdeal.τ).loc Cert.AqRefIdeal.main_arg3) = m ((c.tc : Thread Cert.AqIdeal.nD Cert.AqIdeal.τ).loc Cert.AqIdeal.main_arg3)) →
    ∃ (v0 : (c : Dev Cert.AqIdeal.nD) → Buf (Elt Ideal) ((c.tc : Thread Cert.AqIdeal.nD Cert.AqIdeal.τ).loc Cert.AqIdeal.main_v0_0)) (v1 : (c : Dev Cert.AqIdeal.nD) → Buf (Elt Ideal) ((c.tc : Thread Cert.AqIdeal.nD Cert.AqIdeal.τ).loc Cert.AqIdeal.main_v0_1)) (v2 : (c : Dev Cert.AqIdeal.nD) → Buf (Elt Ideal) ((c.tc : Thread Cert.AqIdeal.nD Cert.AqIdeal.τ).loc Cert.AqIdeal.main_v0_2)),
      θ_run (Cert.AqIdeal.defs (F := Ideal)) (onTc (τ := Cert.AqIdeal.τ) (Cert.AqIdeal.main (F := Ideal))) ⟨m, fun _ => 0, g⟩ (fun r => ∀ c : Dev Cert.AqIdeal.nD,
          r.2.mem ((c.tc : Thread Cert.AqIdeal.nD Cert.AqIdeal.τ).loc Cert.AqIdeal.main_v0_0) = v0 c
          ∧ r.2.mem ((c.tc : Thread Cert.AqIdeal.nD Cert.AqIdeal.τ).loc Cert.AqIdeal.main_v0_1) = v1 c
          ∧ r.2.mem ((c.tc : Thread Cert.AqIdeal.nD Cert.AqIdeal.τ).loc Cert.AqIdeal.main_v0_2) = v2 c
          ∧ r.2.mem ((c.tc : Thread Cert.AqIdeal.nD Cert.AqIdeal.τ).loc Cert.AqIdeal.main_arg0) = m ((c.tc : Thread Cert.AqIdeal.nD Cert.AqIdeal.τ).loc Cert.AqIdeal.main_arg0)
          ∧ r.2.mem ((c.tc : Thread Cert.AqIdeal.nD Cert.AqIdeal.τ).loc Cert.AqIdeal.main_arg1) = m ((c.tc : Thread Cert.AqIdeal.nD Cert.AqIdeal.τ).loc Cert.AqIdeal.main_arg1)
          ∧ r.2.mem ((c.tc : Thread Cert.AqIdeal.nD Cert.AqIdeal.τ).loc Cert.AqIdeal.main_arg2) = m ((c.tc : Thread Cert.AqIdeal.nD Cert.AqIdeal.τ).loc Cert.AqIdeal.main_arg2)
          ∧ r.2.mem ((c.tc : Thread Cert.AqIdeal.nD Cert.AqIdeal.τ).loc Cert.AqIdeal.main_arg3) = m ((c.tc : Thread Cert.AqIdeal.nD Cert.AqIdeal.τ).loc Cert.AqIdeal.main_arg3))
      ∧ θ_run (Cert.AqRefIdeal.defs (F := Ideal)) (onTc (τ := Cert.AqRefIdeal.τ) (Cert.AqRefIdeal.main (F := Ideal))) ⟨m', fun _ => 0, g'⟩ (fun r => ∀ c : Dev Cert.AqRefIdeal.nD,
          r.2.mem ((c.tc : Thread Cert.AqRefIdeal.nD Cert.AqRefIdeal.τ).loc Cert.AqRefIdeal.main_v23) = v0 c
          ∧ r.2.mem ((c.tc : Thread Cert.AqRefIdeal.nD Cert.AqRefIdeal.τ).loc Cert.AqRefIdeal.main_v4) = v1 c
          ∧ r.2.mem ((c.tc : Thread Cert.AqRefIdeal.nD Cert.AqRefIdeal.τ).loc Cert.AqRefIdeal.main_v10) = v2 c
          ∧ r.2.mem ((c.tc : Thread Cert.AqRefIdeal.nD Cert.AqRefIdeal.τ).loc Cert.AqRefIdeal.main_arg0) = m' ((c.tc : Thread Cert.AqRefIdeal.nD Cert.AqRefIdeal.τ).loc Cert.AqRefIdeal.main_arg0)
          ∧ r.2.mem ((c.tc : Thread Cert.AqRefIdeal.nD Cert.AqRefIdeal.τ).loc Cert.AqRefIdeal.main_arg1) = m' ((c.tc : Thread Cert.AqRefIdeal.nD Cert.AqRefIdeal.τ).loc Cert.AqRefIdeal.main_arg1)
          ∧ r.2.mem ((c.tc : Thread Cert.AqRefIdeal.nD Cert.AqRefIdeal.τ).loc Cert.AqRefIdeal.main_arg2) = m' ((c.tc : Thread Cert.AqRefIdeal.nD Cert.AqRefIdeal.τ).loc Cert.AqRefIdeal.main_arg2)
          ∧ r.2.mem ((c.tc : Thread Cert.AqRefIdeal.nD Cert.AqRefIdeal.τ).loc Cert.AqRefIdeal.main_arg3) = m' ((c.tc : Thread Cert.AqRefIdeal.nD Cert.AqRefIdeal.τ).loc Cert.AqRefIdeal.main_arg3))

def preserves_Ao_AoIdeal : Prop :=
  True

def algebraic_AoIdeal_AoRefIdeal [hAoIdeal : Cert.AoIdeal.Facts] [hAoRefIdeal : Cert.AoRefIdeal.Facts] : Prop :=
  ∀ (m : (ℓ : Loc Cert.AoIdeal.nD Cert.AoIdeal.τ Cert.AoIdeal.sig) → Buf (Elt Ideal) ℓ) (g : Dev Cert.AoIdeal.nD → PrngReg)
    (m' : (ℓ : Loc Cert.AoRefIdeal.nD Cert.AoRefIdeal.τ Cert.AoRefIdeal.sig) → Buf (Elt Ideal) ℓ) (g' : Dev Cert.AoRefIdeal.nD → PrngReg), Pre_AoIdeal m →
    (∀ c : Dev Cert.AoIdeal.nD,
      m' ((c.tc : Thread Cert.AoRefIdeal.nD Cert.AoRefIdeal.τ).loc Cert.AoRefIdeal.main_arg0) = m ((c.tc : Thread Cert.AoIdeal.nD Cert.AoIdeal.τ).loc Cert.AoIdeal.main_arg0)
      ∧ m' ((c.tc : Thread Cert.AoRefIdeal.nD Cert.AoRefIdeal.τ).loc Cert.AoRefIdeal.main_arg1) = m ((c.tc : Thread Cert.AoIdeal.nD Cert.AoIdeal.τ).loc Cert.AoIdeal.main_arg1)
      ∧ m' ((c.tc : Thread Cert.AoRefIdeal.nD Cert.AoRefIdeal.τ).loc Cert.AoRefIdeal.main_arg2) = m ((c.tc : Thread Cert.AoIdeal.nD Cert.AoIdeal.τ).loc Cert.AoIdeal.main_arg2)
      ∧ m' ((c.tc : Thread Cert.AoRefIdeal.nD Cert.AoRefIdeal.τ).loc Cert.AoRefIdeal.main_arg3) = m ((c.tc : Thread Cert.AoIdeal.nD Cert.AoIdeal.τ).loc Cert.AoIdeal.main_arg3)) →
    ∃ (v0 : (c : Dev Cert.AoIdeal.nD) → Buf (Elt Ideal) ((c.tc : Thread Cert.AoIdeal.nD Cert.AoIdeal.τ).loc Cert.AoIdeal.main_v0_0)) (v1 : (c : Dev Cert.AoIdeal.nD) → Buf (Elt Ideal) ((c.tc : Thread Cert.AoIdeal.nD Cert.AoIdeal.τ).loc Cert.AoIdeal.main_v0_1)) (v2 : (c : Dev Cert.AoIdeal.nD) → Buf (Elt Ideal) ((c.tc : Thread Cert.AoIdeal.nD Cert.AoIdeal.τ).loc Cert.AoIdeal.main_v0_2)),
      θ_run (Cert.AoIdeal.defs (F := Ideal)) (onTc (τ := Cert.AoIdeal.τ) (Cert.AoIdeal.main (F := Ideal))) ⟨m, fun _ => 0, g⟩ (fun r => ∀ c : Dev Cert.AoIdeal.nD,
          r.2.mem ((c.tc : Thread Cert.AoIdeal.nD Cert.AoIdeal.τ).loc Cert.AoIdeal.main_v0_0) = v0 c
          ∧ r.2.mem ((c.tc : Thread Cert.AoIdeal.nD Cert.AoIdeal.τ).loc Cert.AoIdeal.main_v0_1) = v1 c
          ∧ r.2.mem ((c.tc : Thread Cert.AoIdeal.nD Cert.AoIdeal.τ).loc Cert.AoIdeal.main_v0_2) = v2 c
          ∧ r.2.mem ((c.tc : Thread Cert.AoIdeal.nD Cert.AoIdeal.τ).loc Cert.AoIdeal.main_arg0) = m ((c.tc : Thread Cert.AoIdeal.nD Cert.AoIdeal.τ).loc Cert.AoIdeal.main_arg0)
          ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
          ∧ r.2.mem ((c.tc : Thread Cert.AoIdeal.nD Cert.AoIdeal.τ).loc Cert.AoIdeal.main_arg2) = m ((c.tc : Thread Cert.AoIdeal.nD Cert.AoIdeal.τ).loc Cert.AoIdeal.main_arg2)
          ∧ r.2.mem ((c.tc : Thread Cert.AoIdeal.nD Cert.AoIdeal.τ).loc Cert.AoIdeal.main_arg3) = m ((c.tc : Thread Cert.AoIdeal.nD Cert.AoIdeal.τ).loc Cert.AoIdeal.main_arg3))
      ∧ θ_run (Cert.AoRefIdeal.defs (F := Ideal)) (onTc (τ := Cert.AoRefIdeal.τ) (Cert.AoRefIdeal.main (F := Ideal))) ⟨m', fun _ => 0, g'⟩ (fun r => ∀ c : Dev Cert.AoRefIdeal.nD,
          r.2.mem ((c.tc : Thread Cert.AoRefIdeal.nD Cert.AoRefIdeal.τ).loc Cert.AoRefIdeal.main_v23) = v0 c
          ∧ r.2.mem ((c.tc : Thread Cert.AoRefIdeal.nD Cert.AoRefIdeal.τ).loc Cert.AoRefIdeal.main_v4) = v1 c
          ∧ r.2.mem ((c.tc : Thread Cert.AoRefIdeal.nD Cert.AoRefIdeal.τ).loc Cert.AoRefIdeal.main_v10) = v2 c
          ∧ r.2.mem ((c.tc : Thread Cert.AoRefIdeal.nD Cert.AoRefIdeal.τ).loc Cert.AoRefIdeal.main_arg0) = m' ((c.tc : Thread Cert.AoRefIdeal.nD Cert.AoRefIdeal.τ).loc Cert.AoRefIdeal.main_arg0)
          ∧ r.2.mem ((c.tc : Thread Cert.AoRefIdeal.nD Cert.AoRefIdeal.τ).loc Cert.AoRefIdeal.main_arg1) = m' ((c.tc : Thread Cert.AoRefIdeal.nD Cert.AoRefIdeal.τ).loc Cert.AoRefIdeal.main_arg1)
          ∧ r.2.mem ((c.tc : Thread Cert.AoRefIdeal.nD Cert.AoRefIdeal.τ).loc Cert.AoRefIdeal.main_arg2) = m' ((c.tc : Thread Cert.AoRefIdeal.nD Cert.AoRefIdeal.τ).loc Cert.AoRefIdeal.main_arg2)
          ∧ r.2.mem ((c.tc : Thread Cert.AoRefIdeal.nD Cert.AoRefIdeal.τ).loc Cert.AoRefIdeal.main_arg3) = m' ((c.tc : Thread Cert.AoRefIdeal.nD Cert.AoRefIdeal.τ).loc Cert.AoRefIdeal.main_arg3))

def preserves_Gi0_Gi0Ideal : Prop :=
  True

def algebraic_Gi0Ideal_Gi0RefIdeal [hGi0Ideal : Cert.Gi0Ideal.Facts] [hGi0RefIdeal : Cert.Gi0RefIdeal.Facts] : Prop :=
  ∀ (m : (ℓ : Loc Cert.Gi0Ideal.nD Cert.Gi0Ideal.τ Cert.Gi0Ideal.sig) → Buf (Elt Ideal) ℓ) (g : Dev Cert.Gi0Ideal.nD → PrngReg)
    (m' : (ℓ : Loc Cert.Gi0RefIdeal.nD Cert.Gi0RefIdeal.τ Cert.Gi0RefIdeal.sig) → Buf (Elt Ideal) ℓ) (g' : Dev Cert.Gi0RefIdeal.nD → PrngReg), Pre_Gi0Ideal m →
    (∀ c : Dev Cert.Gi0Ideal.nD,
      m' ((c.tc : Thread Cert.Gi0RefIdeal.nD Cert.Gi0RefIdeal.τ).loc Cert.Gi0RefIdeal.main_arg0) = m ((c.tc : Thread Cert.Gi0Ideal.nD Cert.Gi0Ideal.τ).loc Cert.Gi0Ideal.main_arg0)
      ∧ m' ((c.tc : Thread Cert.Gi0RefIdeal.nD Cert.Gi0RefIdeal.τ).loc Cert.Gi0RefIdeal.main_arg1) = m ((c.tc : Thread Cert.Gi0Ideal.nD Cert.Gi0Ideal.τ).loc Cert.Gi0Ideal.main_arg1)
      ∧ m' ((c.tc : Thread Cert.Gi0RefIdeal.nD Cert.Gi0RefIdeal.τ).loc Cert.Gi0RefIdeal.main_arg2) = m ((c.tc : Thread Cert.Gi0Ideal.nD Cert.Gi0Ideal.τ).loc Cert.Gi0Ideal.main_arg2)) →
    ∃ (v0 : (c : Dev Cert.Gi0Ideal.nD) → Buf (Elt Ideal) ((c.tc : Thread Cert.Gi0Ideal.nD Cert.Gi0Ideal.τ).loc Cert.Gi0Ideal.main_v0)),
      θ_run (Cert.Gi0Ideal.defs (F := Ideal)) (onTc (τ := Cert.Gi0Ideal.τ) (Cert.Gi0Ideal.main (F := Ideal))) ⟨m, fun _ => 0, g⟩ (fun r => ∀ c : Dev Cert.Gi0Ideal.nD,
          r.2.mem ((c.tc : Thread Cert.Gi0Ideal.nD Cert.Gi0Ideal.τ).loc Cert.Gi0Ideal.main_v0) = v0 c
          ∧ r.2.mem ((c.tc : Thread Cert.Gi0Ideal.nD Cert.Gi0Ideal.τ).loc Cert.Gi0Ideal.main_arg0) = m ((c.tc : Thread Cert.Gi0Ideal.nD Cert.Gi0Ideal.τ).loc Cert.Gi0Ideal.main_arg0)
          ∧ r.2.mem ((c.tc : Thread Cert.Gi0Ideal.nD Cert.Gi0Ideal.τ).loc Cert.Gi0Ideal.main_arg1) = m ((c.tc : Thread Cert.Gi0Ideal.nD Cert.Gi0Ideal.τ).loc Cert.Gi0Ideal.main_arg1)
          ∧ r.2.mem ((c.tc : Thread Cert.Gi0Ideal.nD Cert.Gi0Ideal.τ).loc Cert.Gi0Ideal.main_arg2) = m ((c.tc : Thread Cert.Gi0Ideal.nD Cert.Gi0Ideal.τ).loc Cert.Gi0Ideal.main_arg2))
      ∧ θ_run (Cert.Gi0RefIdeal.defs (F := Ideal)) (onTc (τ := Cert.Gi0RefIdeal.τ) (Cert.Gi0RefIdeal.main (F := Ideal))) ⟨m', fun _ => 0, g'⟩ (fun r => ∀ c : Dev Cert.Gi0RefIdeal.nD,
          r.2.mem ((c.tc : Thread Cert.Gi0RefIdeal.nD Cert.Gi0RefIdeal.τ).loc Cert.Gi0RefIdeal.main_v8) = v0 c
          ∧ r.2.mem ((c.tc : Thread Cert.Gi0RefIdeal.nD Cert.Gi0RefIdeal.τ).loc Cert.Gi0RefIdeal.main_arg0) = m' ((c.tc : Thread Cert.Gi0RefIdeal.nD Cert.Gi0RefIdeal.τ).loc Cert.Gi0RefIdeal.main_arg0)
          ∧ r.2.mem ((c.tc : Thread Cert.Gi0RefIdeal.nD Cert.Gi0RefIdeal.τ).loc Cert.Gi0RefIdeal.main_arg1) = m' ((c.tc : Thread Cert.Gi0RefIdeal.nD Cert.Gi0RefIdeal.τ).loc Cert.Gi0RefIdeal.main_arg1)
          ∧ r.2.mem ((c.tc : Thread Cert.Gi0RefIdeal.nD Cert.Gi0RefIdeal.τ).loc Cert.Gi0RefIdeal.main_arg2) = m' ((c.tc : Thread Cert.Gi0RefIdeal.nD Cert.Gi0RefIdeal.τ).loc Cert.Gi0RefIdeal.main_arg2))

def preserves_Gi1_Gi1Ideal : Prop :=
  True

def algebraic_Gi1Ideal_Gi1RefIdeal [hGi1Ideal : Cert.Gi1Ideal.Facts] [hGi1RefIdeal : Cert.Gi1RefIdeal.Facts] : Prop :=
  ∀ (m : (ℓ : Loc Cert.Gi1Ideal.nD Cert.Gi1Ideal.τ Cert.Gi1Ideal.sig) → Buf (Elt Ideal) ℓ) (g : Dev Cert.Gi1Ideal.nD → PrngReg)
    (m' : (ℓ : Loc Cert.Gi1RefIdeal.nD Cert.Gi1RefIdeal.τ Cert.Gi1RefIdeal.sig) → Buf (Elt Ideal) ℓ) (g' : Dev Cert.Gi1RefIdeal.nD → PrngReg), Pre_Gi1Ideal m →
    (∀ c : Dev Cert.Gi1Ideal.nD,
      m' ((c.tc : Thread Cert.Gi1RefIdeal.nD Cert.Gi1RefIdeal.τ).loc Cert.Gi1RefIdeal.main_arg0) = m ((c.tc : Thread Cert.Gi1Ideal.nD Cert.Gi1Ideal.τ).loc Cert.Gi1Ideal.main_arg0)
      ∧ m' ((c.tc : Thread Cert.Gi1RefIdeal.nD Cert.Gi1RefIdeal.τ).loc Cert.Gi1RefIdeal.main_arg1) = m ((c.tc : Thread Cert.Gi1Ideal.nD Cert.Gi1Ideal.τ).loc Cert.Gi1Ideal.main_arg1)
      ∧ m' ((c.tc : Thread Cert.Gi1RefIdeal.nD Cert.Gi1RefIdeal.τ).loc Cert.Gi1RefIdeal.main_arg2) = m ((c.tc : Thread Cert.Gi1Ideal.nD Cert.Gi1Ideal.τ).loc Cert.Gi1Ideal.main_arg2)) →
    ∃ (v0 : (c : Dev Cert.Gi1Ideal.nD) → Buf (Elt Ideal) ((c.tc : Thread Cert.Gi1Ideal.nD Cert.Gi1Ideal.τ).loc Cert.Gi1Ideal.main_v0)),
      θ_run (Cert.Gi1Ideal.defs (F := Ideal)) (onTc (τ := Cert.Gi1Ideal.τ) (Cert.Gi1Ideal.main (F := Ideal))) ⟨m, fun _ => 0, g⟩ (fun r => ∀ c : Dev Cert.Gi1Ideal.nD,
          r.2.mem ((c.tc : Thread Cert.Gi1Ideal.nD Cert.Gi1Ideal.τ).loc Cert.Gi1Ideal.main_v0) = v0 c
          ∧ r.2.mem ((c.tc : Thread Cert.Gi1Ideal.nD Cert.Gi1Ideal.τ).loc Cert.Gi1Ideal.main_arg0) = m ((c.tc : Thread Cert.Gi1Ideal.nD Cert.Gi1Ideal.τ).loc Cert.Gi1Ideal.main_arg0)
          ∧ r.2.mem ((c.tc : Thread Cert.Gi1Ideal.nD Cert.Gi1Ideal.τ).loc Cert.Gi1Ideal.main_arg1) = m ((c.tc : Thread Cert.Gi1Ideal.nD Cert.Gi1Ideal.τ).loc Cert.Gi1Ideal.main_arg1)
          ∧ r.2.mem ((c.tc : Thread Cert.Gi1Ideal.nD Cert.Gi1Ideal.τ).loc Cert.Gi1Ideal.main_arg2) = m ((c.tc : Thread Cert.Gi1Ideal.nD Cert.Gi1Ideal.τ).loc Cert.Gi1Ideal.main_arg2))
      ∧ θ_run (Cert.Gi1RefIdeal.defs (F := Ideal)) (onTc (τ := Cert.Gi1RefIdeal.τ) (Cert.Gi1RefIdeal.main (F := Ideal))) ⟨m', fun _ => 0, g'⟩ (fun r => ∀ c : Dev Cert.Gi1RefIdeal.nD,
          r.2.mem ((c.tc : Thread Cert.Gi1RefIdeal.nD Cert.Gi1RefIdeal.τ).loc Cert.Gi1RefIdeal.main_v8) = v0 c
          ∧ r.2.mem ((c.tc : Thread Cert.Gi1RefIdeal.nD Cert.Gi1RefIdeal.τ).loc Cert.Gi1RefIdeal.main_arg0) = m' ((c.tc : Thread Cert.Gi1RefIdeal.nD Cert.Gi1RefIdeal.τ).loc Cert.Gi1RefIdeal.main_arg0)
          ∧ r.2.mem ((c.tc : Thread Cert.Gi1RefIdeal.nD Cert.Gi1RefIdeal.τ).loc Cert.Gi1RefIdeal.main_arg1) = m' ((c.tc : Thread Cert.Gi1RefIdeal.nD Cert.Gi1RefIdeal.τ).loc Cert.Gi1RefIdeal.main_arg1)
          ∧ r.2.mem ((c.tc : Thread Cert.Gi1RefIdeal.nD Cert.Gi1RefIdeal.τ).loc Cert.Gi1RefIdeal.main_arg2) = m' ((c.tc : Thread Cert.Gi1RefIdeal.nD Cert.Gi1RefIdeal.τ).loc Cert.Gi1RefIdeal.main_arg2))

def preserves_Gi2_Gi2Ideal : Prop :=
  True

def algebraic_Gi2Ideal_Gi2RefIdeal [hGi2Ideal : Cert.Gi2Ideal.Facts] [hGi2RefIdeal : Cert.Gi2RefIdeal.Facts] : Prop :=
  ∀ (m : (ℓ : Loc Cert.Gi2Ideal.nD Cert.Gi2Ideal.τ Cert.Gi2Ideal.sig) → Buf (Elt Ideal) ℓ) (g : Dev Cert.Gi2Ideal.nD → PrngReg)
    (m' : (ℓ : Loc Cert.Gi2RefIdeal.nD Cert.Gi2RefIdeal.τ Cert.Gi2RefIdeal.sig) → Buf (Elt Ideal) ℓ) (g' : Dev Cert.Gi2RefIdeal.nD → PrngReg), Pre_Gi2Ideal m →
    (∀ c : Dev Cert.Gi2Ideal.nD,
      m' ((c.tc : Thread Cert.Gi2RefIdeal.nD Cert.Gi2RefIdeal.τ).loc Cert.Gi2RefIdeal.main_arg0) = m ((c.tc : Thread Cert.Gi2Ideal.nD Cert.Gi2Ideal.τ).loc Cert.Gi2Ideal.main_arg0)
      ∧ m' ((c.tc : Thread Cert.Gi2RefIdeal.nD Cert.Gi2RefIdeal.τ).loc Cert.Gi2RefIdeal.main_arg1) = m ((c.tc : Thread Cert.Gi2Ideal.nD Cert.Gi2Ideal.τ).loc Cert.Gi2Ideal.main_arg1)
      ∧ m' ((c.tc : Thread Cert.Gi2RefIdeal.nD Cert.Gi2RefIdeal.τ).loc Cert.Gi2RefIdeal.main_arg2) = m ((c.tc : Thread Cert.Gi2Ideal.nD Cert.Gi2Ideal.τ).loc Cert.Gi2Ideal.main_arg2)) →
    ∃ (v0 : (c : Dev Cert.Gi2Ideal.nD) → Buf (Elt Ideal) ((c.tc : Thread Cert.Gi2Ideal.nD Cert.Gi2Ideal.τ).loc Cert.Gi2Ideal.main_v0)),
      θ_run (Cert.Gi2Ideal.defs (F := Ideal)) (onTc (τ := Cert.Gi2Ideal.τ) (Cert.Gi2Ideal.main (F := Ideal))) ⟨m, fun _ => 0, g⟩ (fun r => ∀ c : Dev Cert.Gi2Ideal.nD,
          r.2.mem ((c.tc : Thread Cert.Gi2Ideal.nD Cert.Gi2Ideal.τ).loc Cert.Gi2Ideal.main_v0) = v0 c
          ∧ r.2.mem ((c.tc : Thread Cert.Gi2Ideal.nD Cert.Gi2Ideal.τ).loc Cert.Gi2Ideal.main_arg0) = m ((c.tc : Thread Cert.Gi2Ideal.nD Cert.Gi2Ideal.τ).loc Cert.Gi2Ideal.main_arg0)
          ∧ r.2.mem ((c.tc : Thread Cert.Gi2Ideal.nD Cert.Gi2Ideal.τ).loc Cert.Gi2Ideal.main_arg1) = m ((c.tc : Thread Cert.Gi2Ideal.nD Cert.Gi2Ideal.τ).loc Cert.Gi2Ideal.main_arg1)
          ∧ r.2.mem ((c.tc : Thread Cert.Gi2Ideal.nD Cert.Gi2Ideal.τ).loc Cert.Gi2Ideal.main_arg2) = m ((c.tc : Thread Cert.Gi2Ideal.nD Cert.Gi2Ideal.τ).loc Cert.Gi2Ideal.main_arg2))
      ∧ θ_run (Cert.Gi2RefIdeal.defs (F := Ideal)) (onTc (τ := Cert.Gi2RefIdeal.τ) (Cert.Gi2RefIdeal.main (F := Ideal))) ⟨m', fun _ => 0, g'⟩ (fun r => ∀ c : Dev Cert.Gi2RefIdeal.nD,
          r.2.mem ((c.tc : Thread Cert.Gi2RefIdeal.nD Cert.Gi2RefIdeal.τ).loc Cert.Gi2RefIdeal.main_v8) = v0 c
          ∧ r.2.mem ((c.tc : Thread Cert.Gi2RefIdeal.nD Cert.Gi2RefIdeal.τ).loc Cert.Gi2RefIdeal.main_arg0) = m' ((c.tc : Thread Cert.Gi2RefIdeal.nD Cert.Gi2RefIdeal.τ).loc Cert.Gi2RefIdeal.main_arg0)
          ∧ r.2.mem ((c.tc : Thread Cert.Gi2RefIdeal.nD Cert.Gi2RefIdeal.τ).loc Cert.Gi2RefIdeal.main_arg1) = m' ((c.tc : Thread Cert.Gi2RefIdeal.nD Cert.Gi2RefIdeal.τ).loc Cert.Gi2RefIdeal.main_arg1)
          ∧ r.2.mem ((c.tc : Thread Cert.Gi2RefIdeal.nD Cert.Gi2RefIdeal.τ).loc Cert.Gi2RefIdeal.main_arg2) = m' ((c.tc : Thread Cert.Gi2RefIdeal.nD Cert.Gi2RefIdeal.τ).loc Cert.Gi2RefIdeal.main_arg2))

def preserves_Gi3_Gi3Ideal : Prop :=
  True

def algebraic_Gi3Ideal_Gi3RefIdeal [hGi3Ideal : Cert.Gi3Ideal.Facts] [hGi3RefIdeal : Cert.Gi3RefIdeal.Facts] : Prop :=
  ∀ (m : (ℓ : Loc Cert.Gi3Ideal.nD Cert.Gi3Ideal.τ Cert.Gi3Ideal.sig) → Buf (Elt Ideal) ℓ) (g : Dev Cert.Gi3Ideal.nD → PrngReg)
    (m' : (ℓ : Loc Cert.Gi3RefIdeal.nD Cert.Gi3RefIdeal.τ Cert.Gi3RefIdeal.sig) → Buf (Elt Ideal) ℓ) (g' : Dev Cert.Gi3RefIdeal.nD → PrngReg), Pre_Gi3Ideal m →
    (∀ c : Dev Cert.Gi3Ideal.nD,
      m' ((c.tc : Thread Cert.Gi3RefIdeal.nD Cert.Gi3RefIdeal.τ).loc Cert.Gi3RefIdeal.main_arg0) = m ((c.tc : Thread Cert.Gi3Ideal.nD Cert.Gi3Ideal.τ).loc Cert.Gi3Ideal.main_arg0)
      ∧ m' ((c.tc : Thread Cert.Gi3RefIdeal.nD Cert.Gi3RefIdeal.τ).loc Cert.Gi3RefIdeal.main_arg1) = m ((c.tc : Thread Cert.Gi3Ideal.nD Cert.Gi3Ideal.τ).loc Cert.Gi3Ideal.main_arg1)
      ∧ m' ((c.tc : Thread Cert.Gi3RefIdeal.nD Cert.Gi3RefIdeal.τ).loc Cert.Gi3RefIdeal.main_arg2) = m ((c.tc : Thread Cert.Gi3Ideal.nD Cert.Gi3Ideal.τ).loc Cert.Gi3Ideal.main_arg2)) →
    ∃ (v0 : (c : Dev Cert.Gi3Ideal.nD) → Buf (Elt Ideal) ((c.tc : Thread Cert.Gi3Ideal.nD Cert.Gi3Ideal.τ).loc Cert.Gi3Ideal.main_v0)),
      θ_run (Cert.Gi3Ideal.defs (F := Ideal)) (onTc (τ := Cert.Gi3Ideal.τ) (Cert.Gi3Ideal.main (F := Ideal))) ⟨m, fun _ => 0, g⟩ (fun r => ∀ c : Dev Cert.Gi3Ideal.nD,
          r.2.mem ((c.tc : Thread Cert.Gi3Ideal.nD Cert.Gi3Ideal.τ).loc Cert.Gi3Ideal.main_v0) = v0 c
          ∧ r.2.mem ((c.tc : Thread Cert.Gi3Ideal.nD Cert.Gi3Ideal.τ).loc Cert.Gi3Ideal.main_arg0) = m ((c.tc : Thread Cert.Gi3Ideal.nD Cert.Gi3Ideal.τ).loc Cert.Gi3Ideal.main_arg0)
          ∧ r.2.mem ((c.tc : Thread Cert.Gi3Ideal.nD Cert.Gi3Ideal.τ).loc Cert.Gi3Ideal.main_arg1) = m ((c.tc : Thread Cert.Gi3Ideal.nD Cert.Gi3Ideal.τ).loc Cert.Gi3Ideal.main_arg1)
          ∧ r.2.mem ((c.tc : Thread Cert.Gi3Ideal.nD Cert.Gi3Ideal.τ).loc Cert.Gi3Ideal.main_arg2) = m ((c.tc : Thread Cert.Gi3Ideal.nD Cert.Gi3Ideal.τ).loc Cert.Gi3Ideal.main_arg2))
      ∧ θ_run (Cert.Gi3RefIdeal.defs (F := Ideal)) (onTc (τ := Cert.Gi3RefIdeal.τ) (Cert.Gi3RefIdeal.main (F := Ideal))) ⟨m', fun _ => 0, g'⟩ (fun r => ∀ c : Dev Cert.Gi3RefIdeal.nD,
          r.2.mem ((c.tc : Thread Cert.Gi3RefIdeal.nD Cert.Gi3RefIdeal.τ).loc Cert.Gi3RefIdeal.main_v8) = v0 c
          ∧ r.2.mem ((c.tc : Thread Cert.Gi3RefIdeal.nD Cert.Gi3RefIdeal.τ).loc Cert.Gi3RefIdeal.main_arg0) = m' ((c.tc : Thread Cert.Gi3RefIdeal.nD Cert.Gi3RefIdeal.τ).loc Cert.Gi3RefIdeal.main_arg0)
          ∧ r.2.mem ((c.tc : Thread Cert.Gi3RefIdeal.nD Cert.Gi3RefIdeal.τ).loc Cert.Gi3RefIdeal.main_arg1) = m' ((c.tc : Thread Cert.Gi3RefIdeal.nD Cert.Gi3RefIdeal.τ).loc Cert.Gi3RefIdeal.main_arg1)
          ∧ r.2.mem ((c.tc : Thread Cert.Gi3RefIdeal.nD Cert.Gi3RefIdeal.τ).loc Cert.Gi3RefIdeal.main_arg2) = m' ((c.tc : Thread Cert.Gi3RefIdeal.nD Cert.Gi3RefIdeal.τ).loc Cert.Gi3RefIdeal.main_arg2))

def preserves_Gi4_Gi4Ideal : Prop :=
  True

def algebraic_Gi4Ideal_Gi4RefIdeal [hGi4Ideal : Cert.Gi4Ideal.Facts] [hGi4RefIdeal : Cert.Gi4RefIdeal.Facts] : Prop :=
  ∀ (m : (ℓ : Loc Cert.Gi4Ideal.nD Cert.Gi4Ideal.τ Cert.Gi4Ideal.sig) → Buf (Elt Ideal) ℓ) (g : Dev Cert.Gi4Ideal.nD → PrngReg)
    (m' : (ℓ : Loc Cert.Gi4RefIdeal.nD Cert.Gi4RefIdeal.τ Cert.Gi4RefIdeal.sig) → Buf (Elt Ideal) ℓ) (g' : Dev Cert.Gi4RefIdeal.nD → PrngReg), Pre_Gi4Ideal m →
    (∀ c : Dev Cert.Gi4Ideal.nD,
      m' ((c.tc : Thread Cert.Gi4RefIdeal.nD Cert.Gi4RefIdeal.τ).loc Cert.Gi4RefIdeal.main_arg0) = m ((c.tc : Thread Cert.Gi4Ideal.nD Cert.Gi4Ideal.τ).loc Cert.Gi4Ideal.main_arg0)
      ∧ m' ((c.tc : Thread Cert.Gi4RefIdeal.nD Cert.Gi4RefIdeal.τ).loc Cert.Gi4RefIdeal.main_arg1) = m ((c.tc : Thread Cert.Gi4Ideal.nD Cert.Gi4Ideal.τ).loc Cert.Gi4Ideal.main_arg1)
      ∧ m' ((c.tc : Thread Cert.Gi4RefIdeal.nD Cert.Gi4RefIdeal.τ).loc Cert.Gi4RefIdeal.main_arg2) = m ((c.tc : Thread Cert.Gi4Ideal.nD Cert.Gi4Ideal.τ).loc Cert.Gi4Ideal.main_arg2)) →
    ∃ (v0 : (c : Dev Cert.Gi4Ideal.nD) → Buf (Elt Ideal) ((c.tc : Thread Cert.Gi4Ideal.nD Cert.Gi4Ideal.τ).loc Cert.Gi4Ideal.main_v0)),
      θ_run (Cert.Gi4Ideal.defs (F := Ideal)) (onTc (τ := Cert.Gi4Ideal.τ) (Cert.Gi4Ideal.main (F := Ideal))) ⟨m, fun _ => 0, g⟩ (fun r => ∀ c : Dev Cert.Gi4Ideal.nD,
          r.2.mem ((c.tc : Thread Cert.Gi4Ideal.nD Cert.Gi4Ideal.τ).loc Cert.Gi4Ideal.main_v0) = v0 c
          ∧ r.2.mem ((c.tc : Thread Cert.Gi4Ideal.nD Cert.Gi4Ideal.τ).loc Cert.Gi4Ideal.main_arg0) = m ((c.tc : Thread Cert.Gi4Ideal.nD Cert.Gi4Ideal.τ).loc Cert.Gi4Ideal.main_arg0)
          ∧ r.2.mem ((c.tc : Thread Cert.Gi4Ideal.nD Cert.Gi4Ideal.τ).loc Cert.Gi4Ideal.main_arg1) = m ((c.tc : Thread Cert.Gi4Ideal.nD Cert.Gi4Ideal.τ).loc Cert.Gi4Ideal.main_arg1)
          ∧ r.2.mem ((c.tc : Thread Cert.Gi4Ideal.nD Cert.Gi4Ideal.τ).loc Cert.Gi4Ideal.main_arg2) = m ((c.tc : Thread Cert.Gi4Ideal.nD Cert.Gi4Ideal.τ).loc Cert.Gi4Ideal.main_arg2))
      ∧ θ_run (Cert.Gi4RefIdeal.defs (F := Ideal)) (onTc (τ := Cert.Gi4RefIdeal.τ) (Cert.Gi4RefIdeal.main (F := Ideal))) ⟨m', fun _ => 0, g'⟩ (fun r => ∀ c : Dev Cert.Gi4RefIdeal.nD,
          r.2.mem ((c.tc : Thread Cert.Gi4RefIdeal.nD Cert.Gi4RefIdeal.τ).loc Cert.Gi4RefIdeal.main_v8) = v0 c
          ∧ r.2.mem ((c.tc : Thread Cert.Gi4RefIdeal.nD Cert.Gi4RefIdeal.τ).loc Cert.Gi4RefIdeal.main_arg0) = m' ((c.tc : Thread Cert.Gi4RefIdeal.nD Cert.Gi4RefIdeal.τ).loc Cert.Gi4RefIdeal.main_arg0)
          ∧ r.2.mem ((c.tc : Thread Cert.Gi4RefIdeal.nD Cert.Gi4RefIdeal.τ).loc Cert.Gi4RefIdeal.main_arg1) = m' ((c.tc : Thread Cert.Gi4RefIdeal.nD Cert.Gi4RefIdeal.τ).loc Cert.Gi4RefIdeal.main_arg1)
          ∧ r.2.mem ((c.tc : Thread Cert.Gi4RefIdeal.nD Cert.Gi4RefIdeal.τ).loc Cert.Gi4RefIdeal.main_arg2) = m' ((c.tc : Thread Cert.Gi4RefIdeal.nD Cert.Gi4RefIdeal.τ).loc Cert.Gi4RefIdeal.main_arg2))

def preserves_Gi5_Gi5Ideal : Prop :=
  True

def algebraic_Gi5Ideal_Gi5RefIdeal [hGi5Ideal : Cert.Gi5Ideal.Facts] [hGi5RefIdeal : Cert.Gi5RefIdeal.Facts] : Prop :=
  ∀ (m : (ℓ : Loc Cert.Gi5Ideal.nD Cert.Gi5Ideal.τ Cert.Gi5Ideal.sig) → Buf (Elt Ideal) ℓ) (g : Dev Cert.Gi5Ideal.nD → PrngReg)
    (m' : (ℓ : Loc Cert.Gi5RefIdeal.nD Cert.Gi5RefIdeal.τ Cert.Gi5RefIdeal.sig) → Buf (Elt Ideal) ℓ) (g' : Dev Cert.Gi5RefIdeal.nD → PrngReg), Pre_Gi5Ideal m →
    (∀ c : Dev Cert.Gi5Ideal.nD,
      m' ((c.tc : Thread Cert.Gi5RefIdeal.nD Cert.Gi5RefIdeal.τ).loc Cert.Gi5RefIdeal.main_arg0) = m ((c.tc : Thread Cert.Gi5Ideal.nD Cert.Gi5Ideal.τ).loc Cert.Gi5Ideal.main_arg0)
      ∧ m' ((c.tc : Thread Cert.Gi5RefIdeal.nD Cert.Gi5RefIdeal.τ).loc Cert.Gi5RefIdeal.main_arg1) = m ((c.tc : Thread Cert.Gi5Ideal.nD Cert.Gi5Ideal.τ).loc Cert.Gi5Ideal.main_arg1)
      ∧ m' ((c.tc : Thread Cert.Gi5RefIdeal.nD Cert.Gi5RefIdeal.τ).loc Cert.Gi5RefIdeal.main_arg2) = m ((c.tc : Thread Cert.Gi5Ideal.nD Cert.Gi5Ideal.τ).loc Cert.Gi5Ideal.main_arg2)) →
    ∃ (v0 : (c : Dev Cert.Gi5Ideal.nD) → Buf (Elt Ideal) ((c.tc : Thread Cert.Gi5Ideal.nD Cert.Gi5Ideal.τ).loc Cert.Gi5Ideal.main_v0)),
      θ_run (Cert.Gi5Ideal.defs (F := Ideal)) (onTc (τ := Cert.Gi5Ideal.τ) (Cert.Gi5Ideal.main (F := Ideal))) ⟨m, fun _ => 0, g⟩ (fun r => ∀ c : Dev Cert.Gi5Ideal.nD,
          r.2.mem ((c.tc : Thread Cert.Gi5Ideal.nD Cert.Gi5Ideal.τ).loc Cert.Gi5Ideal.main_v0) = v0 c
          ∧ r.2.mem ((c.tc : Thread Cert.Gi5Ideal.nD Cert.Gi5Ideal.τ).loc Cert.Gi5Ideal.main_arg0) = m ((c.tc : Thread Cert.Gi5Ideal.nD Cert.Gi5Ideal.τ).loc Cert.Gi5Ideal.main_arg0)
          ∧ r.2.mem ((c.tc : Thread Cert.Gi5Ideal.nD Cert.Gi5Ideal.τ).loc Cert.Gi5Ideal.main_arg1) = m ((c.tc : Thread Cert.Gi5Ideal.nD Cert.Gi5Ideal.τ).loc Cert.Gi5Ideal.main_arg1)
          ∧ r.2.mem ((c.tc : Thread Cert.Gi5Ideal.nD Cert.Gi5Ideal.τ).loc Cert.Gi5Ideal.main_arg2) = m ((c.tc : Thread Cert.Gi5Ideal.nD Cert.Gi5Ideal.τ).loc Cert.Gi5Ideal.main_arg2))
      ∧ θ_run (Cert.Gi5RefIdeal.defs (F := Ideal)) (onTc (τ := Cert.Gi5RefIdeal.τ) (Cert.Gi5RefIdeal.main (F := Ideal))) ⟨m', fun _ => 0, g'⟩ (fun r => ∀ c : Dev Cert.Gi5RefIdeal.nD,
          r.2.mem ((c.tc : Thread Cert.Gi5RefIdeal.nD Cert.Gi5RefIdeal.τ).loc Cert.Gi5RefIdeal.main_v8) = v0 c
          ∧ r.2.mem ((c.tc : Thread Cert.Gi5RefIdeal.nD Cert.Gi5RefIdeal.τ).loc Cert.Gi5RefIdeal.main_arg0) = m' ((c.tc : Thread Cert.Gi5RefIdeal.nD Cert.Gi5RefIdeal.τ).loc Cert.Gi5RefIdeal.main_arg0)
          ∧ r.2.mem ((c.tc : Thread Cert.Gi5RefIdeal.nD Cert.Gi5RefIdeal.τ).loc Cert.Gi5RefIdeal.main_arg1) = m' ((c.tc : Thread Cert.Gi5RefIdeal.nD Cert.Gi5RefIdeal.τ).loc Cert.Gi5RefIdeal.main_arg1)
          ∧ r.2.mem ((c.tc : Thread Cert.Gi5RefIdeal.nD Cert.Gi5RefIdeal.τ).loc Cert.Gi5RefIdeal.main_arg2) = m' ((c.tc : Thread Cert.Gi5RefIdeal.nD Cert.Gi5RefIdeal.τ).loc Cert.Gi5RefIdeal.main_arg2))

def preserves_Gi6_Gi6Ideal : Prop :=
  True

def algebraic_Gi6Ideal_Gi6RefIdeal [hGi6Ideal : Cert.Gi6Ideal.Facts] [hGi6RefIdeal : Cert.Gi6RefIdeal.Facts] : Prop :=
  ∀ (m : (ℓ : Loc Cert.Gi6Ideal.nD Cert.Gi6Ideal.τ Cert.Gi6Ideal.sig) → Buf (Elt Ideal) ℓ) (g : Dev Cert.Gi6Ideal.nD → PrngReg)
    (m' : (ℓ : Loc Cert.Gi6RefIdeal.nD Cert.Gi6RefIdeal.τ Cert.Gi6RefIdeal.sig) → Buf (Elt Ideal) ℓ) (g' : Dev Cert.Gi6RefIdeal.nD → PrngReg), Pre_Gi6Ideal m →
    (∀ c : Dev Cert.Gi6Ideal.nD,
      m' ((c.tc : Thread Cert.Gi6RefIdeal.nD Cert.Gi6RefIdeal.τ).loc Cert.Gi6RefIdeal.main_arg0) = m ((c.tc : Thread Cert.Gi6Ideal.nD Cert.Gi6Ideal.τ).loc Cert.Gi6Ideal.main_arg0)
      ∧ m' ((c.tc : Thread Cert.Gi6RefIdeal.nD Cert.Gi6RefIdeal.τ).loc Cert.Gi6RefIdeal.main_arg1) = m ((c.tc : Thread Cert.Gi6Ideal.nD Cert.Gi6Ideal.τ).loc Cert.Gi6Ideal.main_arg1)
      ∧ m' ((c.tc : Thread Cert.Gi6RefIdeal.nD Cert.Gi6RefIdeal.τ).loc Cert.Gi6RefIdeal.main_arg2) = m ((c.tc : Thread Cert.Gi6Ideal.nD Cert.Gi6Ideal.τ).loc Cert.Gi6Ideal.main_arg2)) →
    ∃ (v0 : (c : Dev Cert.Gi6Ideal.nD) → Buf (Elt Ideal) ((c.tc : Thread Cert.Gi6Ideal.nD Cert.Gi6Ideal.τ).loc Cert.Gi6Ideal.main_v0)),
      θ_run (Cert.Gi6Ideal.defs (F := Ideal)) (onTc (τ := Cert.Gi6Ideal.τ) (Cert.Gi6Ideal.main (F := Ideal))) ⟨m, fun _ => 0, g⟩ (fun r => ∀ c : Dev Cert.Gi6Ideal.nD,
          r.2.mem ((c.tc : Thread Cert.Gi6Ideal.nD Cert.Gi6Ideal.τ).loc Cert.Gi6Ideal.main_v0) = v0 c
          ∧ r.2.mem ((c.tc : Thread Cert.Gi6Ideal.nD Cert.Gi6Ideal.τ).loc Cert.Gi6Ideal.main_arg0) = m ((c.tc : Thread Cert.Gi6Ideal.nD Cert.Gi6Ideal.τ).loc Cert.Gi6Ideal.main_arg0)
          ∧ r.2.mem ((c.tc : Thread Cert.Gi6Ideal.nD Cert.Gi6Ideal.τ).loc Cert.Gi6Ideal.main_arg1) = m ((c.tc : Thread Cert.Gi6Ideal.nD Cert.Gi6Ideal.τ).loc Cert.Gi6Ideal.main_arg1)
          ∧ r.2.mem ((c.tc : Thread Cert.Gi6Ideal.nD Cert.Gi6Ideal.τ).loc Cert.Gi6Ideal.main_arg2) = m ((c.tc : Thread Cert.Gi6Ideal.nD Cert.Gi6Ideal.τ).loc Cert.Gi6Ideal.main_arg2))
      ∧ θ_run (Cert.Gi6RefIdeal.defs (F := Ideal)) (onTc (τ := Cert.Gi6RefIdeal.τ) (Cert.Gi6RefIdeal.main (F := Ideal))) ⟨m', fun _ => 0, g'⟩ (fun r => ∀ c : Dev Cert.Gi6RefIdeal.nD,
          r.2.mem ((c.tc : Thread Cert.Gi6RefIdeal.nD Cert.Gi6RefIdeal.τ).loc Cert.Gi6RefIdeal.main_v8) = v0 c
          ∧ r.2.mem ((c.tc : Thread Cert.Gi6RefIdeal.nD Cert.Gi6RefIdeal.τ).loc Cert.Gi6RefIdeal.main_arg0) = m' ((c.tc : Thread Cert.Gi6RefIdeal.nD Cert.Gi6RefIdeal.τ).loc Cert.Gi6RefIdeal.main_arg0)
          ∧ r.2.mem ((c.tc : Thread Cert.Gi6RefIdeal.nD Cert.Gi6RefIdeal.τ).loc Cert.Gi6RefIdeal.main_arg1) = m' ((c.tc : Thread Cert.Gi6RefIdeal.nD Cert.Gi6RefIdeal.τ).loc Cert.Gi6RefIdeal.main_arg1)
          ∧ r.2.mem ((c.tc : Thread Cert.Gi6RefIdeal.nD Cert.Gi6RefIdeal.τ).loc Cert.Gi6RefIdeal.main_arg2) = m' ((c.tc : Thread Cert.Gi6RefIdeal.nD Cert.Gi6RefIdeal.τ).loc Cert.Gi6RefIdeal.main_arg2))

def preserves_Gi7_Gi7Ideal : Prop :=
  True

def algebraic_Gi7Ideal_Gi7RefIdeal [hGi7Ideal : Cert.Gi7Ideal.Facts] [hGi7RefIdeal : Cert.Gi7RefIdeal.Facts] : Prop :=
  ∀ (m : (ℓ : Loc Cert.Gi7Ideal.nD Cert.Gi7Ideal.τ Cert.Gi7Ideal.sig) → Buf (Elt Ideal) ℓ) (g : Dev Cert.Gi7Ideal.nD → PrngReg)
    (m' : (ℓ : Loc Cert.Gi7RefIdeal.nD Cert.Gi7RefIdeal.τ Cert.Gi7RefIdeal.sig) → Buf (Elt Ideal) ℓ) (g' : Dev Cert.Gi7RefIdeal.nD → PrngReg), Pre_Gi7Ideal m →
    (∀ c : Dev Cert.Gi7Ideal.nD,
      m' ((c.tc : Thread Cert.Gi7RefIdeal.nD Cert.Gi7RefIdeal.τ).loc Cert.Gi7RefIdeal.main_arg0) = m ((c.tc : Thread Cert.Gi7Ideal.nD Cert.Gi7Ideal.τ).loc Cert.Gi7Ideal.main_arg0)
      ∧ m' ((c.tc : Thread Cert.Gi7RefIdeal.nD Cert.Gi7RefIdeal.τ).loc Cert.Gi7RefIdeal.main_arg1) = m ((c.tc : Thread Cert.Gi7Ideal.nD Cert.Gi7Ideal.τ).loc Cert.Gi7Ideal.main_arg1)
      ∧ m' ((c.tc : Thread Cert.Gi7RefIdeal.nD Cert.Gi7RefIdeal.τ).loc Cert.Gi7RefIdeal.main_arg2) = m ((c.tc : Thread Cert.Gi7Ideal.nD Cert.Gi7Ideal.τ).loc Cert.Gi7Ideal.main_arg2)) →
    ∃ (v0 : (c : Dev Cert.Gi7Ideal.nD) → Buf (Elt Ideal) ((c.tc : Thread Cert.Gi7Ideal.nD Cert.Gi7Ideal.τ).loc Cert.Gi7Ideal.main_v0)),
      θ_run (Cert.Gi7Ideal.defs (F := Ideal)) (onTc (τ := Cert.Gi7Ideal.τ) (Cert.Gi7Ideal.main (F := Ideal))) ⟨m, fun _ => 0, g⟩ (fun r => ∀ c : Dev Cert.Gi7Ideal.nD,
          r.2.mem ((c.tc : Thread Cert.Gi7Ideal.nD Cert.Gi7Ideal.τ).loc Cert.Gi7Ideal.main_v0) = v0 c
          ∧ r.2.mem ((c.tc : Thread Cert.Gi7Ideal.nD Cert.Gi7Ideal.τ).loc Cert.Gi7Ideal.main_arg0) = m ((c.tc : Thread Cert.Gi7Ideal.nD Cert.Gi7Ideal.τ).loc Cert.Gi7Ideal.main_arg0)
          ∧ r.2.mem ((c.tc : Thread Cert.Gi7Ideal.nD Cert.Gi7Ideal.τ).loc Cert.Gi7Ideal.main_arg1) = m ((c.tc : Thread Cert.Gi7Ideal.nD Cert.Gi7Ideal.τ).loc Cert.Gi7Ideal.main_arg1)
          ∧ r.2.mem ((c.tc : Thread Cert.Gi7Ideal.nD Cert.Gi7Ideal.τ).loc Cert.Gi7Ideal.main_arg2) = m ((c.tc : Thread Cert.Gi7Ideal.nD Cert.Gi7Ideal.τ).loc Cert.Gi7Ideal.main_arg2))
      ∧ θ_run (Cert.Gi7RefIdeal.defs (F := Ideal)) (onTc (τ := Cert.Gi7RefIdeal.τ) (Cert.Gi7RefIdeal.main (F := Ideal))) ⟨m', fun _ => 0, g'⟩ (fun r => ∀ c : Dev Cert.Gi7RefIdeal.nD,
          r.2.mem ((c.tc : Thread Cert.Gi7RefIdeal.nD Cert.Gi7RefIdeal.τ).loc Cert.Gi7RefIdeal.main_v8) = v0 c
          ∧ r.2.mem ((c.tc : Thread Cert.Gi7RefIdeal.nD Cert.Gi7RefIdeal.τ).loc Cert.Gi7RefIdeal.main_arg0) = m' ((c.tc : Thread Cert.Gi7RefIdeal.nD Cert.Gi7RefIdeal.τ).loc Cert.Gi7RefIdeal.main_arg0)
          ∧ r.2.mem ((c.tc : Thread Cert.Gi7RefIdeal.nD Cert.Gi7RefIdeal.τ).loc Cert.Gi7RefIdeal.main_arg1) = m' ((c.tc : Thread Cert.Gi7RefIdeal.nD Cert.Gi7RefIdeal.τ).loc Cert.Gi7RefIdeal.main_arg1)
          ∧ r.2.mem ((c.tc : Thread Cert.Gi7RefIdeal.nD Cert.Gi7RefIdeal.τ).loc Cert.Gi7RefIdeal.main_arg2) = m' ((c.tc : Thread Cert.Gi7RefIdeal.nD Cert.Gi7RefIdeal.τ).loc Cert.Gi7RefIdeal.main_arg2))

def Claim : Prop :=
  ∃ (hKernel : Cert.Kernel.Facts) (hKernelIdeal : Cert.KernelIdeal.Facts) (hReferenceIdeal : Cert.ReferenceIdeal.Facts) (hDh : Cert.Dh.Facts) (hDhIdeal : Cert.DhIdeal.Facts) (hDhRefIdeal : Cert.DhRefIdeal.Facts) (hGw : Cert.Gw.Facts) (hGwIdeal : Cert.GwIdeal.Facts) (hGwRefIdeal : Cert.GwRefIdeal.Facts) (hDy : Cert.Dy.Facts) (hDyIdeal : Cert.DyIdeal.Facts) (hDyRefIdeal : Cert.DyRefIdeal.Facts) (hMb : Cert.Mb.Facts) (hMbIdeal : Cert.MbIdeal.Facts) (hMbRefIdeal : Cert.MbRefIdeal.Facts) (hPj : Cert.Pj.Facts) (hPjIdeal : Cert.PjIdeal.Facts) (hPjRefIdeal : Cert.PjRefIdeal.Facts) (hMg : Cert.Mg.Facts) (hMgIdeal : Cert.MgIdeal.Facts) (hMgRefIdeal : Cert.MgRefIdeal.Facts) (hOp : Cert.Op.Facts) (hOpIdeal : Cert.OpIdeal.Facts) (hOpRefIdeal : Cert.OpRefIdeal.Facts) (hGo : Cert.Go.Facts) (hGoIdeal : Cert.GoIdeal.Facts) (hGoRefIdeal : Cert.GoRefIdeal.Facts) (hPb : Cert.Pb.Facts) (hPbIdeal : Cert.PbIdeal.Facts) (hPbRefIdeal : Cert.PbRefIdeal.Facts) (hNb : Cert.Nb.Facts) (hNbIdeal : Cert.NbIdeal.Facts) (hNbRefIdeal : Cert.NbRefIdeal.Facts) (hWa : Cert.Wa.Facts) (hWaIdeal : Cert.WaIdeal.Facts) (hWaRefIdeal : Cert.WaRefIdeal.Facts) (hMp : Cert.Mp.Facts) (hMpIdeal : Cert.MpIdeal.Facts) (hMpRefIdeal : Cert.MpRefIdeal.Facts) (hLb : Cert.Lb.Facts) (hLbIdeal : Cert.LbIdeal.Facts) (hLbRefIdeal : Cert.LbRefIdeal.Facts) (hNf : Cert.Nf.Facts) (hNfIdeal : Cert.NfIdeal.Facts) (hNfRefIdeal : Cert.NfRefIdeal.Facts) (hPf : Cert.Pf.Facts) (hPfIdeal : Cert.PfIdeal.Facts) (hPfRefIdeal : Cert.PfRefIdeal.Facts) (hLo : Cert.Lo.Facts) (hLoIdeal : Cert.LoIdeal.Facts) (hLoRefIdeal : Cert.LoRefIdeal.Facts) (hAi : Cert.Ai.Facts) (hAiIdeal : Cert.AiIdeal.Facts) (hAiRefIdeal : Cert.AiRefIdeal.Facts) (hAp : Cert.Ap.Facts) (hApIdeal : Cert.ApIdeal.Facts) (hApRefIdeal : Cert.ApRefIdeal.Facts) (hAq : Cert.Aq.Facts) (hAqIdeal : Cert.AqIdeal.Facts) (hAqRefIdeal : Cert.AqRefIdeal.Facts) (hAo : Cert.Ao.Facts) (hAoIdeal : Cert.AoIdeal.Facts) (hAoRefIdeal : Cert.AoRefIdeal.Facts) (hGi0 : Cert.Gi0.Facts) (hGi0Ideal : Cert.Gi0Ideal.Facts) (hGi0RefIdeal : Cert.Gi0RefIdeal.Facts) (hGi1 : Cert.Gi1.Facts) (hGi1Ideal : Cert.Gi1Ideal.Facts) (hGi1RefIdeal : Cert.Gi1RefIdeal.Facts) (hGi2 : Cert.Gi2.Facts) (hGi2Ideal : Cert.Gi2Ideal.Facts) (hGi2RefIdeal : Cert.Gi2RefIdeal.Facts) (hGi3 : Cert.Gi3.Facts) (hGi3Ideal : Cert.Gi3Ideal.Facts) (hGi3RefIdeal : Cert.Gi3RefIdeal.Facts) (hGi4 : Cert.Gi4.Facts) (hGi4Ideal : Cert.Gi4Ideal.Facts) (hGi4RefIdeal : Cert.Gi4RefIdeal.Facts) (hGi5 : Cert.Gi5.Facts) (hGi5Ideal : Cert.Gi5Ideal.Facts) (hGi5RefIdeal : Cert.Gi5RefIdeal.Facts) (hGi6 : Cert.Gi6.Facts) (hGi6Ideal : Cert.Gi6Ideal.Facts) (hGi6RefIdeal : Cert.Gi6RefIdeal.Facts) (hGi7 : Cert.Gi7.Facts) (hGi7Ideal : Cert.Gi7Ideal.Facts) (hGi7RefIdeal : Cert.Gi7RefIdeal.Facts) (hPre_inputs_are_real : Cert.Pre_inputs_are_real.Facts) (hPre_bounds_are_real : Cert.Pre_bounds_are_real.Facts),
    quiescent_Kernel (hKernel := hKernel)
    ∧ quiescent_KernelIdeal (hKernelIdeal := hKernelIdeal)
    ∧ quiescent_KernelIdeal_pre_inputs_are_real (hKernelIdeal := hKernelIdeal) (hPre_inputs_are_real := hPre_inputs_are_real)
    ∧ quiescent_ReferenceIdeal (hReferenceIdeal := hReferenceIdeal)
    ∧ quiescent_ReferenceIdeal_pre_inputs_are_real (hReferenceIdeal := hReferenceIdeal) (hPre_inputs_are_real := hPre_inputs_are_real)
    ∧ quiescent_Dh (hDh := hDh)
    ∧ quiescent_DhIdeal (hDhIdeal := hDhIdeal)
    ∧ quiescent_DhRefIdeal (hDhRefIdeal := hDhRefIdeal)
    ∧ quiescent_Gw (hGw := hGw)
    ∧ quiescent_GwIdeal (hGwIdeal := hGwIdeal)
    ∧ quiescent_GwRefIdeal (hGwRefIdeal := hGwRefIdeal)
    ∧ quiescent_Dy (hDy := hDy)
    ∧ quiescent_DyIdeal (hDyIdeal := hDyIdeal)
    ∧ quiescent_DyRefIdeal (hDyRefIdeal := hDyRefIdeal)
    ∧ quiescent_Mb (hMb := hMb)
    ∧ quiescent_MbIdeal (hMbIdeal := hMbIdeal)
    ∧ quiescent_MbRefIdeal (hMbRefIdeal := hMbRefIdeal)
    ∧ quiescent_Pj (hPj := hPj)
    ∧ quiescent_PjIdeal (hPjIdeal := hPjIdeal)
    ∧ quiescent_PjRefIdeal (hPjRefIdeal := hPjRefIdeal)
    ∧ quiescent_Mg (hMg := hMg)
    ∧ quiescent_MgIdeal (hMgIdeal := hMgIdeal)
    ∧ quiescent_MgRefIdeal (hMgRefIdeal := hMgRefIdeal)
    ∧ quiescent_Op (hOp := hOp)
    ∧ quiescent_OpIdeal (hOpIdeal := hOpIdeal)
    ∧ quiescent_OpRefIdeal (hOpRefIdeal := hOpRefIdeal)
    ∧ quiescent_Go (hGo := hGo)
    ∧ quiescent_GoIdeal (hGoIdeal := hGoIdeal)
    ∧ quiescent_GoRefIdeal (hGoRefIdeal := hGoRefIdeal)
    ∧ quiescent_Pb (hPb := hPb)
    ∧ quiescent_PbIdeal (hPbIdeal := hPbIdeal)
    ∧ quiescent_PbRefIdeal (hPbRefIdeal := hPbRefIdeal)
    ∧ quiescent_Nb (hNb := hNb)
    ∧ quiescent_NbIdeal (hNbIdeal := hNbIdeal)
    ∧ quiescent_NbRefIdeal (hNbRefIdeal := hNbRefIdeal)
    ∧ quiescent_Wa (hWa := hWa)
    ∧ quiescent_WaIdeal (hWaIdeal := hWaIdeal)
    ∧ quiescent_WaRefIdeal (hWaRefIdeal := hWaRefIdeal)
    ∧ quiescent_Mp (hMp := hMp)
    ∧ quiescent_MpIdeal (hMpIdeal := hMpIdeal)
    ∧ quiescent_MpRefIdeal (hMpRefIdeal := hMpRefIdeal)
    ∧ quiescent_Lb (hLb := hLb)
    ∧ quiescent_LbIdeal (hLbIdeal := hLbIdeal)
    ∧ quiescent_LbIdeal_pre_bounds_are_real (hLbIdeal := hLbIdeal) (hPre_bounds_are_real := hPre_bounds_are_real)
    ∧ quiescent_LbRefIdeal (hLbRefIdeal := hLbRefIdeal)
    ∧ quiescent_LbRefIdeal_pre_bounds_are_real (hLbRefIdeal := hLbRefIdeal) (hPre_bounds_are_real := hPre_bounds_are_real)
    ∧ quiescent_Nf (hNf := hNf)
    ∧ quiescent_NfIdeal (hNfIdeal := hNfIdeal)
    ∧ quiescent_NfRefIdeal (hNfRefIdeal := hNfRefIdeal)
    ∧ quiescent_Pf (hPf := hPf)
    ∧ quiescent_PfIdeal (hPfIdeal := hPfIdeal)
    ∧ quiescent_PfRefIdeal (hPfRefIdeal := hPfRefIdeal)
    ∧ quiescent_Lo (hLo := hLo)
    ∧ quiescent_LoIdeal (hLoIdeal := hLoIdeal)
    ∧ quiescent_LoRefIdeal (hLoRefIdeal := hLoRefIdeal)
    ∧ quiescent_Ai (hAi := hAi)
    ∧ quiescent_AiIdeal (hAiIdeal := hAiIdeal)
    ∧ quiescent_AiRefIdeal (hAiRefIdeal := hAiRefIdeal)
    ∧ quiescent_Ap (hAp := hAp)
    ∧ quiescent_ApIdeal (hApIdeal := hApIdeal)
    ∧ quiescent_ApRefIdeal (hApRefIdeal := hApRefIdeal)
    ∧ quiescent_Aq (hAq := hAq)
    ∧ quiescent_AqIdeal (hAqIdeal := hAqIdeal)
    ∧ quiescent_AqRefIdeal (hAqRefIdeal := hAqRefIdeal)
    ∧ quiescent_Ao (hAo := hAo)
    ∧ quiescent_AoIdeal (hAoIdeal := hAoIdeal)
    ∧ quiescent_AoRefIdeal (hAoRefIdeal := hAoRefIdeal)
    ∧ quiescent_Gi0 (hGi0 := hGi0)
    ∧ quiescent_Gi0Ideal (hGi0Ideal := hGi0Ideal)
    ∧ quiescent_Gi0RefIdeal (hGi0RefIdeal := hGi0RefIdeal)
    ∧ quiescent_Gi1 (hGi1 := hGi1)
    ∧ quiescent_Gi1Ideal (hGi1Ideal := hGi1Ideal)
    ∧ quiescent_Gi1RefIdeal (hGi1RefIdeal := hGi1RefIdeal)
    ∧ quiescent_Gi2 (hGi2 := hGi2)
    ∧ quiescent_Gi2Ideal (hGi2Ideal := hGi2Ideal)
    ∧ quiescent_Gi2RefIdeal (hGi2RefIdeal := hGi2RefIdeal)
    ∧ quiescent_Gi3 (hGi3 := hGi3)
    ∧ quiescent_Gi3Ideal (hGi3Ideal := hGi3Ideal)
    ∧ quiescent_Gi3RefIdeal (hGi3RefIdeal := hGi3RefIdeal)
    ∧ quiescent_Gi4 (hGi4 := hGi4)
    ∧ quiescent_Gi4Ideal (hGi4Ideal := hGi4Ideal)
    ∧ quiescent_Gi4RefIdeal (hGi4RefIdeal := hGi4RefIdeal)
    ∧ quiescent_Gi5 (hGi5 := hGi5)
    ∧ quiescent_Gi5Ideal (hGi5Ideal := hGi5Ideal)
    ∧ quiescent_Gi5RefIdeal (hGi5RefIdeal := hGi5RefIdeal)
    ∧ quiescent_Gi6 (hGi6 := hGi6)
    ∧ quiescent_Gi6Ideal (hGi6Ideal := hGi6Ideal)
    ∧ quiescent_Gi6RefIdeal (hGi6RefIdeal := hGi6RefIdeal)
    ∧ quiescent_Gi7 (hGi7 := hGi7)
    ∧ quiescent_Gi7Ideal (hGi7Ideal := hGi7Ideal)
    ∧ quiescent_Gi7RefIdeal (hGi7RefIdeal := hGi7RefIdeal)
    ∧ preserves_Kernel_KernelIdeal
    ∧ algebraic_KernelIdeal_ReferenceIdeal_pre_inputs_are_real (hKernelIdeal := hKernelIdeal) (hReferenceIdeal := hReferenceIdeal) (hPre_inputs_are_real := hPre_inputs_are_real)
    ∧ preserves_Dh_DhIdeal
    ∧ algebraic_DhIdeal_DhRefIdeal (hDhIdeal := hDhIdeal) (hDhRefIdeal := hDhRefIdeal)
    ∧ preserves_Gw_GwIdeal
    ∧ algebraic_GwIdeal_GwRefIdeal (hGwIdeal := hGwIdeal) (hGwRefIdeal := hGwRefIdeal)
    ∧ preserves_Dy_DyIdeal
    ∧ algebraic_DyIdeal_DyRefIdeal (hDyIdeal := hDyIdeal) (hDyRefIdeal := hDyRefIdeal)
    ∧ preserves_Mb_MbIdeal
    ∧ algebraic_MbIdeal_MbRefIdeal (hMbIdeal := hMbIdeal) (hMbRefIdeal := hMbRefIdeal)
    ∧ preserves_Pj_PjIdeal
    ∧ algebraic_PjIdeal_PjRefIdeal (hPjIdeal := hPjIdeal) (hPjRefIdeal := hPjRefIdeal)
    ∧ preserves_Mg_MgIdeal
    ∧ algebraic_MgIdeal_MgRefIdeal (hMgIdeal := hMgIdeal) (hMgRefIdeal := hMgRefIdeal)
    ∧ preserves_Op_OpIdeal
    ∧ algebraic_OpIdeal_OpRefIdeal (hOpIdeal := hOpIdeal) (hOpRefIdeal := hOpRefIdeal)
    ∧ preserves_Go_GoIdeal
    ∧ algebraic_GoIdeal_GoRefIdeal (hGoIdeal := hGoIdeal) (hGoRefIdeal := hGoRefIdeal)
    ∧ preserves_Pb_PbIdeal
    ∧ algebraic_PbIdeal_PbRefIdeal (hPbIdeal := hPbIdeal) (hPbRefIdeal := hPbRefIdeal)
    ∧ preserves_Nb_NbIdeal
    ∧ algebraic_NbIdeal_NbRefIdeal (hNbIdeal := hNbIdeal) (hNbRefIdeal := hNbRefIdeal)
    ∧ preserves_Wa_WaIdeal
    ∧ algebraic_WaIdeal_WaRefIdeal (hWaIdeal := hWaIdeal) (hWaRefIdeal := hWaRefIdeal)
    ∧ preserves_Mp_MpIdeal
    ∧ algebraic_MpIdeal_MpRefIdeal (hMpIdeal := hMpIdeal) (hMpRefIdeal := hMpRefIdeal)
    ∧ preserves_Lb_LbIdeal
    ∧ algebraic_LbIdeal_LbRefIdeal_pre_bounds_are_real (hLbIdeal := hLbIdeal) (hLbRefIdeal := hLbRefIdeal) (hPre_bounds_are_real := hPre_bounds_are_real)
    ∧ preserves_Nf_NfIdeal
    ∧ algebraic_NfIdeal_NfRefIdeal (hNfIdeal := hNfIdeal) (hNfRefIdeal := hNfRefIdeal)
    ∧ preserves_Pf_PfIdeal
    ∧ algebraic_PfIdeal_PfRefIdeal (hPfIdeal := hPfIdeal) (hPfRefIdeal := hPfRefIdeal)
    ∧ preserves_Lo_LoIdeal
    ∧ algebraic_LoIdeal_LoRefIdeal (hLoIdeal := hLoIdeal) (hLoRefIdeal := hLoRefIdeal)
    ∧ preserves_Ai_AiIdeal
    ∧ algebraic_AiIdeal_AiRefIdeal (hAiIdeal := hAiIdeal) (hAiRefIdeal := hAiRefIdeal)
    ∧ preserves_Ap_ApIdeal
    ∧ algebraic_ApIdeal_ApRefIdeal (hApIdeal := hApIdeal) (hApRefIdeal := hApRefIdeal)
    ∧ preserves_Aq_AqIdeal
    ∧ algebraic_AqIdeal_AqRefIdeal (hAqIdeal := hAqIdeal) (hAqRefIdeal := hAqRefIdeal)
    ∧ preserves_Ao_AoIdeal
    ∧ algebraic_AoIdeal_AoRefIdeal (hAoIdeal := hAoIdeal) (hAoRefIdeal := hAoRefIdeal)
    ∧ preserves_Gi0_Gi0Ideal
    ∧ algebraic_Gi0Ideal_Gi0RefIdeal (hGi0Ideal := hGi0Ideal) (hGi0RefIdeal := hGi0RefIdeal)
    ∧ preserves_Gi1_Gi1Ideal
    ∧ algebraic_Gi1Ideal_Gi1RefIdeal (hGi1Ideal := hGi1Ideal) (hGi1RefIdeal := hGi1RefIdeal)
    ∧ preserves_Gi2_Gi2Ideal
    ∧ algebraic_Gi2Ideal_Gi2RefIdeal (hGi2Ideal := hGi2Ideal) (hGi2RefIdeal := hGi2RefIdeal)
    ∧ preserves_Gi3_Gi3Ideal
    ∧ algebraic_Gi3Ideal_Gi3RefIdeal (hGi3Ideal := hGi3Ideal) (hGi3RefIdeal := hGi3RefIdeal)
    ∧ preserves_Gi4_Gi4Ideal
    ∧ algebraic_Gi4Ideal_Gi4RefIdeal (hGi4Ideal := hGi4Ideal) (hGi4RefIdeal := hGi4RefIdeal)
    ∧ preserves_Gi5_Gi5Ideal
    ∧ algebraic_Gi5Ideal_Gi5RefIdeal (hGi5Ideal := hGi5Ideal) (hGi5RefIdeal := hGi5RefIdeal)
    ∧ preserves_Gi6_Gi6Ideal
    ∧ algebraic_Gi6Ideal_Gi6RefIdeal (hGi6Ideal := hGi6Ideal) (hGi6RefIdeal := hGi6RefIdeal)
    ∧ preserves_Gi7_Gi7Ideal
    ∧ algebraic_Gi7Ideal_Gi7RefIdeal (hGi7Ideal := hGi7Ideal) (hGi7RefIdeal := hGi7RefIdeal)
-- ==== Pre_bounds_are_real.lean ====
abbrev S4x1024 : Shape := ⟨2, ![4, 1024]⟩
abbrev S_ : Shape := ⟨0, ![]⟩

class Facts : Prop where
  bcast_S_S4x1024 : S_.BroadcastsInDim S4x1024 (![] : Fin 0 → Fin S4x1024.rank)

variable [Facts]

def fn {F : FTy → Type} [FloatOps F] (main_arg0 : FVec F S4x1024 .f32) : IVec S4x1024 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  main_v2
-- ==== Pre_inputs_are_real.lean ====
abbrev S8192x10240 : Shape := ⟨2, ![8192, 10240]⟩
abbrev S8192x1024 : Shape := ⟨2, ![8192, 1024]⟩
abbrev S128x8x128x128 : Shape := ⟨4, ![128, 8, 128, 128]⟩
abbrev S1x1024 : Shape := ⟨2, ![1, 1024]⟩
abbrev S_ : Shape := ⟨0, ![]⟩
abbrev S8192x3072 : Shape := ⟨2, ![8192, 3072]⟩

class Facts : Prop where
  bcast_S_S1x1024 : S_.BroadcastsInDim S1x1024 (![] : Fin 0 → Fin S1x1024.rank)
  slices_S8192x10240_S8192x1024_0_1024 : S8192x10240.Slices ![0, 1024] S8192x1024
  bcast_S_S8192x1024 : S_.BroadcastsInDim S8192x1024 (![] : Fin 0 → Fin S8192x1024.rank)
  bcast_S1x1024_S8192x1024_0_1 : S1x1024.BroadcastsInDim S8192x1024 (![0, 1] : Fin 2 → Fin S8192x1024.rank)
  slices_S8192x10240_S8192x3072_0_0 : S8192x10240.Slices ![0, 0] S8192x3072
  bcast_S_S8192x3072 : S_.BroadcastsInDim S8192x3072 (![] : Fin 0 → Fin S8192x3072.rank)
  bcast_S_S128x8x128x128 : S_.BroadcastsInDim S128x8x128x128 (![] : Fin 0 → Fin S128x8x128x128.rank)

variable [Facts]

def fn_part1 {F : FTy → Type} [FloatOps F] (main_arg2 : FVec F S128x8x128x128 .f32) (main_arg3 : FVec F S1x1024 .f32) (main_v12 : FVec F S8192x1024 .f32) (main_v16 : IVec S8192x3072 1) (main_v17 : FVec F S8192x1024 .f32) (main_v18 : FVec F S8192x1024 .f32) : IVec S8192x3072 1 × IVec S8192x1024 1 × IVec S128x8x128x128 1 × IVec S1x1024 1 × IVec S1x1024 1 × IVec S8192x1024 1 :=
  let main_v19 : IVec S8192x1024 1 := cmpf .olt main_v17 main_v18
  let main_v20 : FVec F S128x8x128x128 .f32 := Host.absf main_arg2
  let main_cst_4 : FVec F S_ .f32 := constant S_ .f32 0x7F800000#32
  let main_v21 : FVec F S128x8x128x128 .f32 := broadcastInDim S128x8x128x128 ![] bcast_S_S128x8x128x128 main_cst_4
  let main_v22 : IVec S128x8x128x128 1 := cmpf .olt main_v20 main_v21
  let main_v23 : FVec F S1x1024 .f32 := Host.absf main_arg3
  let main_cst_5 : FVec F S_ .f32 := constant S_ .f32 0x7F800000#32
  let main_v24 : FVec F S1x1024 .f32 := broadcastInDim S1x1024 ![] bcast_S_S1x1024 main_cst_5
  let main_v25 : IVec S1x1024 1 := cmpf .olt main_v23 main_v24
  let main_cst_6 : FVec F S_ .f32 := constant S_ .f32 0x3F800000#32
  let main_v26 : FVec F S1x1024 .f32 := broadcastInDim S1x1024 ![] bcast_S_S1x1024 main_cst_6
  let main_v27 : IVec S1x1024 1 := cmpf .ole main_arg3 main_v26
  let main_cst_7 : FVec F S_ .f32 := constant S_ .f32 0x0DA24260#32
  let main_v28 : FVec F S8192x1024 .f32 := broadcastInDim S8192x1024 ![] bcast_S_S8192x1024 main_cst_7
  let main_v29 : IVec S8192x1024 1 := cmpf .une main_v12 main_v28
  (main_v16, main_v19, main_v22, main_v25, main_v27, main_v29)

def fn {F : FTy → Type} [FloatOps F] (main_arg0 : FVec F S8192x10240 .f32) (main_arg1 : FVec F S8192x1024 .f32) (main_arg2 : FVec F S128x8x128x128 .f32) (main_arg3 : FVec F S1x1024 .f32) : IVec S8192x3072 1 × IVec S8192x1024 1 × IVec S128x8x128x128 1 × IVec S1x1024 1 × IVec S1x1024 1 × IVec S8192x1024 1 :=
  let main_cst : FVec F S_ .f32 := constant S_ .f32 0x3F800000#32
  let main_v0 : FVec F S1x1024 .f32 := broadcastInDim S1x1024 ![] bcast_S_S1x1024 main_cst
  let main_v1 : FVec F S1x1024 .f32 := subf main_v0 main_arg3
  let main_v2 : FVec F S8192x1024 .f32 := (extractStridedSlice S8192x1024 ![0, 1024] · slices_S8192x10240_S8192x1024_0_1024) main_arg0
  let main_v3 : FVec F S8192x1024 .f32 := Host.negf main_v2
  let main_v4 : FVec F S8192x1024 .f32 := Host.exp main_v3
  let main_cst_0 : FVec F S_ .f32 := constant S_ .f32 0x3F800000#32
  let main_v5 : FVec F S8192x1024 .f32 := broadcastInDim S8192x1024 ![] bcast_S_S8192x1024 main_cst_0
  let main_v6 : FVec F S8192x1024 .f32 := addf main_v5 main_v4
  let main_cst_1 : FVec F S_ .f32 := constant S_ .f32 0x3F800000#32
  let main_v7 : FVec F S8192x1024 .f32 := broadcastInDim S8192x1024 ![] bcast_S_S8192x1024 main_cst_1
  let main_v8 : FVec F S8192x1024 .f32 := Host.divf main_v7 main_v6
  let main_v9 : FVec F S8192x1024 .f32 := broadcastInDim S8192x1024 ![0, 1] bcast_S1x1024_S8192x1024_0_1 main_v1
  let main_v10 : FVec F S8192x1024 .f32 := mulf main_v9 main_v8
  let main_v11 : FVec F S8192x1024 .f32 := broadcastInDim S8192x1024 ![0, 1] bcast_S1x1024_S8192x1024_0_1 main_arg3
  let main_v12 : FVec F S8192x1024 .f32 := addf main_v11 main_v10
  let main_v13 : FVec F S8192x3072 .f32 := (extractStridedSlice S8192x3072 ![0, 0] · slices_S8192x10240_S8192x3072_0_0) main_arg0
  let main_v14 : FVec F S8192x3072 .f32 := Host.absf main_v13
  let main_cst_2 : FVec F S_ .f32 := constant S_ .f32 0x7F800000#32
  let main_v15 : FVec F S8192x3072 .f32 := broadcastInDim S8192x3072 ![] bcast_S_S8192x3072 main_cst_2
  let main_v16 : IVec S8192x3072 1 := cmpf .olt main_v14 main_v15
  let main_v17 : FVec F S8192x1024 .f32 := Host.absf main_arg1
  let main_cst_3 : FVec F S_ .f32 := constant S_ .f32 0x7F800000#32
  let main_v18 : FVec F S8192x1024 .f32 := broadcastInDim S8192x1024 ![] bcast_S_S8192x1024 main_cst_3
  fn_part1 (F := F) main_arg2 main_arg3 main_v12 main_v16 main_v17 main_v18
-- ==== Kernel.lean ====
abbrev S8192x10240 : Shape := ⟨2, ![8192, 10240]⟩
abbrev S8192x1024 : Shape := ⟨2, ![8192, 1024]⟩
abbrev S128x8x128x128 : Shape := ⟨4, ![128, 8, 128, 128]⟩
abbrev S1x1024 : Shape := ⟨2, ![1, 1024]⟩
abbrev S512x1024 : Shape := ⟨2, ![512, 1024]⟩
abbrev S8x8x128x128 : Shape := ⟨4, ![8, 8, 128, 128]⟩
abbrev S8x128x128 : Shape := ⟨3, ![8, 128, 128]⟩
abbrev S64x64 : Shape := ⟨2, ![64, 64]⟩
abbrev S64x1 : Shape := ⟨2, ![64, 1]⟩
abbrev S1x64 : Shape := ⟨2, ![1, 64]⟩
abbrev S64x1024 : Shape := ⟨2, ![64, 1024]⟩
abbrev S64x128 : Shape := ⟨2, ![64, 128]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S32x128 : Shape := ⟨2, ![32, 128]⟩
abbrev S16x128 : Shape := ⟨2, ![16, 128]⟩
abbrev S64 : Shape := ⟨1, ![64]⟩
abbrev S8x8x128 : Shape := ⟨3, ![8, 8, 128]⟩
abbrev S1024 : Shape := ⟨1, ![1024]⟩

abbrev nBuf : Space → Nat
  | .hbm => 8
  | .vmem => 19
  | .smem => 0
  | _ => 0

abbrev bufTy : (tb : Table) → Fin (tcTables nBuf tb) → BufTy
  | .hbm, ⟨0, _⟩ => ⟨S8192x10240, .f32⟩
  | .hbm, ⟨1, _⟩ => ⟨S8192x1024, .f32⟩
  | .hbm, ⟨2, _⟩ => ⟨S128x8x128x128, .f32⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x8x128x128, .f32⟩
  | .local _ .vmem, ⟨9, _⟩ => ⟨S8x8x128x128, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S8x128x128, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_23 : BitVec 32 := 0#32
  let c8_i32_24 : BitVec 32 := 8#32
  let v96 : BitVec 32 := Scalar.addi c0_i32_23 c8_i32_24
  let c1_i32 : BitVec 32 := 1#32
  ⟨c0_i32_23, v96, c1_i32⟩
def k0_mult1 (k0_t1 : Fin k0_t1_loop.trips) : BitVec 32 :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  v98
def k0_off1 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v100 : Index := Scalar.indexCast v99
  let c0_27 : Index := 0#32
  ![v100.toNat, 0]
def k0_off2 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v142 : Index := Scalar.indexCast v99
  let c0_39 : Index := 0#32
  ![v142.toNat, 0]
def k0_off3 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v147 : Index := Scalar.indexCast v97
  let c0_41 : Index := 0#32
  let c0_42 : Index := 0#32
  let c0_43 : Index := 0#32
  ![v147.toNat, 0, 0, 0]
def k0_off4 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v622 : Index := Scalar.indexCast v99
  let c128 : Index := 128#32
  ![v622.toNat, 128]
def k0_off5 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v627 : Index := Scalar.indexCast v97
  let c1 : Index := 1#32
  let c0_151 : Index := 0#32
  let c0_152 : Index := 0#32
  ![v627.toNat, 1, 0, 0]
def k0_off6 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v1102 : Index := Scalar.indexCast v99
  let c256 : Index := 256#32
  ![v1102.toNat, 256]
def k0_off7 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v1107 : Index := Scalar.indexCast v97
  let c2 : Index := 2#32
  let c0_265 : Index := 0#32
  let c0_266 : Index := 0#32
  ![v1107.toNat, 2, 0, 0]
def k0_off8 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v1582 : Index := Scalar.indexCast v99
  let c384 : Index := 384#32
  ![v1582.toNat, 384]
def k0_off9 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v1587 : Index := Scalar.indexCast v97
  let c3 : Index := 3#32
  let c0_379 : Index := 0#32
  let c0_380 : Index := 0#32
  ![v1587.toNat, 3, 0, 0]
def k0_off10 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v2062 : Index := Scalar.indexCast v99
  let c512 : Index := 512#32
  ![v2062.toNat, 512]
def k0_off11 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v2067 : Index := Scalar.indexCast v97
  let c4 : Index := 4#32
  let c0_493 : Index := 0#32
  let c0_494 : Index := 0#32
  ![v2067.toNat, 4, 0, 0]
def k0_off12 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v2542 : Index := Scalar.indexCast v99
  let c640 : Index := 640#32
  ![v2542.toNat, 640]
def k0_off13 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v2547 : Index := Scalar.indexCast v97
  let c5 : Index := 5#32
  let c0_607 : Index := 0#32
  let c0_608 : Index := 0#32
  ![v2547.toNat, 5, 0, 0]
def k0_off14 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v3022 : Index := Scalar.indexCast v99
  let c768 : Index := 768#32
  ![v3022.toNat, 768]
def k0_off15 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v3027 : Index := Scalar.indexCast v97
  let c6 : Index := 6#32
  let c0_721 : Index := 0#32
  let c0_722 : Index := 0#32
  ![v3027.toNat, 6, 0, 0]
def k0_off16 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v3502 : Index := Scalar.indexCast v99
  let c896 : Index := 896#32
  ![v3502.toNat, 896]
def k0_off17 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v3507 : Index := Scalar.indexCast v97
  let c7 : Index := 7#32
  let c0_835 : Index := 0#32
  let c0_836 : Index := 0#32
  ![v3507.toNat, 7, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== KernelIdeal.lean ====
abbrev S8192x10240 : Shape := ⟨2, ![8192, 10240]⟩
abbrev S8192x1024 : Shape := ⟨2, ![8192, 1024]⟩
abbrev S128x8x128x128 : Shape := ⟨4, ![128, 8, 128, 128]⟩
abbrev S1x1024 : Shape := ⟨2, ![1, 1024]⟩
abbrev S512x1024 : Shape := ⟨2, ![512, 1024]⟩
abbrev S8x8x128x128 : Shape := ⟨4, ![8, 8, 128, 128]⟩
abbrev S8x128x128 : Shape := ⟨3, ![8, 128, 128]⟩
abbrev S64x64 : Shape := ⟨2, ![64, 64]⟩
abbrev S64x1 : Shape := ⟨2, ![64, 1]⟩
abbrev S1x64 : Shape := ⟨2, ![1, 64]⟩
abbrev S64x1024 : Shape := ⟨2, ![64, 1024]⟩
abbrev S64x128 : Shape := ⟨2, ![64, 128]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S32x128 : Shape := ⟨2, ![32, 128]⟩
abbrev S16x128 : Shape := ⟨2, ![16, 128]⟩
abbrev S64 : Shape := ⟨1, ![64]⟩
abbrev S8x8x128 : Shape := ⟨3, ![8, 8, 128]⟩
abbrev S1024 : Shape := ⟨1, ![1024]⟩

abbrev nBuf : Space → Nat
  | .hbm => 8
  | .vmem => 19
  | .smem => 0
  | _ => 0

abbrev bufTy : (tb : Table) → Fin (tcTables nBuf tb) → BufTy
  | .hbm, ⟨0, _⟩ => ⟨S8192x10240, .f32⟩
  | .hbm, ⟨1, _⟩ => ⟨S8192x1024, .f32⟩
  | .hbm, ⟨2, _⟩ => ⟨S128x8x128x128, .f32⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x8x128x128, .f32⟩
  | .local _ .vmem, ⟨9, _⟩ => ⟨S8x8x128x128, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S8x128x128, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_23 : BitVec 32 := 0#32
  let c8_i32_24 : BitVec 32 := 8#32
  let v96 : BitVec 32 := Scalar.addi c0_i32_23 c8_i32_24
  let c1_i32 : BitVec 32 := 1#32
  ⟨c0_i32_23, v96, c1_i32⟩
def k0_mult1 (k0_t1 : Fin k0_t1_loop.trips) : BitVec 32 :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  v98
def k0_off1 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v100 : Index := Scalar.indexCast v99
  let c0_27 : Index := 0#32
  ![v100.toNat, 0]
def k0_off2 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v142 : Index := Scalar.indexCast v99
  let c0_39 : Index := 0#32
  ![v142.toNat, 0]
def k0_off3 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v147 : Index := Scalar.indexCast v97
  let c0_41 : Index := 0#32
  let c0_42 : Index := 0#32
  let c0_43 : Index := 0#32
  ![v147.toNat, 0, 0, 0]
def k0_off4 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v622 : Index := Scalar.indexCast v99
  let c128 : Index := 128#32
  ![v622.toNat, 128]
def k0_off5 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v627 : Index := Scalar.indexCast v97
  let c1 : Index := 1#32
  let c0_151 : Index := 0#32
  let c0_152 : Index := 0#32
  ![v627.toNat, 1, 0, 0]
def k0_off6 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v1102 : Index := Scalar.indexCast v99
  let c256 : Index := 256#32
  ![v1102.toNat, 256]
def k0_off7 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v1107 : Index := Scalar.indexCast v97
  let c2 : Index := 2#32
  let c0_265 : Index := 0#32
  let c0_266 : Index := 0#32
  ![v1107.toNat, 2, 0, 0]
def k0_off8 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v1582 : Index := Scalar.indexCast v99
  let c384 : Index := 384#32
  ![v1582.toNat, 384]
def k0_off9 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v1587 : Index := Scalar.indexCast v97
  let c3 : Index := 3#32
  let c0_379 : Index := 0#32
  let c0_380 : Index := 0#32
  ![v1587.toNat, 3, 0, 0]
def k0_off10 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v2062 : Index := Scalar.indexCast v99
  let c512 : Index := 512#32
  ![v2062.toNat, 512]
def k0_off11 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v2067 : Index := Scalar.indexCast v97
  let c4 : Index := 4#32
  let c0_493 : Index := 0#32
  let c0_494 : Index := 0#32
  ![v2067.toNat, 4, 0, 0]
def k0_off12 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v2542 : Index := Scalar.indexCast v99
  let c640 : Index := 640#32
  ![v2542.toNat, 640]
def k0_off13 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v2547 : Index := Scalar.indexCast v97
  let c5 : Index := 5#32
  let c0_607 : Index := 0#32
  let c0_608 : Index := 0#32
  ![v2547.toNat, 5, 0, 0]
def k0_off14 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v3022 : Index := Scalar.indexCast v99
  let c768 : Index := 768#32
  ![v3022.toNat, 768]
def k0_off15 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v3027 : Index := Scalar.indexCast v97
  let c6 : Index := 6#32
  let c0_721 : Index := 0#32
  let c0_722 : Index := 0#32
  ![v3027.toNat, 6, 0, 0]
def k0_off16 (k0_t1 : Fin k0_t1_loop.trips) : Fin 2 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let c64_i32 : BitVec 32 := 64#32
  let v98 : BitVec 32 := Scalar.muli v97 c64_i32
  let v99 : BitVec 32 := v98
  let v3502 : Index := Scalar.indexCast v99
  let c896 : Index := 896#32
  ![v3502.toNat, 896]
def k0_off17 (k0_t1 : Fin k0_t1_loop.trips) : Fin 4 → Nat :=
  let c7_i32_26 : BitVec 32 := 7#32
  let c0_i32_23 : BitVec 32 := 0#32
  let c1_i32 : BitVec 32 := 1#32
  let arg13 : BitVec 32 := Scf.iv c0_i32_23 c1_i32 k0_t1
  let v97 : BitVec 32 := Scalar.subi c7_i32_26 arg13
  let v3507 : Index := Scalar.indexCast v97
  let c7 : Index := 7#32
  let c0_835 : Index := 0#32
  let c0_836 : Index := 0#32
  ![v3507.toNat, 7, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S8192x10240 : Shape := ⟨2, ![8192, 10240]⟩
abbrev S8192x1024 : Shape := ⟨2, ![8192, 1024]⟩
abbrev S128x8x128x128 : Shape := ⟨4, ![128, 8, 128, 128]⟩
abbrev S1x1024 : Shape := ⟨2, ![1, 1024]⟩
abbrev S128x64x1024 : Shape := ⟨3, ![128, 64, 1024]⟩
abbrev S_ : Shape := ⟨0, ![]⟩
abbrev S8x128x128 : Shape := ⟨3, ![8, 128, 128]⟩
abbrev S1024 : Shape := ⟨1, ![1024]⟩
abbrev S1x8x128x128 : Shape := ⟨4, ![1, 8, 128, 128]⟩
abbrev S1x64x1024 : Shape := ⟨3, ![1, 64, 1024]⟩
abbrev S64x1024 : Shape := ⟨2, ![64, 1024]⟩
abbrev S64x8x128 : Shape := ⟨3, ![64, 8, 128]⟩
abbrev S8x64x128 : Shape := ⟨3, ![8, 64, 128]⟩
abbrev S64x64 : Shape := ⟨2, ![64, 64]⟩
abbrev S64x64x1 : Shape := ⟨3, ![64, 64, 1]⟩
abbrev S8x64x1x128 : Shape := ⟨4, ![8, 64, 1, 128]⟩
abbrev S8x1x64x128 : Shape := ⟨4, ![8, 1, 64, 128]⟩
abbrev S8x64x64x128 : Shape := ⟨4, ![8, 64, 64, 128]⟩
abbrev S1x64x64x1 : Shape := ⟨4, ![1, 64, 64, 1]⟩
abbrev S8x64x64 : Shape := ⟨3, ![8, 64, 64]⟩
abbrev S8x1x128 : Shape := ⟨3, ![8, 1, 128]⟩
abbrev S8x128 : Shape := ⟨2, ![8, 128]⟩
abbrev S8x128x1 : Shape := ⟨3, ![8, 128, 1]⟩
abbrev S8x128x64 : Shape := ⟨3, ![8, 128, 64]⟩

abbrev nBuf : Space → Nat
  | .hbm => 346
  | .vmem => 0
  | .smem => 0
  | _ => 0

abbrev hbmTy0_0 (i : Nat) : BufTy := match i % 128 with
  | 0 => ⟨S8192x10240, .f32⟩
  | 1 => ⟨S8192x1024, .f32⟩
  | 2 => ⟨S128x8x128x128, .f32⟩
  | 3 => ⟨S1x1024, .f32⟩
  | 4 => ⟨S8192x1024, .f32⟩
  | 5 => ⟨S128x64x1024, .f32⟩
  | 6 => ⟨S8192x1024, .f32⟩
  | 7 => ⟨S128x64x1024, .f32⟩
  | 8 => ⟨S8192x1024, .f32⟩
  | 9 => ⟨S128x64x1024, .f32⟩
  | 10 => ⟨S_, .f32⟩
  | 11 => ⟨S8x128x128, .f32⟩
  | 12 => ⟨S_, .f32⟩
  | 13 => ⟨S1024, .f32⟩
  | 14 => ⟨S128x8x128x128, .f32⟩
  | 15 => ⟨S128x64x1024, .f32⟩
  | 16 => ⟨S_, .f32⟩
  | 17 => ⟨S128x64x1024, .f32⟩
  | 18 => ⟨S_, .f32⟩
  | 19 => ⟨S128x64x1024, .f32⟩
  | 20 => ⟨S_, .f32⟩
  | 21 => ⟨S128x64x1024, .f32⟩
  | 22 => ⟨S_, .i32⟩
  | 23 => ⟨S128x8x128x128, .f32⟩
  | 24 => ⟨S128x64x1024, .f32⟩
  | 25 => ⟨S128x64x1024, .f32⟩
  | 26 => ⟨S128x64x1024, .f32⟩
  | 27 => ⟨S128x64x1024, .f32⟩
  | 28 => ⟨S1x1024, .f32⟩
  | 29 => ⟨S_, .i32⟩
  | 30 => ⟨S8x128x128, .f32⟩
  | 31 => ⟨S1024, .f32⟩
  | 32 => ⟨S128x64x1024, .f32⟩
  | 33 => ⟨S128x64x1024, .f32⟩
  | 34 => ⟨S128x64x1024, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x8x128x128, .f32⟩
  | 45 => ⟨S8x128x128, .f32⟩
  | 46 => ⟨S_, .i32⟩
  | 47 => ⟨S_, .i32⟩
  | 48 => ⟨S1x64x1024, .f32⟩
  | 49 => ⟨S64x1024, .f32⟩
  | 50 => ⟨S_, .i32⟩
  | 51 => ⟨S_, .i32⟩
  | 52 => ⟨S1x64x1024, .f32⟩
  | 53 => ⟨S64x1024, .f32⟩
  | 54 => ⟨S_, .i32⟩
  | 55 => ⟨S_, .i32⟩
  | 56 => ⟨S1x64x1024, .f32⟩
  | 57 => ⟨S64x1024, .f32⟩
  | 58 => ⟨S_, .i32⟩
  | 59 => ⟨S_, .i32⟩
  | 60 => ⟨S1x64x1024, .f32⟩
  | 61 => ⟨S64x1024, .f32⟩
  | 62 => ⟨S1024, .f32⟩
  | 63 => ⟨S64x1024, .f32⟩
  | 64 => ⟨S64x1024, .f32⟩
  | 65 => ⟨S_, .f32⟩
  | 66 => ⟨S64x1024, .f32⟩
  | 67 => ⟨S64x1024, .f32⟩
  | 68 => ⟨S_, .f32⟩
  | 69 => ⟨S64x1024, .f32⟩
  | 70 => ⟨S64x1024, .f32⟩
  | 71 => ⟨S_, .f32⟩
  | 72 => ⟨S64x1024, .f32⟩
  | 73 => ⟨S64x1024, .f32⟩
  | 74 => ⟨S64x1024, .f32⟩
  | 75 => ⟨S64x1024, .f32⟩
  | 76 => ⟨S_, .f32⟩
  | 77 => ⟨S1024, .f32⟩
  | 78 => ⟨S1024, .f32⟩
  | 79 => ⟨S64x1024, .f32⟩
  | 80 => ⟨S64x1024, .f32⟩
  | 81 => ⟨S_, .f32⟩
  | 82 => ⟨S64x1024, .f32⟩
  | 83 => ⟨S64x1024, .f32⟩
  | 84 => ⟨S_, .f32⟩
  | 85 => ⟨S64x1024, .f32⟩
  | 86 => ⟨S64x1024, .f32⟩
  | 87 => ⟨S_, .f32⟩
  | 88 => ⟨S64x1024, .f32⟩
  | 89 => ⟨S64x1024, .f32⟩
  | 90 => ⟨S64x1024, .f32⟩
  | 91 => ⟨S1x1024, .f32⟩
  | 92 => ⟨S64x1024, .f32⟩
  | 93 => ⟨S64x1024, .f32⟩
  | 94 => ⟨S1x1024, .f32⟩
  | 95 => ⟨S64x1024, .f32⟩
  | 96 => ⟨S64x1024, .f32⟩
  | 97 => ⟨S_, .f32⟩
  | 98 => ⟨S64x1024, .f32⟩
  | 99 => ⟨S64x1024, .f32⟩
  | 100 => ⟨S_, .f32⟩
  | 101 => ⟨S64x1024, .f32⟩
  | 102 => ⟨S64x1024, .i1⟩
  | 103 => ⟨S_, .f32⟩
  | 104 => ⟨S64x1024, .f32⟩
  | 105 => ⟨S64x1024, .i1⟩
  | 106 => ⟨S_, .f32⟩
  | 107 => ⟨S64x1024, .f32⟩
  | 108 => ⟨S_, .f32⟩
  | 109 => ⟨S64x1024, .f32⟩
  | 110 => ⟨S_, .f32⟩
  | 111 => ⟨S64x1024, .f32⟩
  | 112 => ⟨S64x1024, .f32⟩
  | 113 => ⟨S64x1024, .f32⟩
  | 114 => ⟨S64x1024, .f32⟩
  | 115 => ⟨S_, .f32⟩
  | 116 => ⟨S1024, .f32⟩
  | 117 => ⟨S1024, .f32⟩
  | 118 => ⟨S64x1024, .f32⟩
  | 119 => ⟨S64x1024, .f32⟩
  | 120 => ⟨S64x1024, .f32⟩
  | 121 => ⟨S_, .f32⟩
  | 122 => ⟨S64x1024, .f32⟩
  | 123 => ⟨S64x1024, .f32⟩
  | 124 => ⟨S_, .f32⟩
  | 125 => ⟨S64x1024, .f32⟩
  | 126 => ⟨S64x1024, .f32⟩
  | 127 => ⟨S_, .f32⟩
  | _ => ⟨S8192x10240, .f32⟩

abbrev hbmTy0_1 (i : Nat) : BufTy := match i % 128 with
  | 0 => ⟨S64x1024, .f32⟩
  | 1 => ⟨S64x1024, .f32⟩
  | 2 => ⟨S64x1024, .f32⟩
  | 3 => ⟨S1x1024, .f32⟩
  | 4 => ⟨S64x1024, .f32⟩
  | 5 => ⟨S64x1024, .f32⟩
  | 6 => ⟨S64x8x128, .f32⟩
  | 7 => ⟨S8x64x128, .f32⟩
  | 8 => ⟨S64x8x128, .f32⟩
  | 9 => ⟨S8x64x128, .f32⟩
  | 10 => ⟨S64x8x128, .f32⟩
  | 11 => ⟨S8x64x128, .f32⟩
  | 12 => ⟨S64x8x128, .f32⟩
  | 13 => ⟨S8x64x128, .f32⟩
  | 14 => ⟨S_, .i1⟩
  | 15 => ⟨S64x64, .i1⟩
  | 16 => ⟨S64x64, .i32⟩
  | 17 => ⟨S_, .i32⟩
  | 18 => ⟨S64x64, .i32⟩
  | 19 => ⟨S64x64, .i32⟩
  | 20 => ⟨S64x64, .i32⟩
  | 21 => ⟨S64x64, .i1⟩
  | 22 => ⟨S_, .i1⟩
  | 23 => ⟨S64x64, .i1⟩
  | 24 => ⟨S64x64, .i1⟩
  | 25 => ⟨S64x64x1, .i1⟩
  | 26 => ⟨S64x64x1, .f32⟩
  | 27 => ⟨S_, .f32⟩
  | 28 => ⟨S_, .f32⟩
  | 29 => ⟨S8x64x128, .f32⟩
  | 30 => ⟨S8x64x128, .f32⟩
  | 31 => ⟨S8x64x128, .f32⟩
  | 32 => ⟨S8x64x128, .f32⟩
  | 33 => ⟨S8x64x1x128, .f32⟩
  | 34 => ⟨S8x1x64x128, .f32⟩
  | 35 => ⟨S8x64x64x128, .f32⟩
  | 36 => ⟨S8x64x64x128, .f32⟩
  | 37 => ⟨S8x64x64x128, .f32⟩
  | 38 => ⟨S_, .f32⟩
  | 39 => ⟨S_, .f32⟩
  | 40 => ⟨S8x64x64x128, .i1⟩
  | 41 => ⟨S8x64x64x128, .f32⟩
  | 42 => ⟨S8x64x64x128, .f32⟩
  | 43 => ⟨S_, .f32⟩
  | 44 => ⟨S8x64x64x128, .f32⟩
  | 45 => ⟨S8x64x64x128, .f32⟩
  | 46 => ⟨S1x64x64x1, .f32⟩
  | 47 => ⟨S8x64x64x128, .f32⟩
  | 48 => ⟨S8x64x64x128, .f32⟩
  | 49 => ⟨S8x64x1x128, .f32⟩
  | 50 => ⟨S8x64x64x128, .f32⟩
  | 51 => ⟨S8x64x64x128, .f32⟩
  | 52 => ⟨S8x1x64x128, .f32⟩
  | 53 => ⟨S8x64x64x128, .f32⟩
  | 54 => ⟨S8x64x64x128, .f32⟩
  | 55 => ⟨S_, .f32⟩
  | 56 => ⟨S8x64x64, .f32⟩
  | 57 => ⟨S8x64x128, .f32⟩
  | 58 => ⟨S8x64x128, .f32⟩
  | 59 => ⟨S8x1x128, .f32⟩
  | 60 => ⟨S8x128, .f32⟩
  | 61 => ⟨S8x128, .f32⟩
  | 62 => ⟨S8x128x1, .f32⟩
  | 63 => ⟨S8x128x128, .f32⟩
  | 64 => ⟨S8x128x128, .f32⟩
  | 65 => ⟨S8x64x128, .f32⟩
  | 66 => ⟨S8x64x128, .f32⟩
  | 67 => ⟨S8x64x128, .f32⟩
  | 68 => ⟨S8x64x128, .f32⟩
  | 69 => ⟨S8x128x128, .f32⟩
  | 70 => ⟨S8x128x128, .f32⟩
  | 71 => ⟨S64x8x128, .f32⟩
  | 72 => ⟨S64x1024, .f32⟩
  | 73 => ⟨S64x8x128, .f32⟩
  | 74 => ⟨S8x64x128, .f32⟩
  | 75 => ⟨S8x128x64, .f32⟩
  | 76 => ⟨S8x64x128, .f32⟩
  | 77 => ⟨S8x128x64, .f32⟩
  | 78 => ⟨S8x64x128, .f32⟩
  | 79 => ⟨S8x64x128, .f32⟩
  | 80 => ⟨S8x64x128, .f32⟩
  | 81 => ⟨S8x64x128, .f32⟩
  | 82 => ⟨S_, .f32⟩
  | 83 => ⟨S8x128, .f32⟩
  | 84 => ⟨S8x1x128, .f32⟩
  | 85 => ⟨S8x64x128, .f32⟩
  | 86 => ⟨S8x128x128, .f32⟩
  | 87 => ⟨S8x128x128, .f32⟩
  | 88 => ⟨S8x128x128, .f32⟩
  | 89 => ⟨S_, .f32⟩
  | 90 => ⟨S8x128, .f32⟩
  | 91 => ⟨S8x128x1, .f32⟩
  | 92 => ⟨S_, .f32⟩
  | 93 => ⟨S8x128, .f32⟩
  | 94 => ⟨S8x128, .f32⟩
  | 95 => ⟨S8x1x128, .f32⟩
  | 96 => ⟨S8x1x128, .f32⟩
  | 97 => ⟨S_, .f32⟩
  | 98 => ⟨S8x64x128, .f32⟩
  | 99 => ⟨S8x64x128, .f32⟩
  | 100 => ⟨S8x128x64, .f32⟩
  | 101 => ⟨S8x64x128, .f32⟩
  | 102 => ⟨S8x64x128, .f32⟩
  | 103 => ⟨S8x64x64, .f32⟩
  | 104 => ⟨S8x64x64x128, .f32⟩
  | 105 => ⟨S8x64x64x128, .f32⟩
  | 106 => ⟨S_, .f32⟩
  | 107 => ⟨S8x64x128, .f32⟩
  | 108 => ⟨S8x1x64x128, .f32⟩
  | 109 => ⟨S8x64x64x128, .f32⟩
  | 110 => ⟨S8x64x64x128, .f32⟩
  | 111 => ⟨S_, .f32⟩
  | 112 => ⟨S8x64x128, .f32⟩
  | 113 => ⟨S8x64x128, .f32⟩
  | 114 => ⟨S8x64x64x128, .f32⟩
  | 115 => ⟨S8x64x64x128, .f32⟩
  | 116 => ⟨S8x64x64x128, .f32⟩
  | 117 => ⟨S_, .f32⟩
  | 118 => ⟨S8x64x128, .f32⟩
  | 119 => ⟨S8x64x1x128, .f32⟩
  | 120 => ⟨S_, .f32⟩
  | 121 => ⟨S8x64x128, .f32⟩
  | 122 => ⟨S8x64x64x128, .f32⟩
  | 123 => ⟨S8x64x64x128, .f32⟩
  | 124 => ⟨S8x64x64x128, .f32⟩
  | 125 => ⟨S_, .f32⟩
  | 126 => ⟨S8x64x64x128, .f32⟩
  | 127 => ⟨S8x64x64x128, .f32⟩
  | _ => ⟨S8192x10240, .f32⟩

abbrev hbmTy0_2 (i : Nat) : BufTy := match i % 128 with
  | 0 => ⟨S_, .f32⟩
  | 1 => ⟨S8x64x128, .f32⟩
  | 2 => ⟨S8x64x1x128, .f32⟩
  | 3 => ⟨S8x64x64x128, .f32⟩
  | 4 => ⟨S_, .f32⟩
  | 5 => ⟨S8x64x128, .f32⟩
  | 6 => ⟨S8x1x64x128, .f32⟩
  | 7 => ⟨S_, .f32⟩
  | 8 => ⟨S8x64x128, .f32⟩
  | 9 => ⟨S8x64x128, .f32⟩
  | 10 => ⟨S_, .f32⟩
  | 11 => ⟨S8x64x128, .f32⟩
  | 12 => ⟨S8x64x128, .f32⟩
  | 13 => ⟨S8x128x128, .f32⟩
  | 14 => ⟨S8x128x128, .f32⟩
  | 15 => ⟨S8x128x128, .f32⟩
  | 16 => ⟨S8x64x128, .f32⟩
  | 17 => ⟨S8x64x128, .f32⟩
  | 18 => ⟨S8x64x128, .f32⟩
  | 19 => ⟨S8x64x128, .f32⟩
  | 20 => ⟨S8x64x128, .f32⟩
  | 21 => ⟨S8x64x128, .f32⟩
  | 22 => ⟨S_, .f32⟩
  | 23 => ⟨S_, .f32⟩
  | 24 => ⟨S8x64x128, .f32⟩
  | 25 => ⟨S64x8x128, .f32⟩
  | 26 => ⟨S64x1024, .f32⟩
  | 27 => ⟨S64x8x128, .f32⟩
  | 28 => ⟨S64x1024, .f32⟩
  | 29 => ⟨S64x8x128, .f32⟩
  | 30 => ⟨S64x1024, .f32⟩
  | 31 => ⟨S64x8x128, .f32⟩
  | 32 => ⟨S64x1024, .f32⟩
  | 33 => ⟨S64x1024, .f32⟩
  | 34 => ⟨S64x1024, .f32⟩
  | 35 => ⟨S64x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S64x1024, .f32⟩
  | 42 => ⟨S64x1024, .f32⟩
  | 43 => ⟨S1024, .f32⟩
  | 44 => ⟨S64x1024, .f32⟩
  | 45 => ⟨S64x1024, .f32⟩
  | 46 => ⟨S_, .f32⟩
  | 47 => ⟨S1024, .f32⟩
  | 48 => ⟨S1x1024, .f32⟩
  | 49 => ⟨S_, .f32⟩
  | 50 => ⟨S1024, .f32⟩
  | 51 => ⟨S1024, .f32⟩
  | 52 => ⟨S64x1024, .f32⟩
  | 53 => ⟨S64x1024, .f32⟩
  | 54 => ⟨S64x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S64x1024, .f32⟩
  | 61 => ⟨S64x1024, .f32⟩
  | 62 => ⟨S1024, .f32⟩
  | 63 => ⟨S1024, .f32⟩
  | 64 => ⟨S64x1024, .f32⟩
  | 65 => ⟨S64x1024, .f32⟩
  | 66 => ⟨S64x1024, .f32⟩
  | 67 => ⟨S64x1024, .f32⟩
  | 68 => ⟨S1024, .f32⟩
  | 69 => ⟨S1x64x1024, .f32⟩
  | 70 => ⟨S_, .i32⟩
  | 71 => ⟨S_, .i32⟩
  | 72 => ⟨S128x64x1024, .f32⟩
  | 73 => ⟨S1x64x1024, .f32⟩
  | 74 => ⟨S_, .i32⟩
  | 75 => ⟨S_, .i32⟩
  | 76 => ⟨S128x64x1024, .f32⟩
  | 77 => ⟨S1x64x1024, .f32⟩
  | 78 => ⟨S_, .i32⟩
  | 79 => ⟨S_, .i32⟩
  | 80 => ⟨S128x64x1024, .f32⟩
  | 81 => ⟨S_, .i32⟩
  | 82 => ⟨S_, .i32⟩
  | 83 => ⟨S8192x1024, .f32⟩
  | 84 => ⟨S8192x1024, .bf16⟩
  | 85 => ⟨S8192x1024, .f32⟩
  | 86 => ⟨S8192x1024, .bf16⟩
  | 87 => ⟨S8192x1024, .f32⟩
  | 88 => ⟨S8192x1024, .bf16⟩
  | 89 => ⟨S1x1024, .f32⟩
  | _ => ⟨S8192x10240, .f32⟩

abbrev hbmTy (i : Nat) : BufTy := match i / 128 with
  | 0 => hbmTy0_0 i
  | 1 => hbmTy0_1 i
  | 2 => hbmTy0_2 i
  | _ => ⟨S8192x10240, .f32⟩

abbrev bufTy : (tb : Table) → Fin (tcTables nBuf tb) → BufTy
  | .hbm, ⟨i, _⟩ => hbmTy i
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_c : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev main_v13_8 : Ref sig .tc := ⟨.hbm, 31, rfl⟩
abbrev main_v13_9 : Ref sig .tc := ⟨.hbm, 32, rfl⟩
abbrev main_v13_10 : Ref sig .tc := ⟨.hbm, 33, rfl⟩
abbrev main_v13_11 : Ref sig .tc := ⟨.hbm, 34, rfl⟩
abbrev main_while0c_c_15 : Ref sig .tc := ⟨.hbm, 35, rfl⟩
abbrev main_while0c_v21 : Ref sig .tc := ⟨.hbm, 36, rfl⟩
abbrev main_while0b_c_15 : Ref sig .tc := ⟨.hbm, 37, rfl⟩
abbrev main_while0b_v21 : Ref sig .tc := ⟨.hbm, 38, rfl⟩
abbrev main_while0b_c_16 : Ref sig .tc := ⟨.hbm, 39, rfl⟩
abbrev main_while0b_v22 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_v0 : Ref sig .tc := ⟨.hbm, 44, rfl⟩
abbrev main_while0b_v23 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_v0 : Ref sig .tc := ⟨.hbm, 48, rfl⟩
abbrev main_while0b_v24 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_v0 : Ref sig .tc := ⟨.hbm, 52, rfl⟩
abbrev main_while0b_v25 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_v0 : Ref sig .tc := ⟨.hbm, 56, rfl⟩
abbrev main_while0b_v26 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_v0 : Ref sig .tc := ⟨.hbm, 60, rfl⟩
abbrev main_while0b_v27 : Ref sig .tc := ⟨.hbm, 61, rfl⟩
abbrev main_while0b_v28 : Ref sig .tc := ⟨.hbm, 62, rfl⟩
abbrev main_while0b_call5_v0 : Ref sig .tc := ⟨.hbm, 63, rfl⟩
abbrev main_while0b_call5_v1 : Ref sig .tc := ⟨.hbm, 64, rfl⟩
abbrev main_while0b_call5_cst : Ref sig .tc := ⟨.hbm, 65, rfl⟩
abbrev main_while0b_call5_v2 : Ref sig .tc := ⟨.hbm, 66, rfl⟩
abbrev main_while0b_call5_v3 : Ref sig .tc := ⟨.hbm, 67, rfl⟩
abbrev main_while0b_call5_cst_0 : Ref sig .tc := ⟨.hbm, 68, rfl⟩
abbrev main_while0b_call5_v4 : Ref sig .tc := ⟨.hbm, 69, rfl⟩
abbrev main_while0b_v29_2 : Ref sig .tc := ⟨.hbm, 70, rfl⟩
abbrev main_while0b_call5_cst_1 : Ref sig .tc := ⟨.hbm, 71, rfl⟩
abbrev main_while0b_call5_v6 : Ref sig .tc := ⟨.hbm, 72, rfl⟩
abbrev main_while0b_call5_v7 : Ref sig .tc := ⟨.hbm, 73, rfl⟩
abbrev main_while0b_v29_1 : Ref sig .tc := ⟨.hbm, 74, rfl⟩
abbrev main_while0b_v29_0 : Ref sig .tc := ⟨.hbm, 75, rfl⟩
abbrev main_while0b_cst_17 : Ref sig .tc := ⟨.hbm, 76, rfl⟩
abbrev main_while0b_v30 : Ref sig .tc := ⟨.hbm, 77, rfl⟩
abbrev main_while0b_v31 : Ref sig .tc := ⟨.hbm, 78, rfl⟩
abbrev main_while0b_v32 : Ref sig .tc := ⟨.hbm, 79, rfl⟩
abbrev main_while0b_v33 : Ref sig .tc := ⟨.hbm, 80, rfl⟩
abbrev main_while0b_cst_18 : Ref sig .tc := ⟨.hbm, 81, rfl⟩
abbrev main_while0b_v34 : Ref sig .tc := ⟨.hbm, 82, rfl⟩
abbrev main_while0b_v35 : Ref sig .tc := ⟨.hbm, 83, rfl⟩
abbrev main_while0b_cst_19 : Ref sig .tc := ⟨.hbm, 84, rfl⟩
abbrev main_while0b_v36 : Ref sig .tc := ⟨.hbm, 85, rfl⟩
abbrev main_while0b_v37 : Ref sig .tc := ⟨.hbm, 86, rfl⟩
abbrev main_while0b_cst_20 : Ref sig .tc := ⟨.hbm, 87, rfl⟩
abbrev main_while0b_v38 : Ref sig .tc := ⟨.hbm, 88, rfl⟩
abbrev main_while0b_v39 : Ref sig .tc := ⟨.hbm, 89, rfl⟩
abbrev main_while0b_v40 : Ref sig .tc := ⟨.hbm, 90, rfl⟩
abbrev main_while0b_v41 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_cst_21 : Ref sig .tc := ⟨.hbm, 97, rfl⟩
abbrev main_while0b_v47 : Ref sig .tc := ⟨.hbm, 98, rfl⟩
abbrev main_while0b_v48 : Ref sig .tc := ⟨.hbm, 99, rfl⟩
abbrev main_while0b_cst_22 : Ref sig .tc := ⟨.hbm, 100, rfl⟩
abbrev main_while0b_v49 : Ref sig .tc := ⟨.hbm, 101, rfl⟩
abbrev main_while0b_v50 : Ref sig .tc := ⟨.hbm, 102, rfl⟩
abbrev main_while0b_cst_23 : Ref sig .tc := ⟨.hbm, 103, rfl⟩
abbrev main_while0b_v51 : Ref sig .tc := ⟨.hbm, 104, rfl⟩
abbrev main_while0b_v52 : Ref sig .tc := ⟨.hbm, 105, rfl⟩
abbrev main_while0b_cst_24 : Ref sig .tc := ⟨.hbm, 106, rfl⟩
abbrev main_while0b_v53 : Ref sig .tc := ⟨.hbm, 107, rfl⟩
abbrev main_while0b_cst_25 : Ref sig .tc := ⟨.hbm, 108, rfl⟩
abbrev main_while0b_v54 : Ref sig .tc := ⟨.hbm, 109, rfl⟩
abbrev main_while0b_cst_26 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_cst_27 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_cst_28 : Ref sig .tc := ⟨.hbm, 121, rfl⟩
abbrev main_while0b_v64 : Ref sig .tc := ⟨.hbm, 122, rfl⟩
abbrev main_while0b_v65 : Ref sig .tc := ⟨.hbm, 123, rfl⟩
abbrev main_while0b_cst_29 : Ref sig .tc := ⟨.hbm, 124, rfl⟩
abbrev main_while0b_v66 : Ref sig .tc := ⟨.hbm, 125, rfl⟩
abbrev main_while0b_v67 : Ref sig .tc := ⟨.hbm, 126, rfl⟩
abbrev main_while0b_cst_30 : Ref sig .tc := ⟨.hbm, 127, rfl⟩
abbrev main_while0b_v68 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_v72 : Ref sig .tc := ⟨.hbm, 132, rfl⟩
abbrev main_while0b_v73 : Ref sig .tc := ⟨.hbm, 133, rfl⟩
abbrev main_while0b_v74 : Ref sig .tc := ⟨.hbm, 134, rfl⟩
abbrev main_while0b_v75 : Ref sig .tc := ⟨.hbm, 135, rfl⟩
abbrev main_while0b_v76 : Ref sig .tc := ⟨.hbm, 136, rfl⟩
abbrev main_while0b_v77 : Ref sig .tc := ⟨.hbm, 137, rfl⟩
abbrev main_while0b_v78 : Ref sig .tc := ⟨.hbm, 138, rfl⟩
abbrev main_while0b_v79 : Ref sig .tc := ⟨.hbm, 139, rfl⟩
abbrev main_while0b_v80 : Ref sig .tc := ⟨.hbm, 140, rfl⟩
abbrev main_while0b_v81 : Ref sig .tc := ⟨.hbm, 141, rfl⟩
abbrev main_while0b_c_31 : Ref sig .tc := ⟨.hbm, 142, rfl⟩
abbrev main_while0b_v82 : Ref sig .tc := ⟨.hbm, 143, rfl⟩
abbrev main_while0b_call6_v0 : Ref sig .tc := ⟨.hbm, 144, rfl⟩
abbrev main_while0b_call6_c : Ref sig .tc := ⟨.hbm, 145, rfl⟩
abbrev main_while0b_call6_v1 : Ref sig .tc := ⟨.hbm, 146, rfl⟩
abbrev main_while0b_call6_v2 : Ref sig .tc := ⟨.hbm, 147, rfl⟩
abbrev main_while0b_call6_v3 : Ref sig .tc := ⟨.hbm, 148, rfl⟩
abbrev main_while0b_call6_v4 : Ref sig .tc := ⟨.hbm, 149, rfl⟩
abbrev main_while0b_call6_c_0 : Ref sig .tc := ⟨.hbm, 150, rfl⟩
abbrev main_while0b_call6_v5 : Ref sig .tc := ⟨.hbm, 151, rfl⟩
abbrev main_while0b_v83 : Ref sig .tc := ⟨.hbm, 152, rfl⟩
abbrev main_while0b_v84 : Ref sig .tc := ⟨.hbm, 153, rfl⟩
abbrev main_while0b_v85 : Ref sig .tc := ⟨.hbm, 154, rfl⟩
abbrev main_while0b_call7_call0_cst : Ref sig .tc := ⟨.hbm, 155, rfl⟩
abbrev main_while0b_call7_call0_v0 : Ref sig .tc := ⟨.hbm, 156, rfl⟩
abbrev main_while0b_v86 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_cst_32 : Ref sig .tc := ⟨.hbm, 166, rfl⟩
abbrev main_while0b_call8_v0 : Ref sig .tc := ⟨.hbm, 167, rfl⟩
abbrev main_while0b_v95_1 : Ref sig .tc := ⟨.hbm, 168, rfl⟩
abbrev main_while0b_call8_v2 : Ref sig .tc := ⟨.hbm, 169, rfl⟩
abbrev main_while0b_v95_0 : Ref sig .tc := ⟨.hbm, 170, rfl⟩
abbrev main_while0b_call8_cst : Ref sig .tc := ⟨.hbm, 171, rfl⟩
abbrev main_while0b_v95_2 : Ref sig .tc := ⟨.hbm, 172, rfl⟩
abbrev main_while0b_v96 : Ref sig .tc := ⟨.hbm, 173, rfl⟩
abbrev main_while0b_v97 : Ref sig .tc := ⟨.hbm, 174, rfl⟩
abbrev main_while0b_v98 : Ref sig .tc := ⟨.hbm, 175, rfl⟩
abbrev main_while0b_v99 : Ref sig .tc := ⟨.hbm, 176, rfl⟩
abbrev main_while0b_v100 : Ref sig .tc := ⟨.hbm, 177, rfl⟩
abbrev main_while0b_v101 : Ref sig .tc := ⟨.hbm, 178, rfl⟩
abbrev main_while0b_v102 : Ref sig .tc := ⟨.hbm, 179, rfl⟩
abbrev main_while0b_v103 : Ref sig .tc := ⟨.hbm, 180, rfl⟩
abbrev main_while0b_v104 : Ref sig .tc := ⟨.hbm, 181, rfl⟩
abbrev main_while0b_v105 : Ref sig .tc := ⟨.hbm, 182, rfl⟩
abbrev main_while0b_cst_33 : Ref sig .tc := ⟨.hbm, 183, rfl⟩
abbrev main_while0b_v106 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_v111 : Ref sig .tc := ⟨.hbm, 189, rfl⟩
abbrev main_while0b_v112 : Ref sig .tc := ⟨.hbm, 190, rfl⟩
abbrev main_while0b_v113 : Ref sig .tc := ⟨.hbm, 191, rfl⟩
abbrev main_while0b_v114 : Ref sig .tc := ⟨.hbm, 192, rfl⟩
abbrev main_while0b_v115 : Ref sig .tc := ⟨.hbm, 193, rfl⟩
abbrev main_while0b_v116 : Ref sig .tc := ⟨.hbm, 194, rfl⟩
abbrev main_while0b_v117 : Ref sig .tc := ⟨.hbm, 195, rfl⟩
abbrev main_while0b_v118 : Ref sig .tc := ⟨.hbm, 196, rfl⟩
abbrev main_while0b_v119 : Ref sig .tc := ⟨.hbm, 197, rfl⟩
abbrev main_while0b_v120 : Ref sig .tc := ⟨.hbm, 198, rfl⟩
abbrev main_while0b_v121 : Ref sig .tc := ⟨.hbm, 199, rfl⟩
abbrev main_while0b_v122 : Ref sig .tc := ⟨.hbm, 200, rfl⟩
abbrev main_while0b_v123 : Ref sig .tc := ⟨.hbm, 201, rfl⟩
abbrev main_while0b_v124 : Ref sig .tc := ⟨.hbm, 202, rfl⟩
abbrev main_while0b_v125 : Ref sig .tc := ⟨.hbm, 203, rfl⟩
abbrev main_while0b_v126 : Ref sig .tc := ⟨.hbm, 204, rfl⟩
abbrev main_while0b_v127 : Ref sig .tc := ⟨.hbm, 205, rfl⟩
abbrev main_while0b_v128 : Ref sig .tc := ⟨.hbm, 206, rfl⟩
abbrev main_while0b_v129 : Ref sig .tc := ⟨.hbm, 207, rfl⟩
abbrev main_while0b_v130 : Ref sig .tc := ⟨.hbm, 208, rfl⟩
abbrev main_while0b_v131 : Ref sig .tc := ⟨.hbm, 209, rfl⟩
abbrev main_while0b_cst_34 : Ref sig .tc := ⟨.hbm, 210, rfl⟩
abbrev main_while0b_v132 : Ref sig .tc := ⟨.hbm, 211, rfl⟩
abbrev main_while0b_v133 : Ref sig .tc := ⟨.hbm, 212, rfl⟩
abbrev main_while0b_v134 : Ref sig .tc := ⟨.hbm, 213, rfl⟩
abbrev main_while0b_v135 : Ref sig .tc := ⟨.hbm, 214, rfl⟩
abbrev main_while0b_v136 : Ref sig .tc := ⟨.hbm, 215, rfl⟩
abbrev main_while0b_v137 : Ref sig .tc := ⟨.hbm, 216, rfl⟩
abbrev main_while0b_cst_35 : Ref sig .tc := ⟨.hbm, 217, rfl⟩
abbrev main_while0b_v138 : Ref sig .tc := ⟨.hbm, 218, rfl⟩
abbrev main_while0b_v139 : Ref sig .tc := ⟨.hbm, 219, rfl⟩
abbrev main_while0b_cst_36 : Ref sig .tc := ⟨.hbm, 220, rfl⟩
abbrev main_while0b_v140 : Ref sig .tc := ⟨.hbm, 221, rfl⟩
abbrev main_while0b_v141 : Ref sig .tc := ⟨.hbm, 222, rfl⟩
abbrev main_while0b_v142 : Ref sig .tc := ⟨.hbm, 223, rfl⟩
abbrev main_while0b_v143 : Ref sig .tc := ⟨.hbm, 224, rfl⟩
abbrev main_while0b_cst_37 : Ref sig .tc := ⟨.hbm, 225, rfl⟩
abbrev main_while0b_v144 : Ref sig .tc := ⟨.hbm, 226, rfl⟩
abbrev main_while0b_v145 : Ref sig .tc := ⟨.hbm, 227, rfl⟩
abbrev main_while0b_v146 : Ref sig .tc := ⟨.hbm, 228, rfl⟩
abbrev main_while0b_v147 : Ref sig .tc := ⟨.hbm, 229, rfl⟩
abbrev main_while0b_v148 : Ref sig .tc := ⟨.hbm, 230, rfl⟩
abbrev main_while0b_v149 : Ref sig .tc := ⟨.hbm, 231, rfl⟩
abbrev main_while0b_v150 : Ref sig .tc := ⟨.hbm, 232, rfl⟩
abbrev main_while0b_v151 : Ref sig .tc := ⟨.hbm, 233, rfl⟩
abbrev main_while0b_cst_38 : Ref sig .tc := ⟨.hbm, 234, rfl⟩
abbrev main_while0b_v152 : Ref sig .tc := ⟨.hbm, 235, rfl⟩
abbrev main_while0b_v153 : Ref sig .tc := ⟨.hbm, 236, rfl⟩
abbrev main_while0b_v154 : Ref sig .tc := ⟨.hbm, 237, rfl⟩
abbrev main_while0b_v155 : Ref sig .tc := ⟨.hbm, 238, rfl⟩
abbrev main_while0b_cst_39 : Ref sig .tc := ⟨.hbm, 239, rfl⟩
abbrev main_while0b_v156 : Ref sig .tc := ⟨.hbm, 240, rfl⟩
abbrev main_while0b_v157 : Ref sig .tc := ⟨.hbm, 241, rfl⟩
abbrev main_while0b_v158 : Ref sig .tc := ⟨.hbm, 242, rfl⟩
abbrev main_while0b_v159 : Ref sig .tc := ⟨.hbm, 243, rfl⟩
abbrev main_while0b_v160 : Ref sig .tc := ⟨.hbm, 244, rfl⟩
abbrev main_while0b_cst_40 : Ref sig .tc := ⟨.hbm, 245, rfl⟩
abbrev main_while0b_v161 : Ref sig .tc := ⟨.hbm, 246, rfl⟩
abbrev main_while0b_v162 : Ref sig .tc := ⟨.hbm, 247, rfl⟩
abbrev main_while0b_cst_41 : Ref sig .tc := ⟨.hbm, 248, rfl⟩
abbrev main_while0b_v163 : Ref sig .tc := ⟨.hbm, 249, rfl⟩
abbrev main_while0b_v164 : Ref sig .tc := ⟨.hbm, 250, rfl⟩
abbrev main_while0b_v165 : Ref sig .tc := ⟨.hbm, 251, rfl⟩
abbrev main_while0b_v166 : Ref sig .tc := ⟨.hbm, 252, rfl⟩
abbrev main_while0b_call9_cst : Ref sig .tc := ⟨.hbm, 253, rfl⟩
abbrev main_while0b_call9_v0 : Ref sig .tc := ⟨.hbm, 254, rfl⟩
abbrev main_while0b_v167 : Ref sig .tc := ⟨.hbm, 255, rfl⟩
abbrev main_while0b_cst_42 : Ref sig .tc := ⟨.hbm, 256, rfl⟩
abbrev main_while0b_v168 : Ref sig .tc := ⟨.hbm, 257, rfl⟩
abbrev main_while0b_v169 : Ref sig .tc := ⟨.hbm, 258, rfl⟩
abbrev main_while0b_v170 : Ref sig .tc := ⟨.hbm, 259, rfl⟩
abbrev main_while0b_cst_43 : Ref sig .tc := ⟨.hbm, 260, rfl⟩
abbrev main_while0b_v171 : Ref sig .tc := ⟨.hbm, 261, rfl⟩
abbrev main_while0b_v172 : Ref sig .tc := ⟨.hbm, 262, rfl⟩
abbrev main_while0b_cst_44 : Ref sig .tc := ⟨.hbm, 263, rfl⟩
abbrev main_while0b_v173 : Ref sig .tc := ⟨.hbm, 264, rfl⟩
abbrev main_while0b_v174 : Ref sig .tc := ⟨.hbm, 265, rfl⟩
abbrev main_while0b_cst_45 : Ref sig .tc := ⟨.hbm, 266, rfl⟩
abbrev main_while0b_v175 : Ref sig .tc := ⟨.hbm, 267, rfl⟩
abbrev main_while0b_v176 : Ref sig .tc := ⟨.hbm, 268, rfl⟩
abbrev main_while0b_v177 : Ref sig .tc := ⟨.hbm, 269, rfl⟩
abbrev main_while0b_v178 : Ref sig .tc := ⟨.hbm, 270, rfl⟩
abbrev main_while0b_v179 : Ref sig .tc := ⟨.hbm, 271, rfl⟩
abbrev main_while0b_v180 : Ref sig .tc := ⟨.hbm, 272, rfl⟩
abbrev main_while0b_v181 : Ref sig .tc := ⟨.hbm, 273, rfl⟩
abbrev main_while0b_v182 : Ref sig .tc := ⟨.hbm, 274, rfl⟩
abbrev main_while0b_v183 : Ref sig .tc := ⟨.hbm, 275, rfl⟩
abbrev main_while0b_v184 : Ref sig .tc := ⟨.hbm, 276, rfl⟩
abbrev main_while0b_v185 : Ref sig .tc := ⟨.hbm, 277, rfl⟩
abbrev main_while0b_call10_call0_cst : Ref sig .tc := ⟨.hbm, 278, rfl⟩
abbrev main_while0b_call10_call0_v0 : Ref sig .tc := ⟨.hbm, 279, rfl⟩
abbrev main_while0b_v186 : Ref sig .tc := ⟨.hbm, 280, rfl⟩
abbrev main_while0b_v187 : Ref sig .tc := ⟨.hbm, 281, rfl⟩
abbrev main_while0b_v188 : Ref sig .tc := ⟨.hbm, 282, rfl⟩
abbrev main_while0b_v189 : Ref sig .tc := ⟨.hbm, 283, rfl⟩
abbrev main_while0b_v190 : Ref sig .tc := ⟨.hbm, 284, rfl⟩
abbrev main_while0b_v191 : Ref sig .tc := ⟨.hbm, 285, rfl⟩
abbrev main_while0b_v192 : Ref sig .tc := ⟨.hbm, 286, rfl⟩
abbrev main_while0b_v193 : Ref sig .tc := ⟨.hbm, 287, rfl⟩
abbrev main_while0b_v194 : Ref sig .tc := ⟨.hbm, 288, rfl⟩
abbrev main_while0b_v195 : Ref sig .tc := ⟨.hbm, 289, rfl⟩
abbrev main_while0b_v196 : Ref sig .tc := ⟨.hbm, 290, rfl⟩
abbrev main_while0b_v197 : Ref sig .tc := ⟨.hbm, 291, rfl⟩
abbrev main_while0b_cst_46 : Ref sig .tc := ⟨.hbm, 292, rfl⟩
abbrev main_while0b_v198 : Ref sig .tc := ⟨.hbm, 293, rfl⟩
abbrev main_while0b_v199 : Ref sig .tc := ⟨.hbm, 294, rfl⟩
abbrev main_while0b_cst_47 : Ref sig .tc := ⟨.hbm, 295, rfl⟩
abbrev main_while0b_v200 : Ref sig .tc := ⟨.hbm, 296, rfl⟩
abbrev main_while0b_v201 : Ref sig .tc := ⟨.hbm, 297, rfl⟩
abbrev main_while0b_v202 : Ref sig .tc := ⟨.hbm, 298, rfl⟩
abbrev main_while0b_v203 : Ref sig .tc := ⟨.hbm, 299, rfl⟩
abbrev main_while0b_v204 : Ref sig .tc := ⟨.hbm, 300, rfl⟩
abbrev main_while0b_v205 : Ref sig .tc := ⟨.hbm, 301, rfl⟩
abbrev main_while0b_cst_48 : Ref sig .tc := ⟨.hbm, 302, rfl⟩
abbrev main_while0b_v206 : Ref sig .tc := ⟨.hbm, 303, rfl⟩
abbrev main_while0b_v207 : Ref sig .tc := ⟨.hbm, 304, rfl⟩
abbrev main_while0b_cst_49 : Ref sig .tc := ⟨.hbm, 305, rfl⟩
abbrev main_while0b_v208 : Ref sig .tc := ⟨.hbm, 306, rfl⟩
abbrev main_while0b_v209 : Ref sig .tc := ⟨.hbm, 307, rfl⟩
abbrev main_while0b_v210 : Ref sig .tc := ⟨.hbm, 308, rfl⟩
abbrev main_while0b_v211 : Ref sig .tc := ⟨.hbm, 309, rfl⟩
abbrev main_while0b_v212 : Ref sig .tc := ⟨.hbm, 310, rfl⟩
abbrev main_while0b_cst_50 : Ref sig .tc := ⟨.hbm, 311, rfl⟩
abbrev main_while0b_v213 : Ref sig .tc := ⟨.hbm, 312, rfl⟩
abbrev main_while0b_v214 : Ref sig .tc := ⟨.hbm, 313, rfl⟩
abbrev main_while0b_cst_51 : Ref sig .tc := ⟨.hbm, 314, rfl⟩
abbrev main_while0b_v215 : Ref sig .tc := ⟨.hbm, 315, rfl⟩
abbrev main_while0b_v216 : Ref sig .tc := ⟨.hbm, 316, rfl⟩
abbrev main_while0b_v217 : Ref sig .tc := ⟨.hbm, 317, rfl⟩
abbrev main_while0b_v218 : Ref sig .tc := ⟨.hbm, 318, rfl⟩
abbrev main_while0b_v219 : Ref sig .tc := ⟨.hbm, 319, rfl⟩
abbrev main_while0b_call11_v0 : Ref sig .tc := ⟨.hbm, 320, rfl⟩
abbrev main_while0b_call11_v1 : Ref sig .tc := ⟨.hbm, 321, rfl⟩
abbrev main_while0b_call11_v2 : Ref sig .tc := ⟨.hbm, 322, rfl⟩
abbrev main_while0b_v220 : Ref sig .tc := ⟨.hbm, 323, rfl⟩
abbrev main_while0b_v221 : Ref sig .tc := ⟨.hbm, 324, rfl⟩
abbrev main_while0b_call12_v0 : Ref sig .tc := ⟨.hbm, 325, rfl⟩
abbrev main_while0b_call12_c : Ref sig .tc := ⟨.hbm, 326, rfl⟩
abbrev main_while0b_call12_c_0 : Ref sig .tc := ⟨.hbm, 327, rfl⟩
abbrev main_while0b_v222 : Ref sig .tc := ⟨.hbm, 328, rfl⟩
abbrev main_while0b_call13_v0 : Ref sig .tc := ⟨.hbm, 329, rfl⟩
abbrev main_while0b_call13_c : Ref sig .tc := ⟨.hbm, 330, rfl⟩
abbrev main_while0b_call13_c_0 : Ref sig .tc := ⟨.hbm, 331, rfl⟩
abbrev main_while0b_v223 : Ref sig .tc := ⟨.hbm, 332, rfl⟩
abbrev main_while0b_call14_v0 : Ref sig .tc := ⟨.hbm, 333, rfl⟩
abbrev main_while0b_call14_c : Ref sig .tc := ⟨.hbm, 334, rfl⟩
abbrev main_while0b_call14_c_0 : Ref sig .tc := ⟨.hbm, 335, rfl⟩
abbrev main_while0b_v224 : Ref sig .tc := ⟨.hbm, 336, rfl⟩
abbrev main_while0b_c_52 : Ref sig .tc := ⟨.hbm, 337, rfl⟩
abbrev main_while0b_v225 : Ref sig .tc := ⟨.hbm, 338, rfl⟩
abbrev main_v14 : Ref sig .tc := ⟨.hbm, 339, rfl⟩
abbrev main_v15 : Ref sig .tc := ⟨.hbm, 340, rfl⟩
abbrev main_v16 : Ref sig .tc := ⟨.hbm, 341, rfl⟩
abbrev main_v17 : Ref sig .tc := ⟨.hbm, 342, rfl⟩
abbrev main_v18 : Ref sig .tc := ⟨.hbm, 343, rfl⟩
abbrev main_v19 : Ref sig .tc := ⟨.hbm, 344, rfl⟩
abbrev main_v20 : Ref sig .tc := ⟨.hbm, 345, rfl⟩

abbrev nD : Nat := 1
abbrev τ : Topo := Topo.v7x

variable {F : FTy → Type} [FloatOps F]

abbrev main_while0_count : Scf.Loop 32 := ⟨0#32, 128#32, 1#32⟩
-- ==== Dh.lean ====
abbrev S8192x1024 : Shape := ⟨2, ![8192, 1024]⟩
abbrev S8192x2048 : Shape := ⟨2, ![8192, 2048]⟩
abbrev S2048x10240 : Shape := ⟨2, ![2048, 10240]⟩
abbrev S512x1024 : Shape := ⟨2, ![512, 1024]⟩
abbrev S512x2048 : Shape := ⟨2, ![512, 2048]⟩
abbrev S1024x2048 : Shape := ⟨2, ![1024, 2048]⟩
abbrev S1024x1024 : Shape := ⟨2, ![1024, 1024]⟩

abbrev nBuf : Space → Nat
  | .hbm => 10
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x2048, .bf16⟩
  | .hbm, ⟨7, _⟩ => ⟨S8192x2048, .bf16⟩
  | .hbm, ⟨8, _⟩ => ⟨S2048x10240, .bf16⟩
  | .hbm, ⟨9, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x2048, .bf16⟩
  | .local _ .vmem, ⟨17, _⟩ => ⟨S1024x2048, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![16, 2, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .sge arg2 c0_i32
  let c1_i32 : BitVec 32 := 1#32
  let v1 : BitVec 1 := Scalar.cmpi .slt arg2 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg2 : BitVec 32 := BitVec.ofNat 32 (i 2).val
  let c4_i32_20 : BitVec 32 := 4#32
  let v38 : BitVec 1 := Scalar.cmpi .eq arg2 c4_i32_20
  let v39 : BitVec 32 := Scalar.extui v38
  let c0_i32_21 : BitVec 32 := 0#32
  let v40 : BitVec 1 := Scalar.cmpi .ne v39 c0_i32_21
  v40

def k0_cond5 (i : grid0.Coords) : BitVec 1 :=
  let arg2 : BitVec 32 := BitVec.ofNat 32 (i 2).val
  let c1_i32_1 : BitVec 32 := 1#32
  let v5 : BitVec 1 := Scalar.cmpi .sge arg2 c1_i32_1
  let c2_i32 : BitVec 32 := 2#32
  let v6 : BitVec 1 := Scalar.cmpi .slt arg2 c2_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond8 (i : grid0.Coords) : BitVec 1 :=
  let arg2 : BitVec 32 := BitVec.ofNat 32 (i 2).val
  let c4_i32_20 : BitVec 32 := 4#32
  let v38 : BitVec 1 := Scalar.cmpi .eq arg2 c4_i32_20
  let v39 : BitVec 32 := Scalar.extui v38
  let c0_i32_21 : BitVec 32 := 0#32
  let v40 : BitVec 1 := Scalar.cmpi .ne v39 c0_i32_21
  v40

def k0_cond9 (i : grid0.Coords) : BitVec 1 :=
  let arg2 : BitVec 32 := BitVec.ofNat 32 (i 2).val
  let c2_i32_3 : BitVec 32 := 2#32
  let v10 : BitVec 1 := Scalar.cmpi .sge arg2 c2_i32_3
  let c3_i32 : BitVec 32 := 3#32
  let v11 : BitVec 1 := Scalar.cmpi .slt arg2 c3_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond12 (i : grid0.Coords) : BitVec 1 :=
  let arg2 : BitVec 32 := BitVec.ofNat 32 (i 2).val
  let c4_i32_20 : BitVec 32 := 4#32
  let v38 : BitVec 1 := Scalar.cmpi .eq arg2 c4_i32_20
  let v39 : BitVec 32 := Scalar.extui v38
  let c0_i32_21 : BitVec 32 := 0#32
  let v40 : BitVec 1 := Scalar.cmpi .ne v39 c0_i32_21
  v40

def k0_cond13 (i : grid0.Coords) : BitVec 1 :=
  let arg2 : BitVec 32 := BitVec.ofNat 32 (i 2).val
  let c3_i32_5 : BitVec 32 := 3#32
  let v15 : BitVec 1 := Scalar.cmpi .sge arg2 c3_i32_5
  let c4_i32 : BitVec 32 := 4#32
  let v16 : BitVec 1 := Scalar.cmpi .slt arg2 c4_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond16 (i : grid0.Coords) : BitVec 1 :=
  let arg2 : BitVec 32 := BitVec.ofNat 32 (i 2).val
  let c4_i32_16 : BitVec 32 := 4#32
  let v34 : BitVec 1 := Scalar.cmpi .eq arg2 c4_i32_16
  let v35 : BitVec 32 := Scalar.extui v34
  let c0_i32_17 : BitVec 32 := 0#32
  let v36 : BitVec 1 := Scalar.cmpi .ne v35 c0_i32_17
  v36

def k0_cond17 (i : grid0.Coords) : BitVec 1 :=
  let arg2 : BitVec 32 := BitVec.ofNat 32 (i 2).val
  let c4_i32_7 : BitVec 32 := 4#32
  let v20 : BitVec 1 := Scalar.cmpi .sge arg2 c4_i32_7
  let c5_i32 : BitVec 32 := 5#32
  let v21 : BitVec 1 := Scalar.cmpi .slt arg2 c5_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond20 (i : grid0.Coords) : BitVec 1 :=
  let arg2 : BitVec 32 := BitVec.ofNat 32 (i 2).val
  let c4_i32_16 : BitVec 32 := 4#32
  let v34 : BitVec 1 := Scalar.cmpi .eq arg2 c4_i32_16
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DhRefIdeal.lean ====
abbrev S8192x1024 : Shape := ⟨2, ![8192, 1024]⟩
abbrev S8192x2048 : Shape := ⟨2, ![8192, 2048]⟩
abbrev S2048x10240 : Shape := ⟨2, ![2048, 10240]⟩
abbrev S8192x10240 : Shape := ⟨2, ![8192, 10240]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x2048, .bf16⟩
  | .hbm, ⟨7, _⟩ => ⟨S8192x2048, .bf16⟩
  | .hbm, ⟨8, _⟩ => ⟨S2048x10240, .bf16⟩
  | .hbm, ⟨9, _⟩ => ⟨S8192x10240, .bf16⟩
  | .hbm, ⟨10, _⟩ => ⟨S8192x10240, .f32⟩
  | .hbm, ⟨11, _⟩ => ⟨S_, .f32⟩
  | .hbm, ⟨12, _⟩ => ⟨S8192x2048, .f32⟩
  | .hbm, ⟨13, _⟩ => ⟨S2048x10240, .f32⟩
  | .hbm, ⟨14, _⟩ => ⟨S8192x10240, .f32⟩
  | .hbm, ⟨15, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Gw.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dy.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mb.lean ====
abbrev S8192x2048 : Shape := ⟨2, ![8192, 2048]⟩
abbrev S2048x2048 : Shape := ⟨2, ![2048, 2048]⟩
abbrev S8192x10240 : Shape := ⟨2, ![8192, 10240]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x10240, .f32⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MbRefIdeal.lean ====
abbrev S8192x2048 : Shape := ⟨2, ![8192, 2048]⟩
abbrev S2048x2048 : Shape := ⟨2, ![2048, 2048]⟩
abbrev S8192x10240 : Shape := ⟨2, ![8192, 10240]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x10240, .f32⟩
  | .hbm, ⟨3, _⟩ => ⟨S8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | .hbm, ⟨47, _⟩ => ⟨S8192x2048, .bf16⟩
  | .hbm, ⟨48, _⟩ => ⟨S8192x2048, .bf16⟩
  | .hbm, ⟨49, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Pj.lean ====
abbrev S8192x2048 : Shape := ⟨2, ![8192, 2048]⟩
abbrev S2048x10240 : Shape := ⟨2, ![2048, 10240]⟩
abbrev S8192x10240 : Shape := ⟨2, ![8192, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .bf16⟩
  | .hbm, ⟨2, _⟩ => ⟨S8192x10240, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PjRefIdeal.lean ====
abbrev S8192x2048 : Shape := ⟨2, ![8192, 2048]⟩
abbrev S2048x10240 : Shape := ⟨2, ![2048, 10240]⟩
abbrev S8192x10240 : Shape := ⟨2, ![8192, 10240]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .bf16⟩
  | .hbm, ⟨2, _⟩ => ⟨S8192x2048, .f32⟩
  | .hbm, ⟨3, _⟩ => ⟨S2048x10240, .f32⟩
  | .hbm, ⟨4, _⟩ => ⟨S8192x10240, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mg.lean ====
abbrev S8192x1024 : Shape := ⟨2, ![8192, 1024]⟩
abbrev S1024x2048 : Shape := ⟨2, ![1024, 2048]⟩
abbrev S8192x10240 : Shape := ⟨2, ![8192, 10240]⟩
abbrev S8192x2048 : Shape := ⟨2, ![8192, 2048]⟩
abbrev S1024x1024 : Shape := ⟨2, ![1024, 1024]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x10240, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MgRefIdeal.lean ====
abbrev S8192x1024 : Shape := ⟨2, ![8192, 1024]⟩
abbrev S1024x2048 : Shape := ⟨2, ![1024, 2048]⟩
abbrev S8192x10240 : Shape := ⟨2, ![8192, 10240]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x10240, .f32⟩
  | .hbm, ⟨5, _⟩ => ⟨S8192x1024, .f32⟩
  | .hbm, ⟨6, _⟩ => ⟨S1024x2048, .f32⟩
  | .hbm, ⟨7, _⟩ => ⟨S8192x2048, .f32⟩
  | .hbm, ⟨8, _⟩ => ⟨S8192x1024, .f32⟩
  | .hbm, ⟨9, _⟩ => ⟨S1024x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | .hbm, ⟨33, _⟩ => ⟨S8192x2048, .bf16⟩
  | .hbm, ⟨34, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Op.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OpRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Go.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Pb.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PbRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Nb.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NbRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Wa.lean ====
abbrev S8x2048 : Shape := ⟨2, ![8, 2048]⟩
abbrev S4x8x1536 : Shape := ⟨3, ![4, 8, 1536]⟩
abbrev S4x2048x1536 : Shape := ⟨3, ![4, 2048, 1536]⟩
abbrev S1x8x256 : Shape := ⟨3, ![1, 8, 256]⟩
abbrev S1x2048x256 : Shape := ⟨3, ![1, 2048, 256]⟩
abbrev S8x256 : Shape := ⟨2, ![8, 256]⟩
abbrev S2048x256 : Shape := ⟨2, ![2048, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S4x2048x1536, .f32⟩
  | .hbm, ⟨6, _⟩ => ⟨S4x2048x1536, .f32⟩
  | .hbm, ⟨7, _⟩ => ⟨S4x2048x1536, .f32⟩
  | .hbm, ⟨8, _⟩ => ⟨S4x2048x1536, .f32⟩
  | .local _ .vmem, ⟨0, _⟩ => ⟨S8x2048, .f32⟩
  | .local _ .vmem, ⟨1, _⟩ => ⟨S1x8x256, .f32⟩
  | .local _ .vmem, ⟨2, _⟩ => ⟨S1x8x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WaRefIdeal.lean ====
abbrev S8x2048 : Shape := ⟨2, ![8, 2048]⟩
abbrev S4x8x1536 : Shape := ⟨3, ![4, 8, 1536]⟩
abbrev S4x2048x1536 : Shape := ⟨3, ![4, 2048, 1536]⟩
abbrev S_ : Shape := ⟨0, ![]⟩
abbrev S4x1536x8 : Shape := ⟨3, ![4, 1536, 8]⟩
abbrev S4x1536x2048 : Shape := ⟨3, ![4, 1536, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S4x1536x8, .f32⟩
  | .hbm, ⟨15, _⟩ => ⟨S4x8x1536, .f32⟩
  | .hbm, ⟨16, _⟩ => ⟨S4x1536x8, .f32⟩
  | .hbm, ⟨17, _⟩ => ⟨S4x1536x2048, .f32⟩
  | .hbm, ⟨18, _⟩ => ⟨S4x2048x1536, .f32⟩
  | .hbm, ⟨19, _⟩ => ⟨S_, .f32⟩
  | .hbm, ⟨20, _⟩ => ⟨S4x2048x1536, .f32⟩
  | .hbm, ⟨21, _⟩ => ⟨S4x2048x1536, .f32⟩
  | .hbm, ⟨22, _⟩ => ⟨S_, .f32⟩
  | .hbm, ⟨23, _⟩ => ⟨S4x2048x1536, .f32⟩
  | .hbm, ⟨24, _⟩ => ⟨S4x2048x1536, .f32⟩
  | .hbm, ⟨25, _⟩ => ⟨S4x2048x1536, .f32⟩
  | .hbm, ⟨26, _⟩ => ⟨S_, .f32⟩
  | .hbm, ⟨27, _⟩ => ⟨S4x2048x1536, .f32⟩
  | .hbm, ⟨28, _⟩ => ⟨S4x2048x1536, .f32⟩
  | .hbm, ⟨29, _⟩ => ⟨S4x2048x1536, .f32⟩
  | .hbm, ⟨30, _⟩ => ⟨S_, .f32⟩
  | .hbm, ⟨31, _⟩ => ⟨S4x2048x1536, .f32⟩
  | .hbm, ⟨32, _⟩ => ⟨S4x2048x1536, .f32⟩
  | .hbm, ⟨33, _⟩ => ⟨S4x2048x1536, .f32⟩
  | .hbm, ⟨34, _⟩ => ⟨S_, .f32⟩
  | .hbm, ⟨35, _⟩ => ⟨S4x2048x1536, .f32⟩
  | .hbm, ⟨36, _⟩ => ⟨S4x2048x1536, .f32⟩
  | .hbm, ⟨37, _⟩ => ⟨S_, .f32⟩
  | .hbm, ⟨38, _⟩ => ⟨S4x2048x1536, .f32⟩
  | .hbm, ⟨39, _⟩ => ⟨S4x2048x1536, .f32⟩
  | .hbm, ⟨40, _⟩ => ⟨S4x2048x1536, .f32⟩
  | .hbm, ⟨41, _⟩ => ⟨S_, .f32⟩
  | .hbm, ⟨42, _⟩ => ⟨S4x2048x1536, .f32⟩
  | .hbm, ⟨43, _⟩ => ⟨S4x2048x1536, .f32⟩
  | .hbm, ⟨44, _⟩ => ⟨S4x2048x1536, .f32⟩
  | .hbm, ⟨45, _⟩ => ⟨S_, .f32⟩
  | .hbm, ⟨46, _⟩ => ⟨S4x2048x1536, .f32⟩
  | .hbm, ⟨47, _⟩ => ⟨S4x2048x1536, .f32⟩
  | .hbm, ⟨48, _⟩ => ⟨S4x2048x1536, .f32⟩
  | .hbm, ⟨49, _⟩ => ⟨S_, .f32⟩
  | .hbm, ⟨50, _⟩ => ⟨S4x2048x1536, .f32⟩
  | .hbm, ⟨51, _⟩ => ⟨S4x2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Mp.lean ====
abbrev S8x2048 : Shape := ⟨2, ![8, 2048]⟩
abbrev S4x2048x1536 : Shape := ⟨3, ![4, 2048, 1536]⟩
abbrev S4x8x1536 : Shape := ⟨3, ![4, 8, 1536]⟩
abbrev S1x2048x512 : Shape := ⟨3, ![1, 2048, 512]⟩
abbrev S1x8x512 : Shape := ⟨3, ![1, 8, 512]⟩
abbrev S2048x512 : Shape := ⟨2, ![2048, 512]⟩
abbrev S8x512 : Shape := ⟨2, ![8, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S4x2048x1536, .f32⟩
  | .hbm, ⟨2, _⟩ => ⟨S4x8x1536, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x8x512, .f32⟩
  | .local _ .vmem, ⟨4, _⟩ => ⟨S1x8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MpRefIdeal.lean ====
abbrev S8x2048 : Shape := ⟨2, ![8, 2048]⟩
abbrev S4x2048x1536 : Shape := ⟨3, ![4, 2048, 1536]⟩
abbrev S_ : Shape := ⟨0, ![]⟩
abbrev S4x1536x8 : Shape := ⟨3, ![4, 1536, 8]⟩
abbrev S4x8x1536 : Shape := ⟨3, ![4, 8, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x1536, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S4x1536x8, .f32⟩
  | .hbm, ⟨12, _⟩ => ⟨S4x8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Lb.lean ====
abbrev S4x1024 : Shape := ⟨2, ![4, 1024]⟩
abbrev S1024 : Shape := ⟨1, ![1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .local _ .vmem, ⟨0, _⟩ => ⟨S4x1024, .f32⟩
  | .local _ .vmem, ⟨1, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S_, .f32⟩
  | .hbm, ⟨17, _⟩ => ⟨S4x1024, .f32⟩
  | .hbm, ⟨18, _⟩ => ⟨S1x1024, .f32⟩
  | .hbm, ⟨19, _⟩ => ⟨S4x1024, .f32⟩
  | .hbm, ⟨20, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Nf.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NfRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Pf.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PfRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Lo.lean ====
abbrev S8192x2048 : Shape := ⟨2, ![8192, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LoRefIdeal.lean ====
abbrev S8192x2048 : Shape := ⟨2, ![8192, 2048]⟩
abbrev S_ : Shape := ⟨0, ![]⟩
abbrev S8192 : Shape := ⟨1, ![8192]⟩
abbrev S2048 : Shape := ⟨1, ![2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Ai.lean ====
abbrev S8192x2560 : Shape := ⟨2, ![8192, 2560]⟩
abbrev S128x2560 : Shape := ⟨2, ![128, 2560]⟩

abbrev nBuf : Space → Nat
  | .hbm => 7
  | .vmem => 14
  | .smem => 0
  | _ => 0

abbrev bufTy : (tb : Table) → Fin (tcTables nBuf tb) → BufTy
  | .hbm, ⟨0, _⟩ => ⟨S8192x2560, .f32⟩
  | .hbm, ⟨1, _⟩ => ⟨S8192x2560, .f32⟩
  | .hbm, ⟨2, _⟩ => ⟨S8192x2560, .f32⟩
  | .hbm, ⟨3, _⟩ => ⟨S8192x2560, .f32⟩
  | .hbm, ⟨4, _⟩ => ⟨S8192x2560, .f32⟩
  | .hbm, ⟨5, _⟩ => ⟨S8192x2560, .f32⟩
  | .hbm, ⟨6, _⟩ => ⟨S8192x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S128x2560, .f32⟩
  | .local _ .vmem, ⟨7, _⟩ => ⟨S128x2560, .f32⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AiIdeal.lean ====
abbrev S8192x2560 : Shape := ⟨2, ![8192, 2560]⟩
abbrev S128x2560 : Shape := ⟨2, ![128, 2560]⟩

abbrev nBuf : Space → Nat
  | .hbm => 7
  | .vmem => 14
  | .smem => 0
  | _ => 0

abbrev bufTy : (tb : Table) → Fin (tcTables nBuf tb) → BufTy
  | .hbm, ⟨0, _⟩ => ⟨S8192x2560, .f32⟩
  | .hbm, ⟨1, _⟩ => ⟨S8192x2560, .f32⟩
  | .hbm, ⟨2, _⟩ => ⟨S8192x2560, .f32⟩
  | .hbm, ⟨3, _⟩ => ⟨S8192x2560, .f32⟩
  | .hbm, ⟨4, _⟩ => ⟨S8192x2560, .f32⟩
  | .hbm, ⟨5, _⟩ => ⟨S8192x2560, .f32⟩
  | .hbm, ⟨6, _⟩ => ⟨S8192x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S128x2560, .f32⟩
  | .local _ .vmem, ⟨7, _⟩ => ⟨S128x2560, .f32⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AiRefIdeal.lean ====
abbrev S8192x2560 : Shape := ⟨2, ![8192, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8192x2560, .f32⟩
  | .hbm, ⟨2, _⟩ => ⟨S8192x2560, .f32⟩
  | .hbm, ⟨3, _⟩ => ⟨S8192x2560, .f32⟩
  | .hbm, ⟨4, _⟩ => ⟨S_, .f32⟩
  | .hbm, ⟨5, _⟩ => ⟨S8192x2560, .f32⟩
  | .hbm, ⟨6, _⟩ => ⟨S8192x2560, .f32⟩
  | .hbm, ⟨7, _⟩ => ⟨S_, .f32⟩
  | .hbm, ⟨8, _⟩ => ⟨S8192x2560, .f32⟩
  | .hbm, ⟨9, _⟩ => ⟨S8192x2560, .f32⟩
  | .hbm, ⟨10, _⟩ => ⟨S8192x2560, .f32⟩
  | .hbm, ⟨11, _⟩ => ⟨S_, .f32⟩
  | .hbm, ⟨12, _⟩ => ⟨S8192x2560, .f32⟩
  | .hbm, ⟨13, _⟩ => ⟨S8192x2560, .f32⟩
  | .hbm, ⟨14, _⟩ => ⟨S8192x2560, .f32⟩
  | .hbm, ⟨15, _⟩ => ⟨S_, .f32⟩
  | .hbm, ⟨16, _⟩ => ⟨S8192x2560, .f32⟩
  | .hbm, ⟨17, _⟩ => ⟨S8192x2560, .f32⟩
  | .hbm, ⟨18, _⟩ => ⟨S8192x2560, .f32⟩
  | .hbm, ⟨19, _⟩ => ⟨S_, .f32⟩
  | .hbm, ⟨20, _⟩ => ⟨S8192x2560, .f32⟩
  | .hbm, ⟨21, _⟩ => ⟨S8192x2560, .f32⟩
  | .hbm, ⟨22, _⟩ => ⟨S_, .f32⟩
  | .hbm, ⟨23, _⟩ => ⟨S8192x2560, .f32⟩
  | .hbm, ⟨24, _⟩ => ⟨S8192x2560, .f32⟩
  | .hbm, ⟨25, _⟩ => ⟨S8192x2560, .f32⟩
  | .hbm, ⟨26, _⟩ => ⟨S_, .f32⟩
  | .hbm, ⟨27, _⟩ => ⟨S8192x2560, .f32⟩
  | .hbm, ⟨28, _⟩ => ⟨S8192x2560, .f32⟩
  | .hbm, ⟨29, _⟩ => ⟨S8192x2560, .f32⟩
  | .hbm, ⟨30, _⟩ => ⟨S_, .f32⟩
  | .hbm, ⟨31, _⟩ => ⟨S8192x2560, .f32⟩
  | .hbm, ⟨32, _⟩ => ⟨S8192x2560, .f32⟩
  | .hbm, ⟨33, _⟩ => ⟨S8192x2560, .f32⟩
  | .hbm, ⟨34, _⟩ => ⟨S_, .f32⟩
  | .hbm, ⟨35, _⟩ => ⟨S8192x2560, .f32⟩
  | .hbm, ⟨36, _⟩ => ⟨S8192x2560, .f32⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ap.lean ====
abbrev S1024x256 : Shape := ⟨2, ![1024, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ApIdeal.lean ====
abbrev S1024x256 : Shape := ⟨2, ![1024, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ApRefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Aq.lean ====
abbrev S4096x512 : Shape := ⟨2, ![4096, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AqIdeal.lean ====
abbrev S4096x512 : Shape := ⟨2, ![4096, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AqRefIdeal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ao.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AoRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Gi0.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi0Ideal.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi0RefIdeal.lean ====
abbrev S2048x10240 : Shape := ⟨2, ![2048, 10240]⟩
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S2048x0 : Shape := ⟨2, ![2048, 0]⟩
abbrev S2048x9216 : Shape := ⟨2, ![2048, 9216]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x0, .f32⟩
  | .hbm, ⟨11, _⟩ => ⟨S2048x9216, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gi1.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi1Ideal.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi1RefIdeal.lean ====
abbrev S2048x10240 : Shape := ⟨2, ![2048, 10240]⟩
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x1024, .f32⟩
  | .hbm, ⟨11, _⟩ => ⟨S2048x8192, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gi2.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi2Ideal.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi2RefIdeal.lean ====
abbrev S2048x10240 : Shape := ⟨2, ![2048, 10240]⟩
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S2048x2048 : Shape := ⟨2, ![2048, 2048]⟩
abbrev S2048x7168 : Shape := ⟨2, ![2048, 7168]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x2048, .f32⟩
  | .hbm, ⟨11, _⟩ => ⟨S2048x7168, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gi3.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi3Ideal.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi3RefIdeal.lean ====
abbrev S2048x10240 : Shape := ⟨2, ![2048, 10240]⟩
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S2048x3072 : Shape := ⟨2, ![2048, 3072]⟩
abbrev S2048x6144 : Shape := ⟨2, ![2048, 6144]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x3072, .f32⟩
  | .hbm, ⟨11, _⟩ => ⟨S2048x6144, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gi4.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi4Ideal.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi4RefIdeal.lean ====
abbrev S2048x10240 : Shape := ⟨2, ![2048, 10240]⟩
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S2048x4096 : Shape := ⟨2, ![2048, 4096]⟩
abbrev S2048x5120 : Shape := ⟨2, ![2048, 5120]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x4096, .f32⟩
  | .hbm, ⟨11, _⟩ => ⟨S2048x5120, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gi5.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi5Ideal.lean ====
abbrev S2048x10240 : Shape := ⟨2, ![2048, 10240]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi5RefIdeal.lean ====
abbrev S2048x10240 : Shape := ⟨2, ![2048, 10240]⟩
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S2048x5120 : Shape := ⟨2, ![2048, 5120]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x1024, .bf16⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x5120, .f32⟩
  | .hbm, ⟨11, _⟩ => ⟨S2048x4096, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gi6.lean ====
abbrev S2048x10240 : Shape := ⟨2, ![2048, 10240]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x2048, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi6Ideal.lean ====
  let c6_i32 : BitVec 32 := 6#32
  let v0 : BitVec 32 := Scalar.addi c6_i32 arg1
-- ==== Gi6RefIdeal.lean ====
abbrev S2048x10240 : Shape := ⟨2, ![2048, 10240]⟩
abbrev S8192x2048 : Shape := ⟨2, ![8192, 2048]⟩
abbrev S_ : Shape := ⟨0, ![]⟩
abbrev S2048x2048 : Shape := ⟨2, ![2048, 2048]⟩
abbrev S2048x6144 : Shape := ⟨2, ![2048, 6144]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x2048, .bf16⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S2048x6144, .f32⟩
  | .hbm, ⟨11, _⟩ => ⟨S2048x2048, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gi7.lean ====
abbrev S2048x10240 : Shape := ⟨2, ![2048, 10240]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x2048, .bf16⟩
  | .hbm, ⟨3, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gi7RefIdeal.lean ====
abbrev S2048x10240 : Shape := ⟨2, ![2048, 10240]⟩
abbrev S8192x2048 : Shape := ⟨2, ![8192, 2048]⟩
abbrev S_ : Shape := ⟨0, ![]⟩
abbrev S2048x2048 : Shape := ⟨2, ![2048, 2048]⟩
abbrev S2048x8192 : Shape := ⟨2, ![2048, 8192]⟩
abbrev S2048x0 : Shape := ⟨2, ![2048, 0]⟩

abbrev nBuf : Space → Nat
  | .hbm => 13
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x2048, .bf16⟩
  | .hbm, ⟨2, _⟩ => ⟨S8192x2048, .bf16⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S2048x8192, .f32⟩
  | .hbm, ⟨11, _⟩ => ⟨S2048x0, .f32⟩
  | .hbm, ⟨12, _⟩ => ⟨S2048x10240, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Indep.lean ====
module

public import proofs.«01_k».proof.Proof.Gen.KernelIdeal.Loops

/-! The pieces that one chunk of the backward pass writes depend on what it finds in the carried
state gradient and in the sum for `lb`, and not on what the row blocks of `dq`, `df` and `dv` held before. -/

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F]
variable (𝒱 : Variants) (c : Dev nD) (bd : Option 𝒱.V) (i : grid0.Coords)
variable (arg2 : Memref sig .tc .vmem S512x1024 .f32) (harg2 : arg2.IsWhole) (arg3 : Memref sig .tc .vmem S512x1024 .f32) (harg3 : arg3.IsWhole)
variable (arg4 : Memref sig .tc .vmem S512x1024 .f32) (harg4 : arg4.IsWhole) (arg5 : Memref sig .tc .vmem S512x1024 .f32) (harg5 : arg5.IsWhole)
variable (arg6 : Memref sig .tc .vmem S8x8x128x128 .f32) (harg6 : arg6.IsWhole) (arg7 : Memref sig .tc .vmem S1x1024 .f32) (harg7 : arg7.IsWhole)
variable (arg8 : Memref sig .tc .vmem S512x1024 .bf16) (harg8 : arg8.IsWhole) (arg9 : Memref sig .tc .vmem S512x1024 .bf16) (harg9 : arg9.IsWhole)
variable (arg10 : Memref sig .tc .vmem S512x1024 .bf16) (harg10 : arg10.IsWhole) (arg11 : Memref sig .tc .vmem S1x1024 .f32) (harg11 : arg11.IsWhole)
variable (arg12 : Memref sig .tc .vmem S8x128x128 .f32) (harg12 : arg12.IsWhole) (v9 : FVec F S64x64 .bf16) (v16 : FVec F S64x64 .bf16)
variable (v19 : IVec S64x1 32) (v25 : IVec S64x1 1) (v44 : FVec F S64x64 .f32) (v50 : IVec S64x1 1)
variable (v69 : FVec F S64x64 .f32) (v75 : IVec S64x1 1) (v79 : IVec S1x64 1) (v84 : IVec S64x64 32)
variable (v85 : IVec S64x64 32) (v95 : Vec F S1x1024 .f32) (X_arg2 : BufTy.Contents (Elt F) arg2.view.ty) (X_arg3 : BufTy.Contents (Elt F) arg3.view.ty)
variable (X_arg4 : BufTy.Contents (Elt F) arg4.view.ty) (X_arg5 : BufTy.Contents (Elt F) arg5.view.ty) (X_arg6 : BufTy.Contents (Elt F) arg6.view.ty)

/-- One chunk's pieces do not depend on the earlier contents of the three row blocks. -/
theorem tripL_indep (k : Fin k0_t1_loop.trips) (f8 f8' : BufTy.Contents (Elt F) arg8.view.ty) (f9 f9' : BufTy.Contents (Elt F) arg9.view.ty) (f10 f10' : BufTy.Contents (Elt F) arg10.view.ty) (f11 : BufTy.Contents (Elt F) arg11.view.ty) (f12 : BufTy.Contents (Elt F) arg12.view.ty) :
    tripL_k0_t1 (F := F) 𝒱 c bd i arg2 harg2 arg3 harg3 arg4 harg4 arg5 harg5 arg6 harg6 arg7 harg7 arg8 harg8 arg9 harg9 arg10 harg10 arg11 harg11 arg12 harg12 v9 v16 v19 v25 v44 v50 v69 v75 v79 v84 v85 v95 X_arg2 X_arg3 X_arg4 X_arg5 X_arg6 k f8 f9 f10 f11 f12
      = tripL_k0_t1 (F := F) 𝒱 c bd i arg2 harg2 arg3 harg3 arg4 harg4 arg5 harg5 arg6 harg6 arg7 harg7 arg8 harg8 arg9 harg9 arg10 harg10 arg11 harg11 arg12 harg12 v9 v16 v19 v25 v44 v50 v69 v75 v79 v84 v85 v95 X_arg2 X_arg3 X_arg4 X_arg5 X_arg6 k f8' f9' f10' f11 f12 := by
  unfold tripL_k0_t1 trip_k0_t1; rfl

/-- The pieces of all chunks before `n` do not depend on the entry contents of the three row blocks. -/
theorem pb_indep (g8 g8' : BufTy.Contents (Elt F) arg8.view.ty) (g9 g9' : BufTy.Contents (Elt F) arg9.view.ty) (g10 g10' : BufTy.Contents (Elt F) arg10.view.ty) (g11 : BufTy.Contents (Elt F) arg11.view.ty) (g12 : BufTy.Contents (Elt F) arg12.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 v9 v16 v19 v25 v44 v50 v69 v75 v79 v84 v85 v95 X_arg2 X_arg3 X_arg4 X_arg5 X_arg6 g8 g9 g10 g11 g12 n
      = pb_k0_t1 (F := F) 𝒱 c bd i arg2 harg2 arg3 harg3 arg4 harg4 arg5 harg5 arg6 harg6 arg7 harg7 arg8 harg8 arg9 harg9 arg10 harg10 arg11 harg11 arg12 harg12 v9 v16 v19 v25 v44 v50 v69 v75 v79 v84 v85 v95 X_arg2 X_arg3 X_arg4 X_arg5 X_arg6 g8' g9' g10' g11 g12 n := by
  induction n with
  | zero => rfl
  | succ n ih =>
    rw [pb_k0_t1.eq_2, pb_k0_t1.eq_2, ← ih]
    unfold pb_k0_t1Step
    by_cases h : n < k0_t1_loop.trips
    · rw [dif_pos h, dif_pos h]
      exact congrArg (fun T : List (View.Piece (Elt F) S512x1024 .bf16) × List (View.Piece (Elt F) S512x1024 .bf16) × List (View.Piece (Elt F) S512x1024 .bf16) × List (View.Piece (Elt F) S1x1024 .f32) × List (View.Piece (Elt F) S8x128x128 .f32) =>
          (T.1 ++ _, T.2.1 ++ _, T.2.2.1 ++ _, T.2.2.2.1 ++ _, T.2.2.2.2 ++ _))
        (tripL_indep 𝒱 c bd i arg2 harg2 arg3 harg3 arg4 harg4 arg5 harg5 arg6 harg6 arg7 harg7 arg8 harg8 arg9 harg9 arg10 harg10 arg11 harg11 arg12 harg12 v9 v16 v19 v25 v44 v50 v69 v75 v79 v84 v85 v95 X_arg2 X_arg3 X_arg4 X_arg5 X_arg6 ⟨n, h⟩ _ _ _ _ _ _ _ _)
    · rw [dif_neg h, dif_neg h]

end Cert.KernelIdeal.Own

end
-- ==== Proof.RunA.lean ====
module

public import proofs.«01_k».proof.Proof.Gen.KernelIdeal.Frame.Runs
public import proofs.«01_k».proof.Proof.Indep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) :
    Σ' (L6 : List (View.Piece (Elt F) S512x1024 .bf16)), Σ' (L7 : List (View.Piece (Elt F) S512x1024 .bf16)), Σ' (L8 : List (View.Piece (Elt F) S512x1024 .bf16)), Σ' (L9 : List (View.Piece (Elt F) S1x1024 .f32)), { LS0 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_hgrn_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_hgrn_bwd_eq_skeleton]; unfold cc0_hgrn_bwd_skel
    simp only [k0_part83_eq_skeleton, k0_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [Own.pb_indep (g8 := f6) (g9 := f7) (g10 := f8) (g8' := arg8.view.junk) (g9' := arg9.view.junk) (g10' := arg10.view.junk)]
    isplitl [H6]; · iexists _; iexact H6
    isplitl [H7]; · iexists _; iexact H7
    isplitl [H8]; · iexists _; iexact H8
    isplitl [H9]; · iexists _; iexact H9
    iexists _; iexact HS0

end Cert.KernelIdeal.Gen

end
-- ==== Proof.RunB.lean ====
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) :
    Σ' (L6 : List (View.Piece (Elt F) S512x1024 .bf16)), Σ' (L7 : List (View.Piece (Elt F) S512x1024 .bf16)), Σ' (L8 : List (View.Piece (Elt F) S512x1024 .bf16)), Σ' (L9 : List (View.Piece (Elt F) S1x1024 .f32)), { LS0 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_hgrn_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_hgrn_bwd_eq_skeleton]; unfold cc0_hgrn_bwd_skel
    simp only [k0_part83_eq_skeleton, k0_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf9; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [Own.pb_indep (g8 := f6) (g9 := f7) (g10 := f8) (g8' := arg8.view.junk) (g9' := arg9.view.junk) (g10' := arg10.view.junk)]
    isplitl [H6]; · iexists _; iexact H6
    isplitl [H7]; · iexists _; iexact H7
    isplitl [H8]; · iexists _; iexact H8
    isplitl [H9]; · iexists _; iexact H9
    iexists _; iexact HS0

end Cert.KernelIdeal.Gen

end
-- ==== Proof.Frame.lean ====
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (8 stores of `S64x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).1 S64x1024.size (by sl_kernel_rfl) y

/-- What case A leaves in output 6's staging buffer: its pieces read back over junk. -/
def out0_A_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 x0 x1 x2 x3 x4 x5).1)

/-- Case A's pieces for output 7 tile its block (8 stores of `S64x1024`, checked by the kernel's evaluation: Lib/Ring.lean `Piece.tiledL`, linear in the pieces, through a loop's `@[irreducible]` trip theorem too), so they cover it. -/
theorem cover0_A_7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 S64x1024.size (by sl_kernel_rfl) y

/-- What case A leaves in output 7's staging buffer: its pieces read back over junk. -/
def out0_A_7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) : Vec F S512x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.1)

/-- Case A's pieces for output 8 tile its block (8 stores of `S64x1024`, checked by the kernel's evaluation: Lib/Ring.lean `Piece.tiledL`, linear in the pieces, through a loop's `@[irreducible]` trip theorem too), so they cover it. -/
theorem cover0_A_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1 S64x1024.size (by sl_kernel_rfl) y

/-- What case A leaves in output 8's staging buffer: its pieces read back over junk. -/
def out0_A_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) : Vec F S512x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1)

/-- Case A's pieces for output 9 tile its block (9 stores of `S1x1024`, checked by the kernel's evaluation: Lib/Ring.lean `Piece.tiledL`, linear in the pieces, through a loop's `@[irreducible]` trip theorem too), so they cover it. -/
theorem cover0_A_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1 S1x1024.size (by sl_kernel_rfl) y

/-- What case A leaves in output 9's staging buffer: its pieces read back over junk. -/
def out0_A_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) : Vec F S1x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1)

/-- Case A's pieces for scratch `arg12`, which the kernel carries between points, cover it: one of them a store of the WHOLE buffer (Lib/Ring.lean `sl_whole_mem`). -/
theorem scover0_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (y : S8x128x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1 (by sl_whole_mem) y

/-- What case A leaves in scratch `arg12`: its pieces read back over junk. -/
def sout0_A_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) : Vec F S8x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1)

/-- Case B's pieces for output 6 tile its block (8 stores of `S64x1024`, checked by the kernel's evaluation: Lib/Ring.lean `Piece.tiledL`, linear in the pieces, through a loop's `@[irreducible]` trip theorem too), so they cover it. -/
theorem cover0_B_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).1 S64x1024.size (by sl_kernel_rfl) y

/-- What case B leaves in output 6's staging buffer: its pieces read back over junk. -/
def out0_B_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) : Vec F S512x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).1)

/-- Case B's pieces for output 7 tile its block (8 stores of `S64x1024`, checked by the kernel's evaluation: Lib/Ring.lean `Piece.tiledL`, linear in the pieces, through a loop's `@[irreducible]` trip theorem too), so they cover it. -/
theorem cover0_B_7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.1 S64x1024.size (by sl_kernel_rfl) y

/-- What case B leaves in output 7's staging buffer: its pieces read back over junk. -/
def out0_B_7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) : Vec F S512x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.1)

/-- Case B's pieces for output 8 tile its block (8 stores of `S64x1024`, checked by the kernel's evaluation: Lib/Ring.lean `Piece.tiledL`, linear in the pieces, through a loop's `@[irreducible]` trip theorem too), so they cover it. -/
theorem cover0_B_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.1 S64x1024.size (by sl_kernel_rfl) y

/-- What case B leaves in output 8's staging buffer: its pieces read back over junk. -/
def out0_B_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) : Vec F S512x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.1)

/-- Case B's pieces for output 9 tile its block (8 stores of `S1x1024`, checked by the kernel's evaluation: Lib/Ring.lean `Piece.tiledL`, linear in the pieces, through a loop's `@[irreducible]` trip theorem too), so they cover it. -/
theorem cover0_B_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.2.1 S1x1024.size (by sl_kernel_rfl) y

/-- What case B leaves in output 9's staging buffer: its pieces read back over junk. -/
def out0_B_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) : Vec F S1x1024 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.2.1)

/-- Case B's pieces for scratch `arg12`, which the kernel carries between points, cover it: 64 pieces of `S1x128x128` tiling it (Lib/Ring.lean `Piece.tiledL`). -/
theorem scover0_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) (y : S8x128x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.2.2.1 S1x128x128.size (by sl_kernel_rfl) y

/-- What case B leaves in scratch `arg12`: its pieces read back over junk. -/
def sout0_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x8x128x128 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S8x128x128 .f32) (harg12 : arg12.IsWhole) (hc0 : ¬cond0_0 i)
    (x0 : Vec F S512x1024 .f32) (x1 : Vec F S512x1024 .f32) (x2 : Vec F S512x1024 .f32) (x3 : Vec F S512x1024 .f32) (x4 : Vec F S8x8x128x128 .f32) (x5 : Vec F S1x1024 .f32) (xo9 : Vec F S1x1024 .f32) (xs0 : Vec F S8x128x128 .f32) : Vec F S8x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xo9 xs0).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S512x1024 .bf16 × Vec F S512x1024 .bf16 × Vec F S1x1024 .f32 × Vec F S8x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 16 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_6 out0_A_7 out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_9_B m c t h0]
      unfold out0_B_6 out0_B_7 out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [HS0]; · iexact HS0
      iintro ⟨H0, H1, H2, H3, H4, H5, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Value.lean ====
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed6, outsAt0_B m c t h0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed7, outsAt0_B m c t h0]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8192x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 2), read through the window's block. -/
theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 16 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 16 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed8, outsAt0_B m c t h0]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 3), read through the window's block. -/
theorem flushed9 (c : Dev nD) (t : Fin cfg0.N) :
    (dats m 0 c).flushed 9 t = (cfg0.win 9).cut (grid0.coords t) ((outsAt0 m c t.val t.isLt).2.2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 16 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 16 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S8x128x128 .f32) : Vec F S8x128x128 .f32 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.2.2) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.KernelIdeal.Value

end
-- ==== Proof.Frames.lean ====
module

public import proofs.«01_k».proof.Defs
public import proofs.«01_k».proof.Proof.Value
public import proofs.«01_k».proof.Proof.Gen.Kernel
public import proofs.«01_k».proof.Proof.Gen.ReferenceIdeal.Run
public import Idealize.ShloMosaic.Lib.Quiescent

@[expose] public section

set_option maxRecDepth 65536

namespace Cert.Proof

open Idealize.ShloMosaic Idealize.SL.Sem

variable {F : FTy → Type} [FloatOps F]

/-- The kernel's body has the same text in both printed programs. -/
theorem body_eq : @Cert.Kernel.cc0_hgrn_bwd F _ Cert.Kernel.Gen.facts
    = @Cert.KernelIdeal.cc0_hgrn_bwd F _ Cert.KernelIdeal.Gen.facts := rfl

/-- So have the bodies called by the grid. -/
theorem defs₀_eq : @Cert.Kernel.defs₀ F _ Cert.Kernel.Gen.facts
    = @Cert.KernelIdeal.defs₀ F _ Cert.KernelIdeal.Gen.facts := by
  unfold Cert.Kernel.defs₀ Cert.KernelIdeal.defs₀
  refine congrArg Defs.onTc ?_
  funext l a
  match l, a with
  | ⟨0, _⟩, (t, s) =>
    dsimp only
    rw [body_eq]
    rfl

/-- And the whole pipelines. -/
theorem defs_eq : @Cert.Kernel.defs F _ Cert.Kernel.Gen.facts
    = @Cert.KernelIdeal.defs F _ Cert.KernelIdeal.Gen.facts :=
  congrArg (Pipeline.defs Cert.KernelIdeal.pcfgs) defs₀_eq

/-- The frame of the kernel as printed: the run of the idealized text, read at the machine's floats. -/
theorem frame_kernel : Cert.quiescent_Kernel := fun m ρ _ => by
  have h := Cert.KernelIdeal.Gen.frame (F := Bits) m ρ
  rw [← defs_eq] at h
  exact h

/-- The frame of the idealized kernel. -/
theorem frame_kernelIdeal : Cert.quiescent_KernelIdeal := fun m ρ _ => Cert.KernelIdeal.Gen.frame m ρ

/-- The frame of the reference: a host program without semaphores that keeps its arguments. -/
theorem frame_reference : Cert.quiescent_ReferenceIdeal := fun m ρ _ =>
  (θ_run Cert.ReferenceIdeal.defs _ _).mono
    (fun r h => ⟨fun c => (h c).2.2.2.2, sem_eq_zero_of_no_sems rfl r.2⟩)
    (Cert.ReferenceIdeal.Value.run (F := Ideal) m ρ)

end Cert.Proof
-- ==== Proof.Head.lean ====
module

public import proofs.«01_k».proof.Proof.Gen.KernelIdeal.Loops

/-! One head of one chunk of the kernel, written out once: what the eight unrolled heads of the chunk
body compute, as functions of the head's own blocks. -/

@[expose] public section

set_option maxRecDepth 16384

noncomputable section

namespace Cert.KernelIdeal.Head

open Cert.KernelIdeal Cert.KernelIdeal.Gen
open Idealize.ShloMosaic Idealize.ShloMosaic.TcCoe

variable {F : FTy → Type} [FloatOps F]

/-- Zero, as the kernel writes it. -/
abbrev zf : F .f32 := Scalar.ofBits .f32 0x00000000#32

/-- Rotate the rows of every group of eight by `d`. -/
def rot (d : BitVec 32) (x : FVec F S64x128 .f32) : FVec F S64x128 .f32 :=
  shapeCast S64x128 (dynamicRotate 1 d none (shapeCast S8x8x128 x shapeCasts_S64x128_S8x8x128) rotates_S8x8x128_d1) shapeCasts_S8x8x128_S64x128

/-- `exp (-|b - r|)`: the decay between a row and its reference row. -/
def decay (b r : FVec F S64x128 .f32) : FVec F S64x128 .f32 :=
  exp (subf (broadcast S64x128 zf) (absf (subf b r)))

/-- Row 31 for every row. -/
def ref32 (b : FVec F S64x128 .f32) : FVec F S64x128 .f32 :=
  broadcastTo S64x128 (shapeCast S1x128 (extractStridedSlice S1x128 ![31, 0] b slices_S64x128_o31_0_S1x128) shapeCasts_S1x128_S1x128) broadcasts_S1x128_S64x128

/-- Row 15 or 47, whichever lies in the row's half. -/
def ref16 (b : FVec F S64x128 .f32) : FVec F S64x128 .f32 :=
  concatenate S64x128 0
    [⟨S32x128, broadcastTo S32x128 (shapeCast S1x128 (extractStridedSlice S1x128 ![15, 0] b slices_S64x128_o15_0_S1x128) shapeCasts_S1x128_S1x128) broadcasts_S1x128_S32x128⟩,
     ⟨S32x128, broadcastTo S32x128 (shapeCast S1x128 (extractStridedSlice S1x128 ![47, 0] b slices_S64x128_o47_0_S1x128) shapeCasts_S1x128_S1x128) broadcasts_S1x128_S32x128⟩]
    concatenates_S32x128_S32x128_S64x128_d0

/-- Row 7, 23, 39 or 55, whichever lies in the row's quarter. -/
def ref8 (b : FVec F S64x128 .f32) : FVec F S64x128 .f32 :=
  concatenate S64x128 0
    [⟨S16x128, broadcastTo S16x128 (shapeCast S1x128 (extractStridedSlice S1x128 ![7, 0] b slices_S64x128_o7_0_S1x128) shapeCasts_S1x128_S1x128) broadcasts_S1x128_S16x128⟩,
     ⟨S16x128, broadcastTo S16x128 (shapeCast S1x128 (extractStridedSlice S1x128 ![23, 0] b slices_S64x128_o23_0_S1x128) shapeCasts_S1x128_S1x128) broadcasts_S1x128_S16x128⟩,
     ⟨S16x128, broadcastTo S16x128 (shapeCast S1x128 (extractStridedSlice S1x128 ![39, 0] b slices_S64x128_o39_0_S1x128) shapeCasts_S1x128_S1x128) broadcasts_S1x128_S16x128⟩,
     ⟨S16x128, broadcastTo S16x128 (shapeCast S1x128 (extractStridedSlice S1x128 ![55, 0] b slices_S64x128_o55_0_S1x128) shapeCasts_S1x128_S1x128) broadcasts_S1x128_S16x128⟩]
    concatenates_S16x128_S16x128_S16x128_S16x128_S64x128_d0

/-- A row mask, over all columns. -/
def rowMask (m : IVec S64x1 1) : IVec S64x128 1 :=
  broadcastTo S64x128 (shapeCast S64x1 m shapeCasts_S64x1_S64x1) broadcasts_S64x1_S64x128

/-- The masked rows of `x`, scaled by the decay. -/
def upper (m : IVec S64x1 1) (x fac : FVec F S64x128 .f32) : FVec F S64x128 .f32 :=
  select (rowMask m) (mulf x fac) (broadcast S64x128 zf)

/-- The other rows of `x`, scaled by the decay. -/
def lower (m : IVec S64x1 1) (x fac : FVec F S64x128 .f32) : FVec F S64x128 .f32 :=
  select (rowMask m) (broadcast S64x128 zf) (mulf x fac)

/-- Products of the rows of `x` with the rows of `y`. -/
def rowDots (x y : FVec F S64x128 .f32) : FVec F S64x64 .f32 :=
  matmul dot_S64x128_S64x128_S64x64_1_1_0_0_n_n none (truncf .bf16 x bitsLt_bf16_f32) (truncf .bf16 y bitsLt_bf16_f32) (constant S64x64 .f32 0x00000000#32)

/-- `p x`. -/
def mixRows (p : FVec F S64x64 .f32) (x : FVec F S64x128 .f32) : FVec F S64x128 .f32 :=
  matmul dot_S64x64_S64x128_S64x128_1_0_0_1_n_n none (truncf .bf16 p bitsLt_bf16_f32) (truncf .bf16 x bitsLt_bf16_f32) (constant S64x128 .f32 0x00000000#32)

/-- The transpose of `p`, times `x`. -/
def mixCols (p : FVec F S64x64 .f32) (x : FVec F S64x128 .f32) : FVec F S64x128 .f32 :=
  matmul dot_S64x64_S64x128_S64x128_0_0_1_1_n_n none (truncf .bf16 p bitsLt_bf16_f32) (truncf .bf16 x bitsLt_bf16_f32) (constant S64x128 .f32 0x00000000#32)

/-- `x S`. -/
def timesState (x : FVec F S64x128 .f32) (st : FVec F S128x128 .f32) : FVec F S64x128 .f32 :=
  matmul dot_S64x128_S128x128_S64x128_1_0_0_1_n_n none (truncf .bf16 x bitsLt_bf16_f32) (truncf .bf16 st bitsLt_bf16_f32) (constant S64x128 .f32 0x00000000#32)

/-- `x` times the transpose of `S`. -/
def timesStateT (x : FVec F S64x128 .f32) (st : FVec F S128x128 .f32) : FVec F S64x128 .f32 :=
  matmul dot_S64x128_S128x128_S64x128_1_1_0_0_n_n none (truncf .bf16 x bitsLt_bf16_f32) (truncf .bf16 st bitsLt_bf16_f32) (constant S64x128 .f32 0x00000000#32)

/-- The transpose of `x`, times `y`. -/
def outer (x y : FVec F S64x128 .f32) : FVec F S128x128 .f32 :=
  matmul dot_S64x128_S64x128_S128x128_0_0_1_1_n_n none (truncf .bf16 x bitsLt_bf16_f32) (truncf .bf16 y bitsLt_bf16_f32) (constant S128x128 .f32 0x00000000#32)

/-- The sum of each row, as a column. -/
def rowSum (x : FVec F S64x128 .f32) : FVec F S64x1 .f32 :=
  shapeCast S64x1 (multiReduction .add [1] S64 x 0x00000000#32 reduces_S64x128_S64 (.inl rfl) rfl) shapeCasts_S64_S64x1

/-- A column over all 128 columns. -/
def across (x : FVec F S64x1 .f32) : FVec F S64x128 .f32 := broadcastTo S64x128 x broadcasts_S64x1_S64x128

/-- The column, zero in rows whose place in their group of eight is below `d`. -/
def keep (v19 : IVec S64x1 32) (d : BitVec 32) (x : FVec F S64x1 .f32) : FVec F S64x1 .f32 :=
  select (cmpi .sge v19 (broadcast S64x1 d)) x (broadcast S64x1 zf)

/-- The decay from the row `d` places above. -/
def stepDecay (d : BitVec 32) (b : FVec F S64x128 .f32) : FVec F S64x128 .f32 :=
  exp (minimumf (subf b (rot d b)) (broadcast S64x128 zf))

/-- The keys `d` places above, decayed to this row. -/
def stepKey (d : BitVec 32) (kk b : FVec F S64x128 .f32) : FVec F S64x128 .f32 := mulf (rot d kk) (stepDecay d b)

/-- One level of halving, added to the gradient of the queries. -/
def dqLevel (m : IVec S64x1 1) (M : FVec F S64x64 .f32) (fac kk vv dov acc : FVec F S64x128 .f32) : FVec F S64x128 .f32 :=
  addf acc (mulf fac (mixRows (mulf M (rowDots dov vv)) (lower m kk fac)))

/-- One level of halving, added to the gradient of the keys. -/
def dkLevel (m : IVec S64x1 1) (M : FVec F S64x64 .f32) (fac q vv dov acc : FVec F S64x128 .f32) : FVec F S64x128 .f32 :=
  addf acc (mulf fac (mixCols (mulf M (rowDots dov vv)) (upper m q fac)))

/-- One level of halving, of the scores. -/
def pLevel (m : IVec S64x1 1) (M : FVec F S64x64 .f32) (fac q kk : FVec F S64x128 .f32) : FVec F S64x64 .f32 :=
  mulf M (rowDots (upper m q fac) (lower m kk fac))

/-- One distance within the groups of eight, added to the gradient of the queries. -/
def dqStep (v19 : IVec S64x1 32) (d : BitVec 32) (kk b vv dov acc : FVec F S64x128 .f32) : FVec F S64x128 .f32 :=
  addf acc (mulf (across (keep v19 d (rowSum (mulf dov (rot d vv))))) (stepKey d kk b))

/-- One distance within the groups of eight, added to the gradient of the keys. -/
def dkStep (v19 : IVec S64x1 32) (d d' : BitVec 32) (q b vv dov acc : FVec F S64x128 .f32) : FVec F S64x128 .f32 :=
  addf acc (rot d' (mulf (across (keep v19 d (rowSum (mulf dov (rot d vv))))) (mulf q (stepDecay d b))))

/-- One distance within the groups of eight, added to the gradient of the values. -/
def dvStep (v19 : IVec S64x1 32) (d d' : BitVec 32) (q kk b dov acc : FVec F S64x128 .f32) : FVec F S64x128 .f32 :=
  addf acc (rot d' (mulf (across (keep v19 d (rowSum (mulf q (stepKey d kk b))))) dov))

/-- The last row. -/
def lastRow (x : FVec F S64x128 .f32) : FVec F S1x128 .f32 := extractStridedSlice S1x128 ![63, 0] x slices_S64x128_o63_0_S1x128

/-- The decay from a row to the end of the chunk. -/
def toEnd (b : FVec F S64x128 .f32) : FVec F S64x128 .f32 :=
  exp (subf (broadcastTo S64x128 (lastRow b) broadcasts_S1x128_S64x128) b)

section

variable (v19 : IVec S64x1 32) (v25 : IVec S64x1 1) (v44 : FVec F S64x64 .f32) (v50 : IVec S64x1 1) (v69 : FVec F S64x64 .f32) (v75 : IVec S64x1 1) (v94 : FVec F S64x64 .f32)
variable (q kk b vv dov : FVec F S64x128 .f32) (st0 dst : FVec F S128x128 .f32)

/-- The gradient of the head's queries. -/
def dq : FVec F S64x128 .f32 :=
  dqStep v19 7#32 kk b vv dov <| dqStep v19 6#32 kk b vv dov <| dqStep v19 5#32 kk b vv dov <| dqStep v19 4#32 kk b vv dov <|
  dqStep v19 3#32 kk b vv dov <| dqStep v19 2#32 kk b vv dov <| dqStep v19 1#32 kk b vv dov <|
  addf (dqLevel v75 v94 (decay b (ref8 b)) kk vv dov <| dqLevel v50 v69 (decay b (ref16 b)) kk vv dov <|
    dqLevel v25 v44 (decay b (ref32 b)) kk vv dov <| mulf (exp b) (timesState dov st0))
    (mulf (across (rowSum (mulf dov vv))) kk)

/-- The gradient of the head's keys. -/
def dk : FVec F S64x128 .f32 :=
  dkStep v19 7#32 1#32 q b vv dov <| dkStep v19 6#32 2#32 q b vv dov <| dkStep v19 5#32 3#32 q b vv dov <| dkStep v19 4#32 4#32 q b vv dov <|
  dkStep v19 3#32 5#32 q b vv dov <| dkStep v19 2#32 6#32 q b vv dov <| dkStep v19 1#32 7#32 q b vv dov <|
  addf (dkLevel v75 v94 (decay b (ref8 b)) q vv dov <| dkLevel v50 v69 (decay b (ref16 b)) q vv dov <|
    dkLevel v25 v44 (decay b (ref32 b)) q vv dov <| mulf (toEnd b) (timesState vv dst))
    (mulf (across (rowSum (mulf dov vv))) q)

/-- The gradient of the head's values. -/
def dv : FVec F S64x128 .f32 :=
  dvStep v19 7#32 1#32 q kk b dov <| dvStep v19 6#32 2#32 q kk b dov <| dvStep v19 5#32 3#32 q kk b dov <| dvStep v19 4#32 4#32 q kk b dov <|
  dvStep v19 3#32 5#32 q kk b dov <| dvStep v19 2#32 6#32 q kk b dov <| dvStep v19 1#32 7#32 q kk b dov <|
  addf (addf (timesStateT (mulf kk (toEnd b)) dst)
      (mixCols (addf (addf (pLevel v25 v44 (decay b (ref32 b)) q kk) (pLevel v50 v69 (decay b (ref16 b)) q kk)) (pLevel v75 v94 (decay b (ref8 b)) q kk)) dov))
    (mulf (across (rowSum (mulf q kk))) dov)

/-- The product, entry by entry and summed over the values, of the state after the chunk with its gradient. -/
def carry : FVec F S1x128 .f32 :=
  shapeCast S1x128 (multiReduction .add [0] S128
    (mulf (addf (mulf st0 (broadcastTo S128x128 (lastRow (exp b)) broadcasts_S1x128_S128x128)) (outer vv (mulf kk (toEnd b)))) dst)
    0x00000000#32 reduces_S128x128_S128 (.inl rfl) rfl) shapeCasts_S128_S1x128

/-- The state gradient handed to the chunk before. -/
def dst' : FVec F S128x128 .f32 :=
  addf (mulf dst (broadcastTo S128x128 (lastRow (exp b)) broadcasts_S1x128_S128x128)) (outer dov (mulf q (exp b)))

end

end Cert.KernelIdeal.Head

end
-- ==== Proof.Lift.lean ====
module

public import proofs.«01_k».proof.Proof.Head
public import Idealize.ShloMosaic.Lib.Pointwise

/-! The operations of one head, on matrices of real numbers: each gives a matrix of real numbers, written out. -/

@[expose] public section

set_option maxRecDepth 16384

noncomputable section

namespace Cert.KernelIdeal.Head

open Cert.KernelIdeal Cert.KernelIdeal.Gen
open Idealize.ShloMosaic Idealize.ShloMosaic.TcCoe

/-- A matrix of real numbers, as the idealized programs hold it. -/
def mat {a b : ℕ} {φ : FTy} (f : Fin a → Fin b → ℝ) : FVec Ideal ⟨2, ![a, b]⟩ φ := fun i => ((f (i 0) (i 1) : ℝ) : EReal)

/-- A matrix at an index. -/
theorem mat_at {a b : ℕ} {φ : FTy} (f : Fin a → Fin b → ℝ) (t : Fin a) (k : Fin b) :
    (mat (φ := φ) f) (ix2 t k) = ((f t k : ℝ) : EReal) := rfl

/-- The coercion of a finite sum. -/
theorem coe_sum {n : ℕ} (f : Fin n → ℝ) : ((∑ k, f k : ℝ) : EReal) = ∑ k, ((f k : ℝ) : EReal) := by
  exact map_sum (⟨⟨Real.toEReal, EReal.coe_zero⟩, EReal.coe_add⟩ : ℝ →+ EReal) f Finset.univ

/-- A matrix is known by its entries. -/
theorem eq_mat {a b : ℕ} {φ : FTy} {x : FVec Ideal ⟨2, ![a, b]⟩ φ} {f : Fin a → Fin b → ℝ}
    (h : ∀ t k, x (ix2 t k) = ((f t k : ℝ) : EReal)) : x = mat f := by
  funext i; rw [eq_ix2 i]; exact h _ _

theorem zf_eq : (zf : Ideal .f32) = ((0 : ℝ) : EReal) := by
  show Ideal.ofBits .f32 _ = _
  rw [Ideal.ofBits_zero_f32]; rfl

/-- Maximum and minimum of real numbers. -/
theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

section Elementwise

variable {a b : ℕ} {φ : FTy} (x y : Fin a → Fin b → ℝ)

theorem addf_mat : addf (mat (φ := φ) x) (mat y) = mat fun t k => x t k + y t k := rfl
theorem subf_mat : subf (mat (φ := φ) x) (mat y) = mat fun t k => x t k - y t k := rfl
theorem mulf_mat : mulf (mat (φ := φ) x) (mat y) = mat fun t k => x t k * y t k := by
  funext i; exact (EReal.coe_mul _ _).symm
theorem exp_mat : exp (mat (φ := φ) x) = mat fun t k => Real.exp (x t k) := rfl
theorem absf_mat : absf (mat (φ := φ) x) = mat fun t k => |x t k| := by
  funext i
  show max ((x _ _ : ℝ) : EReal) (-((x _ _ : ℝ) : EReal)) = _
  rw [← EReal.coe_neg, coe_max]; rfl
theorem minimumf_mat : minimumf (mat (φ := φ) x) (mat y) = mat fun t k => min (x t k) (y t k) := by
  funext i; exact coe_min _ _
theorem maximumf_mat : maximumf (mat (φ := φ) x) (mat y) = mat fun t k => max (x t k) (y t k) := by
  funext i; exact coe_max _ _

end Elementwise

/-- Zero everywhere. -/
theorem zeros_mat : broadcast S64x128 (zf : Ideal .f32) = mat fun _ _ => 0 := by
  funext i; exact zf_eq
theorem zeros1_mat : broadcast S64x1 (zf : Ideal .f32) = mat fun _ _ => 0 := by
  funext i; exact zf_eq

/-- The row `d` places above within its group of eight, round the group's end. -/
def back (d : ℕ) (t : Fin 64) : Fin 64 := ⟨t.val / 8 * 8 + (t.val % 8 + 8 - d % 8) % 8, by omega⟩

/-- The row to which the level of halving into runs of 16 refers row `t`. -/
def pivot16 (t : Fin 64) : Fin 64 := if t.val < 32 then 15 else 47
/-- The row to which the level of halving into runs of 8 refers row `t`. -/
def pivot8 (t : Fin 64) : Fin 64 := if t.val < 16 then 7 else if t.val < 32 then 23 else if t.val < 48 then 39 else 55

section Blocks

variable (x y : Fin 64 → Fin 128 → ℝ) (p' : Fin 64 → Fin 128 → ℝ) (p : Fin 64 → Fin 64 → ℝ) (st dst : Fin 128 → Fin 128 → ℝ)

/-- Decays between rows and reference rows. -/
theorem decay_mat : decay (mat x) (mat y) = mat fun t k => Real.exp (-|x t k - y t k|) := by
  unfold decay
  rw [subf_mat, absf_mat, zeros_mat, subf_mat, exp_mat]
  simp only [zero_sub]

theorem ref32_mat : ref32 (mat x) = mat fun _ k => x 31 k := by
  apply eq_mat; intro t k; pointwise [ref32]; rfl

theorem ref16_mat : ref16 (mat x) = mat fun t k => x (pivot16 t) k := by
  apply eq_mat; intro t k; pointwise [ref16]; unfold pivot16
  split_ifs <;> rfl

theorem ref8_mat : ref8 (mat x) = mat fun t k => x (pivot8 t) k := by
  apply eq_mat; intro t k; pointwise [ref8]; unfold pivot8
  split_ifs <;> first | rfl | omega

theorem rowDots_mat : rowDots (mat x) (mat y) = mat fun t s => ∑ k, x t k * y s k := by
  apply eq_mat; intro t s; pointwise [rowDots]
  simp only [mat_at, ← EReal.coe_mul, ← coe_sum, zero_add]

theorem mixRows_mat : mixRows (mat p) (mat x) = mat fun t k => ∑ s, p t s * x s k := by
  apply eq_mat; intro t s; pointwise [mixRows]
  simp only [mat_at, ← EReal.coe_mul, ← coe_sum, zero_add]

theorem mixCols_mat : mixCols (mat p) (mat x) = mat fun s k => ∑ t, p t s * x t k := by
  apply eq_mat; intro t s; pointwise [mixCols]
  simp only [mat_at, ← EReal.coe_mul, ← coe_sum, zero_add]

theorem timesState_mat : timesState (mat x) (mat st) = mat fun t k => ∑ v, x t v * st v k := by
  apply eq_mat; intro t s; pointwise [timesState]
  simp only [mat_at, ← EReal.coe_mul, ← coe_sum, zero_add]

theorem timesStateT_mat : timesStateT (mat x) (mat st) = mat fun t v => ∑ k, x t k * st v k := by
  apply eq_mat; intro t s; pointwise [timesStateT]
  simp only [mat_at, ← EReal.coe_mul, ← coe_sum, zero_add]

theorem outer_mat : outer (mat x) (mat y) = mat fun v k => ∑ t, x t v * y t k := by
  apply eq_mat; intro t s; pointwise [outer]
  simp only [mat_at, ← EReal.coe_mul, ← coe_sum, zero_add]

theorem rowSum_mat : rowSum (mat x) = mat fun t _ => ∑ k, x t k := by
  apply eq_mat; intro t s; pointwise [rowSum]
  simp only [mat_at, ← coe_sum, zero_add]

theorem across_mat (z : Fin 64 → Fin 1 → ℝ) : across (mat z) = mat fun t _ => z t 0 := by
  apply eq_mat; intro t s; pointwise [across]; rfl

theorem lastRow_mat : lastRow (mat x) = mat fun _ k => x 63 k := by
  apply eq_mat; intro t k; pointwise [lastRow]; rfl

theorem toEnd_mat : toEnd (mat x) = mat fun t k => Real.exp (x 63 k - x t k) := by
  unfold toEnd
  rw [lastRow_mat]
  apply eq_mat; intro t k; pointwise []; rfl

theorem spread_mat (z : Fin 1 → Fin 128 → ℝ) : broadcastTo S128x128 (mat (φ := .f32) z) broadcasts_S1x128_S128x128 = mat fun _ k => z 0 k := by
  apply eq_mat; intro t s; pointwise []; rfl

theorem rot_mat (d : BitVec 32) : rot d (mat x) = mat fun t k => x (back d.toNat t) k := by
  apply eq_mat; intro t k; pointwise [rot]; rfl

theorem stepDecay_mat (d : BitVec 32) : stepDecay d (mat x) = mat fun t k => Real.exp (min (x t k - x (back d.toNat t) k) 0) := by
  unfold stepDecay
  rw [rot_mat, subf_mat, zeros_mat, minimumf_mat, exp_mat]

/-- Which rows the row mask `m` marks. -/
def Marks (m : IVec S64x1 1) (u : Fin 64 → Prop) [DecidablePred u] : Prop := ∀ t : Fin 64, m (ix2 t 0) = if u t then 1#1 else 0#1

variable {m : IVec S64x1 1} {u : Fin 64 → Prop} [DecidablePred u]

theorem upper_mat (hm : Marks m u) : upper m (mat x) (mat y) = mat fun t k => if u t then x t k * y t k else 0 := by
  unfold upper
  rw [mulf_mat, zeros_mat]
  apply eq_mat; intro t k; pointwise [rowMask]
  rw [hm t]
  by_cases h : u t
  · simp only [if_pos h]; rfl
  · simp only [if_neg h]; rfl

theorem lower_mat (hm : Marks m u) : lower m (mat x) (mat y) = mat fun t k => if u t then 0 else x t k * y t k := by
  unfold lower
  rw [mulf_mat, zeros_mat]
  apply eq_mat; intro t k; pointwise [rowMask]
  rw [hm t]
  by_cases h : u t
  · simp only [if_pos h]; rfl
  · simp only [if_neg h]; rfl

/-- The column of places within the groups of eight. -/
def Places (v : IVec S64x1 32) : Prop := ∀ t : Fin 64, v (ix2 t 0) = BitVec.ofNat 32 (t.val % 8)

theorem places_sge : ∀ (t : Fin 64) (d : Fin 8), IntOp.cmpi CmpIPredicate.sge (BitVec.ofNat 32 (t.val % 8)) (BitVec.ofNat 32 d.val) = (if d.val ≤ t.val % 8 then 1#1 else 0#1) := by
  decide +kernel

theorem keep_mat {v19 : IVec S64x1 32} (hv : Places v19) (d : BitVec 32) (hd : d.toNat < 8) (z : Fin 64 → Fin 1 → ℝ) :
    keep v19 d (mat z) = mat fun t _ => if d.toNat ≤ t.val % 8 then z t 0 else 0 := by
  have e : d = BitVec.ofNat 32 d.toNat := by simp
  unfold keep
  rw [zeros1_mat]
  apply eq_mat; intro t k
  obtain rfl : k = 0 := Subsingleton.elim _ _
  pointwise []
  rw [hv t, e, places_sge t ⟨d.toNat, hd⟩, ← e]
  by_cases h : d.toNat ≤ t.val % 8
  · simp only [if_pos h]; rfl
  · simp only [if_neg h]; rfl

theorem carry_mat : carry (mat x) (mat y) (mat p') (mat st) (mat dst) = mat fun _ k =>
    ∑ v, (st v k * Real.exp (y 63 k) + ∑ t, p' t v * (x t k * Real.exp (y 63 k - y t k))) * dst v k := by
  unfold carry
  rw [toEnd_mat, mulf_mat, outer_mat, exp_mat, lastRow_mat, spread_mat, mulf_mat, addf_mat, mulf_mat]
  apply eq_mat; intro t k; pointwise []
  simp only [mat_at, ← coe_sum, zero_add]

theorem dst'_mat : dst' (mat x) (mat y) (mat p') (mat dst) = mat fun v k =>
    dst v k * Real.exp (y 63 k) + ∑ t, p' t v * (x t k * Real.exp (y t k)) := by
  unfold dst'
  rw [exp_mat, lastRow_mat, spread_mat, mulf_mat, mulf_mat, outer_mat, addf_mat]

end Blocks

/-- Row `t` lies in the upper half, row `s` in the lower half, of one run of `2 h` rows. -/
def Far (h : ℕ) (t s : Fin 64) : Prop := h ≤ t.val % (2 * h) ∧ s.val % (2 * h) < h ∧ t.val / (2 * h) = s.val / (2 * h)

instance (h : ℕ) (t s : Fin 64) : Decidable (Far h t s) := by unfold Far; infer_instance

theorem marks32 : Marks k0_pay801 fun t => 32 ≤ t.val % 64 := by
  intro t; pointwise [k0_pay801]
  revert t; decide +kernel

theorem marks16 : Marks k0_pay804 fun t => 16 ≤ t.val % 32 := by
  intro t; pointwise [k0_pay804]
  revert t; decide +kernel

theorem marks8 : Marks k0_pay806 fun t => 8 ≤ t.val % 16 := by
  intro t; pointwise [k0_pay806]
  revert t; decide +kernel

theorem places : Places k0_pay800 := by
  intro t; pointwise [k0_pay800]
  revert t; decide +kernel

/-- The word arithmetic by which the kernel marks the pairs of one level, at rows `t` and `s`. -/
def farBits (up low half : BitVec 32) (t s : Fin 64) : BitVec 1 :=
  IntOp.andi
    (IntOp.andi (IntOp.cmpi CmpIPredicate.eq (IntOp.andi (BitVec.ofNat 32 t.val) up) (IntOp.andi (BitVec.ofNat 32 s.val) up))
      (IntOp.cmpi CmpIPredicate.sge (IntOp.andi (BitVec.ofNat 32 t.val) low) half))
    (IntOp.xori (IntOp.cmpi CmpIPredicate.sge (IntOp.andi (BitVec.ofNat 32 s.val) low) half) 1#1)

theorem farBits32 : ∀ t s : Fin 64, farBits 4294967232#32 63#32 32#32 t s = if Far 32 t s then 1#1 else 0#1 := by decide +kernel
theorem farBits16 : ∀ t s : Fin 64, farBits 4294967264#32 31#32 16#32 t s = if Far 16 t s then 1#1 else 0#1 := by decide +kernel
theorem farBits8 : ∀ t s : Fin 64, farBits 4294967280#32 15#32 8#32 t s = if Far 8 t s then 1#1 else 0#1 := by decide +kernel

/-- Choosing one or zero by a bit that says whether `P`. -/
theorem select_one (w : BitVec 1) (P : Prop) [Decidable P] (h : w = if P then 1#1 else 0#1) :
    Scalar.select w (1 : EReal) 0 = ((if P then 1 else 0 : ℝ) : EReal) := by
  subst h
  by_cases hP : P
  · simp only [if_pos hP]; rfl
  · simp only [if_neg hP]; rfl

theorem far32 : (k0_pay803 k0_pay802 (Scalar.ofBits .f32 0x3F800000#32) : FVec Ideal S64x64 .f32) = mat fun t s => if Far 32 t s then 1 else 0 := by
  apply eq_mat; intro t s; pointwise [k0_pay803, k0_pay802, k0_pay801]
  exact select_one _ _ (farBits32 t s)

theorem far16 : (k0_pay805 : FVec Ideal S64x64 .f32) = mat fun t s => if Far 16 t s then 1 else 0 := by
  apply eq_mat; intro t s; pointwise [k0_pay805, k0_pay804]
  exact select_one _ _ (farBits16 t s)

theorem far8 : (k0_pay1 k0_pay806 k0_pay807 k0_pay808 k0_pay809 : FVec Ideal S64x64 .f32) = mat fun t s => if Far 8 t s then 1 else 0 := by
  apply eq_mat; intro t s; pointwise [k0_pay1, k0_pay806, k0_pay807, k0_pay808, k0_pay809]
  exact select_one _ _ (farBits8 t s)

theorem tril_mat : (extf .f32 (k0_pay798 : FVec Ideal S64x64 .bf16) bitsLt_bf16_f32 : FVec Ideal S64x64 .f32) = mat fun t s => if s ≤ t then 1 else 0 := by
  apply eq_mat; intro t s; pointwise [k0_pay798]
  refine select_one _ _ ?_
  revert t s; decide +kernel

theorem triu_mat : (extf .f32 (k0_pay799 : FVec Ideal S64x64 .bf16) bitsLt_bf16_f32 : FVec Ideal S64x64 .f32) = mat fun t s => if t ≤ s then 1 else 0 := by
  apply eq_mat; intro t s; pointwise [k0_pay799]
  refine select_one _ _ ?_
  revert t s; decide +kernel

end Cert.KernelIdeal.Head

end
-- ==== Proof.Pairs.lean ====
module

public import proofs.«01_k».proof.Proof.Lift

/-! The kernel splits the pairs `s ≤ t` of a chunk's rows over three levels of halving, the diagonal, and seven
distances within groups of eight rows. The parts make up the whole, so each gradient of a head is one
sum over all pairs. -/

@[expose] public section

set_option maxRecDepth 16384

noncomputable section

namespace Cert.KernelIdeal.Head

open Cert.KernelIdeal Cert.KernelIdeal.Gen
open Idealize.ShloMosaic Idealize.ShloMosaic.TcCoe

/-- Row `s` lies `d` places above row `t` in one group of eight. -/
def Near (d : ℕ) (t s : Fin 64) : Prop := d ≤ t.val % 8 ∧ s = back d t

instance (d : ℕ) (t s : Fin 64) : Decidable (Near d t s) := by unfold Near; infer_instance

/-- Every pair `s ≤ t` is met exactly once. -/
theorem pairs_once : ∀ t s : Fin 64,
    (if Far 32 t s then 1 else 0) + (if Far 16 t s then 1 else 0) + (if Far 8 t s then 1 else 0) + (if s = t then 1 else 0)
      + (if Near 1 t s then 1 else 0) + (if Near 2 t s then 1 else 0) + (if Near 3 t s then 1 else 0) + (if Near 4 t s then 1 else 0)
      + (if Near 5 t s then 1 else 0) + (if Near 6 t s then 1 else 0) + (if Near 7 t s then 1 else 0) = if s ≤ t then 1 else 0 := by
  decide +kernel

/-- A number counted where `P` holds. -/
theorem ite_count (P : Prop) [Decidable P] (g : ℝ) : (if P then g else 0) = ((if P then 1 else 0 : ℕ) : ℝ) * g := by
  split_ifs <;> simp

/-- The parts of the pairs make up the whole: at one pair. -/
theorem pairs_add (t s : Fin 64) (g : ℝ) :
    (if Far 32 t s then g else 0) + (if Far 16 t s then g else 0) + (if Far 8 t s then g else 0) + (if s = t then g else 0)
      + (if Near 1 t s then g else 0) + (if Near 2 t s then g else 0) + (if Near 3 t s then g else 0) + (if Near 4 t s then g else 0)
      + (if Near 5 t s then g else 0) + (if Near 6 t s then g else 0) + (if Near 7 t s then g else 0) = if s ≤ t then g else 0 := by
  have h := congrArg (fun n : ℕ => (n : ℝ) * g) (pairs_once t s)
  simp only [Nat.cast_add, add_mul, ← ite_count] at h
  exact h

/-- A term of the row above by `d`, as a sum over rows. -/
theorem near_row (d : ℕ) (t : Fin 64) (g : Fin 64 → ℝ) :
    (if d ≤ t.val % 8 then g (back d t) else 0) = ∑ s, if Near d t s then g s else 0 := by
  by_cases h : d ≤ t.val % 8
  · simp [Near, h]
  · simp [Near, h]

/-- Rotating back by the rest of eight undoes the rotation. -/
theorem back_inv : ∀ (d : Fin 8) (s t : Fin 64), t = back (8 - d.val) s ↔ s = back d.val t := by decide +kernel

/-- A term put back on the row it came from, as a sum over rows. -/
theorem near_col (d : Fin 8) (s : Fin 64) (g : Fin 64 → ℝ) :
    (if d.val ≤ (back (8 - d.val) s).val % 8 then g (back (8 - d.val) s) else 0) = ∑ t, if Near d.val t s then g t else 0 := by
  rw [Finset.sum_eq_single (back (8 - d.val) s)]
  · have h : s = back d.val (back (8 - d.val) s) := (back_inv d s _).1 rfl
    simp only [Near, ← h, and_true]
  · intro t _ ht
    rw [if_neg]
    rintro ⟨_, h⟩
    exact ht ((back_inv d s t).2 h)
  · simp

/-- Decays through the pivot of a run make up the decay between the two rows. -/
theorem decay_pair {β : Fin 64 → ℝ} (hβ : ∀ s t, s ≤ t → β t ≤ β s) {t s r : Fin 64} (h1 : s ≤ r) (h2 : r ≤ t) :
    Real.exp (-|β t - β r|) * Real.exp (-|β s - β r|) = Real.exp (β t - β s) := by
  have e1 := hβ _ _ h1
  have e2 := hβ _ _ h2
  rw [← Real.exp_add, abs_of_nonpos (by linarith), abs_of_nonneg (by linarith)]
  congr 1; ring

/-- Between a row and one above it in its group of eight nothing is cut off. -/
theorem near_decay {β : Fin 64 → ℝ} (hβ : ∀ s t, s ≤ t → β t ≤ β s) {d : ℕ} {t s : Fin 64} (h : Near d t s) :
    Real.exp (min (β t - β s) 0) = Real.exp (β t - β s) := by
  rw [min_eq_left]
  have hs : s ≤ t := by
    obtain ⟨h1, rfl⟩ := h
    show (back d t).val ≤ t.val
    simp only [back]; omega
  have := hβ _ _ hs
  linarith

end Cert.KernelIdeal.Head

end
-- ==== Proof.HeadReal.lean ====
module

public import proofs.«01_k».proof.Proof.Pairs

/-! What one head of one chunk computes, on real numbers: each gradient as one sum over the pairs of rows. -/

@[expose] public section

set_option maxRecDepth 16384

noncomputable section

namespace Cert.KernelIdeal.Head

open Cert.KernelIdeal Cert.KernelIdeal.Gen
open Idealize.ShloMosaic Idealize.ShloMosaic.TcCoe

theorem pivot32_far : ∀ t s : Fin 64, Far 32 t s → s ≤ 31 ∧ (31 : Fin 64) ≤ t := by decide +kernel
theorem pivot16_far : ∀ t s : Fin 64, Far 16 t s → pivot16 s = pivot16 t ∧ s ≤ pivot16 t ∧ pivot16 t ≤ t := by decide +kernel
theorem pivot8_far : ∀ t s : Fin 64, Far 8 t s → pivot8 s = pivot8 t ∧ s ≤ pivot8 t ∧ pivot8 t ≤ t := by decide +kernel

section

variable (q kk b vv dov : Fin 64 → Fin 128 → ℝ) (st dst : Fin 128 → Fin 128 → ℝ)

/-- The gradient of the scores before decay. -/
def scoreGrad (t s : Fin 64) : ℝ := ∑ v, dov t v * vv s v

/-- The scores. -/
def score (t s : Fin 64) : ℝ := ∑ k, q t k * (kk s k * Real.exp (b t k - b s k))

/-- The gradient of the queries. -/
def dqR (t : Fin 64) (k : Fin 128) : ℝ :=
  Real.exp (b t k) * (∑ v, dov t v * st v k) + ∑ s, if s ≤ t then scoreGrad vv dov t s * (kk s k * Real.exp (b t k - b s k)) else 0

/-- The gradient of the keys. -/
def dkR (s : Fin 64) (k : Fin 128) : ℝ :=
  Real.exp (b 63 k - b s k) * (∑ v, vv s v * dst v k) + ∑ t, if s ≤ t then scoreGrad vv dov t s * (q t k * Real.exp (b t k - b s k)) else 0

/-- The gradient of the values. -/
def dvR (s : Fin 64) (v : Fin 128) : ℝ :=
  (∑ k, kk s k * Real.exp (b 63 k - b s k) * dst v k) + ∑ t, if s ≤ t then score q kk b t s * dov t v else 0

variable {q kk b vv dov st dst}

/-- One level of halving, as a sum over rows above. -/
theorem level_row {C : Fin 64 → Fin 64 → Prop} [∀ t s, Decidable (C t s)] {u : Fin 64 → Prop} [DecidablePred u] {f e g : Fin 64 → ℝ} (w : Fin 64 → ℝ) (t : Fin 64)
    (hs : ∀ s, C t s → ¬ u s) (hf : ∀ s, C t s → f t * f s = e s) :
    f t * (∑ s, (if C t s then 1 else 0) * w s * (if u s then 0 else g s * f s)) = ∑ s, if C t s then w s * (g s * e s) else 0 := by
  rw [Finset.mul_sum]
  refine Finset.sum_congr rfl fun s _ => ?_
  by_cases h : C t s
  · rw [if_pos h, if_pos h, if_neg (hs s h), ← hf s h]; ring
  · rw [if_neg h, if_neg h]; ring

/-- One level of halving, as a sum over rows below. -/
theorem level_col {C : Fin 64 → Fin 64 → Prop} [∀ t s, Decidable (C t s)] {u : Fin 64 → Prop} [DecidablePred u] {f e g : Fin 64 → ℝ} (w : Fin 64 → ℝ) (s : Fin 64)
    (ht : ∀ t, C t s → u t) (hf : ∀ t, C t s → f t * f s = e t) :
    f s * (∑ t, (if C t s then 1 else 0) * w t * (if u t then g t * f t else 0)) = ∑ t, if C t s then w t * (g t * e t) else 0 := by
  rw [Finset.mul_sum]
  refine Finset.sum_congr rfl fun t _ => ?_
  by_cases h : C t s
  · rw [if_pos h, if_pos h, if_pos (ht t h), ← hf t h]; ring
  · rw [if_neg h, if_neg h]; ring

/-- The parts of the sum over pairs make up the whole sum. -/
theorem rows_add (t : Fin 64) (g : Fin 64 → ℝ) (a : ℝ) :
    a + (∑ s, if Far 32 t s then g s else 0) + (∑ s, if Far 16 t s then g s else 0) + (∑ s, if Far 8 t s then g s else 0) + g t
      + (∑ s, if Near 1 t s then g s else 0) + (∑ s, if Near 2 t s then g s else 0) + (∑ s, if Near 3 t s then g s else 0)
      + (∑ s, if Near 4 t s then g s else 0) + (∑ s, if Near 5 t s then g s else 0) + (∑ s, if Near 6 t s then g s else 0)
      + (∑ s, if Near 7 t s then g s else 0) = a + ∑ s, if s ≤ t then g s else 0 := by
  have hd : g t = ∑ s, if s = t then g s else 0 := by simp
  rw [hd]
  simp only [← pairs_add, Finset.sum_add_distrib]
  ring

theorem cols_add (s : Fin 64) (g : Fin 64 → ℝ) (a : ℝ) :
    a + (∑ t, if Far 32 t s then g t else 0) + (∑ t, if Far 16 t s then g t else 0) + (∑ t, if Far 8 t s then g t else 0) + g s
      + (∑ t, if Near 1 t s then g t else 0) + (∑ t, if Near 2 t s then g t else 0) + (∑ t, if Near 3 t s then g t else 0)
      + (∑ t, if Near 4 t s then g t else 0) + (∑ t, if Near 5 t s then g t else 0) + (∑ t, if Near 6 t s then g t else 0)
      + (∑ t, if Near 7 t s then g t else 0) = a + ∑ t, if s ≤ t then g t else 0 := by
  have hd : g s = ∑ t, if s = t then g t else 0 := by simp
  rw [hd]
  simp only [← pairs_add, Finset.sum_add_distrib]
  ring

/-- One level of halving, of the scores. -/
theorem level_score {C : Fin 64 → Fin 64 → Prop} [∀ t s, Decidable (C t s)] {u : Fin 64 → Prop} [DecidablePred u] {f : Fin 64 → Fin 128 → ℝ}
    (t s : Fin 64) (ht : C t s → u t) (hs : C t s → ¬ u s) (hf : C t s → ∀ k, f t k * f s k = Real.exp (b t k - b s k)) :
    (if C t s then 1 else 0) * (∑ k, (if u t then q t k * f t k else 0) * (if u s then 0 else kk s k * f s k)) = if C t s then score q kk b t s else 0 := by
  by_cases h : C t s
  · rw [if_pos h, if_pos h, one_mul]
    refine Finset.sum_congr rfl fun k _ => ?_
    rw [if_pos (ht h), if_neg (hs h), ← hf h k]; ring
  · rw [if_neg h, if_neg h, zero_mul]

variable (hb : ∀ k s t, s ≤ t → b t k ≤ b s k)
include hb

theorem fac32 {t s : Fin 64} (h : Far 32 t s) (k : Fin 128) :
    Real.exp (-|b t k - b 31 k|) * Real.exp (-|b s k - b 31 k|) = Real.exp (b t k - b s k) :=
  decay_pair (β := fun t => b t k) (hb k) (pivot32_far t s h).1 (pivot32_far t s h).2

theorem fac16 {t s : Fin 64} (h : Far 16 t s) (k : Fin 128) :
    Real.exp (-|b t k - b (pivot16 t) k|) * Real.exp (-|b s k - b (pivot16 s) k|) = Real.exp (b t k - b s k) := by
  obtain ⟨e, h1, h2⟩ := pivot16_far t s h
  rw [e]; exact decay_pair (β := fun t => b t k) (hb k) h1 h2

theorem fac8 {t s : Fin 64} (h : Far 8 t s) (k : Fin 128) :
    Real.exp (-|b t k - b (pivot8 t) k|) * Real.exp (-|b s k - b (pivot8 s) k|) = Real.exp (b t k - b s k) := by
  obtain ⟨e, h1, h2⟩ := pivot8_far t s h
  rw [e]; exact decay_pair (β := fun t => b t k) (hb k) h1 h2

/-- One distance within the groups of eight, as a sum over rows above. -/
theorem step_row (d : ℕ) (w g : Fin 64 → ℝ) (t : Fin 64) (k : Fin 128) :
    (if d ≤ t.val % 8 then w (back d t) else 0) * (g (back d t) * Real.exp (min (b t k - b (back d t) k) 0))
      = ∑ s, if Near d t s then w s * (g s * Real.exp (b t k - b s k)) else 0 := by
  rw [← near_row d t fun s => w s * (g s * Real.exp (b t k - b s k))]
  by_cases h : d ≤ t.val % 8
  · rw [if_pos h, if_pos h, near_decay (β := fun t => b t k) (hb k) ⟨h, rfl⟩]
  · rw [if_neg h, if_neg h, zero_mul]

/-- One distance within the groups of eight, as a sum over rows below. -/
theorem step_col (d : ℕ) (hd : d < 8) (w : Fin 64 → ℝ) (s : Fin 64) (k : Fin 128) :
    (if d ≤ (back (8 - d) s).val % 8 then w (back (8 - d) s) else 0) * Real.exp (min (b (back (8 - d) s) k - b (back d (back (8 - d) s)) k) 0)
      = ∑ t, if Near d t s then w t * Real.exp (b t k - b s k) else 0 := by
  have e : back d (back (8 - d) s) = s := ((back_inv ⟨d, hd⟩ s _).1 rfl).symm
  rw [← near_col ⟨d, hd⟩ s fun t => w t * Real.exp (b t k - b s k), e]
  by_cases h : d ≤ (back (8 - d) s).val % 8
  · rw [if_pos h, if_pos h, near_decay (β := fun t => b t k) (hb k) ⟨h, e.symm⟩]
  · rw [if_neg h, if_neg h, zero_mul]

section Steps

variable {v19 : IVec S64x1 32} (h19 : Places v19) (acc : Fin 64 → Fin 128 → ℝ) (d : BitVec 32) (hd : d.toNat < 8)
include h19 hd

theorem dqStep_mat : dqStep v19 d (mat kk) (mat b) (mat vv) (mat dov) (mat acc)
      = mat fun t k => acc t k + ∑ s, if Near d.toNat t s then scoreGrad vv dov t s * (kk s k * Real.exp (b t k - b s k)) else 0 := by
  unfold dqStep stepKey
  simp only [rot_mat, mulf_mat, rowSum_mat, keep_mat h19 d hd, across_mat, stepDecay_mat, addf_mat]
  refine congrArg mat (funext₂ fun t k => ?_)
  rw [← step_row hb d.toNat (fun s => scoreGrad vv dov t s) (fun s => kk s k)]
  rfl

variable (d' : BitVec 32) (hd' : d'.toNat = 8 - d.toNat)
include hd'

theorem dkStep_mat : dkStep v19 d d' (mat q) (mat b) (mat vv) (mat dov) (mat acc)
      = mat fun s k => acc s k + ∑ t, if Near d.toNat t s then scoreGrad vv dov t s * (q t k * Real.exp (b t k - b s k)) else 0 := by
  unfold dkStep
  simp only [rot_mat, mulf_mat, rowSum_mat, keep_mat h19 d hd, across_mat, stepDecay_mat, addf_mat]
  refine congrArg mat (funext₂ fun s k => congrArg (acc s k + ·) ?_)
  have e : back d.toNat (back (8 - d.toNat) s) = s := ((back_inv ⟨d.toNat, hd⟩ s _).1 rfl).symm
  have h := step_col hb d.toNat hd (fun t => scoreGrad vv dov t s * q t k) s k
  simp only [mul_assoc] at h
  rw [← h, hd', e]
  by_cases h' : d.toNat ≤ (back (8 - d.toNat) s).val % 8
  · simp only [if_pos h', scoreGrad]; ring
  · simp only [if_neg h']; ring

omit h19 hd hd' in
theorem dvStep_score (d : ℕ) (t : Fin 64) :
    (if d ≤ t.val % 8 then ∑ k, q t k * (kk (back d t) k * Real.exp (min (b t k - b (back d t) k) 0)) else 0)
      = if d ≤ t.val % 8 then score q kk b t (back d t) else 0 := by
  by_cases h : d ≤ t.val % 8
  · rw [if_pos h, if_pos h]
    exact Finset.sum_congr rfl fun k _ => by rw [near_decay (β := fun t => b t k) (hb k) ⟨h, rfl⟩]
  · rw [if_neg h, if_neg h]

theorem dvStep_mat : dvStep v19 d d' (mat q) (mat kk) (mat b) (mat dov) (mat acc)
      = mat fun s v => acc s v + ∑ t, if Near d.toNat t s then score q kk b t s * dov t v else 0 := by
  unfold dvStep stepKey
  simp only [rot_mat, mulf_mat, rowSum_mat, keep_mat h19 d hd, across_mat, stepDecay_mat, addf_mat]
  refine congrArg mat (funext₂ fun s v => congrArg (acc s v + ·) ?_)
  have e : back d.toNat (back (8 - d.toNat) s) = s := ((back_inv ⟨d.toNat, hd⟩ s _).1 rfl).symm
  have h := near_col ⟨d.toNat, hd⟩ s fun t => score q kk b t s * dov t v
  simp only at h
  rw [← h, hd', dvStep_score hb d.toNat, e]
  by_cases h' : d.toNat ≤ (back (8 - d.toNat) s).val % 8
  · simp only [if_pos h']
  · simp only [if_neg h', zero_mul]

end Steps

variable {v19 : IVec S64x1 32} (h19 : Places v19)
include h19

theorem dq_mat :
    dq v19 k0_pay801 (mat fun t s => if Far 32 t s then 1 else 0) k0_pay804 (mat fun t s => if Far 16 t s then 1 else 0) k0_pay806
      (mat fun t s => if Far 8 t s then 1 else 0) (mat kk) (mat b) (mat vv) (mat dov) (mat st) = mat (dqR kk b vv dov st) := by
  unfold dq dqLevel
  simp only [exp_mat, timesState_mat, mulf_mat, ref32_mat, ref16_mat, ref8_mat, decay_mat, rowDots_mat, lower_mat _ _ marks32, lower_mat _ _ marks16,
    lower_mat _ _ marks8, mixRows_mat, addf_mat, rowSum_mat, across_mat]
  rw [dqStep_mat hb h19 _ _ (by decide), dqStep_mat hb h19 _ _ (by decide), dqStep_mat hb h19 _ _ (by decide), dqStep_mat hb h19 _ _ (by decide),
    dqStep_mat hb h19 _ _ (by decide), dqStep_mat hb h19 _ _ (by decide), dqStep_mat hb h19 _ _ (by decide)]
  refine congrArg mat (funext₂ fun t k => ?_)
  rw [dqR, ← rows_add t]
  have h32 := level_row (C := Far 32) (u := fun s => 32 ≤ s.val % 64) (f := fun s => Real.exp (-|b s k - b 31 k|)) (e := fun s => Real.exp (b t k - b s k))
    (g := fun s => kk s k) (fun s => scoreGrad vv dov t s) t (fun s h => not_le.2 h.2.1) (fun s h => fac32 hb h k)
  have h16 := level_row (C := Far 16) (u := fun s => 16 ≤ s.val % 32) (f := fun s => Real.exp (-|b s k - b (pivot16 s) k|)) (e := fun s => Real.exp (b t k - b s k))
    (g := fun s => kk s k) (fun s => scoreGrad vv dov t s) t (fun s h => not_le.2 h.2.1) (fun s h => fac16 hb h k)
  have h8 := level_row (C := Far 8) (u := fun s => 8 ≤ s.val % 16) (f := fun s => Real.exp (-|b s k - b (pivot8 s) k|)) (e := fun s => Real.exp (b t k - b s k))
    (g := fun s => kk s k) (fun s => scoreGrad vv dov t s) t (fun s h => not_le.2 h.2.1) (fun s h => fac8 hb h k)
  beta_reduce at h32 h16 h8
  rw [← h32, ← h16, ← h8, sub_self, Real.exp_zero, mul_one]
  rfl

theorem dk_mat :
    dk v19 k0_pay801 (mat fun t s => if Far 32 t s then 1 else 0) k0_pay804 (mat fun t s => if Far 16 t s then 1 else 0) k0_pay806
      (mat fun t s => if Far 8 t s then 1 else 0) (mat q) (mat b) (mat vv) (mat dov) (mat dst) = mat (dkR q b vv dov dst) := by
  unfold dk dkLevel
  simp only [toEnd_mat, timesState_mat, mulf_mat, ref32_mat, ref16_mat, ref8_mat, decay_mat, rowDots_mat, upper_mat _ _ marks32, upper_mat _ _ marks16,
    upper_mat _ _ marks8, mixCols_mat, addf_mat, rowSum_mat, across_mat]
  rw [dkStep_mat hb h19 _ _ (by decide) _ (by decide), dkStep_mat hb h19 _ _ (by decide) _ (by decide), dkStep_mat hb h19 _ _ (by decide) _ (by decide),
    dkStep_mat hb h19 _ _ (by decide) _ (by decide), dkStep_mat hb h19 _ _ (by decide) _ (by decide), dkStep_mat hb h19 _ _ (by decide) _ (by decide),
    dkStep_mat hb h19 _ _ (by decide) _ (by decide)]
  refine congrArg mat (funext₂ fun s k => ?_)
  rw [dkR, ← cols_add s]
  have h32 := level_col (C := Far 32) (u := fun t => 32 ≤ t.val % 64) (f := fun t => Real.exp (-|b t k - b 31 k|)) (e := fun t => Real.exp (b t k - b s k))
    (g := fun t => q t k) (fun t => scoreGrad vv dov t s) s (fun t h => h.1) (fun t h => fac32 hb h k)
  have h16 := level_col (C := Far 16) (u := fun t => 16 ≤ t.val % 32) (f := fun t => Real.exp (-|b t k - b (pivot16 t) k|)) (e := fun t => Real.exp (b t k - b s k))
    (g := fun t => q t k) (fun t => scoreGrad vv dov t s) s (fun t h => h.1) (fun t h => fac16 hb h k)
  have h8 := level_col (C := Far 8) (u := fun t => 8 ≤ t.val % 16) (f := fun t => Real.exp (-|b t k - b (pivot8 t) k|)) (e := fun t => Real.exp (b t k - b s k))
    (g := fun t => q t k) (fun t => scoreGrad vv dov t s) s (fun t h => h.1) (fun t h => fac8 hb h k)
  beta_reduce at h32 h16 h8
  rw [← h32, ← h16, ← h8, sub_self, Real.exp_zero, mul_one]
  rfl

theorem dv_mat :
    dv v19 k0_pay801 (mat fun t s => if Far 32 t s then 1 else 0) k0_pay804 (mat fun t s => if Far 16 t s then 1 else 0) k0_pay806
      (mat fun t s => if Far 8 t s then 1 else 0) (mat q) (mat kk) (mat b) (mat dov) (mat dst) = mat (dvR q kk b dov dst) := by
  unfold dv pLevel
  simp only [toEnd_mat, timesStateT_mat, mulf_mat, ref32_mat, ref16_mat, ref8_mat, decay_mat, rowDots_mat, upper_mat _ _ marks32, upper_mat _ _ marks16,
    upper_mat _ _ marks8, lower_mat _ _ marks32, lower_mat _ _ marks16, lower_mat _ _ marks8, mixCols_mat, addf_mat, rowSum_mat, across_mat]
  rw [dvStep_mat hb h19 _ _ (by decide) _ (by decide), dvStep_mat hb h19 _ _ (by decide) _ (by decide), dvStep_mat hb h19 _ _ (by decide) _ (by decide),
    dvStep_mat hb h19 _ _ (by decide) _ (by decide), dvStep_mat hb h19 _ _ (by decide) _ (by decide), dvStep_mat hb h19 _ _ (by decide) _ (by decide),
    dvStep_mat hb h19 _ _ (by decide) _ (by decide)]
  refine congrArg mat (funext₂ fun s v => ?_)
  rw [dvR, ← cols_add s]
  have h32 (t : Fin 64) := level_score (q := q) (kk := kk) (b := b) (C := Far 32) (u := fun s => 32 ≤ s.val % 64) (f := fun s k => Real.exp (-|b s k - b 31 k|)) t s
    (fun h => h.1) (fun h => not_le.2 h.2.1) (fun h k => fac32 hb h k)
  have h16 (t : Fin 64) := level_score (q := q) (kk := kk) (b := b) (C := Far 16) (u := fun s => 16 ≤ s.val % 32) (f := fun s k => Real.exp (-|b s k - b (pivot16 s) k|)) t s
    (fun h => h.1) (fun h => not_le.2 h.2.1) (fun h k => fac16 hb h k)
  have h8 (t : Fin 64) := level_score (q := q) (kk := kk) (b := b) (C := Far 8) (u := fun s => 8 ≤ s.val % 16) (f := fun s k => Real.exp (-|b s k - b (pivot8 s) k|)) t s
    (fun h => h.1) (fun h => not_le.2 h.2.1) (fun h k => fac8 hb h k)
  beta_reduce at h32 h16 h8
  have hd : (∑ k, q s k * kk s k) = score q kk b s s := by
    refine Finset.sum_congr rfl fun k _ => ?_
    rw [sub_self, Real.exp_zero, mul_one]
  simp only [h32, h16, h8, hd]
  simp only [add_mul, ite_mul, zero_mul, Finset.sum_add_distrib, add_assoc]
  rfl

end

end Cert.KernelIdeal.Head

end
-- ==== Proof.Chunk.lean ====
module

public import proofs.«01_k».proof.Proof.Head

/-! One chunk of the backward pass, all eight heads together: what it writes to the three row blocks, to the
sum for `lb` and to the carried state gradient, as functions of what it loads. -/

@[expose] public section

set_option maxRecDepth 16384

noncomputable section

namespace Cert.KernelIdeal.Chunk

open Cert.KernelIdeal Cert.KernelIdeal.Gen
open Idealize.ShloMosaic Idealize.ShloMosaic.TcCoe

variable {F : FTy → Type} [FloatOps F]

/-- The columns of one head. -/
def cols (x : FVec F S64x1024 .f32) : Fin 8 → FVec F S64x128 .f32
  | 0 => extractStridedSlice S64x128 ![0, 0] x slices_S64x1024_o0_0_S64x128
  | 1 => extractStridedSlice S64x128 ![0, 128] x slices_S64x1024_o0_128_S64x128
  | 2 => extractStridedSlice S64x128 ![0, 256] x slices_S64x1024_o0_256_S64x128
  | 3 => extractStridedSlice S64x128 ![0, 384] x slices_S64x1024_o0_384_S64x128
  | 4 => extractStridedSlice S64x128 ![0, 512] x slices_S64x1024_o0_512_S64x128
  | 5 => extractStridedSlice S64x128 ![0, 640] x slices_S64x1024_o0_640_S64x128
  | 6 => extractStridedSlice S64x128 ![0, 768] x slices_S64x1024_o0_768_S64x128
  | 7 => extractStridedSlice S64x128 ![0, 896] x slices_S64x1024_o0_896_S64x128

/-- Eight heads' columns side by side. -/
def beside (y : Fin 8 → FVec F S64x128 .f32) : FVec F S64x1024 .f32 :=
  concatenate S64x1024 1 [⟨S64x128, y 0⟩, ⟨S64x128, y 1⟩, ⟨S64x128, y 2⟩, ⟨S64x128, y 3⟩, ⟨S64x128, y 4⟩, ⟨S64x128, y 5⟩, ⟨S64x128, y 6⟩, ⟨S64x128, y 7⟩]
    concatenates_S64x128_S64x128_S64x128_S64x128_S64x128_S64x128_S64x128_S64x128_S64x1024_d1

/-- Eight heads' rows side by side. -/
def besideRow (y : Fin 8 → FVec F S1x128 .f32) : FVec F S1x1024 .f32 :=
  concatenate S1x1024 1 [⟨S1x128, y 0⟩, ⟨S1x128, y 1⟩, ⟨S1x128, y 2⟩, ⟨S1x128, y 3⟩, ⟨S1x128, y 4⟩, ⟨S1x128, y 5⟩, ⟨S1x128, y 6⟩, ⟨S1x128, y 7⟩]
    concatenates_S1x128_S1x128_S1x128_S1x128_S1x128_S1x128_S1x128_S1x128_S1x1024_d1

section

variable (v9 v16 : FVec F S64x64 .bf16) (v19 : IVec S64x1 32) (v25 : IVec S64x1 1) (v44 : FVec F S64x64 .f32) (v50 : IVec S64x1 1) (v69 : FVec F S64x64 .f32) (v75 : IVec S64x1 1) (v94 : FVec F S64x64 .f32)
variable (lb : FVec F S1x1024 .f32) (xq xg : FVec F S64x1024 .f32) (vv dov : Fin 8 → FVec F S64x128 .f32) (st ds : Fin 8 → FVec F S128x128 .f32)

/-- One head's queries. -/
def q (h : Fin 8) : FVec F S64x128 .f32 := cols (k0_pay7 xq) h
/-- One head's keys. -/
def kk (h : Fin 8) : FVec F S64x128 .f32 := cols (k0_pay15 lb xg) h
/-- One head's summed logarithms of the decays. -/
def b (h : Fin 8) : FVec F S64x128 .f32 := cols (k0_pay16 v9 lb xg) h

/-- The gradient of the queries. -/
def dqAll : FVec F S64x1024 .f32 := beside fun h => Head.dq v19 v25 v44 v50 v69 v75 v94 (kk lb xg h) (b v9 lb xg h) (vv h) (dov h) (st h)
/-- The gradient of the keys. -/
def dkAll : FVec F S64x1024 .f32 := beside fun h => Head.dk v19 v25 v44 v50 v69 v75 v94 (q xq h) (b v9 lb xg h) (vv h) (dov h) (ds h)
/-- The gradient of the values. -/
def dvAll : FVec F S64x1024 .f32 := beside fun h => Head.dv v19 v25 v44 v50 v69 v75 v94 (q xq h) (kk lb xg h) (b v9 lb xg h) (dov h) (ds h)
/-- The state after the chunk against its gradient. -/
def wAll : FVec F S1x1024 .f32 := besideRow fun h => Head.carry (kk lb xg h) (b v9 lb xg h) (vv h) (st h) (ds h)

/-- The gradient of the decays less that of the keys, from the gradients of the queries and keys and the row `w`. -/
def gateGrad (dqs dks : FVec F S64x1024 .f32) (w : FVec F S1x1024 .f32) : FVec F S64x1024 .f32 :=
  subf (select (cmpf .ogt (k0_pay14 lb xg) (broadcast S64x1024 (Scalar.ofBits .f32 0x0DA24260#32)))
      (divf (addf (matmul dot_S64x64_S64x1024_S64x1024_1_0_0_1_n_n none (extf .f32 v16 bitsLt_bf16_f32)
            (subf (mulf (k0_pay7 xq) dqs) (mulf (k0_pay15 lb xg) dks)) (constant S64x1024 .f32 0x00000000#32))
          (broadcastTo S64x1024 w broadcasts_S1x1024_S64x1024))
        (maximumf (k0_pay14 lb xg) (broadcast S64x1024 (Scalar.ofBits .f32 0x0DA24260#32))))
      (broadcast S64x1024 (Scalar.ofBits .f32 0x00000000#32))) dks

/-- The gradient of the decays less that of the keys. -/
def t1 : FVec F S64x1024 .f32 :=
  gateGrad v16 lb xq xg (dqAll v9 v19 v25 v44 v50 v69 v75 v94 lb xg vv dov st)
    (dkAll v9 v19 v25 v44 v50 v69 v75 v94 lb xq xg vv dov ds) (wAll v9 lb xg vv st ds)

/-- What is written to `dq`. -/
def outDq : FVec F S64x1024 .bf16 := k0_pay4 xq (k0_pay6 xq) (dqAll v9 v19 v25 v44 v50 v69 v75 v94 lb xg vv dov st)
/-- What is written to `df`. -/
def outDf : FVec F S64x1024 .bf16 := k0_pay3 (k0_pay11 xg) (k0_pay12 xg) (k0_pay13 lb) (t1 v9 v16 v19 v25 v44 v50 v69 v75 v94 lb xq xg vv dov st ds)
/-- What is written to `dv`. -/
def outDv : FVec F S64x1024 .bf16 := k0_pay5 (dvAll v9 v19 v25 v44 v50 v69 v75 v94 lb xq xg dov ds)
/-- The sum for `lb` after the chunk. -/
def outDlb (old : FVec F S1x1024 .f32) : FVec F S1x1024 .f32 := k0_pay2 (k0_pay12 xg) (t1 v9 v16 v19 v25 v44 v50 v69 v75 v94 lb xq xg vv dov st ds) (k0_pay795 old)
/-- One head's carried state gradient after the chunk. -/
def outDs (h : Fin 8) : FVec F S1x128x128 .f32 := shapeCast S1x128x128 (Head.dst' (q xq h) (b v9 lb xg h) (dov h) (ds h)) shapeCasts_S128x128_S1x128x128

end

variable (𝒱 : Variants) (c : Dev nD) (bd : Option 𝒱.V) (i : grid0.Coords)
variable (arg2 : Memref sig .tc .vmem S512x1024 .f32) (harg2 : arg2.IsWhole) (arg3 : Memref sig .tc .vmem S512x1024 .f32) (harg3 : arg3.IsWhole)
variable (arg4 : Memref sig .tc .vmem S512x1024 .f32) (harg4 : arg4.IsWhole) (arg5 : Memref sig .tc .vmem S512x1024 .f32) (harg5 : arg5.IsWhole)
variable (arg6 : Memref sig .tc .vmem S8x8x128x128 .f32) (harg6 : arg6.IsWhole) (arg7 : Memref sig .tc .vmem S1x1024 .f32) (harg7 : arg7.IsWhole)
variable (arg8 : Memref sig .tc .vmem S512x1024 .bf16) (harg8 : arg8.IsWhole) (arg9 : Memref sig .tc .vmem S512x1024 .bf16) (harg9 : arg9.IsWhole)
variable (arg10 : Memref sig .tc .vmem S512x1024 .bf16) (harg10 : arg10.IsWhole) (arg11 : Memref sig .tc .vmem S1x1024 .f32) (harg11 : arg11.IsWhole)
variable (arg12 : Memref sig .tc .vmem S8x128x128 .f32) (harg12 : arg12.IsWhole) (v9 : FVec F S64x64 .bf16) (v16 : FVec F S64x64 .bf16)
variable (v19 : IVec S64x1 32) (v25 : IVec S64x1 1) (v44 : FVec F S64x64 .f32) (v50 : IVec S64x1 1)
variable (v69 : FVec F S64x64 .f32) (v75 : IVec S64x1 1) (v79 : IVec S1x64 1) (v84 : IVec S64x64 32)
variable (v85 : IVec S64x64 32) (v95 : Vec F S1x1024 .f32) (X_arg2 : BufTy.Contents (Elt F) arg2.view.ty) (X_arg3 : BufTy.Contents (Elt F) arg3.view.ty)
variable (X_arg4 : BufTy.Contents (Elt F) arg4.view.ty) (X_arg5 : BufTy.Contents (Elt F) arg5.view.ty) (X_arg6 : BufTy.Contents (Elt F) arg6.view.ty)
variable (k : Fin k0_t1_loop.trips)

/-- A chunk's rows of an input block. -/
def rows (k : Fin k0_t1_loop.trips) (M : Memref sig .tc .vmem S512x1024 .f32) (X : BufTy.Contents (Elt F) M.view.ty) : FVec F S64x1024 .f32 :=
  View.readAt (Elt F) M.view (Rect.unit (s := S512x1024) (k0_off1 k) S64x1024.size (k0_off1_inb k)).toLoadRect X

/-- One head's block of a chunk's rows. -/
def headRows (k : Fin k0_t1_loop.trips) (M : Memref sig .tc .vmem S512x1024 .f32) (X : BufTy.Contents (Elt F) M.view.ty) : Fin 8 → FVec F S64x128 .f32
  | 0 => View.readAt (Elt F) M.view (Rect.unit (s := S512x1024) (k0_off2 k) S64x128.size (k0_off2_inb k)).toLoadRect X
  | 1 => View.readAt (Elt F) M.view (Rect.unit (s := S512x1024) (k0_off4 k) S64x128.size (k0_off4_inb k)).toLoadRect X
  | 2 => View.readAt (Elt F) M.view (Rect.unit (s := S512x1024) (k0_off6 k) S64x128.size (k0_off6_inb k)).toLoadRect X
  | 3 => View.readAt (Elt F) M.view (Rect.unit (s := S512x1024) (k0_off8 k) S64x128.size (k0_off8_inb k)).toLoadRect X
  | 4 => View.readAt (Elt F) M.view (Rect.unit (s := S512x1024) (k0_off10 k) S64x128.size (k0_off10_inb k)).toLoadRect X
  | 5 => View.readAt (Elt F) M.view (Rect.unit (s := S512x1024) (k0_off12 k) S64x128.size (k0_off12_inb k)).toLoadRect X
  | 6 => View.readAt (Elt F) M.view (Rect.unit (s := S512x1024) (k0_off14 k) S64x128.size (k0_off14_inb k)).toLoadRect X
  | 7 => View.readAt (Elt F) M.view (Rect.unit (s := S512x1024) (k0_off16 k) S64x128.size (k0_off16_inb k)).toLoadRect X

/-- One head's state at the start of a chunk. -/
def headState (k : Fin k0_t1_loop.trips) (X : BufTy.Contents (Elt F) arg6.view.ty) : Fin 8 → FVec F S128x128 .f32
  | 0 => shapeCast S128x128 (View.readAt (Elt F) arg6.view (Rect.unit (s := S8x8x128x128) (k0_off3 k) S1x1x128x128.size (k0_off3_inb k)).toLoadRect X) shapeCasts_S1x1x128x128_S128x128
  | 1 => shapeCast S128x128 (View.readAt (Elt F) arg6.view (Rect.unit (s := S8x8x128x128) (k0_off5 k) S1x1x128x128.size (k0_off5_inb k)).toLoadRect X) shapeCasts_S1x1x128x128_S128x128
  | 2 => shapeCast S128x128 (View.readAt (Elt F) arg6.view (Rect.unit (s := S8x8x128x128) (k0_off7 k) S1x1x128x128.size (k0_off7_inb k)).toLoadRect X) shapeCasts_S1x1x128x128_S128x128
  | 3 => shapeCast S128x128 (View.readAt (Elt F) arg6.view (Rect.unit (s := S8x8x128x128) (k0_off9 k) S1x1x128x128.size (k0_off9_inb k)).toLoadRect X) shapeCasts_S1x1x128x128_S128x128
  | 4 => shapeCast S128x128 (View.readAt (Elt F) arg6.view (Rect.unit (s := S8x8x128x128) (k0_off11 k) S1x1x128x128.size (k0_off11_inb k)).toLoadRect X) shapeCasts_S1x1x128x128_S128x128
  | 5 => shapeCast S128x128 (View.readAt (Elt F) arg6.view (Rect.unit (s := S8x8x128x128) (k0_off13 k) S1x1x128x128.size (k0_off13_inb k)).toLoadRect X) shapeCasts_S1x1x128x128_S128x128
  | 6 => shapeCast S128x128 (View.readAt (Elt F) arg6.view (Rect.unit (s := S8x8x128x128) (k0_off15 k) S1x1x128x128.size (k0_off15_inb k)).toLoadRect X) shapeCasts_S1x1x128x128_S128x128
  | 7 => shapeCast S128x128 (View.readAt (Elt F) arg6.view (Rect.unit (s := S8x8x128x128) (k0_off17 k) S1x1x128x128.size (k0_off17_inb k)).toLoadRect X) shapeCasts_S1x1x128x128_S128x128

/-- One head's carried state gradient. -/
def headCarried (X : BufTy.Contents (Elt F) arg12.view.ty) : Fin 8 → FVec F S128x128 .f32
  | 0 => shapeCast S128x128 (View.readAt (Elt F) arg12.view (Rect.unit (s := S8x128x128) ![0, 0, 0] S1x128x128.size inb_S8x128x128_S1x128x128_0_0_0).toLoadRect X) shapeCasts_S1x128x128_S128x128
  | 1 => shapeCast S128x128 (View.readAt (Elt F) arg12.view (Rect.unit (s := S8x128x128) ![1, 0, 0] S1x128x128.size inb_S8x128x128_S1x128x128_1_0_0).toLoadRect X) shapeCasts_S1x128x128_S128x128
  | 2 => shapeCast S128x128 (View.readAt (Elt F) arg12.view (Rect.unit (s := S8x128x128) ![2, 0, 0] S1x128x128.size inb_S8x128x128_S1x128x128_2_0_0).toLoadRect X) shapeCasts_S1x128x128_S128x128
  | 3 => shapeCast S128x128 (View.readAt (Elt F) arg12.view (Rect.unit (s := S8x128x128) ![3, 0, 0] S1x128x128.size inb_S8x128x128_S1x128x128_3_0_0).toLoadRect X) shapeCasts_S1x128x128_S128x128
  | 4 => shapeCast S128x128 (View.readAt (Elt F) arg12.view (Rect.unit (s := S8x128x128) ![4, 0, 0] S1x128x128.size inb_S8x128x128_S1x128x128_4_0_0).toLoadRect X) shapeCasts_S1x128x128_S128x128
  | 5 => shapeCast S128x128 (View.readAt (Elt F) arg12.view (Rect.unit (s := S8x128x128) ![5, 0, 0] S1x128x128.size inb_S8x128x128_S1x128x128_5_0_0).toLoadRect X) shapeCasts_S1x128x128_S128x128
  | 6 => shapeCast S128x128 (View.readAt (Elt F) arg12.view (Rect.unit (s := S8x128x128) ![6, 0, 0] S1x128x128.size inb_S8x128x128_S1x128x128_6_0_0).toLoadRect X) shapeCasts_S1x128x128_S128x128
  | 7 => shapeCast S128x128 (View.readAt (Elt F) arg12.view (Rect.unit (s := S8x128x128) ![7, 0, 0] S1x128x128.size inb_S8x128x128_S1x128x128_7_0_0).toLoadRect X) shapeCasts_S1x128x128_S128x128

/-- What one chunk writes. -/
theorem tripL_eq (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    tripL_k0_t1 (F := F) 𝒱 c bd i arg2 harg2 arg3 harg3 arg4 harg4 arg5 harg5 arg6 harg6 arg7 harg7 arg8 harg8 arg9 harg9 arg10 harg10 arg11 harg11 arg12 harg12 v9 v16 v19 v25 v44 v50 v69 v75 v79 v84 v85 v95 X_arg2 X_arg3 X_arg4 X_arg5 X_arg6 k f8 f9 f10 f11 f12
      = ([⟨Rect.unit (k0_off1 k) S64x1024.size (k0_off1_inb k), outDq v9 v19 v25 v44 v50 v69 v75 (k0_pay1 v75 v79 v84 v85) v95 (rows k arg2 X_arg2) (rows k arg3 X_arg3) (headRows k arg4 X_arg4) (headRows k arg5 X_arg5) (headState arg6 k X_arg6)⟩],
         [⟨Rect.unit (k0_off1 k) S64x1024.size (k0_off1_inb k), outDf v9 v16 v19 v25 v44 v50 v69 v75 (k0_pay1 v75 v79 v84 v85) v95 (rows k arg2 X_arg2) (rows k arg3 X_arg3) (headRows k arg4 X_arg4) (headRows k arg5 X_arg5) (headState arg6 k X_arg6) (headCarried arg12 f12)⟩],
         [⟨Rect.unit (k0_off1 k) S64x1024.size (k0_off1_inb k), outDv v9 v19 v25 v44 v50 v69 v75 (k0_pay1 v75 v79 v84 v85) v95 (rows k arg2 X_arg2) (rows k arg3 X_arg3) (headRows k arg5 X_arg5) (headCarried arg12 f12)⟩],
         [⟨Rect.unit ![0, 0] S1x1024.size inb_S1x1024_S1x1024_0_0, outDlb v9 v16 v19 v25 v44 v50 v69 v75 (k0_pay1 v75 v79 v84 v85) v95 (rows k arg2 X_arg2) (rows k arg3 X_arg3) (headRows k arg4 X_arg4) (headRows k arg5 X_arg5) (headState arg6 k X_arg6) (headCarried arg12 f12)
             (View.readAt (Elt F) arg11.view (Rect.unit ![0, 0] S1x1024.size inb_S1x1024_S1x1024_0_0).toLoadRect f11)⟩],
         [⟨Rect.unit ![7, 0, 0] S1x128x128.size inb_S8x128x128_S1x128x128_7_0_0, outDs v9 v95 (rows k arg2 X_arg2) (rows k arg3 X_arg3) (headRows k arg5 X_arg5) (headCarried arg12 f12) 7⟩,
          ⟨Rect.unit ![6, 0, 0] S1x128x128.size inb_S8x128x128_S1x128x128_6_0_0, outDs v9 v95 (rows k arg2 X_arg2) (rows k arg3 X_arg3) (headRows k arg5 X_arg5) (headCarried arg12 f12) 6⟩,
          ⟨Rect.unit ![5, 0, 0] S1x128x128.size inb_S8x128x128_S1x128x128_5_0_0, outDs v9 v95 (rows k arg2 X_arg2) (rows k arg3 X_arg3) (headRows k arg5 X_arg5) (headCarried arg12 f12) 5⟩,
          ⟨Rect.unit ![4, 0, 0] S1x128x128.size inb_S8x128x128_S1x128x128_4_0_0, outDs v9 v95 (rows k arg2 X_arg2) (rows k arg3 X_arg3) (headRows k arg5 X_arg5) (headCarried arg12 f12) 4⟩,
          ⟨Rect.unit ![3, 0, 0] S1x128x128.size inb_S8x128x128_S1x128x128_3_0_0, outDs v9 v95 (rows k arg2 X_arg2) (rows k arg3 X_arg3) (headRows k arg5 X_arg5) (headCarried arg12 f12) 3⟩,
          ⟨Rect.unit ![2, 0, 0] S1x128x128.size inb_S8x128x128_S1x128x128_2_0_0, outDs v9 v95 (rows k arg2 X_arg2) (rows k arg3 X_arg3) (headRows k arg5 X_arg5) (headCarried arg12 f12) 2⟩,
          ⟨Rect.unit ![1, 0, 0] S1x128x128.size inb_S8x128x128_S1x128x128_1_0_0, outDs v9 v95 (rows k arg2 X_arg2) (rows k arg3 X_arg3) (headRows k arg5 X_arg5) (headCarried arg12 f12) 1⟩,
          ⟨Rect.unit ![0, 0, 0] S1x128x128.size inb_S8x128x128_S1x128x128_0_0_0, outDs v9 v95 (rows k arg2 X_arg2) (rows k arg3 X_arg3) (headRows k arg5 X_arg5) (headCarried arg12 f12) 0⟩]) := by
  unfold tripL_k0_t1 trip_k0_t1; rfl

end Cert.KernelIdeal.Chunk

end
-- ==== Proof.Gates.lean ====
module

public import proofs.«01_k».proof.Proof.HeadReal
public import proofs.«01_k».proof.Proof.Chunk
public import Idealize.ShloMosaic.Lib.Pipeline.Value

/-! The gates of one chunk, and the arrangement of the heads' columns, on real numbers. -/

@[expose] public section

set_option maxRecDepth 16384

noncomputable section

namespace Cert.KernelIdeal.Chunk

open Cert.KernelIdeal Cert.KernelIdeal.Gen Cert.KernelIdeal.Head
open Idealize.ShloMosaic Idealize.ShloMosaic.TcCoe

/-- The logistic function. -/
def logi (x : ℝ) : ℝ := 1 / (1 + Real.exp (-x))

theorem one_add_exp_pos (x : ℝ) : 0 < 1 + Real.exp x := by positivity

theorem logi_pos (x : ℝ) : 0 < logi x := by unfold logi; have := one_add_exp_pos (-x); positivity

theorem logi_neg (x : ℝ) : logi (-x) = 1 - logi x := by
  unfold logi
  have h := one_add_exp_pos (-x)
  have h' := one_add_exp_pos x
  rw [neg_neg, eq_sub_iff_add_eq, div_add_div _ _ h'.ne' h.ne', div_eq_one_iff_eq (by positivity)]
  have : Real.exp x * Real.exp (-x) = 1 := by rw [← Real.exp_add]; simp
  linarith [this, mul_comm (Real.exp x) (Real.exp (-x)), mul_add (1 + Real.exp x) 1 (Real.exp (-x)), add_mul 1 (Real.exp x) (Real.exp (-x))]

theorem logi_le_one (x : ℝ) : logi x ≤ 1 := by linarith [logi_pos (-x), logi_neg x]

/-- The logistic function by way of the hyperbolic tangent. -/
theorem logi_tanh (x : ℝ) : 1 / 2 * Real.tanh (1 / 2 * x) + 1 / 2 = logi x := by
  unfold logi
  rw [Real.tanh_eq_sinh_div_cosh, Real.sinh_eq, Real.cosh_eq]
  have e : Real.exp (-x) = Real.exp (-(1 / 2 * x)) * Real.exp (-(1 / 2 * x)) := by rw [← Real.exp_add]; ring_nf
  have e' : Real.exp (1 / 2 * x) * Real.exp (-(1 / 2 * x)) = 1 := by rw [← Real.exp_add]; simp
  rw [e]
  set a := Real.exp (1 / 2 * x)
  set b := Real.exp (-(1 / 2 * x))
  have ha : 0 < a := Real.exp_pos _
  have hb : 0 < b := Real.exp_pos _
  field_simp
  nlinarith [e']

theorem logi_of_nonneg {x : ℝ} (h : 0 ≤ x) : 1 / (1 + Real.exp (0 - |x|)) = logi x := by
  unfold logi; rw [abs_of_nonneg h, zero_sub]

theorem logi_of_neg {x : ℝ} (h : x < 0) : Real.exp (0 - |x|) * (1 / (1 + Real.exp (0 - |x|))) = logi x := by
  unfold logi
  rw [abs_of_neg h, zero_sub, neg_neg, Real.exp_neg]
  have := Real.exp_pos x
  field_simp
  ring

theorem logi_neg_of_nonneg {x : ℝ} (h : 0 ≤ x) : Real.exp (0 - |x|) * (1 / (1 + Real.exp (0 - |x|))) = logi (-x) := by
  unfold logi
  rw [abs_of_nonneg h, zero_sub, neg_neg, Real.exp_neg]
  have := Real.exp_pos x
  field_simp
  ring

theorem logi_neg_of_neg {x : ℝ} (h : x < 0) : 1 / (1 + Real.exp (0 - |x|)) = logi (-x) := by
  unfold logi; rw [abs_of_neg h, zero_sub]

/-- The least decay that the gradient passes through, `1e-30` in 32 bits. -/
def least : ℝ := (0x224260 + 2 ^ 23 : ℝ) * 2 ^ (-(123 : ℤ))

theorem half_eq : Ideal.ofBits .f32 0x3F000000#32 = ((1 / 2 : ℝ) : EReal) := by
  simp [Ideal.ofBits, Ideal.ieee, -EReal.coe_mul]; norm_num

theorem one_eq : (Scalar.ofBits .f32 0x3F800000#32 : Ideal .f32) = ((1 : ℝ) : EReal) := by
  show Ideal.ofBits .f32 _ = _
  simp [Ideal.ofBits, Ideal.ieee, -EReal.coe_mul]; norm_num

theorem zero_eq : (Scalar.ofBits .f32 0x00000000#32 : Ideal .f32) = ((0 : ℝ) : EReal) := zf_eq

theorem least_eq : (Scalar.ofBits .f32 0x0DA24260#32 : Ideal .f32) = ((least : ℝ) : EReal) := by
  show Ideal.ofBits .f32 _ = _
  unfold least
  simp [Ideal.ofBits, Ideal.ieee, -EReal.coe_mul]; norm_num

theorem least_pos : 0 < least := by unfold least; positivity
theorem least_le_one : least ≤ 1 := by unfold least; norm_num

/-- The decay of one entry, before the floor. -/
def decayR (l x : ℝ) : ℝ := l + (1 - l) * logi x

/-- The summed logarithms of the decays of one column, down to a row. -/
def sumLog (l : ℝ) (x : Fin 64 → ℝ) (t : Fin 64) : ℝ := ∑ s, if s ≤ t then Real.log (max (decayR l (x s)) least) else 0

theorem decayR_le_one {l : ℝ} (h : l ≤ 1) (x : ℝ) : decayR l x ≤ 1 := by
  unfold decayR; nlinarith [logi_le_one x, logi_pos x]

/-- The summed logarithms fall from row to row. -/
theorem sumLog_anti {l : ℝ} (h : l ≤ 1) (x : Fin 64 → ℝ) {s t : Fin 64} (hst : s ≤ t) : sumLog l x t ≤ sumLog l x s := by
  unfold sumLog
  refine Finset.sum_le_sum fun r _ => ?_
  have hl : Real.log (max (decayR l (x r)) least) ≤ 0 :=
    Real.log_nonpos (le_max_of_le_right least_pos.le) (max_le (decayR_le_one h _) least_le_one)
  by_cases hr : r ≤ s
  · rw [if_pos hr, if_pos (hr.trans hst)]
  · rw [if_neg hr]; split_ifs
    · exact hl
    · exact le_rfl

/-- The head of a column. -/
def headOf (c : Fin 1024) : Fin 8 := ⟨c.val / 128, by omega⟩
/-- A column's place within its head. -/
def laneOf (c : Fin 1024) : Fin 128 := ⟨c.val % 128, by omega⟩
/-- A head's column. -/
def colOf (h : Fin 8) (k : Fin 128) : Fin 1024 := ⟨128 * h.val + k.val, by omega⟩

theorem headOf_colOf (h : Fin 8) (k : Fin 128) : headOf (colOf h k) = h := by ext; simp only [headOf, colOf]; omega
theorem laneOf_colOf (h : Fin 8) (k : Fin 128) : laneOf (colOf h k) = k := by ext; simp only [laneOf, colOf]; omega
theorem colOf_head_lane (c : Fin 1024) : colOf (headOf c) (laneOf c) = c := by ext; simp only [headOf, laneOf, colOf]; omega

theorem cols_mat (f : Fin 64 → Fin 1024 → ℝ) (h : Fin 8) : cols (mat (φ := .f32) f) h = mat fun t k => f t (colOf h k) := by
  apply eq_mat; intro t k
  fin_cases h <;> (pointwise [cols]; exact congrArg (fun c => ((f t c : ℝ) : EReal)) (Fin.ext (by simp [colOf])))

theorem beside_mat (f : Fin 8 → Fin 64 → Fin 128 → ℝ) : beside (fun h => mat (f h)) = mat fun t (c : Fin 1024) => f (headOf c) t (laneOf c) := by
  apply eq_mat; intro t c
  exact concatenate_ofFn_apply (t := S64x1024) 1 (fun h : Fin 8 => (mat (φ := .f32) (f h))) _ rfl 128 rfl (ix2 t (c : Fin 1024)) (headOf c) rfl (ix2 t (laneOf c)) rfl
    (fun b hb => by fin_cases b; · rfl
                    · exact absurd rfl hb)

theorem besideRow_mat (f : Fin 8 → Fin 1 → Fin 128 → ℝ) : besideRow (fun h => mat (f h)) = mat fun t (c : Fin 1024) => f (headOf c) t (laneOf c) := by
  apply eq_mat; intro t c
  exact concatenate_ofFn_apply (t := S1x1024) 1 (fun h : Fin 8 => (mat (φ := .f32) (f h))) _ rfl 128 rfl (ix2 t (c : Fin 1024)) (headOf c) rfl (ix2 t (laneOf c)) rfl
    (fun b hb => by fin_cases b; · rfl
                    · exact absurd rfl hb)

section

variable (lb : Fin 1 → Fin 1024 → ℝ) (xq xg : Fin 64 → Fin 1024 → ℝ)

theorem sigQ_mat : k0_pay6 (mat (φ := .f32) xq) = (mat fun t c => logi (xq t c) : FVec Ideal S64x1024 .f32) := by
  apply eq_mat; intro t c; pointwise [k0_pay6]
  rw [mat_at, half_eq, ← EReal.coe_mul, Ideal.tanh_coe, ← EReal.coe_mul, ← EReal.coe_add, logi_tanh]

theorem q_mat : k0_pay7 (mat (φ := .f32) xq) = (mat fun t c => xq t c * logi (xq t c) : FVec Ideal S64x1024 .f32) := by
  unfold k0_pay7; dsimp only; rw [sigQ_mat, mulf_mat]

theorem ofAbs_mat : k0_pay8 (mat (φ := .f32) xg) = (mat fun t c => Real.exp (0 - |xg t c|) : FVec Ideal S64x1024 .f32) := by
  unfold k0_pay8; dsimp only; rw [absf_mat]
  apply eq_mat; intro t c; pointwise []
  rw [mat_at, ← EReal.coe_zero, ← EReal.coe_sub, Ideal.exp_coe]

theorem large_mat : k0_pay9 (mat (φ := .f32) xg) = (mat fun t c => 1 / (1 + Real.exp (0 - |xg t c|)) : FVec Ideal S64x1024 .f32) := by
  unfold k0_pay9; dsimp only; rw [ofAbs_mat]
  apply eq_mat; intro t c; pointwise []
  rw [mat_at, ← EReal.coe_one, ← EReal.coe_add, Ideal.div_coe (one_add_exp_pos _).ne', ← EReal.coe_mul, one_mul]

/-- A choice by sign, of real numbers. -/
theorem choose_mat (x y z : Fin 64 → Fin 1024 → ℝ) :
    select (k0_pay10 (F := Ideal) (mat (φ := .f32) x)) (mat (φ := .f32) y) (mat z) = (mat fun t c => if 0 ≤ x t c then y t c else z t c : FVec Ideal S64x1024 .f32) := by
  apply eq_mat; intro t c; pointwise [k0_pay10]
  rw [mat_at, ← EReal.coe_zero]
  simp only [mat_at, EReal.coe_le_coe_iff]
  split_ifs <;> rfl

theorem logi_mat : k0_pay11 (mat (φ := .f32) xg) = (mat fun t c => logi (xg t c) : FVec Ideal S64x1024 .f32) := by
  unfold k0_pay11; dsimp only; rw [ofAbs_mat, large_mat, mulf_mat, choose_mat]
  congr 1; funext t c; split_ifs with h
  · exact logi_of_nonneg h
  · exact logi_of_neg (not_le.mp h)

theorem sigNeg_mat : k0_pay12 (mat (φ := .f32) xg) = (mat fun t c => logi (-xg t c) : FVec Ideal S64x1024 .f32) := by
  unfold k0_pay12; dsimp only; rw [ofAbs_mat, large_mat, mulf_mat, choose_mat]
  congr 1; funext t c; split_ifs with h
  · exact logi_neg_of_nonneg h
  · exact logi_neg_of_neg (not_le.mp h)

theorem rest_mat : k0_pay13 (mat (φ := .f32) lb) = (mat fun t c => 1 - lb t c : FVec Ideal S1x1024 .f32) := by
  unfold k0_pay13; dsimp only
  apply eq_mat; intro t c; pointwise []
  rw [mat_at, ← EReal.coe_one, ← EReal.coe_sub]

theorem down_mat (f : Fin 1 → Fin 1024 → ℝ) : broadcastTo S64x1024 (mat (φ := .f32) f) broadcasts_S1x1024_S64x1024 = (mat fun _ c => f 0 c : FVec Ideal S64x1024 .f32) := by
  apply eq_mat; intro t c; pointwise []; rfl

theorem decay_mat : k0_pay14 (mat (φ := .f32) lb) (mat (φ := .f32) xg) = (mat fun t c => decayR (lb 0 c) (xg t c) : FVec Ideal S64x1024 .f32) := by
  unfold k0_pay14; dsimp only; rw [rest_mat, logi_mat, down_mat, down_mat, mulf_mat, addf_mat]; rfl

theorem key_mat : k0_pay15 (mat (φ := .f32) lb) (mat (φ := .f32) xg) = (mat fun t c => (1 - lb 0 c) * logi (-xg t c) : FVec Ideal S64x1024 .f32) := by
  unfold k0_pay15; dsimp only; rw [rest_mat, sigNeg_mat, down_mat, mulf_mat]

theorem least_mat : broadcast S64x1024 (Scalar.ofBits .f32 0x0DA24260#32) = (mat fun _ _ => least : FVec Ideal S64x1024 .f32) := by
  apply eq_mat; intro t c; exact least_eq

theorem sumLog_mat : k0_pay16 k0_pay798 (mat (φ := .f32) lb) (mat (φ := .f32) xg) = (mat fun t c => sumLog (lb 0 c) (fun s => xg s c) t : FVec Ideal S64x1024 .f32) := by
  unfold k0_pay16; dsimp only; rw [decay_mat, least_mat, maximumf_mat, tril_mat]
  apply eq_mat; intro t c; pointwise []
  have hlog : ∀ s, Ideal.log ((max (decayR (lb 0 c) (xg s c)) least : ℝ) : EReal) = ((Real.log (max (decayR (lb 0 c) (xg s c)) least) : ℝ) : EReal) := fun s => by
    rw [Ideal.log_coe, if_neg (not_le.mpr (lt_of_lt_of_le least_pos (le_max_right _ _)))]
  simp only [mat_at, hlog, ← EReal.coe_mul, ← coe_sum]
  unfold sumLog; simp only [ite_mul, one_mul, zero_mul]

end

end Cert.KernelIdeal.Chunk

end
-- ==== Proof.ChunkReal.lean ====
module

public import proofs.«01_k».proof.Proof.Gates

/-! What one chunk of the kernel writes, on real numbers. -/

@[expose] public section

set_option maxRecDepth 16384

noncomputable section

namespace Cert.KernelIdeal.Chunk

open Cert.KernelIdeal Cert.KernelIdeal.Gen Cert.KernelIdeal.Head
open Idealize.ShloMosaic Idealize.ShloMosaic.TcCoe

section

variable (lb : Fin 1 → Fin 1024 → ℝ) (xq xg : Fin 64 → Fin 1024 → ℝ) (vv dov : Fin 8 → Fin 64 → Fin 128 → ℝ) (st ds : Fin 8 → Fin 128 → Fin 128 → ℝ)

/-- One head's queries. -/
def qH (h : Fin 8) (t : Fin 64) (k : Fin 128) : ℝ := xq t (colOf h k) * logi (xq t (colOf h k))
/-- One head's keys. -/
def kH (h : Fin 8) (t : Fin 64) (k : Fin 128) : ℝ := (1 - lb 0 (colOf h k)) * logi (-xg t (colOf h k))
/-- One head's summed logarithms of the decays. -/
def bH (h : Fin 8) (t : Fin 64) (k : Fin 128) : ℝ := sumLog (lb 0 (colOf h k)) (fun s => xg s (colOf h k)) t

/-- The gradient of the queries. -/
def dqH (h : Fin 8) : Fin 64 → Fin 128 → ℝ := dqR (kH lb xg h) (bH lb xg h) (vv h) (dov h) (st h)
/-- The gradient of the keys. -/
def dkH (h : Fin 8) : Fin 64 → Fin 128 → ℝ := dkR (qH xq h) (bH lb xg h) (vv h) (dov h) (ds h)
/-- The gradient of the values. -/
def dvH (h : Fin 8) : Fin 64 → Fin 128 → ℝ := dvR (qH xq h) (kH lb xg h) (bH lb xg h) (dov h) (ds h)
/-- The state after the chunk against its gradient. -/
def wH (h : Fin 8) (k : Fin 128) : ℝ :=
  ∑ v, (st h v k * Real.exp (bH lb xg h 63 k) + ∑ t, vv h t v * (kH lb xg h t k * Real.exp (bH lb xg h 63 k - bH lb xg h t k))) * ds h v k
/-- The gradient of the logarithms of the decays. -/
def dlogH (h : Fin 8) (t : Fin 64) (k : Fin 128) : ℝ :=
  (∑ s, if t ≤ s then qH xq h s k * dqH lb xg vv dov st h s k - kH lb xg h s k * dkH lb xq xg vv dov ds h s k else 0) + wH lb xg vv st ds h k
/-- The gradient of the decays less that of the keys. -/
def gateH (h : Fin 8) (t : Fin 64) (k : Fin 128) : ℝ :=
  (if least < decayR (lb 0 (colOf h k)) (xg t (colOf h k)) then dlogH lb xq xg vv dov st ds h t k / max (decayR (lb 0 (colOf h k)) (xg t (colOf h k))) least else 0)
    - dkH lb xq xg vv dov ds h t k
/-- The carried state gradient after the chunk. -/
def dsH (h : Fin 8) (v k : Fin 128) : ℝ :=
  ds h v k * Real.exp (bH lb xg h 63 k) + ∑ t, dov h t v * (qH xq h t k * Real.exp (bH lb xg h t k))

/-- What is written to `dq`. -/
def outDqR (t : Fin 64) (c : Fin 1024) : ℝ :=
  dqH lb xg vv dov st (headOf c) t (laneOf c) * (logi (xq t c) * (1 + xq t c * (1 - logi (xq t c))))
/-- What is written to `df`. -/
def outDfR (t : Fin 64) (c : Fin 1024) : ℝ :=
  (1 - lb 0 c) * (logi (xg t c) * logi (-xg t c)) * gateH lb xq xg vv dov st ds (headOf c) t (laneOf c)
/-- What is written to `dv`. -/
def outDvR (t : Fin 64) (c : Fin 1024) : ℝ := dvH lb xq xg dov ds (headOf c) t (laneOf c)
/-- What is added to the sum for `lb`. -/
def addDlbR (c : Fin 1024) : ℝ := ∑ t, logi (-xg t c) * gateH lb xq xg vv dov st ds (headOf c) t (laneOf c)

end

section

/-- The bits that mark a row's place in each halving, and the pairs of rows each halving takes. -/
abbrev m8 : FVec Ideal S64x64 .f32 := k0_pay1 k0_pay806 k0_pay807 k0_pay808 k0_pay809
abbrev m16 : FVec Ideal S64x64 .f32 := k0_pay805
abbrev m32 : FVec Ideal S64x64 .f32 := k0_pay803 k0_pay802 (Scalar.ofBits .f32 0x3F800000#32)

variable (lb : Fin 1 → Fin 1024 → ℝ) (xq xg : Fin 64 → Fin 1024 → ℝ) (vv dov : Fin 8 → Fin 64 → Fin 128 → ℝ) (st ds : Fin 8 → Fin 128 → Fin 128 → ℝ)

theorem q_cols (h : Fin 8) : q (mat (φ := .f32) xq) h = mat (qH xq h) := by
  unfold q; rw [q_mat, cols_mat]; rfl
theorem kk_cols (h : Fin 8) : kk (mat (φ := .f32) lb) (mat (φ := .f32) xg) h = mat (kH lb xg h) := by
  unfold kk; rw [key_mat, cols_mat]; rfl
theorem b_cols (h : Fin 8) : b k0_pay798 (mat (φ := .f32) lb) (mat (φ := .f32) xg) h = mat (bH lb xg h) := by
  unfold b; rw [sumLog_mat, cols_mat]; rfl

variable (hl : ∀ c, lb 0 c ≤ 1)
include hl

theorem bH_anti (h : Fin 8) (k : Fin 128) (s t : Fin 64) (hst : s ≤ t) : bH lb xg h t k ≤ bH lb xg h s k :=
  sumLog_anti (hl _) _ hst

theorem dqAll_mat : dqAll k0_pay798 k0_pay800 k0_pay801 m32 k0_pay804 m16 k0_pay806 m8 (mat (φ := .f32) lb) (mat (φ := .f32) xg) (fun h => mat (vv h)) (fun h => mat (dov h)) (fun h => mat (st h))
    = mat fun t c => dqH lb xg vv dov st (headOf c) t (laneOf c) := by
  unfold dqAll m32 m16 m8
  simp only [kk_cols, b_cols, far32, far16, far8]
  simp only [dq_mat (bH_anti lb xg hl _) places]
  rw [beside_mat]; rfl

theorem dkAll_mat : dkAll k0_pay798 k0_pay800 k0_pay801 m32 k0_pay804 m16 k0_pay806 m8 (mat (φ := .f32) lb) (mat (φ := .f32) xq) (mat (φ := .f32) xg) (fun h => mat (vv h)) (fun h => mat (dov h)) (fun h => mat (ds h))
    = mat fun t c => dkH lb xq xg vv dov ds (headOf c) t (laneOf c) := by
  unfold dkAll m32 m16 m8
  simp only [q_cols, b_cols, far32, far16, far8]
  simp only [dk_mat (bH_anti lb xg hl _) places]
  rw [beside_mat]; rfl

theorem dvAll_mat : dvAll k0_pay798 k0_pay800 k0_pay801 m32 k0_pay804 m16 k0_pay806 m8 (mat (φ := .f32) lb) (mat (φ := .f32) xq) (mat (φ := .f32) xg) (fun h => mat (dov h)) (fun h => mat (ds h))
    = mat fun t c => dvH lb xq xg dov ds (headOf c) t (laneOf c) := by
  unfold dvAll m32 m16 m8
  simp only [q_cols, kk_cols, b_cols, far32, far16, far8]
  simp only [dv_mat (bH_anti lb xg hl _) places]
  rw [beside_mat]; rfl

omit hl in
theorem wAll_mat : wAll k0_pay798 (mat (φ := .f32) lb) (mat (φ := .f32) xg) (fun h => mat (vv h)) (fun h => mat (st h)) (fun h => mat (ds h))
    = mat fun _ c => wH lb xg vv st ds (headOf c) (laneOf c) := by
  unfold wAll
  simp only [kk_cols, b_cols, carry_mat]
  rw [besideRow_mat]; rfl

theorem t1_mat : t1 k0_pay798 k0_pay799 k0_pay800 k0_pay801 m32 k0_pay804 m16 k0_pay806 m8 (mat (φ := .f32) lb) (mat (φ := .f32) xq) (mat (φ := .f32) xg) (fun h => mat (vv h)) (fun h => mat (dov h)) (fun h => mat (st h)) (fun h => mat (ds h))
    = mat fun t c => gateH lb xq xg vv dov st ds (headOf c) t (laneOf c) := by
  unfold t1 gateGrad
  rw [dqAll_mat _ _ _ _ _ hl, dkAll_mat _ _ _ _ _ _ hl, wAll_mat, decay_mat, q_mat, key_mat, least_mat, maximumf_mat, triu_mat, mulf_mat, mulf_mat, subf_mat, down_mat]
  apply eq_mat; intro t c; pointwise []
  have hm : ∀ s, max (decayR (lb 0 c) (xg s c)) least ≠ 0 := fun s => (lt_of_lt_of_le least_pos (le_max_right _ _)).ne'
  simp only [mat_at, ← EReal.coe_mul, ← coe_sum, ← EReal.coe_add, Ideal.div_coe (hm _), EReal.coe_lt_coe_iff, ← EReal.coe_zero]
  unfold gateH dlogH qH kH
  simp only [colOf_head_lane, ite_mul, one_mul, zero_mul]
  split_ifs
  · rw [← EReal.coe_sub, mul_one_div]
  · rw [← EReal.coe_sub]

theorem outDq_mat : outDq k0_pay798 k0_pay800 k0_pay801 m32 k0_pay804 m16 k0_pay806 m8 (mat (φ := .f32) lb) (mat (φ := .f32) xq) (mat (φ := .f32) xg) (fun h => mat (vv h)) (fun h => mat (dov h)) (fun h => mat (st h))
    = mat (outDqR lb xq xg vv dov st) := by
  unfold outDq k0_pay4; dsimp only
  rw [dqAll_mat _ _ _ _ _ hl, sigQ_mat]
  apply eq_mat; intro t c; pointwise []
  simp only [mat_at, ← EReal.coe_one, ← EReal.coe_sub, ← EReal.coe_mul, ← EReal.coe_add]; rfl

theorem outDf_mat : outDf k0_pay798 k0_pay799 k0_pay800 k0_pay801 m32 k0_pay804 m16 k0_pay806 m8 (mat (φ := .f32) lb) (mat (φ := .f32) xq) (mat (φ := .f32) xg) (fun h => mat (vv h)) (fun h => mat (dov h)) (fun h => mat (st h)) (fun h => mat (ds h))
    = mat (outDfR lb xq xg vv dov st ds) := by
  unfold outDf k0_pay3; dsimp only
  rw [t1_mat _ _ _ _ _ _ _ hl, logi_mat, sigNeg_mat, rest_mat, down_mat, mulf_mat, mulf_mat, mulf_mat]; rfl

theorem outDv_mat : outDv k0_pay798 k0_pay800 k0_pay801 m32 k0_pay804 m16 k0_pay806 m8 (mat (φ := .f32) lb) (mat (φ := .f32) xq) (mat (φ := .f32) xg) (fun h => mat (dov h)) (fun h => mat (ds h))
    = mat (outDvR lb xq xg dov ds) := by
  unfold outDv k0_pay5; dsimp only
  rw [dvAll_mat _ _ _ _ _ hl]; rfl

theorem outDlb_mat (old : Fin 1 → Fin 1024 → ℝ) : outDlb k0_pay798 k0_pay799 k0_pay800 k0_pay801 m32 k0_pay804 m16 k0_pay806 m8 (mat (φ := .f32) lb) (mat (φ := .f32) xq) (mat (φ := .f32) xg) (fun h => mat (vv h)) (fun h => mat (dov h)) (fun h => mat (st h)) (fun h => mat (ds h)) (mat (φ := .f32) old)
    = mat fun _ c => old 0 c + addDlbR lb xq xg vv dov st ds c := by
  unfold outDlb k0_pay2 k0_pay795; dsimp only
  rw [t1_mat _ _ _ _ _ _ _ hl, sigNeg_mat, mulf_mat]
  apply eq_mat; intro t c; pointwise []
  simp only [mat_at, ← coe_sum, ← EReal.coe_add]
  rw [Subsingleton.elim t 0]; rfl

omit hl in
theorem outDs_mat (h : Fin 8) (i : S1x128x128.Idx) : outDs k0_pay798 (mat (φ := .f32) lb) (mat (φ := .f32) xq) (mat (φ := .f32) xg) (fun h => mat (dov h)) (fun h => mat (ds h)) h i
    = ((dsH lb xq xg dov ds h (i 1) (i 2) : ℝ) : EReal) := by
  unfold outDs
  simp only [q_cols, b_cols, dst'_mat]
  obtain ⟨a, v, k, rfl⟩ : ∃ (a : Fin 1) (v k : Fin 128), i = ix3 a v k := ⟨i 0, i 1, i 2, eq_ix3 i⟩
  pointwise []
  rfl

end

end Cert.KernelIdeal.Chunk

end
-- ==== Proof.Chunks.lean ====
module

public import proofs.«01_k».proof.Proof.ChunkReal

/-! The whole call on real numbers: the chunks taken from the last to the first, with what is carried between them. -/

@[expose] public section

set_option maxRecDepth 16384

noncomputable section

namespace Cert.KernelIdeal.Chunk

open Cert.KernelIdeal Cert.KernelIdeal.Gen Cert.KernelIdeal.Head
open Idealize.ShloMosaic Idealize.ShloMosaic.TcCoe

/-- The call's inputs as real numbers. -/
structure Ins where
  q : Fin 8192 → Fin 1024 → ℝ
  f : Fin 8192 → Fin 1024 → ℝ
  v : Fin 8192 → Fin 1024 → ℝ
  d : Fin 8192 → Fin 1024 → ℝ
  s : Fin 128 → Fin 8 → Fin 128 → Fin 128 → ℝ
  lb : Fin 1 → Fin 1024 → ℝ

/-- Row `t` of chunk `n`. -/
def rowAt (n : Fin 128) (t : Fin 64) : Fin 8192 := ⟨64 * n.val + t.val, by omega⟩
/-- The chunk a row lies in. -/
def chunkOf (r : Fin 8192) : Fin 128 := ⟨r.val / 64, by omega⟩
/-- A row's place in its chunk. -/
def placeOf (r : Fin 8192) : Fin 64 := ⟨r.val % 64, Nat.mod_lt _ (by decide)⟩

theorem rowAt_chunk_place (r : Fin 8192) : rowAt (chunkOf r) (placeOf r) = r := Fin.ext (Nat.div_add_mod _ _)
theorem chunkOf_rowAt (n : Fin 128) (t : Fin 64) : chunkOf (rowAt n t) = n := by ext; simp only [chunkOf, rowAt]; omega
theorem placeOf_rowAt (n : Fin 128) (t : Fin 64) : placeOf (rowAt n t) = t := by ext; simp only [placeOf, rowAt]; omega

/-- The chunk taken at step `j`. -/
def nth (j : ℕ) : Fin 128 := ⟨127 - j, by omega⟩

namespace Ins

variable (I : Ins)

/-- The raw queries of a chunk. -/
def xq (n : Fin 128) (t : Fin 64) (c : Fin 1024) : ℝ := I.q (rowAt n t) c
/-- The raw gates of a chunk. -/
def xg (n : Fin 128) (t : Fin 64) (c : Fin 1024) : ℝ := I.f (rowAt n t) c
/-- The values of a chunk, by head. -/
def vv (n : Fin 128) (h : Fin 8) (t : Fin 64) (k : Fin 128) : ℝ := I.v (rowAt n t) (colOf h k)
/-- The gradient of a chunk's output, by head. -/
def dov (n : Fin 128) (h : Fin 8) (t : Fin 64) (k : Fin 128) : ℝ := I.d (rowAt n t) (colOf h k)

/-- The state gradient carried into step `j`. -/
def carried : ℕ → Fin 8 → Fin 128 → Fin 128 → ℝ
  | 0 => fun _ _ _ => 0
  | j + 1 => fun h => dsH I.lb (I.xq (nth j)) (I.xg (nth j)) (I.dov (nth j)) (carried j) h

/-- What the steps before step `j` have summed for `lb`. -/
def lbSum : ℕ → Fin 1024 → ℝ
  | 0 => fun _ => 0
  | j + 1 => fun c => lbSum j c + addDlbR I.lb (I.xq (nth j)) (I.xg (nth j)) (I.vv (nth j)) (I.dov (nth j)) (I.s (nth j)) (I.carried j) c

/-- The gradient of the raw queries. -/
def dq (j : ℕ) : Fin 64 → Fin 1024 → ℝ := outDqR I.lb (I.xq (nth j)) (I.xg (nth j)) (I.vv (nth j)) (I.dov (nth j)) (I.s (nth j))
/-- The gradient of the raw gates. -/
def df (j : ℕ) : Fin 64 → Fin 1024 → ℝ := outDfR I.lb (I.xq (nth j)) (I.xg (nth j)) (I.vv (nth j)) (I.dov (nth j)) (I.s (nth j)) (I.carried j)
/-- The gradient of the values. -/
def dv (j : ℕ) : Fin 64 → Fin 1024 → ℝ := outDvR I.lb (I.xq (nth j)) (I.xg (nth j)) (I.dov (nth j)) (I.carried j)

/-- That arrays hold these inputs, that `lb` is at most one and that no decay sits at the floor. -/
structure Held (a0 : FVec Ideal S8192x10240 .f32) (a1 : FVec Ideal S8192x1024 .f32) (a2 : FVec Ideal S128x8x128x128 .f32) (a3 : FVec Ideal S1x1024 .f32) : Prop where
  q : ∀ r (c : Fin 1024), a0 (ix2 r ⟨c.val, by omega⟩) = ((I.q r c : ℝ) : EReal)
  f : ∀ r (c : Fin 1024), a0 (ix2 r ⟨1024 + c.val, by omega⟩) = ((I.f r c : ℝ) : EReal)
  v : ∀ r (c : Fin 1024), a0 (ix2 r ⟨2048 + c.val, by omega⟩) = ((I.v r c : ℝ) : EReal)
  d : ∀ r c, a1 (ix2 r c) = ((I.d r c : ℝ) : EReal)
  s : ∀ n h v k, a2 (ix4 n h v k) = ((I.s n h v k : ℝ) : EReal)
  lb : a3 = mat I.lb
  le : ∀ c, I.lb 0 c ≤ 1
  ne : ∀ r c, decayR (I.lb 0 c) (I.f r c) ≠ least

end Ins

end Cert.KernelIdeal.Chunk

end
-- ==== Proof.RefGates.lean ====
module

public import proofs.«01_k».proof.Proof.Gen.ReferenceIdeal.Run
public import proofs.«01_k».proof.Proof.ChunkReal

/-! One step of the reference, on real numbers: the gates and the running sums. -/

@[expose] public section

set_option maxRecDepth 16384

noncomputable section

namespace Cert.ReferenceIdeal.Step

open Cert.ReferenceIdeal Cert.ReferenceIdeal.Gen Cert.ReferenceIdeal.Value
open Cert.KernelIdeal.Head Cert.KernelIdeal.Chunk
open Idealize.ShloMosaic Idealize.ShloMosaic.TcCoe

/-- An array of real numbers with three axes. -/
def cube {a b c : ℕ} {φ : FTy} (f : Fin a → Fin b → Fin c → ℝ) : FVec Ideal ⟨3, ![a, b, c]⟩ φ := fun i => ((f (i 0) (i 1) (i 2) : ℝ) : EReal)
/-- An array of real numbers with four axes. -/
def tens {a b c d : ℕ} {φ : FTy} (f : Fin a → Fin b → Fin c → Fin d → ℝ) : FVec Ideal ⟨4, ![a, b, c, d]⟩ φ := fun i => ((f (i 0) (i 1) (i 2) (i 3) : ℝ) : EReal)
/-- A row of real numbers. -/
def vec {a : ℕ} {φ : FTy} (f : Fin a → ℝ) : FVec Ideal ⟨1, ![a]⟩ φ := fun i => ((f (i 0) : ℝ) : EReal)

theorem cube_at {a b c : ℕ} {φ : FTy} (f : Fin a → Fin b → Fin c → ℝ) (h : Fin a) (t : Fin b) (k : Fin c) :
    (cube (φ := φ) f) (ix3 h t k) = ((f h t k : ℝ) : EReal) := rfl
theorem tens_at {a b c d : ℕ} {φ : FTy} (f : Fin a → Fin b → Fin c → Fin d → ℝ) (h : Fin a) (t : Fin b) (s : Fin c) (k : Fin d) :
    (tens (φ := φ) f) (ix4 h t s k) = ((f h t s k : ℝ) : EReal) := rfl
theorem vec_at {a : ℕ} {φ : FTy} (f : Fin a → ℝ) (h : Fin a) : (vec (φ := φ) f) (ix1 h) = ((f h : ℝ) : EReal) := rfl

theorem eq_cube {a b c : ℕ} {φ : FTy} {x : FVec Ideal ⟨3, ![a, b, c]⟩ φ} {f : Fin a → Fin b → Fin c → ℝ}
    (h : ∀ i t k, x (ix3 i t k) = ((f i t k : ℝ) : EReal)) : x = cube f := by
  funext i; rw [eq_ix3 i]; exact h _ _ _
theorem eq_tens {a b c d : ℕ} {φ : FTy} {x : FVec Ideal ⟨4, ![a, b, c, d]⟩ φ} {f : Fin a → Fin b → Fin c → Fin d → ℝ}
    (h : ∀ i t s k, x (ix4 i t s k) = ((f i t s k : ℝ) : EReal)) : x = tens f := by
  funext i; rw [eq_ix4 i]; exact h _ _ _ _
theorem eq_vec {a : ℕ} {φ : FTy} {x : FVec Ideal ⟨1, ![a]⟩ φ} {f : Fin a → ℝ}
    (h : ∀ i, x (ix1 i) = ((f i : ℝ) : EReal)) : x = vec f := by
  funext i; rw [eq_ix1 i]; exact h _

theorem logistic_at (x : ℝ) : Ideal.div 1 (1 + Ideal.exp (-(x : EReal))) = ((logi x : ℝ) : EReal) := by
  rw [← EReal.coe_neg, Ideal.exp_coe, ← EReal.coe_one, ← EReal.coe_add, Ideal.div_coe (one_add_exp_pos _).ne', ← EReal.coe_mul, one_mul]; rfl

/-- The columns of a matrix as eight heads. -/
theorem heads_mat (f : Fin 64 → Fin 1024 → ℝ) :
    transpose S8x64x128 [1, 0, 2] (shapeCast S64x8x128 (mat (φ := .f32) f) shapeCasts_S64x1024_S64x8x128) transposes_S64x8x128_S8x64x128_1_0_2
      = cube (φ := .f32) fun h t k => f t (colOf h k) := by
  apply eq_cube; intro h t k; pointwise []
  exact congrArg (fun c => ((f t c : ℝ) : EReal)) (Fin.ext (by simp [colOf, mul_comm]))

/-- Eight heads as the columns of a matrix. -/
theorem joined_cube (f : Fin 8 → Fin 64 → Fin 128 → ℝ) :
    shapeCast S64x1024 (transpose S64x8x128 [1, 0, 2] (cube (φ := .f32) f) transposes_S8x64x128_S64x8x128_1_0_2) shapeCasts_S64x8x128_S64x1024
      = mat (φ := .f32) fun t c => f (headOf c) t (laneOf c) := by
  apply eq_mat; intro t c; pointwise []; rfl

/-- A left fold of additions is a sum. -/
theorem foldl_add {n : ℕ} (g : Fin n → EReal) (v : EReal) : (List.finRange n).foldl (fun r i => r + g i) v = v + ∑ i, g i := by
  have h : ∀ (l : List (Fin n)) (v : EReal), l.foldl (fun r i => r + g i) v = v + (l.map g).sum := by
    intro l; induction l with
    | nil => intro v; simp
    | cons a l ih => intro v; rw [List.foldl_cons, ih, List.map_cons, List.sum_cons, add_assoc]
  rw [h, Fin.sum_univ_def]

theorem windowPlace : ∀ n : Fin 64, ((⟨3, ![1, 64, 1]⟩ : Shape).rowMajor.symm n 0).val = 0 ∧ ((⟨3, ![1, 64, 1]⟩ : Shape).rowMajor.symm n 1).val = n.val
    ∧ ((⟨3, ![1, 64, 1]⟩ : Shape).rowMajor.symm n 2).val = 0 := by decide +kernel

/-- A sum over windows along the rows. -/
theorem window_at {lo hi : ℕ} (f : Fin 8 → Fin 64 → Fin 128 → ℝ) (init : S_.Idx → Ideal .f32) (hi0 : init (Shape.Idx.first h_S_) = 0)
    (w : S8x64x128.ReduceWindows ![1, 64, 1] ![1, 1, 1] ![0, lo, 0] ![0, hi, 0] S8x64x128) (a : Fin 8) (t : Fin 64) (k : Fin 128) :
    Host.reduceWindowAdd ![1, 64, 1] ![1, 1, 1] ![0, lo, 0] ![0, hi, 0] (cube (φ := .f32) f) init w h_S_ (ix3 a t k)
      = ((∑ n : Fin 64, if hn : lo ≤ t.val + n.val ∧ t.val + n.val - lo < 64 then f a ⟨t.val + n.val - lo, hn.2⟩ k else 0 : ℝ) : EReal) := by
  unfold Host.reduceWindowAdd
  rw [hi0, coe_sum]
  show Ideal.hostReduceWindowAdd _ _ _ _ _ _ _ _ = _
  unfold Ideal.hostReduceWindowAdd Host.reduceWindow
  dsimp only
  refine (foldl_add _ _).trans ?_
  rw [zero_add]
  show ∑ n : Fin 64, _ = _
  refine Finset.sum_congr rfl fun n _ => ?_
  obtain ⟨h0, h1, h2⟩ := windowPlace n
  have ha := a.isLt
  have hk := k.isLt
  by_cases hn : lo ≤ t.val + n.val ∧ t.val + n.val - lo < 64
  · rw [dif_pos hn]
    have hin : ∀ b : Fin 3, (![0, lo, 0] : Fin 3 → ℕ) b ≤ ((ix3 a t k : S8x64x128.Idx) b).val * (![1, 1, 1] : Fin 3 → ℕ) b + ((⟨3, ![1, 64, 1]⟩ : Shape).rowMajor.symm n b).val
        ∧ ((ix3 a t k : S8x64x128.Idx) b).val * (![1, 1, 1] : Fin 3 → ℕ) b + ((⟨3, ![1, 64, 1]⟩ : Shape).rowMajor.symm n b).val - (![0, lo, 0] : Fin 3 → ℕ) b < S8x64x128.size b := by
      intro b
      fin_cases b
      · show 0 ≤ a.val * 1 + _ ∧ a.val * 1 + _ - 0 < 8
        rw [show ((⟨3, ![1, 64, 1]⟩ : Shape).rowMajor.symm n ⟨0, by decide⟩).val = 0 from h0]; omega
      · show lo ≤ t.val * 1 + _ ∧ t.val * 1 + _ - lo < 64
        rw [show ((⟨3, ![1, 64, 1]⟩ : Shape).rowMajor.symm n ⟨1, by decide⟩).val = n.val from h1]; omega
      · show 0 ≤ k.val * 1 + _ ∧ k.val * 1 + _ - 0 < 128
        rw [show ((⟨3, ![1, 64, 1]⟩ : Shape).rowMajor.symm n ⟨2, by decide⟩).val = 0 from h2]; omega
    refine (dif_pos hin).trans ?_
    show ((f _ _ _ : ℝ) : EReal) = _
    refine congrArg Real.toEReal (congr (congr (congrArg f (Fin.ext ?_)) (Fin.ext ?_)) (Fin.ext ?_))
    · show a.val * 1 + ((⟨3, ![1, 64, 1]⟩ : Shape).rowMajor.symm n 0).val - 0 = a.val
      rw [h0]; omega
    · show t.val * 1 + ((⟨3, ![1, 64, 1]⟩ : Shape).rowMajor.symm n 1).val - lo = t.val + n.val - lo
      rw [h1]; omega
    · show k.val * 1 + ((⟨3, ![1, 64, 1]⟩ : Shape).rowMajor.symm n 2).val - 0 = k.val
      rw [h2]; omega
  · rw [dif_neg hn]
    refine dif_neg fun hin => hn ?_
    have := hin 1
    change lo ≤ t.val * 1 + ((⟨3, ![1, 64, 1]⟩ : Shape).rowMajor.symm n 1).val ∧ t.val * 1 + ((⟨3, ![1, 64, 1]⟩ : Shape).rowMajor.symm n 1).val - lo < 64 at this
    rw [h1] at this; omega

/-- The sums down to each row. -/
theorem window_down (f : Fin 64 → ℝ) (t : Fin 64) :
    (∑ n : Fin 64, if hn : 63 ≤ t.val + n.val ∧ t.val + n.val - 63 < 64 then f ⟨t.val + n.val - 63, hn.2⟩ else 0) = ∑ s, if s ≤ t then f s else 0 := by
  rw [← Finset.sum_filter, ← Finset.sum_filter_add_sum_filter_not Finset.univ (fun n : Fin 64 => 63 ≤ t.val + n.val)]
  rw [Finset.sum_eq_zero (s := Finset.univ.filter fun n : Fin 64 => ¬63 ≤ t.val + n.val) (fun n hn => dif_neg fun h => (Finset.mem_filter.mp hn).2 h.1), add_zero]
  have ht := t.isLt
  refine Finset.sum_bij' (fun n _ => (⟨t.val + n.val - 63, by omega⟩ : Fin 64)) (fun s hs => (⟨s.val + 63 - t.val, by have : s.val ≤ t.val := (Finset.mem_filter.mp hs).2; omega⟩ : Fin 64)) ?_ ?_ ?_ ?_ ?_
  · intro n hn; have := n.isLt; exact Finset.mem_filter.mpr ⟨Finset.mem_univ _, show t.val + n.val - 63 ≤ t.val by omega⟩
  · intro s hs; have : s.val ≤ t.val := (Finset.mem_filter.mp hs).2
    exact Finset.mem_filter.mpr ⟨Finset.mem_univ _, show 63 ≤ t.val + (s.val + 63 - t.val) by omega⟩
  · intro n hn; have : 63 ≤ t.val + n.val := (Finset.mem_filter.mp hn).2
    exact Fin.ext (show t.val + n.val - 63 + 63 - t.val = n.val by omega)
  · intro s hs; have : s.val ≤ t.val := (Finset.mem_filter.mp hs).2
    exact Fin.ext (show t.val + (s.val + 63 - t.val) - 63 = s.val by omega)
  · intro n hn; have : 63 ≤ t.val + n.val := (Finset.mem_filter.mp hn).2
    exact dif_pos ⟨this, by omega⟩

/-- The sums up from each row. -/
theorem window_up (f : Fin 64 → ℝ) (t : Fin 64) :
    (∑ n : Fin 64, if hn : 0 ≤ t.val + n.val ∧ t.val + n.val - 0 < 64 then f ⟨t.val + n.val - 0, hn.2⟩ else 0) = ∑ s, if t ≤ s then f s else 0 := by
  rw [← Finset.sum_filter, ← Finset.sum_filter_add_sum_filter_not Finset.univ (fun n : Fin 64 => t.val + n.val < 64)]
  rw [Finset.sum_eq_zero (s := Finset.univ.filter fun n : Fin 64 => ¬t.val + n.val < 64) (fun n hn => dif_neg fun h => (Finset.mem_filter.mp hn).2 h.2), add_zero]
  have ht := t.isLt
  refine Finset.sum_bij' (fun n hn => (⟨t.val + n.val, (Finset.mem_filter.mp hn).2⟩ : Fin 64)) (fun s _ => (⟨s.val - t.val, by omega⟩ : Fin 64)) ?_ ?_ ?_ ?_ ?_
  · intro n hn; exact Finset.mem_filter.mpr ⟨Finset.mem_univ _, show t.val ≤ t.val + n.val by omega⟩
  · intro s hs; have : t.val ≤ s.val := (Finset.mem_filter.mp hs).2
    exact Finset.mem_filter.mpr ⟨Finset.mem_univ _, show t.val + (s.val - t.val) < 64 by omega⟩
  · intro n hn; exact Fin.ext (show t.val + n.val - t.val = n.val by omega)
  · intro s hs; have : t.val ≤ s.val := (Finset.mem_filter.mp hs).2
    exact Fin.ext (show t.val + (s.val - t.val) = s.val by omega)
  · intro n hn; exact dif_pos ⟨Nat.zero_le _, (Finset.mem_filter.mp hn).2⟩

/-- The initial value of the sums. -/
theorem init_zero : (broadcastInDim S_ ![] bcast_S_S_ (constant S_ .f32 0x00000000#32) : FVec Ideal S_ .f32) (Shape.Idx.first h_S_) = 0 := by
  pointwise []

/-- What one step of the reference reads, as real numbers. -/
structure Reads (V0 : Valuation τ sig (Elt Ideal)) (lb : Fin 1 → Fin 1024 → ℝ) (xq xg : Fin 64 → Fin 1024 → ℝ) (vv dov : Fin 8 → Fin 64 → Fin 128 → ℝ)
    (st ds : Fin 8 → Fin 128 → Fin 128 → ℝ) : Prop where
  lb : res_main_while0b_v28 V0 = vec (φ := .f32) (lb 0)
  q : res_main_while0b_v24 V0 = mat (φ := .f32) xq
  g : res_main_while0b_v25 V0 = mat (φ := .f32) xg
  v : res_main_while0b_v79 V0 = cube (φ := .f32) vv
  d : res_main_while0b_v124 V0 = cube (φ := .f32) dov
  s : res_main_while0b_v23 V0 = cube (φ := .f32) fun h k v => st h v k
  c : (V0 (Proc.devRef .tc main_v13_7) : FVec Ideal S8x128x128 .f32) = cube (φ := .f32) fun h k v => ds h v k

section

variable {V0 : Valuation τ sig (Elt Ideal)} {lb : Fin 1 → Fin 1024 → ℝ} {xq xg : Fin 64 → Fin 1024 → ℝ} {vv dov : Fin 8 → Fin 64 → Fin 128 → ℝ} {st ds : Fin 8 → Fin 128 → Fin 128 → ℝ}
variable (R : Reads V0 lb xq xg vv dov st ds)
include R

theorem sigQ : res_main_while0b_v29_2 V0 = (mat fun t c => logi (xq t c) : FVec Ideal S64x1024 .f32) := by
  unfold res_main_while0b_v29_2; rw [R.q]
  apply eq_mat; intro t c; pointwise []
  rw [mat_at]; exact logistic_at _

theorem sigF : res_main_while0b_v37 V0 = (mat fun t c => logi (xg t c) : FVec Ideal S64x1024 .f32) := by
  unfold res_main_while0b_v37; rw [R.g]
  apply eq_mat; intro t c; pointwise []
  rw [mat_at]; exact logistic_at _

theorem sigNegF : res_main_while0b_v67 V0 = (mat fun t c => logi (-xg t c) : FVec Ideal S64x1024 .f32) := by
  unfold res_main_while0b_v67; rw [R.g]
  apply eq_mat; intro t c; pointwise []
  rw [mat_at, ← EReal.coe_neg]; exact logistic_at _

theorem rest : res_main_while0b_v41 V0 = (mat fun _ c => 1 - lb 0 c : FVec Ideal S1x1024 .f32) := by
  unfold res_main_while0b_v41; rw [R.lb]
  apply eq_mat; intro t c; pointwise []
  rw [vec_at, ← EReal.coe_one, ← EReal.coe_sub]

theorem rest' : res_main_while0b_v71 V0 = (mat fun _ c => 1 - lb 0 c : FVec Ideal S1x1024 .f32) := rest R

theorem decay : res_main_while0b_v46 V0 = (mat fun t c => decayR (lb 0 c) (xg t c) : FVec Ideal S64x1024 .f32) := by
  unfold res_main_while0b_v46; rw [R.lb, rest R, sigF R]
  apply eq_mat; intro t c; pointwise []
  simp only [vec_at, mat_at, ← EReal.coe_mul, ← EReal.coe_add]; rfl

theorem floored : res_main_while0b_v48 V0 = (mat fun t c => max (decayR (lb 0 c) (xg t c)) least : FVec Ideal S64x1024 .f32) := by
  unfold res_main_while0b_v48; rw [decay R]
  apply eq_mat; intro t c; pointwise []
  rw [mat_at, show Ideal.ofBits .f32 0x0DA24260#32 = _ from least_eq, coe_max]

theorem queries : res_main_while0b_v75 V0 = (cube (qH xq) : FVec Ideal S8x64x128 .f32) := by
  unfold res_main_while0b_v75; rw [R.q, sigQ R, mulf_mat]
  rw [heads_mat]; rfl

theorem keys : res_main_while0b_v77 V0 = (cube (kH lb xg) : FVec Ideal S8x64x128 .f32) := by
  unfold res_main_while0b_v77; rw [rest' R, sigNegF R]
  have e : mulf (broadcastInDim S64x1024 ![0, 1] bcast_S1x1024_S64x1024_0_1 (mat (φ := .f32) fun _ c => 1 - lb 0 c)) (mat fun t c => logi (-xg t c))
      = mat (φ := .f32) fun t c => (1 - lb 0 c) * logi (-xg t c) := by
    apply eq_mat; intro t c; pointwise []
    simp only [mat_at, ← EReal.coe_mul]
  rw [e, heads_mat]; rfl

theorem sums : res_main_while0b_v86 V0 = (cube (bH lb xg) : FVec Ideal S8x64x128 .f32) := by
  unfold res_main_while0b_v86; rw [floored R]
  have e : Host.log (mat (φ := .f32) fun t c => max (decayR (lb 0 c) (xg t c)) least) = mat (φ := .f32) fun t c => Real.log (max (decayR (lb 0 c) (xg t c)) least) := by
    apply eq_mat; intro t c; pointwise []
    rw [mat_at, Ideal.log_coe, if_neg (not_le.mpr (lt_of_lt_of_le least_pos (le_max_right _ _)))]
  rw [e, heads_mat]
  apply eq_cube; intro h t k
  rw [window_at _ _ init_zero, window_down (fun s => Real.log (max (decayR (lb 0 (colOf h k)) (xg s (colOf h k))) least))]; rfl

end

end Cert.ReferenceIdeal.Step

end
-- ==== Proof.Inputs.lean ====
module

public import proofs.«01_k».proof.Pre_inputs_are_real
public import proofs.«01_k».proof.Proof.Chunks
public import proofs.«01_k».proof.Proof.RefGates

/-! What the precondition says of the inputs: they are real numbers. -/

@[expose] public section

set_option maxRecDepth 16384

noncomputable section

namespace Cert.Pre_inputs_are_real

open Idealize.ShloMosaic
open Cert.KernelIdeal.Chunk Cert.KernelIdeal.Head

/-- The side conditions of the precondition's operations. -/
theorem facts : Facts where
  bcast_S_S1x1024 := by decide
  slices_S8192x10240_S8192x1024_0_1024 := by decide
  bcast_S_S8192x1024 := by decide
  bcast_S1x1024_S8192x1024_0_1 := by decide
  slices_S8192x10240_S8192x3072_0_0 := by decide
  bcast_S_S8192x3072 := by decide
  bcast_S_S128x8x128x128 := by decide

attribute [local instance] facts

/-- A number whose absolute value is below infinity is real. -/
theorem real_of_lt {x : EReal} (h : BitVec.ofBool (decide ((max x (-x) : EReal) < Ideal.ofBits .f32 0x7F800000#32)) = 1#1) :
    x = ((x.toReal : ℝ) : EReal) := by
  have htop : Ideal.ofBits .f32 0x7F800000#32 = ⊤ := by simp [Ideal.ofBits, Ideal.ieee]
  rw [htop] at h
  have h' : max x (-x) < ⊤ := by
    by_contra hn
    rw [decide_eq_false hn] at h
    exact absurd h (by decide)
  refine (EReal.coe_toReal (fun e => ?_) (fun e => ?_)).symm <;> subst e <;> simp at h'

/-- A comparison that answers one holds. -/
theorem of_ofBool {p : Prop} [Decidable p] (h : BitVec.ofBool (decide p) = 1#1) : p := by
  by_contra hn
  rw [decide_eq_false hn] at h
  exact absurd h (by decide)

variable {a0 : FVec Ideal S8192x10240 .f32} {a1 : FVec Ideal S8192x1024 .f32} {a2 : FVec Ideal S128x8x128x128 .f32} {a3 : FVec Ideal S1x1024 .f32}

/-- The first three blocks of columns of the projections are real. -/
theorem real0 (h : (fn a0 a1 a2 a3).1 = fun _ => 1#1) (r : Fin 8192) (k : Fin 3072) :
    a0 (ix2 r ⟨k.val, by omega⟩) = ((a0 (ix2 r ⟨k.val, by omega⟩) : EReal).toReal : EReal) := by
  have := congrFun h (ix2 r k)
  unfold fn fn_part1 at this; dsimp only at this
  pointwise [] at this
  exact real_of_lt this

/-- The output's gradient is real. -/
theorem real1 (h : (fn a0 a1 a2 a3).2.1 = fun _ => 1#1) (r : Fin 8192) (k : Fin 1024) :
    a1 (ix2 r k) = ((a1 (ix2 r k) : EReal).toReal : EReal) := by
  have := congrFun h (ix2 r k)
  unfold fn fn_part1 at this; dsimp only at this
  pointwise [] at this
  exact real_of_lt this

/-- The saved states are real. -/
theorem real2 (h : (fn a0 a1 a2 a3).2.2.1 = fun _ => 1#1) (n : Fin 128) (e : Fin 8) (v k : Fin 128) :
    a2 (ix4 n e v k) = ((a2 (ix4 n e v k) : EReal).toReal : EReal) := by
  have := congrFun h (ix4 n e v k)
  unfold fn fn_part1 at this; dsimp only at this
  pointwise [] at this
  exact real_of_lt this

/-- The lower bounds are real. -/
theorem real3 (h : (fn a0 a1 a2 a3).2.2.2.1 = fun _ => 1#1) (r : Fin 1) (k : Fin 1024) :
    a3 (ix2 r k) = ((a3 (ix2 r k) : EReal).toReal : EReal) := by
  have := congrFun h (ix2 r k)
  unfold fn fn_part1 at this; dsimp only at this
  pointwise [] at this
  exact real_of_lt this

/-- The lower bounds are at most one. -/
theorem le_one (h : (fn a0 a1 a2 a3).2.2.2.2.1 = fun _ => 1#1) (r : Fin 1) (k : Fin 1024) : (a3 (ix2 r k) : EReal) ≤ 1 := by
  have := congrFun h (ix2 r k)
  unfold fn fn_part1 at this; dsimp only at this
  pointwise [] at this
  exact of_ofBool this

/-- No decay is the floor. -/
theorem ne_least (h : (fn a0 a1 a2 a3).2.2.2.2.2 = fun _ => 1#1) (r : Fin 8192) (k : Fin 1024) :
    (a3 (ix2 0 k) : EReal) + (1 - a3 (ix2 0 k)) * Ideal.div 1 (1 + Ideal.exp (-(a0 (ix2 r ⟨1024 + k.val, by omega⟩) : EReal)))
      ≠ Ideal.ofBits .f32 0x0DA24260#32 := by
  have := congrFun h (ix2 r k)
  unfold fn fn_part1 at this; dsimp only at this
  pointwise [] at this
  exact of_ofBool this

variable (a0 a1 a2 a3) in
/-- The real numbers that the arrays hold. -/
def ins : Ins where
  q r c := (a0 (ix2 r ⟨c.val, by omega⟩) : EReal).toReal
  f r c := (a0 (ix2 r ⟨1024 + c.val, by omega⟩) : EReal).toReal
  v r c := (a0 (ix2 r ⟨2048 + c.val, by omega⟩) : EReal).toReal
  d r c := (a1 (ix2 r c) : EReal).toReal
  s n h v k := (a2 (ix4 n h v k) : EReal).toReal
  lb r c := (a3 (ix2 r c) : EReal).toReal

/-- Where the precondition answers one throughout, the arrays hold real numbers as the gradients need them. -/
theorem held (h : (fn a0 a1 a2 a3).1 = (fun _ => 1#1) ∧ (fn a0 a1 a2 a3).2.1 = (fun _ => 1#1) ∧ (fn a0 a1 a2 a3).2.2.1 = (fun _ => 1#1)
    ∧ (fn a0 a1 a2 a3).2.2.2.1 = (fun _ => 1#1) ∧ (fn a0 a1 a2 a3).2.2.2.2.1 = (fun _ => 1#1) ∧ (fn a0 a1 a2 a3).2.2.2.2.2 = (fun _ => 1#1)) :
    (ins a0 a1 a2 a3).Held a0 a1 a2 a3 := by
  obtain ⟨h0, h1, h2, h3, h4, h5⟩ := h
  refine ⟨fun r c => real0 h0 r ⟨c.val, by omega⟩, fun r c => real0 h0 r ⟨1024 + c.val, by omega⟩,
    fun r c => real0 h0 r ⟨2048 + c.val, by omega⟩, real1 h1, real2 h2, ?_, fun c => ?_, fun r c e => ?_⟩
  · apply eq_mat; intro r c; exact real3 h3 r c
  · have l := le_one h4 0 c
    rw [real3 h3 0 c, ← EReal.coe_one, EReal.coe_le_coe_iff] at l
    exact l
  · have n := ne_least h5 r c
    rw [real3 h3 0 c, real0 h0 r ⟨1024 + c.val, by omega⟩, Cert.ReferenceIdeal.Step.logistic_at, ← EReal.coe_one, ← EReal.coe_sub, ← EReal.coe_mul, ← EReal.coe_add] at n
    exact n ((congrArg _ e).trans least_eq.symm)

end Cert.Pre_inputs_are_real

end
-- ==== Proof.KernLoads.lean ====
module

public import proofs.«01_k».proof.Proof.Frame
public import proofs.«01_k».proof.Proof.Chunks

/-! What one chunk loads, when the blocks of its grid point hold real numbers. -/

@[expose] public section

set_option maxRecDepth 16384

noncomputable section

namespace Cert.KernelIdeal.Chunk

open Cert.KernelIdeal Cert.KernelIdeal.Gen Cert.KernelIdeal.Head
open Idealize.ShloMosaic Idealize.ShloMosaic.TcCoe

/-- A load through a rectangle of consecutive places, at an index. -/
theorem readAt_unit {κ : Kind} {sp : Space} {s : Shape} {e : EltTy} {Val : EltTy → Type} (v : View sig κ sp s e) (f : v.ty.Contents Val)
    {off size : Fin s.rank → ℕ} (inb : ∀ a, off a + size a ≤ s.size a) (x : (Rect.unit off size inb).shape.Idx) (y : s.Idx)
    (h : ∀ a, (y a).val = off a + (x a).val) : v.readAt Val (Rect.unit off size inb).toLoadRect f x = v.read Val f y := by
  rw [View.readAt_apply]
  refine congrArg (v.read Val f) (funext fun a => Fin.ext ?_)
  rw [h a]
  show off a + 1 * (x a).val = _
  rw [Nat.one_mul]

/-- A point's loop runs eight times. -/
theorem trips_eq : k0_t1_loop.trips = 8 := by decide +kernel
theorem trip_lt (k : Fin k0_t1_loop.trips) : k.val < 8 := lt_of_lt_of_eq k.isLt trips_eq

/-- A block's row for a chunk's row. -/
def inBlock (k : Fin k0_t1_loop.trips) (t : Fin 64) : Fin 512 := ⟨64 * (7 - k.val) + t.val, by omega⟩

/-- The row of the whole array for a row of the block whose first chunk is taken at step `J`. -/
def blockRow (J : ℕ) (r : Fin 512) : Fin 8192 := rowAt (nth (J + (7 - r.val / 64))) ⟨r.val % 64, Nat.mod_lt _ (by decide)⟩

theorem blockRow_inBlock (J : ℕ) (k : Fin k0_t1_loop.trips) (t : Fin 64) : blockRow J (inBlock k t) = rowAt (nth (J + k.val)) t := by
  have hk := trip_lt k
  have h1 : (inBlock k t).val / 64 = 7 - k.val := by simp only [inBlock]; omega
  have h2 : (inBlock k t).val % 64 = t.val := by simp only [inBlock]; omega
  unfold blockRow
  rw [h1, show 7 - (7 - k.val) = k.val by omega]
  exact congrArg _ (Fin.ext h2)

theorem off1_eq : ∀ k : Fin k0_t1_loop.trips, k0_off1 k 0 = 64 * (7 - k.val) ∧ k0_off1 k 1 = 0 := by decide +kernel
theorem off2_eq : ∀ k : Fin k0_t1_loop.trips, k0_off2 k 0 = 64 * (7 - k.val) ∧ k0_off2 k 1 = 0 := by decide +kernel
theorem off4_eq : ∀ k : Fin k0_t1_loop.trips, k0_off4 k 0 = 64 * (7 - k.val) ∧ k0_off4 k 1 = 128 := by decide +kernel
theorem off6_eq : ∀ k : Fin k0_t1_loop.trips, k0_off6 k 0 = 64 * (7 - k.val) ∧ k0_off6 k 1 = 256 := by decide +kernel
theorem off8_eq : ∀ k : Fin k0_t1_loop.trips, k0_off8 k 0 = 64 * (7 - k.val) ∧ k0_off8 k 1 = 384 := by decide +kernel
theorem off10_eq : ∀ k : Fin k0_t1_loop.trips, k0_off10 k 0 = 64 * (7 - k.val) ∧ k0_off10 k 1 = 512 := by decide +kernel
theorem off12_eq : ∀ k : Fin k0_t1_loop.trips, k0_off12 k 0 = 64 * (7 - k.val) ∧ k0_off12 k 1 = 640 := by decide +kernel
theorem off14_eq : ∀ k : Fin k0_t1_loop.trips, k0_off14 k 0 = 64 * (7 - k.val) ∧ k0_off14 k 1 = 768 := by decide +kernel
theorem off16_eq : ∀ k : Fin k0_t1_loop.trips, k0_off16 k 0 = 64 * (7 - k.val) ∧ k0_off16 k 1 = 896 := by decide +kernel

/-- Where a head's state starts. -/
def StateAt (off : Fin 4 → ℕ) (n h : ℕ) : Prop := off 0 = n ∧ off 1 = h ∧ off 2 = 0 ∧ off 3 = 0
instance (off : Fin 4 → ℕ) (n h : ℕ) : Decidable (StateAt off n h) := by unfold StateAt; infer_instance

theorem off3_eq : ∀ k : Fin k0_t1_loop.trips, StateAt (k0_off3 k) (7 - k.val) 0 := by decide +kernel
theorem off5_eq : ∀ k : Fin k0_t1_loop.trips, StateAt (k0_off5 k) (7 - k.val) 1 := by decide +kernel
theorem off7_eq : ∀ k : Fin k0_t1_loop.trips, StateAt (k0_off7 k) (7 - k.val) 2 := by decide +kernel
theorem off9_eq : ∀ k : Fin k0_t1_loop.trips, StateAt (k0_off9 k) (7 - k.val) 3 := by decide +kernel
theorem off11_eq : ∀ k : Fin k0_t1_loop.trips, StateAt (k0_off11 k) (7 - k.val) 4 := by decide +kernel
theorem off13_eq : ∀ k : Fin k0_t1_loop.trips, StateAt (k0_off13 k) (7 - k.val) 5 := by decide +kernel
theorem off15_eq : ∀ k : Fin k0_t1_loop.trips, StateAt (k0_off15 k) (7 - k.val) 6 := by decide +kernel
theorem off17_eq : ∀ k : Fin k0_t1_loop.trips, StateAt (k0_off17 k) (7 - k.val) 7 := by decide +kernel

section

variable (k : Fin k0_t1_loop.trips) (M : Memref sig .tc .vmem S512x1024 .f32) (X : BufTy.Contents (Elt Ideal) M.view.ty)
variable (A : Fin 8192 → Fin 1024 → ℝ) (J : ℕ) (hX : ∀ r c, M.view.read (Elt Ideal) X (ix2 r c) = ((A (blockRow J r) c : ℝ) : EReal))
include hX

/-- A chunk's rows of a block. -/
theorem rows_mat : rows k M X = mat fun t c => A (rowAt (nth (J + k.val)) t) c := by
  apply eq_mat; intro t c
  unfold rows
  refine (readAt_unit M.view X _ _ (ix2 (inBlock k t) c) ?_).trans ?_
  · intro a
    obtain ⟨h0, h1⟩ := off1_eq k
    match a with
    | 0 => rw [show k0_off1 k 0 = _ from h0]; rfl
    | 1 => rw [show k0_off1 k 1 = _ from h1]; exact (Nat.zero_add _).symm
  · rw [hX, blockRow_inBlock]

/-- A block of 128 columns of a chunk's rows. -/
theorem block_mat {off : Fin 2 → ℕ} (h : Fin 8) (h0 : off 0 = 64 * (7 - k.val)) (h1 : off 1 = 128 * h.val) (inb : ∀ a, off a + S64x128.size a ≤ S512x1024.size a) :
    (View.readAt (Elt Ideal) M.view (Rect.unit (s := S512x1024) off S64x128.size inb).toLoadRect X : FVec Ideal S64x128 .f32)
      = mat (φ := .f32) fun t c => A (rowAt (nth (J + k.val)) t) (colOf h c) := by
  apply eq_mat; intro t c
  refine (readAt_unit M.view X _ _ (ix2 (inBlock k t) (colOf h c)) ?_).trans ?_
  · intro a
    match a with
    | 0 => rw [show off 0 = _ from h0]; rfl
    | 1 => rw [show off 1 = _ from h1]; rfl
  · rw [hX, blockRow_inBlock]

/-- A chunk's rows of a block, by head. -/
theorem headRows_mat : headRows k M X = fun h => mat fun t c => A (rowAt (nth (J + k.val)) t) (colOf h c) := by
  funext h
  match h with
  | 0 => exact block_mat k M X A J hX 0 (off2_eq k).1 (off2_eq k).2 (k0_off2_inb k)
  | 1 => exact block_mat k M X A J hX 1 (off4_eq k).1 (off4_eq k).2 (k0_off4_inb k)
  | 2 => exact block_mat k M X A J hX 2 (off6_eq k).1 (off6_eq k).2 (k0_off6_inb k)
  | 3 => exact block_mat k M X A J hX 3 (off8_eq k).1 (off8_eq k).2 (k0_off8_inb k)
  | 4 => exact block_mat k M X A J hX 4 (off10_eq k).1 (off10_eq k).2 (k0_off10_inb k)
  | 5 => exact block_mat k M X A J hX 5 (off12_eq k).1 (off12_eq k).2 (k0_off12_inb k)
  | 6 => exact block_mat k M X A J hX 6 (off14_eq k).1 (off14_eq k).2 (k0_off14_inb k)
  | 7 => exact block_mat k M X A J hX 7 (off16_eq k).1 (off16_eq k).2 (k0_off16_inb k)

end

section

variable (k : Fin k0_t1_loop.trips) (arg6 : Memref sig .tc .vmem S8x8x128x128 .f32) (X : BufTy.Contents (Elt Ideal) arg6.view.ty)
variable (s : Fin 128 → Fin 8 → Fin 128 → Fin 128 → ℝ) (J : ℕ)
variable (hX : ∀ n h v k, arg6.view.read (Elt Ideal) X (ix4 n h v k) = ((s (nth (J + (7 - n.val))) h v k : ℝ) : EReal))
include hX

omit hX in
/-- A head's state without its two leading axes. -/
theorem flat4_at (y : FVec Ideal S1x1x128x128 .f32) (v c : Fin 128) :
    (shapeCast S128x128 y shapeCasts_S1x1x128x128_S128x128 : FVec Ideal S128x128 .f32) (ix2 v c) = y (ix4 0 0 v c) := by
  pointwise []

/-- One chunk's and head's state. -/
theorem state_mat {off : Fin 4 → ℕ} (h : Fin 8) (ho : StateAt off (7 - k.val) h.val) (inb : ∀ a, off a + S1x1x128x128.size a ≤ S8x8x128x128.size a) :
    (shapeCast S128x128 (View.readAt (Elt Ideal) arg6.view (Rect.unit (s := S8x8x128x128) off S1x1x128x128.size inb).toLoadRect X) shapeCasts_S1x1x128x128_S128x128 : FVec Ideal S128x128 .f32)
      = mat fun v c => s (nth (J + k.val)) h v c := by
  have hk := trip_lt k
  apply eq_mat; intro v c
  refine (flat4_at _ v c).trans ?_
  refine (readAt_unit arg6.view X _ _ (ix4 (⟨7 - k.val, by omega⟩ : Fin 8) h v c) ?_).trans ?_
  · intro a
    obtain ⟨h0, h1, h2, h3⟩ := ho
    match a with
    | 0 => rw [show off 0 = _ from h0]; rfl
    | 1 => rw [show off 1 = _ from h1]; rfl
    | 2 => rw [show off 2 = _ from h2]; exact (Nat.zero_add _).symm
    | 3 => rw [show off 3 = _ from h3]; exact (Nat.zero_add _).symm
  · rw [hX]; simp only [show 7 - (7 - k.val) = k.val by omega]

/-- A chunk's states, by head. -/
theorem headState_mat : headState arg6 k X = fun h => mat fun v c => s (nth (J + k.val)) h v c := by
  funext h
  match h with
  | 0 => exact state_mat k arg6 X s J hX 0 (off3_eq k) (k0_off3_inb k)
  | 1 => exact state_mat k arg6 X s J hX 1 (off5_eq k) (k0_off5_inb k)
  | 2 => exact state_mat k arg6 X s J hX 2 (off7_eq k) (k0_off7_inb k)
  | 3 => exact state_mat k arg6 X s J hX 3 (off9_eq k) (k0_off9_inb k)
  | 4 => exact state_mat k arg6 X s J hX 4 (off11_eq k) (k0_off11_inb k)
  | 5 => exact state_mat k arg6 X s J hX 5 (off13_eq k) (k0_off13_inb k)
  | 6 => exact state_mat k arg6 X s J hX 6 (off15_eq k) (k0_off15_inb k)
  | 7 => exact state_mat k arg6 X s J hX 7 (off17_eq k) (k0_off17_inb k)

end

section

variable (arg12 : Memref sig .tc .vmem S8x128x128 .f32) (X : BufTy.Contents (Elt Ideal) arg12.view.ty)
variable (D : Fin 8 → Fin 128 → Fin 128 → ℝ) (hX : ∀ h v k, arg12.view.read (Elt Ideal) X (ix3 h v k) = ((D h v k : ℝ) : EReal))
include hX

omit hX in
/-- A head's carried state gradient without its leading axis. -/
theorem flat3_at (y : FVec Ideal S1x128x128 .f32) (v c : Fin 128) :
    (shapeCast S128x128 y shapeCasts_S1x128x128_S128x128 : FVec Ideal S128x128 .f32) (ix2 v c) = y (ix3 0 v c) := by
  pointwise []

/-- One head's carried state gradient. -/
theorem carried_mat {off : Fin 3 → ℕ} (h : Fin 8) (ho : off = ![h.val, 0, 0]) (inb : ∀ a, off a + S1x128x128.size a ≤ S8x128x128.size a) :
    (shapeCast S128x128 (View.readAt (Elt Ideal) arg12.view (Rect.unit (s := S8x128x128) off S1x128x128.size inb).toLoadRect X) shapeCasts_S1x128x128_S128x128 : FVec Ideal S128x128 .f32)
      = mat (D h) := by
  subst ho
  apply eq_mat; intro v c
  refine (flat3_at _ v c).trans ?_
  refine (readAt_unit arg12.view X _ _ (ix3 h v c) ?_).trans (hX h v c)
  intro a
  match a with
  | 0 => rfl
  | 1 => exact (Nat.zero_add _).symm
  | 2 => exact (Nat.zero_add _).symm

/-- The carried state gradients, by head. -/
theorem headCarried_mat : headCarried arg12 X = fun h => mat (D h) := by
  funext h
  match h with
  | 0 => exact carried_mat arg12 X D hX 0 rfl _
  | 1 => exact carried_mat arg12 X D hX 1 rfl _
  | 2 => exact carried_mat arg12 X D hX 2 rfl _
  | 3 => exact carried_mat arg12 X D hX 3 rfl _
  | 4 => exact carried_mat arg12 X D hX 4 rfl _
  | 5 => exact carried_mat arg12 X D hX 5 rfl _
  | 6 => exact carried_mat arg12 X D hX 6 rfl _
  | 7 => exact carried_mat arg12 X D hX 7 rfl _

end

/-- A load of a whole row. -/
theorem readAt_row {M : Memref sig .tc .vmem S1x1024 .f32} (X : BufTy.Contents (Elt Ideal) M.view.ty) (a : Fin 1 → Fin 1024 → ℝ)
    (hX : M.view.read (Elt Ideal) X = (mat a : FVec Ideal S1x1024 .f32)) :
    (View.readAt (Elt Ideal) M.view (Rect.unit (s := S1x1024) ![0, 0] S1x1024.size inb_S1x1024_S1x1024_0_0).toLoadRect X : FVec Ideal S1x1024 .f32) = mat (φ := .f32) a := by
  apply eq_mat; intro t c
  refine (readAt_unit M.view X _ _ (ix2 t c) ?_).trans (congrFun hX _)
  intro a
  match a with
  | 0 => exact (Nat.zero_add _).symm
  | 1 => exact (Nat.zero_add _).symm

end Cert.KernelIdeal.Chunk

end
-- ==== Proof.KernLoop.lean ====
module

public import proofs.«01_k».proof.Proof.KernLoads
public import Idealize.ShloMosaic.Lib.WritesUnit

/-! One grid point's loop on real numbers: eight chunks, with what is carried between them. -/

@[expose] public section

set_option maxRecDepth 16384

noncomputable section

namespace Cert.KernelIdeal.Chunk

open Cert.KernelIdeal Cert.KernelIdeal.Gen Cert.KernelIdeal.Head
open Idealize.ShloMosaic Idealize.ShloMosaic.TcCoe

/-- A block whose row `r` holds what step `J + (7 - r / 64)` gives at place `r % 64`. -/
def onBlock (J : ℕ) (g : ℕ → Fin 64 → Fin 1024 → ℝ) : FVec Ideal S512x1024 .bf16 :=
  mat fun r c => g (J + (7 - r.val / 64)) ⟨r.val % 64, Nat.mod_lt _ (by decide)⟩ c

/-- A chunk's piece agrees with the block. -/
theorem onBlock_piece (J : ℕ) (g : ℕ → Fin 64 → Fin 1024 → ℝ) (k : Fin k0_t1_loop.trips) (x : S64x1024.Idx) :
    (mat (g (J + k.val)) : FVec Ideal S64x1024 .bf16) x
      = onBlock J g ((Rect.unit (s := S512x1024) (k0_off1 k) S64x1024.size (k0_off1_inb k)).emb x) := by
  have hk := trip_lt k
  obtain ⟨h0, h1⟩ := off1_eq k
  obtain ⟨t, c, rfl⟩ : ∃ (t : Fin 64) (c : Fin 1024), x = ix2 t c := ⟨x 0, x 1, eq_ix2 x⟩
  have e : (Rect.unit (s := S512x1024) (k0_off1 k) S64x1024.size (k0_off1_inb k)).emb (ix2 t c) = ix2 (inBlock k t) c := by
    funext a; apply Fin.ext
    match a with
    | 0 => show k0_off1 k 0 + 1 * t.val = 64 * (7 - k.val) + t.val; rw [h0, Nat.one_mul]
    | 1 => show k0_off1 k 1 + 1 * c.val = c.val; rw [h1, Nat.one_mul, Nat.zero_add]
  have h1 : (inBlock k t).val / 64 = 7 - k.val := by simp only [inBlock]; omega
  have h2 : (⟨(inBlock k t).val % 64, Nat.mod_lt _ (by decide)⟩ : Fin 64) = t := Fin.ext (by simp only [inBlock]; omega)
  rw [e, mat_at]
  unfold onBlock
  rw [mat_at, h1, h2, show 7 - (7 - k.val) = k.val by omega]

/-- Eight heads' pieces, one head each, agree with one array and cover it. -/
theorem read_heads (v : View sig .tc .vmem S8x128x128 .f32) (f : v.ty.Contents (Elt Ideal)) (D : Fin 8 → Fin 128 → Fin 128 → ℝ)
    (w : Fin 8 → FVec Ideal S1x128x128 .f32) (hw : ∀ h i, w h i = ((D h (i 1) (i 2) : ℝ) : EReal)) (h : Fin 8) (a b : Fin 128) :
    v.read (Elt Ideal) (v.writes (Elt Ideal) f
        [⟨Rect.unit ![7, 0, 0] S1x128x128.size inb_S8x128x128_S1x128x128_7_0_0, w 7⟩, ⟨Rect.unit ![6, 0, 0] S1x128x128.size inb_S8x128x128_S1x128x128_6_0_0, w 6⟩,
         ⟨Rect.unit ![5, 0, 0] S1x128x128.size inb_S8x128x128_S1x128x128_5_0_0, w 5⟩, ⟨Rect.unit ![4, 0, 0] S1x128x128.size inb_S8x128x128_S1x128x128_4_0_0, w 4⟩,
         ⟨Rect.unit ![3, 0, 0] S1x128x128.size inb_S8x128x128_S1x128x128_3_0_0, w 3⟩, ⟨Rect.unit ![2, 0, 0] S1x128x128.size inb_S8x128x128_S1x128x128_2_0_0, w 2⟩,
         ⟨Rect.unit ![1, 0, 0] S1x128x128.size inb_S8x128x128_S1x128x128_1_0_0, w 1⟩, ⟨Rect.unit ![0, 0, 0] S1x128x128.size inb_S8x128x128_S1x128x128_0_0_0, w 0⟩]) (ix3 h a b)
      = ((D h a b : ℝ) : EReal) := by
  have emb_eq : ∀ (n : Fin 8) (inb : ∀ a, (![n.val, 0, 0] : Fin 3 → ℕ) a + S1x128x128.size a ≤ S8x128x128.size a) (x : S1x128x128.Idx),
      (Rect.unit (s := S8x128x128) ![n.val, 0, 0] S1x128x128.size inb).emb x = ix3 n (x 1) (x 2) := by
    intro n inb x
    funext q; apply Fin.ext
    match q with
    | 0 => have : (x 0).val = 0 := by have := (x 0).isLt; simp only [Matrix.cons_val_zero] at this; omega
           show n.val + 1 * (x 0).val = n.val; omega
    | 1 => show 0 + 1 * (x 1).val = (x 1).val; omega
    | 2 => show 0 + 1 * (x 2).val = (x 2).val; omega
  have agrees : ∀ (n : Fin 8) (inb : ∀ a, (![n.val, 0, 0] : Fin 3 → ℕ) a + S1x128x128.size a ≤ S8x128x128.size a) (x : S1x128x128.Idx),
      w n x = (fun y : S8x128x128.Idx => ((D (y 0) (y 1) (y 2) : ℝ) : EReal)) ((Rect.unit (s := S8x128x128) ![n.val, 0, 0] S1x128x128.size inb).emb x) := by
    intro n inb x
    rw [emb_eq n inb x]; exact hw n x
  refine View.read_writes_apply_of_pieces v f (fun y : S8x128x128.Idx => ((D (y 0) (y 1) (y 2) : ℝ) : EReal)) _ ?_ (ix3 h a b) ?_
  · simp only [List.forall_mem_cons]
    exact ⟨agrees 7 _, agrees 6 _, agrees 5 _, agrees 4 _, agrees 3 _, agrees 2 _, agrees 1 _, agrees 0 _, fun p hp => absurd hp List.not_mem_nil⟩
  · have inside : ∀ (inb : ∀ a, (![h.val, 0, 0] : Fin 3 → ℕ) a + S1x128x128.size a ≤ S8x128x128.size a),
        ix3 h a b ∈ (Rect.unit (s := S8x128x128) ![h.val, 0, 0] S1x128x128.size inb).set := by
      intro inb
      rw [Rect.mem_set_unit]
      intro q
      match q with
      | 0 => exact ⟨le_refl _, Nat.lt_succ_self _⟩
      | 1 => exact ⟨Nat.zero_le _, lt_of_lt_of_eq a.isLt (Nat.zero_add _).symm⟩
      | 2 => exact ⟨Nat.zero_le _, lt_of_lt_of_eq b.isLt (Nat.zero_add _).symm⟩
    match h with
    | 7 => exact ⟨_, List.mem_cons_self, inside inb_S8x128x128_S1x128x128_7_0_0⟩
    | 6 => exact ⟨_, List.mem_cons_of_mem _ List.mem_cons_self, inside inb_S8x128x128_S1x128x128_6_0_0⟩
    | 5 => exact ⟨_, List.mem_cons_of_mem _ (List.mem_cons_of_mem _ List.mem_cons_self), inside inb_S8x128x128_S1x128x128_5_0_0⟩
    | 4 => exact ⟨_, List.mem_cons_of_mem _ (List.mem_cons_of_mem _ (List.mem_cons_of_mem _ List.mem_cons_self)), inside inb_S8x128x128_S1x128x128_4_0_0⟩
    | 3 => exact ⟨_, List.mem_cons_of_mem _ (List.mem_cons_of_mem _ (List.mem_cons_of_mem _ (List.mem_cons_of_mem _ List.mem_cons_self))), inside inb_S8x128x128_S1x128x128_3_0_0⟩
    | 2 => exact ⟨_, List.mem_cons_of_mem _ (List.mem_cons_of_mem _ (List.mem_cons_of_mem _ (List.mem_cons_of_mem _ (List.mem_cons_of_mem _ List.mem_cons_self)))), inside inb_S8x128x128_S1x128x128_2_0_0⟩
    | 1 => exact ⟨_, List.mem_cons_of_mem _ (List.mem_cons_of_mem _ (List.mem_cons_of_mem _ (List.mem_cons_of_mem _ (List.mem_cons_of_mem _ (List.mem_cons_of_mem _ List.mem_cons_self))))), inside inb_S8x128x128_S1x128x128_1_0_0⟩
    | 0 => exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), inside inb_S8x128x128_S1x128x128_0_0_0⟩

/-- A whole row written last is what is read. -/
theorem read_row (v : View sig .tc .vmem S1x1024 .f32) (f : v.ty.Contents (Elt Ideal)) (w : FVec Ideal S1x1024 .f32) :
    v.read (Elt Ideal) (v.writes (Elt Ideal) f [⟨Rect.unit ![0, 0] S1x1024.size inb_S1x1024_S1x1024_0_0, w⟩]) = w := by
  funext y
  refine View.read_writes_cons_unit_of_mem v f inb_S1x1024_S1x1024_0_0 w [] y y rfl ?_
  intro a
  match a with
  | 0 => exact (Nat.zero_add _).symm
  | 1 => exact (Nat.zero_add _).symm

variable (c : Dev nD) (i : grid0.Coords)
variable (arg2 : Memref sig .tc .vmem S512x1024 .f32) (harg2 : arg2.IsWhole)
variable (arg3 : Memref sig .tc .vmem S512x1024 .f32) (harg3 : arg3.IsWhole)
variable (arg4 : Memref sig .tc .vmem S512x1024 .f32) (harg4 : arg4.IsWhole)
variable (arg5 : Memref sig .tc .vmem S512x1024 .f32) (harg5 : arg5.IsWhole)
variable (arg6 : Memref sig .tc .vmem S8x8x128x128 .f32) (harg6 : arg6.IsWhole)
variable (arg7 : Memref sig .tc .vmem S1x1024 .f32) (harg7 : arg7.IsWhole)
variable (arg8 : Memref sig .tc .vmem S512x1024 .bf16) (harg8 : arg8.IsWhole)
variable (arg9 : Memref sig .tc .vmem S512x1024 .bf16) (harg9 : arg9.IsWhole)
variable (arg10 : Memref sig .tc .vmem S512x1024 .bf16) (harg10 : arg10.IsWhole)
variable (arg11 : Memref sig .tc .vmem S1x1024 .f32) (harg11 : arg11.IsWhole)
variable (arg12 : Memref sig .tc .vmem S8x128x128 .f32) (harg12 : arg12.IsWhole)
variable (v95 : FVec Ideal S1x1024 .f32)
variable (X_arg2 : BufTy.Contents (Elt Ideal) arg2.view.ty)
variable (X_arg3 : BufTy.Contents (Elt Ideal) arg3.view.ty)
variable (X_arg4 : BufTy.Contents (Elt Ideal) arg4.view.ty)
variable (X_arg5 : BufTy.Contents (Elt Ideal) arg5.view.ty)
variable (X_arg6 : BufTy.Contents (Elt Ideal) arg6.view.ty)
variable (G_arg8 : BufTy.Contents (Elt Ideal) arg8.view.ty)
variable (G_arg9 : BufTy.Contents (Elt Ideal) arg9.view.ty)
variable (G_arg10 : BufTy.Contents (Elt Ideal) arg10.view.ty)
variable (G_arg11 : BufTy.Contents (Elt Ideal) arg11.view.ty)
variable (G_arg12 : BufTy.Contents (Elt Ideal) arg12.view.ty)
variable (I : Ins) (J : ℕ)

/-- What the first `n` chunks of a grid point write. -/
abbrev written (n : ℕ) :=
  pb_k0_t1 (F := Ideal) Variants.none c none i arg2 harg2 arg3 harg3 arg4 harg4 arg5 harg5 arg6 harg6 arg7 harg7 arg8 harg8 arg9 harg9 arg10 harg10 arg11 harg11 arg12 harg12 k0_pay798 k0_pay799 k0_pay800 k0_pay801 m32 k0_pay804 m16 k0_pay806 k0_pay807 k0_pay808 k0_pay809 v95 X_arg2 X_arg3 X_arg4 X_arg5 X_arg6 G_arg8 G_arg9 G_arg10 G_arg11 G_arg12 n

/-- That a grid point's blocks hold the inputs' rows and states from step `J` on. -/
structure Staged : Prop where
  q : ∀ r c, arg2.view.read (Elt Ideal) X_arg2 (ix2 r c) = ((I.q (blockRow J r) c : ℝ) : EReal)
  f : ∀ r c, arg3.view.read (Elt Ideal) X_arg3 (ix2 r c) = ((I.f (blockRow J r) c : ℝ) : EReal)
  v : ∀ r c, arg4.view.read (Elt Ideal) X_arg4 (ix2 r c) = ((I.v (blockRow J r) c : ℝ) : EReal)
  d : ∀ r c, arg5.view.read (Elt Ideal) X_arg5 (ix2 r c) = ((I.d (blockRow J r) c : ℝ) : EReal)
  s : ∀ n h v k, arg6.view.read (Elt Ideal) X_arg6 (ix4 n h v k) = ((I.s (nth (J + (7 - n.val))) h v k : ℝ) : EReal)
  lb : v95 = mat I.lb
  le : ∀ c, I.lb 0 c ≤ 1

/-- What holds after `n` of a grid point's chunks. -/
structure After (n : ℕ) (P : List (View.Piece (Elt Ideal) S512x1024 .bf16) × List (View.Piece (Elt Ideal) S512x1024 .bf16) × List (View.Piece (Elt Ideal) S512x1024 .bf16) × List (View.Piece (Elt Ideal) S1x1024 .f32) × List (View.Piece (Elt Ideal) S8x128x128 .f32)) : Prop where
  dq : ∀ p ∈ P.1, ∀ x, p.2 x = onBlock J I.dq (p.1.emb x)
  df : ∀ p ∈ P.2.1, ∀ x, p.2 x = onBlock J I.df (p.1.emb x)
  dv : ∀ p ∈ P.2.2.1, ∀ x, p.2 x = onBlock J I.dv (p.1.emb x)
  lb : arg11.view.read (Elt Ideal) (arg11.view.writes (Elt Ideal) G_arg11 P.2.2.2.1) = (mat fun _ c => I.lbSum (J + n) c : FVec Ideal S1x1024 .f32)
  ds : ∀ h v k, arg12.view.read (Elt Ideal) (arg12.view.writes (Elt Ideal) G_arg12 P.2.2.2.2) (ix3 h v k) = ((I.carried (J + n) h v k : ℝ) : EReal)

variable (hs : Staged arg2 arg3 arg4 arg5 arg6 v95 X_arg2 X_arg3 X_arg4 X_arg5 X_arg6 I J)
variable (h11 : arg11.view.read (Elt Ideal) G_arg11 = (mat fun _ c => I.lbSum J c : FVec Ideal S1x1024 .f32))
variable (h12 : ∀ h v k, arg12.view.read (Elt Ideal) G_arg12 (ix3 h v k) = ((I.carried J h v k : ℝ) : EReal))

include hs in
/-- One more chunk. -/
theorem after_succ (k : Fin k0_t1_loop.trips)
    (ih : After arg11 arg12 G_arg11 G_arg12 I J k.val (written c i arg2 harg2 arg3 harg3 arg4 harg4 arg5 harg5 arg6 harg6 arg7 harg7 arg8 harg8 arg9 harg9 arg10 harg10 arg11 harg11 arg12 harg12 v95 X_arg2 X_arg3 X_arg4 X_arg5 X_arg6 G_arg8 G_arg9 G_arg10 G_arg11 G_arg12 k.val)) :
    After arg11 arg12 G_arg11 G_arg12 I J (k.val + 1) (written c i arg2 harg2 arg3 harg3 arg4 harg4 arg5 harg5 arg6 harg6 arg7 harg7 arg8 harg8 arg9 harg9 arg10 harg10 arg11 harg11 arg12 harg12 v95 X_arg2 X_arg3 X_arg4 X_arg5 X_arg6 G_arg8 G_arg9 G_arg10 G_arg11 G_arg12 (k.val + 1)) := by
  have e := pb_k0_t1_succ (F := Ideal) Variants.none c none i arg2 harg2 arg3 harg3 arg4 harg4 arg5 harg5 arg6 harg6 arg7 harg7 arg8 harg8 arg9 harg9 arg10 harg10 arg11 harg11 arg12 harg12 k0_pay798 k0_pay799 k0_pay800 k0_pay801 m32 k0_pay804 m16 k0_pay806 k0_pay807 k0_pay808 k0_pay809 v95 X_arg2 X_arg3 X_arg4 X_arg5 X_arg6 G_arg8 G_arg9 G_arg10 G_arg11 G_arg12 k
  rw [tripL_eq] at e
  unfold written
  rw [e]
  clear e
  unfold written at ih
  generalize pb_k0_t1 (F := Ideal) Variants.none c none i arg2 harg2 arg3 harg3 arg4 harg4 arg5 harg5 arg6 harg6 arg7 harg7 arg8 harg8 arg9 harg9 arg10 harg10 arg11 harg11 arg12 harg12 k0_pay798 k0_pay799 k0_pay800 k0_pay801 m32 k0_pay804 m16 k0_pay806 k0_pay807 k0_pay808 k0_pay809 v95 X_arg2 X_arg3 X_arg4 X_arg5 X_arg6 G_arg8 G_arg9 G_arg10 G_arg11 G_arg12 k.val = P at ih ⊢
  rw [show k0_pay1 k0_pay806 k0_pay807 k0_pay808 k0_pay809 = m8 from rfl, hs.lb, rows_mat k arg2 X_arg2 I.q J hs.q, rows_mat k arg3 X_arg3 I.f J hs.f,
    headRows_mat k arg4 X_arg4 I.v J hs.v, headRows_mat k arg5 X_arg5 I.d J hs.d, headState_mat k arg6 X_arg6 I.s J hs.s,
    headCarried_mat arg12 _ _ ih.ds, readAt_row _ _ ih.lb,
    outDq_mat _ _ _ _ _ _ hs.le, outDf_mat _ _ _ _ _ _ _ hs.le, outDv_mat _ _ _ _ _ hs.le, outDlb_mat _ _ _ _ _ _ _ hs.le]
  refine ⟨?_, ?_, ?_, ?_, ?_⟩
  · dsimp only
    intro p hp
    rcases List.mem_append.mp hp with hp | hp
    · rw [List.mem_singleton.mp hp]; exact onBlock_piece J I.dq k
    · exact ih.dq p hp
  · dsimp only
    intro p hp
    rcases List.mem_append.mp hp with hp | hp
    · rw [List.mem_singleton.mp hp]; exact onBlock_piece J I.df k
    · exact ih.df p hp
  · dsimp only
    intro p hp
    rcases List.mem_append.mp hp with hp | hp
    · rw [List.mem_singleton.mp hp]; exact onBlock_piece J I.dv k
    · exact ih.dv p hp
  · dsimp only
    rw [View.writes_append, read_row]; rfl
  · dsimp only
    intro h v k'
    rw [View.writes_append]
    exact read_heads arg12.view _ (I.carried (J + (k.val + 1))) (fun h => outDs k0_pay798 (mat (φ := .f32) I.lb) _ _ _ _ h) (fun h i => outDs_mat _ _ _ _ _ h i) h v k'

include hs h11 h12 in
/-- Any number of a grid point's chunks. -/
theorem after_trips : ∀ n, n ≤ k0_t1_loop.trips →
    After arg11 arg12 G_arg11 G_arg12 I J n (written c i arg2 harg2 arg3 harg3 arg4 harg4 arg5 harg5 arg6 harg6 arg7 harg7 arg8 harg8 arg9 harg9 arg10 harg10 arg11 harg11 arg12 harg12 v95 X_arg2 X_arg3 X_arg4 X_arg5 X_arg6 G_arg8 G_arg9 G_arg10 G_arg11 G_arg12 n)
  | 0, _ => ⟨fun _ hp => absurd hp List.not_mem_nil, fun _ hp => absurd hp List.not_mem_nil, fun _ hp => absurd hp List.not_mem_nil, h11, h12⟩
  | n + 1, hn => after_succ c i arg2 harg2 arg3 harg3 arg4 harg4 arg5 harg5 arg6 harg6 arg7 harg7 arg8 harg8 arg9 harg9 arg10 harg10 arg11 harg11 arg12 harg12 v95 X_arg2 X_arg3 X_arg4 X_arg5 X_arg6 G_arg8 G_arg9 G_arg10 G_arg11 G_arg12 I J hs ⟨n, hn⟩ (after_trips n (Nat.le_of_succ_le hn))

end Cert.KernelIdeal.Chunk

end
-- ==== Proof.KernPoint.lean ====
module

public import proofs.«01_k».proof.Proof.KernLoop

/-! What one grid point leaves in its blocks and in the carried state gradient, on real numbers. -/

@[expose] public section

set_option maxRecDepth 16384

noncomputable section

namespace Cert.KernelIdeal.Chunk

open Cert.KernelIdeal Cert.KernelIdeal.Gen Cert.KernelIdeal.Head
open Idealize.ShloMosaic Idealize.ShloMosaic.TcCoe

variable (c : Dev nD) (i : grid0.Coords)
variable (arg2 : Memref sig .tc .vmem S512x1024 .f32) (harg2 : arg2.IsWhole)
variable (arg3 : Memref sig .tc .vmem S512x1024 .f32) (harg3 : arg3.IsWhole)
variable (arg4 : Memref sig .tc .vmem S512x1024 .f32) (harg4 : arg4.IsWhole)
variable (arg5 : Memref sig .tc .vmem S512x1024 .f32) (harg5 : arg5.IsWhole)
variable (arg6 : Memref sig .tc .vmem S8x8x128x128 .f32) (harg6 : arg6.IsWhole)
variable (arg7 : Memref sig .tc .vmem S1x1024 .f32) (harg7 : arg7.IsWhole)
variable (arg8 : Memref sig .tc .vmem S512x1024 .bf16) (harg8 : arg8.IsWhole)
variable (arg9 : Memref sig .tc .vmem S512x1024 .bf16) (harg9 : arg9.IsWhole)
variable (arg10 : Memref sig .tc .vmem S512x1024 .bf16) (harg10 : arg10.IsWhole)
variable (arg11 : Memref sig .tc .vmem S1x1024 .f32) (harg11 : arg11.IsWhole)
variable (arg12 : Memref sig .tc .vmem S8x128x128 .f32) (harg12 : arg12.IsWhole)
variable (x0 x1 x2 x3 : FVec Ideal S512x1024 .f32) (x4 : FVec Ideal S8x8x128x128 .f32) (x5 : FVec Ideal S1x1024 .f32)
variable (I : Ins) (J : ℕ)

/-- That a grid point's blocks are the inputs' rows and states from step `J` on. -/
structure Blocks : Prop where
  q : ∀ r c, x0 (ix2 r c) = ((I.q (blockRow J r) c : ℝ) : EReal)
  f : ∀ r c, x1 (ix2 r c) = ((I.f (blockRow J r) c : ℝ) : EReal)
  v : ∀ r c, x2 (ix2 r c) = ((I.v (blockRow J r) c : ℝ) : EReal)
  d : ∀ r c, x3 (ix2 r c) = ((I.d (blockRow J r) c : ℝ) : EReal)
  s : ∀ n h v k, x4 (ix4 n h v k) = ((I.s (nth (J + (7 - n.val))) h v k : ℝ) : EReal)
  lb : x5 = mat I.lb
  le : ∀ c, I.lb 0 c ≤ 1

variable (hb : Blocks x0 x1 x2 x3 x4 x5 I J)

/-- The row of `lb` as a grid point loads it. -/
abbrev lbLoad : FVec Ideal S1x1024 .f32 := View.readAt (Elt Ideal) arg7.view (Rect.unit (s := S1x1024) ![0, 0] S1x1024.size inb_S1x1024_S1x1024_0_0).toLoadRect (harg7.unread x5)

include hb in
theorem staged : Staged arg2 arg3 arg4 arg5 arg6 (lbLoad arg7 harg7 x5) (harg2.unread x0) (harg3.unread x1) (harg4.unread x2) (harg5.unread x3) (harg6.unread x4) I J where
  q r c := by rw [harg2.read_unread]; exact hb.q r c
  f r c := by rw [harg3.read_unread]; exact hb.f r c
  v r c := by rw [harg4.read_unread]; exact hb.v r c
  d r c := by rw [harg5.read_unread]; exact hb.d r c
  s n h v k := by rw [harg6.read_unread]; exact hb.s n h v k
  lb := readAt_row _ _ (by rw [harg7.read_unread]; exact hb.lb)
  le := hb.le

/-- What a grid point leaves: three blocks, the sum for `lb` and the carried state gradient. -/
structure Left (y6 y7 y8 : FVec Ideal S512x1024 .bf16) (y9 : FVec Ideal S1x1024 .f32) (z : FVec Ideal S8x128x128 .f32) : Prop where
  dq : y6 = onBlock J I.dq
  df : y7 = onBlock J I.df
  dv : y8 = onBlock J I.dv
  lb : y9 = mat fun _ c => I.lbSum (J + 8) c
  ds : ∀ h v k, z (ix3 h v k) = ((I.carried (J + 8) h v k : ℝ) : EReal)

/-- Zeros in the whole row. -/
theorem zero_row : (k0_pay797 : FVec Ideal S1x1024 .f32) = mat fun _ _ => 0 := by
  apply eq_mat; intro t c; unfold k0_pay797; pointwise []; rfl
/-- Zeros in the whole carried state gradient. -/
theorem zero_state (y : S8x128x128.Idx) : (k0_pay796 : FVec Ideal S8x128x128 .f32) y = ((0 : ℝ) : EReal) := by
  unfold k0_pay796; pointwise []; rfl

/-- The whole carried state gradient written last is what is read. -/
theorem read_state (v : View sig .tc .vmem S8x128x128 .f32) (f : v.ty.Contents (Elt Ideal)) (w : FVec Ideal S8x128x128 .f32) :
    v.read (Elt Ideal) (v.writes (Elt Ideal) f [⟨Rect.unit ![0, 0, 0] S8x128x128.size inb_S8x128x128_S8x128x128_0_0_0, w⟩]) = w := by
  funext y
  refine View.read_writes_cons_unit_of_mem v f inb_S8x128x128_S8x128x128_0_0_0 w [] y y rfl ?_
  intro a
  match a with
  | 0 => exact (Nat.zero_add _).symm
  | 1 => exact (Nat.zero_add _).symm
  | 2 => exact (Nat.zero_add _).symm

/-- The buffer of the sum for `lb` once zeroed. -/
abbrev zeroed11 : BufTy.Contents (Elt Ideal) arg11.view.ty :=
  arg11.view.writes (Elt Ideal) arg11.view.junk [⟨Rect.unit ![0, 0] S1x1024.size inb_S1x1024_S1x1024_0_0, (k0_pay797 : FVec Ideal S1x1024 .f32)⟩]
/-- The buffer of the carried state gradient once zeroed. -/
abbrev zeroed12 : BufTy.Contents (Elt Ideal) arg12.view.ty :=
  arg12.view.writes (Elt Ideal) arg12.view.junk [⟨Rect.unit ![0, 0, 0] S8x128x128.size inb_S8x128x128_S8x128x128_0_0_0, (k0_pay796 : FVec Ideal S8x128x128 .f32)⟩]

/-- What the first grid point writes to `dq`. -/
theorem runA_6 (hc : cond0_0 i) : (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5).1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (zeroed11 arg11) (zeroed12 arg12) k0_t1_loop.trips).1 := rfl
/-- What the first grid point writes to `df`. -/
theorem runA_7 (hc : cond0_0 i) : (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5).2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (zeroed11 arg11) (zeroed12 arg12) k0_t1_loop.trips).2.1 := rfl
/-- What the first grid point writes to `dv`. -/
theorem runA_8 (hc : cond0_0 i) : (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5).2.2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (zeroed11 arg11) (zeroed12 arg12) k0_t1_loop.trips).2.2.1 := rfl
/-- What the first grid point writes to the sum for `lb`. -/
theorem runA_9 (hc : cond0_0 i) : (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5).2.2.2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (zeroed11 arg11) (zeroed12 arg12) k0_t1_loop.trips).2.2.2.1 ++ [⟨Rect.unit ![0, 0] S1x1024.size inb_S1x1024_S1x1024_0_0, (k0_pay797 : FVec Ideal S1x1024 .f32)⟩] := rfl
/-- What the first grid point writes to the carried state gradient. -/
theorem runA_12 (hc : cond0_0 i) : (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5).2.2.2.2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (zeroed11 arg11) (zeroed12 arg12) k0_t1_loop.trips).2.2.2.2 ++ [⟨Rect.unit ![0, 0, 0] S8x128x128.size inb_S8x128x128_S8x128x128_0_0_0, (k0_pay796 : FVec Ideal S8x128x128 .f32)⟩] := rfl

include hb in
/-- The first grid point. -/
theorem left_A (hJ : J = 0) (hc : cond0_0 i) :
    Left I J (out0_A_6 (F := Ideal) c i arg2 harg2 arg3 harg3 arg4 harg4 arg5 harg5 arg6 harg6 arg7 harg7 arg8 harg8 arg9 harg9 arg10 harg10 arg11 harg11 arg12 harg12 hc x0 x1 x2 x3 x4 x5) (out0_A_7 (F := Ideal) c i arg2 harg2 arg3 harg3 arg4 harg4 arg5 harg5 arg6 harg6 arg7 harg7 arg8 harg8 arg9 harg9 arg10 harg10 arg11 harg11 arg12 harg12 hc x0 x1 x2 x3 x4 x5) (out0_A_8 (F := Ideal) c i arg2 harg2 arg3 harg3 arg4 harg4 arg5 harg5 arg6 harg6 arg7 harg7 arg8 harg8 arg9 harg9 arg10 harg10 arg11 harg11 arg12 harg12 hc x0 x1 x2 x3 x4 x5)
      (out0_A_9 (F := Ideal) c i arg2 harg2 arg3 harg3 arg4 harg4 arg5 harg5 arg6 harg6 arg7 harg7 arg8 harg8 arg9 harg9 arg10 harg10 arg11 harg11 arg12 harg12 hc x0 x1 x2 x3 x4 x5) (sout0_A_0 (F := Ideal) c i arg2 harg2 arg3 harg3 arg4 harg4 arg5 harg5 arg6 harg6 arg7 harg7 arg8 harg8 arg9 harg9 arg10 harg10 arg11 harg11 arg12 harg12 hc x0 x1 x2 x3 x4 x5) := by
  have hP := after_trips c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
    arg8.view.junk arg9.view.junk arg10.view.junk (zeroed11 arg11) (zeroed12 arg12) I J
    (staged arg2 harg2 arg3 harg3 arg4 harg4 arg5 harg5 arg6 harg6 arg7 harg7 x0 x1 x2 x3 x4 x5 I J hb) (by subst hJ; rw [read_row, zero_row]; rfl) (by intro h v k; subst hJ; rw [read_state, zero_state]; rfl)
    k0_t1_loop.trips (le_refl _)
  obtain ⟨hq, hf, hv, hl, hd⟩ := hP
  rw [← runA_6 (hc := hc)] at hq
  rw [← runA_7 (hc := hc)] at hf
  rw [← runA_8 (hc := hc)] at hv
  refine ⟨?_, ?_, ?_, ?_, ?_⟩
  · funext y
    exact View.read_writes_apply_of_pieces _ _ _ _ hq y (cover0_A_6 (F := Ideal) c i arg2 harg2 arg3 harg3 arg4 harg4 arg5 harg5 arg6 harg6 arg7 harg7 arg8 harg8 arg9 harg9 arg10 harg10 arg11 harg11 arg12 harg12 hc x0 x1 x2 x3 x4 x5 y)
  · funext y
    exact View.read_writes_apply_of_pieces _ _ _ _ hf y (cover0_A_7 (F := Ideal) c i arg2 harg2 arg3 harg3 arg4 harg4 arg5 harg5 arg6 harg6 arg7 harg7 arg8 harg8 arg9 harg9 arg10 harg10 arg11 harg11 arg12 harg12 hc x0 x1 x2 x3 x4 x5 y)
  · funext y
    exact View.read_writes_apply_of_pieces _ _ _ _ hv y (cover0_A_8 (F := Ideal) c i arg2 harg2 arg3 harg3 arg4 harg4 arg5 harg5 arg6 harg6 arg7 harg7 arg8 harg8 arg9 harg9 arg10 harg10 arg11 harg11 arg12 harg12 hc x0 x1 x2 x3 x4 x5 y)
  · refine (View.read_writes_of_cover _ _ arg11.view arg11.view.junk _ (cover0_A_9 (F := Ideal) c i arg2 harg2 arg3 harg3 arg4 harg4 arg5 harg5 arg6 harg6 arg7 harg7 arg8 harg8 arg9 harg9 arg10 harg10 arg11 harg11 arg12 harg12 hc x0 x1 x2 x3 x4 x5)).trans ?_
    rw [runA_9, View.writes_append]
    rw [trips_eq] at hl
    exact hl
  · intro h v k
    refine (congrFun (View.read_writes_of_cover _ _ arg12.view arg12.view.junk _ (scover0_A_0 (F := Ideal) c i arg2 harg2 arg3 harg3 arg4 harg4 arg5 harg5 arg6 harg6 arg7 harg7 arg8 harg8 arg9 harg9 arg10 harg10 arg11 harg11 arg12 harg12 hc x0 x1 x2 x3 x4 x5)) _).trans ?_
    rw [runA_12, View.writes_append]
    rw [trips_eq] at hd
    exact hd h v k

variable (xo9 : FVec Ideal S1x1024 .f32) (xs0 : FVec Ideal S8x128x128 .f32)

/-- What a later grid point writes to `dq`. -/
theorem runB_6 (hc : ¬cond0_0 i) : (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0).1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (harg11.unread xo9) (harg12.unread xs0) k0_t1_loop.trips).1 := rfl
/-- What a later grid point writes to `df`. -/
theorem runB_7 (hc : ¬cond0_0 i) : (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0).2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (harg11.unread xo9) (harg12.unread xs0) k0_t1_loop.trips).2.1 := rfl
/-- What a later grid point writes to `dv`. -/
theorem runB_8 (hc : ¬cond0_0 i) : (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0).2.2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (harg11.unread xo9) (harg12.unread xs0) k0_t1_loop.trips).2.2.1 := rfl
/-- What a later grid point writes to the sum for `lb`. -/
theorem runB_9 (hc : ¬cond0_0 i) : (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0).2.2.2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (harg11.unread xo9) (harg12.unread xs0) k0_t1_loop.trips).2.2.2.1 := rfl
/-- What a later grid point writes to the carried state gradient. -/
theorem runB_12 (hc : ¬cond0_0 i) : (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0).2.2.2.2.1 = (written c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
      arg8.view.junk arg9.view.junk arg10.view.junk (harg11.unread xo9) (harg12.unread xs0) k0_t1_loop.trips).2.2.2.2 := rfl

include hb in
/-- A later grid point. -/
theorem left_B (h9 : xo9 = mat fun _ c => I.lbSum J c) (h12 : ∀ h v k, xs0 (ix3 h v k) = ((I.carried J h v k : ℝ) : EReal)) (hc : ¬cond0_0 i) :
    Left I J (out0_B_6 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0) (out0_B_7 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0) (out0_B_8 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0)
      (out0_B_9 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0) (sout0_B_0 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0) := by
  have hP := after_trips c i arg2 harg2 arg3 harg3 arg4 harg4 arg5 harg5 arg6 harg6 arg7 harg7 arg8 harg8 arg9 harg9 arg10 harg10 arg11 harg11 arg12 harg12 (lbLoad arg7 harg7 x5) (harg2.unread x0) (harg3.unread x1) (harg4.unread x2) (harg5.unread x3) (harg6.unread x4)
    arg8.view.junk arg9.view.junk arg10.view.junk (harg11.unread xo9) (harg12.unread xs0) I J
    (staged arg2 harg2 arg3 harg3 arg4 harg4 arg5 harg5 arg6 harg6 arg7 harg7 x0 x1 x2 x3 x4 x5 I J hb) (by rw [harg11.read_unread]; exact h9) (by intro h v k; rw [harg12.read_unread]; exact h12 h v k)
    k0_t1_loop.trips (le_refl _)
  obtain ⟨hq, hf, hv, hl, hd⟩ := hP
  rw [← runB_6 (hc := hc)] at hq
  rw [← runB_7 (hc := hc)] at hf
  rw [← runB_8 (hc := hc)] at hv
  refine ⟨?_, ?_, ?_, ?_, ?_⟩
  · funext y
    exact View.read_writes_apply_of_pieces _ _ _ _ hq y (cover0_B_6 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0 y)
  · funext y
    exact View.read_writes_apply_of_pieces _ _ _ _ hf y (cover0_B_7 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0 y)
  · funext y
    exact View.read_writes_apply_of_pieces _ _ _ _ hv y (cover0_B_8 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0 y)
  · refine (View.read_writes_of_cover _ _ arg11.view (harg11.unread xo9) _ (cover0_B_9 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0)).trans ?_
    rw [runB_9]
    rw [trips_eq] at hl
    exact hl
  · intro h v k
    refine (congrFun (View.read_writes_of_cover _ _ arg12.view (harg12.unread xs0) _ (scover0_B_0 (F := Ideal) c i arg2 harg2 arg3 harg3 arg4 harg4 arg5 harg5 arg6 harg6 arg7 harg7 arg8 harg8 arg9 harg9 arg10 harg10 arg11 harg11 arg12 harg12 hc x0 x1 x2 x3 x4 x5 xo9 xs0)) _).trans ?_
    rw [runB_12]
    rw [trips_eq] at hd
    exact hd h v k

end Cert.KernelIdeal.Chunk

end
-- ==== Proof.KernGrid.lean ====
module

public import proofs.«01_k».proof.Proof.KernPoint
public import proofs.«01_k».proof.Proof.Value
public import Idealize.ShloMosaic.Lib.Pipeline.ValueKit.Geometry

/-! The kernel's whole grid on real numbers: its four results. -/

@[expose] public section

set_option maxRecDepth 16384

noncomputable section

namespace Cert.KernelIdeal.Chunk

open Cert.KernelIdeal Cert.KernelIdeal.Gen Cert.KernelIdeal.Head
open Idealize.ShloMosaic Idealize.ShloMosaic.TcCoe

/-! ### Where a grid point's blocks lie -/

theorem idx0 : ∀ t : Fin cfg0.N, win0_0.index t = ![15 - t.val, 0] := (by decide +kernel : ∀ t : Fin grid0.N, _)
theorem idx1 : ∀ t : Fin cfg0.N, win0_1.index t = ![15 - t.val, 1] := (by decide +kernel : ∀ t : Fin grid0.N, _)
theorem idx2 : ∀ t : Fin cfg0.N, win0_2.index t = ![15 - t.val, 2] := (by decide +kernel : ∀ t : Fin grid0.N, _)
theorem idx3 : ∀ t : Fin cfg0.N, win0_3.index t = ![15 - t.val, 0] := (by decide +kernel : ∀ t : Fin grid0.N, _)
theorem idx4 : ∀ t : Fin cfg0.N, win0_4.index t = ![15 - t.val, 0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![15 - t.val, 0] := (by decide +kernel : ∀ t : Fin grid0.N, _)
theorem idx7 : ∀ t : Fin cfg0.N, win0_7.index t = ![15 - t.val, 0] := (by decide +kernel : ∀ t : Fin grid0.N, _)
theorem idx8 : ∀ t : Fin cfg0.N, win0_8.index t = ![15 - t.val, 0] := (by decide +kernel : ∀ t : Fin grid0.N, _)

/-- The grid has sixteen points. -/
theorem point_lt (t : Fin cfg0.N) : t.val < 16 := lt_of_lt_of_eq t.isLt (show cfg0.N = 16 from N_0)

theorem blockRow_val (t : Fin cfg0.N) (r : Fin 512) : (blockRow (8 * t.val) r).val = (15 - t.val) * 512 + r.val := by
  have := point_lt t
  simp only [blockRow, rowAt, nth]; omega

variable (m : (ℓ : Loc nD τ sig) → Buf (Elt Ideal) ℓ) (c : Dev nD) (I : Ins)
variable (H : I.Held (m ((c : Thread nD τ).loc main_arg0)) (m ((c : Thread nD τ).loc main_arg1)) (m ((c : Thread nD τ).loc main_arg2)) (m ((c : Thread nD τ).loc main_arg3)))

/-! ### A grid point's blocks at coordinates -/

theorem blk0_at (t : Fin cfg0.N) (r : Fin 512) (k : Fin 1024) : iblk m c 0 t (ix2 r k) = m ((c : Thread nD τ).loc main_arg0) (ix2 (blockRow (8 * t.val) r) ⟨k.val, by omega⟩) := by
  have h := blockRow_val t r
  blk_ext [iblk, V, idx0, h]
theorem blk1_at (t : Fin cfg0.N) (r : Fin 512) (k : Fin 1024) : iblk m c 1 t (ix2 r k) = m ((c : Thread nD τ).loc main_arg0) (ix2 (blockRow (8 * t.val) r) ⟨1024 + k.val, by omega⟩) := by
  have h := blockRow_val t r
  blk_ext [iblk, V, idx1, h]
theorem blk2_at (t : Fin cfg0.N) (r : Fin 512) (k : Fin 1024) : iblk m c 2 t (ix2 r k) = m ((c : Thread nD τ).loc main_arg0) (ix2 (blockRow (8 * t.val) r) ⟨2048 + k.val, by omega⟩) := by
  have h := blockRow_val t r
  blk_ext [iblk, V, idx2, h]
theorem blk3_at (t : Fin cfg0.N) (r : Fin 512) (k : Fin 1024) : iblk m c 3 t (ix2 r k) = m ((c : Thread nD τ).loc main_arg1) (ix2 (blockRow (8 * t.val) r) k) := by
  have h := blockRow_val t r
  blk_ext [iblk, V, idx3, h]
theorem blk4_at (t : Fin cfg0.N) (n h : Fin 8) (v k : Fin 128) : iblk m c 4 t (ix4 n h v k) = m ((c : Thread nD τ).loc main_arg2) (ix4 (nth (8 * t.val + (7 - n.val))) h v k) := by
  have ht := point_lt t
  have e : (nth (8 * t.val + (7 - n.val))).val = (15 - t.val) * 8 + n.val := by simp only [nth]; omega
  blk_ext [iblk, V, idx4, e]
theorem blk5_at (t : Fin cfg0.N) (r : Fin 1) (k : Fin 1024) : iblk m c 5 t (ix2 r k) = m ((c : Thread nD τ).loc main_arg3) (ix2 r k) := by
  blk_ext [iblk, V, idx5]

include H

/-- Every grid point's blocks are the inputs' rows and states. -/
theorem blocks (t : Fin cfg0.N) : Blocks (iblk m c 0 t) (iblk m c 1 t) (iblk m c 2 t) (iblk m c 3 t) (iblk m c 4 t) (iblk m c 5 t) I (8 * t.val) where
  q r k := (blk0_at m c t r k).trans (H.q _ k)
  f r k := (blk1_at m c t r k).trans (H.f _ k)
  v r k := (blk2_at m c t r k).trans (H.v _ k)
  d r k := (blk3_at m c t r k).trans (H.d _ k)
  s n h v k := (blk4_at m c t n h v k).trans (H.s _ h v k)
  lb := eq_mat fun r k => (blk5_at m c t r k).trans (congrFun H.lb _)
  le := H.le

/-- What every grid point leaves. -/
theorem left : ∀ (n : ℕ) (hn : n < cfg0.N), Left I (8 * n) (outsAt0 m c n hn).1 (outsAt0 m c n hn).2.1 (outsAt0 m c n hn).2.2.1 (outsAt0 m c n hn).2.2.2.1 (outsAt0 m c n hn).2.2.2.2
  | 0, hn => by
    rw [outsAt0_A m c ⟨0, hn⟩ rfl]
    exact left_A c _ _ _ _ _ _ _ _ _ _ _ _ _ _ _ _ _ _ _ _ _ _ _ _ _ _ _ _ _ I _ (blocks m c I H ⟨0, hn⟩) rfl _
  | n + 1, hn => by
    have ih := left n (Nat.lt_of_succ_lt hn)
    have h16 := point_lt ⟨n + 1, hn⟩
    rw [outsAt0_B m c ⟨n + 1, hn⟩ (by dsimp only at h16 ⊢; omega)]
    exact left_B c _ _ _ _ _ _ _ _ _ _ _ _ _ _ _ _ _ _ _ _ _ _ _ _ _ _ _ _ _ I _ (blocks m c I H ⟨n + 1, hn⟩) _ _ ih.lb ih.ds _

omit H in
/-- A block at a row's place. -/
theorem onBlock_at (g : ℕ → Fin 64 → Fin 1024 → ℝ) (t : Fin cfg0.N) (r : Fin 512) (k : Fin 1024) :
    onBlock (8 * t.val) g (ix2 r k) = ((g (127 - (chunkOf (blockRow (8 * t.val) r)).val) (placeOf (blockRow (8 * t.val) r)) k : ℝ) : EReal) := by
  have ht := point_lt t
  unfold onBlock
  rw [mat_at, blockRow, chunkOf_rowAt, placeOf_rowAt]
  congr 3
  simp only [nth]; omega

/-- The whole array of `dq`. -/
theorem result6 : (dats m 0 c).arrAt 6 cfg0.N = (mat fun r k => I.dq (127 - (chunkOf r).val) (placeOf r) k : FVec Ideal S8192x1024 .bf16) := by
  refine (dats m 0 c).arrAt_eq_of_covers 6 _ (by decide +kernel) fun t hf y => ?_
  blk_simp
  rw [after0_6, (left m c I H t.val t.isLt).dq]
  obtain ⟨r, k, rfl⟩ : ∃ (r : Fin 512) (k : Fin 1024), y = ix2 r k := ⟨y 0, y 1, eq_ix2 y⟩
  refine (onBlock_at I.dq t r k).trans ?_
  have h := blockRow_val t r
  have e : (win0_6.blk t).view.emb (ix2 r k) = (ix2 (blockRow (8 * t.val) r) k : S8192x1024.Idx) := by
    blk_ext [idx6, h]
  rw [e]; rfl

/-- The whole array of `df`. -/
theorem result7 : (dats m 0 c).arrAt 7 cfg0.N = (mat fun r k => I.df (127 - (chunkOf r).val) (placeOf r) k : FVec Ideal S8192x1024 .bf16) := by
  refine (dats m 0 c).arrAt_eq_of_covers 7 _ (by decide +kernel) fun t hf y => ?_
  blk_simp
  rw [after0_7, (left m c I H t.val t.isLt).df]
  obtain ⟨r, k, rfl⟩ : ∃ (r : Fin 512) (k : Fin 1024), y = ix2 r k := ⟨y 0, y 1, eq_ix2 y⟩
  refine (onBlock_at I.df t r k).trans ?_
  have h := blockRow_val t r
  have e : (win0_7.blk t).view.emb (ix2 r k) = (ix2 (blockRow (8 * t.val) r) k : S8192x1024.Idx) := by
    blk_ext [idx7, h]
  rw [e]; rfl

/-- The whole array of `dv`. -/
theorem result8 : (dats m 0 c).arrAt 8 cfg0.N = (mat fun r k => I.dv (127 - (chunkOf r).val) (placeOf r) k : FVec Ideal S8192x1024 .bf16) := by
  refine (dats m 0 c).arrAt_eq_of_covers 8 _ (by decide +kernel) fun t hf y => ?_
  blk_simp
  rw [after0_8, (left m c I H t.val t.isLt).dv]
  obtain ⟨r, k, rfl⟩ : ∃ (r : Fin 512) (k : Fin 1024), y = ix2 r k := ⟨y 0, y 1, eq_ix2 y⟩
  refine (onBlock_at I.dv t r k).trans ?_
  have h := blockRow_val t r
  have e : (win0_8.blk t).view.emb (ix2 r k) = (ix2 (blockRow (8 * t.val) r) k : S8192x1024.Idx) := by
    blk_ext [idx8, h]
  rw [e]; rfl

omit H in
/-- The sum for `lb` leaves the chip after the last point only. -/
theorem flush9_last : ∀ t : Fin cfg0.N, (cfg0.win 9).flush t = true → t.val = 15 := (by decide +kernel : ∀ t : Fin grid0.N, win0_9.flush t = true → t.val = 15)
omit H in
theorem idx9 : ∀ t : Fin cfg0.N, win0_9.index t = ![0, 0] := (by decide +kernel : ∀ t : Fin grid0.N, _)

/-- The whole array of the sum for `lb`. -/
theorem result9 : (dats m 0 c).arrAt 9 cfg0.N = (mat fun _ k => I.lbSum 128 k : FVec Ideal S1x1024 .f32) := by
  refine (dats m 0 c).arrAt_eq_of_covers 9 _ (by decide +kernel) fun t hf y => ?_
  have h15 := flush9_last t hf
  blk_simp
  rw [after0_9, (left m c I H t.val t.isLt).lb]
  obtain ⟨r, k, rfl⟩ : ∃ (r : Fin 1) (k : Fin 1024), y = ix2 r k := ⟨y 0, y 1, eq_ix2 y⟩
  have e : (win0_9.blk t).view.emb (ix2 r k) = (ix2 r k : S1x1024.Idx) := by
    blk_ext [idx9]
  rw [e, h15]

end Cert.KernelIdeal.Chunk

end
-- ==== Proof.RefPairs.lean ====
module

public import proofs.«01_k».proof.Proof.RefGates

/-! One step of the reference, on real numbers: the pairs of rows, and the gradients of the queries, keys and values. -/

@[expose] public section

set_option maxRecDepth 16384

noncomputable section

namespace Cert.ReferenceIdeal.Step

open Cert.ReferenceIdeal Cert.ReferenceIdeal.Gen Cert.ReferenceIdeal.Value
open Cert.KernelIdeal.Head Cert.KernelIdeal.Chunk
open Idealize.ShloMosaic Idealize.ShloMosaic.TcCoe

section

variable {V0 : Valuation τ sig (Elt Ideal)} {lb : Fin 1 → Fin 1024 → ℝ} {xq xg : Fin 64 → Fin 1024 → ℝ} {vv dov : Fin 8 → Fin 64 → Fin 128 → ℝ} {st ds : Fin 8 → Fin 128 → Fin 128 → ℝ}

/-- Which pairs of rows count, as bits. -/
theorem causal (V0 : Valuation τ sig (Elt Ideal)) (t s : Fin 64) (u : Fin 1) : (res_main_while0b_v84 V0 : IVec S64x64x1 1) (ix3 t s u) = if s ≤ t then 1#1 else 0#1 := by
  pointwise [res_main_while0b_v84]
  revert t s; decide +kernel

/-- The decay between two rows, one for pairs that do not count. -/
def fade (b : Fin 64 → Fin 128 → ℝ) (t s : Fin 64) (k : Fin 128) : ℝ := Real.exp (if s ≤ t then b t k - b s k else 0)

/-- One or zero for whether a pair counts. -/
def counts (t s : Fin 64) : ℝ := if s ≤ t then 1 else 0

theorem causals (h : Fin 8) (t s : Fin 64) (k : Fin 128) : (res_main_while0b_v95_1 V0 : IVec S8x64x64x128 1) (ix4 h t s k) = if s ≤ t then 1#1 else 0#1 := by
  pointwise [res_main_while0b_v95_1]; exact causal V0 t s 0

theorem causalFloat : res_main_while0b_v97 V0 = (tens fun _ t s _ => counts t s : FVec Ideal S1x64x64x1 .f32) := by
  apply eq_tens; intro h t s k; pointwise [res_main_while0b_v97]
  rw [causal]
  unfold counts
  by_cases h' : s ≤ t
  · rw [if_pos h', if_pos h']; exact congrArg Real.toEReal (by norm_num : ((1 : ℕ) : ℝ) = 1)
  · rw [if_neg h', if_neg h']; exact congrArg Real.toEReal (by norm_num : ((0 : ℕ) : ℝ) = 0)

/-- The decay of a pair that counts, zero for one that does not. -/
theorem fade_counts (b : Fin 64 → Fin 128 → ℝ) (t s : Fin 64) (k : Fin 128) : fade b t s k * counts t s = if s ≤ t then Real.exp (b t k - b s k) else 0 := by
  unfold fade counts
  by_cases h : s ≤ t
  · simp only [if_pos h, mul_one]
  · simp only [if_neg h, mul_zero]

/-- A choice by whether a pair counts, of real numbers. -/
theorem select_pair (t s : Fin 64) (x y : ℝ) (w : BitVec 1) (hw : w = if s ≤ t then 1#1 else 0#1) :
    Scalar.select w ((x : ℝ) : EReal) ((y : ℝ) : EReal) = ((if s ≤ t then x else y : ℝ) : EReal) := by
  subst hw
  by_cases h : s ≤ t
  · simp only [if_pos h]; rfl
  · simp only [if_neg h]; rfl

variable (R : Reads V0 lb xq xg vv dov st ds)
include R

theorem fades : res_main_while0b_v96 V0 = (tens fun h => fade (bH lb xg h) : FVec Ideal S8x64x64x128 .f32) := by
  unfold res_main_while0b_v96; rw [sums R]
  apply eq_tens; intro h t s k; pointwise []
  have z : (id (constant (F := Ideal) S_ FTy.f32 0#32) ix0 : EReal) = ((0 : ℝ) : EReal) := init_zero
  rw [z, cube_at, cube_at, ← EReal.coe_sub, select_pair t s _ _ _ (causals h t s k)]
  exact Ideal.exp_coe _

theorem fadesCausal : res_main_while0b_v99 V0 = (tens fun h t s k => fade (bH lb xg h) t s k * counts t s : FVec Ideal S8x64x64x128 .f32) := by
  unfold res_main_while0b_v99; rw [fades R, causalFloat]
  apply eq_tens; intro h t s k; pointwise []
  simp only [tens_at, ← EReal.coe_mul]

theorem queriesFaded : res_main_while0b_v102 V0 = (tens fun h t s k => qH xq h t k * (fade (bH lb xg h) t s k * counts t s) : FVec Ideal S8x64x64x128 .f32) := by
  unfold res_main_while0b_v102 res_main_while0b_v100; rw [fadesCausal R, queries R]
  apply eq_tens; intro h t s k; pointwise []
  simp only [tens_at, cube_at, ← EReal.coe_mul]

theorem scores : res_main_while0b_v106 V0 = (cube fun h t s => ∑ k, qH xq h t k * (fade (bH lb xg h) t s k * counts t s) * kH lb xg h s k : FVec Ideal S8x64x64 .f32) := by
  unfold res_main_while0b_v106 res_main_while0b_v103; rw [queriesFaded R, keys R]
  apply eq_cube; intro h t s; pointwise []
  simp only [tens_at, cube_at, ← EReal.coe_mul, ← coe_sum]

theorem sumsLast : res_main_while0b_v109 V0 = (cube fun h _ k => bH lb xg h 63 k : FVec Ideal S8x1x128 .f32) := by
  unfold res_main_while0b_v109; rw [sums R]
  apply eq_cube; intro h t s; pointwise []; rfl

theorem decayAll : res_main_while0b_v111 V0 = (mat fun h k => Real.exp (bH lb xg h 63 k) : FVec Ideal S8x128 .f32) := by
  unfold res_main_while0b_v111; rw [sumsLast R]
  apply eq_mat; intro h k; pointwise []; rfl

theorem decayEnd : res_main_while0b_v117 V0 = (cube fun h t k => Real.exp (bH lb xg h 63 k - bH lb xg h t k) : FVec Ideal S8x64x128 .f32) := by
  unfold res_main_while0b_v117; rw [sumsLast R, sums R]
  apply eq_cube; intro h t k; pointwise []; rfl

theorem decayStart : res_main_while0b_v87 V0 = (cube fun h t k => Real.exp (bH lb xg h t k) : FVec Ideal S8x64x128 .f32) := by
  unfold res_main_while0b_v87; rw [sums R]; rfl

theorem valuesCarried : res_main_while0b_v128 V0 = (cube fun h t k => ∑ v, ds h v k * vv h t v : FVec Ideal S8x64x128 .f32) := by
  unfold res_main_while0b_v128; rw [R.c, R.v]
  apply eq_cube; intro h t k; pointwise []
  simp only [cube_at, ← EReal.coe_mul, ← coe_sum]

theorem gradScores : res_main_while0b_v150 V0 = (tens fun h t s _ => ∑ v, dov h t v * vv h s v : FVec Ideal S8x64x64x128 .f32) := by
  unfold res_main_while0b_v150; rw [R.d, R.v]
  apply eq_tens; intro h t s k; pointwise []
  simp only [cube_at, ← EReal.coe_mul, ← coe_sum]

theorem gradStates : res_main_while0b_v180 V0 = (cube fun h t k => ∑ v, dov h t v * st h v k : FVec Ideal S8x64x128 .f32) := by
  unfold res_main_while0b_v180; rw [R.d, R.s]
  apply eq_cube; intro h t k; pointwise []
  simp only [cube_at, ← EReal.coe_mul, ← coe_sum]

theorem gradPairs : res_main_while0b_v155 V0 = (tens fun h t s k => scoreGrad (vv h) (dov h) t s * kH lb xg h s k : FVec Ideal S8x64x64x128 .f32) := by
  unfold res_main_while0b_v155 res_main_while0b_v103; rw [gradScores R, keys R]
  apply eq_tens; intro h t s k; pointwise []
  simp only [tens_at, cube_at, ← EReal.coe_mul]; rfl

theorem gradDecays : res_main_while0b_v167 V0 = (tens fun h t s k => if s ≤ t then qH xq h t k * (scoreGrad (vv h) (dov h) t s * kH lb xg h s k) * counts t s * fade (bH lb xg h) t s k else 0 : FVec Ideal S8x64x64x128 .f32) := by
  unfold res_main_while0b_v167 res_main_while0b_v100; rw [gradPairs R, queries R, causalFloat, fades R]
  apply eq_tens; intro h t s k; pointwise []
  simp only [tens_at, cube_at, ← EReal.coe_mul, ← EReal.coe_zero]
  exact select_pair t s _ _ _ (causals h t s k)

theorem gradQueries : res_main_while0b_v194 V0 = (mat fun t c => dqH lb xg vv dov st (headOf c) t (laneOf c) : FVec Ideal S64x1024 .f32) := by
  unfold res_main_while0b_v194; rw [gradPairs R, fadesCausal R, gradStates R, decayStart R]
  rw [← joined_cube]; congr 2
  apply eq_cube; intro h t k; pointwise []
  simp only [tens_at, cube_at, ← EReal.coe_mul, ← coe_sum, ← EReal.coe_add, Finset.univ_unique, Finset.sum_singleton, fade_counts]
  refine congrArg Real.toEReal ?_
  unfold dqH dqR
  rw [add_comm, mul_comm (Real.exp _)]
  refine congrArg _ (Finset.sum_congr rfl fun s _ => ?_)
  split <;> ring

theorem gradKeys : res_main_while0b_v192 V0 = (mat fun t c => dkH lb xq xg vv dov ds (headOf c) t (laneOf c) : FVec Ideal S64x1024 .f32) := by
  unfold res_main_while0b_v192; rw [queriesFaded R, gradScores R, valuesCarried R, decayEnd R]
  rw [← joined_cube]; congr 2
  apply eq_cube; intro h t k; pointwise []
  simp only [tens_at, cube_at, ← EReal.coe_mul, ← coe_sum, ← EReal.coe_add, Finset.univ_unique, Finset.sum_singleton, fade_counts]
  refine congrArg Real.toEReal ?_
  unfold dkH dkR scoreGrad
  refine congr (congrArg HAdd.hAdd ?_) (Finset.sum_congr rfl fun s _ => ?_)
  · rw [mul_comm]; exact congrArg _ (Finset.sum_congr rfl fun v _ => mul_comm _ _)
  · split <;> ring

end

end Cert.ReferenceIdeal.Step

end
-- ==== Proof.RefStep.lean ====
module

public import proofs.«01_k».proof.Proof.RefPairs

/-! One step of the reference, on real numbers: the gradient of the decays, and what the step leaves in each array. -/

@[expose] public section

set_option maxRecDepth 16384

noncomputable section

namespace Cert.ReferenceIdeal.Step

open Cert.ReferenceIdeal Cert.ReferenceIdeal.Gen Cert.ReferenceIdeal.Value
open Cert.KernelIdeal.Head Cert.KernelIdeal.Chunk
open Idealize.ShloMosaic Idealize.ShloMosaic.TcCoe

section

variable {V0 : Valuation τ sig (Elt Ideal)} {lb : Fin 1 → Fin 1024 → ℝ} {xq xg : Fin 64 → Fin 1024 → ℝ} {vv dov : Fin 8 → Fin 64 → Fin 128 → ℝ} {st ds : Fin 8 → Fin 128 → Fin 128 → ℝ}

variable (lb xq xg vv dov st ds) in
/-- The state after the chunk against its gradient, as a sum over the rows and a sum over the states. -/
def lastR (h : Fin 8) (k : Fin 128) : ℝ :=
  (∑ s, kH lb xg h s k * (∑ v, ds h v k * vv h s v) * Real.exp (bH lb xg h 63 k - bH lb xg h s k)) + (∑ v, ds h v k * st h v k) * Real.exp (bH lb xg h 63 k)

theorem lastR_eq (h : Fin 8) (k : Fin 128) : lastR lb xg vv st ds h k = wH lb xg vv st ds h k := by
  unfold lastR wH
  simp only [add_mul, Finset.sum_add_distrib, Finset.sum_mul, Finset.mul_sum]
  rw [add_comm, Finset.sum_comm]
  refine congr (congrArg HAdd.hAdd (Finset.sum_congr rfl fun v _ => by ring)) (Finset.sum_congr rfl fun v _ => Finset.sum_congr rfl fun t _ => by ring)

variable (lb xq xg vv dov st ds) in
/-- The gradient of one pair's decay. -/
def pairR (h : Fin 8) (t s : Fin 64) (k : Fin 128) : ℝ :=
  if s ≤ t then qH xq h t k * (scoreGrad (vv h) (dov h) t s * kH lb xg h s k) * counts t s * fade (bH lb xg h) t s k else 0

variable (lb xq xg vv dov st ds) in
/-- The gradient of the sum of logarithms at one row. -/
def rowR (h : Fin 8) (t : Fin 64) (k : Fin 128) : ℝ :=
  -(kH lb xg h t k * (∑ v, ds h v k * vv h t v) * Real.exp (bH lb xg h 63 k - bH lb xg h t k)) + (if t = 63 then lastR lb xg vv st ds h k else 0)
    + (∑ t', -pairR lb xq xg vv dov h t' t k) + (∑ s, pairR lb xq xg vv dov h t s k) + qH xq h t k * (∑ v, dov h t v * st h v k) * Real.exp (bH lb xg h t k)

theorem pairR_eq (h : Fin 8) (t s : Fin 64) (k : Fin 128) :
    pairR lb xq xg vv dov h t s k = qH xq h t k * if s ≤ t then scoreGrad (vv h) (dov h) t s * (kH lb xg h s k * Real.exp (bH lb xg h t k - bH lb xg h s k)) else 0 := by
  unfold pairR
  rw [mul_assoc, mul_comm (counts t s), fade_counts]
  split <;> ring

/-- A row's gradient is the queries against theirs less the keys against theirs, and at the last row the carried part too. -/
theorem rowR_eq (h : Fin 8) (t : Fin 64) (k : Fin 128) :
    rowR lb xq xg vv dov st ds h t k = qH xq h t k * dqH lb xg vv dov st h t k - kH lb xg h t k * dkH lb xq xg vv dov ds h t k + if t = 63 then wH lb xg vv st ds h k else 0 := by
  have e1 : (∑ s, pairR lb xq xg vv dov h t s k) = qH xq h t k * ∑ s, if s ≤ t then scoreGrad (vv h) (dov h) t s * (kH lb xg h s k * Real.exp (bH lb xg h t k - bH lb xg h s k)) else 0 := by
    rw [Finset.mul_sum]; exact Finset.sum_congr rfl fun s _ => pairR_eq h t s k
  have e2 : (∑ t', -pairR lb xq xg vv dov h t' t k) = -(kH lb xg h t k * ∑ t', if t ≤ t' then scoreGrad (vv h) (dov h) t' t * (qH xq h t' k * Real.exp (bH lb xg h t' k - bH lb xg h t k)) else 0) := by
    rw [Finset.mul_sum, Finset.sum_neg_distrib]; refine congrArg _ (Finset.sum_congr rfl fun s _ => ?_)
    rw [pairR_eq]; split <;> ring
  have e3 : (∑ v, ds h v k * vv h t v) = ∑ v, vv h t v * ds h v k := Finset.sum_congr rfl fun v _ => mul_comm _ _
  unfold rowR dqH dkH dqR dkR
  rw [e1, e2, e3, lastR_eq]
  ring

/-- The rows' gradients summed from a row to the last. -/
theorem sum_rowR (h : Fin 8) (t : Fin 64) (k : Fin 128) :
    (∑ s, if t ≤ s then rowR lb xq xg vv dov st ds h s k else 0) = dlogH lb xq xg vv dov st ds h t k := by
  have e : ∀ s : Fin 64, (if t ≤ s then rowR lb xq xg vv dov st ds h s k else 0)
      = (if t ≤ s then qH xq h s k * dqH lb xg vv dov st h s k - kH lb xg h s k * dkH lb xq xg vv dov ds h s k else 0)
        + if s = 63 then wH lb xg vv st ds h k else 0 := by
    intro s
    by_cases hs : t ≤ s
    · rw [if_pos hs, if_pos hs, rowR_eq]
    · rw [if_neg hs, if_neg hs, if_neg (fun h' => hs (by subst h'; exact Fin.le_last t)), add_zero]
  unfold dlogH
  rw [Finset.sum_congr rfl fun s _ => e s, Finset.sum_add_distrib, Finset.sum_ite_eq' Finset.univ (63 : Fin 64), if_pos (Finset.mem_univ _)]

variable (R : Reads V0 lb xq xg vv dov st ds)
include R

theorem carriedKeys : res_main_while0b_v131 V0 = (cube fun h t k => kH lb xg h t k * (∑ v, ds h v k * vv h t v) * Real.exp (bH lb xg h 63 k - bH lb xg h t k) : FVec Ideal S8x64x128 .f32) := by
  unfold res_main_while0b_v131; rw [keys R, valuesCarried R, decayEnd R]
  apply eq_cube; intro h t k; pointwise []
  simp only [cube_at, ← EReal.coe_mul]

theorem lastTerm : (addf (shapeCast S8x1x128 (Host.reduceAdd (res_main_while0b_v131 V0) (constant S_ .f32 0x00000000#32) reducesTo_S8x64x128_S8x128_d1 h_S_) shapeCasts_S8x128_S8x1x128) (broadcastInDim S8x1x128 ![0, 2] bcast_S8x128_S8x1x128_0_2 (mulf (Host.reduceAdd (shapeCast S8x128x1 (Host.reduceAdd (mulf (V0 (Proc.devRef .tc main_v13_7)) (res_main_while0b_v23 V0)) (constant S_ .f32 0x00000000#32) reducesTo_S8x128x128_S8x128_d2 h_S_) shapeCasts_S8x128_S8x128x1) (constant S_ .f32 0x00000000#32) reducesTo_S8x128x1_S8x128_d2 h_S_) (res_main_while0b_v111 V0))))
    = (cube fun h _ k => lastR lb xg vv st ds h k : FVec Ideal S8x1x128 .f32) := by
  rw [carriedKeys R, R.c, R.s, decayAll R]
  apply eq_cube; intro h t k; pointwise []
  simp only [cube_at, mat_at, ← EReal.coe_mul, ← coe_sum, ← EReal.coe_add, Finset.univ_unique, Finset.sum_singleton]
  rfl

theorem gradDecays' : res_main_while0b_v167 V0 = (tens (pairR lb xq xg vv dov) : FVec Ideal S8x64x64x128 .f32) := gradDecays R

theorem rows : addf (addf (addf (addf (Host.negf (res_main_while0b_v131 V0)) (pad S8x64x128 ![0, 63, 0] ![0, 0, 0] ![0, 0, 0] (addf (shapeCast S8x1x128 (Host.reduceAdd (res_main_while0b_v131 V0) (constant S_ .f32 0x00000000#32) reducesTo_S8x64x128_S8x128_d1 h_S_) shapeCasts_S8x128_S8x1x128) (broadcastInDim S8x1x128 ![0, 2] bcast_S8x128_S8x1x128_0_2 (mulf (Host.reduceAdd (shapeCast S8x128x1 (Host.reduceAdd (mulf (V0 (Proc.devRef .tc main_v13_7)) (res_main_while0b_v23 V0)) (constant S_ .f32 0x00000000#32) reducesTo_S8x128x128_S8x128_d2 h_S_) shapeCasts_S8x128_S8x128x1) (constant S_ .f32 0x00000000#32) reducesTo_S8x128x1_S8x128_d2 h_S_) (res_main_while0b_v111 V0)))) (constant S_ .f32 0x00000000#32) pads_S8x1x128_S8x64x128_000_6300_000 h_S_)) (Host.reduceAdd (shapeCast S8x1x64x128 (Host.reduceAdd (Host.negf (res_main_while0b_v167 V0)) (constant S_ .f32 0x00000000#32) reducesTo_S8x64x64x128_S8x64x128_d1 h_S_) shapeCasts_S8x64x128_S8x1x64x128) (constant S_ .f32 0x00000000#32) reducesTo_S8x1x64x128_S8x64x128_d1 h_S_)) (Host.reduceAdd (shapeCast S8x64x1x128 (Host.reduceAdd (res_main_while0b_v167 V0) (constant S_ .f32 0x00000000#32) reducesTo_S8x64x64x128_S8x64x128_d2 h_S_) shapeCasts_S8x64x128_S8x64x1x128) (constant S_ .f32 0x00000000#32) reducesTo_S8x64x1x128_S8x64x128_d2 h_S_)) (mulf (mulf (res_main_while0b_v75 V0) (res_main_while0b_v180 V0)) (res_main_while0b_v87 V0))
    = (cube (rowR lb xq xg vv dov st ds) : FVec Ideal S8x64x128 .f32) := by
  rw [lastTerm R, carriedKeys R, gradDecays' R, queries R, gradStates R, decayStart R]
  apply eq_cube; intro h t k; pointwise []
  simp only [cube_at, tens_at, ← EReal.coe_neg, ← EReal.coe_mul, ← coe_sum, Finset.univ_unique, Finset.sum_singleton]
  have e : (if _ : 63 ≤ t.val ∧ t.val - 63 < 1 then ((lastR lb xg vv st ds h k : ℝ) : EReal) else 0) = ((if t = 63 then lastR lb xg vv st ds h k else 0 : ℝ) : EReal) := by
    by_cases ht : t = 63
    · subst ht; rfl
    · rw [if_neg ht, dif_neg (fun h' => ht (Fin.ext (Nat.le_antisymm (Nat.le_of_lt_succ t.isLt) h'.1)))]; rfl
  rw [e]
  simp only [← EReal.coe_add]; rfl

theorem gradLogs (hd : ∀ t c, decayR (lb 0 c) (xg t c) ≠ least) : res_main_while0b_v205 V0
    = (mat fun t c => gateH lb xq xg vv dov st ds (headOf c) t (laneOf c) + dkH lb xq xg vv dov ds (headOf c) t (laneOf c) : FVec Ideal S64x1024 .f32) := by
  have w : Host.reduceWindowAdd ![1, 64, 1] ![1, 1, 1] ![0, 0, 0] ![0, 63, 0] (cube (φ := .f32) (rowR lb xq xg vv dov st ds)) (broadcastInDim S_ ![] bcast_S_S_ (constant S_ .f32 0x00000000#32)) reduceWindows_S8x64x128_S8x64x128_w1s1p0_0_w64s1p0_63_w1s1p0_0 h_S_
      = cube (φ := .f32) (dlogH lb xq xg vv dov st ds) := by
    apply eq_cube; intro h t k
    rw [window_at _ _ init_zero, window_up (fun s => rowR lb xq xg vv dov st ds h s k), sum_rowR]
  unfold res_main_while0b_v205; rw [rows R, w, joined_cube, floored R, decay R]
  apply eq_mat; intro t c; pointwise []
  simp only [mat_at]
  rw [show Ideal.ofBits .f32 0x0DA24260#32 = _ from least_eq, Ideal.div_coe (lt_of_lt_of_le least_pos (le_max_right _ _)).ne', ← EReal.coe_mul]
  unfold gateH
  rw [colOf_head_lane, sub_add_cancel]
  by_cases hf : least < decayR (lb 0 c) (xg t c)
  · refine (congrArg _ (if_pos (EReal.coe_lt_coe_iff.mpr hf))).trans ?_
    rw [if_pos hf, mul_one_div]; exact mul_one _
  · refine (congrArg _ ((if_neg fun h' => hf (EReal.coe_lt_coe_iff.mp h')).trans (if_neg fun h' => hd t c (EReal.coe_eq_coe_iff.mp h')))).trans ?_
    rw [if_neg hf]; exact mul_zero _

theorem dqBlock : addf (mulf (res_main_while0b_v194 V0) (res_main_while0b_v29_2 V0)) (mulf (mulf (res_main_while0b_v24 V0) (res_main_while0b_v194 V0)) (mulf (res_main_while0b_v29_2 V0) (subf (broadcastInDim S64x1024 ![] bcast_S_S64x1024 (constant S_ .f32 0x3F800000#32)) (res_main_while0b_v29_2 V0))))
    = (mat (outDqR lb xq xg vv dov st) : FVec Ideal S64x1024 .f32) := by
  rw [gradQueries R, sigQ R, R.q]
  apply eq_mat; intro t c; pointwise []
  simp only [mat_at, ← EReal.coe_one, ← EReal.coe_sub, ← EReal.coe_mul, ← EReal.coe_add]
  refine congrArg Real.toEReal ?_
  unfold outDqR; ring

theorem dfBlock (hd : ∀ t c, decayR (lb 0 c) (xg t c) ≠ least) : addf (Host.negf (mulf (mulf (broadcastInDim S64x1024 ![0, 1] bcast_S1x1024_S64x1024_0_1 (res_main_while0b_v71 V0)) (res_main_while0b_v192 V0)) (mulf (res_main_while0b_v67 V0) (subf (broadcastInDim S64x1024 ![] bcast_S_S64x1024 (constant S_ .f32 0x3F800000#32)) (res_main_while0b_v67 V0))))) (mulf (mulf (broadcastInDim S64x1024 ![0, 1] bcast_S1x1024_S64x1024_0_1 (res_main_while0b_v41 V0)) (res_main_while0b_v205 V0)) (mulf (res_main_while0b_v37 V0) (subf (broadcastInDim S64x1024 ![] bcast_S_S64x1024 (constant S_ .f32 0x3F800000#32)) (res_main_while0b_v37 V0))))
    = (mat (outDfR lb xq xg vv dov st ds) : FVec Ideal S64x1024 .f32) := by
  rw [gradLogs R hd, gradKeys R, sigF R, sigNegF R, rest R, rest' R]
  apply eq_mat; intro t c; pointwise []
  simp only [mat_at, ← EReal.coe_one, ← EReal.coe_sub, ← EReal.coe_mul, ← EReal.coe_neg, ← EReal.coe_add]
  refine congrArg Real.toEReal ?_
  unfold outDfR; rw [logi_neg]; ring

theorem dvBlock : shapeCast S64x1024 (transpose S64x8x128 [1, 0, 2] (addf (transpose S8x64x128 [0, 2, 1] (Host.dotGeneral (φ₁ := .f32) (φ₂ := .f32) dot_S8x128x128_S8x64x128_S8x128x64_1_2_2_1_0_0 none (V0 (Proc.devRef .tc main_v13_7)) (res_main_while0b_v118 V0)) transposes_S8x128x64_S8x64x128_0_2_1) (transpose S8x64x128 [0, 2, 1] (Host.dotGeneral (φ₁ := .f32) (φ₂ := .f32) dot_S8x64x128_S8x64x64_S8x128x64_1_1_2_2_0_0 none (res_main_while0b_v124 V0) (res_main_while0b_v106 V0)) transposes_S8x128x64_S8x64x128_0_2_1)) transposes_S8x64x128_S64x8x128_1_0_2) shapeCasts_S64x8x128_S64x1024
    = (mat (outDvR lb xq xg dov ds) : FVec Ideal S64x1024 .f32) := by
  unfold res_main_while0b_v118
  rw [scores R, R.d, keys R, decayEnd R, R.c]
  unfold outDvR
  rw [← joined_cube]; congr 2
  apply eq_cube; intro h t k; pointwise []
  simp only [cube_at, ← EReal.coe_mul, ← coe_sum, ← EReal.coe_add]
  refine congrArg Real.toEReal ?_
  unfold dvH dvR score
  refine congr (congrArg HAdd.hAdd (Finset.sum_congr rfl fun s _ => by ring)) (Finset.sum_congr rfl fun s _ => ?_)
  simp only [fade_counts]
  split
  · rw [mul_comm]; refine congrArg (· * _) (Finset.sum_congr rfl fun j _ => by ring)
  · simp only [mul_zero, zero_mul, Finset.sum_const_zero]

theorem carriedStep : step_main_v13_7 V0 = (cube fun h k v => dsH lb xq xg dov ds h v k : FVec Ideal S8x128x128 .f32) := by
  unfold step_main_v13_7; rw [id]; unfold res_main_while0b_v112 res_main_while0b_v88
  rw [R.d, queries R, decayStart R, decayAll R, R.c]
  apply eq_cube; intro h t k; pointwise []
  simp only [cube_at, mat_at, ← EReal.coe_mul, ← coe_sum, ← EReal.coe_add]
  refine congrArg Real.toEReal ?_
  unfold dsH; rw [mul_comm]

theorem lbStep (hd : ∀ t c, decayR (lb 0 c) (xg t c) ≠ least) (old : Fin 1024 → ℝ) (ho : (V0 (Proc.devRef .tc main_v13_8) : FVec Ideal S1024 .f32) = vec (φ := .f32) old) :
    step_main_v13_8 V0 = (vec fun c => old c + addDlbR lb xq xg vv dov st ds c : FVec Ideal S1024 .f32) := by
  unfold step_main_v13_8; rw [id]
  rw [ho, gradLogs R hd, gradKeys R, sigF R, sigNegF R]
  apply eq_vec; intro c; pointwise []
  simp only [vec_at, mat_at, ← EReal.coe_neg, ← EReal.coe_mul, ← coe_sum, ← EReal.coe_add, Finset.univ_unique, Finset.sum_singleton]
  refine congrArg Real.toEReal ?_
  unfold addDlbR
  rw [← Finset.sum_neg_distrib, ← Finset.sum_neg_distrib, ← Finset.sum_add_distrib, ← Finset.sum_add_distrib]
  refine congrArg _ (Finset.sum_congr rfl fun t _ => ?_)
  rw [logi_neg]; ring

end

end Cert.ReferenceIdeal.Step

end
-- ==== Proof.RefLoop.lean ====
module

public import proofs.«01_k».proof.Proof.RefStep
public import proofs.«01_k».proof.Proof.Chunks

/-! The reference's loop on real numbers. -/

@[expose] public section

set_option maxRecDepth 16384

noncomputable section

namespace Cert.ReferenceIdeal.Step

open Cert.ReferenceIdeal Cert.ReferenceIdeal.Gen Cert.ReferenceIdeal.Value
open Cert.KernelIdeal.Head Cert.KernelIdeal.Chunk
open Idealize.ShloMosaic Idealize.ShloMosaic.TcCoe
open Idealize.ShloMosaic.Tactic Idealize.ShloMosaic.StableHlo Idealize.SL.Sem

section

variable {V0 : Valuation τ sig (Elt Ideal)} {I : Ins}

/-- Chunk `n` of an array of chunks. -/
def piece (I : Fin 8192 → Fin 1024 → ℝ) : FVec Ideal S128x64x1024 .f32 := cube fun n t c => I (rowAt n t) c

variable (V0 I) in
/-- What the loop's arrays hold before step `j`. -/
structure Before (j : ℕ) : Prop where
  s : (V0 (Proc.devRef .tc main_v13_0) : FVec Ideal S128x8x128x128 .f32) = tens (φ := .f32) fun n h k v => I.s n h v k
  q : (V0 (Proc.devRef .tc main_v13_1) : FVec Ideal S128x64x1024 .f32) = piece I.q
  f : (V0 (Proc.devRef .tc main_v13_2) : FVec Ideal S128x64x1024 .f32) = piece I.f
  v : (V0 (Proc.devRef .tc main_v13_3) : FVec Ideal S128x64x1024 .f32) = piece I.v
  d : (V0 (Proc.devRef .tc main_v13_4) : FVec Ideal S128x64x1024 .f32) = piece I.d
  lb : (V0 (Proc.devRef .tc main_v13_5) : FVec Ideal S1x1024 .f32) = mat (φ := .f32) I.lb
  n : (V0 (Proc.devRef .tc main_v13_6) : IVec S_ 32) = fun _ => BitVec.ofNat 32 j
  c : (V0 (Proc.devRef .tc main_v13_7) : FVec Ideal S8x128x128 .f32) = cube (φ := .f32) fun h k v => I.carried j h v k
  dlb : (V0 (Proc.devRef .tc main_v13_8) : FVec Ideal S1024 .f32) = vec (φ := .f32) (I.lbSum j)
  dq : ∀ i < j, ∀ t c, (V0 (Proc.devRef .tc main_v13_9) : FVec Ideal S128x64x1024 .f32) (ix3 (nth i) t c) = ((I.dq i t c : ℝ) : EReal)
  df : ∀ i < j, ∀ t c, (V0 (Proc.devRef .tc main_v13_10) : FVec Ideal S128x64x1024 .f32) (ix3 (nth i) t c) = ((I.df i t c : ℝ) : EReal)
  dv : ∀ i < j, ∀ t c, (V0 (Proc.devRef .tc main_v13_11) : FVec Ideal S128x64x1024 .f32) (ix3 (nth i) t c) = ((I.dv i t c : ℝ) : EReal)

/-- Where a step's slices start. -/
abbrev starts (V0 : Valuation τ sig (Elt Ideal)) : Fin 3 → Int := fun k => (((![res_main_while0b_v22 V0, constantI S_ 32 0#32, constantI S_ 32 0#32] : Fin 3 → (⟨S_, .i32⟩ : BufTy).Contents (Elt Ideal))) k (Shape.Idx.first h_S_)).toInt
/-- Where a step's slice of the states starts. -/
abbrev starts4 (V0 : Valuation τ sig (Elt Ideal)) : Fin 4 → Int := fun k => (((![res_main_while0b_v22 V0, constantI S_ 32 0#32, constantI S_ 32 0#32, constantI S_ 32 0#32] : Fin 4 → (⟨S_, .i32⟩ : BufTy).Contents (Elt Ideal))) k (Shape.Idx.first h_S_)).toInt

theorem place : ∀ j : Fin 128, (128#32 - BitVec.ofNat 32 j.val - 1#32).toInt = ((nth j.val).val : ℤ) := by decide +kernel

theorem cong3 {α β γ δ : Type} (f : α → β → γ → δ) {a a' : α} {b b' : β} {c c' : γ} (ha : a = a') (hb : b = b') (hc : c = c') : f a b c = f a' b' c' := by
  rw [ha, hb, hc]
theorem cong4 {α β γ δ ε : Type} (f : α → β → γ → δ → ε) {a a' : α} {b b' : β} {c c' : γ} {d d' : δ} (ha : a = a') (hb : b = b') (hc : c = c') (hd : d = d') :
    f a b c d = f a' b' c' d' := by
  rw [ha, hb, hc, hd]

/-- After step `j` an array of chunks holds step `j`'s chunk there, and the earlier steps' chunks where they were. -/
theorem ite_nth {j i : ℕ} (hj : j < 128) (hi : i < j + 1) {y : ℕ → EReal} {x : Fin 128 → EReal} (hx : ∀ i < j, x (nth i) = y i) :
    (if nth i = nth j then y j else x (nth i)) = y i := by
  have e : nth i = nth j ↔ i = j := by
    constructor
    · intro h; have := congrArg Fin.val h; simp only [nth] at this; omega
    · rintro rfl; rfl
  by_cases h : i = j
  · rw [if_pos (e.mpr h), h]
  · rw [if_neg (fun h' => h (e.mp h')), hx i (by omega)]

variable {j : ℕ} (B : Before V0 I j) (hj : j < 128)
include B hj

theorem at22 : (res_main_while0b_v22 V0 (Shape.Idx.first h_S_)).toInt = ((nth j).val : ℤ) := by
  unfold res_main_while0b_v22; rw [B.n]; exact place ⟨j, hj⟩

theorem clamp0 : Host.clampedStart S128x64x1024 S1x64x1024 rfl (starts V0) 0 = (nth j).val :=
  Host.clampedStart_of_le _ _ _ _ (at22 B hj) (by have := (nth j).isLt; show (nth j).val + 1 ≤ 128; omega)
omit B hj in
theorem clamp1 : Host.clampedStart S128x64x1024 S1x64x1024 rfl (starts V0) 1 = 0 :=
  Host.clampedStart_of_le _ _ _ _ rfl (by decide)
omit B hj in
theorem clamp2 : Host.clampedStart S128x64x1024 S1x64x1024 rfl (starts V0) 2 = 0 :=
  Host.clampedStart_of_le _ _ _ _ rfl (by decide)

/-- A step's slice of an array of chunks is that chunk. -/
theorem slice (x : Fin 8192 → Fin 1024 → ℝ) :
    shapeCast S64x1024 (Host.dynamicSlice S1x64x1024 (piece x) (starts V0) sliceFits_S128x64x1024_S1x64x1024) shapeCasts_S1x64x1024_S64x1024
      = mat (φ := .f32) fun t c => x (rowAt (nth j) t) c := by
  apply eq_mat; intro t c; pointwise []
  refine congrArg Real.toEReal (cong3 (fun n t c => x (rowAt n t) c) (Fin.ext (clamp0 B hj)) (Fin.ext ?_) (Fin.ext ?_))
  · exact (congrArg (· + t.val) clamp1).trans (Nat.zero_add _)
  · exact (congrArg (· + c.val) clamp2).trans (Nat.zero_add _)

/-- A step's update of an array of chunks. -/
theorem update (x : FVec Ideal S128x64x1024 .f32) (y : Fin 64 → Fin 1024 → ℝ) (i : Fin 128) (t : Fin 64) (c : Fin 1024) :
    Host.dynamicUpdateSlice x (broadcastInDim S1x64x1024 ![1, 2] bcast_S64x1024_S1x64x1024_1_2 (mat (φ := .f32) y)) (starts V0) updateFits_S128x64x1024_S1x64x1024 (ix3 i t c)
      = if i = nth j then ((y t c : ℝ) : EReal) else x (ix3 i t c) := by
  pointwise []
  have e0 := clamp0 B hj
  have e1 := clamp1 (V0 := V0)
  have e2 := clamp2 (V0 := V0)
  by_cases hi : i = nth j
  · rw [if_pos hi]
    have hi' : i.val = (nth j).val := congrArg Fin.val hi
    refine (dif_pos ⟨⟨e0.trans_le hi'.ge, hi'.trans_lt (Nat.lt_succ_of_le e0.ge)⟩, e1.trans_le (Nat.zero_le _), e2.trans_le (Nat.zero_le _)⟩).trans ?_
    refine congrArg Real.toEReal (congr (congrArg y (Fin.ext ?_)) (Fin.ext ?_))
    · exact (congrArg (t.val - ·) e1).trans (Nat.sub_zero _)
    · exact (congrArg (c.val - ·) e2).trans (Nat.sub_zero _)
  · rw [if_neg hi]
    exact dif_neg fun h => hi (Fin.ext (Nat.le_antisymm ((Nat.le_of_lt_succ h.1.2).trans e0.le) (e0.ge.trans h.1.1)))

theorem reads : Reads V0 I.lb (I.xq (nth j)) (I.xg (nth j)) (I.vv (nth j)) (I.dov (nth j)) (I.s (nth j)) (I.carried j) where
  lb := by
    unfold res_main_while0b_v28; rw [B.lb]; apply eq_vec; intro i; pointwise []; rfl
  q := by unfold res_main_while0b_v24; rw [B.q]; exact slice B hj _
  g := by unfold res_main_while0b_v25; rw [B.f]; exact slice B hj _
  v := by unfold res_main_while0b_v79; rw [B.v]; refine (congrArg (fun z => transpose S8x64x128 [1, 0, 2] (shapeCast S64x8x128 z _) _) (slice B hj _)).trans (heads_mat _)
  d := by unfold res_main_while0b_v124; rw [B.d]; refine (congrArg (fun z => transpose S8x64x128 [1, 0, 2] (shapeCast S64x8x128 z _) _) (slice B hj _)).trans (heads_mat _)
  s := by
    unfold res_main_while0b_v23; rw [B.s]
    apply eq_cube; intro h k v; pointwise []
    refine congrArg Real.toEReal (cong4 (fun n h k v => I.s n h v k) (Fin.ext ?_) (Fin.ext ?_) (Fin.ext ?_) (Fin.ext ?_))
    · exact Host.clampedStart_of_le (s := S128x8x128x128) (t := S1x8x128x128) rfl (starts4 V0) 0 _ (at22 B hj) (by have := (nth j).isLt; show (nth j).val + 1 ≤ 128; omega)
    · exact (congrArg (· + h.val) (Host.clampedStart_of_le (s := S128x8x128x128) (t := S1x8x128x128) rfl (starts4 V0) 1 0 rfl (by decide))).trans (Nat.zero_add _)
    · exact (congrArg (· + k.val) (Host.clampedStart_of_le (s := S128x8x128x128) (t := S1x8x128x128) rfl (starts4 V0) 2 0 rfl (by decide))).trans (Nat.zero_add _)
    · exact (congrArg (· + v.val) (Host.clampedStart_of_le (s := S128x8x128x128) (t := S1x8x128x128) rfl (starts4 V0) 3 0 rfl (by decide))).trans (Nat.zero_add _)
  c := B.c

theorem step (hd : ∀ r c, decayR (I.lb 0 c) (I.f r c) ≠ least) : Before (STEP V0) I (j + 1) where
  s := by rw [STEP_main_v13_0, B.s]
  q := by rw [STEP_main_v13_1, B.q]
  f := by rw [STEP_main_v13_2, B.f]
  v := by rw [STEP_main_v13_3, B.v]
  d := by rw [STEP_main_v13_4, B.d]
  lb := by rw [STEP_main_v13_5, B.lb]
  n := by
    rw [STEP_main_v13_6]; unfold step_main_v13_6; rw [B.n]; funext _
    exact (BitVec.ofNat_add j 1).symm
  c := by rw [STEP_main_v13_7, carriedStep (reads B hj)]; rfl
  dlb := by rw [STEP_main_v13_8, lbStep (reads B hj) (fun t c => hd _ c) _ B.dlb]; rfl
  dq := by
    intro i hi t c
    rw [STEP_main_v13_9]; unfold step_main_v13_9; rw [id, dqBlock (reads B hj)]; refine (update B hj _ _ _ _ _).trans ?_
    exact ite_nth hj hi (y := fun i => ((I.dq i t c : ℝ) : EReal)) (x := fun n => (V0 (Proc.devRef .tc main_v13_9) : FVec Ideal S128x64x1024 .f32) (ix3 n t c)) (B.dq · · t c)
  df := by
    intro i hi t c
    rw [STEP_main_v13_10]; unfold step_main_v13_10; rw [id, dfBlock (reads B hj) (fun t c => hd _ c)]; refine (update B hj _ _ _ _ _).trans ?_
    exact ite_nth hj hi (y := fun i => ((I.df i t c : ℝ) : EReal)) (x := fun n => (V0 (Proc.devRef .tc main_v13_10) : FVec Ideal S128x64x1024 .f32) (ix3 n t c)) (B.df · · t c)
  dv := by
    intro i hi t c
    rw [STEP_main_v13_11]; unfold step_main_v13_11; rw [id, dvBlock (reads B hj)]; refine (update B hj _ _ _ _ _).trans ?_
    exact ite_nth hj hi (y := fun i => ((I.dv i t c : ℝ) : EReal)) (x := fun n => (V0 (Proc.devRef .tc main_v13_11) : FVec Ideal S128x64x1024 .f32) (ix3 n t c)) (B.dv · · t c)

end

section

variable {I : Ins} (m : (ℓ : Loc nD τ sig) → Buf (Elt Ideal) ℓ) (c : Dev nD)
  (H : I.Held (m ((c.tc : Thread nD τ).loc main_arg0)) (m ((c.tc : Thread nD τ).loc main_arg1)) (m ((c.tc : Thread nD τ).loc main_arg2)) (m ((c.tc : Thread nD τ).loc main_arg3)))

theorem entry0 : entryContents preI m c (Proc.devRef .tc main_v13_0) = (transpose S128x8x128x128 [0, 1, 3, 2] (m ((c.tc : Thread nD τ).loc main_arg2)) transposes_S128x8x128x128_S128x8x128x128_0_1_3_2) := by
  simp only [entryContents, afterL_cons, afterL_nil]
  after_reads_simp
  rfl
theorem entry1 : entryContents preI m c (Proc.devRef .tc main_v13_1) = shapeCast S128x64x1024 (extractStridedSlice S8192x1024 ![0, 0] (m ((c.tc : Thread nD τ).loc main_arg0)) slices_S8192x10240_S8192x1024_0_0) shapeCasts_S8192x1024_S128x64x1024 := by
  simp only [entryContents, afterL_cons, afterL_nil]
  after_reads_simp
  rfl
theorem entry2 : entryContents preI m c (Proc.devRef .tc main_v13_2) = shapeCast S128x64x1024 (extractStridedSlice S8192x1024 ![0, 1024] (m ((c.tc : Thread nD τ).loc main_arg0)) slices_S8192x10240_S8192x1024_0_1024) shapeCasts_S8192x1024_S128x64x1024 := by
  simp only [entryContents, afterL_cons, afterL_nil]
  after_reads_simp
  rfl
theorem entry3 : entryContents preI m c (Proc.devRef .tc main_v13_3) = shapeCast S128x64x1024 (extractStridedSlice S8192x1024 ![0, 2048] (m ((c.tc : Thread nD τ).loc main_arg0)) slices_S8192x10240_S8192x1024_0_2048) shapeCasts_S8192x1024_S128x64x1024 := by
  simp only [entryContents, afterL_cons, afterL_nil]
  after_reads_simp
  rfl
theorem entry4 : entryContents preI m c (Proc.devRef .tc main_v13_4) = shapeCast S128x64x1024 (m ((c.tc : Thread nD τ).loc main_arg1)) shapeCasts_S8192x1024_S128x64x1024 := by
  simp only [entryContents, afterL_cons, afterL_nil]
  after_reads_simp
  rfl
theorem entry5 : entryContents preI m c (Proc.devRef .tc main_v13_5) = m ((c.tc : Thread nD τ).loc main_arg3) := by
  simp only [entryContents, afterL_cons, afterL_nil]
  after_reads_simp
  rfl
theorem entry7 : entryContents preI m c (Proc.devRef .tc main_v13_7) = (broadcastInDim S8x128x128 ![] bcast_S_S8x128x128 (constant S_ .f32 0x00000000#32) : FVec Ideal S8x128x128 .f32) := by
  simp only [entryContents, afterL_cons, afterL_nil]
  after_reads_simp
  rfl
theorem entry8 : entryContents preI m c (Proc.devRef .tc main_v13_8) = (broadcastInDim S1024 ![] bcast_S_S1024 (constant S_ .f32 0x00000000#32) : FVec Ideal S1024 .f32) := by
  simp only [entryContents, afterL_cons, afterL_nil]
  after_reads_simp
  rfl

/-- Rows by chunks. -/
theorem piece_eq {y : FVec Ideal S8192x1024 .f32} {x : Fin 8192 → Fin 1024 → ℝ} (h : ∀ r c, y (ix2 r c) = ((x r c : ℝ) : EReal)) :
    shapeCast S128x64x1024 y shapeCasts_S8192x1024_S128x64x1024 = piece x := by
  apply eq_cube; intro n t c; pointwise []
  rw [h]
  exact congrArg (fun r => ((x r c : ℝ) : EReal)) (Fin.ext (congrArg (· + t.val) (Nat.mul_comm _ _)))

include H in
theorem start : Before (entryContents preI m c) I 0 where
  s := by
    rw [entry0]; apply eq_tens; intro n h k v; pointwise []; exact H.s n h v k
  q := by rw [entry1]; refine piece_eq fun r c => ?_; pointwise []; exact H.q r c
  f := by rw [entry2]; refine piece_eq fun r c => ?_; pointwise []; exact H.f r c
  v := by rw [entry3]; refine piece_eq fun r c => ?_; pointwise []; exact H.v r c
  d := by rw [entry4]; exact piece_eq H.d
  lb := by rw [entry5]; exact H.lb
  n := ctr_entry m c
  c := by rw [entry7]; apply eq_cube; intro h k v; pointwise []; rfl
  dlb := by rw [entry8]; apply eq_vec; intro i; pointwise []; rfl
  dq := fun _ h => absurd h (Nat.not_lt_zero _)
  df := fun _ h => absurd h (Nat.not_lt_zero _)
  dv := fun _ h => absurd h (Nat.not_lt_zero _)

include H in
theorem before : ∀ j, j ≤ 128 → Before (STEP^[j] (entryContents preI m c)) I j
  | 0, _ => start m c H
  | j + 1, h => by
    rw [Function.iterate_succ_apply']
    exact step (before j (Nat.le_of_succ_le h)) h H.ne

/-- Chunks by rows. -/
theorem joined {y : FVec Ideal S128x64x1024 .f32} {x : ℕ → Fin 64 → Fin 1024 → ℝ} (h : ∀ i < 128, ∀ t c, y (ix3 (nth i) t c) = ((x i t c : ℝ) : EReal)) :
    truncf .bf16 (shapeCast S8192x1024 y shapeCasts_S128x64x1024_S8192x1024) bitsLt_bf16_f32 = (mat fun r c => x (127 - (chunkOf r).val) (placeOf r) c : FVec Ideal S8192x1024 .bf16) := by
  apply eq_mat; intro r c; pointwise []
  refine Eq.trans (congrArg (fun n => y (ix3 n (placeOf r) c)) (Fin.ext ?_)) (h (127 - (chunkOf r).val) (by omega) (placeOf r) c)
  have := (chunkOf r).isLt
  show (chunkOf r).val = 127 - (127 - (chunkOf r).val)
  omega

include H in
/-- What the reference computes. -/
theorem results :
    out_main_v15 (STEP^[128] (entryContents preI m c)) = (mat fun r c => I.dq (127 - (chunkOf r).val) (placeOf r) c : FVec Ideal S8192x1024 .bf16)
    ∧ out_main_v17 (STEP^[128] (entryContents preI m c)) = (mat fun r c => I.df (127 - (chunkOf r).val) (placeOf r) c : FVec Ideal S8192x1024 .bf16)
    ∧ out_main_v19 (STEP^[128] (entryContents preI m c)) = (mat fun r c => I.dv (127 - (chunkOf r).val) (placeOf r) c : FVec Ideal S8192x1024 .bf16)
    ∧ out_main_v20 (STEP^[128] (entryContents preI m c)) = (mat fun _ c => I.lbSum 128 c : FVec Ideal S1x1024 .f32) := by
  have B := before m c H 128 le_rfl
  refine ⟨joined B.dq, joined B.df, joined B.dv, ?_⟩
  unfold out_main_v20; rw [B.dlb]
  apply eq_mat; intro t c; pointwise []; rfl

end

end Cert.ReferenceIdeal.Step

end
-- ==== Proof.Equal.lean ====
module

public import proofs.«01_k».proof.Defs
public import proofs.«01_k».proof.Proof.Frames
public import proofs.«01_k».proof.Proof.Inputs
public import proofs.«01_k».proof.Proof.KernGrid
public import proofs.«01_k».proof.Proof.RefLoop

/-! The kernel and the reference end with equal results: each ends with the same real numbers. -/

@[expose] public section

set_option maxRecDepth 16384

noncomputable section

namespace Cert.Proof

open Idealize.ShloMosaic Idealize.SL.Sem Idealize.ShloMosaic.TcCoe
open Cert.KernelIdeal.Chunk Cert.KernelIdeal.Head

attribute [local instance] Cert.Pre_inputs_are_real.facts

/-- The frame of the idealized kernel, under the precondition. -/
theorem frame_kernelIdeal_real : Cert.quiescent_KernelIdeal_pre_inputs_are_real := fun m ρ _ => frame_kernelIdeal m ρ trivial

/-- The frame of the reference, under the precondition. -/
theorem frame_reference_real : Cert.quiescent_ReferenceIdeal_pre_inputs_are_real := fun m ρ _ => frame_reference m ρ trivial

/-- The four gradients of the kernel are those of the reference. -/
theorem equal : Cert.algebraic_KernelIdeal_ReferenceIdeal_pre_inputs_are_real := fun m ρ m' ρ' hp ha => by
  have H := fun c => Cert.Pre_inputs_are_real.held (hp c)
  refine ⟨_, _, _, _,
    (θ_run _ _ _).mono (fun r h c => ⟨(h c).1.trans (result6 m c _ (H c)), (h c).2.1.trans (result7 m c _ (H c)),
      (h c).2.2.1.trans (result8 m c _ (H c)), (h c).2.2.2.1.trans (result9 m c _ (H c)), (h c).2.2.2.2⟩)
      (Cert.KernelIdeal.Value.run_blocks m ρ),
    (θ_run _ _ _).mono (fun r h c => ?_) (Cert.ReferenceIdeal.Value.run (F := Ideal) m' ρ')⟩
  obtain ⟨e0, e1, e2, e3⟩ := ha c
  obtain ⟨k0, k1, k2, k3⟩ := Cert.ReferenceIdeal.Step.results m' c (by rw [e0, e1, e2, e3]; exact H c)
  exact ⟨(h c).1.trans k0, (h c).2.1.trans k1, (h c).2.2.1.trans k2, (h c).2.2.2.1.trans k3, (h c).2.2.2.2⟩

end Cert.Proof

end
-- ==== Proof.Parts.lean ====
module

public import Idealize.ShloMosaic.Lib.Pointwise

/-! A contraction taken a part at a time: sums over the first so many rows. -/

@[expose] public section

noncomputable section

namespace Cert.Parts

/-- The first `n` terms of a family of `N`, summed. -/
def upTo {N : ℕ} (f : Fin N → EReal) (n : ℕ) : EReal :=
  ∑ s ∈ Finset.range n, if h : s < N then f ⟨s, h⟩ else 0

theorem upTo_zero {N : ℕ} (f : Fin N → EReal) : upTo f 0 = 0 := Finset.sum_range_zero _

/-- All the terms. -/
theorem upTo_all {N : ℕ} (f : Fin N → EReal) : upTo f N = ∑ s, f s :=
  (Finset.sum_fin_eq_sum_range f).symm

/-- A further part of `w` terms. -/
theorem upTo_add {N : ℕ} (f : Fin N → EReal) (n w : ℕ) (h : n + w ≤ N) :
    upTo f (n + w) = upTo f n + ∑ j : Fin w, f ⟨n + j.val, by omega⟩ := by
  unfold upTo
  rw [Finset.sum_range_add, Finset.sum_fin_eq_sum_range (n := w)]
  refine congrArg _ (Finset.sum_congr rfl fun s hs => ?_)
  have hs' := Finset.mem_range.mp hs
  rw [dif_pos hs', dif_pos (by omega)]

/-- All the terms, the last part of `w` apart. -/
theorem sum_eq {N : ℕ} (f : Fin N → EReal) (n w : ℕ) (h : n + w = N) :
    ∑ s, f s = upTo f n + ∑ j : Fin w, f ⟨n + j.val, by omega⟩ := by
  rw [← upTo_all, ← upTo_add f n w h.le, h]

end Cert.Parts

end
-- ==== Proof.DhEqual.lean ====
module

public import proofs.«01_k».proof.Defs
public import proofs.«01_k».proof.Proof.Gen.DhIdeal.Value
public import proofs.«01_k».proof.Proof.Gen.DhRefIdeal.Run
public import proofs.«01_k».proof.Proof.Gen.Dh
public import proofs.«01_k».proof.Proof.Parts
public import Idealize.ShloMosaic.Lib.Tactic
public import Idealize.ShloMosaic.Lib.Pointwise
public import Idealize.ShloMosaic.Lib.Pipeline.ValueKit.Geometry
public import Idealize.ShloMosaic.Lib.Quiescent

/-! The gradient of the layer's input: the eight pieces of the projection's gradient against its weights. -/

@[expose] public section

set_option maxRecDepth 16384

noncomputable section

namespace Cert.DhIdeal

open Cert.DhIdeal.Gen Idealize.ShloMosaic Idealize.ShloMosaic.TcCoe Idealize.SL.Sem

/-- The block that window 0 has at a point. -/
theorem idx0 : ∀ t : Fin cfg0.N, win0_0.index t = ![t.val / 10, 0] := (by decide +kernel : ∀ t : Fin grid0.N, _)
/-- The block that window 1 has at a point. -/
theorem idx1 : ∀ t : Fin cfg0.N, win0_1.index t = ![t.val / 10, 0] := (by decide +kernel : ∀ t : Fin grid0.N, _)
/-- The block that window 2 has at a point. -/
theorem idx2 : ∀ t : Fin cfg0.N, win0_2.index t = ![t.val / 10, 0] := (by decide +kernel : ∀ t : Fin grid0.N, _)
/-- The block that window 3 has at a point. -/
theorem idx3 : ∀ t : Fin cfg0.N, win0_3.index t = ![t.val / 10, 0] := (by decide +kernel : ∀ t : Fin grid0.N, _)
/-- The block that window 4 has at a point. -/
theorem idx4 : ∀ t : Fin cfg0.N, win0_4.index t = ![t.val / 10, 0] := (by decide +kernel : ∀ t : Fin grid0.N, _)
/-- The block that window 5 has at a point. -/
theorem idx5 : ∀ t : Fin cfg0.N, win0_5.index t = ![t.val / 10, 0] := (by decide +kernel : ∀ t : Fin grid0.N, _)
/-- The block that window 6 has at a point. -/
theorem idx6 : ∀ t : Fin cfg0.N, win0_6.index t = ![t.val / 10, 0] := (by decide +kernel : ∀ t : Fin grid0.N, _)
/-- The block that window 7 has at a point. -/
theorem idx7 : ∀ t : Fin cfg0.N, win0_7.index t = ![t.val / 10, 0] := (by decide +kernel : ∀ t : Fin grid0.N, _)
/-- The block that window 8 has at a point. -/
theorem idx8 : ∀ t : Fin cfg0.N, win0_8.index t = ![t.val / 5 % 2, t.val % 5] := (by decide +kernel : ∀ t : Fin grid0.N, _)
/-- The block that window 9 has at a point. -/
theorem idx9 : ∀ t : Fin cfg0.N, win0_9.index t = ![t.val / 10, t.val / 5 % 2] := (by decide +kernel : ∀ t : Fin grid0.N, _)

/-- The offsets of a whole block are zero. -/
theorem zero2 : (![0, 0] : Fin 2 → ℕ) = fun _ => 0 := by funext i; fin_cases i <;> rfl

/-! ## What a point leaves -/

/-- Two pieces against the two halves of a block of weights. -/
def pair (w : Vec Ideal S1024x2048 .bf16) (x y : Vec Ideal S512x1024 .bf16) : FVec Ideal S512x1024 .f32 :=
  k0_pay1 (View.ld w (Rect.unit (s := S1024x2048) ![0, 0] S1024x1024.size inb_S1024x2048_S1024x1024_0_0)) x
    (View.ld w (Rect.unit (s := S1024x2048) ![0, 1024] S1024x1024.size inb_S1024x2048_S1024x1024_0_1024)) y

section Point

variable (c : Dev nD) (i : grid0.Coords) (a0 : Memref sig .tc .vmem S512x1024 .bf16) (h0 : a0.IsWhole) (a1 : Memref sig .tc .vmem S512x1024 .bf16) (h1 : a1.IsWhole) (a2 : Memref sig .tc .vmem S512x1024 .bf16) (h2 : a2.IsWhole) (a3 : Memref sig .tc .vmem S512x1024 .bf16) (h3 : a3.IsWhole) (a4 : Memref sig .tc .vmem S512x1024 .bf16) (h4 : a4.IsWhole) (a5 : Memref sig .tc .vmem S512x1024 .bf16) (h5 : a5.IsWhole) (a6 : Memref sig .tc .vmem S512x2048 .bf16) (h6 : a6.IsWhole) (a7 : Memref sig .tc .vmem S512x2048 .bf16) (h7 : a7.IsWhole) (a8 : Memref sig .tc .vmem S1024x2048 .bf16) (h8 : a8.IsWhole) (a9 : Memref sig .tc .vmem S512x1024 .f32) (h9 : a9.IsWhole) (a10 : Memref sig .tc .vmem S512x1024 .f32) (h10 : a10.IsWhole)
  (x0 x1 x2 x3 x4 x5 : Vec Ideal S512x1024 .bf16) (x6 x7 : Vec Ideal S512x2048 .bf16) (x8 : Vec Ideal S1024x2048 .bf16)
  (xs : Vec Ideal S512x1024 .f32)

/-- The first point of a block leaves in the scratch the product of its first two pieces. -/
theorem val_A (c0 : cond0_0 i) (c1 : cond0_1 i) (c2 : ¬cond0_2 i) (c3 : ¬cond0_3 i) (c4 : ¬cond0_4 i) (c5 : ¬cond0_5 i) (c6 : ¬cond0_6 i) (c7 : ¬cond0_7 i) :
    sout0_A_0 c i a0 h0 a1 h1 a2 h2 a3 h3 a4 h4 a5 h5 a6 h6 a7 h7 a8 h8 a9 h9 a10 h10 c0 c1 c2 c3 c4 c5 c6 c7 x0 x1 x2 x3 x4 x5 x6 x7 x8 = pair x8 x0 x1 := by
  unfold sout0_A_0
  rw [View.read_writes_eq_canon _ _ _ (scover0_A_0 c i a0 h0 a1 h1 a2 h2 a3 h3 a4 h4 a5 h5 a6 h6 a7 h7 a8 h8 a9 h9 a10 h10 c0 c1 c2 c3 c4 c5 c6 c7 x0 x1 x2 x3 x4 x5 x6 x7 x8)]
  unfold kernelRun0_A
  dsimp only
  rw [View.canon_unit_zero zero2]
  unfold k0_pay2
  simp only [View.readAt_eq_ld, h0.read_unread, h1.read_unread, h8.read_unread, View.ld_unit_zero (S := S512x1024) zero2, shapeCast_self]
  rfl

/-- The second adds the next two. -/
theorem val_B (c0 : ¬cond0_0 i) (c4 : cond0_4 i) (c5 : ¬cond0_5 i) (c6 : ¬cond0_6 i) (c7 : ¬cond0_7 i) (c8 : ¬cond0_8 i) (c9 : cond0_9 i) (c10 : ¬cond0_10 i) :
    sout0_B_0 c i a0 h0 a1 h1 a2 h2 a3 h3 a4 h4 a5 h5 a6 h6 a7 h7 a8 h8 a9 h9 a10 h10 c0 c4 c5 c6 c7 c8 c9 c10 x0 x1 x2 x3 x4 x5 x6 x7 x8 xs = addf xs (pair x8 x2 x3) := by
  unfold sout0_B_0
  rw [View.read_writes_eq_canon _ _ _ (scover0_B_0 c i a0 h0 a1 h1 a2 h2 a3 h3 a4 h4 a5 h5 a6 h6 a7 h7 a8 h8 a9 h9 a10 h10 c0 c4 c5 c6 c7 c8 c9 c10 x0 x1 x2 x3 x4 x5 x6 x7 x8 xs)]
  unfold kernelRun0_B
  dsimp only
  rw [View.canon_unit_zero zero2]
  unfold k0_pay6
  simp only [View.readAt_eq_ld, h2.read_unread, h3.read_unread, h8.read_unread, h10.read_unread, View.ld_unit_zero (S := S512x1024) zero2, shapeCast_self]
  rfl

/-- The third adds the next two. -/
theorem val_C (c0 : ¬cond0_0 i) (c4 : ¬cond0_4 i) (c5 : cond0_5 i) (c6 : ¬cond0_6 i) (c7 : ¬cond0_7 i) (c11 : ¬cond0_11 i) (c12 : cond0_12 i) (c13 : ¬cond0_13 i) :
    sout0_C_0 c i a0 h0 a1 h1 a2 h2 a3 h3 a4 h4 a5 h5 a6 h6 a7 h7 a8 h8 a9 h9 a10 h10 c0 c4 c5 c6 c7 c11 c12 c13 x0 x1 x2 x3 x4 x5 x6 x7 x8 xs = addf xs (pair x8 x4 x5) := by
  unfold sout0_C_0
  rw [View.read_writes_eq_canon _ _ _ (scover0_C_0 c i a0 h0 a1 h1 a2 h2 a3 h3 a4 h4 a5 h5 a6 h6 a7 h7 a8 h8 a9 h9 a10 h10 c0 c4 c5 c6 c7 c11 c12 c13 x0 x1 x2 x3 x4 x5 x6 x7 x8 xs)]
  unfold kernelRun0_C
  dsimp only
  rw [View.canon_unit_zero zero2]
  unfold k0_pay9
  simp only [View.readAt_eq_ld, h4.read_unread, h5.read_unread, h8.read_unread, h10.read_unread, View.ld_unit_zero (S := S512x1024) zero2, shapeCast_self]
  rfl

/-- The fourth adds the first wide piece. -/
theorem val_D (c0 : ¬cond0_0 i) (c4 : ¬cond0_4 i) (c5 : ¬cond0_5 i) (c6 : cond0_6 i) (c7 : ¬cond0_7 i) (c14 : ¬cond0_14 i) (c15 : cond0_15 i) (c16 : ¬cond0_16 i) :
    sout0_D_0 c i a0 h0 a1 h1 a2 h2 a3 h3 a4 h4 a5 h5 a6 h6 a7 h7 a8 h8 a9 h9 a10 h10 c0 c4 c5 c6 c7 c14 c15 c16 x0 x1 x2 x3 x4 x5 x6 x7 x8 xs = addf xs (k0_pay10 x8 x6) := by
  unfold sout0_D_0
  rw [View.read_writes_eq_canon _ _ _ (scover0_D_0 c i a0 h0 a1 h1 a2 h2 a3 h3 a4 h4 a5 h5 a6 h6 a7 h7 a8 h8 a9 h9 a10 h10 c0 c4 c5 c6 c7 c14 c15 c16 x0 x1 x2 x3 x4 x5 x6 x7 x8 xs)]
  unfold kernelRun0_D
  dsimp only
  rw [View.canon_unit_zero zero2]
  unfold k0_pay12
  simp only [View.readAt_eq_ld, h6.read_unread, h8.read_unread, h10.read_unread, View.ld_unit_zero (S := S512x2048) zero2, View.ld_unit_zero (S := S1024x2048) zero2, View.ld_unit_zero (S := S512x1024) zero2, shapeCast_self]

/-- The last adds the second wide piece and leaves the sum in the result. -/
theorem val_E (c0 : ¬cond0_0 i) (c4 : ¬cond0_4 i) (c5 : ¬cond0_5 i) (c6 : ¬cond0_6 i) (c7 : cond0_7 i) (c17 : ¬cond0_17 i) (c18 : cond0_18 i) (c19 : cond0_19 i) :
    out0_E_9 c i a0 h0 a1 h1 a2 h2 a3 h3 a4 h4 a5 h5 a6 h6 a7 h7 a8 h8 a9 h9 a10 h10 c0 c4 c5 c6 c7 c17 c18 c19 x0 x1 x2 x3 x4 x5 x6 x7 x8 xs = addf xs (k0_pay10 x8 x7) := by
  unfold out0_E_9
  rw [View.read_writes_eq_canon _ _ _ (cover0_E_9 c i a0 h0 a1 h1 a2 h2 a3 h3 a4 h4 a5 h5 a6 h6 a7 h7 a8 h8 a9 h9 a10 h10 c0 c4 c5 c6 c7 c17 c18 c19 x0 x1 x2 x3 x4 x5 x6 x7 x8 xs)]
  unfold kernelRun0_E
  dsimp only
  sl_unfold_words
  rw [View.canon_unit_zero zero2, View.readCov_unit_zero (S := S512x1024) _ zero2]
  unfold k0_pay15
  simp only [View.readAt_eq_ld, h7.read_unread, h8.read_unread, h10.read_unread, View.ld_unit_zero (S := S512x2048) zero2, View.ld_unit_zero (S := S1024x2048) zero2, View.ld_unit_zero (S := S512x1024) zero2, shapeCast_self]
  rfl

end Point

/-- A pair's entries, the two halves' contractions added. -/
theorem pair_at (w : Vec Ideal S1024x2048 .bf16) (x y : Vec Ideal S512x1024 .bf16) (r : Fin 512) (k : Fin 1024) :
    pair w x y (ix2 r k) = ((∑ j : Fin 1024, (x (ix2 r j) * w (ix2 k ⟨j.val, by omega⟩) : EReal))
      + ∑ j : Fin 1024, (y (ix2 r j) * w (ix2 k ⟨1024 + j.val, by omega⟩) : EReal) : EReal) := by
  unfold pair k0_pay1
  pointwise []

/-- A wide piece's entries. -/
theorem wide_at (w : Vec Ideal S1024x2048 .bf16) (x : Vec Ideal S512x2048 .bf16) (r : Fin 512) (k : Fin 1024) :
    k0_pay10 w x (ix2 r k) = ∑ j : Fin 2048, (x (ix2 r j) * w (ix2 k j) : EReal) := by
  unfold k0_pay10
  pointwise []

/-! ## The whole result -/

variable (m : (ℓ : Loc nD τ sig) → Buf (Elt Ideal) ℓ) (c : Dev nD)

/-- The eight pieces side by side. -/
def cat : FVec Ideal Cert.DhRefIdeal.S8192x10240 .bf16 :=
  concatenate Cert.DhRefIdeal.S8192x10240 1 [⟨S8192x1024, m ((c : Thread nD τ).loc main_arg0)⟩, ⟨S8192x1024, m ((c : Thread nD τ).loc main_arg1)⟩,
    ⟨S8192x1024, m ((c : Thread nD τ).loc main_arg2)⟩, ⟨S8192x1024, m ((c : Thread nD τ).loc main_arg3)⟩,
    ⟨S8192x1024, m ((c : Thread nD τ).loc main_arg4)⟩, ⟨S8192x1024, m ((c : Thread nD τ).loc main_arg5)⟩,
    ⟨S8192x2048, m ((c : Thread nD τ).loc main_arg6)⟩, ⟨S8192x2048, m ((c : Thread nD τ).loc main_arg7)⟩]
    Cert.DhRefIdeal.Gen.concatenates_S8192x1024_S8192x1024_S8192x1024_S8192x1024_S8192x1024_S8192x1024_S8192x2048_S8192x2048_S8192x10240_d1

/-- A piece has the rows of the whole. -/
theorem off_axis {a b w : ℕ} (r : Fin a) (s : Fin b) (j : Fin w) (x : Fin 2) (h : x ≠ 1) :
    ((ix2 r j : (⟨2, ![a, w]⟩ : Shape).Idx) x).val = ((ix2 r s : (⟨2, ![a, b]⟩ : Shape).Idx) x).val := by
  fin_cases x
  · rfl
  · exact absurd rfl h

/-- A concatenation along the columns, read in the span of one piece. -/
theorem cat_piece {w : ℕ} (xs : List ((s : Shape) × (s.Idx → EReal))) (h : Shape.Concatenates (xs.map (·.1)) Cert.DhRefIdeal.S8192x10240 1)
    (p : ℕ) (hp : p < xs.length) (x : (⟨2, ![8192, w]⟩ : Shape).Idx → EReal) (hx : xs[p] = ⟨_, x⟩) (pre : ℕ)
    (hpre : (((xs.take p).map (·.1)).map fun s => if h : s.rank = 2 then s.size ((1 : Fin 2).cast h.symm) else 0).sum = pre)
    (r : Fin 8192) (j : Fin w) (s : Fin 10240) (hs : pre + j.val = s.val) :
    concatenate Cert.DhRefIdeal.S8192x10240 1 xs h (ix2 r s) = x (ix2 r j) :=
  concatenate_apply_piece 1 xs h (ix2 r s) p hp _ x hx rfl pre hpre (ix2 r j) (off_axis r s j) hs

/-- The columns of the whole that are piece 0. -/
theorem cat0_at (r : Fin 8192) (j : Fin 1024) (s : Fin 10240) (hs : 0 + j.val = s.val) :
    cat m c (ix2 r s) = m ((c : Thread nD τ).loc main_arg0) (ix2 r j) :=
  cat_piece _ _ 0 (by exact (by omega : 0 < 8)) _ rfl 0 (by rfl) r j s hs
/-- The columns of the whole that are piece 1. -/
theorem cat1_at (r : Fin 8192) (j : Fin 1024) (s : Fin 10240) (hs : 1024 + j.val = s.val) :
    cat m c (ix2 r s) = m ((c : Thread nD τ).loc main_arg1) (ix2 r j) :=
  cat_piece _ _ 1 (by exact (by omega : 1 < 8)) _ rfl 1024 (by rfl) r j s hs
/-- The columns of the whole that are piece 2. -/
theorem cat2_at (r : Fin 8192) (j : Fin 1024) (s : Fin 10240) (hs : 2048 + j.val = s.val) :
    cat m c (ix2 r s) = m ((c : Thread nD τ).loc main_arg2) (ix2 r j) :=
  cat_piece _ _ 2 (by exact (by omega : 2 < 8)) _ rfl 2048 (by rfl) r j s hs
/-- The columns of the whole that are piece 3. -/
theorem cat3_at (r : Fin 8192) (j : Fin 1024) (s : Fin 10240) (hs : 3072 + j.val = s.val) :
    cat m c (ix2 r s) = m ((c : Thread nD τ).loc main_arg3) (ix2 r j) :=
  cat_piece _ _ 3 (by exact (by omega : 3 < 8)) _ rfl 3072 (by rfl) r j s hs
/-- The columns of the whole that are piece 4. -/
theorem cat4_at (r : Fin 8192) (j : Fin 1024) (s : Fin 10240) (hs : 4096 + j.val = s.val) :
    cat m c (ix2 r s) = m ((c : Thread nD τ).loc main_arg4) (ix2 r j) :=
  cat_piece _ _ 4 (by exact (by omega : 4 < 8)) _ rfl 4096 (by rfl) r j s hs
/-- The columns of the whole that are piece 5. -/
theorem cat5_at (r : Fin 8192) (j : Fin 1024) (s : Fin 10240) (hs : 5120 + j.val = s.val) :
    cat m c (ix2 r s) = m ((c : Thread nD τ).loc main_arg5) (ix2 r j) :=
  cat_piece _ _ 5 (by exact (by omega : 5 < 8)) _ rfl 5120 (by rfl) r j s hs
/-- The columns of the whole that are piece 6. -/
theorem cat6_at (r : Fin 8192) (j : Fin 2048) (s : Fin 10240) (hs : 6144 + j.val = s.val) :
    cat m c (ix2 r s) = m ((c : Thread nD τ).loc main_arg6) (ix2 r j) :=
  cat_piece _ _ 6 (by exact (by omega : 6 < 8)) _ rfl 6144 (by rfl) r j s hs
/-- The columns of the whole that are piece 7. -/
theorem cat7_at (r : Fin 8192) (j : Fin 2048) (s : Fin 10240) (hs : 8192 + j.val = s.val) :
    cat m c (ix2 r s) = m ((c : Thread nD τ).loc main_arg7) (ix2 r j) :=
  cat_piece _ _ 7 (by exact (by omega : 7 < 8)) _ rfl 8192 (by rfl) r j s hs

/-- One term of the contraction. -/
def term (r : Fin 8192) (k : Fin 2048) (s : Fin 10240) : EReal :=
  cat m c (ix2 r s) * m ((c : Thread nD τ).loc main_arg8) (ix2 k s)

/-- The product of the rows of the pieces and of the weights. -/
def prod : FVec Ideal S8192x2048 .f32 := fun i => ∑ s : Fin 10240, term m c (i 0) (i 1) s

/-- The grid has a hundred and sixty points. -/
theorem point_lt (t : Fin cfg0.N) : t.val < 160 := lt_of_lt_of_eq t.isLt N_0

/-- The row of the arrays at a row of a point's block. -/
def row (t : Fin cfg0.N) (r : Fin 512) : Fin 8192 := ⟨t.val / 10 * 512 + r.val, by have := point_lt t; omega⟩

/-- The column of the result at a column of a point's block. -/
def col (t : Fin cfg0.N) (k : Fin 1024) : Fin 2048 := ⟨t.val / 5 % 2 * 1024 + k.val, by omega⟩

/-- The value of `row`. -/
theorem row_val (t : Fin cfg0.N) (r : Fin 512) : (row t r).val = t.val / 10 * 512 + r.val := rfl
/-- The value of `col`. -/
theorem col_val (t : Fin cfg0.N) (k : Fin 1024) : (col t k).val = t.val / 5 % 2 * 1024 + k.val := rfl

/-- Piece 0 of a point, in its array. -/
theorem piece0_at (t : Fin cfg0.N) (r : Fin 512) (j : Fin 1024) :
    iblk m c 0 t (ix2 r j) = m ((c : Thread nD τ).loc main_arg0) (ix2 (row t r) j) := by
  blk_ext [iblk, V, idx0, row_val]
/-- Piece 1 of a point, in its array. -/
theorem piece1_at (t : Fin cfg0.N) (r : Fin 512) (j : Fin 1024) :
    iblk m c 1 t (ix2 r j) = m ((c : Thread nD τ).loc main_arg1) (ix2 (row t r) j) := by
  blk_ext [iblk, V, idx1, row_val]
/-- Piece 2 of a point, in its array. -/
theorem piece2_at (t : Fin cfg0.N) (r : Fin 512) (j : Fin 1024) :
    iblk m c 2 t (ix2 r j) = m ((c : Thread nD τ).loc main_arg2) (ix2 (row t r) j) := by
  blk_ext [iblk, V, idx2, row_val]
/-- Piece 3 of a point, in its array. -/
theorem piece3_at (t : Fin cfg0.N) (r : Fin 512) (j : Fin 1024) :
    iblk m c 3 t (ix2 r j) = m ((c : Thread nD τ).loc main_arg3) (ix2 (row t r) j) := by
  blk_ext [iblk, V, idx3, row_val]
/-- Piece 4 of a point, in its array. -/
theorem piece4_at (t : Fin cfg0.N) (r : Fin 512) (j : Fin 1024) :
    iblk m c 4 t (ix2 r j) = m ((c : Thread nD τ).loc main_arg4) (ix2 (row t r) j) := by
  blk_ext [iblk, V, idx4, row_val]
/-- Piece 5 of a point, in its array. -/
theorem piece5_at (t : Fin cfg0.N) (r : Fin 512) (j : Fin 1024) :
    iblk m c 5 t (ix2 r j) = m ((c : Thread nD τ).loc main_arg5) (ix2 (row t r) j) := by
  blk_ext [iblk, V, idx5, row_val]
/-- Piece 6 of a point, in its array. -/
theorem piece6_at (t : Fin cfg0.N) (r : Fin 512) (j : Fin 2048) :
    iblk m c 6 t (ix2 r j) = m ((c : Thread nD τ).loc main_arg6) (ix2 (row t r) j) := by
  blk_ext [iblk, V, idx6, row_val]
/-- Piece 7 of a point, in its array. -/
theorem piece7_at (t : Fin cfg0.N) (r : Fin 512) (j : Fin 2048) :
    iblk m c 7 t (ix2 r j) = m ((c : Thread nD τ).loc main_arg7) (ix2 (row t r) j) := by
  blk_ext [iblk, V, idx7, row_val]

/-- A point's block, in its array. -/
theorem w_at (t : Fin cfg0.N) (k : Fin 1024) (j : Fin 2048) :
    iblk m c 8 t (ix2 k j) = m ((c : Thread nD τ).loc main_arg8) (ix2 (col t k) ⟨t.val % 5 * 2048 + j.val, by omega⟩) := by
  blk_ext [iblk, V, idx8, col_val]

/-- The column of the pieces at a column of a point's block. -/
def col_of (t : Fin cfg0.N) (j : ℕ) (hj : j < 2048) : Fin 10240 := ⟨t.val % 5 * 2048 + j, by omega⟩

/-- The value of `col_of`. -/
theorem col_of_val (t : Fin cfg0.N) (j : ℕ) (hj : j < 2048) : (col_of t j hj).val = t.val % 5 * 2048 + j := rfl

/-- A point's part of the contraction. -/
def part (t : Fin cfg0.N) (r : Fin 512) (k : Fin 1024) : EReal :=
  ∑ j : Fin 2048, term m c (row t r) (col t k) ⟨t.val % 5 * 2048 + j.val, by omega⟩

/-- A sum over a wide part is the sum over its halves. -/
theorem halves (f : Fin 2048 → EReal) :
    ∑ j, f j = (∑ j : Fin 1024, f ⟨j.val, by omega⟩) + ∑ j : Fin 1024, f ⟨1024 + j.val, by omega⟩ :=
  Fin.sum_univ_add (a := 1024) (b := 1024) f

/-- Two pieces that are the point's columns give its part. -/
theorem pair_part (t : Fin cfg0.N) (x y : Vec Ideal S512x1024 .bf16) (r : Fin 512) (k : Fin 1024)
    (hx : ∀ j : Fin 1024, x (ix2 r j) = cat m c (ix2 (row t r) (col_of t j.val (by omega))))
    (hy : ∀ j : Fin 1024, y (ix2 r j) = cat m c (ix2 (row t r) (col_of t (1024 + j.val) (by omega)))) :
    pair (iblk m c 8 t) x y (ix2 r k) = part m c t r k := by
  refine (pair_at _ x y r k).trans ?_
  unfold part
  rw [halves]
  refine congr (congrArg _ (Finset.sum_congr rfl fun j _ => ?_)) (Finset.sum_congr rfl fun j _ => ?_)
  · rw [w_at, hx]; rfl
  · rw [w_at, hy]; rfl

/-- A wide piece that is the point's columns gives its part. -/
theorem wide_part (t : Fin cfg0.N) (x : Vec Ideal S512x2048 .bf16) (r : Fin 512) (k : Fin 1024)
    (hx : ∀ j : Fin 2048, x (ix2 r j) = cat m c (ix2 (row t r) (col_of t j.val j.isLt))) :
    k0_pay10 (iblk m c 8 t) x (ix2 r k) = part m c t r k := by
  refine (wide_at _ x r k).trans (Finset.sum_congr rfl fun j _ => ?_)
  rw [w_at, hx]; rfl

/-- The first point of a block leaves its part. -/
theorem first (t : Fin cfg0.N) (h : t.val % 5 = 0) (r : Fin 512) (k : Fin 1024) :
    (outsAt0 m c t.val t.isLt).2 (ix2 r k) = part m c t r k := by
  rw [outsAt0_A m c t h h (by omega) (by omega) (by omega) (by omega) (by omega) (by omega)]
  dsimp only
  rw [val_A]
  exact pair_part m c t _ _ r k (fun j => by rw [piece0_at, cat0_at _ _ _ j _ (by rw [col_of_val]; omega)])
    (fun j => by rw [piece1_at, cat1_at _ _ _ j _ (by rw [col_of_val]; omega)])

/-- A later point, before the last, adds its part. -/
theorem later (t : Fin cfg0.N) (h : t.val % 5 ≠ 0) (h' : t.val % 5 ≠ 4) (r : Fin 512) (k : Fin 1024) :
    (outsAt0 m c t.val t.isLt).2 (ix2 r k)
      = (outsAt0 m c (t.val - 1) (Nat.lt_of_le_of_lt (Nat.sub_le _ _) t.isLt)).2 (ix2 r k) + part m c t r k := by
  obtain e | e | e : t.val % 5 = 1 ∨ t.val % 5 = 2 ∨ t.val % 5 = 3 := by omega
  · rw [outsAt0_B m c t h e (by omega) (by omega) h' h (by omega) h']
    dsimp only
    rw [val_B]
    refine congrArg (_ + ·) (pair_part m c t _ _ r k (fun j => ?_) (fun j => ?_))
    · rw [piece2_at, cat2_at _ _ _ j _ (by rw [col_of_val]; omega)]
    · rw [piece3_at, cat3_at _ _ _ j _ (by rw [col_of_val]; omega)]
  · rw [outsAt0_C m c t h (by omega) e (by omega) h' h (by omega) h']
    dsimp only
    rw [val_C]
    refine congrArg (_ + ·) (pair_part m c t _ _ r k (fun j => ?_) (fun j => ?_))
    · rw [piece4_at, cat4_at _ _ _ j _ (by rw [col_of_val]; omega)]
    · rw [piece5_at, cat5_at _ _ _ j _ (by rw [col_of_val]; omega)]
  · rw [outsAt0_D m c t h (by omega) (by omega) e h' h (by omega) h']
    dsimp only
    rw [val_D]
    refine congrArg (_ + ·) (wide_part m c t _ r k (fun j => ?_))
    rw [piece6_at, cat6_at _ _ _ j _ (by rw [col_of_val]; omega)]

/-- The last point leaves the sum and its part. -/
theorem last (t : Fin cfg0.N) (h : t.val % 5 = 4) (r : Fin 512) (k : Fin 1024) :
    (outsAt0 m c t.val t.isLt).1 (ix2 r k)
      = (outsAt0 m c (t.val - 1) (Nat.lt_of_le_of_lt (Nat.sub_le _ _) t.isLt)).2 (ix2 r k) + part m c t r k := by
  rw [outsAt0_E m c t (by omega) (by omega) (by omega) (by omega) h (by omega) (by omega) h]
  dsimp only
  rw [val_E]
  refine congrArg (_ + ·) (wide_part m c t _ r k (fun j => ?_))
  rw [piece7_at, cat7_at _ _ _ j _ (by rw [col_of_val]; omega)]

/-- Before its last point a block's scratch holds the sum of its parts so far. -/
theorem scratch_at (n : ℕ) : ∀ (h : n < cfg0.N) (_ : n % 5 ≠ 4) (r : Fin 512) (k : Fin 1024), (outsAt0 m c n h).2 (ix2 r k)
    = Cert.Parts.upTo (term m c (row ⟨n, h⟩ r) (col ⟨n, h⟩ k)) (n % 5 * 2048 + 2048) := by
  induction n with
  | zero =>
    intro h hl r k
    rw [first m c ⟨0, h⟩ rfl, Cert.Parts.upTo_add _ _ _ (by omega)]
    simp only [part, Nat.zero_mod, Nat.zero_mul, Cert.Parts.upTo_zero, zero_add]
  | succ n ih =>
    intro h hl r k
    rw [Cert.Parts.upTo_add _ _ _ (by omega)]
    by_cases h0 : (n + 1) % 5 = 0
    · rw [first m c ⟨n + 1, h⟩ h0]
      simp only [part, h0, Nat.zero_mul, Cert.Parts.upTo_zero, zero_add]
    · have er : row ⟨n + 1, h⟩ r = row ⟨n, Nat.lt_of_succ_lt h⟩ r := Fin.ext (by simp only [row_val]; omega)
      have ec : col ⟨n + 1, h⟩ k = col ⟨n, Nat.lt_of_succ_lt h⟩ k := Fin.ext (by simp only [col_val]; omega)
      have e : n % 5 * 2048 + 2048 = (n + 1) % 5 * 2048 := by omega
      have hn := ih (Nat.lt_of_succ_lt h) (by omega) r k
      rw [e, ← er, ← ec] at hn
      exact (later m c ⟨n + 1, h⟩ h0 hl r k).trans (congrArg (· + _) hn)

/-- The whole result is the product. -/
theorem whole : (dats m 0 c).arrAt 9 cfg0.N = prod m c := by
  refine (dats m 0 c).arrAt_eq_of_covers 9 _ (by decide +kernel) fun t hf y => ?_
  have h4 : t.val % 5 = 4 := (flush0_9 t).mp hf
  have ht := point_lt t
  blk_simp
  rw [after0_9]
  obtain ⟨r, k, rfl⟩ : ∃ (r : Fin 512) (k : Fin 1024), y = ix2 r k := ⟨y 0, y 1, eq_ix2 y⟩
  have e : (win0_9.blk t).view.emb (ix2 r k) = (ix2 (row t r) (col t k) : S8192x2048.Idx) := by blk_ext [idx9, row_val, col_val]
  rw [e]
  show _ = ∑ s : Fin 10240, term m c (row t r) (col t k) s
  have hp : t.val - 1 < cfg0.N := lt_of_le_of_lt (Nat.sub_le _ _) t.isLt
  have er : row ⟨t.val - 1, hp⟩ r = row t r := Fin.ext (by simp only [row_val]; omega)
  have ec : col ⟨t.val - 1, hp⟩ k = col t k := Fin.ext (by simp only [col_val]; omega)
  have en : (t.val - 1) % 5 * 2048 + 2048 = t.val % 5 * 2048 := by omega
  have hn := scratch_at m c (t.val - 1) hp (by omega) r k
  rw [er, ec, en] at hn
  rw [Cert.Parts.sum_eq (N := 10240) _ (t.val % 5 * 2048) 2048 (by omega)]
  exact (last m c t h4 r k).trans (congrArg (· + _) hn)

end Cert.DhIdeal

namespace Cert.Proof

open Idealize.ShloMosaic Idealize.SL.Sem Idealize.ShloMosaic.TcCoe

/-- The bodies that the grid calls have the same text in both printed programs. -/
theorem dh_defs₀ : @Cert.Dh.defs₀ Bits _ Cert.Dh.Gen.facts = @Cert.DhIdeal.defs₀ Bits _ Cert.DhIdeal.Gen.facts := by
  unfold Cert.Dh.defs₀ Cert.DhIdeal.defs₀
  refine congrArg Defs.onTc ?_
  funext l a
  match l, a with
  | ⟨0, _⟩, (t, s) => rfl

/-- The frame of the call as printed: the run of the idealized text, read at the machine's floats. -/
theorem frame_dh : Cert.quiescent_Dh := fun m ρ _ => by
  have h := Cert.DhIdeal.Gen.frame (F := Bits) m ρ
  rw [show Cert.DhIdeal.defs (F := Bits) = Cert.Dh.defs from (congrArg (Pipeline.defs Cert.DhIdeal.pcfgs) dh_defs₀).symm] at h
  exact h

/-- The frame of the idealized call. -/
theorem frame_dhIdeal : Cert.quiescent_DhIdeal := fun m ρ _ => Cert.DhIdeal.Gen.frame m ρ

/-- The frame of its reference. -/
theorem frame_dhRef : Cert.quiescent_DhRefIdeal := fun m ρ _ =>
  (θ_run Cert.DhRefIdeal.defs _ _).mono
    (fun r h => ⟨fun c => (h c).2, sem_eq_zero_of_no_sems rfl r.2⟩)
    (Cert.DhRefIdeal.Value.run (F := Ideal) m ρ)

/-- The call computes what its reference does. -/
theorem equal_dh : Cert.algebraic_DhIdeal_DhRefIdeal := fun m ρ m' ρ' _ ha => by
  refine ⟨_, (θ_run _ _ _).mono (fun r h c => ⟨(h c).1.trans (Cert.DhIdeal.whole m c), (h c).2⟩) (Cert.DhIdeal.Value.run_blocks m ρ),
    (θ_run _ _ _).mono (fun r h c => ⟨(h c).1.trans ?_, (h c).2⟩) (Cert.DhRefIdeal.Value.run (F := Ideal) m' ρ')⟩
  obtain ⟨e0, e1, e2, e3, e4, e5, e6, e7, e8⟩ := ha c
  rw [e0, e1, e2, e3, e4, e5, e6, e7, e8]
  show Host.dotGeneral _ _ (extf .f32 (Cert.DhIdeal.cat m c) _) _ = _
  generalize hcat : Cert.DhIdeal.cat m c = z
  funext i
  obtain ⟨r, k, rfl⟩ : ∃ (r : Fin 8192) (k : Fin 2048), i = ix2 r k := ⟨i 0, i 1, eq_ix2 i⟩
  pointwise [Cert.DhIdeal.prod, Cert.DhIdeal.term]
  rw [hcat]

end Cert.Proof

end
-- ==== Proof.GwEqual.lean ====
module

public import proofs.«01_k».proof.Defs
public import proofs.«01_k».proof.Proof.Gen.GwIdeal.Value
public import proofs.«01_k».proof.Proof.Gen.GwRefIdeal.Run
public import proofs.«01_k».proof.Proof.Gen.Gw
public import proofs.«01_k».proof.Proof.Parts
public import Idealize.ShloMosaic.Lib.Tactic
public import Idealize.ShloMosaic.Lib.Pointwise
public import Idealize.ShloMosaic.Lib.Pipeline.ValueKit.Geometry
public import Idealize.ShloMosaic.Lib.Quiescent

/-! The gradient of a branch's output weights: one product, its contraction taken four parts at a time. -/

@[expose] public section

set_option maxRecDepth 16384

noncomputable section

namespace Cert.GwIdeal

open Cert.GwIdeal.Gen Idealize.ShloMosaic Idealize.ShloMosaic.TcCoe Idealize.SL.Sem

/-- The block that window 0 has at a point. -/
theorem idx0 : ∀ t : Fin cfg0.N, win0_0.index t = ![t.val % 4, 0] := (by decide +kernel : ∀ t : Fin grid0.N, _)
/-- The block that window 1 has at a point. -/
theorem idx1 : ∀ t : Fin cfg0.N, win0_1.index t = ![t.val % 4, t.val / 4] := (by decide +kernel : ∀ t : Fin grid0.N, _)
/-- The block that window 2 has at a point. -/
theorem idx2 : ∀ t : Fin cfg0.N, win0_2.index t = ![0, t.val / 4] := (by decide +kernel : ∀ t : Fin grid0.N, _)

/-- The offsets of a whole block are zero. -/
theorem zero2 : (![0, 0] : Fin 2 → ℕ) = fun _ => 0 := by funext i; fin_cases i <;> rfl

/-! ## What a point leaves -/

/-- The first point of a block leaves in the scratch the product of its parts. -/
theorem scratch_A (c : Dev nD) (i : grid0.Coords) (a1 : Memref sig .tc .vmem S2048x1024 .bf16) (h1 : a1.IsWhole)
    (a2 : Memref sig .tc .vmem S2048x1024 .bf16) (h2 : a2.IsWhole) (a3 : Memref sig .tc .vmem S1024x1024 .f32) (h3 : a3.IsWhole)
    (a4 : Memref sig .tc .vmem S1024x1024 .f32) (h4 : a4.IsWhole)
    (hc0 : cond0_0 i) (hc1 : ¬cond0_1 i) (hc2 : ¬cond0_2 i) (x0 x1 : Vec Ideal S2048x1024 .bf16) :
    sout0_A_0 c i a1 h1 a2 h2 a3 h3 a4 h4 hc0 hc1 hc2 x0 x1 = k0_pay1 x1 x0 := by
  unfold sout0_A_0
  rw [View.read_writes_eq_canon _ _ _ (scover0_A_0 c i a1 h1 a2 h2 a3 h3 a4 h4 hc0 hc1 hc2 x0 x1)]
  unfold kernelRun0_A
  dsimp only
  rw [View.canon_unit_zero zero2]
  unfold k0_pay2
  simp only [View.readAt_eq_ld, h1.read_unread, h2.read_unread, View.ld_unit_zero (S := S2048x1024) zero2, shapeCast_self]

/-- A later point adds its product. -/
theorem scratch_B (c : Dev nD) (i : grid0.Coords) (a1 : Memref sig .tc .vmem S2048x1024 .bf16) (h1 : a1.IsWhole)
    (a2 : Memref sig .tc .vmem S2048x1024 .bf16) (h2 : a2.IsWhole) (a3 : Memref sig .tc .vmem S1024x1024 .f32) (h3 : a3.IsWhole)
    (a4 : Memref sig .tc .vmem S1024x1024 .f32) (h4 : a4.IsWhole)
    (hc0 : ¬cond0_0 i) (hc1 : cond0_1 i) (hc2 : ¬cond0_2 i) (x0 x1 : Vec Ideal S2048x1024 .bf16) (xs : Vec Ideal S1024x1024 .f32) :
    sout0_B_0 c i a1 h1 a2 h2 a3 h3 a4 h4 hc0 hc1 hc2 x0 x1 xs = addf xs (k0_pay1 x1 x0) := by
  unfold sout0_B_0
  rw [View.read_writes_eq_canon _ _ _ (scover0_B_0 c i a1 h1 a2 h2 a3 h3 a4 h4 hc0 hc1 hc2 x0 x1 xs)]
  unfold kernelRun0_B
  dsimp only
  rw [View.canon_unit_zero zero2]
  unfold k0_pay3
  simp only [View.readAt_eq_ld, h1.read_unread, h2.read_unread, h4.read_unread, View.ld_unit_zero (S := S2048x1024) zero2,
    View.ld_unit_zero (S := S1024x1024) zero2, shapeCast_self]

/-- The last point adds its product and leaves the sum in the result. -/
theorem out_C (c : Dev nD) (i : grid0.Coords) (a1 : Memref sig .tc .vmem S2048x1024 .bf16) (h1 : a1.IsWhole)
    (a2 : Memref sig .tc .vmem S2048x1024 .bf16) (h2 : a2.IsWhole) (a3 : Memref sig .tc .vmem S1024x1024 .f32) (h3 : a3.IsWhole)
    (a4 : Memref sig .tc .vmem S1024x1024 .f32) (h4 : a4.IsWhole)
    (hc0 : ¬cond0_0 i) (hc1 : cond0_1 i) (hc2 : cond0_2 i) (x0 x1 : Vec Ideal S2048x1024 .bf16) (xs : Vec Ideal S1024x1024 .f32) :
    out0_C_2 c i a1 h1 a2 h2 a3 h3 a4 h4 hc0 hc1 hc2 x0 x1 xs = addf xs (k0_pay1 x1 x0) := by
  unfold out0_C_2
  rw [View.read_writes_eq_canon _ _ _ (cover0_C_2 c i a1 h1 a2 h2 a3 h3 a4 h4 hc0 hc1 hc2 x0 x1 xs)]
  unfold kernelRun0_C
  dsimp only
  sl_unfold_words
  rw [View.canon_unit_zero zero2, View.readCov_unit_zero (S := S1024x1024) _ zero2]
  unfold k0_pay3
  simp only [View.readAt_eq_ld, h1.read_unread, h2.read_unread, h4.read_unread, View.ld_unit_zero (S := S2048x1024) zero2,
    View.ld_unit_zero (S := S1024x1024) zero2, shapeCast_self]

/-- The product of two blocks. -/
theorem pay1_at (x0 x1 : Vec Ideal S2048x1024 .bf16) (r k : Fin 1024) :
    k0_pay1 x1 x0 (ix2 r k) = ∑ j : Fin 2048, (x0 (ix2 j r) * x1 (ix2 j k) : EReal) := by
  unfold k0_pay1
  pointwise []

/-! ## The whole result -/

/-- One term of the contraction. -/
def term (a : FVec Ideal S8192x1024 .bf16) (b : FVec Ideal S8192x2048 .bf16) (r : Fin 1024) (k : Fin 2048) (s : Fin 8192) : EReal :=
  a (ix2 s r) * b (ix2 s k)

/-- The product of the columns of two arrays. -/
def prod (a : FVec Ideal S8192x1024 .bf16) (b : FVec Ideal S8192x2048 .bf16) : FVec Ideal S1024x2048 .f32 :=
  fun i => ∑ s : Fin 8192, term a b (i 0) (i 1) s

variable (m : (ℓ : Loc nD τ sig) → Buf (Elt Ideal) ℓ) (c : Dev nD)

/-- The grid has eight points. -/
theorem point_lt (t : Fin cfg0.N) : t.val < 8 := lt_of_lt_of_eq t.isLt N_0

/-- The column of the result at a column of a point's block. -/
def col (t : Fin cfg0.N) (k : Fin 1024) : Fin 2048 := ⟨t.val / 4 * 1024 + k.val, by have := point_lt t; omega⟩

/-- The value of `col`. -/
theorem col_val (t : Fin cfg0.N) (k : Fin 1024) : (col t k).val = t.val / 4 * 1024 + k.val := rfl

/-- A point's block, in its array. -/
theorem a_at (t : Fin cfg0.N) (j : Fin 2048) (r : Fin 1024) :
    iblk m c 0 t (ix2 j r) = m ((c : Thread nD τ).loc main_arg0) (ix2 ⟨t.val % 4 * 2048 + j.val, by omega⟩ r) := by
  blk_ext [iblk, V, idx0]

/-- A point's block, in its array. -/
theorem b_at (t : Fin cfg0.N) (j : Fin 2048) (k : Fin 1024) :
    iblk m c 1 t (ix2 j k) = m ((c : Thread nD τ).loc main_arg1) (ix2 ⟨t.val % 4 * 2048 + j.val, by omega⟩ (col t k)) := by
  blk_ext [iblk, V, idx1, col_val]

/-- A point's product is its part of the contraction. -/
theorem part_at (t : Fin cfg0.N) (r k : Fin 1024) : k0_pay1 (iblk m c 1 t) (iblk m c 0 t) (ix2 r k)
    = ∑ j : Fin 2048, term (m ((c : Thread nD τ).loc main_arg0)) (m ((c : Thread nD τ).loc main_arg1)) r (col t k)
        ⟨t.val % 4 * 2048 + j.val, by omega⟩ := by
  refine (pay1_at _ _ r k).trans (Finset.sum_congr rfl fun j _ => ?_)
  rw [a_at, b_at]
  rfl

/-- Before its last point a block's scratch holds the sum of its parts so far. -/
theorem scratch_at (n : ℕ) : ∀ (h : n < cfg0.N) (_ : n % 4 ≠ 3) (r k : Fin 1024), (outsAt0 m c n h).2 (ix2 r k)
    = Cert.Parts.upTo (term (m ((c : Thread nD τ).loc main_arg0)) (m ((c : Thread nD τ).loc main_arg1)) r (col ⟨n, h⟩ k)) (n % 4 * 2048 + 2048) := by
  induction n with
  | zero =>
    intro h hl r k
    rw [outsAt0_A m c ⟨0, h⟩ rfl (by dsimp only; omega) (by dsimp only; omega)]
    dsimp only
    rw [scratch_A, part_at, Cert.Parts.upTo_add _ _ _ (by omega)]
    simp only [Nat.zero_mod, Nat.zero_mul, Cert.Parts.upTo_zero, zero_add]
  | succ n ih =>
    intro h hl r k
    by_cases h0 : (n + 1) % 4 = 0
    · rw [outsAt0_A m c ⟨n + 1, h⟩ h0 (by dsimp only; omega) (by dsimp only; omega)]
      dsimp only
      rw [scratch_A, part_at, Cert.Parts.upTo_add _ _ _ (by omega)]
      simp only [h0, Nat.zero_mul, Cert.Parts.upTo_zero, zero_add]
    · rw [outsAt0_B m c ⟨n + 1, h⟩ h0 (by dsimp only; omega) hl]
      dsimp only
      rw [scratch_B]
      show ((outsAt0 m c n _).2 (ix2 r k) : EReal) + k0_pay1 (F := Ideal) _ _ (ix2 r k) = _
      rw [part_at, ih (Nat.lt_of_succ_lt h) (by omega), Cert.Parts.upTo_add _ ((n + 1) % 4 * 2048) _ (by omega)]
      have e : (n + 1) % 4 = n % 4 + 1 := by omega
      have ec : col ⟨n + 1, h⟩ k = col ⟨n, Nat.lt_of_succ_lt h⟩ k := Fin.ext (by simp only [col_val]; omega)
      rw [ec]
      refine congrArg (· + _) (congrArg _ ?_)
      omega

/-- The whole result is the product. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have ht := point_lt t
  blk_simp
  rw [after0_2, outsAt0_C m c t (by omega) (by omega) h3]
  dsimp only
  rw [out_C]
  obtain ⟨r, k, rfl⟩ : ∃ (r : Fin 1024) (k : Fin 1024), y = ix2 r k := ⟨y 0, y 1, eq_ix2 y⟩
  have e : (win0_2.blk t).view.emb (ix2 r k) = (ix2 r (col t k) : S1024x2048.Idx) := by blk_ext [idx2, col_val]
  rw [e]
  show ((outsAt0 m c (t.val - 1) _).2 (ix2 r k) : EReal) + k0_pay1 (F := Ideal) _ _ (ix2 r k) = ∑ s : Fin 8192, term _ _ r (col t k) s
  have hp : t.val - 1 < cfg0.N := lt_of_le_of_lt (Nat.sub_le _ _) t.isLt
  have ec : col ⟨t.val - 1, hp⟩ k = col t k := Fin.ext (by simp only [col_val]; omega)
  rw [part_at, scratch_at m c (t.val - 1) hp (by omega), ec, Cert.Parts.sum_eq (N := 8192) _ (t.val % 4 * 2048) 2048 (by omega)]
  refine congrArg (· + _) (congrArg _ ?_)
  omega

end Cert.GwIdeal

namespace Cert.Proof

open Idealize.ShloMosaic Idealize.SL.Sem Idealize.ShloMosaic.TcCoe

/-- The bodies that the grid calls have the same text in both printed programs. -/
theorem gw_defs₀ : @Cert.Gw.defs₀ Bits _ Cert.Gw.Gen.facts = @Cert.GwIdeal.defs₀ Bits _ Cert.GwIdeal.Gen.facts := by
  unfold Cert.Gw.defs₀ Cert.GwIdeal.defs₀
  refine congrArg Defs.onTc ?_
  funext l a
  match l, a with
  | ⟨0, _⟩, (t, s) => rfl

/-- The frame of the call as printed: the run of the idealized text, read at the machine's floats. -/
theorem frame_gw : Cert.quiescent_Gw := fun m ρ _ => by
  have h := Cert.GwIdeal.Gen.frame (F := Bits) m ρ
  rw [show Cert.GwIdeal.defs (F := Bits) = Cert.Gw.defs from (congrArg (Pipeline.defs Cert.GwIdeal.pcfgs) gw_defs₀).symm] at h
  exact h

/-- The frame of the idealized call. -/
theorem frame_gwIdeal : Cert.quiescent_GwIdeal := fun m ρ _ => Cert.GwIdeal.Gen.frame m ρ

/-- The frame of its reference. -/
theorem frame_gwRef : Cert.quiescent_GwRefIdeal := fun m ρ _ =>
  (θ_run Cert.GwRefIdeal.defs _ _).mono
    (fun r h => ⟨fun c => (h c).2, sem_eq_zero_of_no_sems rfl r.2⟩)
    (Cert.GwRefIdeal.Value.run (F := Ideal) m ρ)

/-- The call computes what its reference does. -/
theorem equal_gw : Cert.algebraic_GwIdeal_GwRefIdeal := fun m ρ m' ρ' _ ha => by
  refine ⟨_, (θ_run _ _ _).mono (fun r h c => ⟨(h c).1.trans (Cert.GwIdeal.whole m c), (h c).2⟩) (Cert.GwIdeal.Value.run_blocks m ρ),
    (θ_run _ _ _).mono (fun r h c => ⟨(h c).1.trans ?_, (h c).2⟩) (Cert.GwRefIdeal.Value.run (F := Ideal) m' ρ')⟩
  rw [(ha c).1, (ha c).2]
  funext i
  obtain ⟨r, k, rfl⟩ : ∃ (r : Fin 1024) (k : Fin 2048), i = ix2 r k := ⟨i 0, i 1, eq_ix2 i⟩
  pointwise [Cert.GwIdeal.prod, Cert.GwIdeal.term]
  exact Finset.sum_congr rfl fun s _ => mul_comm _ _

end Cert.Proof

end
-- ==== Proof.DyEqual.lean ====
module

public import proofs.«01_k».proof.Defs
public import proofs.«01_k».proof.Proof.Gen.DyIdeal.Value
public import proofs.«01_k».proof.Proof.Gen.DyRefIdeal.Run
public import proofs.«01_k».proof.Proof.Gen.Dy
public import Idealize.ShloMosaic.Lib.Pointwise
public import Idealize.ShloMosaic.Lib.Pipeline.ValueKit.Geometry
public import Idealize.ShloMosaic.Lib.Quiescent

/-! The gradient of a branch's result: one product, a block of rows at a time. -/

@[expose] public section

set_option maxRecDepth 16384

noncomputable section

namespace Cert.DyIdeal

open Cert.DyIdeal.Gen Idealize.ShloMosaic Idealize.ShloMosaic.TcCoe Idealize.SL.Sem

/-- The block that window 0 has at a point. -/
theorem idx0 : ∀ t : Fin cfg0.N, win0_0.index t = ![t.val, 0] := (by decide +kernel : ∀ t : Fin grid0.N, _)
/-- The block that window 1 has at a point. -/
theorem idx1 : ∀ t : Fin cfg0.N, win0_1.index t = ![0, 0] := (by decide +kernel : ∀ t : Fin grid0.N, _)
/-- The block that window 2 has at a point. -/
theorem idx2 : ∀ t : Fin cfg0.N, win0_2.index t = ![t.val, 0] := (by decide +kernel : ∀ t : Fin grid0.N, _)

/-- The product of the rows of two arrays. -/
def prod (a : FVec Ideal S8192x2048 .bf16) (b : FVec Ideal S1024x2048 .bf16) : FVec Ideal S8192x1024 .f32 :=
  fun i => ∑ k : Fin 2048, a (ix2 (i 0) k) * b (ix2 (i 1) k)

/-- The offsets of a whole block are zero. -/
theorem zero2 : (![0, 0] : Fin 2 → ℕ) = fun _ => 0 := by funext i; fin_cases i <;> rfl

/-- The block that a point computes, at an entry. -/
theorem out_at (x0 : Vec Ideal S1024x2048 .bf16) (x1 : Vec Ideal S1024x2048 .bf16) (r k : Fin 1024) :
    out0_2 x0 x1 (ix2 r k) = ∑ j : Fin 2048, (x0 (ix2 r j) * x1 (ix2 k j) : EReal) := by
  unfold out0_2
  rw [View.canon_unit_zero zero2, View.ld_unit_zero zero2, View.ld_unit_zero zero2]
  unfold k0_pay1
  pointwise []

variable (m : (ℓ : Loc nD τ sig) → Buf (Elt Ideal) ℓ) (c : Dev nD)

/-- A point's block, in its array. -/
theorem blk0_at (t : Fin cfg0.N) (r : Fin 1024) (k : Fin 2048) :
    iblk m c 0 t (ix2 r k) = m ((c : Thread nD τ).loc main_arg0) (ix2 ⟨t.val * 1024 + r.val, by have := lt_of_lt_of_eq t.isLt N_0; omega⟩ k) := by
  blk_ext [iblk, V, idx0]

/-- A point's block, in its array. -/
theorem blk1_at (t : Fin cfg0.N) (r : Fin 1024) (k : Fin 2048) :
    iblk m c 1 t (ix2 r k) = m ((c : Thread nD τ).loc main_arg1) (ix2 r k) := by
  blk_ext [iblk, V, idx1]

/-- The whole result, from its blocks. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ (r : Fin 1024) (k : Fin 1024), y = ix2 r k := ⟨y 0, y 1, eq_ix2 y⟩
  refine (out_at _ _ r k).trans ?_
  have ht := lt_of_lt_of_eq t.isLt N_0
  have e : (win0_2.blk t).view.emb (ix2 r k) = (ix2 ⟨t.val * 1024 + r.val, by omega⟩ k : S8192x1024.Idx) := by
    blk_ext [idx2]
  rw [e]
  exact Finset.sum_congr rfl fun j _ => by rw [blk0_at, blk1_at]; rfl

end Cert.DyIdeal

namespace Cert.Proof

open Idealize.ShloMosaic Idealize.SL.Sem Idealize.ShloMosaic.TcCoe

/-- The bodies that the grid calls have the same text in both printed programs. -/
theorem dy_defs₀ : @Cert.Dy.defs₀ Bits _ Cert.Dy.Gen.facts = @Cert.DyIdeal.defs₀ Bits _ Cert.DyIdeal.Gen.facts := by
  unfold Cert.Dy.defs₀ Cert.DyIdeal.defs₀
  refine congrArg Defs.onTc ?_
  funext l a
  match l, a with
  | ⟨0, _⟩, (t, s) => rfl

/-- The frame of the call as printed: the run of the idealized text, read at the machine's floats. -/
theorem frame_dy : Cert.quiescent_Dy := fun m ρ _ => by
  have h := Cert.DyIdeal.Gen.frame (F := Bits) m ρ
  rw [show Cert.DyIdeal.defs (F := Bits) = Cert.Dy.defs from (congrArg (Pipeline.defs Cert.DyIdeal.pcfgs) dy_defs₀).symm] at h
  exact h

/-- The frame of the idealized call. -/
theorem frame_dyIdeal : Cert.quiescent_DyIdeal := fun m ρ _ => Cert.DyIdeal.Gen.frame m ρ

/-- The frame of its reference. -/
theorem frame_dyRef : Cert.quiescent_DyRefIdeal := fun m ρ _ =>
  (θ_run Cert.DyRefIdeal.defs _ _).mono
    (fun r h => ⟨fun c => (h c).2, sem_eq_zero_of_no_sems rfl r.2⟩)
    (Cert.DyRefIdeal.Value.run (F := Ideal) m ρ)

/-- The call computes what its reference does. -/
theorem equal_dy : Cert.algebraic_DyIdeal_DyRefIdeal := fun m ρ m' ρ' _ ha => by
  refine ⟨_, (θ_run _ _ _).mono (fun r h c => ⟨(h c).1.trans (Cert.DyIdeal.whole m c), (h c).2⟩) (Cert.DyIdeal.Value.run_blocks m ρ),
    (θ_run _ _ _).mono (fun r h c => ⟨(h c).1.trans ?_, (h c).2⟩) (Cert.DyRefIdeal.Value.run (F := Ideal) m' ρ')⟩
  rw [(ha c).1, (ha c).2]
  funext i
  obtain ⟨r, k, rfl⟩ : ∃ (r : Fin 8192) (k : Fin 1024), i = ix2 r k := ⟨i 0, i 1, eq_ix2 i⟩
  pointwise [Cert.DyIdeal.prod]

end Cert.Proof

end
-- ==== Proof.Sig.lean ====
module

public import proofs.«01_k».proof.Proof.RefGates

/-! The two ways in which a logistic gate is written agree, at the infinities too. -/

@[expose] public section

noncomputable section

namespace Cert.Sig

open Idealize.ShloMosaic

/-- The logistic function, by the exponential. -/
def gate (x : EReal) : EReal := Ideal.div 1 (1 + Ideal.exp (-x))

/-- The gate by the hyperbolic tangent is the gate by the exponential. -/
theorem sig_eq (x : EReal) : Ideal.ofBits .f32 0x3F000000#32 * Ideal.tanh (Ideal.ofBits .f32 0x3F000000#32 * x) + Ideal.ofBits .f32 0x3F000000#32
    = gate x := by
  unfold gate
  have h2 : ((1 / 2 : ℝ) : EReal) + ((1 / 2 : ℝ) : EReal) = 1 := by rw [← EReal.coe_add]; norm_num
  rw [Cert.KernelIdeal.Chunk.half_eq]
  induction x with
  | bot =>
    rw [EReal.coe_mul_bot_of_pos (by norm_num), Ideal.tanh_bot, EReal.neg_bot, Ideal.exp_top]
    have e : (1 : EReal) + ⊤ = ⊤ := EReal.add_top_of_ne_bot (by decide)
    rw [e, Ideal.div, if_neg (by decide), EReal.inv_top, mul_zero, mul_neg, mul_one, ← EReal.coe_neg, ← EReal.coe_add]
    norm_num
  | coe r => rw [Cert.ReferenceIdeal.Step.logistic_at, ← EReal.coe_mul, Ideal.tanh_coe, ← EReal.coe_mul, ← EReal.coe_add, Cert.KernelIdeal.Chunk.logi_tanh]
  | top =>
    rw [EReal.coe_mul_top_of_pos (by norm_num), Ideal.tanh_top, EReal.neg_top, Ideal.exp_bot, mul_one, add_zero, h2]
    rw [Ideal.div, if_neg one_ne_zero]
    norm_num

end Cert.Sig

end
-- ==== Proof.MbEqual.lean ====
module

public import proofs.«01_k».proof.Defs
public import proofs.«01_k».proof.Proof.Gen.MbIdeal.Value
public import proofs.«01_k».proof.Proof.Gen.MbRefIdeal.Run
public import proofs.«01_k».proof.Proof.Gen.Mb
public import proofs.«01_k».proof.Proof.Sig
public import Idealize.ShloMosaic.Lib.Pointwise
public import Idealize.ShloMosaic.Lib.Pipeline.ValueKit.Geometry
public import Idealize.ShloMosaic.Lib.Quiescent

/-! The backward of the merge: the gradients of the two branches' products and of their gates. -/

@[expose] public section

set_option maxRecDepth 16384

noncomputable section

namespace Cert.MbIdeal

open Cert.MbIdeal.Gen Idealize.ShloMosaic Idealize.ShloMosaic.TcCoe Idealize.SL.Sem

/-- The block that the window of Do has at a point. -/
theorem idxDo : ∀ t : Fin cfg0.N, win0_0.index t = ![t.val / 4, 0] := (by decide +kernel : ∀ t : Fin grid0.N, _)
/-- The block that the window of W has at a point. -/
theorem idxW : ∀ t : Fin cfg0.N, win0_1.index t = ![t.val % 4, 0] := (by decide +kernel : ∀ t : Fin grid0.N, _)
/-- The block that the window of G0 has at a point. -/
theorem idxG0 : ∀ t : Fin cfg0.N, win0_2.index t = ![t.val / 4, 12 + t.val % 4] := (by decide +kernel : ∀ t : Fin grid0.N, _)
/-- The block that the window of G1 has at a point. -/
theorem idxG1 : ∀ t : Fin cfg0.N, win0_3.index t = ![t.val / 4, 16 + t.val % 4] := (by decide +kernel : ∀ t : Fin grid0.N, _)
/-- The block that the window of P0 has at a point. -/
theorem idxP0 : ∀ t : Fin cfg0.N, win0_4.index t = ![t.val / 4, t.val % 4] := (by decide +kernel : ∀ t : Fin grid0.N, _)
/-- The block that the window of P1 has at a point. -/
theorem idxP1 : ∀ t : Fin cfg0.N, win0_5.index t = ![t.val / 4, t.val % 4] := (by decide +kernel : ∀ t : Fin grid0.N, _)
/-- The block that window 6 has at a point. -/
theorem idx6 : ∀ t : Fin cfg0.N, win0_6.index t = ![t.val / 4, t.val % 4] := (by decide +kernel : ∀ t : Fin grid0.N, _)
/-- The block that window 7 has at a point. -/
theorem idx7 : ∀ t : Fin cfg0.N, win0_7.index t = ![t.val / 4, t.val % 4] := (by decide +kernel : ∀ t : Fin grid0.N, _)
/-- The block that window 8 has at a point. -/
theorem idx8 : ∀ t : Fin cfg0.N, win0_8.index t = ![t.val / 4, t.val % 4] := (by decide +kernel : ∀ t : Fin grid0.N, _)
/-- The block that window 9 has at a point. -/
theorem idx9 : ∀ t : Fin cfg0.N, win0_9.index t = ![t.val / 4, t.val % 4] := (by decide +kernel : ∀ t : Fin grid0.N, _)

/-- The gradient of the merged rows: the rows of the output's gradient by the rows of the output weights. -/
def dm (a : FVec Ideal S8192x2048 .bf16) (w : FVec Ideal S2048x2048 .bf16) (r : Fin 8192) (k : Fin 2048) : EReal :=
  ∑ j : Fin 2048, a (ix2 r j) * w (ix2 k j)

/-- A column of the wide array, at an offset. -/
def gcol (o : ℕ) (h : o + 2048 ≤ 10240) (k : Fin 2048) : Fin 10240 := ⟨o + k.val, by omega⟩

/-- The value of `gcol`. -/
theorem gcol_val (o : ℕ) (h : o + 2048 ≤ 10240) (k : Fin 2048) : (gcol o h k).val = o + k.val := rfl

/-- The gate at an entry, whose columns begin at an offset. -/
def gateAt (o : ℕ) (h : o + 2048 ≤ 10240) (g : FVec Ideal S8192x10240 .f32) (r : Fin 8192) (k : Fin 2048) : EReal :=
  Cert.Sig.gate (g (ix2 r (gcol o h k)))

/-- The gradient of a branch's product: the merged rows' by the gate. -/
def dprod (o : ℕ) (h : o + 2048 ≤ 10240) (a : FVec Ideal S8192x2048 .bf16) (w : FVec Ideal S2048x2048 .bf16)
    (g : FVec Ideal S8192x10240 .f32) : FVec Ideal S8192x2048 .bf16 := fun i =>
  dm a w (i 0) (i 1) * gateAt o h g (i 0) (i 1)

/-- The gradient of a gate's argument: the merged rows' by the product, the gate and one less the gate. -/
def dgate (o : ℕ) (h : o + 2048 ≤ 10240) (a : FVec Ideal S8192x2048 .bf16) (w : FVec Ideal S2048x2048 .bf16)
    (g : FVec Ideal S8192x10240 .f32) (p : FVec Ideal S8192x2048 .bf16) : FVec Ideal S8192x2048 .bf16 := fun i =>
  dm a w (i 0) (i 1) * gateAt o h g (i 0) (i 1) * p i * (1 - gateAt o h g (i 0) (i 1))

/-- The offsets of a whole block are zero. -/
theorem zero2 : (![0, 0] : Fin 2 → ℕ) = fun _ => 0 := by funext i; fin_cases i <;> rfl

variable (x0 : Vec Ideal S1024x2048 .bf16) (x1 : Vec Ideal S512x2048 .bf16) (x2 x3 : Vec Ideal S1024x512 .f32)
  (x4 x5 : Vec Ideal S1024x512 .bf16)

/-- The product of the rows of two blocks. -/
def bdm (x0 : Vec Ideal S1024x2048 .bf16) (x1 : Vec Ideal S512x2048 .bf16) (r : Fin 1024) (k : Fin 512) : EReal :=
  ∑ j : Fin 2048, (x0 (ix2 r j) * x1 (ix2 k j) : EReal)

/-- A block of the merged rows' gradient. -/
theorem pay3_at (r : Fin 1024) (k : Fin 512) : k0_pay3 x0 x1 (ix2 r k) = bdm x0 x1 r k := by
  unfold k0_pay3 bdm
  pointwise []

/-- A block of the first gate. -/
theorem pay4_at (y : S1024x512.Idx) : k0_pay4 x2 y = Cert.Sig.gate (x2 y) := by
  rw [← Cert.Sig.sig_eq]
  rfl

/-- A block of the second gate. -/
theorem pay5_at (y : S1024x512.Idx) : k0_pay5 x3 y = Cert.Sig.gate (x3 y) := by
  rw [← Cert.Sig.sig_eq]
  rfl

/-- The constant from which a gate is subtracted. -/
theorem one_word : Ideal.ofBits .f32 0x3F800000#32 = 1 := Cert.KernelIdeal.Chunk.one_eq

/-- A block of the first branch's gradient. -/
theorem out6_at (r : Fin 1024) (k : Fin 512) : out0_6 x0 x1 x2 x3 x4 x5 (ix2 r k)
    = (bdm x0 x1 r k * Cert.Sig.gate (x2 (ix2 r k)) : EReal) := by
  unfold out0_6
  rw [View.canon_unit_zero zero2]
  repeat rw [View.ld_unit_zero zero2]
  rw [← pay3_at, ← pay4_at]
  rfl

/-- A block of the second branch's gradient. -/
theorem out7_at (r : Fin 1024) (k : Fin 512) : out0_7 x0 x1 x2 x3 x4 x5 (ix2 r k)
    = (bdm x0 x1 r k * Cert.Sig.gate (x3 (ix2 r k)) : EReal) := by
  unfold out0_7
  rw [View.canon_unit_zero zero2]
  repeat rw [View.ld_unit_zero zero2]
  rw [← pay3_at, ← pay5_at]
  rfl

/-- A block of the first gate's gradient. -/
theorem out8_at (r : Fin 1024) (k : Fin 512) : out0_8 x0 x1 x2 x3 x4 x5 (ix2 r k)
    = (bdm x0 x1 r k * Cert.Sig.gate (x2 (ix2 r k)) * x4 (ix2 r k) * (1 - Cert.Sig.gate (x2 (ix2 r k))) : EReal) := by
  unfold out0_8
  rw [View.canon_unit_zero zero2]
  repeat rw [View.ld_unit_zero zero2]
  rw [← pay3_at, ← pay4_at, ← one_word]
  rfl

/-- A block of the second gate's gradient. -/
theorem out9_at (r : Fin 1024) (k : Fin 512) : out0_9 x0 x1 x2 x3 x4 x5 (ix2 r k)
    = (bdm x0 x1 r k * Cert.Sig.gate (x3 (ix2 r k)) * x5 (ix2 r k) * (1 - Cert.Sig.gate (x3 (ix2 r k))) : EReal) := by
  unfold out0_9
  rw [View.canon_unit_zero zero2]
  repeat rw [View.ld_unit_zero zero2]
  rw [← pay3_at, ← pay5_at, ← one_word]
  rfl

variable (m : (ℓ : Loc nD τ sig) → Buf (Elt Ideal) ℓ) (c : Dev nD)

/-- The grid has thirty-two points. -/
theorem point_lt (t : Fin cfg0.N) : t.val < 32 := lt_of_lt_of_eq t.isLt N_0

/-- The row of the arrays at a row of a point's block. -/
def row (t : Fin cfg0.N) (r : Fin 1024) : Fin 8192 := ⟨t.val / 4 * 1024 + r.val, by have := point_lt t; omega⟩

/-- The column of the results at a column of a point's block. -/
def col (t : Fin cfg0.N) (k : Fin 512) : Fin 2048 := ⟨t.val % 4 * 512 + k.val, by omega⟩

/-- The value of `row`. -/
theorem row_val (t : Fin cfg0.N) (r : Fin 1024) : (row t r).val = t.val / 4 * 1024 + r.val := rfl
/-- The value of `col`. -/
theorem col_val (t : Fin cfg0.N) (k : Fin 512) : (col t k).val = t.val % 4 * 512 + k.val := rfl

/-- A point's block, in its array. -/
theorem a_at (t : Fin cfg0.N) (r : Fin 1024) (k : Fin 2048) :
    iblk m c 0 t (ix2 r k) = m ((c : Thread nD τ).loc main_arg0) (ix2 (row t r) k) := by
  blk_ext [iblk, V, idxDo, row_val]
/-- A point's block, in its array. -/
theorem w_at (t : Fin cfg0.N) (r : Fin 512) (k : Fin 2048) :
    iblk m c 1 t (ix2 r k) = m ((c : Thread nD τ).loc main_arg1) (ix2 (col t r) k) := by
  blk_ext [iblk, V, idxW, col_val]
/-- A point's block, in its array. -/
theorem g0_at (t : Fin cfg0.N) (r : Fin 1024) (k : Fin 512) :
    iblk m c 2 t (ix2 r k) = m ((c : Thread nD τ).loc main_arg2) (ix2 (row t r) (gcol 6144 (by omega) (col t k))) := by
  blk_ext [iblk, V, idxG0, gcol_val, row_val, col_val]
/-- A point's block, in its array. -/
theorem g1_at (t : Fin cfg0.N) (r : Fin 1024) (k : Fin 512) :
    iblk m c 3 t (ix2 r k) = m ((c : Thread nD τ).loc main_arg2) (ix2 (row t r) (gcol 8192 (by omega) (col t k))) := by
  blk_ext [iblk, V, idxG1, gcol_val, row_val, col_val]
/-- A point's block, in its array. -/
theorem p0_at (t : Fin cfg0.N) (r : Fin 1024) (k : Fin 512) :
    iblk m c 4 t (ix2 r k) = m ((c : Thread nD τ).loc main_arg3) (ix2 (row t r) (col t k)) := by
  blk_ext [iblk, V, idxP0, row_val, col_val]
/-- A point's block, in its array. -/
theorem p1_at (t : Fin cfg0.N) (r : Fin 1024) (k : Fin 512) :
    iblk m c 5 t (ix2 r k) = m ((c : Thread nD τ).loc main_arg4) (ix2 (row t r) (col t k)) := by
  blk_ext [iblk, V, idxP1, row_val, col_val]

/-- The merged rows' gradient at a point. -/
theorem dm_at (t : Fin cfg0.N) (r : Fin 1024) (k : Fin 512) :
    bdm (iblk m c 0 t) (iblk m c 1 t) r k
      = dm (m ((c : Thread nD τ).loc main_arg0)) (m ((c : Thread nD τ).loc main_arg1)) (row t r) (col t k) :=
  Finset.sum_congr rfl fun j _ => by rw [a_at, w_at]

/-- The first branch's gradient is whole. -/
theorem whole6 : (dats m 0 c).arrAt 6 cfg0.N = dprod 6144 (by omega) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  obtain ⟨r, k, rfl⟩ : ∃ (r : Fin 1024) (k : Fin 512), y = ix2 r k := ⟨y 0, y 1, eq_ix2 y⟩
  have e : (win0_6.blk t).view.emb (ix2 r k) = (ix2 (row t r) (col t k) : S8192x2048.Idx) := by blk_ext [idx6, row_val, col_val]
  rw [e]
  refine (out6_at _ _ _ _ _ _ r k).trans ?_
  rw [dm_at, g0_at]
  rfl

/-- The second branch's gradient is whole. -/
theorem whole7 : (dats m 0 c).arrAt 7 cfg0.N = dprod 8192 (by omega) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  obtain ⟨r, k, rfl⟩ : ∃ (r : Fin 1024) (k : Fin 512), y = ix2 r k := ⟨y 0, y 1, eq_ix2 y⟩
  have e : (win0_7.blk t).view.emb (ix2 r k) = (ix2 (row t r) (col t k) : S8192x2048.Idx) := by blk_ext [idx7, row_val, col_val]
  rw [e]
  refine (out7_at _ _ _ _ _ _ r k).trans ?_
  rw [dm_at, g1_at]
  rfl

/-- The first gate's gradient is whole. -/
theorem whole8 : (dats m 0 c).arrAt 8 cfg0.N = dgate 6144 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  obtain ⟨r, k, rfl⟩ : ∃ (r : Fin 1024) (k : Fin 512), y = ix2 r k := ⟨y 0, y 1, eq_ix2 y⟩
  have e : (win0_8.blk t).view.emb (ix2 r k) = (ix2 (row t r) (col t k) : S8192x2048.Idx) := by blk_ext [idx8, row_val, col_val]
  rw [e]
  refine (out8_at _ _ _ _ _ _ r k).trans ?_
  rw [dm_at, g0_at, p0_at]
  rfl

/-- The second gate's gradient is whole. -/
theorem whole9 : (dats m 0 c).arrAt 9 cfg0.N = dgate 8192 (by omega) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp
  rw [after0_9]
  obtain ⟨r, k, rfl⟩ : ∃ (r : Fin 1024) (k : Fin 512), y = ix2 r k := ⟨y 0, y 1, eq_ix2 y⟩
  have e : (win0_9.blk t).view.emb (ix2 r k) = (ix2 (row t r) (col t k) : S8192x2048.Idx) := by blk_ext [idx9, row_val, col_val]
  rw [e]
  refine (out9_at _ _ _ _ _ _ r k).trans ?_
  rw [dm_at, g1_at, p1_at]
  rfl

end Cert.MbIdeal

namespace Cert.Proof

open Idealize.ShloMosaic Idealize.SL.Sem Idealize.ShloMosaic.TcCoe

/-- The bodies that the grid calls have the same text in both printed programs. -/
theorem mb_defs₀ : @Cert.Mb.defs₀ Bits _ Cert.Mb.Gen.facts = @Cert.MbIdeal.defs₀ Bits _ Cert.MbIdeal.Gen.facts := by
  unfold Cert.Mb.defs₀ Cert.MbIdeal.defs₀
  refine congrArg Defs.onTc ?_
  funext l a
  match l, a with
  | ⟨0, _⟩, (t, s) => rfl

/-- The frame of the call as printed: the run of the idealized text, read at the machine's floats. -/
theorem frame_mb : Cert.quiescent_Mb := fun m ρ _ => by
  have h := Cert.MbIdeal.Gen.frame (F := Bits) m ρ
  rw [show Cert.MbIdeal.defs (F := Bits) = Cert.Mb.defs from (congrArg (Pipeline.defs Cert.MbIdeal.pcfgs) mb_defs₀).symm] at h
  exact h

/-- The frame of the idealized call. -/
theorem frame_mbIdeal : Cert.quiescent_MbIdeal := fun m ρ _ => Cert.MbIdeal.Gen.frame m ρ

/-- The frame of its reference. -/
theorem frame_mbRef : Cert.quiescent_MbRefIdeal := fun m ρ _ =>
  (θ_run Cert.MbRefIdeal.defs _ _).mono
    (fun r h => ⟨fun c => (h c).2.2.2.2, sem_eq_zero_of_no_sems rfl r.2⟩)
    (Cert.MbRefIdeal.Value.run (F := Ideal) m ρ)

/-- The call computes what its reference does: each factor of a product is there once, in another order. -/
theorem equal_mb : Cert.algebraic_MbIdeal_MbRefIdeal := fun m ρ m' ρ' _ ha => by
  refine ⟨_, _, _, _, (θ_run _ _ _).mono (fun r h c => ⟨(h c).1.trans (Cert.MbIdeal.whole6 m c), (h c).2.1.trans (Cert.MbIdeal.whole7 m c),
      (h c).2.2.1.trans (Cert.MbIdeal.whole8 m c), (h c).2.2.2.1.trans (Cert.MbIdeal.whole9 m c), (h c).2.2.2.2⟩) (Cert.MbIdeal.Value.run_blocks m ρ),
    (θ_run _ _ _).mono (fun r h c => ⟨(h c).1.trans ?_, (h c).2.1.trans ?_, (h c).2.2.1.trans ?_, (h c).2.2.2.1.trans ?_, (h c).2.2.2.2⟩)
      (Cert.MbRefIdeal.Value.run (F := Ideal) m' ρ')⟩ <;>
  (simp only [(ha c).1, (ha c).2.1, (ha c).2.2.1, (ha c).2.2.2.1, (ha c).2.2.2.2]
   funext i
   obtain ⟨r, k, rfl⟩ : ∃ (r : Fin 8192) (k : Fin 2048), i = ix2 r k := ⟨i 0, i 1, eq_ix2 i⟩
   pointwise [Cert.MbIdeal.dprod, Cert.MbIdeal.dgate, Cert.MbIdeal.dm, Cert.MbIdeal.gateAt, Cert.MbIdeal.gcol, Cert.Sig.gate]
   ac_rfl)

end Cert.Proof

end
-- ==== Proof.PjEqual.lean ====
module

public import proofs.«01_k».proof.Defs
public import proofs.«01_k».proof.Proof.Gen.PjIdeal.Value
public import proofs.«01_k».proof.Proof.Gen.PjRefIdeal.Run
public import proofs.«01_k».proof.Proof.Gen.Pj
public import Idealize.ShloMosaic.Lib.Pointwise
public import Idealize.ShloMosaic.Lib.Pipeline.ValueKit.Geometry
public import Idealize.ShloMosaic.Lib.Quiescent

/-! The layer's input projection: one product, a block of rows and columns at a time. -/

@[expose] public section

set_option maxRecDepth 16384

noncomputable section

namespace Cert.PjIdeal

open Cert.PjIdeal.Gen Idealize.ShloMosaic Idealize.ShloMosaic.TcCoe Idealize.SL.Sem

/-- The block that window 0 has at a point. -/
theorem idx0 : ∀ t : Fin cfg0.N, win0_0.index t = ![t.val / 10, 0] := (by decide +kernel : ∀ t : Fin grid0.N, _)
/-- The block that window 1 has at a point. -/
theorem idx1 : ∀ t : Fin cfg0.N, win0_1.index t = ![0, t.val % 10] := (by decide +kernel : ∀ t : Fin grid0.N, _)
/-- The block that window 2 has at a point. -/
theorem idx2 : ∀ t : Fin cfg0.N, win0_2.index t = ![t.val / 10, t.val % 10] := (by decide +kernel : ∀ t : Fin grid0.N, _)

/-- The product of two arrays. -/
def prod (a : FVec Ideal S8192x2048 .bf16) (b : FVec Ideal S2048x10240 .bf16) : FVec Ideal S8192x10240 .f32 :=
  fun i => ∑ k : Fin 2048, a (ix2 (i 0) k) * b (ix2 k (i 1))

/-- The offsets of a whole block are zero. -/
theorem zero2 : (![0, 0] : Fin 2 → ℕ) = fun _ => 0 := by funext i; fin_cases i <;> rfl

/-- A block of the result is the product of its rows and columns. -/
theorem out_at (x0 : Vec Ideal S1024x2048 .bf16) (x1 : Vec Ideal S2048x1024 .bf16) (r k : Fin 1024) :
    out0_2 x0 x1 (ix2 r k) = ∑ j : Fin 2048, (x0 (ix2 r j) * x1 (ix2 j k) : EReal) := by
  unfold out0_2
  rw [View.canon_unit_zero zero2, View.ld_unit_zero zero2, View.ld_unit_zero zero2]
  unfold k0_pay1
  pointwise []

variable (m : (ℓ : Loc nD τ sig) → Buf (Elt Ideal) ℓ) (c : Dev nD)

/-- The grid has eighty points. -/
theorem point_lt (t : Fin cfg0.N) : t.val < 80 := lt_of_lt_of_eq t.isLt N_0

/-- The block of rows at a point. -/
theorem blk0_at (t : Fin cfg0.N) (r : Fin 1024) (k : Fin 2048) :
    iblk m c 0 t (ix2 r k) = m ((c : Thread nD τ).loc main_arg0) (ix2 ⟨t.val / 10 * 1024 + r.val, by have := point_lt t; omega⟩ k) := by
  blk_ext [iblk, V, idx0]

/-- The block of columns at a point. -/
theorem blk1_at (t : Fin cfg0.N) (r : Fin 2048) (k : Fin 1024) :
    iblk m c 1 t (ix2 r k) = m ((c : Thread nD τ).loc main_arg1) (ix2 r ⟨t.val % 10 * 1024 + k.val, by omega⟩) := by
  blk_ext [iblk, V, idx1]

/-- The whole result is the product. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ (r : Fin 1024) (k : Fin 1024), y = ix2 r k := ⟨y 0, y 1, eq_ix2 y⟩
  refine (out_at _ _ r k).trans ?_
  have ht := point_lt t
  have e : (win0_2.blk t).view.emb (ix2 r k) = (ix2 ⟨t.val / 10 * 1024 + r.val, by omega⟩ ⟨t.val % 10 * 1024 + k.val, by omega⟩ : S8192x10240.Idx) := by
    blk_ext [idx2]
  rw [e]
  exact Finset.sum_congr rfl fun j _ => by rw [blk0_at, blk1_at]; rfl

end Cert.PjIdeal

namespace Cert.Proof

open Idealize.ShloMosaic Idealize.SL.Sem Idealize.ShloMosaic.TcCoe

/-- The bodies that the grid calls have the same text in both printed programs. -/
theorem pj_defs₀ : @Cert.Pj.defs₀ Bits _ Cert.Pj.Gen.facts = @Cert.PjIdeal.defs₀ Bits _ Cert.PjIdeal.Gen.facts := by
  unfold Cert.Pj.defs₀ Cert.PjIdeal.defs₀
  refine congrArg Defs.onTc ?_
  funext l a
  match l, a with
  | ⟨0, _⟩, (t, s) => rfl

/-- The frame of the call as printed: the run of the idealized text, read at the machine's floats. -/
theorem frame_pj : Cert.quiescent_Pj := fun m ρ _ => by
  have h := Cert.PjIdeal.Gen.frame (F := Bits) m ρ
  rw [show Cert.PjIdeal.defs (F := Bits) = Cert.Pj.defs from (congrArg (Pipeline.defs Cert.PjIdeal.pcfgs) pj_defs₀).symm] at h
  exact h

/-- The frame of the idealized call. -/
theorem frame_pjIdeal : Cert.quiescent_PjIdeal := fun m ρ _ => Cert.PjIdeal.Gen.frame m ρ

/-- The frame of its reference. -/
theorem frame_pjRef : Cert.quiescent_PjRefIdeal := fun m ρ _ =>
  (θ_run Cert.PjRefIdeal.defs _ _).mono
    (fun r h => ⟨fun c => (h c).2, sem_eq_zero_of_no_sems rfl r.2⟩)
    (Cert.PjRefIdeal.Value.run (F := Ideal) m ρ)

/-- The call computes what its reference does. -/
theorem equal_pj : Cert.algebraic_PjIdeal_PjRefIdeal := fun m ρ m' ρ' _ ha => by
  refine ⟨_, (θ_run _ _ _).mono (fun r h c => ⟨(h c).1.trans (Cert.PjIdeal.whole m c), (h c).2⟩) (Cert.PjIdeal.Value.run_blocks m ρ),
    (θ_run _ _ _).mono (fun r h c => ⟨(h c).1.trans ?_, (h c).2⟩) (Cert.PjRefIdeal.Value.run (F := Ideal) m' ρ')⟩
  rw [(ha c).1, (ha c).2]
  funext i
  obtain ⟨r, k, rfl⟩ : ∃ (r : Fin 8192) (k : Fin 10240), i = ix2 r k := ⟨i 0, i 1, eq_ix2 i⟩
  pointwise [Cert.PjIdeal.prod]

end Cert.Proof

end
-- ==== Proof.MgEqual.lean ====
module

public import proofs.«01_k».proof.Defs
public import proofs.«01_k».proof.Proof.Gen.MgIdeal.Value
public import proofs.«01_k».proof.Proof.Gen.MgRefIdeal.Run
public import proofs.«01_k».proof.Proof.Gen.Mg
public import proofs.«01_k».proof.Proof.Sig
public import Idealize.ShloMosaic.Lib.Pointwise
public import Idealize.ShloMosaic.Lib.Pipeline.ValueKit.Geometry
public import Idealize.ShloMosaic.Lib.Quiescent

/-! The merge of the two branches: their output products, and the sum of these by their gates. -/

@[expose] public section

set_option maxRecDepth 16384

noncomputable section

namespace Cert.MgIdeal

open Cert.MgIdeal.Gen Idealize.ShloMosaic Idealize.ShloMosaic.TcCoe Idealize.SL.Sem

/-- The block that the window of Y0 has at a point. -/
theorem idxY0 : ∀ t : Fin cfg0.N, win0_0.index t = ![t.val / 4, 0] := (by decide +kernel : ∀ t : Fin grid0.N, _)
/-- The block that the window of Y1 has at a point. -/
theorem idxY1 : ∀ t : Fin cfg0.N, win0_1.index t = ![t.val / 4, 0] := (by decide +kernel : ∀ t : Fin grid0.N, _)
/-- The block that the window of W0 has at a point. -/
theorem idxW0 : ∀ t : Fin cfg0.N, win0_2.index t = ![0, t.val % 4] := (by decide +kernel : ∀ t : Fin grid0.N, _)
/-- The block that the window of W1 has at a point. -/
theorem idxW1 : ∀ t : Fin cfg0.N, win0_3.index t = ![0, t.val % 4] := (by decide +kernel : ∀ t : Fin grid0.N, _)
/-- The block that the window of G0 has at a point. -/
theorem idxG0 : ∀ t : Fin cfg0.N, win0_4.index t = ![t.val / 4, 12 + t.val % 4] := (by decide +kernel : ∀ t : Fin grid0.N, _)
/-- The block that the window of G1 has at a point. -/
theorem idxG1 : ∀ t : Fin cfg0.N, win0_5.index t = ![t.val / 4, 16 + t.val % 4] := (by decide +kernel : ∀ t : Fin grid0.N, _)
/-- The block that the window of P0 has at a point. -/
theorem idxP0 : ∀ t : Fin cfg0.N, win0_6.index t = ![t.val / 4, t.val % 4] := (by decide +kernel : ∀ t : Fin grid0.N, _)
/-- The block that the window of P1 has at a point. -/
theorem idxP1 : ∀ t : Fin cfg0.N, win0_7.index t = ![t.val / 4, t.val % 4] := (by decide +kernel : ∀ t : Fin grid0.N, _)
/-- The block that the window of M has at a point. -/
theorem idxM : ∀ t : Fin cfg0.N, win0_8.index t = ![t.val / 4, t.val % 4] := (by decide +kernel : ∀ t : Fin grid0.N, _)

/-- The product of two arrays. -/
def prod (y : FVec Ideal S8192x1024 .bf16) (w : FVec Ideal S1024x2048 .bf16) : FVec Ideal S8192x2048 .bf16 :=
  fun i => ∑ k : Fin 1024, y (ix2 (i 0) k) * w (ix2 k (i 1))

/-- A column of the wide array, at an offset. -/
def gcol (o : ℕ) (h : o + 2048 ≤ 10240) (k : Fin 2048) : Fin 10240 := ⟨o + k.val, by omega⟩

/-- The value of `gcol`. -/
theorem gcol_val (o : ℕ) (h : o + 2048 ≤ 10240) (k : Fin 2048) : (gcol o h k).val = o + k.val := rfl

/-- The sum of two products, each by its gate: the gates' columns begin at 6144 and at 8192. -/
def mix (y y' : FVec Ideal S8192x1024 .bf16) (w w' : FVec Ideal S1024x2048 .bf16) (g : FVec Ideal S8192x10240 .f32) :
    FVec Ideal S8192x2048 .bf16 := fun i =>
  Cert.Sig.gate (g (ix2 (i 0) (gcol 6144 (by omega) (i 1)))) * prod y w i
    + Cert.Sig.gate (g (ix2 (i 0) (gcol 8192 (by omega) (i 1)))) * prod y' w' i

/-- The offsets of a whole block are zero. -/
theorem zero2 : (![0, 0] : Fin 2 → ℕ) = fun _ => 0 := by funext i; fin_cases i <;> rfl

variable (x0 x1 : Vec Ideal S1024x1024 .bf16) (x2 x3 : Vec Ideal S1024x512 .bf16) (x4 x5 : Vec Ideal S1024x512 .f32)

/-- A block of the first product. -/
theorem out6_at (r : Fin 1024) (k : Fin 512) :
    out0_6 x0 x1 x2 x3 x4 x5 (ix2 r k) = ∑ j : Fin 1024, (x0 (ix2 r j) * x2 (ix2 j k) : EReal) := by
  unfold out0_6
  rw [View.canon_unit_zero zero2, View.ld_unit_zero zero2, View.ld_unit_zero zero2]
  unfold k0_pay3 k0_pay1
  pointwise []

/-- A block of the second product. -/
theorem out7_at (r : Fin 1024) (k : Fin 512) :
    out0_7 x0 x1 x2 x3 x4 x5 (ix2 r k) = ∑ j : Fin 1024, (x1 (ix2 r j) * x3 (ix2 j k) : EReal) := by
  unfold out0_7
  rw [View.canon_unit_zero zero2, View.ld_unit_zero zero2, View.ld_unit_zero zero2]
  unfold k0_pay4 k0_pay2
  pointwise []

/-- A block of the gated sum. -/
theorem out8_at (r : Fin 1024) (k : Fin 512) :
    out0_8 x0 x1 x2 x3 x4 x5 (ix2 r k)
      = (Cert.Sig.gate (x4 (ix2 r k)) * (∑ j : Fin 1024, (x0 (ix2 r j) * x2 (ix2 j k) : EReal))
        + Cert.Sig.gate (x5 (ix2 r k)) * (∑ j : Fin 1024, (x1 (ix2 r j) * x3 (ix2 j k) : EReal)) : EReal) := by
  unfold out0_8
  rw [View.canon_unit_zero zero2]
  repeat rw [View.ld_unit_zero zero2]
  unfold k0_pay5 k0_pay1 k0_pay2
  pointwise []
  rw [← Cert.Sig.sig_eq, ← Cert.Sig.sig_eq]

variable (m : (ℓ : Loc nD τ sig) → Buf (Elt Ideal) ℓ) (c : Dev nD)

/-- The grid has thirty-two points. -/
theorem point_lt (t : Fin cfg0.N) : t.val < 32 := lt_of_lt_of_eq t.isLt N_0

/-- The row of the arrays at a row of a point's block. -/
def row (t : Fin cfg0.N) (r : Fin 1024) : Fin 8192 := ⟨t.val / 4 * 1024 + r.val, by have := point_lt t; omega⟩

/-- The column of the results at a column of a point's block. -/
def col (t : Fin cfg0.N) (k : Fin 512) : Fin 2048 := ⟨t.val % 4 * 512 + k.val, by omega⟩

/-- The value of `row`. -/
theorem row_val (t : Fin cfg0.N) (r : Fin 1024) : (row t r).val = t.val / 4 * 1024 + r.val := rfl
/-- The value of `col`. -/
theorem col_val (t : Fin cfg0.N) (k : Fin 512) : (col t k).val = t.val % 4 * 512 + k.val := rfl

/-- A point's block, in its array. -/
theorem y0_at (t : Fin cfg0.N) (r : Fin 1024) (k : Fin 1024) :
    iblk m c 0 t (ix2 r k) = m ((c : Thread nD τ).loc main_arg0) (ix2 (row t r) k) := by
  blk_ext [iblk, V, idxY0, row_val]
/-- A point's block, in its array. -/
theorem y1_at (t : Fin cfg0.N) (r : Fin 1024) (k : Fin 1024) :
    iblk m c 1 t (ix2 r k) = m ((c : Thread nD τ).loc main_arg1) (ix2 (row t r) k) := by
  blk_ext [iblk, V, idxY1, row_val]
/-- A point's block, in its array. -/
theorem w0_at (t : Fin cfg0.N) (r : Fin 1024) (k : Fin 512) :
    iblk m c 2 t (ix2 r k) = m ((c : Thread nD τ).loc main_arg2) (ix2 r (col t k)) := by
  blk_ext [iblk, V, idxW0, col_val]
/-- A point's block, in its array. -/
theorem w1_at (t : Fin cfg0.N) (r : Fin 1024) (k : Fin 512) :
    iblk m c 3 t (ix2 r k) = m ((c : Thread nD τ).loc main_arg3) (ix2 r (col t k)) := by
  blk_ext [iblk, V, idxW1, col_val]
/-- A point's block, in its array. -/
theorem g0_at (t : Fin cfg0.N) (r : Fin 1024) (k : Fin 512) :
    iblk m c 4 t (ix2 r k) = m ((c : Thread nD τ).loc main_arg4) (ix2 (row t r) (gcol 6144 (by omega) (col t k))) := by
  blk_ext [iblk, V, idxG0, gcol_val, row_val, col_val]
/-- A point's block, in its array. -/
theorem g1_at (t : Fin cfg0.N) (r : Fin 1024) (k : Fin 512) :
    iblk m c 5 t (ix2 r k) = m ((c : Thread nD τ).loc main_arg4) (ix2 (row t r) (gcol 8192 (by omega) (col t k))) := by
  blk_ext [iblk, V, idxG1, gcol_val, row_val, col_val]

/-- The first product is whole. -/
theorem whole6 : (dats m 0 c).arrAt 6 cfg0.N = prod (m ((c : Thread nD τ).loc main_arg0)) (m ((c : Thread nD τ).loc main_arg2)) := by
  refine (dats m 0 c).arrAt_eq_of_covers 6 _ (by decide +kernel) fun t hf y => ?_
  blk_simp
  rw [after0_6]
  obtain ⟨r, k, rfl⟩ : ∃ (r : Fin 1024) (k : Fin 512), y = ix2 r k := ⟨y 0, y 1, eq_ix2 y⟩
  have e : (win0_6.blk t).view.emb (ix2 r k) = (ix2 (row t r) (col t k) : S8192x2048.Idx) := by blk_ext [idxP0, row_val, col_val]
  rw [e]
  refine (out6_at _ _ _ _ _ _ r k).trans ?_
  exact Finset.sum_congr rfl fun j _ => by rw [y0_at, w0_at]; rfl

/-- The second product is whole. -/
theorem whole7 : (dats m 0 c).arrAt 7 cfg0.N = prod (m ((c : Thread nD τ).loc main_arg1)) (m ((c : Thread nD τ).loc main_arg3)) := by
  refine (dats m 0 c).arrAt_eq_of_covers 7 _ (by decide +kernel) fun t hf y => ?_
  blk_simp
  rw [after0_7]
  obtain ⟨r, k, rfl⟩ : ∃ (r : Fin 1024) (k : Fin 512), y = ix2 r k := ⟨y 0, y 1, eq_ix2 y⟩
  have e : (win0_7.blk t).view.emb (ix2 r k) = (ix2 (row t r) (col t k) : S8192x2048.Idx) := by blk_ext [idxP1, row_val, col_val]
  rw [e]
  refine (out7_at _ _ _ _ _ _ r k).trans ?_
  exact Finset.sum_congr rfl fun j _ => by rw [y1_at, w1_at]; rfl

/-- The gated sum is whole. -/
theorem whole8 : (dats m 0 c).arrAt 8 cfg0.N = mix (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, k, rfl⟩ : ∃ (r : Fin 1024) (k : Fin 512), y = ix2 r k := ⟨y 0, y 1, eq_ix2 y⟩
  have e : (win0_8.blk t).view.emb (ix2 r k) = (ix2 (row t r) (col t k) : S8192x2048.Idx) := by blk_ext [idxM, row_val, col_val]
  rw [e]
  refine (out8_at _ _ _ _ _ _ r k).trans ?_
  refine congr (congrArg _ (congr (congrArg _ ?_) (Finset.sum_congr rfl fun j _ => by rw [y0_at, w0_at]; rfl)))
    (congr (congrArg _ ?_) (Finset.sum_congr rfl fun j _ => by rw [y1_at, w1_at]; rfl))
  · rw [g0_at]; rfl
  · rw [g1_at]; rfl

end Cert.MgIdeal

namespace Cert.Proof

open Idealize.ShloMosaic Idealize.SL.Sem Idealize.ShloMosaic.TcCoe

/-- The bodies that the grid calls have the same text in both printed programs. -/
theorem mg_defs₀ : @Cert.Mg.defs₀ Bits _ Cert.Mg.Gen.facts = @Cert.MgIdeal.defs₀ Bits _ Cert.MgIdeal.Gen.facts := by
  unfold Cert.Mg.defs₀ Cert.MgIdeal.defs₀
  refine congrArg Defs.onTc ?_
  funext l a
  match l, a with
  | ⟨0, _⟩, (t, s) => rfl

/-- The frame of the call as printed: the run of the idealized text, read at the machine's floats. -/
theorem frame_mg : Cert.quiescent_Mg := fun m ρ _ => by
  have h := Cert.MgIdeal.Gen.frame (F := Bits) m ρ
  rw [show Cert.MgIdeal.defs (F := Bits) = Cert.Mg.defs from (congrArg (Pipeline.defs Cert.MgIdeal.pcfgs) mg_defs₀).symm] at h
  exact h

/-- The frame of the idealized call. -/
theorem frame_mgIdeal : Cert.quiescent_MgIdeal := fun m ρ _ => Cert.MgIdeal.Gen.frame m ρ

/-- The frame of its reference. -/
theorem frame_mgRef : Cert.quiescent_MgRefIdeal := fun m ρ _ =>
  (θ_run Cert.MgRefIdeal.defs _ _).mono
    (fun r h => ⟨fun c => (h c).2.2.2, sem_eq_zero_of_no_sems rfl r.2⟩)
    (Cert.MgRefIdeal.Value.run (F := Ideal) m ρ)

/-- The call computes what its reference does. -/
theorem equal_mg : Cert.algebraic_MgIdeal_MgRefIdeal := fun m ρ m' ρ' _ ha => by
  refine ⟨_, _, _, (θ_run _ _ _).mono (fun r h c => ⟨(h c).1.trans (Cert.MgIdeal.whole6 m c), (h c).2.1.trans (Cert.MgIdeal.whole7 m c),
      (h c).2.2.1.trans (Cert.MgIdeal.whole8 m c), (h c).2.2.2⟩) (Cert.MgIdeal.Value.run_blocks m ρ),
    (θ_run _ _ _).mono (fun r h c => ⟨(h c).1.trans ?_, (h c).2.1.trans ?_, (h c).2.2.1.trans ?_, (h c).2.2.2⟩)
      (Cert.MgRefIdeal.Value.run (F := Ideal) m' ρ')⟩ <;>
  (simp only [(ha c).1, (ha c).2.1, (ha c).2.2.1, (ha c).2.2.2.1, (ha c).2.2.2.2]
   funext i
   obtain ⟨r, k, rfl⟩ : ∃ (r : Fin 8192) (k : Fin 2048), i = ix2 r k := ⟨i 0, i 1, eq_ix2 i⟩
   pointwise [Cert.MgIdeal.prod, Cert.MgIdeal.mix, Cert.MgIdeal.gcol, Cert.Sig.gate])

end Cert.Proof

end
-- ==== Proof.OpEqual.lean ====
module

public import proofs.«01_k».proof.Defs
public import proofs.«01_k».proof.Proof.Gen.OpIdeal.Value
public import proofs.«01_k».proof.Proof.Gen.OpRefIdeal.Run
public import proofs.«01_k».proof.Proof.Gen.Op
public import Idealize.ShloMosaic.Lib.Pointwise
public import Idealize.ShloMosaic.Lib.Pipeline.ValueKit.Geometry
public import Idealize.ShloMosaic.Lib.Quiescent

/-! The output projection: one product, a block of rows and columns at a time. -/

@[expose] public section

set_option maxRecDepth 16384

noncomputable section

namespace Cert.OpIdeal

open Cert.OpIdeal.Gen Idealize.ShloMosaic Idealize.ShloMosaic.TcCoe Idealize.SL.Sem

/-- The block that window 0 has at a point. -/
theorem idx0 : ∀ t : Fin cfg0.N, win0_0.index t = ![t.val / 2, 0] := (by decide +kernel : ∀ t : Fin grid0.N, _)
/-- The block that window 1 has at a point. -/
theorem idx1 : ∀ t : Fin cfg0.N, win0_1.index t = ![0, t.val % 2] := (by decide +kernel : ∀ t : Fin grid0.N, _)
/-- The block that window 2 has at a point. -/
theorem idx2 : ∀ t : Fin cfg0.N, win0_2.index t = ![t.val / 2, t.val % 2] := (by decide +kernel : ∀ t : Fin grid0.N, _)

/-- The product of two arrays. -/
def prod (a : FVec Ideal S8192x2048 .bf16) (b : FVec Ideal S2048x2048 .bf16) : FVec Ideal S8192x2048 .f32 :=
  fun i => ∑ k : Fin 2048, a (ix2 (i 0) k) * b (ix2 k (i 1))

/-- The offsets of a whole block are zero. -/
theorem zero2 : (![0, 0] : Fin 2 → ℕ) = fun _ => 0 := by funext i; fin_cases i <;> rfl

/-- A block of the result is the product of its rows and columns. -/
theorem out_at (x0 : Vec Ideal S1024x2048 .bf16) (x1 : Vec Ideal S2048x1024 .bf16) (r k : Fin 1024) :
    out0_2 x0 x1 (ix2 r k) = ∑ j : Fin 2048, (x0 (ix2 r j) * x1 (ix2 j k) : EReal) := by
  unfold out0_2
  rw [View.canon_unit_zero zero2, View.ld_unit_zero zero2, View.ld_unit_zero zero2]
  unfold k0_pay1
  pointwise []

variable (m : (ℓ : Loc nD τ sig) → Buf (Elt Ideal) ℓ) (c : Dev nD)

/-- The grid has sixteen points. -/
theorem point_lt (t : Fin cfg0.N) : t.val < 16 := lt_of_lt_of_eq t.isLt N_0

/-- The block of rows at a point. -/
theorem blk0_at (t : Fin cfg0.N) (r : Fin 1024) (k : Fin 2048) :
    iblk m c 0 t (ix2 r k) = m ((c : Thread nD τ).loc main_arg0) (ix2 ⟨t.val / 2 * 1024 + r.val, by have := point_lt t; omega⟩ k) := by
  blk_ext [iblk, V, idx0]

/-- The block of columns at a point. -/
theorem blk1_at (t : Fin cfg0.N) (r : Fin 2048) (k : Fin 1024) :
    iblk m c 1 t (ix2 r k) = m ((c : Thread nD τ).loc main_arg1) (ix2 r ⟨t.val % 2 * 1024 + k.val, by omega⟩) := by
  blk_ext [iblk, V, idx1]

/-- The whole result is the product. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ (r : Fin 1024) (k : Fin 1024), y = ix2 r k := ⟨y 0, y 1, eq_ix2 y⟩
  refine (out_at _ _ r k).trans ?_
  have ht := point_lt t
  have e : (win0_2.blk t).view.emb (ix2 r k) = (ix2 ⟨t.val / 2 * 1024 + r.val, by omega⟩ ⟨t.val % 2 * 1024 + k.val, by omega⟩ : S8192x2048.Idx) := by
    blk_ext [idx2]
  rw [e]
  exact Finset.sum_congr rfl fun j _ => by rw [blk0_at, blk1_at]; rfl

end Cert.OpIdeal

namespace Cert.Proof

open Idealize.ShloMosaic Idealize.SL.Sem Idealize.ShloMosaic.TcCoe

/-- The bodies that the grid calls have the same text in both printed programs. -/
theorem op_defs₀ : @Cert.Op.defs₀ Bits _ Cert.Op.Gen.facts = @Cert.OpIdeal.defs₀ Bits _ Cert.OpIdeal.Gen.facts := by
  unfold Cert.Op.defs₀ Cert.OpIdeal.defs₀
  refine congrArg Defs.onTc ?_
  funext l a
  match l, a with
  | ⟨0, _⟩, (t, s) => rfl

/-- The frame of the call as printed: the run of the idealized text, read at the machine's floats. -/
theorem frame_op : Cert.quiescent_Op := fun m ρ _ => by
  have h := Cert.OpIdeal.Gen.frame (F := Bits) m ρ
  rw [show Cert.OpIdeal.defs (F := Bits) = Cert.Op.defs from (congrArg (Pipeline.defs Cert.OpIdeal.pcfgs) op_defs₀).symm] at h
  exact h

/-- The frame of the idealized call. -/
theorem frame_opIdeal : Cert.quiescent_OpIdeal := fun m ρ _ => Cert.OpIdeal.Gen.frame m ρ

/-- The frame of its reference. -/
theorem frame_opRef : Cert.quiescent_OpRefIdeal := fun m ρ _ =>
  (θ_run Cert.OpRefIdeal.defs _ _).mono
    (fun r h => ⟨fun c => (h c).2, sem_eq_zero_of_no_sems rfl r.2⟩)
    (Cert.OpRefIdeal.Value.run (F := Ideal) m ρ)

/-- The call computes what its reference does. -/
theorem equal_op : Cert.algebraic_OpIdeal_OpRefIdeal := fun m ρ m' ρ' _ ha => by
  refine ⟨_, (θ_run _ _ _).mono (fun r h c => ⟨(h c).1.trans (Cert.OpIdeal.whole m c), (h c).2⟩) (Cert.OpIdeal.Value.run_blocks m ρ),
    (θ_run _ _ _).mono (fun r h c => ⟨(h c).1.trans ?_, (h c).2⟩) (Cert.OpRefIdeal.Value.run (F := Ideal) m' ρ')⟩
  rw [(ha c).1, (ha c).2]
  funext i
  obtain ⟨r, k, rfl⟩ : ∃ (r : Fin 8192) (k : Fin 2048), i = ix2 r k := ⟨i 0, i 1, eq_ix2 i⟩
  pointwise [Cert.OpIdeal.prod]

end Cert.Proof

end
-- ==== Proof.GradPart.lean ====
module

public import proofs.«01_k».proof.Proof.Parts
public import Idealize.ShloMosaic.Lib.Pointwise
public import Idealize.ShloMosaic.Lib.Pipeline.Value
public import Idealize.ShloMosaic.Lib.ValueLayout

/-! One piece of the gradient of the input weights, written into its columns of an array: what the eight calls share. -/

@[expose] public section

noncomputable section

namespace Cert.GradPart

open Idealize.ShloMosaic

/-- One term of the contraction: a column of the input by a column of the piece. -/
def term {w : ℕ} (h : (⟨2, ![8192, 2048]⟩ : Shape).Idx → EReal) (p : (⟨2, ![8192, w]⟩ : Shape).Idx → EReal)
    (r : Fin 2048) (k : Fin w) (s : Fin 8192) : EReal :=
  h (ix2 s r) * p (ix2 s k)

/-- The array with the columns from `start` on replaced by the product with the piece. -/
def updated (start w : ℕ) (g : (⟨2, ![2048, 10240]⟩ : Shape).Idx → EReal) (h : (⟨2, ![8192, 2048]⟩ : Shape).Idx → EReal)
    (p : (⟨2, ![8192, w]⟩ : Shape).Idx → EReal) : (⟨2, ![2048, 10240]⟩ : Shape).Idx → EReal := fun i =>
  if hi : start ≤ (i 1).val ∧ (i 1).val - start < w then ∑ s : Fin 8192, term h p (i 0) ⟨(i 1).val - start, hi.2⟩ s else g i

/-- Inside the columns of the piece the updated array is the product. -/
theorem updated_in {start w : ℕ} (g : (⟨2, ![2048, 10240]⟩ : Shape).Idx → EReal) (h : (⟨2, ![8192, 2048]⟩ : Shape).Idx → EReal)
    (p : (⟨2, ![8192, w]⟩ : Shape).Idx → EReal) (r : Fin 2048) (k : Fin w) (q : Fin 10240) (hq : q.val = start + k.val) :
    updated start w g h p (ix2 r q) = ∑ s : Fin 8192, term h p r k s := by
  have hi : start ≤ q.val ∧ q.val - start < w := by omega
  refine (dif_pos (show start ≤ ((ix2 r q : (⟨2, ![2048, 10240]⟩ : Shape).Idx) 1).val ∧ _ from hi)).trans ?_
  refine Finset.sum_congr rfl fun s _ => congrArg (fun k => term h p r k s) (Fin.ext ?_)
  show q.val - start = k.val
  omega

/-- Outside them it is the array as it was. -/
theorem updated_out {start w : ℕ} (g : (⟨2, ![2048, 10240]⟩ : Shape).Idx → EReal) (h : (⟨2, ![8192, 2048]⟩ : Shape).Idx → EReal)
    (p : (⟨2, ![8192, w]⟩ : Shape).Idx → EReal) (i : (⟨2, ![2048, 10240]⟩ : Shape).Idx) (hi : ¬(start ≤ (i 1).val ∧ (i 1).val < start + w)) :
    updated start w g h p i = g i :=
  dif_neg fun h => hi ⟨h.1, by omega⟩

/-- The array laid out anew from its first columns, the product and its last columns is the updated array. -/
theorem concat_eq {start w rest : ℕ} (g : (⟨2, ![2048, 10240]⟩ : Shape).Idx → EReal) (h : (⟨2, ![8192, 2048]⟩ : Shape).Idx → EReal)
    (p : (⟨2, ![8192, w]⟩ : Shape).Idx → EReal) (x : (⟨2, ![2048, w]⟩ : Shape).Idx → EReal)
    (hx : ∀ (r : Fin 2048) (k : Fin w), x (ix2 r k) = ∑ s : Fin 8192, term h p r k s)
    (s0 : (⟨2, ![2048, 10240]⟩ : Shape).Slices ![0, 0] ⟨2, ![2048, start]⟩)
    (s1 : (⟨2, ![2048, 10240]⟩ : Shape).Slices ![0, start + w] ⟨2, ![2048, rest]⟩)
    (hc : Shape.Concatenates [⟨2, ![2048, start]⟩, ⟨2, ![2048, w]⟩, ⟨2, ![2048, rest]⟩] ⟨2, ![2048, 10240]⟩ 1)
    (hn : start + w + rest = 10240) :
    concatenate ⟨2, ![2048, 10240]⟩ 1 [⟨⟨2, ![2048, start]⟩, extractStridedSlice _ ![0, 0] g s0⟩, ⟨_, x⟩,
      ⟨⟨2, ![2048, rest]⟩, extractStridedSlice _ ![0, start + w] g s1⟩] hc = updated start w g h p := by
  funext i
  obtain ⟨r, q, rfl⟩ : ∃ (r : Fin 2048) (q : Fin 10240), i = ix2 r q := ⟨i 0, i 1, eq_ix2 i⟩
  have off : ∀ {b : ℕ} (j : Fin b) (a : Fin 2), a ≠ 1 → ((ix2 r j : (⟨2, ![2048, b]⟩ : Shape).Idx) a).val
      = ((ix2 r q : (⟨2, ![2048, 10240]⟩ : Shape).Idx) a).val := by
    intro b j a ha
    fin_cases a
    · rfl
    · exact absurd rfl ha
  by_cases h0 : q.val < start
  · refine (concatenate_apply_piece 1 [⟨⟨2, ![2048, start]⟩, extractStridedSlice _ ![0, 0] g s0⟩, ⟨_, x⟩,
      ⟨⟨2, ![2048, rest]⟩, extractStridedSlice _ ![0, start + w] g s1⟩] hc (ix2 r q) 0 (by exact (by omega : 0 < 3)) _ _ rfl rfl 0 rfl
      (ix2 r ⟨q.val, h0⟩) (off _) (Nat.zero_add _)).trans ?_
    rw [updated_out _ _ _ _ (fun h => absurd h.1 (Nat.not_le.mpr h0))]
    exact ValueIdx.slice2_axis1_apply _ _ _ r _ q (Nat.zero_add _).symm
  · by_cases h1 : q.val < start + w
    · have hk : q.val - start < w := by omega
      refine (concatenate_apply_piece 1 [⟨⟨2, ![2048, start]⟩, extractStridedSlice _ ![0, 0] g s0⟩, ⟨_, x⟩,
        ⟨⟨2, ![2048, rest]⟩, extractStridedSlice _ ![0, start + w] g s1⟩] hc (ix2 r q) 1 (by exact (by omega : 1 < 3)) _ _ rfl rfl start
        (by simp) (ix2 r ⟨q.val - start, hk⟩) (off _) (show start + (q.val - start) = q.val by omega)).trans ?_
      rw [hx, updated_in g h p r ⟨q.val - start, hk⟩ q (show q.val = start + (q.val - start) by omega)]
    · have hk : q.val - (start + w) < rest := by omega
      refine (concatenate_apply_piece 1 [⟨⟨2, ![2048, start]⟩, extractStridedSlice _ ![0, 0] g s0⟩, ⟨_, x⟩,
        ⟨⟨2, ![2048, rest]⟩, extractStridedSlice _ ![0, start + w] g s1⟩] hc (ix2 r q) 2 (by exact (by omega : 2 < 3)) _ _ rfl rfl
        (start + w) (by simp) (ix2 r ⟨q.val - (start + w), hk⟩) (off _) (show start + w + (q.val - (start + w)) = q.val by omega)).trans ?_
      rw [updated_out _ _ _ _ (fun h => h1 h.2)]
      exact ValueIdx.slice2_axis1_apply _ _ _ r _ q (show q.val = start + w + (q.val - (start + w)) by omega)

/-- A block's scratch takes four parts of a contraction one after another, and its last point leaves their sum: the whole
contraction. -/
theorem fold {N : ℕ} (s o : (n : ℕ) → n < N → (⟨2, ![1024, 1024]⟩ : Shape).Idx → EReal) (f : Fin N → Fin 1024 → Fin 1024 → Fin 8192 → EReal)
    (hf : ∀ n (h : n + 1 < N), (n + 1) % 4 ≠ 0 → f ⟨n + 1, h⟩ = f ⟨n, Nat.lt_of_succ_lt h⟩)
    (first : ∀ n (h : n < N), n % 4 = 0 → ∀ r k, s n h (ix2 r k) = ∑ j : Fin 2048, f ⟨n, h⟩ r k ⟨n % 4 * 2048 + j.val, by omega⟩)
    (later : ∀ n (h : n + 1 < N), (n + 1) % 4 ≠ 0 → (n + 1) % 4 ≠ 3 → ∀ r k, s (n + 1) h (ix2 r k)
      = s n (Nat.lt_of_succ_lt h) (ix2 r k) + ∑ j : Fin 2048, f ⟨n + 1, h⟩ r k ⟨(n + 1) % 4 * 2048 + j.val, by omega⟩)
    (last : ∀ n (h : n + 1 < N), (n + 1) % 4 = 3 → ∀ r k, o (n + 1) h (ix2 r k)
      = s n (Nat.lt_of_succ_lt h) (ix2 r k) + ∑ j : Fin 2048, f ⟨n + 1, h⟩ r k ⟨(n + 1) % 4 * 2048 + j.val, by omega⟩)
    (t : Fin N) (ht : t.val % 4 = 3) (r k : Fin 1024) : o t.val t.isLt (ix2 r k) = ∑ q, f t r k q := by
  have scratch : ∀ n (h : n < N), n % 4 ≠ 3 → s n h (ix2 r k) = Cert.Parts.upTo (f ⟨n, h⟩ r k) (n % 4 * 2048 + 2048) := by
    intro n
    induction n with
    | zero =>
      intro h _
      rw [first 0 h rfl, Cert.Parts.upTo_add _ _ _ (by omega)]
      simp only [Nat.zero_mod, Nat.zero_mul, Cert.Parts.upTo_zero, zero_add]
    | succ n ih =>
      intro h h3
      rw [Cert.Parts.upTo_add _ _ _ (by omega)]
      by_cases h0 : (n + 1) % 4 = 0
      · rw [first (n + 1) h h0]
        simp only [h0, Nat.zero_mul, Cert.Parts.upTo_zero, zero_add]
      · have hb : (n + 1) % 4 * 2048 = n % 4 * 2048 + 2048 := by omega
        refine (later n h h0 h3 r k).trans (congrArg (· + _) ?_)
        rw [ih (Nat.lt_of_succ_lt h) (by omega), hf n h h0, hb]
  obtain ⟨n, h⟩ := t
  obtain ⟨n, rfl⟩ : ∃ k, n = k + 1 := ⟨n - 1, by dsimp only at ht; omega⟩
  dsimp only at ht
  have hb : (n + 1) % 4 * 2048 = n % 4 * 2048 + 2048 := by omega
  have h0 : n % 4 ≠ 3 := by omega
  rw [Cert.Parts.sum_eq (N := 8192) (f ⟨n + 1, h⟩ r k) ((n + 1) % 4 * 2048) 2048 (by omega)]
  refine (last n h ht r k).trans (congrArg (· + _) ?_)
  rw [scratch n (Nat.lt_of_succ_lt h) h0, hf n h (by omega), hb]

/-! ## What a point leaves -/

/-- The offsets of a whole block are zero. -/
theorem zero2 : (![0, 0] : Fin 2 → ℕ) = fun _ => 0 := by funext i; fin_cases i <;> rfl

/-- What a store of a whole block leaves is the block. -/
theorem stored {sig : RefSig} {S : Shape} {e : EltTy} {off : Fin S.rank → ℕ} (h0 : off = fun _ => 0) (v : View sig .tc .vmem S e)
    (f : v.ty.Contents (Elt Ideal)) (inb : ∀ a, off a + S.size a ≤ S.size a) (x : Vec Ideal S e) :
    v.read (Elt Ideal) (v.writes (Elt Ideal) f [⟨Rect.unit off S.size inb, x⟩]) = x := by
  refine (View.read_writes_eq_canon _ _ _ fun y => ⟨_, List.mem_singleton_self _, ?_⟩).trans (View.canon_unit_zero h0 inb x)
  subst h0
  show y ∈ (Rect.whole S).set
  rw [Rect.set_whole]
  exact Finset.mem_univ y

/-- What a load of a whole block reads is the block. -/
theorem loaded {sig : RefSig} {S : Shape} {e : EltTy} {off : Fin S.rank → ℕ} (h0 : off = fun _ => 0) (a : Memref sig .tc .vmem S e)
    (h : a.IsWhole) (inb : ∀ a, off a + S.size a ≤ S.size a) (x : Vec Ideal S e) :
    View.readAt (Elt Ideal) a.view (Rect.unit off S.size inb).toLoadRect (h.unread x) = x := by
  rw [View.readAt_eq_ld, h.read_unread, View.ld_unit_zero h0]

/-! ## A whole block of the result -/

/-- The first block of the two that a point multiplies, and the second. -/
abbrev Block := Vec Ideal ⟨2, ![2048, 1024]⟩ .bf16

/-- The product of the columns of two blocks. -/
def prod (x0 x1 : Block) (r k : Fin 1024) : EReal := ∑ j : Fin 2048, (x0 (ix2 j r) * x1 (ix2 j k) : EReal)

/-- A call whose points multiply the blocks of the input and of the piece, the first of each four storing its product in the
scratch, the others adding theirs, and the last leaving the sum in the result, leaves there the product of the arrays. -/
theorem block {N w : ℕ} (outs : (n : ℕ) → n < N → Vec Ideal ⟨2, ![1024, 1024]⟩ .f32 × Vec Ideal ⟨2, ![1024, 1024]⟩ .f32)
    (x0 x1 : Fin N → Block) (h : (⟨2, ![8192, 2048]⟩ : Shape).Idx → EReal) (p : (⟨2, ![8192, w]⟩ : Shape).Idx → EReal)
    (row : Fin N → Fin 1024 → Fin 2048) (col : Fin N → Fin 1024 → Fin w)
    (row_eq : ∀ n (hn : n + 1 < N) r, (n + 1) % 4 ≠ 0 → row ⟨n + 1, hn⟩ r = row ⟨n, Nat.lt_of_succ_lt hn⟩ r)
    (col_eq : ∀ n (hn : n + 1 < N) k, (n + 1) % 4 ≠ 0 → col ⟨n + 1, hn⟩ k = col ⟨n, Nat.lt_of_succ_lt hn⟩ k)
    (h_at : ∀ (t : Fin N) (j : Fin 2048) (r : Fin 1024), x0 t (ix2 j r) = h (ix2 ⟨t.val % 4 * 2048 + j.val, by omega⟩ (row t r)))
    (p_at : ∀ (t : Fin N) (j : Fin 2048) (k : Fin 1024), x1 t (ix2 j k) = p (ix2 ⟨t.val % 4 * 2048 + j.val, by omega⟩ (col t k)))
    (first : ∀ n (hn : n < N), n % 4 = 0 → ∀ r k, (outs n hn).2 (ix2 r k) = prod (x0 ⟨n, hn⟩) (x1 ⟨n, hn⟩) r k)
    (later : ∀ n (hn : n + 1 < N), (n + 1) % 4 ≠ 0 → (n + 1) % 4 ≠ 3 → ∀ r k, (outs (n + 1) hn).2 (ix2 r k)
      = (outs n (Nat.lt_of_succ_lt hn)).2 (ix2 r k) + prod (x0 ⟨n + 1, hn⟩) (x1 ⟨n + 1, hn⟩) r k)
    (last : ∀ n (hn : n + 1 < N), (n + 1) % 4 = 3 → ∀ r k, (outs (n + 1) hn).1 (ix2 r k)
      = (outs n (Nat.lt_of_succ_lt hn)).2 (ix2 r k) + prod (x0 ⟨n + 1, hn⟩) (x1 ⟨n + 1, hn⟩) r k)
    (t : Fin N) (ht : t.val % 4 = 3) (r k : Fin 1024) :
    (outs t.val t.isLt).1 (ix2 r k) = ∑ s : Fin 8192, term h p (row t r) (col t k) s := by
  have part : ∀ (t : Fin N) r k, prod (x0 t) (x1 t) r k
      = ∑ j : Fin 2048, term h p (row t r) (col t k) ⟨t.val % 4 * 2048 + j.val, by omega⟩ := fun t r k =>
    Finset.sum_congr rfl fun j _ => by rw [h_at, p_at]; rfl
  refine fold (fun n hn => (outs n hn).2) (fun n hn => (outs n hn).1) (fun t r k => term h p (row t r) (col t k))
    (fun n hn h0 => ?_) (fun n hn h0 r k => (first n hn h0 r k).trans (part _ r k))
    (fun n hn h0 h3 r k => (later n hn h0 h3 r k).trans (congrArg _ (part _ r k)))
    (fun n hn h3 r k => (last n hn h3 r k).trans (congrArg _ (part _ r k))) t ht r k
  funext r k
  rw [row_eq n hn r h0, col_eq n hn k h0]

end Cert.GradPart

end
-- ==== Proof.Gi0Equal.lean ====
module

public import proofs.«01_k».proof.Defs
public import proofs.«01_k».proof.Proof.Gen.Gi0Ideal.Value
public import proofs.«01_k».proof.Proof.Gen.Gi0RefIdeal.Run
public import proofs.«01_k».proof.Proof.Gen.Gi0
public import proofs.«01_k».proof.Proof.GradPart
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The first piece of the gradient of the input weights. -/

@[expose] public section

set_option maxRecDepth 16384

noncomputable section

namespace Cert.Gi0Ideal

open Cert.Gi0Ideal.Gen Cert.GradPart Idealize.ShloMosaic Idealize.ShloMosaic.TcCoe Idealize.SL.Sem

/-- The block that window 0 has at a point. -/
theorem idx0 : ∀ t : Fin cfg0.N, win0_0.index t = ![t.val % 4, t.val / 4] := (by decide +kernel : ∀ t : Fin grid0.N, _)
/-- The block that window 1 has at a point. -/
theorem idx1 : ∀ t : Fin cfg0.N, win0_1.index t = ![t.val % 4, 0] := (by decide +kernel : ∀ t : Fin grid0.N, _)
/-- The block that window 2 has at a point. -/
theorem idx2 : ∀ t : Fin cfg0.N, win0_2.index t = ![t.val / 4, 0] := (by decide +kernel : ∀ t : Fin grid0.N, _)

/-- The block that the first point of four stores: the product. The other pieces' calls have the same. -/
theorem pay2_at (x0 x1 : Block) (r k : Fin 1024) : k0_pay2 x1 x0 (ix2 r k) = prod x0 x1 r k := by
  unfold k0_pay2 k0_pay1
  pointwise [prod]

/-- The block that the later ones store: the product added to the scratch. The other pieces' calls have the same. -/
theorem pay3_at (x0 x1 : Block) (xs : Vec Ideal S1024x1024 .f32) (r k : Fin 1024) :
    k0_pay3 x1 x0 xs (ix2 r k) = (xs (ix2 r k) + prod x0 x1 r k : EReal) := by
  unfold k0_pay3 k0_pay1
  pointwise [prod]

variable (m : (ℓ : Loc nD τ sig) → Buf (Elt Ideal) ℓ) (c : Dev nD)

/-- The row of the result at a row of a point's block. -/
def row (t : Fin cfg0.N) (r : Fin 1024) : Fin 2048 := ⟨t.val / 4 * 1024 + r.val, by have := lt_of_lt_of_eq t.isLt N_0; omega⟩

/-- The value of `row`. -/
theorem row_val (t : Fin cfg0.N) (r : Fin 1024) : (row t r).val = t.val / 4 * 1024 + r.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) k s := by
  refine block (outsAt0 m c) (iblk m c 0) (iblk m c 1) _ _ row (fun _ k => k)
    (fun n hn r h0 => Fin.ext (by simp only [row_val]; omega)) (fun _ _ _ _ => rfl)
    (fun t j r => by blk_ext [iblk, V_main_arg1, idx0, row_val]) (fun t j k => by blk_ext [iblk, V_main_arg2, idx1])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 0 1024 (m ((c : Thread nD τ).loc main_arg0))
    (m ((c : Thread nD τ).loc main_arg1)) (m ((c : Thread nD τ).loc main_arg2)) := by
  refine (dats m 0 c).arrAt_eq_of_coversWhere_of_agree 2 _ (fun β => β 1 = 0) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨0 + k.val, by omega⟩ : S2048x10240.Idx) := by
      blk_ext [idx2, row_val]
    rw [e]
    exact (block_at m c t ((flush0_2 t).mp hf) r k).trans (updated_in _ _ _ (row t r) k _ rfl).symm
  · blk_simp [Pipeline.Window.cell_apply] at hj
    rw [A_eq]
    refine Eq.trans ?_ (updated_out _ _ _ j (by dsimp only; omega)).symm
    exact congrFun (V_copy m c) j

end Cert.Gi0Ideal

namespace Cert.Proof

open Idealize.ShloMosaic Idealize.SL.Sem Idealize.ShloMosaic.TcCoe

/-- The bodies that the grid calls have the same text in both printed programs. -/
theorem gi0_defs₀ : @Cert.Gi0.defs₀ Bits _ Cert.Gi0.Gen.facts = @Cert.Gi0Ideal.defs₀ Bits _ Cert.Gi0Ideal.Gen.facts := by
  unfold Cert.Gi0.defs₀ Cert.Gi0Ideal.defs₀
  refine congrArg Defs.onTc ?_
  funext l a
  match l, a with
  | ⟨0, _⟩, (t, s) => rfl

/-- The frame of the call as printed: the run of the idealized text, read at the machine's floats. -/
theorem frame_gi0 : Cert.quiescent_Gi0 := fun m ρ _ => by
  have h := Cert.Gi0Ideal.Gen.frame (F := Bits) m ρ
  rw [show Cert.Gi0Ideal.defs (F := Bits) = Cert.Gi0.defs from (congrArg (Pipeline.defs Cert.Gi0Ideal.pcfgs) gi0_defs₀).symm] at h
  exact h

/-- The frame of the idealized call. -/
theorem frame_gi0Ideal : Cert.quiescent_Gi0Ideal := fun m ρ _ => Cert.Gi0Ideal.Gen.frame m ρ

/-- The frame of its reference. -/
theorem frame_gi0Ref : Cert.quiescent_Gi0RefIdeal := fun m ρ _ =>
  (θ_run Cert.Gi0RefIdeal.defs _ _).mono
    (fun r h => ⟨fun c => (h c).2, sem_eq_zero_of_no_sems rfl r.2⟩)
    (Cert.Gi0RefIdeal.Value.run (F := Ideal) m ρ)

/-- The call computes what its reference does. -/
theorem equal_gi0 : Cert.algebraic_Gi0Ideal_Gi0RefIdeal := fun m ρ m' ρ' _ ha => by
  refine ⟨_, (θ_run _ _ _).mono (fun r h c => ⟨(h c).1.trans (Cert.Gi0Ideal.whole m c), (h c).2⟩) (Cert.Gi0Ideal.Value.run_blocks m ρ),
    (θ_run _ _ _).mono (fun r h c => ⟨(h c).1.trans ?_, (h c).2⟩) (Cert.Gi0RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.GoEqual.lean ====
module

public import proofs.«01_k».proof.Defs
public import proofs.«01_k».proof.Proof.Gen.GoIdeal.Value
public import proofs.«01_k».proof.Proof.Gen.GoRefIdeal.Run
public import proofs.«01_k».proof.Proof.Gen.Go
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Quiescent

/-! The gradient of the output projection's weights: one product, its contraction taken four parts at a time. -/

@[expose] public section

set_option maxRecDepth 16384

noncomputable section

namespace Cert.GoIdeal

open Cert.GoIdeal.Gen Cert.GradPart Idealize.ShloMosaic Idealize.ShloMosaic.TcCoe Idealize.SL.Sem

/-- The block that window 0 has at a point. -/
theorem idx0 : ∀ t : Fin cfg0.N, win0_0.index t = ![t.val % 4, t.val / 8] := (by decide +kernel : ∀ t : Fin grid0.N, _)
/-- The block that window 1 has at a point. -/
theorem idx1 : ∀ t : Fin cfg0.N, win0_1.index t = ![t.val % 4, t.val / 4 % 2] := (by decide +kernel : ∀ t : Fin grid0.N, _)
/-- The block that window 2 has at a point. -/
theorem idx2 : ∀ t : Fin cfg0.N, win0_2.index t = ![t.val / 8, t.val / 4 % 2] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 8 * 1024 + r.val, by have := lt_of_lt_of_eq t.isLt N_0; omega⟩

/-- The value of `row`. -/
theorem row_val (t : Fin cfg0.N) (r : Fin 1024) : (row t r).val = t.val / 8 * 1024 + r.val := rfl

/-- The column of the result at a column of a point's block. -/
def col (t : Fin cfg0.N) (k : Fin 1024) : Fin 2048 := ⟨t.val / 4 % 2 * 1024 + k.val, by omega⟩

/-- The value of `col`. -/
theorem col_val (t : Fin cfg0.N) (k : Fin 1024) : (col t k).val = t.val / 4 % 2 * 1024 + k.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg0)) (m ((c : Thread nD τ).loc main_arg1)) (row t r) (col t k) s := by
  refine block (outsAt0 m c) (iblk m c 0) (iblk m c 1) _ _ row (col)
    (fun n hn r h0 => Fin.ext (by simp only [row_val]; omega)) (fun n hn k h0 => Fin.ext (by simp only [col_val]; omega))
    (fun t j r => by blk_ext [iblk, V, idx0, row_val]) (fun t j k => by blk_ext [iblk, V, idx1, col_val])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- The product of the columns of two arrays. -/
def product (a b : FVec Ideal S8192x2048 .bf16) : FVec Ideal S2048x2048 .f32 := fun i => ∑ s : Fin 8192, term a b (i 0) (i 1) s

/-- The whole result is the product. -/
theorem whole : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ (r : Fin 1024) (k : Fin 1024), y = ix2 r k := ⟨y 0, y 1, eq_ix2 y⟩
  have e : (win0_2.blk t).view.emb (ix2 r k) = (ix2 (row t r) (col t k) : S2048x2048.Idx) := by blk_ext [idx2, row_val, col_val]
  rw [e]
  exact block_at m c t ((flush0_2 t).mp hf) r k

end Cert.GoIdeal

namespace Cert.Proof

open Idealize.ShloMosaic Idealize.SL.Sem Idealize.ShloMosaic.TcCoe

/-- The bodies that the grid calls have the same text in both printed programs. -/
theorem go_defs₀ : @Cert.Go.defs₀ Bits _ Cert.Go.Gen.facts = @Cert.GoIdeal.defs₀ Bits _ Cert.GoIdeal.Gen.facts := by
  unfold Cert.Go.defs₀ Cert.GoIdeal.defs₀
  refine congrArg Defs.onTc ?_
  funext l a
  match l, a with
  | ⟨0, _⟩, (t, s) => rfl

/-- The frame of the call as printed: the run of the idealized text, read at the machine's floats. -/
theorem frame_go : Cert.quiescent_Go := fun m ρ _ => by
  have h := Cert.GoIdeal.Gen.frame (F := Bits) m ρ
  rw [show Cert.GoIdeal.defs (F := Bits) = Cert.Go.defs from (congrArg (Pipeline.defs Cert.GoIdeal.pcfgs) go_defs₀).symm] at h
  exact h

/-- The frame of the idealized call. -/
theorem frame_goIdeal : Cert.quiescent_GoIdeal := fun m ρ _ => Cert.GoIdeal.Gen.frame m ρ

/-- The frame of its reference. -/
theorem frame_goRef : Cert.quiescent_GoRefIdeal := fun m ρ _ =>
  (θ_run Cert.GoRefIdeal.defs _ _).mono
    (fun r h => ⟨fun c => (h c).2, sem_eq_zero_of_no_sems rfl r.2⟩)
    (Cert.GoRefIdeal.Value.run (F := Ideal) m ρ)

/-- The call computes what its reference does. -/
theorem equal_go : Cert.algebraic_GoIdeal_GoRefIdeal := fun m ρ m' ρ' _ ha => by
  refine ⟨_, (θ_run _ _ _).mono (fun r h c => ⟨(h c).1.trans (Cert.GoIdeal.whole m c), (h c).2⟩) (Cert.GoIdeal.Value.run_blocks m ρ),
    (θ_run _ _ _).mono (fun r h c => ⟨(h c).1.trans ?_, (h c).2⟩) (Cert.GoRefIdeal.Value.run (F := Ideal) m' ρ')⟩
  rw [(ha c).1, (ha c).2]
  funext i
  obtain ⟨r, k, rfl⟩ : ∃ (r : Fin 2048) (k : Fin 2048), i = ix2 r k := ⟨i 0, i 1, eq_ix2 i⟩
  pointwise [Cert.GoIdeal.product, Cert.GradPart.term]
  exact Finset.sum_congr rfl fun s _ => mul_comm _ _

end Cert.Proof

end
-- ==== Proof.Norm.lean ====
module

public import proofs.«01_k».proof.Proof.Parts
public import proofs.«01_k».proof.Proof.Lift
public import Idealize.ShloMosaic.Lib.Pointwise

/-! The gradient of dividing a row by the root of its mean square, on all extended reals. -/

@[expose] public section

noncomputable section

namespace Cert.Norm

open Idealize.ShloMosaic

/-- A nonnegative real distributes over a sum. -/
theorem mul_sum {n : ℕ} (r : ℝ) (hr : 0 ≤ r) (f : Fin n → EReal) : (r : EReal) * ∑ k, f k = ∑ k, (r : EReal) * f k := by
  induction n with
  | zero => simp
  | succ n ih => rw [Fin.sum_univ_succ, Fin.sum_univ_succ, ← ih, EReal.left_distrib_of_nonneg_of_ne_top (EReal.coe_nonneg.mpr hr) (EReal.coe_ne_top r)]

/-- A square is not negative. -/
theorem sq_nonneg (x : EReal) : 0 ≤ x * x := by
  induction x with
  | bot => simp
  | coe r => rw [← EReal.coe_mul]; exact EReal.coe_nonneg.mpr (mul_self_nonneg r)
  | top => simp

/-- Where the squares of a row don't sum to the infinity, the row is real. -/
theorem real_of_sum {n : ℕ} (o : Fin n → EReal) (h : ∑ k, o k * o k ≠ ⊤) (j : Fin n) : ∃ x : ℝ, o j = x := by
  have hj : o j * o j ≠ ⊤ := fun e =>
    h (top_le_iff.mp (e ▸ Finset.single_le_sum (f := fun k => o k * o k) (fun k _ => sq_nonneg (o k)) (Finset.mem_univ j)))
  generalize o j = y at hj
  induction y with
  | bot => simp at hj
  | coe r => exact ⟨r, rfl⟩
  | top => simp at hj

/-- The mean of the squares, with a positive constant added. -/
def meanSq {n : ℕ} (N e : EReal) (o : Fin n → EReal) : EReal := Ideal.div (∑ k, o k * o k) N + e

/-- The factor by which a row is multiplied. -/
def scale {n : ℕ} (N e : EReal) (o : Fin n → EReal) : EReal := Ideal.rsqrt (meanSq N e o)

/-- The gradient of a row from that of its normed row, as the kernels have it. -/
def back {n : ℕ} (N e : EReal) (o d : Fin n → EReal) (j : Fin n) : EReal :=
  scale N e o * (d j - o j * scale N e o * Ideal.div (∑ k, d k * (o k * scale N e o)) N)

/-- The share of the gradient that comes by the factor, as the chain rule has it. -/
def share {n : ℕ} (N e h : EReal) (o d : Fin n → EReal) : EReal :=
  Ideal.div ((∑ k, o k * d k) * (h * Ideal.div (scale N e o) (meanSq N e o))) N

/-- The mean square is a positive real where the row is real, and else the infinity. -/
theorem meanSq_cases {n : ℕ} {N e : ℝ} (hN : 0 < N) (he : 0 < e) (o : Fin n → EReal) :
    meanSq N e o = ⊤ ∨ ∃ (x : Fin n → ℝ) (v : ℝ), 0 < v ∧ o = (fun k => (x k : EReal)) ∧ meanSq N e o = v := by
  unfold meanSq
  rw [Ideal.div_coe hN.ne']
  by_cases h : ∑ k, o k * o k = ⊤
  · left
    rw [h, EReal.top_mul_coe_of_pos (by positivity), EReal.top_add_coe]
  · right
    choose x hx using real_of_sum o h
    have s : ∑ k, o k * o k = ((∑ k, x k * x k : ℝ) : EReal) := by
      rw [Cert.KernelIdeal.Head.coe_sum]
      exact Finset.sum_congr rfl fun k _ => by rw [hx, EReal.coe_mul]
    refine ⟨x, (∑ k, x k * x k) * (1 / N) + e, ?_, funext hx, ?_⟩
    · have : 0 ≤ ∑ k, x k * x k := Finset.sum_nonneg fun k _ => mul_self_nonneg _
      positivity
    · rw [s, ← EReal.coe_mul, ← EReal.coe_add]

/-- The kernels' gradient of a row is the chain rule's. -/
theorem back_eq {n : ℕ} {N e : ℝ} (hN : 0 < N) (he : 0 < e) (o d : Fin n → EReal) (j : Fin n) :
    back N e o d j = d j * scale N e o + o j * share N e ((-(1 / 2) : ℝ) : EReal) o d + share N e ((-(1 / 2) : ℝ) : EReal) o d * o j := by
  rcases meanSq_cases hN he o with h | ⟨x, v, hv, ho, h⟩
  · simp [back, share, scale, h, Ideal.div, EReal.coe_ne_zero.mpr hN.ne']
  · have hs : scale N e o = (((Real.sqrt v)⁻¹ : ℝ) : EReal) := by
      rw [scale, h, Ideal.rsqrt_coe, if_neg hv.le.not_gt, if_neg hv.ne']
    have hr : 0 ≤ (Real.sqrt v)⁻¹ := by positivity
    have hv' : (Real.sqrt v)⁻¹ * (Real.sqrt v)⁻¹ = 1 / v := by rw [← mul_inv, Real.mul_self_sqrt hv.le, one_div]
    unfold back share
    rw [hs, h]
    generalize (Real.sqrt v)⁻¹ = r at hr hv'
    have hT : ∑ k, d k * (o k * (r : EReal)) = (r : EReal) * ∑ k, o k * d k := by
      rw [mul_sum r hr]
      exact Finset.sum_congr rfl fun k _ => by ac_rfl
    rw [hT]
    generalize ∑ k, o k * d k = T
    rw [Ideal.div_coe hN.ne', Ideal.div_coe hN.ne', Ideal.div_coe hv.ne', ho]
    have twice : ∀ X : EReal, X + X = ((2 : ℝ) : EReal) * X := fun X => by
      have := EReal.right_distrib_of_nonneg (a := 1) (b := 1) (c := X) zero_le_one zero_le_one
      rw [one_mul] at this
      rw [← this, ← EReal.coe_one, ← EReal.coe_add]
      norm_num
    have two : ∀ (X : EReal), (((x j * r * r * (1 / N) * r) : ℝ) : EReal) * X = -(((2 * (x j * (-(1 / 2) * (r * (1 / v))) * (1 / N)) : ℝ) : EReal) * X) := fun X => by
      rw [← EReal.neg_mul, ← EReal.coe_neg, ← hv']
      congr 2
      ring
    have k : (r : EReal) * ((x j : EReal) * (r : EReal) * ((r : EReal) * T * ((1 / N : ℝ) : EReal))) = (((x j * r * r * (1 / N) * r) : ℝ) : EReal) * T := by
      simp only [EReal.coe_mul]; ac_rfl
    have l : (x j : EReal) * (T * (((-(1 / 2) : ℝ) : EReal) * ((r : EReal) * ((1 / v : ℝ) : EReal))) * ((1 / N : ℝ) : EReal))
        = (((x j * (-(1 / 2) * (r * (1 / v))) * (1 / N)) : ℝ) : EReal) * T := by
      simp only [EReal.coe_mul]; ac_rfl
    rw [sub_eq_add_neg, EReal.left_distrib_of_nonneg_of_ne_top (EReal.coe_nonneg.mpr hr) (EReal.coe_ne_top r), mul_neg, k, two, neg_neg,
      mul_comm _ (x j : EReal), l, add_assoc, twice, EReal.coe_mul 2, mul_assoc (Real.toEReal 2), mul_comm (r : EReal)]

/-- What a store of a whole block leaves is the block, whatever was stored before. -/
theorem stored {sig : RefSig} {S : Shape} {e : EltTy} {off : Fin S.rank → ℕ} (h0 : off = fun _ => 0) (v : View sig .tc .vmem S e)
    (f : v.ty.Contents (Elt Ideal)) (inb : ∀ a, off a + S.size a ≤ S.size a) (x : Vec Ideal S e) (L : List (View.Piece (Elt Ideal) S e)) :
    v.read (Elt Ideal) (v.writes (Elt Ideal) f (⟨Rect.unit off S.size inb, x⟩ :: L)) = x := by
  funext y
  refine View.read_writes_cons_hit_of_coords v f (Rect.unit off S.size inb) x L y y fun a => ?_
  subst h0
  show (y a).val = 0 + 1 * (y a).val
  omega

/-- The amount that is added to a mean square, `1e-6` in 32 bits. -/
def eps : ℝ := (0x0637BD + 2 ^ 23 : ℝ) * 2 ^ (-(43 : ℤ))

/-- It is positive. -/
theorem eps_pos : 0 < eps := by unfold eps; positivity

/-- Its bits. -/
theorem eps_eq : Ideal.ofBits .f32 0x358637BD#32 = (eps : EReal) := by
  unfold eps
  simp [Ideal.ofBits, Ideal.ieee, -EReal.coe_mul]; norm_num

/-- The bits of the length of a row. -/
theorem row_eq : Ideal.ofBits .f32 0x45000000#32 = ((2048 : ℝ) : EReal) := by
  simp [Ideal.ofBits, Ideal.ieee, -EReal.coe_mul]; norm_num

/-- The bits of the length of a head's row. -/
theorem head_eq : Ideal.ofBits .f32 0x43000000#32 = ((128 : ℝ) : EReal) := by
  simp [Ideal.ofBits, Ideal.ieee, -EReal.coe_mul]; norm_num

/-- The bits of one. -/
theorem one_eq : Ideal.ofBits .f32 0x3F800000#32 = 1 := by
  simp [Ideal.ofBits, Ideal.ieee, -EReal.coe_mul]; norm_num

/-- The bits of less a half. -/
theorem neg_half_eq : Ideal.ofBits .f32 0xBF000000#32 = ((-(1 / 2) : ℝ) : EReal) := by
  simp [Ideal.ofBits, Ideal.ieee, -EReal.coe_mul]; norm_num

/-- What a call adds up over its points, each adding the sum of its rows' terms, is after each point the sum so far. -/
theorem rows {P w M : ℕ} (hM : P * w = M) (f : Fin M → EReal) (a : (n : ℕ) → n < P → EReal)
    (first : ∀ h : 0 < P, a 0 h = ∑ j : Fin w, f ⟨0 * w + j.val, by nlinarith [j.isLt]⟩)
    (later : ∀ n (h : n + 1 < P), a (n + 1) h = a n (Nat.lt_of_succ_lt h) + ∑ j : Fin w, f ⟨(n + 1) * w + j.val, by nlinarith [j.isLt]⟩)
    (n : ℕ) (h : n < P) : a n h = Cert.Parts.upTo f ((n + 1) * w) := by
  induction n with
  | zero =>
    have e : (0 + 1) * w = 0 * w + w := by ring
    rw [first, e, Cert.Parts.upTo_add _ _ _ (by nlinarith)]
    have z : Cert.Parts.upTo f (0 * w) = 0 := by rw [Nat.zero_mul, Cert.Parts.upTo_zero]
    rw [z, zero_add]
  | succ n ih =>
    have e : (n + 1 + 1) * w = (n + 1) * w + w := by ring
    rw [later, ih, e, Cert.Parts.upTo_add _ _ _ (by nlinarith)]

/-- After the last point it is the whole sum. -/
theorem total {P w M : ℕ} (hM : P * w = M) (f : Fin M → EReal) (a : (n : ℕ) → n < P → EReal)
    (first : ∀ h : 0 < P, a 0 h = ∑ j : Fin w, f ⟨0 * w + j.val, by nlinarith [j.isLt]⟩)
    (later : ∀ n (h : n + 1 < P), a (n + 1) h = a n (Nat.lt_of_succ_lt h) + ∑ j : Fin w, f ⟨(n + 1) * w + j.val, by nlinarith [j.isLt]⟩)
    (n : ℕ) (h : n < P) (hn : n + 1 = P) : a n h = ∑ s, f s := by
  rw [rows hM f a first later n h, hn, hM, Cert.Parts.upTo_all]

end Cert.Norm

end
-- ==== Proof.PbEqual.lean ====
module

public import proofs.«01_k».proof.Defs
public import proofs.«01_k».proof.Proof.Gen.PbIdeal.Value
public import proofs.«01_k».proof.Proof.Gen.PbRefIdeal.Run
public import proofs.«01_k».proof.Proof.Gen.Pb
public import proofs.«01_k».proof.Proof.Norm
public import proofs.«01_k».proof.Proof.GradPart
public import Idealize.ShloMosaic.Lib.Tactic
public import Idealize.ShloMosaic.Lib.Pointwise
public import Idealize.ShloMosaic.Lib.Pipeline.ValueKit.Geometry
public import Idealize.ShloMosaic.Lib.Quiescent

/-! The backward of the norm after a layer and of its gate. -/

@[expose] public section

set_option maxRecDepth 16384

noncomputable section

namespace Cert.PbIdeal

open Cert.PbIdeal.Gen Cert.GradPart Idealize.ShloMosaic Idealize.ShloMosaic.TcCoe Idealize.SL.Sem

/-- The block that the windows of the rows have at a point. -/
theorem idx0 : ∀ t : Fin cfg0.N, win0_0.index t = ![t.val, 0] := (by decide +kernel : ∀ t : Fin grid0.N, _)
/-- The block that window 1 has at a point. -/
theorem idx1 : ∀ t : Fin cfg0.N, win0_1.index t = ![t.val, 0] := (by decide +kernel : ∀ t : Fin grid0.N, _)
/-- The block that window 2 has at a point. -/
theorem idx2 : ∀ t : Fin cfg0.N, win0_2.index t = ![0, 0] := (by decide +kernel : ∀ t : Fin grid0.N, _)
/-- The block that window 3 has at a point. -/
theorem idx3 : ∀ t : Fin cfg0.N, win0_3.index t = ![0, 0] := (by decide +kernel : ∀ t : Fin grid0.N, _)
/-- The block that window 4 has at a point. -/
theorem idx4 : ∀ t : Fin cfg0.N, win0_4.index t = ![t.val, 0] := (by decide +kernel : ∀ t : Fin grid0.N, _)
/-- The block that window 5 has at a point. -/
theorem idx5 : ∀ t : Fin cfg0.N, win0_5.index t = ![0, 0] := (by decide +kernel : ∀ t : Fin grid0.N, _)
/-- The block that window 6 has at a point. -/
theorem idx6 : ∀ t : Fin cfg0.N, win0_6.index t = ![0, 0] := (by decide +kernel : ∀ t : Fin grid0.N, _)

section Body

variable {n : ℕ} (x0 x1 : (⟨2, ![n, 2048]⟩ : Shape).Idx → EReal) (x2 x3 : (⟨2, ![1, 2048]⟩ : Shape).Idx → EReal)

/-- A row of the layer's output. -/
def orow (r : Fin n) (k : Fin 2048) : EReal := x1 (ix2 r k)

/-- The factor that norms a row. -/
def factor (r : Fin n) : EReal := Cert.Norm.scale ((2048 : ℝ) : EReal) (Cert.Norm.eps : EReal) (orow x1 r)

/-- A row of the normed output's gradient. -/
def drow (r : Fin n) (k : Fin 2048) : EReal := x0 (ix2 r k) * x2 (ix2 0 k) * x3 (ix2 0 k)

/-- Its factors in another order. -/
theorem drow_eq (r : Fin n) : drow x0 x2 x3 r = fun k : Fin 2048 => x2 (ix2 0 k) * x0 (ix2 r k) * x3 (ix2 0 k) :=
  funext fun _ => congrArg (· * _) (mul_comm _ _)

/-- The gradient of the output. -/
def dOut (r : Fin n) (k : Fin 2048) : EReal :=
  Cert.Norm.back ((2048 : ℝ) : EReal) (Cert.Norm.eps : EReal) (orow x1 r) (drow x0 x2 x3 r) k

/-- It is the chain rule's. -/
theorem dOut_eq (r : Fin n) (k : Fin 2048) : dOut x0 x1 x2 x3 r k = x2 (ix2 0 k) * x0 (ix2 r k) * x3 (ix2 0 k) * factor x1 r
    + x1 (ix2 r k) * Cert.Norm.share ((2048 : ℝ) : EReal) (Cert.Norm.eps : EReal) ((-(1 / 2) : ℝ) : EReal) (orow x1 r)
      (fun k => x2 (ix2 0 k) * x0 (ix2 r k) * x3 (ix2 0 k))
    + Cert.Norm.share ((2048 : ℝ) : EReal) (Cert.Norm.eps : EReal) ((-(1 / 2) : ℝ) : EReal) (orow x1 r)
      (fun k => x2 (ix2 0 k) * x0 (ix2 r k) * x3 (ix2 0 k)) * x1 (ix2 r k) := by
  unfold dOut
  rw [Cert.Norm.back_eq (by norm_num) Cert.Norm.eps_pos, drow_eq]
  rfl

/-- A row's term of the gate's gradient. -/
def gateTerm (k : Fin 2048) (r : Fin n) : EReal := x0 (ix2 r k) * (x1 (ix2 r k) * factor x1 r) * x3 (ix2 0 k)

/-- A row's term of the gain's gradient. -/
def gainTerm (k : Fin 2048) (r : Fin n) : EReal := x0 (ix2 r k) * x2 (ix2 0 k) * (x1 (ix2 r k) * factor x1 r)

end Body

variable (x0 x1 : Vec Ideal S256x2048 .f32) (x2 x3 xs : Vec Ideal S1x2048 .f32)

/-- A block's factors. -/
theorem pay4_at (r : Fin 256) : k0_pay4 x1 (ix2 r 0) = factor x1 r := by
  unfold k0_pay4 factor Cert.Norm.scale Cert.Norm.meanSq
  rw [← Cert.Norm.row_eq, ← Cert.Norm.eps_eq]
  pointwise [orow]

/-- A block's normed rows. -/
theorem pay5_at (r : Fin 256) (k : Fin 2048) : k0_pay5 x1 (ix2 r k) = (x1 (ix2 r k) * factor x1 r : EReal) := by
  rw [← pay4_at]
  unfold k0_pay5
  pointwise []

/-- A block's share of the gate's gradient, added to what is there. -/
theorem pay6_at (k : Fin 2048) : k0_pay6 x1 x0 x3 xs (ix2 0 k) = xs (ix2 0 k) + ∑ r : Fin 256, gateTerm x0 x1 x3 k r := by
  unfold k0_pay6 gateTerm
  pointwise [pay5_at]

/-- A block's share of the gain's gradient, added to what is there. -/
theorem pay8_at (k : Fin 2048) : k0_pay8 x1 x0 x2 xs (ix2 0 k) = xs (ix2 0 k) + ∑ r : Fin 256, gainTerm x0 x1 x2 k r := by
  unfold k0_pay8 k0_pay7 gainTerm
  pointwise [pay5_at]

/-- A block of the output's gradient. -/
theorem pay1_at (r : Fin 256) (k : Fin 2048) : k0_pay1 (k0_pay4 x1) (k0_pay5 x1) x3 (k0_pay7 x0 x2) (ix2 r k) = dOut x0 x1 x2 x3 r k := by
  unfold k0_pay1 k0_pay7 dOut Cert.Norm.back
  pointwise [pay5_at, pay4_at, drow, Cert.Norm.row_eq]
  rfl

variable (m : (ℓ : Loc nD τ sig) → Buf (Elt Ideal) ℓ) (c : Dev nD)

/-- The row of the arrays at a row of a point's block. -/
def row (t : Fin cfg0.N) (r : Fin 256) : Fin 8192 := ⟨t.val * 256 + r.val, by have := lt_of_lt_of_eq t.isLt N_0; omega⟩

/-- The value of `row`. -/
theorem row_val (t : Fin cfg0.N) (r : Fin 256) : (row t r).val = t.val * 256 + r.val := rfl

/-- A point's block of the incoming gradient, in its array. -/
theorem dx_at (t : Fin cfg0.N) (r : Fin 256) (k : Fin 2048) : iblk m c 0 t (ix2 r k) = m ((c : Thread nD τ).loc main_arg0) (ix2 (row t r) k) := by
  blk_ext [iblk, V, idx0, row_val]
/-- A point's block of the layer's output, in its array. -/
theorem o_at (t : Fin cfg0.N) (r : Fin 256) (k : Fin 2048) : iblk m c 1 t (ix2 r k) = m ((c : Thread nD τ).loc main_arg1) (ix2 (row t r) k) := by
  blk_ext [iblk, V, idx1, row_val]
/-- A point's gate is the array's. -/
theorem gate_at (t : Fin cfg0.N) (k : Fin 2048) : iblk m c 2 t (ix2 0 k) = m ((c : Thread nD τ).loc main_arg2) (ix2 0 k) := by
  blk_ext [iblk, V, idx2]
/-- A point's gain is the array's. -/
theorem gain_at (t : Fin cfg0.N) (k : Fin 2048) : iblk m c 3 t (ix2 0 k) = m ((c : Thread nD τ).loc main_arg3) (ix2 0 k) := by
  blk_ext [iblk, V, idx3]

/-- What the first point stores first is zero. -/
theorem zero_at (k : Fin 2048) : (k0_pay2 (F := Ideal)) (ix2 0 k) = 0 := by
  unfold k0_pay2
  pointwise []

/-- The first point leaves the first terms of the gate's gradient. -/
theorem first5 (t : Fin cfg0.N) (h0 : t.val % 32 = 0) (k : Fin 2048) : (outsAt0 m c t.val t.isLt).2.1 (ix2 0 k)
    = ∑ r : Fin 256, gateTerm (iblk m c 0 t) (iblk m c 1 t) (iblk m c 3 t) k r := by
  rw [outsAt0_A m c t h0]
  unfold out0_A_5 kernelRun0_A
  dsimp only
  sl_unfold_words
  rw [Cert.Norm.stored zero2, View.readCov_unit_zero (S := S1x2048) _ zero2, loaded zero2, loaded zero2, loaded zero2]
  exact (pay6_at _ _ _ _ k).trans ((congrArg (· + _) (zero_at k)).trans (zero_add _))

/-- The first point leaves the first terms of the gain's gradient. -/
theorem first6 (t : Fin cfg0.N) (h0 : t.val % 32 = 0) (k : Fin 2048) : (outsAt0 m c t.val t.isLt).2.2 (ix2 0 k)
    = ∑ r : Fin 256, gainTerm (iblk m c 0 t) (iblk m c 1 t) (iblk m c 2 t) k r := by
  rw [outsAt0_A m c t h0]
  unfold out0_A_6 kernelRun0_A
  dsimp only
  sl_unfold_words
  rw [Cert.Norm.stored zero2, View.readCov_unit_zero (S := S1x2048) _ zero2, loaded zero2, loaded zero2, loaded zero2]
  exact (pay8_at _ _ _ _ k).trans ((congrArg (· + _) (zero_at k)).trans (zero_add _))

/-- A later point adds its terms to the gate's gradient. -/
theorem later5 (n : ℕ) (h : n + 1 < cfg0.N) (h0 : ¬(n + 1) % 32 = 0) (k : Fin 2048) : (outsAt0 m c (n + 1) h).2.1 (ix2 0 k)
    = (outsAt0 m c n (Nat.lt_of_succ_lt h)).2.1 (ix2 0 k)
      + ∑ r : Fin 256, gateTerm (iblk m c 0 ⟨n + 1, h⟩) (iblk m c 1 ⟨n + 1, h⟩) (iblk m c 3 ⟨n + 1, h⟩) k r := by
  rw [outsAt0_B m c ⟨n + 1, h⟩ h0]
  unfold out0_B_5 kernelRun0_B
  dsimp only
  rw [Cert.Norm.stored zero2, loaded zero2, loaded zero2, loaded zero2, loaded zero2]
  exact pay6_at _ _ _ _ k

/-- A later point adds its terms to the gain's gradient. -/
theorem later6 (n : ℕ) (h : n + 1 < cfg0.N) (h0 : ¬(n + 1) % 32 = 0) (k : Fin 2048) : (outsAt0 m c (n + 1) h).2.2 (ix2 0 k)
    = (outsAt0 m c n (Nat.lt_of_succ_lt h)).2.2 (ix2 0 k)
      + ∑ r : Fin 256, gainTerm (iblk m c 0 ⟨n + 1, h⟩) (iblk m c 1 ⟨n + 1, h⟩) (iblk m c 2 ⟨n + 1, h⟩) k r := by
  rw [outsAt0_B m c ⟨n + 1, h⟩ h0]
  unfold out0_B_6 kernelRun0_B
  dsimp only
  sl_unfold_words
  rw [Cert.Norm.stored zero2, loaded zero2, loaded zero2, loaded zero2, loaded zero2]
  exact pay8_at _ _ _ _ k

/-- Every point leaves its rows of the output's gradient. -/
theorem out4 (t : Fin cfg0.N) (r : Fin 256) (k : Fin 2048) : (outsAt0 m c t.val t.isLt).1 (ix2 r k)
    = dOut (iblk m c 0 t) (iblk m c 1 t) (iblk m c 2 t) (iblk m c 3 t) r k := by
  by_cases h0 : t.val % 32 = 0
  · rw [outsAt0_A m c t h0]
    unfold out0_A_4 kernelRun0_A
    dsimp only
    unfold kernelRun0_A.sl.r kernelRun0_A.sl.r_1 kernelRun0_A.sl.r_2 kernelRun0_A.sl.r_3
    rw [Cert.Norm.stored zero2, loaded zero2, loaded zero2, loaded zero2, loaded zero2]
    exact pay1_at _ _ _ _ r k
  · rw [outsAt0_B m c t h0]
    unfold out0_B_4 kernelRun0_B
    dsimp only
    unfold kernelRun0_B.sl.r kernelRun0_B.sl.r_1 kernelRun0_B.sl.r_2 kernelRun0_B.sl.r_3
    rw [Cert.Norm.stored zero2, loaded zero2, loaded zero2, loaded zero2, loaded zero2]
    exact pay1_at _ _ _ _ r k

/-- The gradient of the output, whole. -/
def dOutAll (x0 x1 : FVec Ideal S8192x2048 .f32) (x2 x3 : FVec Ideal S1x2048 .f32) : FVec Ideal S8192x2048 .bf16 := fun i =>
  dOut x0 x1 x2 x3 (i 0) (i 1)

/-- The gradient of the gate, whole. -/
def dGateAll (x0 x1 : FVec Ideal S8192x2048 .f32) (x3 : FVec Ideal S1x2048 .f32) : FVec Ideal S1x2048 .f32 := fun i =>
  ∑ s : Fin 8192, gateTerm x0 x1 x3 (i 1) s

/-- The gradient of the gain, whole. -/
def dGainAll (x0 x1 : FVec Ideal S8192x2048 .f32) (x2 : FVec Ideal S1x2048 .f32) : FVec Ideal S1x2048 .f32 := fun i =>
  ∑ s : Fin 8192, gainTerm x0 x1 x2 (i 1) s

/-- A row of a point's block of the output is the array's. -/
theorem orow_at (t : Fin cfg0.N) (r : Fin 256) : orow (iblk m c 1 t) r = orow (m ((c : Thread nD τ).loc main_arg1)) (row t r) :=
  funext fun k => o_at m c t r k

/-- A row's factor in a point's block is the array's. -/
theorem factor_at (t : Fin cfg0.N) (r : Fin 256) : factor (iblk m c 1 t) r = factor (m ((c : Thread nD τ).loc main_arg1)) (row t r) :=
  congrArg (Cert.Norm.scale _ _) (orow_at m c t r)

/-- The output's gradient is whole. -/
theorem whole4 : (dats m 0 c).arrAt 4 cfg0.N = dOutAll (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, k, rfl⟩ : ∃ (r : Fin 256) (k : Fin 2048), y = ix2 r k := ⟨y 0, y 1, eq_ix2 y⟩
  have e : (win0_4.blk t).view.emb (ix2 r k) = (ix2 (row t r) k : S8192x2048.Idx) := by blk_ext [idx4, row_val]
  rw [e]
  refine (out4 m c t r k).trans ?_
  have d : drow (iblk m c 0 t) (iblk m c 2 t) (iblk m c 3 t) r = drow (m ((c : Thread nD τ).loc main_arg0)) (m ((c : Thread nD τ).loc main_arg2))
      (m ((c : Thread nD τ).loc main_arg3)) (row t r) := by
    funext k
    unfold drow
    rw [dx_at, gate_at, gain_at]
  unfold dOut
  rw [orow_at, d]
  rfl

/-- The gate's gradient is whole. -/
theorem whole5 : (dats m 0 c).arrAt 5 cfg0.N = dGateAll (m ((c : Thread nD τ).loc main_arg0)) (m ((c : Thread nD τ).loc main_arg1))
    (m ((c : Thread nD τ).loc main_arg3)) := by
  refine (dats m 0 c).arrAt_eq_of_covers 5 _ (by decide +kernel) fun t hf y => ?_
  blk_simp
  rw [after0_5]
  obtain ⟨k, rfl⟩ : ∃ (k : Fin 2048), y = ix2 0 k := ⟨y 1, (eq_ix2 y).trans (congrArg (ix2 · _) (Subsingleton.elim _ _))⟩
  have e : (win0_5.blk t).view.emb (ix2 0 k) = (ix2 0 k : S1x2048.Idx) := by blk_ext [idx5]
  rw [e]
  have term : ∀ t : Fin cfg0.N, ∑ r : Fin 256, gateTerm (iblk m c 0 t) (iblk m c 1 t) (iblk m c 3 t) k r
      = ∑ r : Fin 256, gateTerm (m ((c : Thread nD τ).loc main_arg0)) (m ((c : Thread nD τ).loc main_arg1)) (m ((c : Thread nD τ).loc main_arg3)) k (row t r) :=
    fun t => Finset.sum_congr rfl fun r _ => by unfold gateTerm; rw [dx_at, o_at, factor_at, gain_at]
  refine Cert.Norm.total (P := cfg0.N) (w := 256) (M := 8192) (congrArg (· * 256) N_0) (gateTerm (m ((c : Thread nD τ).loc main_arg0)) (m ((c : Thread nD τ).loc main_arg1)) (m ((c : Thread nD τ).loc main_arg3)) k)
    (fun n h => (outsAt0 m c n h).2.1 (ix2 0 k)) (fun h => (first5 m c ⟨0, h⟩ rfl k).trans (term _))
    (fun n h => (later5 m c n h (by have := lt_of_lt_of_eq h N_0; omega) k).trans (congrArg (_ + ·) (term _))) t.val t.isLt ?_
  have := (flush0_5 t).mp hf
  have := lt_of_lt_of_eq t.isLt N_0
  exact (by omega : t.val + 1 = 32).trans N_0.symm

/-- The gain's gradient is whole. -/
theorem whole6 : (dats m 0 c).arrAt 6 cfg0.N = dGainAll (m ((c : Thread nD τ).loc main_arg0)) (m ((c : Thread nD τ).loc main_arg1))
    (m ((c : Thread nD τ).loc main_arg2)) := by
  refine (dats m 0 c).arrAt_eq_of_covers 6 _ (by decide +kernel) fun t hf y => ?_
  blk_simp
  rw [after0_6]
  obtain ⟨k, rfl⟩ : ∃ (k : Fin 2048), y = ix2 0 k := ⟨y 1, (eq_ix2 y).trans (congrArg (ix2 · _) (Subsingleton.elim _ _))⟩
  have e : (win0_6.blk t).view.emb (ix2 0 k) = (ix2 0 k : S1x2048.Idx) := by blk_ext [idx6]
  rw [e]
  have term : ∀ t : Fin cfg0.N, ∑ r : Fin 256, gainTerm (iblk m c 0 t) (iblk m c 1 t) (iblk m c 2 t) k r
      = ∑ r : Fin 256, gainTerm (m ((c : Thread nD τ).loc main_arg0)) (m ((c : Thread nD τ).loc main_arg1)) (m ((c : Thread nD τ).loc main_arg2)) k (row t r) :=
    fun t => Finset.sum_congr rfl fun r _ => by unfold gainTerm; rw [dx_at, o_at, factor_at, gate_at]
  refine Cert.Norm.total (P := cfg0.N) (w := 256) (M := 8192) (congrArg (· * 256) N_0) (gainTerm (m ((c : Thread nD τ).loc main_arg0)) (m ((c : Thread nD τ).loc main_arg1)) (m ((c : Thread nD τ).loc main_arg2)) k)
    (fun n h => (outsAt0 m c n h).2.2 (ix2 0 k)) (fun h => (first6 m c ⟨0, h⟩ rfl k).trans (term _))
    (fun n h => (later6 m c n h (by have := lt_of_lt_of_eq h N_0; omega) k).trans (congrArg (_ + ·) (term _))) t.val t.isLt ?_
  have := (flush0_6 t).mp hf
  have := lt_of_lt_of_eq t.isLt N_0
  exact (by omega : t.val + 1 = 32).trans N_0.symm

end Cert.PbIdeal

namespace Cert.Proof

open Idealize.ShloMosaic Idealize.SL.Sem Idealize.ShloMosaic.TcCoe

/-- The bodies that the grid calls have the same text in both printed programs. -/
theorem pb_defs₀ : @Cert.Pb.defs₀ Bits _ Cert.Pb.Gen.facts = @Cert.PbIdeal.defs₀ Bits _ Cert.PbIdeal.Gen.facts := by
  unfold Cert.Pb.defs₀ Cert.PbIdeal.defs₀
  refine congrArg Defs.onTc ?_
  funext l a
  match l, a with
  | ⟨0, _⟩, (t, s) => rfl

/-- The frame of the call as printed: the run of the idealized text, read at the machine's floats. -/
theorem frame_pb : Cert.quiescent_Pb := fun m ρ _ => by
  have h := Cert.PbIdeal.Gen.frame (F := Bits) m ρ
  rw [show Cert.PbIdeal.defs (F := Bits) = Cert.Pb.defs from (congrArg (Pipeline.defs Cert.PbIdeal.pcfgs) pb_defs₀).symm] at h
  exact h

/-- The frame of the idealized call. -/
theorem frame_pbIdeal : Cert.quiescent_PbIdeal := fun m ρ _ => Cert.PbIdeal.Gen.frame m ρ

/-- The frame of its reference. -/
theorem frame_pbRef : Cert.quiescent_PbRefIdeal := fun m ρ _ =>
  (θ_run Cert.PbRefIdeal.defs _ _).mono
    (fun r h => ⟨fun c => (h c).2.2.2, sem_eq_zero_of_no_sems rfl r.2⟩)
    (Cert.PbRefIdeal.Value.run (F := Ideal) m ρ)

/-- The call computes what its reference does: the gradient of the norm is the chain rule's on all extended reals, and the
gradients of the gate and of the gain are sums of the same terms. -/
theorem equal_pb : Cert.algebraic_PbIdeal_PbRefIdeal := fun m ρ m' ρ' _ ha => by
  refine ⟨_, _, _, (θ_run _ _ _).mono (fun r h c => ⟨(h c).1.trans (Cert.PbIdeal.whole4 m c), (h c).2.1.trans (Cert.PbIdeal.whole5 m c),
      (h c).2.2.1.trans (Cert.PbIdeal.whole6 m c), (h c).2.2.2⟩) (Cert.PbIdeal.Value.run_blocks m ρ),
    (θ_run _ _ _).mono (fun r h c => ⟨(h c).1.trans ?_, (h c).2.1.trans ?_, (h c).2.2.1.trans ?_, (h c).2.2.2⟩)
      (Cert.PbRefIdeal.Value.run (F := Ideal) m' ρ')⟩
  · unfold Cert.PbRefIdeal.Value.res_main_v41
    rw [(ha c).1, (ha c).2.1, (ha c).2.2.1, (ha c).2.2.2]
    funext i
    obtain ⟨r, k, rfl⟩ : ∃ (r : Fin 8192) (k : Fin 2048), i = ix2 r k := ⟨i 0, i 1, eq_ix2 i⟩
    refine Eq.trans ?_ (Cert.PbIdeal.dOut_eq _ _ _ _ r k).symm
    unfold Cert.PbIdeal.factor Cert.Norm.share Cert.Norm.scale Cert.Norm.meanSq
    rw [← Cert.Norm.row_eq, ← Cert.Norm.eps_eq, ← Cert.Norm.neg_half_eq]
    pointwise [Cert.PbIdeal.orow]
    simp only [Fin.sum_univ_one]
  · rw [(ha c).1, (ha c).2.1, (ha c).2.2.2]
    funext i
    obtain ⟨k, rfl⟩ : ∃ (k : Fin 2048), i = ix2 0 k := ⟨i 1, (eq_ix2 i).trans (congrArg (ix2 · _) (Subsingleton.elim _ _))⟩
    unfold Cert.PbIdeal.dGateAll Cert.PbIdeal.gateTerm Cert.PbIdeal.factor Cert.Norm.scale Cert.Norm.meanSq
    rw [← Cert.Norm.row_eq, ← Cert.Norm.eps_eq]
    pointwise [Cert.PbIdeal.orow]
    exact Finset.sum_congr rfl fun _ _ => by ac_rfl
  · rw [(ha c).1, (ha c).2.1, (ha c).2.2.1]
    funext i
    obtain ⟨k, rfl⟩ : ∃ (k : Fin 2048), i = ix2 0 k := ⟨i 1, (eq_ix2 i).trans (congrArg (ix2 · _) (Subsingleton.elim _ _))⟩
    unfold Cert.PbIdeal.dGainAll Cert.PbIdeal.gainTerm Cert.PbIdeal.factor Cert.Norm.scale Cert.Norm.meanSq
    rw [← Cert.Norm.row_eq, ← Cert.Norm.eps_eq]
    pointwise [Cert.PbIdeal.orow]
    exact Finset.sum_congr rfl fun _ _ => by ac_rfl

end Cert.Proof

end
-- ==== Proof.NbEqual.lean ====
module

public import proofs.«01_k».proof.Defs
public import proofs.«01_k».proof.Proof.Gen.NbIdeal.Value
public import proofs.«01_k».proof.Proof.Gen.NbRefIdeal.Run
public import proofs.«01_k».proof.Proof.Gen.Nb
public import proofs.«01_k».proof.Proof.PbEqual

/-! The backward of the norm before a layer, with its shift and its scale. -/

@[expose] public section

set_option maxRecDepth 16384

noncomputable section

namespace Cert.NbIdeal

open Cert.PbIdeal (orow factor)
open Cert.NbIdeal.Gen Cert.GradPart Idealize.ShloMosaic Idealize.ShloMosaic.TcCoe Idealize.SL.Sem

/-- The block that window 0 has at a point. -/
theorem idx0 : ∀ t : Fin cfg0.N, win0_0.index t = ![t.val, 0] := (by decide +kernel : ∀ t : Fin grid0.N, _)
/-- The block that window 1 has at a point. -/
theorem idx1 : ∀ t : Fin cfg0.N, win0_1.index t = ![t.val, 0] := (by decide +kernel : ∀ t : Fin grid0.N, _)
/-- The block that window 2 has at a point. -/
theorem idx2 : ∀ t : Fin cfg0.N, win0_2.index t = ![t.val, 0] := (by decide +kernel : ∀ t : Fin grid0.N, _)
/-- The block that window 3 has at a point. -/
theorem idx3 : ∀ t : Fin cfg0.N, win0_3.index t = ![0, 0] := (by decide +kernel : ∀ t : Fin grid0.N, _)
/-- The block that window 4 has at a point. -/
theorem idx4 : ∀ t : Fin cfg0.N, win0_4.index t = ![0, 0] := (by decide +kernel : ∀ t : Fin grid0.N, _)
/-- The block that window 5 has at a point. -/
theorem idx5 : ∀ t : Fin cfg0.N, win0_5.index t = ![t.val, 0] := (by decide +kernel : ∀ t : Fin grid0.N, _)
/-- The block that window 6 has at a point. -/
theorem idx6 : ∀ t : Fin cfg0.N, win0_6.index t = ![0, 0] := (by decide +kernel : ∀ t : Fin grid0.N, _)
/-- The block that window 7 has at a point. -/
theorem idx7 : ∀ t : Fin cfg0.N, win0_7.index t = ![0, 0] := (by decide +kernel : ∀ t : Fin grid0.N, _)
/-- The block that window 8 has at a point. -/
theorem idx8 : ∀ t : Fin cfg0.N, win0_8.index t = ![0, 0] := (by decide +kernel : ∀ t : Fin grid0.N, _)

section Body

variable {n : ℕ} (x0 x1 x2 : (⟨2, ![n, 2048]⟩ : Shape).Idx → EReal) (x3 x4 : (⟨2, ![1, 2048]⟩ : Shape).Idx → EReal)

/-- What a column of the normed rows is multiplied by besides the gain. -/
def onesc (k : Fin 2048) : EReal := 1 + x4 (ix2 0 k)

/-- A row of the normed rows' gradient. -/
def drow (r : Fin n) (k : Fin 2048) : EReal := x0 (ix2 r k) * x3 (ix2 0 k) * onesc x4 k

/-- Its factors in another order. -/
theorem drow_eq (r : Fin n) : drow x0 x3 x4 r = fun k : Fin 2048 => x0 (ix2 r k) * onesc x4 k * x3 (ix2 0 k) :=
  funext fun _ => mul_right_comm _ _ _

/-- The gradient of the rows. -/
def dRow (r : Fin n) (k : Fin 2048) : EReal :=
  x2 (ix2 r k) + Cert.Norm.back ((2048 : ℝ) : EReal) (Cert.Norm.eps : EReal) (orow x1 r) (drow x0 x3 x4 r) k

/-- It is the chain rule's. -/
theorem dRow_eq (r : Fin n) (k : Fin 2048) : dRow x0 x1 x2 x3 x4 r k = x2 (ix2 r k) + x0 (ix2 r k) * onesc x4 k * x3 (ix2 0 k) * factor x1 r
    + x1 (ix2 r k) * Cert.Norm.share ((2048 : ℝ) : EReal) (Cert.Norm.eps : EReal) ((-(1 / 2) : ℝ) : EReal) (orow x1 r)
      (fun k => x0 (ix2 r k) * onesc x4 k * x3 (ix2 0 k))
    + Cert.Norm.share ((2048 : ℝ) : EReal) (Cert.Norm.eps : EReal) ((-(1 / 2) : ℝ) : EReal) (orow x1 r)
      (fun k => x0 (ix2 r k) * onesc x4 k * x3 (ix2 0 k)) * x1 (ix2 r k) := by
  unfold dRow
  rw [Cert.Norm.back_eq (by norm_num) Cert.Norm.eps_pos, drow_eq, ← add_assoc, ← add_assoc]
  rfl

/-- A row's term of the shift's gradient. -/
def shiftTerm (k : Fin 2048) (r : Fin n) : EReal := x0 (ix2 r k)

/-- A row's term of the scale's gradient. -/
def scaleTerm (k : Fin 2048) (r : Fin n) : EReal := x0 (ix2 r k) * (x1 (ix2 r k) * factor x1 r) * x3 (ix2 0 k)

/-- A row's term of the gain's gradient. -/
def gainTerm (k : Fin 2048) (r : Fin n) : EReal := x0 (ix2 r k) * (x1 (ix2 r k) * factor x1 r) * onesc x4 k

end Body

variable (x0 x1 x2 : Vec Ideal S256x2048 .f32) (x3 x4 xs : Vec Ideal S1x2048 .f32)

/-- A block's factors. -/
theorem pay6_at (r : Fin 256) : k0_pay6 x1 (ix2 r 0) = factor x1 r := by
  unfold k0_pay6 factor Cert.Norm.scale Cert.Norm.meanSq
  rw [← Cert.Norm.row_eq, ← Cert.Norm.eps_eq]
  pointwise [orow]

/-- A block's normed rows. -/
theorem pay7_at (r : Fin 256) (k : Fin 2048) : k0_pay7 x1 (ix2 r k) = (x1 (ix2 r k) * factor x1 r : EReal) := by
  rw [← pay6_at]
  unfold k0_pay7
  pointwise []

/-- One and the scale. -/
theorem pay8_at (k : Fin 2048) : k0_pay8 x4 (ix2 0 k) = onesc x4 k := by
  unfold k0_pay8 onesc
  pointwise [Cert.Norm.one_eq]

/-- A block's share of the shift's gradient, added to what is there. -/
theorem pay9_at (k : Fin 2048) : k0_pay9 x0 xs (ix2 0 k) = xs (ix2 0 k) + ∑ r : Fin 256, shiftTerm x0 k r := by
  unfold k0_pay9 shiftTerm
  pointwise []

/-- A block's share of the scale's gradient, added to what is there. -/
theorem pay10_at (k : Fin 2048) : k0_pay10 x1 x0 x3 xs (ix2 0 k) = xs (ix2 0 k) + ∑ r : Fin 256, scaleTerm x0 x1 x3 k r := by
  unfold k0_pay10 scaleTerm
  pointwise [pay7_at]

/-- A block's share of the gain's gradient, added to what is there. -/
theorem pay1_at (k : Fin 2048) : k0_pay1 (k0_pay7 x1) x0 (k0_pay8 x4) xs (ix2 0 k) = xs (ix2 0 k) + ∑ r : Fin 256, gainTerm x0 x1 x4 k r := by
  unfold k0_pay1 gainTerm
  pointwise [pay7_at, pay8_at]

/-- A block of the rows' gradient. -/
theorem pay2_at (r : Fin 256) (k : Fin 2048) :
    k0_pay2 (k0_pay6 x1) (k0_pay7 x1) x0 x3 (k0_pay8 x4) x2 (ix2 r k) = dRow x0 x1 x2 x3 x4 r k := by
  unfold k0_pay2 dRow Cert.Norm.back
  pointwise [pay6_at, pay7_at, pay8_at, drow, Cert.Norm.row_eq]
  rfl

variable (m : (ℓ : Loc nD τ sig) → Buf (Elt Ideal) ℓ) (c : Dev nD)

/-- The row of the arrays at a row of a point's block. -/
def row (t : Fin cfg0.N) (r : Fin 256) : Fin 8192 := ⟨t.val * 256 + r.val, by have := lt_of_lt_of_eq t.isLt N_0; omega⟩

/-- The value of `row`. -/
theorem row_val (t : Fin cfg0.N) (r : Fin 256) : (row t r).val = t.val * 256 + r.val := rfl

/-- A point's block of the incoming gradient, in its array. -/
theorem dh_at (t : Fin cfg0.N) (r : Fin 256) (k : Fin 2048) : iblk m c 0 t (ix2 r k) = m ((c : Thread nD τ).loc main_arg0) (ix2 (row t r) k) := by
  blk_ext [iblk, V, idx0, row_val]
/-- A point's block of the rows, in its array. -/
theorem x_at (t : Fin cfg0.N) (r : Fin 256) (k : Fin 2048) : iblk m c 1 t (ix2 r k) = m ((c : Thread nD τ).loc main_arg1) (ix2 (row t r) k) := by
  blk_ext [iblk, V, idx1, row_val]
/-- A point's block of the gradient that passes by the norm, in its array. -/
theorem dx_at (t : Fin cfg0.N) (r : Fin 256) (k : Fin 2048) : iblk m c 2 t (ix2 r k) = m ((c : Thread nD τ).loc main_arg2) (ix2 (row t r) k) := by
  blk_ext [iblk, V, idx2, row_val]
/-- A point's gain is the array's. -/
theorem gain_at (t : Fin cfg0.N) (k : Fin 2048) : iblk m c 3 t (ix2 0 k) = m ((c : Thread nD τ).loc main_arg3) (ix2 0 k) := by
  blk_ext [iblk, V, idx3]
/-- A point's scale is the array's. -/
theorem scale_at (t : Fin cfg0.N) (k : Fin 2048) : iblk m c 4 t (ix2 0 k) = m ((c : Thread nD τ).loc main_arg4) (ix2 0 k) := by
  blk_ext [iblk, V, idx4]

/-- A row of a point's block is the array's. -/
theorem orow_at (t : Fin cfg0.N) (r : Fin 256) : orow (iblk m c 1 t) r = orow (m ((c : Thread nD τ).loc main_arg1)) (row t r) :=
  funext fun k => x_at m c t r k

/-- A row's factor in a point's block is the array's. -/
theorem factor_at (t : Fin cfg0.N) (r : Fin 256) : factor (iblk m c 1 t) r = factor (m ((c : Thread nD τ).loc main_arg1)) (row t r) :=
  congrArg (Cert.Norm.scale _ _) (orow_at m c t r)

/-- A column's multiplier at a point is the array's. -/
theorem onesc_at (t : Fin cfg0.N) (k : Fin 2048) : onesc (iblk m c 4 t) k = onesc (m ((c : Thread nD τ).loc main_arg4)) k :=
  congrArg (1 + ·) (scale_at m c t k)

/-- What the first point stores first is zero. -/
theorem zero_at (k : Fin 2048) : (k0_pay3 (F := Ideal)) (ix2 0 k) = 0 := by
  unfold k0_pay3
  pointwise []

/-- The first point leaves the first terms of the shift's gradient. -/
theorem first6 (t : Fin cfg0.N) (h0 : t.val % 32 = 0) (k : Fin 2048) : (outsAt0 m c t.val t.isLt).2.1 (ix2 0 k)
    = ∑ r : Fin 256, shiftTerm (iblk m c 0 t) k r := by
  rw [outsAt0_A m c t h0]
  unfold out0_A_6 kernelRun0_A
  dsimp only
  sl_unfold_words
  rw [Cert.Norm.stored zero2, View.readCov_unit_zero (S := S1x2048) _ zero2, loaded zero2]
  exact (pay9_at _ _ k).trans ((congrArg (· + _) (zero_at k)).trans (zero_add _))

/-- A later point adds its terms to the shift's gradient. -/
theorem later6 (n : ℕ) (h : n + 1 < cfg0.N) (h0 : ¬(n + 1) % 32 = 0) (k : Fin 2048) : (outsAt0 m c (n + 1) h).2.1 (ix2 0 k)
    = (outsAt0 m c n (Nat.lt_of_succ_lt h)).2.1 (ix2 0 k) + ∑ r : Fin 256, shiftTerm (iblk m c 0 ⟨n + 1, h⟩) k r := by
  rw [outsAt0_B m c ⟨n + 1, h⟩ h0]
  unfold out0_B_6 kernelRun0_B
  dsimp only
  rw [Cert.Norm.stored zero2, loaded zero2, loaded zero2]
  exact pay9_at _ _ k

/-- The first point leaves the first terms of the scale's gradient. -/
theorem first7 (t : Fin cfg0.N) (h0 : t.val % 32 = 0) (k : Fin 2048) : (outsAt0 m c t.val t.isLt).2.2.1 (ix2 0 k)
    = ∑ r : Fin 256, scaleTerm (iblk m c 0 t) (iblk m c 1 t) (iblk m c 3 t) k r := by
  rw [outsAt0_A m c t h0]
  unfold out0_A_7 kernelRun0_A
  dsimp only
  unfold kernelRun0_A.sl.r_5
  sl_unfold_words
  rw [Cert.Norm.stored zero2, View.readCov_unit_zero (S := S1x2048) _ zero2, loaded zero2, loaded zero2, loaded zero2]
  exact (pay10_at _ _ _ _ k).trans ((congrArg (· + _) (zero_at k)).trans (zero_add _))

/-- A later point adds its terms to the scale's gradient. -/
theorem later7 (n : ℕ) (h : n + 1 < cfg0.N) (h0 : ¬(n + 1) % 32 = 0) (k : Fin 2048) : (outsAt0 m c (n + 1) h).2.2.1 (ix2 0 k)
    = (outsAt0 m c n (Nat.lt_of_succ_lt h)).2.2.1 (ix2 0 k) + ∑ r : Fin 256, scaleTerm (iblk m c 0 ⟨n + 1, h⟩) (iblk m c 1 ⟨n + 1, h⟩) (iblk m c 3 ⟨n + 1, h⟩) k r := by
  rw [outsAt0_B m c ⟨n + 1, h⟩ h0]
  unfold out0_B_7 kernelRun0_B
  dsimp only
  unfold kernelRun0_B.sl.r_5
  rw [Cert.Norm.stored zero2, loaded zero2, loaded zero2, loaded zero2, loaded zero2]
  exact pay10_at _ _ _ _ k

/-- The first point leaves the first terms of the gain's gradient. -/
theorem first8 (t : Fin cfg0.N) (h0 : t.val % 32 = 0) (k : Fin 2048) : (outsAt0 m c t.val t.isLt).2.2.2 (ix2 0 k)
    = ∑ r : Fin 256, gainTerm (iblk m c 0 t) (iblk m c 1 t) (iblk m c 4 t) k r := by
  rw [outsAt0_A m c t h0]
  unfold out0_A_8 kernelRun0_A
  dsimp only
  unfold kernelRun0_A.sl.r_1 kernelRun0_A.sl.r_2 kernelRun0_A.sl.r_4
  sl_unfold_words
  rw [Cert.Norm.stored zero2, View.readCov_unit_zero (S := S1x2048) _ zero2, loaded zero2, loaded zero2, loaded zero2]
  exact (pay1_at _ _ _ _ k).trans ((congrArg (· + _) (zero_at k)).trans (zero_add _))

/-- A later point adds its terms to the gain's gradient. -/
theorem later8 (n : ℕ) (h : n + 1 < cfg0.N) (h0 : ¬(n + 1) % 32 = 0) (k : Fin 2048) : (outsAt0 m c (n + 1) h).2.2.2 (ix2 0 k)
    = (outsAt0 m c n (Nat.lt_of_succ_lt h)).2.2.2 (ix2 0 k) + ∑ r : Fin 256, gainTerm (iblk m c 0 ⟨n + 1, h⟩) (iblk m c 1 ⟨n + 1, h⟩) (iblk m c 4 ⟨n + 1, h⟩) k r := by
  rw [outsAt0_B m c ⟨n + 1, h⟩ h0]
  unfold out0_B_8 kernelRun0_B
  dsimp only
  unfold kernelRun0_B.sl.r_1 kernelRun0_B.sl.r_2 kernelRun0_B.sl.r_4
  rw [Cert.Norm.stored zero2, loaded zero2, loaded zero2, loaded zero2, loaded zero2]
  exact pay1_at _ _ _ _ k

/-- Every point leaves its rows of the gradient. -/
theorem out5 (t : Fin cfg0.N) (r : Fin 256) (k : Fin 2048) : (outsAt0 m c t.val t.isLt).1 (ix2 r k)
    = dRow (iblk m c 0 t) (iblk m c 1 t) (iblk m c 2 t) (iblk m c 3 t) (iblk m c 4 t) r k := by
  by_cases h0 : t.val % 32 = 0
  · rw [outsAt0_A m c t h0]
    unfold out0_A_5 kernelRun0_A
    dsimp only
    unfold kernelRun0_A.sl.r kernelRun0_A.sl.r_1 kernelRun0_A.sl.r_2 kernelRun0_A.sl.r_3 kernelRun0_A.sl.r_4
    rw [Cert.Norm.stored zero2, loaded zero2, loaded zero2, loaded zero2, loaded zero2, loaded zero2]
    exact pay2_at _ _ _ _ _ r k
  · rw [outsAt0_B m c t h0]
    unfold out0_B_5 kernelRun0_B
    dsimp only
    unfold kernelRun0_B.sl.r kernelRun0_B.sl.r_1 kernelRun0_B.sl.r_2 kernelRun0_B.sl.r_3 kernelRun0_B.sl.r_4
    rw [Cert.Norm.stored zero2, loaded zero2, loaded zero2, loaded zero2, loaded zero2, loaded zero2]
    exact pay2_at _ _ _ _ _ r k

/-- The gradient of the rows, whole. -/
def dRowAll (x0 x1 x2 : FVec Ideal S8192x2048 .f32) (x3 x4 : FVec Ideal S1x2048 .f32) : FVec Ideal S8192x2048 .f32 := fun i =>
  dRow x0 x1 x2 x3 x4 (i 0) (i 1)

/-- The gradient of the shift, whole. -/
def dShiftAll (x0 : FVec Ideal S8192x2048 .f32) : FVec Ideal S1x2048 .f32 := fun i => ∑ s : Fin 8192, shiftTerm x0 (i 1) s

/-- The gradient of the scale, whole. -/
def dScaleAll (x0 x1 : FVec Ideal S8192x2048 .f32) (x3 : FVec Ideal S1x2048 .f32) : FVec Ideal S1x2048 .f32 := fun i =>
  ∑ s : Fin 8192, scaleTerm x0 x1 x3 (i 1) s

/-- The gradient of the gain, whole. -/
def dGainAll (x0 x1 : FVec Ideal S8192x2048 .f32) (x4 : FVec Ideal S1x2048 .f32) : FVec Ideal S1x2048 .f32 := fun i =>
  ∑ s : Fin 8192, gainTerm x0 x1 x4 (i 1) s

/-- The rows' gradient is whole. -/
theorem whole5 : (dats m 0 c).arrAt 5 cfg0.N = dRowAll (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, k, rfl⟩ : ∃ (r : Fin 256) (k : Fin 2048), y = ix2 r k := ⟨y 0, y 1, eq_ix2 y⟩
  have e : (win0_5.blk t).view.emb (ix2 r k) = (ix2 (row t r) k : S8192x2048.Idx) := by blk_ext [idx5, row_val]
  rw [e]
  refine (out5 m c t r k).trans ?_
  have d : drow (iblk m c 0 t) (iblk m c 3 t) (iblk m c 4 t) r = drow (m ((c : Thread nD τ).loc main_arg0)) (m ((c : Thread nD τ).loc main_arg3)) (m ((c : Thread nD τ).loc main_arg4)) (row t r) := by
    funext k
    unfold drow
    rw [dh_at, gain_at, onesc_at]
  unfold dRow
  rw [orow_at, d, dx_at]
  rfl

/-- The shift's gradient is whole. -/
theorem whole6 : (dats m 0 c).arrAt 6 cfg0.N = dShiftAll (m ((c : Thread nD τ).loc main_arg0)) := by
  refine (dats m 0 c).arrAt_eq_of_covers 6 _ (by decide +kernel) fun t hf y => ?_
  blk_simp
  rw [after0_6]
  obtain ⟨k, rfl⟩ : ∃ (k : Fin 2048), y = ix2 0 k := ⟨y 1, (eq_ix2 y).trans (congrArg (ix2 · _) (Subsingleton.elim _ _))⟩
  have e : (win0_6.blk t).view.emb (ix2 0 k) = (ix2 0 k : S1x2048.Idx) := by blk_ext [idx6]
  rw [e]
  have term : ∀ t : Fin cfg0.N, ∑ r : Fin 256, shiftTerm (iblk m c 0 t) k r
      = ∑ r : Fin 256, shiftTerm (m ((c : Thread nD τ).loc main_arg0)) k (row t r) :=
    fun t => Finset.sum_congr rfl fun r _ => dh_at m c t r k
  refine Cert.Norm.total (P := cfg0.N) (w := 256) (M := 8192) (congrArg (· * 256) N_0)
    (shiftTerm (m ((c : Thread nD τ).loc main_arg0)) k)
    (fun n h => (outsAt0 m c n h).2.1 (ix2 0 k)) (fun h => (first6 m c ⟨0, h⟩ rfl k).trans (term _))
    (fun n h => (later6 m c n h (by have := lt_of_lt_of_eq h N_0; omega) k).trans (congrArg (_ + ·) (term _))) t.val t.isLt ?_
  have := (flush0_6 t).mp hf
  have := lt_of_lt_of_eq t.isLt N_0
  exact (by omega : t.val + 1 = 32).trans N_0.symm

/-- The scale's gradient is whole. -/
theorem whole7 : (dats m 0 c).arrAt 7 cfg0.N = dScaleAll (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  obtain ⟨k, rfl⟩ : ∃ (k : Fin 2048), y = ix2 0 k := ⟨y 1, (eq_ix2 y).trans (congrArg (ix2 · _) (Subsingleton.elim _ _))⟩
  have e : (win0_7.blk t).view.emb (ix2 0 k) = (ix2 0 k : S1x2048.Idx) := by blk_ext [idx7]
  rw [e]
  have term : ∀ t : Fin cfg0.N, ∑ r : Fin 256, scaleTerm (iblk m c 0 t) (iblk m c 1 t) (iblk m c 3 t) k r
      = ∑ r : Fin 256, scaleTerm (m ((c : Thread nD τ).loc main_arg0)) (m ((c : Thread nD τ).loc main_arg1)) (m ((c : Thread nD τ).loc main_arg3)) k (row t r) :=
    fun t => Finset.sum_congr rfl fun r _ => by unfold scaleTerm; rw [dh_at, x_at, factor_at, gain_at]
  refine Cert.Norm.total (P := cfg0.N) (w := 256) (M := 8192) (congrArg (· * 256) N_0)
    (scaleTerm (m ((c : Thread nD τ).loc main_arg0)) (m ((c : Thread nD τ).loc main_arg1)) (m ((c : Thread nD τ).loc main_arg3)) k)
    (fun n h => (outsAt0 m c n h).2.2.1 (ix2 0 k)) (fun h => (first7 m c ⟨0, h⟩ rfl k).trans (term _))
    (fun n h => (later7 m c n h (by have := lt_of_lt_of_eq h N_0; omega) k).trans (congrArg (_ + ·) (term _))) t.val t.isLt ?_
  have := (flush0_7 t).mp hf
  have := lt_of_lt_of_eq t.isLt N_0
  exact (by omega : t.val + 1 = 32).trans N_0.symm

/-- The gain's gradient is whole. -/
theorem whole8 : (dats m 0 c).arrAt 8 cfg0.N = dGainAll (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  obtain ⟨k, rfl⟩ : ∃ (k : Fin 2048), y = ix2 0 k := ⟨y 1, (eq_ix2 y).trans (congrArg (ix2 · _) (Subsingleton.elim _ _))⟩
  have e : (win0_8.blk t).view.emb (ix2 0 k) = (ix2 0 k : S1x2048.Idx) := by blk_ext [idx8]
  rw [e]
  have term : ∀ t : Fin cfg0.N, ∑ r : Fin 256, gainTerm (iblk m c 0 t) (iblk m c 1 t) (iblk m c 4 t) k r
      = ∑ r : Fin 256, gainTerm (m ((c : Thread nD τ).loc main_arg0)) (m ((c : Thread nD τ).loc main_arg1)) (m ((c : Thread nD τ).loc main_arg4)) k (row t r) :=
    fun t => Finset.sum_congr rfl fun r _ => by unfold gainTerm; rw [dh_at, x_at, factor_at, onesc_at]
  refine Cert.Norm.total (P := cfg0.N) (w := 256) (M := 8192) (congrArg (· * 256) N_0)
    (gainTerm (m ((c : Thread nD τ).loc main_arg0)) (m ((c : Thread nD τ).loc main_arg1)) (m ((c : Thread nD τ).loc main_arg4)) k)
    (fun n h => (outsAt0 m c n h).2.2.2 (ix2 0 k)) (fun h => (first8 m c ⟨0, h⟩ rfl k).trans (term _))
    (fun n h => (later8 m c n h (by have := lt_of_lt_of_eq h N_0; omega) k).trans (congrArg (_ + ·) (term _))) t.val t.isLt ?_
  have := (flush0_8 t).mp hf
  have := lt_of_lt_of_eq t.isLt N_0
  exact (by omega : t.val + 1 = 32).trans N_0.symm

end Cert.NbIdeal

namespace Cert.Proof

open Idealize.ShloMosaic Idealize.SL.Sem Idealize.ShloMosaic.TcCoe

/-- The bodies that the grid calls have the same text in both printed programs. -/
theorem nb_defs₀ : @Cert.Nb.defs₀ Bits _ Cert.Nb.Gen.facts = @Cert.NbIdeal.defs₀ Bits _ Cert.NbIdeal.Gen.facts := by
  unfold Cert.Nb.defs₀ Cert.NbIdeal.defs₀
  refine congrArg Defs.onTc ?_
  funext l a
  match l, a with
  | ⟨0, _⟩, (t, s) => rfl

/-- The frame of the call as printed: the run of the idealized text, read at the machine's floats. -/
theorem frame_nb : Cert.quiescent_Nb := fun m ρ _ => by
  have h := Cert.NbIdeal.Gen.frame (F := Bits) m ρ
  rw [show Cert.NbIdeal.defs (F := Bits) = Cert.Nb.defs from (congrArg (Pipeline.defs Cert.NbIdeal.pcfgs) nb_defs₀).symm] at h
  exact h

/-- The frame of the idealized call. -/
theorem frame_nbIdeal : Cert.quiescent_NbIdeal := fun m ρ _ => Cert.NbIdeal.Gen.frame m ρ

/-- The frame of its reference. -/
theorem frame_nbRef : Cert.quiescent_NbRefIdeal := fun m ρ _ =>
  (θ_run Cert.NbRefIdeal.defs _ _).mono
    (fun r h => ⟨fun c => (h c).2.2.2.2, sem_eq_zero_of_no_sems rfl r.2⟩)
    (Cert.NbRefIdeal.Value.run (F := Ideal) m ρ)

/-- The call computes what its reference does: the gradient of the norm is the chain rule's on all extended reals, and the
gradients of the shift, of the scale and of the gain are sums of the same terms. -/
theorem equal_nb : Cert.algebraic_NbIdeal_NbRefIdeal := fun m ρ m' ρ' _ ha => by
  refine ⟨_, _, _, _, (θ_run _ _ _).mono (fun r h c => ⟨(h c).1.trans (Cert.NbIdeal.whole5 m c), (h c).2.1.trans (Cert.NbIdeal.whole6 m c),
      (h c).2.2.1.trans (Cert.NbIdeal.whole7 m c), (h c).2.2.2.1.trans (Cert.NbIdeal.whole8 m c), (h c).2.2.2.2⟩) (Cert.NbIdeal.Value.run_blocks m ρ),
    (θ_run _ _ _).mono (fun r h c => ⟨(h c).1.trans ?_, (h c).2.1.trans ?_, (h c).2.2.1.trans ?_, (h c).2.2.2.1.trans ?_, (h c).2.2.2.2⟩)
      (Cert.NbRefIdeal.Value.run (F := Ideal) m' ρ')⟩
  · unfold Cert.NbRefIdeal.Value.res_main_v49
    rw [(ha c).1, (ha c).2.1, (ha c).2.2.1, (ha c).2.2.2.1, (ha c).2.2.2.2]
    funext i
    obtain ⟨r, k, rfl⟩ : ∃ (r : Fin 8192) (k : Fin 2048), i = ix2 r k := ⟨i 0, i 1, eq_ix2 i⟩
    refine Eq.trans ?_ (Cert.NbIdeal.dRow_eq _ _ _ _ _ r k).symm
    unfold Cert.NbIdeal.onesc Cert.PbIdeal.factor Cert.Norm.share Cert.Norm.scale Cert.Norm.meanSq
    rw [← Cert.Norm.row_eq, ← Cert.Norm.eps_eq, ← Cert.Norm.neg_half_eq]
    pointwise [Cert.PbIdeal.orow, Cert.Norm.one_eq]
    simp only [Fin.sum_univ_one]
  · rw [(ha c).1]
    funext i
    obtain ⟨k, rfl⟩ : ∃ (k : Fin 2048), i = ix2 0 k := ⟨i 1, (eq_ix2 i).trans (congrArg (ix2 · _) (Subsingleton.elim _ _))⟩
    unfold Cert.NbIdeal.dShiftAll Cert.NbIdeal.shiftTerm
    pointwise []
  · rw [(ha c).1, (ha c).2.1, (ha c).2.2.2.1]
    funext i
    obtain ⟨k, rfl⟩ : ∃ (k : Fin 2048), i = ix2 0 k := ⟨i 1, (eq_ix2 i).trans (congrArg (ix2 · _) (Subsingleton.elim _ _))⟩
    unfold Cert.NbIdeal.dScaleAll Cert.NbIdeal.scaleTerm Cert.PbIdeal.factor Cert.Norm.scale Cert.Norm.meanSq
    rw [← Cert.Norm.row_eq, ← Cert.Norm.eps_eq]
    pointwise [Cert.PbIdeal.orow]
    exact Finset.sum_congr rfl fun _ _ => by ac_rfl
  · rw [(ha c).1, (ha c).2.1, (ha c).2.2.2.2]
    funext i
    obtain ⟨k, rfl⟩ : ∃ (k : Fin 2048), i = ix2 0 k := ⟨i 1, (eq_ix2 i).trans (congrArg (ix2 · _) (Subsingleton.elim _ _))⟩
    unfold Cert.NbIdeal.dGainAll Cert.NbIdeal.gainTerm Cert.NbIdeal.onesc Cert.PbIdeal.factor Cert.Norm.scale Cert.Norm.meanSq
    rw [← Cert.Norm.row_eq, ← Cert.Norm.eps_eq]
    pointwise [Cert.PbIdeal.orow, Cert.Norm.one_eq]
    exact Finset.sum_congr rfl fun _ _ => by ac_rfl

end Cert.Proof

end
-- ==== Proof.WaEqual.lean ====
module

public import proofs.«01_k».proof.Defs
public import proofs.«01_k».proof.Proof.Sig
public import proofs.«01_k».proof.Proof.Gen.WaIdeal.Value
public import proofs.«01_k».proof.Proof.Gen.WaRefIdeal.Run
public import proofs.«01_k».proof.Proof.Gen.Wa
public import Idealize.ShloMosaic.Lib.Pointwise
public import Idealize.ShloMosaic.Lib.Pipeline.ValueKit.Geometry
public import Idealize.ShloMosaic.Lib.Quiescent

/-! The gradient of the modulation's weights and the optimiser's step for them. -/

@[expose] public section

set_option maxRecDepth 16384

noncomputable section

namespace Cert.WaIdeal

open Cert.WaIdeal.Gen Idealize.ShloMosaic Idealize.ShloMosaic.TcCoe Idealize.SL.Sem

/-- The block that window 0 has at a point. -/
theorem idx0 : ∀ t : Fin cfg0.N, win0_0.index t = ![0, 0] := (by decide +kernel : ∀ t : Fin grid0.N, _)
/-- The block that window 1 has at a point. -/
theorem idx1 : ∀ t : Fin cfg0.N, win0_1.index t = ![t.val / 6, 0, t.val % 6] := (by decide +kernel : ∀ t : Fin grid0.N, _)
/-- The block that window 2 has at a point. -/
theorem idx2 : ∀ t : Fin cfg0.N, win0_2.index t = ![t.val / 6, 0, t.val % 6] := (by decide +kernel : ∀ t : Fin grid0.N, _)
/-- The block that window 3 has at a point. -/
theorem idx3 : ∀ t : Fin cfg0.N, win0_3.index t = ![t.val / 6, 0, t.val % 6] := (by decide +kernel : ∀ t : Fin grid0.N, _)
/-- The block that window 4 has at a point. -/
theorem idx4 : ∀ t : Fin cfg0.N, win0_4.index t = ![t.val / 6, 0, t.val % 6] := (by decide +kernel : ∀ t : Fin grid0.N, _)
/-- The block that window 5 has at a point. -/
theorem idx5 : ∀ t : Fin cfg0.N, win0_5.index t = ![t.val / 6, 0, t.val % 6] := (by decide +kernel : ∀ t : Fin grid0.N, _)
/-- The block that window 6 has at a point. -/
theorem idx6 : ∀ t : Fin cfg0.N, win0_6.index t = ![t.val / 6, 0, t.val % 6] := (by decide +kernel : ∀ t : Fin grid0.N, _)
/-- The block that window 7 has at a point. -/
theorem idx7 : ∀ t : Fin cfg0.N, win0_7.index t = ![t.val / 6, 0, t.val % 6] := (by decide +kernel : ∀ t : Fin grid0.N, _)
/-- The block that window 8 has at a point. -/
theorem idx8 : ∀ t : Fin cfg0.N, win0_8.index t = ![t.val / 6, 0, t.val % 6] := (by decide +kernel : ∀ t : Fin grid0.N, _)

/-- The gradient of a weight, from its column of the gated conditioning vectors and its column of the modulation's gradient. -/
def cell (a d : Fin 8 → EReal) : EReal := ∑ b : Fin 8, (a b * Cert.Sig.gate (a b)) * d b

/-- The new first moment. -/
def mean (g m : EReal) : EReal := Ideal.ofBits .f32 0x3F666666#32 * m + Ideal.ofBits .f32 0x3DCCCCCD#32 * g

/-- The new second moment. -/
def square (g v : EReal) : EReal := Ideal.ofBits .f32 0x3F7FBE77#32 * v + Ideal.ofBits .f32 0x3A83126F#32 * (g * g)

/-- The step of a weight, from its two new moments. -/
def step (w m v : EReal) : EReal :=
  Ideal.ofBits .f32 0xBA83126F#32 *
    (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The gradient of every weight. -/
def grad (a : FVec Ideal S8x2048 .f32) (d : FVec Ideal S4x8x1536 .f32) : FVec Ideal S4x2048x1536 .f32 :=
  fun i => cell (fun b => a (ix2 b (i 1))) (fun b => d (ix3 (i 0) b (i 2)))

/-- Every new first moment. -/
def means (a : FVec Ideal S8x2048 .f32) (d : FVec Ideal S4x8x1536 .f32) (m : FVec Ideal S4x2048x1536 .f32) : FVec Ideal S4x2048x1536 .f32 :=
  fun i => mean (grad a d i) (m i)

/-- Every new second moment. -/
def squares (a : FVec Ideal S8x2048 .f32) (d : FVec Ideal S4x8x1536 .f32) (v : FVec Ideal S4x2048x1536 .f32) : FVec Ideal S4x2048x1536 .f32 :=
  fun i => square (grad a d i) (v i)

/-- The step of every weight. -/
def steps (a : FVec Ideal S8x2048 .f32) (d : FVec Ideal S4x8x1536 .f32) (w m v : FVec Ideal S4x2048x1536 .f32) : FVec Ideal S4x2048x1536 .f32 :=
  fun i => step (w i) (means a d m i) (squares a d v i)

/-- The offsets of a whole block are zero. -/
theorem zero2 : (![0, 0] : Fin 2 → ℕ) = fun _ => 0 := by funext i; fin_cases i <;> rfl
/-- The offsets of a whole block of one layer are zero. -/
theorem zero3 : (![0, 0, 0] : Fin 3 → ℕ) = fun _ => 0 := by funext i; fin_cases i <;> rfl

/-- The product of a block at an entry. -/
theorem prod_at (x0 : Vec Ideal S8x2048 .f32) (x1 : Vec Ideal S1x8x256 .f32) (r : Fin 2048) (k : Fin 256) :
    k0_pay5 x0 x1 (ix2 r k) = cell (fun b => x0 (ix2 b r)) (fun b => x1 (ix3 0 b k)) := by
  unfold k0_pay5 cell
  pointwise [Cert.Sig.sig_eq]

section Blocks

variable (x0 : Vec Ideal S8x2048 .f32) (x1 : Vec Ideal S1x8x256 .f32) (x2 x3 x4 : Vec Ideal S1x2048x256 .f32) (r : Fin 2048) (k : Fin 256)

/-- A block of the gradient at an entry. -/
theorem out5_at : out0_5 x0 x1 x2 x3 x4 (ix3 0 r k) = cell (fun b => x0 (ix2 b r)) (fun b => x1 (ix3 0 b k)) := by
  unfold out0_5
  rw [View.canon_unit_zero zero3, View.ld_unit_zero zero2, View.ld_unit_zero zero3]
  unfold k0_pay1
  pointwise [prod_at]

/-- A block of the first moment at an entry. -/
theorem out7_at : out0_7 x0 x1 x2 x3 x4 (ix3 0 r k)
    = mean (cell (fun b => x0 (ix2 b r)) (fun b => x1 (ix3 0 b k))) (x3 (ix3 0 r k)) := by
  unfold out0_7
  rw [View.canon_unit_zero zero3, View.ld_unit_zero zero2, View.ld_unit_zero zero3, View.ld_unit_zero zero3]
  unfold k0_pay3 k0_pay7 mean
  pointwise [prod_at]

/-- A block of the second moment at an entry. -/
theorem out8_at : out0_8 x0 x1 x2 x3 x4 (ix3 0 r k)
    = square (cell (fun b => x0 (ix2 b r)) (fun b => x1 (ix3 0 b k))) (x4 (ix3 0 r k)) := by
  unfold out0_8
  rw [View.canon_unit_zero zero3, View.ld_unit_zero zero2, View.ld_unit_zero zero3, View.ld_unit_zero zero3]
  unfold k0_pay4 k0_pay8 square
  pointwise [prod_at]

/-- A block of the step at an entry. -/
theorem out6_at : out0_6 x0 x1 x2 x3 x4 (ix3 0 r k)
    = step (x2 (ix3 0 r k)) (mean (cell (fun b => x0 (ix2 b r)) (fun b => x1 (ix3 0 b k))) (x3 (ix3 0 r k)))
      (square (cell (fun b => x0 (ix2 b r)) (fun b => x1 (ix3 0 b k))) (x4 (ix3 0 r k))) := by
  unfold out0_6
  rw [View.canon_unit_zero zero3]
  simp only [View.ld_unit_zero (S := S8x2048) zero2, View.ld_unit_zero (S := S1x8x256) zero3, View.ld_unit_zero (S := S1x2048x256) zero3]
  unfold k0_pay2 k0_pay6 k0_pay9 k0_pay10 k0_pay7 k0_pay8 step mean square
  pointwise [prod_at]

end Blocks

variable (m : (ℓ : Loc nD τ sig) → Buf (Elt Ideal) ℓ) (c : Dev nD)

/-- The grid has twenty-four points. -/
theorem point_lt (t : Fin cfg0.N) : t.val < 24 := lt_of_lt_of_eq t.isLt N_0

/-- A point's layer. -/
def lay (t : Fin cfg0.N) : Fin 4 := ⟨t.val / 6, by have := point_lt t; omega⟩

/-- The column that a point's column k is in the whole. -/
def col (t : Fin cfg0.N) (k : Fin 256) : Fin 1536 := ⟨t.val % 6 * 256 + k.val, by omega⟩

/-- The conditioning vectors at a point. -/
theorem blk0_at (t : Fin cfg0.N) (r : Fin 8) (k : Fin 2048) :
    iblk m c 0 t (ix2 r k) = m ((c : Thread nD τ).loc main_arg0) (ix2 r k) := by
  blk_ext [iblk, V, idx0]

/-- The modulation's gradient at a point. -/
theorem blk1_at (t : Fin cfg0.N) (r : Fin 8) (k : Fin 256) :
    iblk m c 1 t (ix3 0 r k) = m ((c : Thread nD τ).loc main_arg1) (ix3 (lay t) r (col t k)) := by
  blk_ext [iblk, V, idx1, lay, col]

/-- The weights at a point. -/
theorem blk2_at (t : Fin cfg0.N) (r : Fin 2048) (k : Fin 256) :
    iblk m c 2 t (ix3 0 r k) = m ((c : Thread nD τ).loc main_arg2) (ix3 (lay t) r (col t k)) := by
  blk_ext [iblk, V, idx2, lay, col]

/-- The first moments at a point. -/
theorem blk3_at (t : Fin cfg0.N) (r : Fin 2048) (k : Fin 256) :
    iblk m c 3 t (ix3 0 r k) = m ((c : Thread nD τ).loc main_arg3) (ix3 (lay t) r (col t k)) := by
  blk_ext [iblk, V, idx3, lay, col]

/-- The second moments at a point. -/
theorem blk4_at (t : Fin cfg0.N) (r : Fin 2048) (k : Fin 256) :
    iblk m c 4 t (ix3 0 r k) = m ((c : Thread nD τ).loc main_arg4) (ix3 (lay t) r (col t k)) := by
  blk_ext [iblk, V, idx4, lay, col]

/-- The gradient's cell at a point is the whole gradient's cell. -/
theorem cell_at (t : Fin cfg0.N) (r : Fin 2048) (k : Fin 256) :
    cell (fun b => iblk m c 0 t (ix2 b r)) (fun b => iblk m c 1 t (ix3 0 b k))
      = grad (m ((c : Thread nD τ).loc main_arg0)) (m ((c : Thread nD τ).loc main_arg1)) (ix3 (lay t) r (col t k)) := by
  simp only [blk0_at, blk1_at]
  rfl

/-- Every entry of a block is one of its only layer. -/
theorem entry (y : S1x2048x256.Idx) : ∃ (r : Fin 2048) (k : Fin 256), y = ix3 (0 : Fin 1) r k :=
  ⟨y 1, y 2, (eq_ix3 y).trans (by congr 1; exact Subsingleton.elim _ _)⟩

/-- The whole gradient. -/
theorem whole5 : (dats m 0 c).arrAt 5 cfg0.N = grad (m ((c : Thread nD τ).loc main_arg0)) (m ((c : Thread nD τ).loc main_arg1)) := by
  refine (dats m 0 c).arrAt_eq_of_covers 5 _ (by decide +kernel) fun t hf y => ?_
  blk_simp
  rw [after0_5]
  obtain ⟨r, k, rfl⟩ := entry y
  refine (out5_at _ _ _ _ _ r k).trans ?_
  have e : (win0_5.blk t).view.emb (ix3 (0 : Fin 1) r k) = (ix3 (lay t) r (col t k) : S4x2048x1536.Idx) := by
    blk_ext [idx5, lay, col]
  rw [e, cell_at]

/-- The whole step. -/
theorem whole6 : (dats m 0 c).arrAt 6 cfg0.N = steps (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨r, k, rfl⟩ := entry y
  refine (out6_at _ _ _ _ _ r k).trans ?_
  have e : (win0_6.blk t).view.emb (ix3 (0 : Fin 1) r k) = (ix3 (lay t) r (col t k) : S4x2048x1536.Idx) := by
    blk_ext [idx6, lay, col]
  rw [e, cell_at, blk2_at, blk3_at, blk4_at]
  rfl

/-- The whole first moment. -/
theorem whole7 : (dats m 0 c).arrAt 7 cfg0.N = means (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  obtain ⟨r, k, rfl⟩ := entry y
  refine (out7_at _ _ _ _ _ r k).trans ?_
  have e : (win0_7.blk t).view.emb (ix3 (0 : Fin 1) r k) = (ix3 (lay t) r (col t k) : S4x2048x1536.Idx) := by
    blk_ext [idx7, lay, col]
  rw [e, cell_at, blk3_at]
  rfl

/-- The whole second moment. -/
theorem whole8 : (dats m 0 c).arrAt 8 cfg0.N = squares (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  obtain ⟨r, k, rfl⟩ := entry y
  refine (out8_at _ _ _ _ _ r k).trans ?_
  have e : (win0_8.blk t).view.emb (ix3 (0 : Fin 1) r k) = (ix3 (lay t) r (col t k) : S4x2048x1536.Idx) := by
    blk_ext [idx8, lay, col]
  rw [e, cell_at, blk4_at]
  rfl

end Cert.WaIdeal

namespace Cert.WaRefIdeal

open Cert.WaRefIdeal.Gen Idealize.ShloMosaic

/-- The gradient as the reference writes it. -/
theorem grad_eq (a : FVec Ideal S8x2048 .f32) (d : FVec Ideal S4x8x1536 .f32) :
    transpose S4x2048x1536 [0, 2, 1]
      (Host.dotGeneral dot_S4x1536x8_S8x2048_S4x1536x2048_2_0_01_1_n_n none (transpose S4x1536x8 [0, 2, 1] d transposes_S4x8x1536_S4x1536x8_0_2_1)
        (mulf a (Host.divf (broadcastInDim S8x2048 ![] bcast_S_S8x2048 (constant S_ .f32 0x3F800000#32))
          (addf (broadcastInDim S8x2048 ![] bcast_S_S8x2048 (constant S_ .f32 0x3F800000#32)) (Host.exp (Host.negf a))))))
      transposes_S4x1536x2048_S4x2048x1536_0_2_1 = Cert.WaIdeal.grad a d := by
  funext i
  obtain ⟨l, r, k, rfl⟩ : ∃ (l : Fin 4) (r : Fin 2048) (k : Fin 1536), i = ix3 l r k := ⟨i 0, i 1, i 2, eq_ix3 i⟩
  pointwise [Cert.WaIdeal.grad, Cert.WaIdeal.cell, Cert.Sig.gate]
  exact Finset.sum_congr rfl fun j _ => mul_comm _ _

end Cert.WaRefIdeal

namespace Cert.Proof

open Idealize.ShloMosaic Idealize.SL.Sem Idealize.ShloMosaic.TcCoe

/-- The bodies that the grid calls have the same text in both printed programs. -/
theorem wa_defs₀ : @Cert.Wa.defs₀ Bits _ Cert.Wa.Gen.facts = @Cert.WaIdeal.defs₀ Bits _ Cert.WaIdeal.Gen.facts := by
  unfold Cert.Wa.defs₀ Cert.WaIdeal.defs₀
  refine congrArg Defs.onTc ?_
  funext l a
  match l, a with
  | ⟨0, _⟩, (t, s) => rfl

/-- The frame of the call as printed: the run of the idealized text, read at the machine's floats. -/
theorem frame_wa : Cert.quiescent_Wa := fun m ρ _ => by
  have h := Cert.WaIdeal.Gen.frame (F := Bits) m ρ
  rw [show Cert.WaIdeal.defs (F := Bits) = Cert.Wa.defs from (congrArg (Pipeline.defs Cert.WaIdeal.pcfgs) wa_defs₀).symm] at h
  exact h

/-- The frame of the idealized call. -/
theorem frame_waIdeal : Cert.quiescent_WaIdeal := fun m ρ _ => Cert.WaIdeal.Gen.frame m ρ

/-- The frame of its reference. -/
theorem frame_waRef : Cert.quiescent_WaRefIdeal := fun m ρ _ =>
  (θ_run Cert.WaRefIdeal.defs _ _).mono
    (fun r h => ⟨fun c => (h c).2.2.2.2, sem_eq_zero_of_no_sems rfl r.2⟩)
    (Cert.WaRefIdeal.Value.run (F := Ideal) m ρ)

/-- The call computes what its reference does. -/
theorem equal_wa : Cert.algebraic_WaIdeal_WaRefIdeal := fun m ρ m' ρ' _ ha => by
  refine ⟨_, _, _, _, (θ_run _ _ _).mono (fun r h c => ⟨(h c).1.trans (Cert.WaIdeal.whole5 m c), (h c).2.1.trans (Cert.WaIdeal.whole6 m c),
      (h c).2.2.1.trans (Cert.WaIdeal.whole7 m c), (h c).2.2.2.1.trans (Cert.WaIdeal.whole8 m c), (h c).2.2.2.2⟩) (Cert.WaIdeal.Value.run_blocks m ρ),
    (θ_run _ _ _).mono (fun r h c => ⟨(h c).1.trans ?_, (h c).2.1.trans ?_, (h c).2.2.1.trans ?_, (h c).2.2.2.1.trans ?_, (h c).2.2.2.2⟩)
      (Cert.WaRefIdeal.Value.run (F := Ideal) m' ρ')⟩ <;>
  (rw [Cert.WaRefIdeal.grad_eq]
   simp only [(ha c).1, (ha c).2.1, (ha c).2.2.1, (ha c).2.2.2.1, (ha c).2.2.2.2]
   try rfl)

end Cert.Proof

end
-- ==== Proof.MpEqual.lean ====
module

public import proofs.«01_k».proof.Defs
public import proofs.«01_k».proof.Proof.Sig
public import proofs.«01_k».proof.Proof.Gen.MpIdeal.Value
public import proofs.«01_k».proof.Proof.Gen.MpRefIdeal.Run
public import proofs.«01_k».proof.Proof.Gen.Mp
public import Idealize.ShloMosaic.Lib.Pointwise
public import Idealize.ShloMosaic.Lib.Pipeline.ValueKit.Geometry
public import Idealize.ShloMosaic.Lib.Quiescent

/-! The modulation: the gated conditioning vectors against each layer's weights. -/

@[expose] public section

set_option maxRecDepth 16384

noncomputable section

namespace Cert.MpIdeal

open Cert.MpIdeal.Gen Idealize.ShloMosaic Idealize.ShloMosaic.TcCoe Idealize.SL.Sem

/-- The block that window 0 has at a point. -/
theorem idx0 : ∀ t : Fin cfg0.N, win0_0.index t = ![0, 0] := (by decide +kernel : ∀ t : Fin grid0.N, _)
/-- The block that window 1 has at a point. -/
theorem idx1 : ∀ t : Fin cfg0.N, win0_1.index t = ![t.val / 3, 0, t.val % 3] := (by decide +kernel : ∀ t : Fin grid0.N, _)
/-- The block that window 2 has at a point. -/
theorem idx2 : ∀ t : Fin cfg0.N, win0_2.index t = ![t.val / 3, 0, t.val % 3] := (by decide +kernel : ∀ t : Fin grid0.N, _)

/-- The gated vectors against a layer's weights. -/
def prod (a : FVec Ideal S8x2048 .f32) (w : FVec Ideal S4x2048x1536 .f32) : FVec Ideal S4x8x1536 .f32 :=
  fun i => ∑ k : Fin 2048, (a (ix2 (i 1) k) * Cert.Sig.gate (a (ix2 (i 1) k))) * w (ix3 (i 0) k (i 2))

/-- The offsets of a whole block are zero. -/
theorem zero2 : (![0, 0] : Fin 2 → ℕ) = fun _ => 0 := by funext i; fin_cases i <;> rfl
/-- The offsets of a whole block of one layer are zero. -/
theorem zero3 : (![0, 0, 0] : Fin 3 → ℕ) = fun _ => 0 := by funext i; fin_cases i <;> rfl

/-- A block of the result at an entry. -/
theorem out_at (x0 : Vec Ideal S8x2048 .f32) (x1 : Vec Ideal S1x2048x512 .f32) (r : Fin 8) (k : Fin 512) :
    out0_2 x0 x1 (ix3 0 r k) = ∑ j : Fin 2048, ((x0 (ix2 r j) * Cert.Sig.gate (x0 (ix2 r j))) * x1 (ix3 0 j k) : EReal) := by
  unfold out0_2
  rw [View.canon_unit_zero zero3, View.ld_unit_zero zero2, View.ld_unit_zero zero3]
  unfold k0_pay1
  pointwise [Cert.Sig.sig_eq]

variable (m : (ℓ : Loc nD τ sig) → Buf (Elt Ideal) ℓ) (c : Dev nD)

/-- The grid has twelve points. -/
theorem point_lt (t : Fin cfg0.N) : t.val < 12 := lt_of_lt_of_eq t.isLt N_0

/-- The vectors at a point. -/
theorem blk0_at (t : Fin cfg0.N) (r : Fin 8) (k : Fin 2048) :
    iblk m c 0 t (ix2 r k) = m ((c : Thread nD τ).loc main_arg0) (ix2 r k) := by
  blk_ext [iblk, V, idx0]

/-- The block of a layer's weights at a point. -/
theorem blk1_at (t : Fin cfg0.N) (r : Fin 2048) (k : Fin 512) :
    iblk m c 1 t (ix3 0 r k) = m ((c : Thread nD τ).loc main_arg1)
      (ix3 ⟨t.val / 3, by have := point_lt t; omega⟩ r ⟨t.val % 3 * 512 + k.val, by omega⟩) := by
  blk_ext [iblk, V, idx1]

/-- The whole result. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ (r : Fin 8) (k : Fin 512), y = ix3 (0 : Fin 1) r k :=
    ⟨y 1, y 2, (eq_ix3 y).trans (by congr 1; exact Subsingleton.elim _ _)⟩
  refine (out_at _ _ r k).trans ?_
  have ht := point_lt t
  have e : (win0_2.blk t).view.emb (ix3 (0 : Fin 1) r k)
      = (ix3 ⟨t.val / 3, by omega⟩ r ⟨t.val % 3 * 512 + k.val, by omega⟩ : S4x8x1536.Idx) := by
    blk_ext [idx2]
  rw [e]
  exact Finset.sum_congr rfl fun j _ => by rw [blk0_at, blk1_at]; rfl

end Cert.MpIdeal

namespace Cert.Proof

open Idealize.ShloMosaic Idealize.SL.Sem Idealize.ShloMosaic.TcCoe

/-- The bodies that the grid calls have the same text in both printed programs. -/
theorem mp_defs₀ : @Cert.Mp.defs₀ Bits _ Cert.Mp.Gen.facts = @Cert.MpIdeal.defs₀ Bits _ Cert.MpIdeal.Gen.facts := by
  unfold Cert.Mp.defs₀ Cert.MpIdeal.defs₀
  refine congrArg Defs.onTc ?_
  funext l a
  match l, a with
  | ⟨0, _⟩, (t, s) => rfl

/-- The frame of the call as printed: the run of the idealized text, read at the machine's floats. -/
theorem frame_mp : Cert.quiescent_Mp := fun m ρ _ => by
  have h := Cert.MpIdeal.Gen.frame (F := Bits) m ρ
  rw [show Cert.MpIdeal.defs (F := Bits) = Cert.Mp.defs from (congrArg (Pipeline.defs Cert.MpIdeal.pcfgs) mp_defs₀).symm] at h
  exact h

/-- The frame of the idealized call. -/
theorem frame_mpIdeal : Cert.quiescent_MpIdeal := fun m ρ _ => Cert.MpIdeal.Gen.frame m ρ

/-- The frame of its reference. -/
theorem frame_mpRef : Cert.quiescent_MpRefIdeal := fun m ρ _ =>
  (θ_run Cert.MpRefIdeal.defs _ _).mono
    (fun r h => ⟨fun c => (h c).2, sem_eq_zero_of_no_sems rfl r.2⟩)
    (Cert.MpRefIdeal.Value.run (F := Ideal) m ρ)

/-- The call computes what its reference does. -/
theorem equal_mp : Cert.algebraic_MpIdeal_MpRefIdeal := fun m ρ m' ρ' _ ha => by
  refine ⟨_, (θ_run _ _ _).mono (fun r h c => ⟨(h c).1.trans (Cert.MpIdeal.whole m c), (h c).2⟩) (Cert.MpIdeal.Value.run_blocks m ρ),
    (θ_run _ _ _).mono (fun r h c => ⟨(h c).1.trans ?_, (h c).2⟩) (Cert.MpRefIdeal.Value.run (F := Ideal) m' ρ')⟩
  rw [(ha c).1, (ha c).2]
  funext i
  obtain ⟨l, r, k, rfl⟩ : ∃ (l : Fin 4) (r : Fin 8) (k : Fin 1536), i = ix3 l r k := ⟨i 0, i 1, i 2, eq_ix3 i⟩
  pointwise [Cert.MpIdeal.prod, Cert.Sig.gate]
  exact Finset.sum_congr rfl fun j _ => mul_comm _ _

end Cert.Proof

end
-- ==== Proof.LbEqual.lean ====
module

public import proofs.«01_k».proof.Defs
public import proofs.«01_k».proof.Proof.Inputs
public import proofs.«01_k».proof.Proof.Gen.LbIdeal.Value
public import proofs.«01_k».proof.Proof.Gen.LbRefIdeal.Run
public import proofs.«01_k».proof.Proof.Gen.Lb
public import Idealize.ShloMosaic.Lib.Pointwise
public import Idealize.ShloMosaic.Lib.Pipeline.ValueKit.Geometry
public import Idealize.ShloMosaic.Lib.Quiescent
public import Idealize.ShloMosaic.Lib.Pipeline.ValueKit.Tiles
public import Idealize.ShloMosaic.Lib.Routing.OpsOne

/-! The lower bounds of every layer: the running sums of the softmax over the layers. -/

@[expose] public section

set_option maxRecDepth 16384

noncomputable section

namespace Cert.Pre_bounds_are_real

open Idealize.ShloMosaic

/-- The side conditions of the precondition's operations. -/
theorem facts : Facts where
  bcast_S_S4x1024 := by decide

attribute [local instance] facts

/-- Where the precondition answers one throughout, the bounds are real. -/
theorem held {x : FVec Ideal S4x1024 .f32} (h : fn x = fun _ => 1#1) (l : Fin 4) (k : Fin 1024) :
    x (ix2 l k) = ((x (ix2 l k) : EReal).toReal : EReal) := by
  have := congrFun h (ix2 l k)
  unfold fn at this; dsimp only at this
  pointwise [] at this
  exact Cert.Pre_inputs_are_real.real_of_lt this

end Cert.Pre_bounds_are_real

namespace Cert.LbIdeal

open Cert.LbIdeal.Gen Idealize.ShloMosaic Idealize.ShloMosaic.TcCoe Idealize.SL.Sem

/-- The greatest of a column. -/
def top (b : Fin 4 → EReal) : EReal := Finset.univ.fold max (Ideal.ofBits .f32 0xFF800000#32) b

/-- The softmax of a column at a layer. -/
def soft (b : Fin 4 → EReal) (l : Fin 4) : EReal := Ideal.div (Ideal.exp (b l - top b)) (∑ n : Fin 4, Ideal.exp (b n - top b))

/-- The sums of a column up to each layer. -/
def part (b : Fin 4 → EReal) : Fin 4 → EReal := ![b 0, b 0 + b 1, b 0 + b 1 + b 2, b 0 + b 1 + b 2 + b 3]

/-- The sums of a column from the second layer up to each layer. -/
def tail (b : Fin 4 → EReal) : Fin 4 → EReal := ![0, 0 + b 1, 0 + b 1 + b 2, 0 + b 1 + b 2 + b 3]

/-- The word that the greatest starts from is the least of all. -/
theorem least : Ideal.ofBits .f32 0xFF800000#32 = ⊥ := by simp [Ideal.ofBits, Ideal.ieee]

/-- The softmax of real numbers is real. -/
theorem soft_real {b : Fin 4 → EReal} (h : ∀ l, b l = ((b l).toReal : EReal)) (l : Fin 4) : soft b l = ((soft b l).toReal : EReal) := by
  have ht : top b = ((top b).toReal : EReal) := by
    refine (EReal.coe_toReal (fun e => ?_) (fun e => ?_)).symm
    · have : top b < ⊤ := by
        unfold top
        rw [Finset.fold_max_lt, least]
        exact ⟨bot_lt_top, fun n _ => by rw [h n]; exact EReal.coe_lt_top _⟩
      exact absurd e this.ne
    · have : b 0 ≤ top b := (Finset.le_fold_max _).mpr (.inr ⟨0, Finset.mem_univ _, le_rfl⟩)
      rw [e, h 0] at this
      exact absurd (le_bot_iff.mp this) (EReal.coe_ne_bot _)
  have he : ∀ n, Ideal.exp (b n - top b) = ((Real.exp ((b n).toReal - (top b).toReal) : ℝ) : EReal) := fun n => by
    rw [h n, ht, ← EReal.coe_sub, Ideal.exp_coe]
    rfl
  unfold soft
  simp only [he, Fin.sum_univ_four, ← EReal.coe_add]
  rw [Ideal.div_coe (by positivity), ← EReal.coe_mul, EReal.toReal_coe]

/-- Of real numbers, the sums less the first number are the sums from the second on. -/
theorem part_sub {b : Fin 4 → EReal} (h : ∀ l, b l = ((b l).toReal : EReal)) (l : Fin 4) : part b l - b 0 = tail b l := by
  obtain ⟨r, rfl⟩ : ∃ r : Fin 4 → ℝ, b = fun l => (r l : EReal) := ⟨fun l => (b l).toReal, funext h⟩
  unfold part tail
  fin_cases l <;> simp only [Fin.mk_one, Fin.zero_eta, Fin.reduceFinMk, Matrix.cons_val, zero_add, ← EReal.coe_add, ← EReal.coe_sub, ← EReal.coe_zero] <;>
    exact congrArg _ (by ring)

/-- The softmax of the bounds, as the kernel forms it, at an entry. -/
theorem pay_at (x : Vec Ideal S4x1024 .f32) (l : Fin 4) (k : Fin 1024) : k0_pay1 x (ix2 l k) = soft (fun n => x (ix2 n k)) l := by
  unfold k0_pay1 soft top
  pointwise []

/-- The kernel's result at an entry: its four rows are stored one by one. -/
theorem out_at (x : Vec Ideal S4x1024 .f32) (l : Fin 4) (k : Fin 1024) : Value.G1 x (ix2 l k) = tail (soft fun n => x (ix2 n k)) l := by
  have row : ∀ (o : Fin 4) (w : FVec Ideal S1x1024 .f32), w (ix2 0 k) = tail (soft fun n => x (ix2 n k)) o →
      View.TileAt (Val := Elt Ideal) (e := .f32) (ix2 l k : S4x1024.Idx) ![o.val, 0] S1x1024.size w (tail (soft fun n => x (ix2 n k)) l) := fun o w hw y hy => by
    have h0 : l.val = o.val + (y 0).val := hy 0
    have h1 : k.val = 0 + (y 1).val := hy 1
    have z : y 0 = (0 : Fin 1) := Subsingleton.elim (α := Fin 1) _ _
    obtain rfl : l = o := Fin.ext (by rw [h0, z]; rfl)
    refine Eq.trans (congrArg w ?_) hw
    refine (eq_ix2 y).trans ?_
    rw [z]
    exact congrArg (ix2 (0 : Fin 1)) (Fin.ext (by omega))
  refine View.canon_eq_of_allAt _ _ _ (View.cover_of_tiled_head _ _ _ (by rfl) _) ?_
  refine View.allAt_cons_unit _ _ _ _ _ (row 3 _ ?_) (View.allAt_cons_unit _ _ _ _ _ (row 2 _ ?_)
    (View.allAt_cons_unit _ _ _ _ _ (row 1 _ ?_) (View.allAt_cons_unit _ _ _ _ _ (row 0 _ ?_) fun _ h => absurd h List.not_mem_nil)))
  · unfold k0_pay5 k0_pay4 k0_pay3 k0_pay2 tail
    pointwise [pay_at]
  · unfold k0_pay4 k0_pay3 k0_pay2 tail
    pointwise [pay_at]
  · unfold k0_pay3 k0_pay2 tail
    pointwise [pay_at]
  · unfold k0_pay2 tail
    pointwise []

end Cert.LbIdeal

namespace Cert.LbRefIdeal

open Cert.LbIdeal Idealize.ShloMosaic

/-- The running sums over the layers at an entry. -/
theorem sums_at (y : FVec Ideal S4x1024 .f32) (z : FVec Ideal S_ .f32) (h : S4x1024.ReduceWindows ![4, 1] ![1, 1] ![3, 0] ![0, 0] S4x1024)
    (hu : 0 < S_.numel) (hz : z (Shape.Idx.first hu) = (0 : EReal)) (l : Fin 4) (k : Fin 1024) :
    Host.reduceWindowAdd (F := Ideal) (φ := .f32) ![4, 1] ![1, 1] ![3, 0] ![0, 0] y z h hu (ix2 l k) = part (fun n => y (ix2 n k)) l := by
  unfold Host.reduceWindowAdd
  rw [Ideal.hostReduceWindowAdd_def]
  unfold Ideal.hostReduceWindowAdd Host.reduceWindow
  have e : List.finRange (⟨S4x1024.rank, ![4, 1]⟩ : Shape).numel = [⟨0, by decide⟩, ⟨1, by decide⟩, ⟨2, by decide⟩, ⟨3, by decide⟩] := by decide
  have hs : ∀ n : Fin 4, (⟨S4x1024.rank, ![4, 1]⟩ : Shape).rowMajor.symm n = (ix2 n (0 : Fin 1) : (⟨2, ![4, 1]⟩ : Shape).Idx) :=
    fun n => Routing.symm_col (R := 4) n
  have hy : ∀ (i : S4x1024.Idx) (n : Fin 4), (i 0).val = n.val → (i 1).val = k.val * 1 + 0 - 0 → y i = y (ix2 n k) := fun i n h0 h1 => by
    obtain rfl : i 0 = n := Fin.ext h0
    obtain rfl : i 1 = k := Fin.ext (by omega)
    exact congrArg y (eq_ix2 i)
  dsimp only
  rw [e, hz]
  simp only [List.foldl]
  fin_cases l <;> pointwise [hs, part] <;> simp <;> (repeat' apply congrArg₂ (· + ·)) <;> exact hy _ _ rfl rfl

/-- The greatest of a column, as the reference takes it. -/
theorem top_at (x : FVec Ideal S4x1024 .f32) (h : S4x1024.ReducesTo [0] S1024) (k : Fin 1024) :
    (Finset.univ.filter fun i => h.drop i = ix1 k).fold max (Ideal.ofBits .f32 0xFF800000#32) x = top (fun n => x (ix2 n k)) := by
  have e : Host.reduce FloatOps.maximumf x (constant S_ .f32 0xFF800000#32) h (by decide) (ix1 k) = top (fun n => x (ix2 n k)) := by
    unfold top
    pointwise []
  rw [← e, Host.reduce_eq_fold]
  rfl

end Cert.LbRefIdeal

namespace Cert.Proof

open Idealize.ShloMosaic Idealize.SL.Sem Idealize.ShloMosaic.TcCoe

/-- The bodies that the grid calls have the same text in both printed programs. -/
theorem lb_defs₀ : @Cert.Lb.defs₀ Bits _ Cert.Lb.Gen.facts = @Cert.LbIdeal.defs₀ Bits _ Cert.LbIdeal.Gen.facts := by
  unfold Cert.Lb.defs₀ Cert.LbIdeal.defs₀
  refine congrArg Defs.onTc ?_
  funext l a
  match l, a with
  | ⟨0, _⟩, (t, s) => rfl

/-- The frame of the call as printed: the run of the idealized text, read at the machine's floats. -/
theorem frame_lb : Cert.quiescent_Lb := fun m ρ _ => by
  have h := Cert.LbIdeal.Gen.frame (F := Bits) m ρ
  rw [show Cert.LbIdeal.defs (F := Bits) = Cert.Lb.defs from (congrArg (Pipeline.defs Cert.LbIdeal.pcfgs) lb_defs₀).symm] at h
  exact h

/-- The frame of the idealized call. -/
theorem frame_lbIdeal : Cert.quiescent_LbIdeal := fun m ρ _ => Cert.LbIdeal.Gen.frame m ρ

/-- The frame of its reference. -/
theorem frame_lbRef : Cert.quiescent_LbRefIdeal := fun m ρ _ =>
  (θ_run Cert.LbRefIdeal.defs _ _).mono
    (fun r h => ⟨fun c => (h c).2, sem_eq_zero_of_no_sems rfl r.2⟩)
    (Cert.LbRefIdeal.Value.run (F := Ideal) m ρ)

attribute [local instance] Cert.Pre_bounds_are_real.facts

/-- The frame of the idealized call, where the bounds are real. -/
theorem frame_lbIdeal_real : Cert.quiescent_LbIdeal_pre_bounds_are_real := fun m ρ _ => frame_lbIdeal m ρ trivial

/-- The frame of its reference, where the bounds are real. -/
theorem frame_lbRef_real : Cert.quiescent_LbRefIdeal_pre_bounds_are_real := fun m ρ _ => frame_lbRef m ρ trivial

/-- Where the bounds are real, the call computes what its reference does. -/
theorem equal_lb : Cert.algebraic_LbIdeal_LbRefIdeal_pre_bounds_are_real := fun m ρ m' ρ' hp ha => by
  refine ⟨_, Cert.LbIdeal.Value.run m ρ,
    (θ_run _ _ _).mono (fun r h c => ⟨(h c).1.trans ?_, (h c).2⟩) (Cert.LbRefIdeal.Value.run (F := Ideal) m' ρ')⟩
  have hb := Cert.Pre_bounds_are_real.held (hp c)
  rw [ha c]
  clear h r
  generalize m ((c.tc : Thread Cert.LbIdeal.nD Cert.LbIdeal.τ).loc Cert.LbIdeal.main_arg0) = x at hb ⊢
  change FVec Ideal Cert.LbRefIdeal.S4x1024 .f32 at x
  funext i
  obtain ⟨l, k, rfl⟩ : ∃ (l : Fin 4) (k : Fin 1024), i = ix2 l k := ⟨i 0, i 1, eq_ix2 i⟩
  rw [Cert.LbIdeal.out_at, ← Cert.LbIdeal.part_sub (Cert.LbIdeal.soft_real fun n => hb n k)]
  rw [subf_apply, Cert.LbRefIdeal.sums_at _ _ _ _ (by pointwise [])]
  refine congrArg₂ (· - ·) (congrArg (Cert.LbIdeal.part · l) (funext fun n => ?_)) ?_ <;>
  · pointwise [Cert.LbIdeal.soft]
    erw [Cert.LbRefIdeal.top_at]
    rw [Cert.LbIdeal.least, max_eq_right bot_le]

end Cert.Proof

end
-- ==== Proof.NfEqual.lean ====
module

public import proofs.«01_k».proof.Defs
public import proofs.«01_k».proof.Proof.Gen.NfIdeal.Value
public import proofs.«01_k».proof.Proof.Gen.NfRefIdeal.Run
public import proofs.«01_k».proof.Proof.Gen.Nf
public import proofs.«01_k».proof.Proof.PbEqual
public import Idealize.ShloMosaic.Lib.Tactic
public import Idealize.ShloMosaic.Lib.Pointwise
public import Idealize.ShloMosaic.Lib.Pipeline.ValueKit.Geometry
public import Idealize.ShloMosaic.Lib.Quiescent

/-! The norm before a layer, with its scale and its shift. -/

@[expose] public section

set_option maxRecDepth 16384

noncomputable section

namespace Cert.NfIdeal

open Cert.PbIdeal (orow factor)
open Cert.NfIdeal.Gen Cert.GradPart Idealize.ShloMosaic Idealize.ShloMosaic.TcCoe Idealize.SL.Sem

/-- The block that window 0 has at a point. -/
theorem idx0 : ∀ t : Fin cfg0.N, win0_0.index t = ![t.val, 0] := (by decide +kernel : ∀ t : Fin grid0.N, _)
/-- The block that window 1 has at a point. -/
theorem idx1 : ∀ t : Fin cfg0.N, win0_1.index t = ![0, 0] := (by decide +kernel : ∀ t : Fin grid0.N, _)
/-- The block that window 2 has at a point. -/
theorem idx2 : ∀ t : Fin cfg0.N, win0_2.index t = ![0, 0] := (by decide +kernel : ∀ t : Fin grid0.N, _)
/-- The block that window 3 has at a point. -/
theorem idx3 : ∀ t : Fin cfg0.N, win0_3.index t = ![0, 0] := (by decide +kernel : ∀ t : Fin grid0.N, _)
/-- The block that window 4 has at a point. -/
theorem idx4 : ∀ t : Fin cfg0.N, win0_4.index t = ![t.val, 0] := (by decide +kernel : ∀ t : Fin grid0.N, _)

/-- An entry of the normed and modulated rows. -/
def entry {n : ℕ} (x0 : (⟨2, ![n, 2048]⟩ : Shape).Idx → EReal) (x1 x2 x3 : (⟨2, ![1, 2048]⟩ : Shape).Idx → EReal) (r : Fin n) (k : Fin 2048) : EReal :=
  x0 (ix2 r k) * factor x0 r * x1 (ix2 0 k) * (1 + x2 (ix2 0 k)) + x3 (ix2 0 k)

variable (x0 : Vec Ideal S256x2048 .f32) (x1 x2 x3 : Vec Ideal S1x2048 .f32)

/-- A block of the result. -/
theorem out4_at (r : Fin 256) (k : Fin 2048) : out0_4 x0 x1 x2 x3 (ix2 r k) = entry x0 x1 x2 x3 r k := by
  unfold out0_4
  rw [View.canon_unit_zero zero2]
  repeat rw [View.ld_unit_zero zero2]
  unfold k0_pay1 entry factor Cert.Norm.scale Cert.Norm.meanSq
  rw [← Cert.Norm.row_eq, ← Cert.Norm.eps_eq]
  pointwise [orow, Cert.Norm.one_eq]

variable (m : (ℓ : Loc nD τ sig) → Buf (Elt Ideal) ℓ) (c : Dev nD)

/-- The row of the arrays at a row of a point's block. -/
def row (t : Fin cfg0.N) (r : Fin 256) : Fin 8192 := ⟨t.val * 256 + r.val, by have := lt_of_lt_of_eq t.isLt N_0; omega⟩

/-- The value of `row`. -/
theorem row_val (t : Fin cfg0.N) (r : Fin 256) : (row t r).val = t.val * 256 + r.val := rfl

/-- A point's rows are the array's. -/
theorem rows_at (t : Fin cfg0.N) (r : Fin 256) (k : Fin 2048) : iblk m c 0 t (ix2 r k) = m ((c : Thread nD τ).loc main_arg0) (ix2 (row t r) k) := by
  blk_ext [iblk, V, idx0, row_val]
/-- A point's gain is the array's. -/
theorem gain_at (t : Fin cfg0.N) (k : Fin 2048) : iblk m c 1 t (ix2 0 k) = m ((c : Thread nD τ).loc main_arg1) (ix2 0 k) := by
  blk_ext [iblk, V, idx1]
/-- A point's scale is the array's. -/
theorem scale_at (t : Fin cfg0.N) (k : Fin 2048) : iblk m c 2 t (ix2 0 k) = m ((c : Thread nD τ).loc main_arg2) (ix2 0 k) := by
  blk_ext [iblk, V, idx2]
/-- A point's shift is the array's. -/
theorem shift_at (t : Fin cfg0.N) (k : Fin 2048) : iblk m c 3 t (ix2 0 k) = m ((c : Thread nD τ).loc main_arg3) (ix2 0 k) := by
  blk_ext [iblk, V, idx3]

/-- A row's factor in a point's block is the array's. -/
theorem factor_at (t : Fin cfg0.N) (r : Fin 256) : factor (iblk m c 0 t) r = factor (m ((c : Thread nD τ).loc main_arg0)) (row t r) :=
  congrArg (Cert.Norm.scale _ _) (funext fun k => rows_at m c t r k)

/-- The result, whole. -/
def whole (x0 : FVec Ideal S8192x2048 .f32) (x1 x2 x3 : FVec Ideal S1x2048 .f32) : FVec Ideal S8192x2048 .bf16 := fun i =>
  entry x0 x1 x2 x3 (i 0) (i 1)

/-- The blocks make up the result. -/
theorem whole4 : (dats m 0 c).arrAt 4 cfg0.N = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, k, rfl⟩ : ∃ (r : Fin 256) (k : Fin 2048), y = ix2 r k := ⟨y 0, y 1, eq_ix2 y⟩
  have e : (win0_4.blk t).view.emb (ix2 r k) = (ix2 (row t r) k : S8192x2048.Idx) := by blk_ext [idx4, row_val]
  rw [e]
  refine (out4_at _ _ _ _ r k).trans ?_
  unfold entry
  rw [rows_at, factor_at, gain_at, scale_at, shift_at]
  rfl

end Cert.NfIdeal

namespace Cert.Proof

open Idealize.ShloMosaic Idealize.SL.Sem Idealize.ShloMosaic.TcCoe

/-- The bodies that the grid calls have the same text in both printed programs. -/
theorem nf_defs₀ : @Cert.Nf.defs₀ Bits _ Cert.Nf.Gen.facts = @Cert.NfIdeal.defs₀ Bits _ Cert.NfIdeal.Gen.facts := by
  unfold Cert.Nf.defs₀ Cert.NfIdeal.defs₀
  refine congrArg Defs.onTc ?_
  funext l a
  match l, a with
  | ⟨0, _⟩, (t, s) => rfl

/-- The frame of the call as printed: the run of the idealized text, read at the machine's floats. -/
theorem frame_nf : Cert.quiescent_Nf := fun m ρ _ => by
  have h := Cert.NfIdeal.Gen.frame (F := Bits) m ρ
  rw [show Cert.NfIdeal.defs (F := Bits) = Cert.Nf.defs from (congrArg (Pipeline.defs Cert.NfIdeal.pcfgs) nf_defs₀).symm] at h
  exact h

/-- The frame of the idealized call. -/
theorem frame_nfIdeal : Cert.quiescent_NfIdeal := fun m ρ _ => Cert.NfIdeal.Gen.frame m ρ

/-- The frame of its reference. -/
theorem frame_nfRef : Cert.quiescent_NfRefIdeal := fun m ρ _ =>
  (θ_run Cert.NfRefIdeal.defs _ _).mono
    (fun r h => ⟨fun c => (h c).2, sem_eq_zero_of_no_sems rfl r.2⟩)
    (Cert.NfRefIdeal.Value.run (F := Ideal) m ρ)

/-- The call computes what its reference does. -/
theorem equal_nf : Cert.algebraic_NfIdeal_NfRefIdeal := fun m ρ m' ρ' _ ha => by
  refine ⟨_, (θ_run _ _ _).mono (fun r h c => ⟨(h c).1.trans (Cert.NfIdeal.whole4 m c), (h c).2⟩) (Cert.NfIdeal.Value.run_blocks m ρ),
    (θ_run _ _ _).mono (fun r h c => ⟨(h c).1.trans ?_, (h c).2⟩) (Cert.NfRefIdeal.Value.run (F := Ideal) m' ρ')⟩
  rw [(ha c).1, (ha c).2.1, (ha c).2.2.1, (ha c).2.2.2]
  funext i
  obtain ⟨r, k, rfl⟩ : ∃ (r : Fin 8192) (k : Fin 2048), i = ix2 r k := ⟨i 0, i 1, eq_ix2 i⟩
  unfold Cert.NfIdeal.whole Cert.NfIdeal.entry Cert.PbIdeal.factor Cert.Norm.scale Cert.Norm.meanSq
  rw [← Cert.Norm.row_eq, ← Cert.Norm.eps_eq]
  pointwise [Cert.PbIdeal.orow, Cert.Norm.one_eq]

end Cert.Proof

end
-- ==== Proof.PfEqual.lean ====
module

public import proofs.«01_k».proof.Defs
public import proofs.«01_k».proof.Proof.Gen.PfIdeal.Value
public import proofs.«01_k».proof.Proof.Gen.PfRefIdeal.Run
public import proofs.«01_k».proof.Proof.Gen.Pf
public import proofs.«01_k».proof.Proof.PbEqual
public import Idealize.ShloMosaic.Lib.Tactic
public import Idealize.ShloMosaic.Lib.Pointwise
public import Idealize.ShloMosaic.Lib.Pipeline.ValueKit.Geometry
public import Idealize.ShloMosaic.Lib.Quiescent

/-! The norm after a layer, its gate and the residual sum. -/

@[expose] public section

set_option maxRecDepth 16384

noncomputable section

namespace Cert.PfIdeal

open Cert.PbIdeal (orow factor)
open Cert.PfIdeal.Gen Cert.GradPart Idealize.ShloMosaic Idealize.ShloMosaic.TcCoe Idealize.SL.Sem

/-- The block that window 0 has at a point. -/
theorem idx0 : ∀ t : Fin cfg0.N, win0_0.index t = ![t.val, 0] := (by decide +kernel : ∀ t : Fin grid0.N, _)
/-- The block that window 1 has at a point. -/
theorem idx1 : ∀ t : Fin cfg0.N, win0_1.index t = ![t.val, 0] := (by decide +kernel : ∀ t : Fin grid0.N, _)
/-- The block that window 2 has at a point. -/
theorem idx2 : ∀ t : Fin cfg0.N, win0_2.index t = ![0, 0] := (by decide +kernel : ∀ t : Fin grid0.N, _)
/-- The block that window 3 has at a point. -/
theorem idx3 : ∀ t : Fin cfg0.N, win0_3.index t = ![0, 0] := (by decide +kernel : ∀ t : Fin grid0.N, _)
/-- The block that window 4 has at a point. -/
theorem idx4 : ∀ t : Fin cfg0.N, win0_4.index t = ![t.val, 0] := (by decide +kernel : ∀ t : Fin grid0.N, _)

/-- An entry of the layer's result. -/
def entry {n : ℕ} (x0 x1 : (⟨2, ![n, 2048]⟩ : Shape).Idx → EReal) (x2 x3 : (⟨2, ![1, 2048]⟩ : Shape).Idx → EReal) (r : Fin n) (k : Fin 2048) : EReal :=
  x0 (ix2 r k) + x2 (ix2 0 k) * (x1 (ix2 r k) * factor x1 r * x3 (ix2 0 k))

variable (x0 x1 : Vec Ideal S256x2048 .f32) (x2 x3 : Vec Ideal S1x2048 .f32)

/-- A block of the result. -/
theorem out4_at (r : Fin 256) (k : Fin 2048) : out0_4 x0 x1 x2 x3 (ix2 r k) = entry x0 x1 x2 x3 r k := by
  unfold out0_4
  rw [View.canon_unit_zero zero2]
  repeat rw [View.ld_unit_zero zero2]
  unfold k0_pay1 entry factor Cert.Norm.scale Cert.Norm.meanSq
  rw [← Cert.Norm.row_eq, ← Cert.Norm.eps_eq]
  pointwise [orow, Cert.Norm.one_eq]

variable (m : (ℓ : Loc nD τ sig) → Buf (Elt Ideal) ℓ) (c : Dev nD)

/-- The row of the arrays at a row of a point's block. -/
def row (t : Fin cfg0.N) (r : Fin 256) : Fin 8192 := ⟨t.val * 256 + r.val, by have := lt_of_lt_of_eq t.isLt N_0; omega⟩

/-- The value of `row`. -/
theorem row_val (t : Fin cfg0.N) (r : Fin 256) : (row t r).val = t.val * 256 + r.val := rfl

/-- A point's rows of the layer's input are the array's. -/
theorem before_at (t : Fin cfg0.N) (r : Fin 256) (k : Fin 2048) : iblk m c 0 t (ix2 r k) = m ((c : Thread nD τ).loc main_arg0) (ix2 (row t r) k) := by
  blk_ext [iblk, V, idx0, row_val]
/-- A point's rows are the array's. -/
theorem rows_at (t : Fin cfg0.N) (r : Fin 256) (k : Fin 2048) : iblk m c 1 t (ix2 r k) = m ((c : Thread nD τ).loc main_arg1) (ix2 (row t r) k) := by
  blk_ext [iblk, V, idx1, row_val]
/-- A point's gate is the array's. -/
theorem gate_at (t : Fin cfg0.N) (k : Fin 2048) : iblk m c 2 t (ix2 0 k) = m ((c : Thread nD τ).loc main_arg2) (ix2 0 k) := by
  blk_ext [iblk, V, idx2]
/-- A point's gain is the array's. -/
theorem gain_at (t : Fin cfg0.N) (k : Fin 2048) : iblk m c 3 t (ix2 0 k) = m ((c : Thread nD τ).loc main_arg3) (ix2 0 k) := by
  blk_ext [iblk, V, idx3]

/-- A row's factor in a point's block is the array's. -/
theorem factor_at (t : Fin cfg0.N) (r : Fin 256) : factor (iblk m c 1 t) r = factor (m ((c : Thread nD τ).loc main_arg1)) (row t r) :=
  congrArg (Cert.Norm.scale _ _) (funext fun k => rows_at m c t r k)

/-- The result, whole. -/
def whole (x0 x1 : FVec Ideal S8192x2048 .f32) (x2 x3 : FVec Ideal S1x2048 .f32) : FVec Ideal S8192x2048 .f32 := fun i =>
  entry x0 x1 x2 x3 (i 0) (i 1)

/-- The blocks make up the result. -/
theorem whole4 : (dats m 0 c).arrAt 4 cfg0.N = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, k, rfl⟩ : ∃ (r : Fin 256) (k : Fin 2048), y = ix2 r k := ⟨y 0, y 1, eq_ix2 y⟩
  have e : (win0_4.blk t).view.emb (ix2 r k) = (ix2 (row t r) k : S8192x2048.Idx) := by blk_ext [idx4, row_val]
  rw [e]
  refine (out4_at _ _ _ _ r k).trans ?_
  unfold entry
  rw [before_at, gate_at, rows_at, factor_at, gain_at]
  rfl

end Cert.PfIdeal

namespace Cert.Proof

open Idealize.ShloMosaic Idealize.SL.Sem Idealize.ShloMosaic.TcCoe

/-- The bodies that the grid calls have the same text in both printed programs. -/
theorem pf_defs₀ : @Cert.Pf.defs₀ Bits _ Cert.Pf.Gen.facts = @Cert.PfIdeal.defs₀ Bits _ Cert.PfIdeal.Gen.facts := by
  unfold Cert.Pf.defs₀ Cert.PfIdeal.defs₀
  refine congrArg Defs.onTc ?_
  funext l a
  match l, a with
  | ⟨0, _⟩, (t, s) => rfl

/-- The frame of the call as printed: the run of the idealized text, read at the machine's floats. -/
theorem frame_pf : Cert.quiescent_Pf := fun m ρ _ => by
  have h := Cert.PfIdeal.Gen.frame (F := Bits) m ρ
  rw [show Cert.PfIdeal.defs (F := Bits) = Cert.Pf.defs from (congrArg (Pipeline.defs Cert.PfIdeal.pcfgs) pf_defs₀).symm] at h
  exact h

/-- The frame of the idealized call. -/
theorem frame_pfIdeal : Cert.quiescent_PfIdeal := fun m ρ _ => Cert.PfIdeal.Gen.frame m ρ

/-- The frame of its reference. -/
theorem frame_pfRef : Cert.quiescent_PfRefIdeal := fun m ρ _ =>
  (θ_run Cert.PfRefIdeal.defs _ _).mono
    (fun r h => ⟨fun c => (h c).2, sem_eq_zero_of_no_sems rfl r.2⟩)
    (Cert.PfRefIdeal.Value.run (F := Ideal) m ρ)

/-- The call computes what its reference does. -/
theorem equal_pf : Cert.algebraic_PfIdeal_PfRefIdeal := fun m ρ m' ρ' _ ha => by
  refine ⟨_, (θ_run _ _ _).mono (fun r h c => ⟨(h c).1.trans (Cert.PfIdeal.whole4 m c), (h c).2⟩) (Cert.PfIdeal.Value.run_blocks m ρ),
    (θ_run _ _ _).mono (fun r h c => ⟨(h c).1.trans ?_, (h c).2⟩) (Cert.PfRefIdeal.Value.run (F := Ideal) m' ρ')⟩
  rw [(ha c).1, (ha c).2.1, (ha c).2.2.1, (ha c).2.2.2]
  funext i
  obtain ⟨r, k, rfl⟩ : ∃ (r : Fin 8192) (k : Fin 2048), i = ix2 r k := ⟨i 0, i 1, eq_ix2 i⟩
  unfold Cert.PfIdeal.whole Cert.PfIdeal.entry Cert.PbIdeal.factor Cert.Norm.scale Cert.Norm.meanSq
  rw [← Cert.Norm.row_eq, ← Cert.Norm.eps_eq]
  pointwise [Cert.PbIdeal.orow, Cert.Norm.one_eq]

end Cert.Proof

end
-- ==== Proof.LoEqual.lean ====
module

public import proofs.«01_k».proof.Defs
public import proofs.«01_k».proof.Proof.Gen.LoIdeal.Value
public import proofs.«01_k».proof.Proof.Gen.LoRefIdeal.Run
public import proofs.«01_k».proof.Proof.Gen.Lo
public import proofs.«01_k».proof.Proof.Norm
public import proofs.«01_k».proof.Proof.GradPart
public import Idealize.ShloMosaic.Lib.Tactic
public import Idealize.ShloMosaic.Lib.Pointwise
public import Idealize.ShloMosaic.Lib.Pipeline.ValueKit.Geometry
public import Idealize.ShloMosaic.Lib.Quiescent

/-! The gradient of the loss, and the sums of its squares. -/

@[expose] public section

set_option maxRecDepth 16384

noncomputable section

namespace Cert.LoIdeal

open Cert.LoIdeal.Gen Cert.GradPart Idealize.ShloMosaic Idealize.ShloMosaic.TcCoe Idealize.SL.Sem

/-- The block that window 0 has at a point. -/
theorem idx0 : ∀ t : Fin cfg0.N, win0_0.index t = ![t.val, 0] := (by decide +kernel : ∀ t : Fin grid0.N, _)
/-- The block that window 1 has at a point. -/
theorem idx1 : ∀ t : Fin cfg0.N, win0_1.index t = ![t.val, 0] := (by decide +kernel : ∀ t : Fin grid0.N, _)
/-- The block that window 2 has at a point. -/
theorem idx2 : ∀ t : Fin cfg0.N, win0_2.index t = ![t.val, 0] := (by decide +kernel : ∀ t : Fin grid0.N, _)
/-- The block that window 3 has at a point. -/
theorem idx3 : ∀ t : Fin cfg0.N, win0_3.index t = ![0, 0] := (by decide +kernel : ∀ t : Fin grid0.N, _)

/-- The bits of one part in 2048. -/
theorem part_eq : Ideal.ofBits .f32 0x3A000000#32 = ((1 / 2048 : ℝ) : EReal) := by
  simp [Ideal.ofBits, Ideal.ieee, -EReal.coe_mul]; norm_num

/-- The bits of a half. -/
theorem half_eq : Ideal.ofBits .f32 0x3F000000#32 = ((1 / 2 : ℝ) : EReal) := by
  simp [Ideal.ofBits, Ideal.ieee, -EReal.coe_mul]; norm_num

/-- The bits of two. -/
theorem two_eq : Ideal.ofBits .f32 0x40000000#32 = ((2 : ℝ) : EReal) := by
  simp [Ideal.ofBits, Ideal.ieee, -EReal.coe_mul]; norm_num

/-- The derivative of half the mean of the squares. -/
theorem grad_eq (e : EReal) : Ideal.div (((1 / 2 : ℝ) : EReal) * 1) ((2048 : ℝ) : EReal) * (((2 : ℝ) : EReal) * e) = e * ((1 / 2048 : ℝ) : EReal) := by
  rw [Ideal.div_coe (by norm_num), mul_one, ← mul_assoc, ← EReal.coe_mul, ← EReal.coe_mul, mul_comm]
  norm_num

section Body

variable {n : ℕ} (x0 x1 : (⟨2, ![n, 2048]⟩ : Shape).Idx → EReal)

/-- An entry's error. -/
def err (r : Fin n) (k : Fin 2048) : EReal := x0 (ix2 r k) - x1 (ix2 r k)

/-- A row's term of a column's sum of squares. -/
def square (k : Fin 2048) (r : Fin n) : EReal := err x0 x1 r k * err x0 x1 r k

end Body

variable (x0 x1 : Vec Ideal S256x2048 .f32) (xs : Vec Ideal S1x2048 .f32)

/-- A block of the gradient. -/
theorem pay3_at (r : Fin 256) (k : Fin 2048) : k0_pay3 x0 x1 (ix2 r k) = err x0 x1 r k * ((1 / 2048 : ℝ) : EReal) := by
  unfold k0_pay3 k0_pay2
  pointwise [err, part_eq]

/-- A block's squares, added to what is there. -/
theorem pay4_at (k : Fin 2048) : k0_pay4 x0 x1 xs (ix2 0 k) = xs (ix2 0 k) + ∑ r : Fin 256, square x0 x1 k r := by
  unfold k0_pay4 k0_pay2
  pointwise [square, err]

/-- What the first point stores first is zero. -/
theorem zero_at (k : Fin 2048) : (k0_pay1 (F := Ideal)) (ix2 0 k) = 0 := by
  unfold k0_pay1
  pointwise []

variable (m : (ℓ : Loc nD τ sig) → Buf (Elt Ideal) ℓ) (c : Dev nD)

/-- The row of the arrays at a row of a point's block. -/
def row (t : Fin cfg0.N) (r : Fin 256) : Fin 8192 := ⟨t.val * 256 + r.val, by have := lt_of_lt_of_eq t.isLt N_0; omega⟩

/-- The value of `row`. -/
theorem row_val (t : Fin cfg0.N) (r : Fin 256) : (row t r).val = t.val * 256 + r.val := rfl

/-- A point's rows of the result are the array's. -/
theorem y_at (t : Fin cfg0.N) (r : Fin 256) (k : Fin 2048) : iblk m c 0 t (ix2 r k) = m ((c : Thread nD τ).loc main_arg0) (ix2 (row t r) k) := by
  blk_ext [iblk, V, idx0, row_val]
/-- A point's rows of the target are the array's. -/
theorem target_at (t : Fin cfg0.N) (r : Fin 256) (k : Fin 2048) : iblk m c 1 t (ix2 r k) = m ((c : Thread nD τ).loc main_arg1) (ix2 (row t r) k) := by
  blk_ext [iblk, V, idx1, row_val]

/-- An error at a point is the arrays'. -/
theorem err_at (t : Fin cfg0.N) (r : Fin 256) (k : Fin 2048) : err (iblk m c 0 t) (iblk m c 1 t) r k
    = err (m ((c : Thread nD τ).loc main_arg0)) (m ((c : Thread nD τ).loc main_arg1)) (row t r) k := by
  unfold err
  rw [y_at, target_at]

/-- The first point leaves the squares of its rows. -/
theorem first3 (t : Fin cfg0.N) (h0 : t.val % 32 = 0) (k : Fin 2048) : (outsAt0 m c t.val t.isLt).2 (ix2 0 k)
    = ∑ r : Fin 256, square (iblk m c 0 t) (iblk m c 1 t) k r := by
  rw [outsAt0_A m c t h0]
  unfold out0_A_3 kernelRun0_A
  dsimp only
  sl_unfold_words
  rw [Cert.Norm.stored zero2, View.readCov_unit_zero (S := S1x2048) _ zero2, loaded zero2, loaded zero2]
  exact (pay4_at _ _ _ k).trans ((congrArg (· + _) (zero_at k)).trans (zero_add _))

/-- A later point adds the squares of its rows. -/
theorem later3 (n : ℕ) (h : n + 1 < cfg0.N) (h0 : ¬(n + 1) % 32 = 0) (k : Fin 2048) : (outsAt0 m c (n + 1) h).2 (ix2 0 k)
    = (outsAt0 m c n (Nat.lt_of_succ_lt h)).2 (ix2 0 k) + ∑ r : Fin 256, square (iblk m c 0 ⟨n + 1, h⟩) (iblk m c 1 ⟨n + 1, h⟩) k r := by
  rw [outsAt0_B m c ⟨n + 1, h⟩ h0]
  unfold out0_B_3 kernelRun0_B
  dsimp only
  rw [Cert.Norm.stored zero2, loaded zero2, loaded zero2, loaded zero2]
  exact pay4_at _ _ _ k

/-- Every point leaves its rows of the gradient. -/
theorem out2 (t : Fin cfg0.N) (r : Fin 256) (k : Fin 2048) : (outsAt0 m c t.val t.isLt).1 (ix2 r k)
    = err (iblk m c 0 t) (iblk m c 1 t) r k * ((1 / 2048 : ℝ) : EReal) := by
  by_cases h0 : t.val % 32 = 0
  · rw [outsAt0_A m c t h0]
    unfold out0_A_2 kernelRun0_A
    dsimp only
    rw [Cert.Norm.stored zero2, loaded zero2, loaded zero2]
    exact pay3_at _ _ r k
  · rw [outsAt0_B m c t h0]
    unfold out0_B_2 kernelRun0_B
    dsimp only
    rw [Cert.Norm.stored zero2, loaded zero2, loaded zero2]
    exact pay3_at _ _ r k

/-- The gradient, whole. -/
def grad (x0 x1 : FVec Ideal S8192x2048 .f32) : FVec Ideal S8192x2048 .f32 := fun i => err x0 x1 (i 0) (i 1) * ((1 / 2048 : ℝ) : EReal)

/-- The sums of squares, whole. -/
def squares (x0 x1 : FVec Ideal S8192x2048 .f32) : FVec Ideal S1x2048 .f32 := fun i => ∑ s : Fin 8192, square x0 x1 (i 1) s

/-- The gradient is whole. -/
theorem whole2 : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ (r : Fin 256) (k : Fin 2048), y = ix2 r k := ⟨y 0, y 1, eq_ix2 y⟩
  have e : (win0_2.blk t).view.emb (ix2 r k) = (ix2 (row t r) k : S8192x2048.Idx) := by blk_ext [idx2, row_val]
  rw [e]
  exact (out2 m c t r k).trans (congrArg (· * _) (err_at m c t r k))

/-- The sums of squares are whole. -/
theorem whole3 : (dats m 0 c).arrAt 3 cfg0.N = squares (m ((c : Thread nD τ).loc main_arg0)) (m ((c : Thread nD τ).loc main_arg1)) := by
  refine (dats m 0 c).arrAt_eq_of_covers 3 _ (by decide +kernel) fun t hf y => ?_
  blk_simp
  rw [after0_3]
  obtain ⟨k, rfl⟩ : ∃ (k : Fin 2048), y = ix2 0 k := ⟨y 1, (eq_ix2 y).trans (congrArg (ix2 · _) (Subsingleton.elim _ _))⟩
  have e : (win0_3.blk t).view.emb (ix2 0 k) = (ix2 0 k : S1x2048.Idx) := by blk_ext [idx3]
  rw [e]
  have term : ∀ t : Fin cfg0.N, ∑ r : Fin 256, square (iblk m c 0 t) (iblk m c 1 t) k r = ∑ r : Fin 256, square (m ((c : Thread nD τ).loc main_arg0)) (m ((c : Thread nD τ).loc main_arg1)) k (row t r) :=
    fun t => Finset.sum_congr rfl fun r _ => by unfold square; rw [err_at]
  refine Cert.Norm.total (P := cfg0.N) (w := 256) (M := 8192) (congrArg (· * 256) N_0) (square (m ((c : Thread nD τ).loc main_arg0)) (m ((c : Thread nD τ).loc main_arg1)) k)
    (fun n h => (outsAt0 m c n h).2 (ix2 0 k)) (fun h => (first3 m c ⟨0, h⟩ rfl k).trans (term _))
    (fun n h => (later3 m c n h (by have := lt_of_lt_of_eq h N_0; omega) k).trans (congrArg (_ + ·) (term _))) t.val t.isLt ?_
  have := (flush0_3 t).mp hf
  have := lt_of_lt_of_eq t.isLt N_0
  exact (by omega : t.val + 1 = 32).trans N_0.symm

end Cert.LoIdeal

namespace Cert.Proof

open Idealize.ShloMosaic Idealize.SL.Sem Idealize.ShloMosaic.TcCoe

/-- The bodies that the grid calls have the same text in both printed programs. -/
theorem lo_defs₀ : @Cert.Lo.defs₀ Bits _ Cert.Lo.Gen.facts = @Cert.LoIdeal.defs₀ Bits _ Cert.LoIdeal.Gen.facts := by
  unfold Cert.Lo.defs₀ Cert.LoIdeal.defs₀
  refine congrArg Defs.onTc ?_
  funext l a
  match l, a with
  | ⟨0, _⟩, (t, s) => rfl

/-- The frame of the call as printed: the run of the idealized text, read at the machine's floats. -/
theorem frame_lo : Cert.quiescent_Lo := fun m ρ _ => by
  have h := Cert.LoIdeal.Gen.frame (F := Bits) m ρ
  rw [show Cert.LoIdeal.defs (F := Bits) = Cert.Lo.defs from (congrArg (Pipeline.defs Cert.LoIdeal.pcfgs) lo_defs₀).symm] at h
  exact h

/-- The frame of the idealized call. -/
theorem frame_loIdeal : Cert.quiescent_LoIdeal := fun m ρ _ => Cert.LoIdeal.Gen.frame m ρ

/-- The frame of its reference. -/
theorem frame_loRef : Cert.quiescent_LoRefIdeal := fun m ρ _ =>
  (θ_run Cert.LoRefIdeal.defs _ _).mono
    (fun r h => ⟨fun c => (h c).2.2, sem_eq_zero_of_no_sems rfl r.2⟩)
    (Cert.LoRefIdeal.Value.run (F := Ideal) m ρ)

/-- The call computes what its reference does. -/
theorem equal_lo : Cert.algebraic_LoIdeal_LoRefIdeal := fun m ρ m' ρ' _ ha => by
  refine ⟨_, _, (θ_run _ _ _).mono (fun r h c => ⟨(h c).1.trans (Cert.LoIdeal.whole2 m c), (h c).2.1.trans (Cert.LoIdeal.whole3 m c), (h c).2.2⟩)
      (Cert.LoIdeal.Value.run_blocks m ρ),
    (θ_run _ _ _).mono (fun r h c => ⟨(h c).1.trans ?_, (h c).2.1.trans ?_, (h c).2.2⟩) (Cert.LoRefIdeal.Value.run (F := Ideal) m' ρ')⟩
  · rw [(ha c).1, (ha c).2]
    funext i
    obtain ⟨r, k, rfl⟩ : ∃ (r : Fin 8192) (k : Fin 2048), i = ix2 r k := ⟨i 0, i 1, eq_ix2 i⟩
    refine Eq.trans ?_ (Cert.LoIdeal.grad_eq _)
    unfold Cert.LoIdeal.err
    rw [← Cert.LoIdeal.half_eq, ← Cert.LoIdeal.two_eq, ← Cert.Norm.row_eq, ← Cert.Norm.one_eq]
    pointwise []
  · rw [(ha c).1, (ha c).2]
    funext i
    obtain ⟨k, rfl⟩ : ∃ (k : Fin 2048), i = ix2 0 k := ⟨i 1, (eq_ix2 i).trans (congrArg (ix2 · _) (Subsingleton.elim _ _))⟩
    unfold Cert.LoIdeal.squares Cert.LoIdeal.square Cert.LoIdeal.err
    pointwise []

end Cert.Proof

end
-- ==== Proof.AiEqual.lean ====
module

public import proofs.«01_k».proof.Defs
public import proofs.«01_k».proof.Proof.Gen.AiIdeal.Value
public import proofs.«01_k».proof.Proof.Gen.AiRefIdeal.Run
public import proofs.«01_k».proof.Proof.Gen.Ai
public import Idealize.ShloMosaic.Lib.Tactic
public import Idealize.ShloMosaic.Lib.Pointwise
public import Idealize.ShloMosaic.Lib.Pipeline.ValueKit.Geometry
public import Idealize.ShloMosaic.Lib.Quiescent

/-! The optimiser's step for the input weights. -/

@[expose] public section

set_option maxRecDepth 16384

noncomputable section

namespace Cert.Proof

open Idealize.ShloMosaic Idealize.SL.Sem Idealize.ShloMosaic.TcCoe

/-- The bodies that the grid calls have the same text in both printed programs. -/
theorem ai_defs₀ : @Cert.Ai.defs₀ Bits _ Cert.Ai.Gen.facts = @Cert.AiIdeal.defs₀ Bits _ Cert.AiIdeal.Gen.facts := by
  unfold Cert.Ai.defs₀ Cert.AiIdeal.defs₀
  refine congrArg Defs.onTc ?_
  funext l a
  match l, a with
  | ⟨0, _⟩, (t, s) => rfl

/-- The frame of the call as printed: the run of the idealized text, read at the machine's floats. -/
theorem frame_ai : Cert.quiescent_Ai := fun m ρ _ => by
  have h := Cert.AiIdeal.Gen.frame (F := Bits) m ρ
  rw [show Cert.AiIdeal.defs (F := Bits) = Cert.Ai.defs from (congrArg (Pipeline.defs Cert.AiIdeal.pcfgs) ai_defs₀).symm] at h
  exact h

/-- The frame of the idealized call. -/
theorem frame_aiIdeal : Cert.quiescent_AiIdeal := fun m ρ _ => Cert.AiIdeal.Gen.frame m ρ

/-- The frame of its reference. -/
theorem frame_aiRef : Cert.quiescent_AiRefIdeal := fun m ρ _ =>
  (θ_run Cert.AiRefIdeal.defs _ _).mono
    (fun r h => ⟨fun c => (h c).2.2.2, sem_eq_zero_of_no_sems rfl r.2⟩)
    (Cert.AiRefIdeal.Value.run (F := Ideal) m ρ)

/-- The call computes what its reference does, entry by entry. -/
theorem equal_ai : Cert.algebraic_AiIdeal_AiRefIdeal := fun m ρ m' ρ' _ ha => by
  refine ⟨_, _, _, Cert.AiIdeal.Value.run m ρ,
    (θ_run _ _ _).mono (fun r h c => ⟨(h c).1.trans ?_, (h c).2.1.trans ?_, (h c).2.2.1.trans ?_, (h c).2.2.2⟩)
      (Cert.AiRefIdeal.Value.run (F := Ideal) m' ρ')⟩ <;>
  · rw [(ha c).2.1]
    first | rw [(ha c).1, (ha c).2.2.1, (ha c).2.2.2] | rw [(ha c).2.2.1] | rw [(ha c).2.2.2]
    rfl

end Cert.Proof

end
-- ==== Proof.ApEqual.lean ====
module

public import proofs.«01_k».proof.Defs
public import proofs.«01_k».proof.Proof.Gen.ApIdeal.Value
public import proofs.«01_k».proof.Proof.Gen.ApRefIdeal.Run
public import proofs.«01_k».proof.Proof.Gen.Ap
public import Idealize.ShloMosaic.Lib.Tactic
public import Idealize.ShloMosaic.Lib.Pointwise
public import Idealize.ShloMosaic.Lib.Pipeline.ValueKit.Geometry
public import Idealize.ShloMosaic.Lib.Quiescent

/-! The optimiser's step for the pooling's weights. -/

@[expose] public section

set_option maxRecDepth 16384

noncomputable section

namespace Cert.Proof

open Idealize.ShloMosaic Idealize.SL.Sem Idealize.ShloMosaic.TcCoe

/-- The bodies that the grid calls have the same text in both printed programs. -/
theorem ap_defs₀ : @Cert.Ap.defs₀ Bits _ Cert.Ap.Gen.facts = @Cert.ApIdeal.defs₀ Bits _ Cert.ApIdeal.Gen.facts := by
  unfold Cert.Ap.defs₀ Cert.ApIdeal.defs₀
  refine congrArg Defs.onTc ?_
  funext l a
  match l, a with
  | ⟨0, _⟩, (t, s) => rfl

/-- The frame of the call as printed: the run of the idealized text, read at the machine's floats. -/
theorem frame_ap : Cert.quiescent_Ap := fun m ρ _ => by
  have h := Cert.ApIdeal.Gen.frame (F := Bits) m ρ
  rw [show Cert.ApIdeal.defs (F := Bits) = Cert.Ap.defs from (congrArg (Pipeline.defs Cert.ApIdeal.pcfgs) ap_defs₀).symm] at h
  exact h

/-- The frame of the idealized call. -/
theorem frame_apIdeal : Cert.quiescent_ApIdeal := fun m ρ _ => Cert.ApIdeal.Gen.frame m ρ

/-- The frame of its reference. -/
theorem frame_apRef : Cert.quiescent_ApRefIdeal := fun m ρ _ =>
  (θ_run Cert.ApRefIdeal.defs _ _).mono
    (fun r h => ⟨fun c => (h c).2.2.2, sem_eq_zero_of_no_sems rfl r.2⟩)
    (Cert.ApRefIdeal.Value.run (F := Ideal) m ρ)

/-- The call computes what its reference does, entry by entry. -/
theorem equal_ap : Cert.algebraic_ApIdeal_ApRefIdeal := fun m ρ m' ρ' _ ha => by
  refine ⟨_, _, _, Cert.ApIdeal.Value.run m ρ,
    (θ_run _ _ _).mono (fun r h c => ⟨(h c).1.trans ?_, (h c).2.1.trans ?_, (h c).2.2.1.trans ?_, (h c).2.2.2⟩)
      (Cert.ApRefIdeal.Value.run (F := Ideal) m' ρ')⟩ <;>
  · rw [(ha c).2.1]
    first | rw [(ha c).1, (ha c).2.2.1, (ha c).2.2.2] | rw [(ha c).2.2.1] | rw [(ha c).2.2.2]
    rfl

end Cert.Proof

end
-- ==== Proof.AqEqual.lean ====
module

public import proofs.«01_k».proof.Defs
public import proofs.«01_k».proof.Proof.Gen.AqIdeal.Value
public import proofs.«01_k».proof.Proof.Gen.AqRefIdeal.Run
public import proofs.«01_k».proof.Proof.Gen.Aq
public import Idealize.ShloMosaic.Lib.Tactic
public import Idealize.ShloMosaic.Lib.Pointwise
public import Idealize.ShloMosaic.Lib.Pipeline.ValueKit.Geometry
public import Idealize.ShloMosaic.Lib.Quiescent

/-! The optimiser's step for a branch's projection weights. -/

@[expose] public section

set_option maxRecDepth 16384

noncomputable section

namespace Cert.Proof

open Idealize.ShloMosaic Idealize.SL.Sem Idealize.ShloMosaic.TcCoe

/-- The bodies that the grid calls have the same text in both printed programs. -/
theorem aq_defs₀ : @Cert.Aq.defs₀ Bits _ Cert.Aq.Gen.facts = @Cert.AqIdeal.defs₀ Bits _ Cert.AqIdeal.Gen.facts := by
  unfold Cert.Aq.defs₀ Cert.AqIdeal.defs₀
  refine congrArg Defs.onTc ?_
  funext l a
  match l, a with
  | ⟨0, _⟩, (t, s) => rfl

/-- The frame of the call as printed: the run of the idealized text, read at the machine's floats. -/
theorem frame_aq : Cert.quiescent_Aq := fun m ρ _ => by
  have h := Cert.AqIdeal.Gen.frame (F := Bits) m ρ
  rw [show Cert.AqIdeal.defs (F := Bits) = Cert.Aq.defs from (congrArg (Pipeline.defs Cert.AqIdeal.pcfgs) aq_defs₀).symm] at h
  exact h

/-- The frame of the idealized call. -/
theorem frame_aqIdeal : Cert.quiescent_AqIdeal := fun m ρ _ => Cert.AqIdeal.Gen.frame m ρ

/-- The frame of its reference. -/
theorem frame_aqRef : Cert.quiescent_AqRefIdeal := fun m ρ _ =>
  (θ_run Cert.AqRefIdeal.defs _ _).mono
    (fun r h => ⟨fun c => (h c).2.2.2, sem_eq_zero_of_no_sems rfl r.2⟩)
    (Cert.AqRefIdeal.Value.run (F := Ideal) m ρ)

/-- The call computes what its reference does, entry by entry. -/
theorem equal_aq : Cert.algebraic_AqIdeal_AqRefIdeal := fun m ρ m' ρ' _ ha => by
  refine ⟨_, _, _, Cert.AqIdeal.Value.run m ρ,
    (θ_run _ _ _).mono (fun r h c => ⟨(h c).1.trans ?_, (h c).2.1.trans ?_, (h c).2.2.1.trans ?_, (h c).2.2.2⟩)
      (Cert.AqRefIdeal.Value.run (F := Ideal) m' ρ')⟩ <;>
  · rw [(ha c).2.1]
    first | rw [(ha c).1, (ha c).2.2.1, (ha c).2.2.2] | rw [(ha c).2.2.1] | rw [(ha c).2.2.2]
    rfl

end Cert.Proof

end
-- ==== Proof.AoEqual.lean ====
module

public import proofs.«01_k».proof.Defs
public import proofs.«01_k».proof.Proof.Gen.AoIdeal.Value
public import proofs.«01_k».proof.Proof.Gen.AoRefIdeal.Run
public import proofs.«01_k».proof.Proof.Gen.Ao
public import Idealize.ShloMosaic.Lib.Tactic
public import Idealize.ShloMosaic.Lib.Pointwise
public import Idealize.ShloMosaic.Lib.Pipeline.ValueKit.Geometry
public import Idealize.ShloMosaic.Lib.Quiescent

/-! The optimiser's step for the output weights. -/

@[expose] public section

set_option maxRecDepth 16384

noncomputable section

namespace Cert.Proof

open Idealize.ShloMosaic Idealize.SL.Sem Idealize.ShloMosaic.TcCoe

/-- The bodies that the grid calls have the same text in both printed programs. -/
theorem ao_defs₀ : @Cert.Ao.defs₀ Bits _ Cert.Ao.Gen.facts = @Cert.AoIdeal.defs₀ Bits _ Cert.AoIdeal.Gen.facts := by
  unfold Cert.Ao.defs₀ Cert.AoIdeal.defs₀
  refine congrArg Defs.onTc ?_
  funext l a
  match l, a with
  | ⟨0, _⟩, (t, s) => rfl

/-- The frame of the call as printed: the run of the idealized text, read at the machine's floats. -/
theorem frame_ao : Cert.quiescent_Ao := fun m ρ _ => by
  have h := Cert.AoIdeal.Gen.frame (F := Bits) m ρ
  rw [show Cert.AoIdeal.defs (F := Bits) = Cert.Ao.defs from (congrArg (Pipeline.defs Cert.AoIdeal.pcfgs) ao_defs₀).symm] at h
  exact h

/-- The frame of the idealized call. -/
theorem frame_aoIdeal : Cert.quiescent_AoIdeal := fun m ρ _ => Cert.AoIdeal.Gen.frame m ρ

/-- The frame of its reference. -/
theorem frame_aoRef : Cert.quiescent_AoRefIdeal := fun m ρ _ =>
  (θ_run Cert.AoRefIdeal.defs _ _).mono
    (fun r h => ⟨fun c => (h c).2.2.2, sem_eq_zero_of_no_sems rfl r.2⟩)
    (Cert.AoRefIdeal.Value.run (F := Ideal) m ρ)

/-- The call computes what its reference does, entry by entry. -/
theorem equal_ao : Cert.algebraic_AoIdeal_AoRefIdeal := fun m ρ m' ρ' _ ha => by
  refine ⟨_, _, _, Cert.AoIdeal.Value.run m ρ,
    (θ_run _ _ _).mono (fun r h c => ⟨(h c).1.trans ?_, (h c).2.1.trans ?_, (h c).2.2.1.trans ?_, (h c).2.2.2⟩)
      (Cert.AoRefIdeal.Value.run (F := Ideal) m' ρ')⟩ <;>
  · rw [(ha c).2.1]
    first | rw [(ha c).1, (ha c).2.2.1, (ha c).2.2.2] | rw [(ha c).2.2.1] | rw [(ha c).2.2.2]
    rfl

end Cert.Proof

end
-- ==== Proof.Gi1Equal.lean ====
module

public import proofs.«01_k».proof.Defs
public import proofs.«01_k».proof.Proof.Gen.Gi1Ideal.Value
public import proofs.«01_k».proof.Proof.Gen.Gi1RefIdeal.Run
public import proofs.«01_k».proof.Proof.Gen.Gi1
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The second piece of the gradient of the input weights. -/

@[expose] public section

set_option maxRecDepth 16384

noncomputable section

namespace Cert.Gi1Ideal

open Cert.Gi1Ideal.Gen Cert.GradPart Idealize.ShloMosaic Idealize.ShloMosaic.TcCoe Idealize.SL.Sem

/-- The block that window 0 has at a point. -/
theorem idx0 : ∀ t : Fin cfg0.N, win0_0.index t = ![t.val % 4, t.val / 4] := (by decide +kernel : ∀ t : Fin grid0.N, _)
/-- The block that window 1 has at a point. -/
theorem idx1 : ∀ t : Fin cfg0.N, win0_1.index t = ![t.val % 4, 0] := (by decide +kernel : ∀ t : Fin grid0.N, _)
/-- The block that window 2 has at a point. -/
theorem idx2 : ∀ t : Fin cfg0.N, win0_2.index t = ![t.val / 4, 1] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 4 * 1024 + r.val, by have := lt_of_lt_of_eq t.isLt N_0; omega⟩

/-- The value of `row`. -/
theorem row_val (t : Fin cfg0.N) (r : Fin 1024) : (row t r).val = t.val / 4 * 1024 + r.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) k s := by
  refine block (outsAt0 m c) (iblk m c 0) (iblk m c 1) _ _ row (fun _ k => k)
    (fun n hn r h0 => Fin.ext (by simp only [row_val]; omega)) (fun _ _ _ _ => rfl)
    (fun t j r => by blk_ext [iblk, V_main_arg1, idx0, row_val]) (fun t j k => by blk_ext [iblk, V_main_arg2, idx1])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 1024 1024 (m ((c : Thread nD τ).loc main_arg0))
    (m ((c : Thread nD τ).loc main_arg1)) (m ((c : Thread nD τ).loc main_arg2)) := by
  refine (dats m 0 c).arrAt_eq_of_coversWhere_of_agree 2 _ (fun β => β 1 = 1) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨1024 + k.val, by omega⟩ : S2048x10240.Idx) := by
      blk_ext [idx2, row_val]
    rw [e]
    exact (block_at m c t ((flush0_2 t).mp hf) r k).trans (updated_in _ _ _ (row t r) k _ rfl).symm
  · blk_simp [Pipeline.Window.cell_apply] at hj
    rw [A_eq]
    refine Eq.trans ?_ (updated_out _ _ _ j (by dsimp only; omega)).symm
    exact congrFun (V_copy m c) j

end Cert.Gi1Ideal

namespace Cert.Proof

open Idealize.ShloMosaic Idealize.SL.Sem Idealize.ShloMosaic.TcCoe

/-- The bodies that the grid calls have the same text in both printed programs. -/
theorem gi1_defs₀ : @Cert.Gi1.defs₀ Bits _ Cert.Gi1.Gen.facts = @Cert.Gi1Ideal.defs₀ Bits _ Cert.Gi1Ideal.Gen.facts := by
  unfold Cert.Gi1.defs₀ Cert.Gi1Ideal.defs₀
  refine congrArg Defs.onTc ?_
  funext l a
  match l, a with
  | ⟨0, _⟩, (t, s) => rfl

/-- The frame of the call as printed: the run of the idealized text, read at the machine's floats. -/
theorem frame_gi1 : Cert.quiescent_Gi1 := fun m ρ _ => by
  have h := Cert.Gi1Ideal.Gen.frame (F := Bits) m ρ
  rw [show Cert.Gi1Ideal.defs (F := Bits) = Cert.Gi1.defs from (congrArg (Pipeline.defs Cert.Gi1Ideal.pcfgs) gi1_defs₀).symm] at h
  exact h

/-- The frame of the idealized call. -/
theorem frame_gi1Ideal : Cert.quiescent_Gi1Ideal := fun m ρ _ => Cert.Gi1Ideal.Gen.frame m ρ

/-- The frame of its reference. -/
theorem frame_gi1Ref : Cert.quiescent_Gi1RefIdeal := fun m ρ _ =>
  (θ_run Cert.Gi1RefIdeal.defs _ _).mono
    (fun r h => ⟨fun c => (h c).2, sem_eq_zero_of_no_sems rfl r.2⟩)
    (Cert.Gi1RefIdeal.Value.run (F := Ideal) m ρ)

/-- The call computes what its reference does. -/
theorem equal_gi1 : Cert.algebraic_Gi1Ideal_Gi1RefIdeal := fun m ρ m' ρ' _ ha => by
  refine ⟨_, (θ_run _ _ _).mono (fun r h c => ⟨(h c).1.trans (Cert.Gi1Ideal.whole m c), (h c).2⟩) (Cert.Gi1Ideal.Value.run_blocks m ρ),
    (θ_run _ _ _).mono (fun r h c => ⟨(h c).1.trans ?_, (h c).2⟩) (Cert.Gi1RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.Gi2Equal.lean ====
module

public import proofs.«01_k».proof.Defs
public import proofs.«01_k».proof.Proof.Gen.Gi2Ideal.Value
public import proofs.«01_k».proof.Proof.Gen.Gi2RefIdeal.Run
public import proofs.«01_k».proof.Proof.Gen.Gi2
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The third piece of the gradient of the input weights. -/

@[expose] public section

set_option maxRecDepth 16384

noncomputable section

namespace Cert.Gi2Ideal

open Cert.Gi2Ideal.Gen Cert.GradPart Idealize.ShloMosaic Idealize.ShloMosaic.TcCoe Idealize.SL.Sem

/-- The block that window 0 has at a point. -/
theorem idx0 : ∀ t : Fin cfg0.N, win0_0.index t = ![t.val % 4, t.val / 4] := (by decide +kernel : ∀ t : Fin grid0.N, _)
/-- The block that window 1 has at a point. -/
theorem idx1 : ∀ t : Fin cfg0.N, win0_1.index t = ![t.val % 4, 0] := (by decide +kernel : ∀ t : Fin grid0.N, _)
/-- The block that window 2 has at a point. -/
theorem idx2 : ∀ t : Fin cfg0.N, win0_2.index t = ![t.val / 4, 2] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 4 * 1024 + r.val, by have := lt_of_lt_of_eq t.isLt N_0; omega⟩

/-- The value of `row`. -/
theorem row_val (t : Fin cfg0.N) (r : Fin 1024) : (row t r).val = t.val / 4 * 1024 + r.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) k s := by
  refine block (outsAt0 m c) (iblk m c 0) (iblk m c 1) _ _ row (fun _ k => k)
    (fun n hn r h0 => Fin.ext (by simp only [row_val]; omega)) (fun _ _ _ _ => rfl)
    (fun t j r => by blk_ext [iblk, V_main_arg1, idx0, row_val]) (fun t j k => by blk_ext [iblk, V_main_arg2, idx1])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 2048 1024 (m ((c : Thread nD τ).loc main_arg0))
    (m ((c : Thread nD τ).loc main_arg1)) (m ((c : Thread nD τ).loc main_arg2)) := by
  refine (dats m 0 c).arrAt_eq_of_coversWhere_of_agree 2 _ (fun β => β 1 = 2) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨2048 + k.val, by omega⟩ : S2048x10240.Idx) := by
      blk_ext [idx2, row_val]
    rw [e]
    exact (block_at m c t ((flush0_2 t).mp hf) r k).trans (updated_in _ _ _ (row t r) k _ rfl).symm
  · blk_simp [Pipeline.Window.cell_apply] at hj
    rw [A_eq]
    refine Eq.trans ?_ (updated_out _ _ _ j (by dsimp only; omega)).symm
    exact congrFun (V_copy m c) j

end Cert.Gi2Ideal

namespace Cert.Proof

open Idealize.ShloMosaic Idealize.SL.Sem Idealize.ShloMosaic.TcCoe

/-- The bodies that the grid calls have the same text in both printed programs. -/
theorem gi2_defs₀ : @Cert.Gi2.defs₀ Bits _ Cert.Gi2.Gen.facts = @Cert.Gi2Ideal.defs₀ Bits _ Cert.Gi2Ideal.Gen.facts := by
  unfold Cert.Gi2.defs₀ Cert.Gi2Ideal.defs₀
  refine congrArg Defs.onTc ?_
  funext l a
  match l, a with
  | ⟨0, _⟩, (t, s) => rfl

/-- The frame of the call as printed: the run of the idealized text, read at the machine's floats. -/
theorem frame_gi2 : Cert.quiescent_Gi2 := fun m ρ _ => by
  have h := Cert.Gi2Ideal.Gen.frame (F := Bits) m ρ
  rw [show Cert.Gi2Ideal.defs (F := Bits) = Cert.Gi2.defs from (congrArg (Pipeline.defs Cert.Gi2Ideal.pcfgs) gi2_defs₀).symm] at h
  exact h

/-- The frame of the idealized call. -/
theorem frame_gi2Ideal : Cert.quiescent_Gi2Ideal := fun m ρ _ => Cert.Gi2Ideal.Gen.frame m ρ

/-- The frame of its reference. -/
theorem frame_gi2Ref : Cert.quiescent_Gi2RefIdeal := fun m ρ _ =>
  (θ_run Cert.Gi2RefIdeal.defs _ _).mono
    (fun r h => ⟨fun c => (h c).2, sem_eq_zero_of_no_sems rfl r.2⟩)
    (Cert.Gi2RefIdeal.Value.run (F := Ideal) m ρ)

/-- The call computes what its reference does. -/
theorem equal_gi2 : Cert.algebraic_Gi2Ideal_Gi2RefIdeal := fun m ρ m' ρ' _ ha => by
  refine ⟨_, (θ_run _ _ _).mono (fun r h c => ⟨(h c).1.trans (Cert.Gi2Ideal.whole m c), (h c).2⟩) (Cert.Gi2Ideal.Value.run_blocks m ρ),
    (θ_run _ _ _).mono (fun r h c => ⟨(h c).1.trans ?_, (h c).2⟩) (Cert.Gi2RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.Gi3Equal.lean ====
module

public import proofs.«01_k».proof.Defs
public import proofs.«01_k».proof.Proof.Gen.Gi3Ideal.Value
public import proofs.«01_k».proof.Proof.Gen.Gi3RefIdeal.Run
public import proofs.«01_k».proof.Proof.Gen.Gi3
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The fourth piece of the gradient of the input weights. -/

@[expose] public section

set_option maxRecDepth 16384

noncomputable section

namespace Cert.Gi3Ideal

open Cert.Gi3Ideal.Gen Cert.GradPart Idealize.ShloMosaic Idealize.ShloMosaic.TcCoe Idealize.SL.Sem

/-- The block that window 0 has at a point. -/
theorem idx0 : ∀ t : Fin cfg0.N, win0_0.index t = ![t.val % 4, t.val / 4] := (by decide +kernel : ∀ t : Fin grid0.N, _)
/-- The block that window 1 has at a point. -/
theorem idx1 : ∀ t : Fin cfg0.N, win0_1.index t = ![t.val % 4, 0] := (by decide +kernel : ∀ t : Fin grid0.N, _)
/-- The block that window 2 has at a point. -/
theorem idx2 : ∀ t : Fin cfg0.N, win0_2.index t = ![t.val / 4, 3] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 4 * 1024 + r.val, by have := lt_of_lt_of_eq t.isLt N_0; omega⟩

/-- The value of `row`. -/
theorem row_val (t : Fin cfg0.N) (r : Fin 1024) : (row t r).val = t.val / 4 * 1024 + r.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) k s := by
  refine block (outsAt0 m c) (iblk m c 0) (iblk m c 1) _ _ row (fun _ k => k)
    (fun n hn r h0 => Fin.ext (by simp only [row_val]; omega)) (fun _ _ _ _ => rfl)
    (fun t j r => by blk_ext [iblk, V_main_arg1, idx0, row_val]) (fun t j k => by blk_ext [iblk, V_main_arg2, idx1])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 3072 1024 (m ((c : Thread nD τ).loc main_arg0))
    (m ((c : Thread nD τ).loc main_arg1)) (m ((c : Thread nD τ).loc main_arg2)) := by
  refine (dats m 0 c).arrAt_eq_of_coversWhere_of_agree 2 _ (fun β => β 1 = 3) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨3072 + k.val, by omega⟩ : S2048x10240.Idx) := by
      blk_ext [idx2, row_val]
    rw [e]
    exact (block_at m c t ((flush0_2 t).mp hf) r k).trans (updated_in _ _ _ (row t r) k _ rfl).symm
  · blk_simp [Pipeline.Window.cell_apply] at hj
    rw [A_eq]
    refine Eq.trans ?_ (updated_out _ _ _ j (by dsimp only; omega)).symm
    exact congrFun (V_copy m c) j

end Cert.Gi3Ideal

namespace Cert.Proof

open Idealize.ShloMosaic Idealize.SL.Sem Idealize.ShloMosaic.TcCoe

/-- The bodies that the grid calls have the same text in both printed programs. -/
theorem gi3_defs₀ : @Cert.Gi3.defs₀ Bits _ Cert.Gi3.Gen.facts = @Cert.Gi3Ideal.defs₀ Bits _ Cert.Gi3Ideal.Gen.facts := by
  unfold Cert.Gi3.defs₀ Cert.Gi3Ideal.defs₀
  refine congrArg Defs.onTc ?_
  funext l a
  match l, a with
  | ⟨0, _⟩, (t, s) => rfl

/-- The frame of the call as printed: the run of the idealized text, read at the machine's floats. -/
theorem frame_gi3 : Cert.quiescent_Gi3 := fun m ρ _ => by
  have h := Cert.Gi3Ideal.Gen.frame (F := Bits) m ρ
  rw [show Cert.Gi3Ideal.defs (F := Bits) = Cert.Gi3.defs from (congrArg (Pipeline.defs Cert.Gi3Ideal.pcfgs) gi3_defs₀).symm] at h
  exact h

/-- The frame of the idealized call. -/
theorem frame_gi3Ideal : Cert.quiescent_Gi3Ideal := fun m ρ _ => Cert.Gi3Ideal.Gen.frame m ρ

/-- The frame of its reference. -/
theorem frame_gi3Ref : Cert.quiescent_Gi3RefIdeal := fun m ρ _ =>
  (θ_run Cert.Gi3RefIdeal.defs _ _).mono
    (fun r h => ⟨fun c => (h c).2, sem_eq_zero_of_no_sems rfl r.2⟩)
    (Cert.Gi3RefIdeal.Value.run (F := Ideal) m ρ)

/-- The call computes what its reference does. -/
theorem equal_gi3 : Cert.algebraic_Gi3Ideal_Gi3RefIdeal := fun m ρ m' ρ' _ ha => by
  refine ⟨_, (θ_run _ _ _).mono (fun r h c => ⟨(h c).1.trans (Cert.Gi3Ideal.whole m c), (h c).2⟩) (Cert.Gi3Ideal.Value.run_blocks m ρ),
    (θ_run _ _ _).mono (fun r h c => ⟨(h c).1.trans ?_, (h c).2⟩) (Cert.Gi3RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.Gi4Equal.lean ====
module

public import proofs.«01_k».proof.Defs
public import proofs.«01_k».proof.Proof.Gen.Gi4Ideal.Value
public import proofs.«01_k».proof.Proof.Gen.Gi4RefIdeal.Run
public import proofs.«01_k».proof.Proof.Gen.Gi4
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The fifth piece of the gradient of the input weights. -/

@[expose] public section

set_option maxRecDepth 16384

noncomputable section

namespace Cert.Gi4Ideal

open Cert.Gi4Ideal.Gen Cert.GradPart Idealize.ShloMosaic Idealize.ShloMosaic.TcCoe Idealize.SL.Sem

/-- The block that window 0 has at a point. -/
theorem idx0 : ∀ t : Fin cfg0.N, win0_0.index t = ![t.val % 4, t.val / 4] := (by decide +kernel : ∀ t : Fin grid0.N, _)
/-- The block that window 1 has at a point. -/
theorem idx1 : ∀ t : Fin cfg0.N, win0_1.index t = ![t.val % 4, 0] := (by decide +kernel : ∀ t : Fin grid0.N, _)
/-- The block that window 2 has at a point. -/
theorem idx2 : ∀ t : Fin cfg0.N, win0_2.index t = ![t.val / 4, 4] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 4 * 1024 + r.val, by have := lt_of_lt_of_eq t.isLt N_0; omega⟩

/-- The value of `row`. -/
theorem row_val (t : Fin cfg0.N) (r : Fin 1024) : (row t r).val = t.val / 4 * 1024 + r.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) k s := by
  refine block (outsAt0 m c) (iblk m c 0) (iblk m c 1) _ _ row (fun _ k => k)
    (fun n hn r h0 => Fin.ext (by simp only [row_val]; omega)) (fun _ _ _ _ => rfl)
    (fun t j r => by blk_ext [iblk, V_main_arg1, idx0, row_val]) (fun t j k => by blk_ext [iblk, V_main_arg2, idx1])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 4096 1024 (m ((c : Thread nD τ).loc main_arg0))
    (m ((c : Thread nD τ).loc main_arg1)) (m ((c : Thread nD τ).loc main_arg2)) := by
  refine (dats m 0 c).arrAt_eq_of_coversWhere_of_agree 2 _ (fun β => β 1 = 4) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨4096 + k.val, by omega⟩ : S2048x10240.Idx) := by
      blk_ext [idx2, row_val]
    rw [e]
    exact (block_at m c t ((flush0_2 t).mp hf) r k).trans (updated_in _ _ _ (row t r) k _ rfl).symm
  · blk_simp [Pipeline.Window.cell_apply] at hj
    rw [A_eq]
    refine Eq.trans ?_ (updated_out _ _ _ j (by dsimp only; omega)).symm
    exact congrFun (V_copy m c) j

end Cert.Gi4Ideal

namespace Cert.Proof

open Idealize.ShloMosaic Idealize.SL.Sem Idealize.ShloMosaic.TcCoe

/-- The bodies that the grid calls have the same text in both printed programs. -/
theorem gi4_defs₀ : @Cert.Gi4.defs₀ Bits _ Cert.Gi4.Gen.facts = @Cert.Gi4Ideal.defs₀ Bits _ Cert.Gi4Ideal.Gen.facts := by
  unfold Cert.Gi4.defs₀ Cert.Gi4Ideal.defs₀
  refine congrArg Defs.onTc ?_
  funext l a
  match l, a with
  | ⟨0, _⟩, (t, s) => rfl

/-- The frame of the call as printed: the run of the idealized text, read at the machine's floats. -/
theorem frame_gi4 : Cert.quiescent_Gi4 := fun m ρ _ => by
  have h := Cert.Gi4Ideal.Gen.frame (F := Bits) m ρ
  rw [show Cert.Gi4Ideal.defs (F := Bits) = Cert.Gi4.defs from (congrArg (Pipeline.defs Cert.Gi4Ideal.pcfgs) gi4_defs₀).symm] at h
  exact h

/-- The frame of the idealized call. -/
theorem frame_gi4Ideal : Cert.quiescent_Gi4Ideal := fun m ρ _ => Cert.Gi4Ideal.Gen.frame m ρ

/-- The frame of its reference. -/
theorem frame_gi4Ref : Cert.quiescent_Gi4RefIdeal := fun m ρ _ =>
  (θ_run Cert.Gi4RefIdeal.defs _ _).mono
    (fun r h => ⟨fun c => (h c).2, sem_eq_zero_of_no_sems rfl r.2⟩)
    (Cert.Gi4RefIdeal.Value.run (F := Ideal) m ρ)

/-- The call computes what its reference does. -/
theorem equal_gi4 : Cert.algebraic_Gi4Ideal_Gi4RefIdeal := fun m ρ m' ρ' _ ha => by
  refine ⟨_, (θ_run _ _ _).mono (fun r h c => ⟨(h c).1.trans (Cert.Gi4Ideal.whole m c), (h c).2⟩) (Cert.Gi4Ideal.Value.run_blocks m ρ),
    (θ_run _ _ _).mono (fun r h c => ⟨(h c).1.trans ?_, (h c).2⟩) (Cert.Gi4RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.Gi5Equal.lean ====
module

public import proofs.«01_k».proof.Defs
public import proofs.«01_k».proof.Proof.Gen.Gi5Ideal.Value
public import proofs.«01_k».proof.Proof.Gen.Gi5RefIdeal.Run
public import proofs.«01_k».proof.Proof.Gen.Gi5
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The sixth piece of the gradient of the input weights. -/

@[expose] public section

set_option maxRecDepth 16384

noncomputable section

namespace Cert.Gi5Ideal

open Cert.Gi5Ideal.Gen Cert.GradPart Idealize.ShloMosaic Idealize.ShloMosaic.TcCoe Idealize.SL.Sem

/-- The block that window 0 has at a point. -/
theorem idx0 : ∀ t : Fin cfg0.N, win0_0.index t = ![t.val % 4, t.val / 4] := (by decide +kernel : ∀ t : Fin grid0.N, _)
/-- The block that window 1 has at a point. -/
theorem idx1 : ∀ t : Fin cfg0.N, win0_1.index t = ![t.val % 4, 0] := (by decide +kernel : ∀ t : Fin grid0.N, _)
/-- The block that window 2 has at a point. -/
theorem idx2 : ∀ t : Fin cfg0.N, win0_2.index t = ![t.val / 4, 5] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 4 * 1024 + r.val, by have := lt_of_lt_of_eq t.isLt N_0; omega⟩

/-- The value of `row`. -/
theorem row_val (t : Fin cfg0.N) (r : Fin 1024) : (row t r).val = t.val / 4 * 1024 + r.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) k s := by
  refine block (outsAt0 m c) (iblk m c 0) (iblk m c 1) _ _ row (fun _ k => k)
    (fun n hn r h0 => Fin.ext (by simp only [row_val]; omega)) (fun _ _ _ _ => rfl)
    (fun t j r => by blk_ext [iblk, V_main_arg1, idx0, row_val]) (fun t j k => by blk_ext [iblk, V_main_arg2, idx1])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 5120 1024 (m ((c : Thread nD τ).loc main_arg0))
    (m ((c : Thread nD τ).loc main_arg1)) (m ((c : Thread nD τ).loc main_arg2)) := by
  refine (dats m 0 c).arrAt_eq_of_coversWhere_of_agree 2 _ (fun β => β 1 = 5) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨5120 + k.val, by omega⟩ : S2048x10240.Idx) := by
      blk_ext [idx2, row_val]
    rw [e]
    exact (block_at m c t ((flush0_2 t).mp hf) r k).trans (updated_in _ _ _ (row t r) k _ rfl).symm
  · blk_simp [Pipeline.Window.cell_apply] at hj
    rw [A_eq]
    refine Eq.trans ?_ (updated_out _ _ _ j (by dsimp only; omega)).symm
    exact congrFun (V_copy m c) j

end Cert.Gi5Ideal

namespace Cert.Proof

open Idealize.ShloMosaic Idealize.SL.Sem Idealize.ShloMosaic.TcCoe

/-- The bodies that the grid calls have the same text in both printed programs. -/
theorem gi5_defs₀ : @Cert.Gi5.defs₀ Bits _ Cert.Gi5.Gen.facts = @Cert.Gi5Ideal.defs₀ Bits _ Cert.Gi5Ideal.Gen.facts := by
  unfold Cert.Gi5.defs₀ Cert.Gi5Ideal.defs₀
  refine congrArg Defs.onTc ?_
  funext l a
  match l, a with
  | ⟨0, _⟩, (t, s) => rfl

/-- The frame of the call as printed: the run of the idealized text, read at the machine's floats. -/
theorem frame_gi5 : Cert.quiescent_Gi5 := fun m ρ _ => by
  have h := Cert.Gi5Ideal.Gen.frame (F := Bits) m ρ
  rw [show Cert.Gi5Ideal.defs (F := Bits) = Cert.Gi5.defs from (congrArg (Pipeline.defs Cert.Gi5Ideal.pcfgs) gi5_defs₀).symm] at h
  exact h

/-- The frame of the idealized call. -/
theorem frame_gi5Ideal : Cert.quiescent_Gi5Ideal := fun m ρ _ => Cert.Gi5Ideal.Gen.frame m ρ

/-- The frame of its reference. -/
theorem frame_gi5Ref : Cert.quiescent_Gi5RefIdeal := fun m ρ _ =>
  (θ_run Cert.Gi5RefIdeal.defs _ _).mono
    (fun r h => ⟨fun c => (h c).2, sem_eq_zero_of_no_sems rfl r.2⟩)
    (Cert.Gi5RefIdeal.Value.run (F := Ideal) m ρ)

/-- The call computes what its reference does. -/
theorem equal_gi5 : Cert.algebraic_Gi5Ideal_Gi5RefIdeal := fun m ρ m' ρ' _ ha => by
  refine ⟨_, (θ_run _ _ _).mono (fun r h c => ⟨(h c).1.trans (Cert.Gi5Ideal.whole m c), (h c).2⟩) (Cert.Gi5Ideal.Value.run_blocks m ρ),
    (θ_run _ _ _).mono (fun r h c => ⟨(h c).1.trans ?_, (h c).2⟩) (Cert.Gi5RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.Gi6Equal.lean ====
module

public import proofs.«01_k».proof.Defs
public import proofs.«01_k».proof.Proof.Gen.Gi6Ideal.Value
public import proofs.«01_k».proof.Proof.Gen.Gi6RefIdeal.Run
public import proofs.«01_k».proof.Proof.Gen.Gi6
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The seventh piece of the gradient of the input weights. -/

@[expose] public section

set_option maxRecDepth 16384

noncomputable section

namespace Cert.Gi6Ideal

open Cert.Gi6Ideal.Gen Cert.GradPart Idealize.ShloMosaic Idealize.ShloMosaic.TcCoe Idealize.SL.Sem

/-- The block that window 0 has at a point. -/
theorem idx0 : ∀ t : Fin cfg0.N, win0_0.index t = ![t.val % 4, t.val / 8] := (by decide +kernel : ∀ t : Fin grid0.N, _)
/-- The block that window 1 has at a point. -/
theorem idx1 : ∀ t : Fin cfg0.N, win0_1.index t = ![t.val % 4, t.val / 4 % 2] := (by decide +kernel : ∀ t : Fin grid0.N, _)
/-- The block that window 2 has at a point. -/
theorem idx2 : ∀ t : Fin cfg0.N, win0_2.index t = ![t.val / 8, 6 + t.val / 4 % 2] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 8 * 1024 + r.val, by have := lt_of_lt_of_eq t.isLt N_0; omega⟩

/-- The value of `row`. -/
theorem row_val (t : Fin cfg0.N) (r : Fin 1024) : (row t r).val = t.val / 8 * 1024 + r.val := rfl

/-- The column of the piece at a column of a point's block. -/
def col (t : Fin cfg0.N) (k : Fin 1024) : Fin 2048 := ⟨t.val / 4 % 2 * 1024 + k.val, by omega⟩

/-- The value of `col`. -/
theorem col_val (t : Fin cfg0.N) (k : Fin 1024) : (col t k).val = t.val / 4 % 2 * 1024 + k.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) (col t k) s := by
  refine block (outsAt0 m c) (iblk m c 0) (iblk m c 1) _ _ row (col)
    (fun n hn r h0 => Fin.ext (by simp only [row_val]; omega)) (fun n hn k h0 => Fin.ext (by simp only [col_val]; omega))
    (fun t j r => by blk_ext [iblk, V_main_arg1, idx0, row_val]) (fun t j k => by blk_ext [iblk, V_main_arg2, idx1, col_val])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 6144 2048 (m ((c : Thread nD τ).loc main_arg0))
    (m ((c : Thread nD τ).loc main_arg1)) (m ((c : Thread nD τ).loc main_arg2)) := by
  refine (dats m 0 c).arrAt_eq_of_coversWhere_of_agree 2 _ (fun β => 6 ≤ β 1 ∧ β 1 < 8) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨6144 + (col t k).val, by have := (col t k).isLt; omega⟩ : S2048x10240.Idx) := by
      blk_ext [idx2, row_val, col_val]
    rw [e]
    exact (block_at m c t ((flush0_2 t).mp hf) r k).trans (updated_in _ _ _ (row t r) (col t k) _ rfl).symm
  · blk_simp [Pipeline.Window.cell_apply] at hj
    rw [A_eq]
    refine Eq.trans ?_ (updated_out _ _ _ j (by dsimp only; omega)).symm
    exact congrFun (V_copy m c) j

end Cert.Gi6Ideal

namespace Cert.Proof

open Idealize.ShloMosaic Idealize.SL.Sem Idealize.ShloMosaic.TcCoe

/-- The bodies that the grid calls have the same text in both printed programs. -/
theorem gi6_defs₀ : @Cert.Gi6.defs₀ Bits _ Cert.Gi6.Gen.facts = @Cert.Gi6Ideal.defs₀ Bits _ Cert.Gi6Ideal.Gen.facts := by
  unfold Cert.Gi6.defs₀ Cert.Gi6Ideal.defs₀
  refine congrArg Defs.onTc ?_
  funext l a
  match l, a with
  | ⟨0, _⟩, (t, s) => rfl

/-- The frame of the call as printed: the run of the idealized text, read at the machine's floats. -/
theorem frame_gi6 : Cert.quiescent_Gi6 := fun m ρ _ => by
  have h := Cert.Gi6Ideal.Gen.frame (F := Bits) m ρ
  rw [show Cert.Gi6Ideal.defs (F := Bits) = Cert.Gi6.defs from (congrArg (Pipeline.defs Cert.Gi6Ideal.pcfgs) gi6_defs₀).symm] at h
  exact h

/-- The frame of the idealized call. -/
theorem frame_gi6Ideal : Cert.quiescent_Gi6Ideal := fun m ρ _ => Cert.Gi6Ideal.Gen.frame m ρ

/-- The frame of its reference. -/
theorem frame_gi6Ref : Cert.quiescent_Gi6RefIdeal := fun m ρ _ =>
  (θ_run Cert.Gi6RefIdeal.defs _ _).mono
    (fun r h => ⟨fun c => (h c).2, sem_eq_zero_of_no_sems rfl r.2⟩)
    (Cert.Gi6RefIdeal.Value.run (F := Ideal) m ρ)

/-- The call computes what its reference does. -/
theorem equal_gi6 : Cert.algebraic_Gi6Ideal_Gi6RefIdeal := fun m ρ m' ρ' _ ha => by
  refine ⟨_, (θ_run _ _ _).mono (fun r h c => ⟨(h c).1.trans (Cert.Gi6Ideal.whole m c), (h c).2⟩) (Cert.Gi6Ideal.Value.run_blocks m ρ),
    (θ_run _ _ _).mono (fun r h c => ⟨(h c).1.trans ?_, (h c).2⟩) (Cert.Gi6RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.Gi7Equal.lean ====
module

public import proofs.«01_k».proof.Defs
public import proofs.«01_k».proof.Proof.Gen.Gi7Ideal.Value
public import proofs.«01_k».proof.Proof.Gen.Gi7RefIdeal.Run
public import proofs.«01_k».proof.Proof.Gen.Gi7
public import proofs.«01_k».proof.Proof.Gi0Equal
public import Idealize.ShloMosaic.Lib.Tactic
public import Idealize.ShloMosaic.Lib.Pointwise
public import Idealize.ShloMosaic.Lib.Pipeline.ValueKit.Geometry
public import Idealize.ShloMosaic.Lib.Pipeline.ValueKit.Partial
public import Idealize.ShloMosaic.Lib.Quiescent

/-! The last piece of the gradient of the input weights. -/

@[expose] public section

set_option maxRecDepth 16384

noncomputable section

namespace Cert.Gi7Ideal

open Cert.Gi7Ideal.Gen Cert.GradPart Idealize.ShloMosaic Idealize.ShloMosaic.TcCoe Idealize.SL.Sem

/-- The block that window 0 has at a point. -/
theorem idx0 : ∀ t : Fin cfg0.N, win0_0.index t = ![t.val % 4, t.val / 8] := (by decide +kernel : ∀ t : Fin grid0.N, _)
/-- The block that window 1 has at a point. -/
theorem idx1 : ∀ t : Fin cfg0.N, win0_1.index t = ![t.val % 4, t.val / 4 % 2] := (by decide +kernel : ∀ t : Fin grid0.N, _)
/-- The block that window 2 has at a point. -/
theorem idx2 : ∀ t : Fin cfg0.N, win0_2.index t = ![t.val / 8, 8 + t.val / 4 % 2] := (by decide +kernel : ∀ t : Fin grid0.N, _)

variable (m : (ℓ : Loc nD τ sig) → Buf (Elt Ideal) ℓ) (c : Dev nD)

/-- The row of the result at a row of a point's block. -/
def row (t : Fin cfg0.N) (r : Fin 1024) : Fin 2048 := ⟨t.val / 8 * 1024 + r.val, by have := lt_of_lt_of_eq t.isLt N_0; omega⟩

/-- The value of `row`. -/
theorem row_val (t : Fin cfg0.N) (r : Fin 1024) : (row t r).val = t.val / 8 * 1024 + r.val := rfl

/-- The column of the piece at a column of a point's block. -/
def col (t : Fin cfg0.N) (k : Fin 1024) : Fin 2048 := ⟨t.val / 4 % 2 * 1024 + k.val, by omega⟩

/-- The value of `col`. -/
theorem col_val (t : Fin cfg0.N) (k : Fin 1024) : (col t k).val = t.val / 4 % 2 * 1024 + k.val := rfl

/-- The last point of a block leaves the whole contraction. -/
theorem block_at (t : Fin cfg0.N) (h3 : t.val % 4 = 3) (r k : Fin 1024) : (outsAt0 m c t.val t.isLt).1 (ix2 r k)
    = ∑ s, term (m ((c : Thread nD τ).loc main_arg1)) (m ((c : Thread nD τ).loc main_arg2)) (row t r) (col t k) s := by
  refine block (outsAt0 m c) (iblk m c 0) (iblk m c 1) _ _ row (col)
    (fun n hn r h0 => Fin.ext (by simp only [row_val]; omega)) (fun n hn k h0 => Fin.ext (by simp only [col_val]; omega))
    (fun t j r => by blk_ext [iblk, V_main_arg1, idx0, row_val]) (fun t j k => by blk_ext [iblk, V_main_arg2, idx1, col_val])
    (fun n h h0 r k => ?_) (fun n h h0 h3 r k => ?_) (fun n h h3 r k => ?_) t h3 r k
  · rw [outsAt0_A m c ⟨n, h⟩ h0 (by dsimp only; omega) (by dsimp only; omega)]
    unfold sout0_A_0 kernelRun0_A
    dsimp only
    rw [stored zero2, loaded zero2, loaded zero2]
    exact Cert.Gi0Ideal.pay2_at _ _ r k
  · rw [outsAt0_B m c ⟨n + 1, h⟩ h0 (by dsimp only; omega) h3]
    unfold sout0_B_0 kernelRun0_B
    dsimp only
    rw [stored zero2, loaded zero2, loaded zero2]
    exact (congrFun (congrArg (k0_pay3 _ _) (loaded zero2 scM0_0 _ _ _)) _).trans (Cert.Gi0Ideal.pay3_at _ _ _ r k)
  · rw [outsAt0_C m c ⟨n + 1, h⟩ (by dsimp only; omega) (by dsimp only; omega) h3]
    unfold out0_C_2 kernelRun0_C
    dsimp only
    sl_unfold_words
    rw [stored zero2, View.readCov_unit_zero (S := S1024x1024) _ zero2, loaded zero2, loaded zero2]
    exact (congrFun (congrArg (k0_pay3 _ _) (loaded zero2 scM0_0 _ _ _)) _).trans (Cert.Gi0Ideal.pay3_at _ _ _ r k)

/-- Before the grid starts the result is a copy of the array it is given. -/
theorem V_copy : V m c main_v0 = m ((c : Thread nD τ).loc main_arg0) := rfl

/-- The whole result is the array with the product in its own columns. -/
theorem whole : (dats m 0 c).arrAt 2 cfg0.N = updated 8192 2048 (m ((c : Thread nD τ).loc main_arg0))
    (m ((c : Thread nD τ).loc main_arg1)) (m ((c : Thread nD τ).loc main_arg2)) := by
  refine (dats m 0 c).arrAt_eq_of_coversWhere_of_agree 2 _ (fun β => 8 ≤ β 1 ∧ β 1 < 10) (by decide +kernel) (fun t hf y => ?_) (fun j hj => ?_)
  · blk_simp
    rw [after0_2]
    obtain ⟨r, k, rfl⟩ : ∃ (r : Fin 1024) (k : Fin 1024), y = ix2 r k := ⟨y 0, y 1, eq_ix2 y⟩
    have e : (win0_2.blk t).view.emb (ix2 r k) = (ix2 (row t r) ⟨8192 + (col t k).val, by have := (col t k).isLt; omega⟩ : S2048x10240.Idx) := by
      blk_ext [idx2, row_val, col_val]
    rw [e]
    exact (block_at m c t ((flush0_2 t).mp hf) r k).trans (updated_in _ _ _ (row t r) (col t k) _ rfl).symm
  · blk_simp [Pipeline.Window.cell_apply] at hj
    rw [A_eq]
    refine Eq.trans ?_ (updated_out _ _ _ j (by dsimp only; omega)).symm
    exact congrFun (V_copy m c) j

end Cert.Gi7Ideal

namespace Cert.Proof

open Idealize.ShloMosaic Idealize.SL.Sem Idealize.ShloMosaic.TcCoe

/-- The bodies that the grid calls have the same text in both printed programs. -/
theorem gi7_defs₀ : @Cert.Gi7.defs₀ Bits _ Cert.Gi7.Gen.facts = @Cert.Gi7Ideal.defs₀ Bits _ Cert.Gi7Ideal.Gen.facts := by
  unfold Cert.Gi7.defs₀ Cert.Gi7Ideal.defs₀
  refine congrArg Defs.onTc ?_
  funext l a
  match l, a with
  | ⟨0, _⟩, (t, s) => rfl

/-- The frame of the call as printed: the run of the idealized text, read at the machine's floats. -/
theorem frame_gi7 : Cert.quiescent_Gi7 := fun m ρ _ => by
  have h := Cert.Gi7Ideal.Gen.frame (F := Bits) m ρ
  rw [show Cert.Gi7Ideal.defs (F := Bits) = Cert.Gi7.defs from (congrArg (Pipeline.defs Cert.Gi7Ideal.pcfgs) gi7_defs₀).symm] at h
  exact h

/-- The frame of the idealized call. -/
theorem frame_gi7Ideal : Cert.quiescent_Gi7Ideal := fun m ρ _ => Cert.Gi7Ideal.Gen.frame m ρ

/-- The frame of its reference. -/
theorem frame_gi7Ref : Cert.quiescent_Gi7RefIdeal := fun m ρ _ =>
  (θ_run Cert.Gi7RefIdeal.defs _ _).mono
    (fun r h => ⟨fun c => (h c).2, sem_eq_zero_of_no_sems rfl r.2⟩)
    (Cert.Gi7RefIdeal.Value.run (F := Ideal) m ρ)

/-- The call computes what its reference does. -/
theorem equal_gi7 : Cert.algebraic_Gi7Ideal_Gi7RefIdeal := fun m ρ m' ρ' _ ha => by
  refine ⟨_, (θ_run _ _ _).mono (fun r h c => ⟨(h c).1.trans (Cert.Gi7Ideal.whole m c), (h c).2⟩) (Cert.Gi7Ideal.Value.run_blocks m ρ),
    (θ_run _ _ _).mono (fun r h c => ⟨(h c).1.trans ?_, (h c).2⟩) (Cert.Gi7RefIdeal.Value.run (F := Ideal) m' ρ')⟩
  rw [(ha c).1, (ha c).2.1, (ha c).2.2]
  refine Cert.GradPart.concat_eq _ _ _ _ (fun r k => ?_) _ _ _ (by decide)
  pointwise []
  exact Finset.sum_congr rfl fun s _ => mul_comm _ _

end Cert.Proof

end
-- ==== Proof.lean ====
module

public import proofs.«01_k».proof.Defs
public import proofs.«01_k».proof.Proof.Equal
public import proofs.«01_k».proof.Proof.DhEqual
public import proofs.«01_k».proof.Proof.GwEqual
public import proofs.«01_k».proof.Proof.DyEqual
public import proofs.«01_k».proof.Proof.MbEqual
public import proofs.«01_k».proof.Proof.PjEqual
public import proofs.«01_k».proof.Proof.MgEqual
public import proofs.«01_k».proof.Proof.OpEqual
public import proofs.«01_k».proof.Proof.GoEqual
public import proofs.«01_k».proof.Proof.PbEqual
public import proofs.«01_k».proof.Proof.NbEqual
public import proofs.«01_k».proof.Proof.WaEqual
public import proofs.«01_k».proof.Proof.MpEqual
public import proofs.«01_k».proof.Proof.LbEqual
public import proofs.«01_k».proof.Proof.NfEqual
public import proofs.«01_k».proof.Proof.PfEqual
public import proofs.«01_k».proof.Proof.LoEqual
public import proofs.«01_k».proof.Proof.AiEqual
public import proofs.«01_k».proof.Proof.ApEqual
public import proofs.«01_k».proof.Proof.AqEqual
public import proofs.«01_k».proof.Proof.AoEqual
public import proofs.«01_k».proof.Proof.Gi0Equal
public import proofs.«01_k».proof.Proof.Gi1Equal
public import proofs.«01_k».proof.Proof.Gi2Equal
public import proofs.«01_k».proof.Proof.Gi3Equal
public import proofs.«01_k».proof.Proof.Gi4Equal
public import proofs.«01_k».proof.Proof.Gi5Equal
public import proofs.«01_k».proof.Proof.Gi6Equal
public import proofs.«01_k».proof.Proof.Gi7Equal

@[expose] public section

namespace Cert.Proof

/-- Every claim of the certificate. -/
theorem claim : Cert.Claim :=
  ⟨Cert.Kernel.Gen.facts, Cert.KernelIdeal.Gen.facts, Cert.ReferenceIdeal.Gen.facts,
    Cert.Dh.Gen.facts, Cert.DhIdeal.Gen.facts, Cert.DhRefIdeal.Gen.facts, Cert.Gw.Gen.facts, Cert.GwIdeal.Gen.facts, Cert.GwRefIdeal.Gen.facts, Cert.Dy.Gen.facts, Cert.DyIdeal.Gen.facts, Cert.DyRefIdeal.Gen.facts, Cert.Mb.Gen.facts, Cert.MbIdeal.Gen.facts, Cert.MbRefIdeal.Gen.facts, Cert.Pj.Gen.facts, Cert.PjIdeal.Gen.facts, Cert.PjRefIdeal.Gen.facts, Cert.Mg.Gen.facts, Cert.MgIdeal.Gen.facts, Cert.MgRefIdeal.Gen.facts, Cert.Op.Gen.facts, Cert.OpIdeal.Gen.facts, Cert.OpRefIdeal.Gen.facts, Cert.Go.Gen.facts, Cert.GoIdeal.Gen.facts, Cert.GoRefIdeal.Gen.facts, Cert.Pb.Gen.facts, Cert.PbIdeal.Gen.facts, Cert.PbRefIdeal.Gen.facts, Cert.Nb.Gen.facts, Cert.NbIdeal.Gen.facts, Cert.NbRefIdeal.Gen.facts, Cert.Wa.Gen.facts, Cert.WaIdeal.Gen.facts, Cert.WaRefIdeal.Gen.facts, Cert.Mp.Gen.facts, Cert.MpIdeal.Gen.facts, Cert.MpRefIdeal.Gen.facts, Cert.Lb.Gen.facts, Cert.LbIdeal.Gen.facts, Cert.LbRefIdeal.Gen.facts, Cert.Nf.Gen.facts, Cert.NfIdeal.Gen.facts, Cert.NfRefIdeal.Gen.facts, Cert.Pf.Gen.facts, Cert.PfIdeal.Gen.facts, Cert.PfRefIdeal.Gen.facts, Cert.Lo.Gen.facts, Cert.LoIdeal.Gen.facts, Cert.LoRefIdeal.Gen.facts, Cert.Ai.Gen.facts, Cert.AiIdeal.Gen.facts, Cert.AiRefIdeal.Gen.facts, Cert.Ap.Gen.facts, Cert.ApIdeal.Gen.facts, Cert.ApRefIdeal.Gen.facts, Cert.Aq.Gen.facts, Cert.AqIdeal.Gen.facts, Cert.AqRefIdeal.Gen.facts, Cert.Ao.Gen.facts, Cert.AoIdeal.Gen.facts, Cert.AoRefIdeal.Gen.facts, Cert.Gi0.Gen.facts, Cert.Gi0Ideal.Gen.facts, Cert.Gi0RefIdeal.Gen.facts, Cert.Gi1.Gen.facts, Cert.Gi1Ideal.Gen.facts, Cert.Gi1RefIdeal.Gen.facts, Cert.Gi2.Gen.facts, Cert.Gi2Ideal.Gen.facts, Cert.Gi2RefIdeal.Gen.facts, Cert.Gi3.Gen.facts, Cert.Gi3Ideal.Gen.facts, Cert.Gi3RefIdeal.Gen.facts, Cert.Gi4.Gen.facts, Cert.Gi4Ideal.Gen.facts, Cert.Gi4RefIdeal.Gen.facts, Cert.Gi5.Gen.facts, Cert.Gi5Ideal.Gen.facts, Cert.Gi5RefIdeal.Gen.facts, Cert.Gi6.Gen.facts, Cert.Gi6Ideal.Gen.facts, Cert.Gi6RefIdeal.Gen.facts, Cert.Gi7.Gen.facts, Cert.Gi7Ideal.Gen.facts, Cert.Gi7RefIdeal.Gen.facts,
    Cert.Pre_inputs_are_real.facts, Cert.Pre_bounds_are_real.facts,
    frame_kernel, frame_kernelIdeal, frame_kernelIdeal_real, frame_reference, frame_reference_real,
    frame_dh, frame_dhIdeal, frame_dhRef,
    frame_gw, frame_gwIdeal, frame_gwRef,
    frame_dy, frame_dyIdeal, frame_dyRef,
    frame_mb, frame_mbIdeal, frame_mbRef,
    frame_pj, frame_pjIdeal, frame_pjRef,
    frame_mg, frame_mgIdeal, frame_mgRef,
    frame_op, frame_opIdeal, frame_opRef,
    frame_go, frame_goIdeal, frame_goRef,
    frame_pb, frame_pbIdeal, frame_pbRef,
    frame_nb, frame_nbIdeal, frame_nbRef,
    frame_wa, frame_waIdeal, frame_waRef,
    frame_mp, frame_mpIdeal, frame_mpRef,
    frame_lb, frame_lbIdeal, frame_lbIdeal_real, frame_lbRef, frame_lbRef_real,
    frame_nf, frame_nfIdeal, frame_nfRef,
    frame_pf, frame_pfIdeal, frame_pfRef,
    frame_lo, frame_loIdeal, frame_loRef,
    frame_ai, frame_aiIdeal, frame_aiRef,
    frame_ap, frame_apIdeal, frame_apRef,
    frame_aq, frame_aqIdeal, frame_aqRef,
    frame_ao, frame_aoIdeal, frame_aoRef,
    frame_gi0, frame_gi0Ideal, frame_gi0Ref,
    frame_gi1, frame_gi1Ideal, frame_gi1Ref,
    frame_gi2, frame_gi2Ideal, frame_gi2Ref,
    frame_gi3, frame_gi3Ideal, frame_gi3Ref,
    frame_gi4, frame_gi4Ideal, frame_gi4Ref,
    frame_gi5, frame_gi5Ideal, frame_gi5Ref,
    frame_gi6, frame_gi6Ideal, frame_gi6Ref,
    frame_gi7, frame_gi7Ideal, frame_gi7Ref,
    trivial, equal, trivial, equal_dh, trivial, equal_gw, trivial, equal_dy, trivial, equal_mb, trivial, equal_pj, trivial, equal_mg, trivial, equal_op, trivial, equal_go, trivial, equal_pb, trivial, equal_nb, trivial, equal_wa, trivial, equal_mp, trivial, equal_lb, trivial, equal_nf, trivial, equal_pf, trivial, equal_lo, trivial, equal_ai, trivial, equal_ap, trivial, equal_aq, trivial, equal_ao, trivial, equal_gi0, trivial, equal_gi1, trivial, equal_gi2, trivial, equal_gi3, trivial, equal_gi4, trivial, equal_gi5, trivial, equal_gi6, trivial, equal_gi7⟩

end Cert.Proof
